-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Experts [hPre_expert_of_block : Cert.Pre_expert_of_block.Facts] (m : (ℓ : Loc Cert.Experts.nD Cert.Experts.τ Cert.Experts.sig) → Buf (Elt Bits) ℓ) : Prop :=
  ∀ c : Dev Cert.Experts.nD,
    (Cert.Pre_expert_of_block.fn (F := Bits) (m ((c.tc : Thread Cert.Experts.nD Cert.Experts.τ).loc Cert.Experts.main_arg0)) (m ((c.tc : Thread Cert.Experts.nD Cert.Experts.τ).loc Cert.Experts.main_arg1)) (m ((c.tc : Thread Cert.Experts.nD Cert.Experts.τ).loc Cert.Experts.main_arg2)) (m ((c.tc : Thread Cert.Experts.nD Cert.Experts.τ).loc Cert.Experts.main_arg3)) (m ((c.tc : Thread Cert.Experts.nD Cert.Experts.τ).loc Cert.Experts.main_arg4)) (m ((c.tc : Thread Cert.Experts.nD Cert.Experts.τ).loc Cert.Experts.main_arg5)) (m ((c.tc : Thread Cert.Experts.nD Cert.Experts.τ).loc Cert.Experts.main_arg6))) = (fun _ => 1#1)

def Pre_ExpertsIdeal [hPre_expert_of_block : Cert.Pre_expert_of_block.Facts] (m : (ℓ : Loc Cert.ExpertsIdeal.nD Cert.ExpertsIdeal.τ Cert.ExpertsIdeal.sig) → Buf (Elt Ideal) ℓ) : Prop :=
  ∀ c : Dev Cert.ExpertsIdeal.nD,
    (Cert.Pre_expert_of_block.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5)) (m ((c.tc : Thread Cert.ExpertsIdeal.nD Cert.ExpertsIdeal.τ).loc Cert.ExpertsIdeal.main_arg6))) = (fun _ => 1#1)

def Pre_ExpertsReferenceIdeal (m : (ℓ : Loc Cert.ExpertsReferenceIdeal.nD Cert.ExpertsReferenceIdeal.τ Cert.ExpertsReferenceIdeal.sig) → Buf (Elt Ideal) ℓ) : Prop :=
  True

def Pre_ExpertsReferenceIdeal_expert_of_block [hPre_expert_of_block : Cert.Pre_expert_of_block.Facts] (m : (ℓ : Loc Cert.ExpertsReferenceIdeal.nD Cert.ExpertsReferenceIdeal.τ Cert.ExpertsReferenceIdeal.sig) → Buf (Elt Ideal) ℓ) : Prop :=
  ∀ c : Dev Cert.ExpertsReferenceIdeal.nD,
    (Cert.Pre_expert_of_block.fn (F := Ideal) (m ((c.tc : Thread Cert.ExpertsReferenceIdeal.nD Cert.ExpertsReferenceIdeal.τ).loc Cert.ExpertsReferenceIdeal.main_arg0)) (m ((c.tc : Thread Cert.ExpertsReferenceIdeal.nD Cert.ExpertsReferenceIdeal.τ).loc Cert.ExpertsReferenceIdeal.main_arg1)) (m ((c.tc : Thread Cert.ExpertsReferenceIdeal.nD Cert.ExpertsReferenceIdeal.τ).loc Cert.ExpertsReferenceIdeal.main_arg2)) (m ((c.tc : Thread Cert.ExpertsReferenceIdeal.nD Cert.ExpertsReferenceIdeal.τ).loc Cert.ExpertsReferenceIdeal.main_arg3)) (m ((c.tc : Thread Cert.ExpertsReferenceIdeal.nD Cert.ExpertsReferenceIdeal.τ).loc Cert.ExpertsReferenceIdeal.main_arg4)) (m ((c.tc : Thread Cert.ExpertsReferenceIdeal.nD Cert.ExpertsReferenceIdeal.τ).loc Cert.ExpertsReferenceIdeal.main_arg5)) (m ((c.tc : Thread Cert.ExpertsReferenceIdeal.nD Cert.ExpertsReferenceIdeal.τ).loc Cert.ExpertsReferenceIdeal.main_arg6))) = (fun _ => 1#1)

def Pre_EvenExperts [hPre_expert_of_even_block : Cert.Pre_expert_of_even_block.Facts] (m : (ℓ : Loc Cert.EvenExperts.nD Cert.EvenExperts.τ Cert.EvenExperts.sig) → Buf (Elt Bits) ℓ) : Prop :=
  ∀ c : Dev Cert.EvenExperts.nD,
    (Cert.Pre_expert_of_even_block.fn (F := Bits) (m ((c.tc : Thread Cert.EvenExperts.nD Cert.EvenExperts.τ).loc Cert.EvenExperts.main_arg0)) (m ((c.tc : Thread Cert.EvenExperts.nD Cert.EvenExperts.τ).loc Cert.EvenExperts.main_arg1)) (m ((c.tc : Thread Cert.EvenExperts.nD Cert.EvenExperts.τ).loc Cert.EvenExperts.main_arg2)) (m ((c.tc : Thread Cert.EvenExperts.nD Cert.EvenExperts.τ).loc Cert.EvenExperts.main_arg3)) (m ((c.tc : Thread Cert.EvenExperts.nD Cert.EvenExperts.τ).loc Cert.EvenExperts.main_arg4)) (m ((c.tc : Thread Cert.EvenExperts.nD Cert.EvenExperts.τ).loc Cert.EvenExperts.main_arg5)) (m ((c.tc : Thread Cert.EvenExperts.nD Cert.EvenExperts.τ).loc Cert.EvenExperts.main_arg6))) = (fun _ => 1#1)

def Pre_EvenExpertsIdeal [hPre_expert_of_even_block : Cert.Pre_expert_of_even_block.Facts] (m : (ℓ : Loc Cert.EvenExpertsIdeal.nD Cert.EvenExpertsIdeal.τ Cert.EvenExpertsIdeal.sig) → Buf (Elt Ideal) ℓ) : Prop :=
  ∀ c : Dev Cert.EvenExpertsIdeal.nD,
    (Cert.Pre_expert_of_even_block.fn (F := Ideal) (m ((c.tc : Thread Cert.EvenExpertsIdeal.nD Cert.EvenExpertsIdeal.τ).loc Cert.EvenExpertsIdeal.main_arg0)) (m ((c.tc : Thread Cert.EvenExpertsIdeal.nD Cert.EvenExpertsIdeal.τ).loc Cert.EvenExpertsIdeal.main_arg1)) (m ((c.tc : Thread Cert.EvenExpertsIdeal.nD Cert.EvenExpertsIdeal.τ).loc Cert.EvenExpertsIdeal.main_arg2)) (m ((c.tc : Thread Cert.EvenExpertsIdeal.nD Cert.EvenExpertsIdeal.τ).loc Cert.EvenExpertsIdeal.main_arg3)) (m ((c.tc : Thread Cert.EvenExpertsIdeal.nD Cert.EvenExpertsIdeal.τ).loc Cert.EvenExpertsIdeal.main_arg4)) (m ((c.tc : Thread Cert.EvenExpertsIdeal.nD Cert.EvenExpertsIdeal.τ).loc Cert.EvenExpertsIdeal.main_arg5)) (m ((c.tc : Thread Cert.EvenExpertsIdeal.nD Cert.EvenExpertsIdeal.τ).loc Cert.EvenExpertsIdeal.main_arg6))) = (fun _ => 1#1)

def Pre_EvenExpertsReferenceIdeal (m : (ℓ : Loc Cert.EvenExpertsReferenceIdeal.nD Cert.EvenExpertsReferenceIdeal.τ Cert.EvenExpertsReferenceIdeal.sig) → Buf (Elt Ideal) ℓ) : Prop :=
  True

def Pre_EvenExpertsReferenceIdeal_expert_of_even_block [hPre_expert_of_even_block : Cert.Pre_expert_of_even_block.Facts] (m : (ℓ : Loc Cert.EvenExpertsReferenceIdeal.nD Cert.EvenExpertsReferenceIdeal.τ Cert.EvenExpertsReferenceIdeal.sig) → Buf (Elt Ideal) ℓ) : Prop :=
  ∀ c : Dev Cert.EvenExpertsReferenceIdeal.nD,
    (Cert.Pre_expert_of_even_block.fn (F := Ideal) (m ((c.tc : Thread Cert.EvenExpertsReferenceIdeal.nD Cert.EvenExpertsReferenceIdeal.τ).loc Cert.EvenExpertsReferenceIdeal.main_arg0)) (m ((c.tc : Thread Cert.EvenExpertsReferenceIdeal.nD Cert.EvenExpertsReferenceIdeal.τ).loc Cert.EvenExpertsReferenceIdeal.main_arg1)) (m ((c.tc : Thread Cert.EvenExpertsReferenceIdeal.nD Cert.EvenExpertsReferenceIdeal.τ).loc Cert.EvenExpertsReferenceIdeal.main_arg2)) (m ((c.tc : Thread Cert.EvenExpertsReferenceIdeal.nD Cert.EvenExpertsReferenceIdeal.τ).loc Cert.EvenExpertsReferenceIdeal.main_arg3)) (m ((c.tc : Thread Cert.EvenExpertsReferenceIdeal.nD Cert.EvenExpertsReferenceIdeal.τ).loc Cert.EvenExpertsReferenceIdeal.main_arg4)) (m ((c.tc : Thread Cert.EvenExpertsReferenceIdeal.nD Cert.EvenExpertsReferenceIdeal.τ).loc Cert.EvenExpertsReferenceIdeal.main_arg5)) (m ((c.tc : Thread Cert.EvenExpertsReferenceIdeal.nD Cert.EvenExpertsReferenceIdeal.τ).loc Cert.EvenExpertsReferenceIdeal.main_arg6))) = (fun _ => 1#1)

def Pre_Latent (m : (ℓ : Loc Cert.Latent.nD Cert.Latent.τ Cert.Latent.sig) → Buf (Elt Bits) ℓ) : Prop :=
  True

def Pre_LatentIdeal (m : (ℓ : Loc Cert.LatentIdeal.nD Cert.LatentIdeal.τ Cert.LatentIdeal.sig) → Buf (Elt Ideal) ℓ) : Prop :=
  True

def Pre_LatentIdeal_latent_finite [hPre_latent_finite : Cert.Pre_latent_finite.Facts] (m : (ℓ : Loc Cert.LatentIdeal.nD Cert.LatentIdeal.τ Cert.LatentIdeal.sig) → Buf (Elt Ideal) ℓ) : Prop :=
  ∀ c : Dev Cert.LatentIdeal.nD,
    (Cert.Pre_latent_finite.fn (F := Ideal) (m ((c.tc : Thread Cert.LatentIdeal.nD Cert.LatentIdeal.τ).loc Cert.LatentIdeal.main_arg0)) (m ((c.tc : Thread Cert.LatentIdeal.nD Cert.LatentIdeal.τ).loc Cert.LatentIdeal.main_arg1)) (m ((c.tc : Thread Cert.LatentIdeal.nD Cert.LatentIdeal.τ).loc Cert.LatentIdeal.main_arg2)) (m ((c.tc : Thread Cert.LatentIdeal.nD Cert.LatentIdeal.τ).loc Cert.LatentIdeal.main_arg3)) (m ((c.tc : Thread Cert.LatentIdeal.nD Cert.LatentIdeal.τ).loc Cert.LatentIdeal.main_arg4))) = (fun _ => 1#1)

def Pre_LatentReferenceIdeal (m : (ℓ : Loc Cert.LatentReferenceIdeal.nD Cert.LatentReferenceIdeal.τ Cert.LatentReferenceIdeal.sig) → Buf (Elt Ideal) ℓ) : Prop :=
  True

def Pre_LatentReferenceIdeal_latent_finite [hPre_latent_finite : Cert.Pre_latent_finite.Facts] (m : (ℓ : Loc Cert.LatentReferenceIdeal.nD Cert.LatentReferenceIdeal.τ Cert.LatentReferenceIdeal.sig) → Buf (Elt Ideal) ℓ) : Prop :=
  ∀ c : Dev Cert.LatentReferenceIdeal.nD,
    (Cert.Pre_latent_finite.fn (F := Ideal) (m ((c.tc : Thread Cert.LatentReferenceIdeal.nD Cert.LatentReferenceIdeal.τ).loc Cert.LatentReferenceIdeal.main_arg0)) (m ((c.tc : Thread Cert.LatentReferenceIdeal.nD Cert.LatentReferenceIdeal.τ).loc Cert.LatentReferenceIdeal.main_arg1)) (m ((c.tc : Thread Cert.LatentReferenceIdeal.nD Cert.LatentReferenceIdeal.τ).loc Cert.LatentReferenceIdeal.main_arg2)) (m ((c.tc : Thread Cert.LatentReferenceIdeal.nD Cert.LatentReferenceIdeal.τ).loc Cert.LatentReferenceIdeal.main_arg3)) (m ((c.tc : Thread Cert.LatentReferenceIdeal.nD Cert.LatentReferenceIdeal.τ).loc Cert.LatentReferenceIdeal.main_arg4))) = (fun _ => 1#1)

def Pre_ProjectC (m : (ℓ : Loc Cert.ProjectC.nD Cert.ProjectC.τ Cert.ProjectC.sig) → Buf (Elt Bits) ℓ) : Prop :=
  True

def Pre_ProjectCIdeal (m : (ℓ : Loc Cert.ProjectCIdeal.nD Cert.ProjectCIdeal.τ Cert.ProjectCIdeal.sig) → Buf (Elt Ideal) ℓ) : Prop :=
  True

def Pre_ProjectCReferenceIdeal (m : (ℓ : Loc Cert.ProjectCReferenceIdeal.nD Cert.ProjectCReferenceIdeal.τ Cert.ProjectCReferenceIdeal.sig) → Buf (Elt Ideal) ℓ) : Prop :=
  True

def Pre_ProjectAB (m : (ℓ : Loc Cert.ProjectAB.nD Cert.ProjectAB.τ Cert.ProjectAB.sig) → Buf (Elt Bits) ℓ) : Prop :=
  True

def Pre_ProjectABIdeal (m : (ℓ : Loc Cert.ProjectABIdeal.nD Cert.ProjectABIdeal.τ Cert.ProjectABIdeal.sig) → Buf (Elt Ideal) ℓ) : Prop :=
  True

def Pre_ProjectABReferenceIdeal (m : (ℓ : Loc Cert.ProjectABReferenceIdeal.nD Cert.ProjectABReferenceIdeal.τ Cert.ProjectABReferenceIdeal.sig) → Buf (Elt Ideal) ℓ) : Prop :=
  True

def Pre_OutC (m : (ℓ : Loc Cert.OutC.nD Cert.OutC.τ Cert.OutC.sig) → Buf (Elt Bits) ℓ) : Prop :=
  True

def Pre_OutCIdeal (m : (ℓ : Loc Cert.OutCIdeal.nD Cert.OutCIdeal.τ Cert.OutCIdeal.sig) → Buf (Elt Ideal) ℓ) : Prop :=
  True

def Pre_OutCReferenceIdeal (m : (ℓ : Loc Cert.OutCReferenceIdeal.nD Cert.OutCReferenceIdeal.τ Cert.OutCReferenceIdeal.sig) → Buf (Elt Ideal) ℓ) : Prop :=
  True

def Pre_OutAB (m : (ℓ : Loc Cert.OutAB.nD Cert.OutAB.τ Cert.OutAB.sig) → Buf (Elt Bits) ℓ) : Prop :=
  True

def Pre_OutABIdeal (m : (ℓ : Loc Cert.OutABIdeal.nD Cert.OutABIdeal.τ Cert.OutABIdeal.sig) → Buf (Elt Ideal) ℓ) : Prop :=
  True

def Pre_OutABReferenceIdeal (m : (ℓ : Loc Cert.OutABReferenceIdeal.nD Cert.OutABReferenceIdeal.τ Cert.OutABReferenceIdeal.sig) → Buf (Elt Ideal) ℓ) : Prop :=
  True

def Pre_ContextC (m : (ℓ : Loc Cert.ContextC.nD Cert.ContextC.τ Cert.ContextC.sig) → Buf (Elt Bits) ℓ) : Prop :=
  True

def Pre_ContextCIdeal (m : (ℓ : Loc Cert.ContextCIdeal.nD Cert.ContextCIdeal.τ Cert.ContextCIdeal.sig) → Buf (Elt Ideal) ℓ) : Prop :=
  True

def Pre_ContextCReferenceIdeal (m : (ℓ : Loc Cert.ContextCReferenceIdeal.nD Cert.ContextCReferenceIdeal.τ Cert.ContextCReferenceIdeal.sig) → Buf (Elt Ideal) ℓ) : Prop :=
  True

def Pre_ContextAB (m : (ℓ : Loc Cert.ContextAB.nD Cert.ContextAB.τ Cert.ContextAB.sig) → Buf (Elt Bits) ℓ) : Prop :=
  True

def Pre_ContextABIdeal (m : (ℓ : Loc Cert.ContextABIdeal.nD Cert.ContextABIdeal.τ Cert.ContextABIdeal.sig) → Buf (Elt Ideal) ℓ) : Prop :=
  True

def Pre_ContextABReferenceIdeal (m : (ℓ : Loc Cert.ContextABReferenceIdeal.nD Cert.ContextABReferenceIdeal.τ Cert.ContextABReferenceIdeal.sig) → Buf (Elt Ideal) ℓ) : Prop :=
  True

def Pre_Modulation (m : (ℓ : Loc Cert.Modulation.nD Cert.Modulation.τ Cert.Modulation.sig) → Buf (Elt Bits) ℓ) : Prop :=
  True

def Pre_ModulationIdeal (m : (ℓ : Loc Cert.ModulationIdeal.nD Cert.ModulationIdeal.τ Cert.ModulationIdeal.sig) → Buf (Elt Ideal) ℓ) : Prop :=
  True

def Pre_ModulationReferenceIdeal (m : (ℓ : Loc Cert.ModulationReferenceIdeal.nD Cert.ModulationReferenceIdeal.τ Cert.ModulationReferenceIdeal.sig) → Buf (Elt Ideal) ℓ) : Prop :=
  True

def Pre_ContextLatent (m : (ℓ : Loc Cert.ContextLatent.nD Cert.ContextLatent.τ Cert.ContextLatent.sig) → Buf (Elt Bits) ℓ) : Prop :=
  True

def Pre_ContextLatentIdeal (m : (ℓ : Loc Cert.ContextLatentIdeal.nD Cert.ContextLatentIdeal.τ Cert.ContextLatentIdeal.sig) → Buf (Elt Ideal) ℓ) : Prop :=
  True

def Pre_ContextLatentIdeal_context_finite [hPre_context_finite : Cert.Pre_context_finite.Facts] (m : (ℓ : Loc Cert.ContextLatentIdeal.nD Cert.ContextLatentIdeal.τ Cert.ContextLatentIdeal.sig) → Buf (Elt Ideal) ℓ) : Prop :=
  ∀ c : Dev Cert.ContextLatentIdeal.nD,
    (Cert.Pre_context_finite.fn (F := Ideal) (m ((c.tc : Thread Cert.ContextLatentIdeal.nD Cert.ContextLatentIdeal.τ).loc Cert.ContextLatentIdeal.main_arg0)) (m ((c.tc : Thread Cert.ContextLatentIdeal.nD Cert.ContextLatentIdeal.τ).loc Cert.ContextLatentIdeal.main_arg1)) (m ((c.tc : Thread Cert.ContextLatentIdeal.nD Cert.ContextLatentIdeal.τ).loc Cert.ContextLatentIdeal.main_arg2))) = (fun _ => 1#1)

def Pre_ContextLatentReferenceIdeal (m : (ℓ : Loc Cert.ContextLatentReferenceIdeal.nD Cert.ContextLatentReferenceIdeal.τ Cert.ContextLatentReferenceIdeal.sig) → Buf (Elt Ideal) ℓ) : Prop :=
  True

def Pre_ContextLatentReferenceIdeal_context_finite [hPre_context_finite : Cert.Pre_context_finite.Facts] (m : (ℓ : Loc Cert.ContextLatentReferenceIdeal.nD Cert.ContextLatentReferenceIdeal.τ Cert.ContextLatentReferenceIdeal.sig) → Buf (Elt Ideal) ℓ) : Prop :=
  ∀ c : Dev Cert.ContextLatentReferenceIdeal.nD,
    (Cert.Pre_context_finite.fn (F := Ideal) (m ((c.tc : Thread Cert.ContextLatentReferenceIdeal.nD Cert.ContextLatentReferenceIdeal.τ).loc Cert.ContextLatentReferenceIdeal.main_arg0)) (m ((c.tc : Thread Cert.ContextLatentReferenceIdeal.nD Cert.ContextLatentReferenceIdeal.τ).loc Cert.ContextLatentReferenceIdeal.main_arg1)) (m ((c.tc : Thread Cert.ContextLatentReferenceIdeal.nD Cert.ContextLatentReferenceIdeal.τ).loc Cert.ContextLatentReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Experts [hExperts : Cert.Experts.Facts] [hPre_expert_of_block : Cert.Pre_expert_of_block.Facts] : Prop :=
  ∀ (m : (ℓ : Loc Cert.Experts.nD Cert.Experts.τ Cert.Experts.sig) → Buf (Elt Bits) ℓ) (g : Dev Cert.Experts.nD → PrngReg), Pre_Experts m →
    θ_run (Cert.Experts.defs (F := Bits)) (onTc (τ := Cert.Experts.τ) (Cert.Experts.main (F := Bits))) ⟨m, fun _ => 0, g⟩ (fun r => (∀ c : Dev Cert.Experts.nD,
      r.2.mem ((c.tc : Thread Cert.Experts.nD Cert.Experts.τ).loc Cert.Experts.main_arg0) = m ((c.tc : Thread Cert.Experts.nD Cert.Experts.τ).loc Cert.Experts.main_arg0)
      ∧ r.2.mem ((c.tc : Thread Cert.Experts.nD Cert.Experts.τ).loc Cert.Experts.main_arg1) = m ((c.tc : Thread Cert.Experts.nD Cert.Experts.τ).loc Cert.Experts.main_arg1)
      ∧ r.2.mem ((c.tc : Thread Cert.Experts.nD Cert.Experts.τ).loc Cert.Experts.main_arg2) = m ((c.tc : Thread Cert.Experts.nD Cert.Experts.τ).loc Cert.Experts.main_arg2)
      ∧ r.2.mem ((c.tc : Thread Cert.Experts.nD Cert.Experts.τ).loc Cert.Experts.main_arg3) = m ((c.tc : Thread Cert.Experts.nD Cert.Experts.τ).loc Cert.Experts.main_arg3)
      ∧ r.2.mem ((c.tc : Thread Cert.Experts.nD Cert.Experts.τ).loc Cert.Experts.main_arg4) = m ((c.tc : Thread Cert.Experts.nD Cert.Experts.τ).loc Cert.Experts.main_arg4)
      ∧ r.2.mem ((c.tc : Thread Cert.Experts.nD Cert.Experts.τ).loc Cert.Experts.main_arg5) = m ((c.tc : Thread Cert.Experts.nD Cert.Experts.τ).loc Cert.Experts.main_arg5)
      ∧ r.2.mem ((c.tc : Thread Cert.Experts.nD Cert.Experts.τ).loc Cert.Experts.main_arg6) = m ((c.tc : Thread Cert.Experts.nD Cert.Experts.τ).loc Cert.Experts.main_arg6))
      ∧ r.2.sem = fun _ => 0)

def quiescent_ExpertsIdeal [hExpertsIdeal : Cert.ExpertsIdeal.Facts] [hPre_expert_of_block : Cert.Pre_expert_of_block.Facts] : Prop :=
  ∀ (m : (ℓ : Loc Cert.ExpertsIdeal.nD Cert.ExpertsIdeal.τ Cert.ExpertsIdeal.sig) → Buf (Elt Ideal) ℓ) (g : Dev Cert.ExpertsIdeal.nD → PrngReg), Pre_ExpertsIdeal m →
    θ_run (Cert.ExpertsIdeal.defs (F := Ideal)) (onTc (τ := Cert.ExpertsIdeal.τ) (Cert.ExpertsIdeal.main (F := Ideal))) ⟨m, fun _ => 0, g⟩ (fun r => (∀ c : Dev Cert.ExpertsIdeal.nD,
      r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
      ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
      ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
      ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
      ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
      ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5)
      ∧ r.2.mem ((c.tc : Thread Cert.ExpertsIdeal.nD Cert.ExpertsIdeal.τ).loc Cert.ExpertsIdeal.main_arg6) = m ((c.tc : Thread Cert.ExpertsIdeal.nD Cert.ExpertsIdeal.τ).loc Cert.ExpertsIdeal.main_arg6))
      ∧ r.2.sem = fun _ => 0)

def quiescent_ExpertsReferenceIdeal [hExpertsReferenceIdeal : Cert.ExpertsReferenceIdeal.Facts] : Prop :=
  ∀ (m : (ℓ : Loc Cert.ExpertsReferenceIdeal.nD Cert.ExpertsReferenceIdeal.τ Cert.ExpertsReferenceIdeal.sig) → Buf (Elt Ideal) ℓ) (g : Dev Cert.ExpertsReferenceIdeal.nD → PrngReg), Pre_ExpertsReferenceIdeal m →
    θ_run (Cert.ExpertsReferenceIdeal.defs (F := Ideal)) (onTc (τ := Cert.ExpertsReferenceIdeal.τ) (Cert.ExpertsReferenceIdeal.main (F := Ideal))) ⟨m, fun _ => 0, g⟩ (fun r => (∀ c : Dev Cert.ExpertsReferenceIdeal.nD,
      r.2.mem ((c.tc : Thread Cert.ExpertsReferenceIdeal.nD Cert.ExpertsReferenceIdeal.τ).loc Cert.ExpertsReferenceIdeal.main_arg0) = m ((c.tc : Thread Cert.ExpertsReferenceIdeal.nD Cert.ExpertsReferenceIdeal.τ).loc Cert.ExpertsReferenceIdeal.main_arg0)
      ∧ r.2.mem ((c.tc : Thread Cert.ExpertsReferenceIdeal.nD Cert.ExpertsReferenceIdeal.τ).loc Cert.ExpertsReferenceIdeal.main_arg1) = m ((c.tc : Thread Cert.ExpertsReferenceIdeal.nD Cert.ExpertsReferenceIdeal.τ).loc Cert.ExpertsReferenceIdeal.main_arg1)
      ∧ r.2.mem ((c.tc : Thread Cert.ExpertsReferenceIdeal.nD Cert.ExpertsReferenceIdeal.τ).loc Cert.ExpertsReferenceIdeal.main_arg2) = m ((c.tc : Thread Cert.ExpertsReferenceIdeal.nD Cert.ExpertsReferenceIdeal.τ).loc Cert.ExpertsReferenceIdeal.main_arg2)
      ∧ r.2.mem ((c.tc : Thread Cert.ExpertsReferenceIdeal.nD Cert.ExpertsReferenceIdeal.τ).loc Cert.ExpertsReferenceIdeal.main_arg3) = m ((c.tc : Thread Cert.ExpertsReferenceIdeal.nD Cert.ExpertsReferenceIdeal.τ).loc Cert.ExpertsReferenceIdeal.main_arg3)
      ∧ r.2.mem ((c.tc : Thread Cert.ExpertsReferenceIdeal.nD Cert.ExpertsReferenceIdeal.τ).loc Cert.ExpertsReferenceIdeal.main_arg4) = m ((c.tc : Thread Cert.ExpertsReferenceIdeal.nD Cert.ExpertsReferenceIdeal.τ).loc Cert.ExpertsReferenceIdeal.main_arg4)
      ∧ r.2.mem ((c.tc : Thread Cert.ExpertsReferenceIdeal.nD Cert.ExpertsReferenceIdeal.τ).loc Cert.ExpertsReferenceIdeal.main_arg5) = m ((c.tc : Thread Cert.ExpertsReferenceIdeal.nD Cert.ExpertsReferenceIdeal.τ).loc Cert.ExpertsReferenceIdeal.main_arg5)
      ∧ r.2.mem ((c.tc : Thread Cert.ExpertsReferenceIdeal.nD Cert.ExpertsReferenceIdeal.τ).loc Cert.ExpertsReferenceIdeal.main_arg6) = m ((c.tc : Thread Cert.ExpertsReferenceIdeal.nD Cert.ExpertsReferenceIdeal.τ).loc Cert.ExpertsReferenceIdeal.main_arg6))
      ∧ r.2.sem = fun _ => 0)

def quiescent_ExpertsReferenceIdeal_pre_expert_of_block [hExpertsReferenceIdeal : Cert.ExpertsReferenceIdeal.Facts] [hPre_expert_of_block : Cert.Pre_expert_of_block.Facts] : Prop :=
  ∀ (m : (ℓ : Loc Cert.ExpertsReferenceIdeal.nD Cert.ExpertsReferenceIdeal.τ Cert.ExpertsReferenceIdeal.sig) → Buf (Elt Ideal) ℓ) (g : Dev Cert.ExpertsReferenceIdeal.nD → PrngReg), Pre_ExpertsReferenceIdeal_expert_of_block m →
    θ_run (Cert.ExpertsReferenceIdeal.defs (F := Ideal)) (onTc (τ := Cert.ExpertsReferenceIdeal.τ) (Cert.ExpertsReferenceIdeal.main (F := Ideal))) ⟨m, fun _ => 0, g⟩ (fun r => (∀ c : Dev Cert.ExpertsReferenceIdeal.nD,
      r.2.mem ((c.tc : Thread Cert.ExpertsReferenceIdeal.nD Cert.ExpertsReferenceIdeal.τ).loc Cert.ExpertsReferenceIdeal.main_arg0) = m ((c.tc : Thread Cert.ExpertsReferenceIdeal.nD Cert.ExpertsReferenceIdeal.τ).loc Cert.ExpertsReferenceIdeal.main_arg0)
      ∧ r.2.mem ((c.tc : Thread Cert.ExpertsReferenceIdeal.nD Cert.ExpertsReferenceIdeal.τ).loc Cert.ExpertsReferenceIdeal.main_arg1) = m ((c.tc : Thread Cert.ExpertsReferenceIdeal.nD Cert.ExpertsReferenceIdeal.τ).loc Cert.ExpertsReferenceIdeal.main_arg1)
      ∧ r.2.mem ((c.tc : Thread Cert.ExpertsReferenceIdeal.nD Cert.ExpertsReferenceIdeal.τ).loc Cert.ExpertsReferenceIdeal.main_arg2) = m ((c.tc : Thread Cert.ExpertsReferenceIdeal.nD Cert.ExpertsReferenceIdeal.τ).loc Cert.ExpertsReferenceIdeal.main_arg2)
      ∧ r.2.mem ((c.tc : Thread Cert.ExpertsReferenceIdeal.nD Cert.ExpertsReferenceIdeal.τ).loc Cert.ExpertsReferenceIdeal.main_arg3) = m ((c.tc : Thread Cert.ExpertsReferenceIdeal.nD Cert.ExpertsReferenceIdeal.τ).loc Cert.ExpertsReferenceIdeal.main_arg3)
      ∧ r.2.mem ((c.tc : Thread Cert.ExpertsReferenceIdeal.nD Cert.ExpertsReferenceIdeal.τ).loc Cert.ExpertsReferenceIdeal.main_arg4) = m ((c.tc : Thread Cert.ExpertsReferenceIdeal.nD Cert.ExpertsReferenceIdeal.τ).loc Cert.ExpertsReferenceIdeal.main_arg4)
      ∧ r.2.mem ((c.tc : Thread Cert.ExpertsReferenceIdeal.nD Cert.ExpertsReferenceIdeal.τ).loc Cert.ExpertsReferenceIdeal.main_arg5) = m ((c.tc : Thread Cert.ExpertsReferenceIdeal.nD Cert.ExpertsReferenceIdeal.τ).loc Cert.ExpertsReferenceIdeal.main_arg5)
      ∧ r.2.mem ((c.tc : Thread Cert.ExpertsReferenceIdeal.nD Cert.ExpertsReferenceIdeal.τ).loc Cert.ExpertsReferenceIdeal.main_arg6) = m ((c.tc : Thread Cert.ExpertsReferenceIdeal.nD Cert.ExpertsReferenceIdeal.τ).loc Cert.ExpertsReferenceIdeal.main_arg6))
      ∧ r.2.sem = fun _ => 0)

def quiescent_EvenExperts [hEvenExperts : Cert.EvenExperts.Facts] [hPre_expert_of_even_block : Cert.Pre_expert_of_even_block.Facts] : Prop :=
  ∀ (m : (ℓ : Loc Cert.EvenExperts.nD Cert.EvenExperts.τ Cert.EvenExperts.sig) → Buf (Elt Bits) ℓ) (g : Dev Cert.EvenExperts.nD → PrngReg), Pre_EvenExperts m →
    θ_run (Cert.EvenExperts.defs (F := Bits)) (onTc (τ := Cert.EvenExperts.τ) (Cert.EvenExperts.main (F := Bits))) ⟨m, fun _ => 0, g⟩ (fun r => (∀ c : Dev Cert.EvenExperts.nD,
      r.2.mem ((c.tc : Thread Cert.EvenExperts.nD Cert.EvenExperts.τ).loc Cert.EvenExperts.main_arg0) = m ((c.tc : Thread Cert.EvenExperts.nD Cert.EvenExperts.τ).loc Cert.EvenExperts.main_arg0)
      ∧ r.2.mem ((c.tc : Thread Cert.EvenExperts.nD Cert.EvenExperts.τ).loc Cert.EvenExperts.main_arg1) = m ((c.tc : Thread Cert.EvenExperts.nD Cert.EvenExperts.τ).loc Cert.EvenExperts.main_arg1)
      ∧ r.2.mem ((c.tc : Thread Cert.EvenExperts.nD Cert.EvenExperts.τ).loc Cert.EvenExperts.main_arg2) = m ((c.tc : Thread Cert.EvenExperts.nD Cert.EvenExperts.τ).loc Cert.EvenExperts.main_arg2)
      ∧ r.2.mem ((c.tc : Thread Cert.EvenExperts.nD Cert.EvenExperts.τ).loc Cert.EvenExperts.main_arg3) = m ((c.tc : Thread Cert.EvenExperts.nD Cert.EvenExperts.τ).loc Cert.EvenExperts.main_arg3)
      ∧ r.2.mem ((c.tc : Thread Cert.EvenExperts.nD Cert.EvenExperts.τ).loc Cert.EvenExperts.main_arg4) = m ((c.tc : Thread Cert.EvenExperts.nD Cert.EvenExperts.τ).loc Cert.EvenExperts.main_arg4)
      ∧ r.2.mem ((c.tc : Thread Cert.EvenExperts.nD Cert.EvenExperts.τ).loc Cert.EvenExperts.main_arg5) = m ((c.tc : Thread Cert.EvenExperts.nD Cert.EvenExperts.τ).loc Cert.EvenExperts.main_arg5)
      ∧ r.2.mem ((c.tc : Thread Cert.EvenExperts.nD Cert.EvenExperts.τ).loc Cert.EvenExperts.main_arg6) = m ((c.tc : Thread Cert.EvenExperts.nD Cert.EvenExperts.τ).loc Cert.EvenExperts.main_arg6))
      ∧ r.2.sem = fun _ => 0)

def quiescent_EvenExpertsIdeal [hEvenExpertsIdeal : Cert.EvenExpertsIdeal.Facts] [hPre_expert_of_even_block : Cert.Pre_expert_of_even_block.Facts] : Prop :=
  ∀ (m : (ℓ : Loc Cert.EvenExpertsIdeal.nD Cert.EvenExpertsIdeal.τ Cert.EvenExpertsIdeal.sig) → Buf (Elt Ideal) ℓ) (g : Dev Cert.EvenExpertsIdeal.nD → PrngReg), Pre_EvenExpertsIdeal m →
    θ_run (Cert.EvenExpertsIdeal.defs (F := Ideal)) (onTc (τ := Cert.EvenExpertsIdeal.τ) (Cert.EvenExpertsIdeal.main (F := Ideal))) ⟨m, fun _ => 0, g⟩ (fun r => (∀ c : Dev Cert.EvenExpertsIdeal.nD,
      r.2.mem ((c.tc : Thread Cert.EvenExpertsIdeal.nD Cert.EvenExpertsIdeal.τ).loc Cert.EvenExpertsIdeal.main_arg0) = m ((c.tc : Thread Cert.EvenExpertsIdeal.nD Cert.EvenExpertsIdeal.τ).loc Cert.EvenExpertsIdeal.main_arg0)
      ∧ r.2.mem ((c.tc : Thread Cert.EvenExpertsIdeal.nD Cert.EvenExpertsIdeal.τ).loc Cert.EvenExpertsIdeal.main_arg1) = m ((c.tc : Thread Cert.EvenExpertsIdeal.nD Cert.EvenExpertsIdeal.τ).loc Cert.EvenExpertsIdeal.main_arg1)
      ∧ r.2.mem ((c.tc : Thread Cert.EvenExpertsIdeal.nD Cert.EvenExpertsIdeal.τ).loc Cert.EvenExpertsIdeal.main_arg2) = m ((c.tc : Thread Cert.EvenExpertsIdeal.nD Cert.EvenExpertsIdeal.τ).loc Cert.EvenExpertsIdeal.main_arg2)
      ∧ r.2.mem ((c.tc : Thread Cert.EvenExpertsIdeal.nD Cert.EvenExpertsIdeal.τ).loc Cert.EvenExpertsIdeal.main_arg3) = m ((c.tc : Thread Cert.EvenExpertsIdeal.nD Cert.EvenExpertsIdeal.τ).loc Cert.EvenExpertsIdeal.main_arg3)
      ∧ r.2.mem ((c.tc : Thread Cert.EvenExpertsIdeal.nD Cert.EvenExpertsIdeal.τ).loc Cert.EvenExpertsIdeal.main_arg4) = m ((c.tc : Thread Cert.EvenExpertsIdeal.nD Cert.EvenExpertsIdeal.τ).loc Cert.EvenExpertsIdeal.main_arg4)
      ∧ r.2.mem ((c.tc : Thread Cert.EvenExpertsIdeal.nD Cert.EvenExpertsIdeal.τ).loc Cert.EvenExpertsIdeal.main_arg5) = m ((c.tc : Thread Cert.EvenExpertsIdeal.nD Cert.EvenExpertsIdeal.τ).loc Cert.EvenExpertsIdeal.main_arg5)
      ∧ r.2.mem ((c.tc : Thread Cert.EvenExpertsIdeal.nD Cert.EvenExpertsIdeal.τ).loc Cert.EvenExpertsIdeal.main_arg6) = m ((c.tc : Thread Cert.EvenExpertsIdeal.nD Cert.EvenExpertsIdeal.τ).loc Cert.EvenExpertsIdeal.main_arg6))
      ∧ r.2.sem = fun _ => 0)

def quiescent_EvenExpertsReferenceIdeal [hEvenExpertsReferenceIdeal : Cert.EvenExpertsReferenceIdeal.Facts] : Prop :=
  ∀ (m : (ℓ : Loc Cert.EvenExpertsReferenceIdeal.nD Cert.EvenExpertsReferenceIdeal.τ Cert.EvenExpertsReferenceIdeal.sig) → Buf (Elt Ideal) ℓ) (g : Dev Cert.EvenExpertsReferenceIdeal.nD → PrngReg), Pre_EvenExpertsReferenceIdeal m →
    θ_run (Cert.EvenExpertsReferenceIdeal.defs (F := Ideal)) (onTc (τ := Cert.EvenExpertsReferenceIdeal.τ) (Cert.EvenExpertsReferenceIdeal.main (F := Ideal))) ⟨m, fun _ => 0, g⟩ (fun r => (∀ c : Dev Cert.EvenExpertsReferenceIdeal.nD,
      r.2.mem ((c.tc : Thread Cert.EvenExpertsReferenceIdeal.nD Cert.EvenExpertsReferenceIdeal.τ).loc Cert.EvenExpertsReferenceIdeal.main_arg0) = m ((c.tc : Thread Cert.EvenExpertsReferenceIdeal.nD Cert.EvenExpertsReferenceIdeal.τ).loc Cert.EvenExpertsReferenceIdeal.main_arg0)
      ∧ r.2.mem ((c.tc : Thread Cert.EvenExpertsReferenceIdeal.nD Cert.EvenExpertsReferenceIdeal.τ).loc Cert.EvenExpertsReferenceIdeal.main_arg1) = m ((c.tc : Thread Cert.EvenExpertsReferenceIdeal.nD Cert.EvenExpertsReferenceIdeal.τ).loc Cert.EvenExpertsReferenceIdeal.main_arg1)
      ∧ r.2.mem ((c.tc : Thread Cert.EvenExpertsReferenceIdeal.nD Cert.EvenExpertsReferenceIdeal.τ).loc Cert.EvenExpertsReferenceIdeal.main_arg2) = m ((c.tc : Thread Cert.EvenExpertsReferenceIdeal.nD Cert.EvenExpertsReferenceIdeal.τ).loc Cert.EvenExpertsReferenceIdeal.main_arg2)
      ∧ r.2.mem ((c.tc : Thread Cert.EvenExpertsReferenceIdeal.nD Cert.EvenExpertsReferenceIdeal.τ).loc Cert.EvenExpertsReferenceIdeal.main_arg3) = m ((c.tc : Thread Cert.EvenExpertsReferenceIdeal.nD Cert.EvenExpertsReferenceIdeal.τ).loc Cert.EvenExpertsReferenceIdeal.main_arg3)
      ∧ r.2.mem ((c.tc : Thread Cert.EvenExpertsReferenceIdeal.nD Cert.EvenExpertsReferenceIdeal.τ).loc Cert.EvenExpertsReferenceIdeal.main_arg4) = m ((c.tc : Thread Cert.EvenExpertsReferenceIdeal.nD Cert.EvenExpertsReferenceIdeal.τ).loc Cert.EvenExpertsReferenceIdeal.main_arg4)
      ∧ r.2.mem ((c.tc : Thread Cert.EvenExpertsReferenceIdeal.nD Cert.EvenExpertsReferenceIdeal.τ).loc Cert.EvenExpertsReferenceIdeal.main_arg5) = m ((c.tc : Thread Cert.EvenExpertsReferenceIdeal.nD Cert.EvenExpertsReferenceIdeal.τ).loc Cert.EvenExpertsReferenceIdeal.main_arg5)
      ∧ r.2.mem ((c.tc : Thread Cert.EvenExpertsReferenceIdeal.nD Cert.EvenExpertsReferenceIdeal.τ).loc Cert.EvenExpertsReferenceIdeal.main_arg6) = m ((c.tc : Thread Cert.EvenExpertsReferenceIdeal.nD Cert.EvenExpertsReferenceIdeal.τ).loc Cert.EvenExpertsReferenceIdeal.main_arg6))
      ∧ r.2.sem = fun _ => 0)

def quiescent_EvenExpertsReferenceIdeal_pre_expert_of_even_block [hEvenExpertsReferenceIdeal : Cert.EvenExpertsReferenceIdeal.Facts] [hPre_expert_of_even_block : Cert.Pre_expert_of_even_block.Facts] : Prop :=
  ∀ (m : (ℓ : Loc Cert.EvenExpertsReferenceIdeal.nD Cert.EvenExpertsReferenceIdeal.τ Cert.EvenExpertsReferenceIdeal.sig) → Buf (Elt Ideal) ℓ) (g : Dev Cert.EvenExpertsReferenceIdeal.nD → PrngReg), Pre_EvenExpertsReferenceIdeal_expert_of_even_block m →
    θ_run (Cert.EvenExpertsReferenceIdeal.defs (F := Ideal)) (onTc (τ := Cert.EvenExpertsReferenceIdeal.τ) (Cert.EvenExpertsReferenceIdeal.main (F := Ideal))) ⟨m, fun _ => 0, g⟩ (fun r => (∀ c : Dev Cert.EvenExpertsReferenceIdeal.nD,
      r.2.mem ((c.tc : Thread Cert.EvenExpertsReferenceIdeal.nD Cert.EvenExpertsReferenceIdeal.τ).loc Cert.EvenExpertsReferenceIdeal.main_arg0) = m ((c.tc : Thread Cert.EvenExpertsReferenceIdeal.nD Cert.EvenExpertsReferenceIdeal.τ).loc Cert.EvenExpertsReferenceIdeal.main_arg0)
      ∧ r.2.mem ((c.tc : Thread Cert.EvenExpertsReferenceIdeal.nD Cert.EvenExpertsReferenceIdeal.τ).loc Cert.EvenExpertsReferenceIdeal.main_arg1) = m ((c.tc : Thread Cert.EvenExpertsReferenceIdeal.nD Cert.EvenExpertsReferenceIdeal.τ).loc Cert.EvenExpertsReferenceIdeal.main_arg1)
      ∧ r.2.mem ((c.tc : Thread Cert.EvenExpertsReferenceIdeal.nD Cert.EvenExpertsReferenceIdeal.τ).loc Cert.EvenExpertsReferenceIdeal.main_arg2) = m ((c.tc : Thread Cert.EvenExpertsReferenceIdeal.nD Cert.EvenExpertsReferenceIdeal.τ).loc Cert.EvenExpertsReferenceIdeal.main_arg2)
      ∧ r.2.mem ((c.tc : Thread Cert.EvenExpertsReferenceIdeal.nD Cert.EvenExpertsReferenceIdeal.τ).loc Cert.EvenExpertsReferenceIdeal.main_arg3) = m ((c.tc : Thread Cert.EvenExpertsReferenceIdeal.nD Cert.EvenExpertsReferenceIdeal.τ).loc Cert.EvenExpertsReferenceIdeal.main_arg3)
      ∧ r.2.mem ((c.tc : Thread Cert.EvenExpertsReferenceIdeal.nD Cert.EvenExpertsReferenceIdeal.τ).loc Cert.EvenExpertsReferenceIdeal.main_arg4) = m ((c.tc : Thread Cert.EvenExpertsReferenceIdeal.nD Cert.EvenExpertsReferenceIdeal.τ).loc Cert.EvenExpertsReferenceIdeal.main_arg4)
      ∧ r.2.mem ((c.tc : Thread Cert.EvenExpertsReferenceIdeal.nD Cert.EvenExpertsReferenceIdeal.τ).loc Cert.EvenExpertsReferenceIdeal.main_arg5) = m ((c.tc : Thread Cert.EvenExpertsReferenceIdeal.nD Cert.EvenExpertsReferenceIdeal.τ).loc Cert.EvenExpertsReferenceIdeal.main_arg5)
      ∧ r.2.mem ((c.tc : Thread Cert.EvenExpertsReferenceIdeal.nD Cert.EvenExpertsReferenceIdeal.τ).loc Cert.EvenExpertsReferenceIdeal.main_arg6) = m ((c.tc : Thread Cert.EvenExpertsReferenceIdeal.nD Cert.EvenExpertsReferenceIdeal.τ).loc Cert.EvenExpertsReferenceIdeal.main_arg6))
      ∧ r.2.sem = fun _ => 0)

def quiescent_Latent [hLatent : Cert.Latent.Facts] : Prop :=
  ∀ (m : (ℓ : Loc Cert.Latent.nD Cert.Latent.τ Cert.Latent.sig) → Buf (Elt Bits) ℓ) (g : Dev Cert.Latent.nD → PrngReg), Pre_Latent m →
    θ_run (Cert.Latent.defs (F := Bits)) (onTc (τ := Cert.Latent.τ) (Cert.Latent.main (F := Bits))) ⟨m, fun _ => 0, g⟩ (fun r => (∀ c : Dev Cert.Latent.nD,
      r.2.mem ((c.tc : Thread Cert.Latent.nD Cert.Latent.τ).loc Cert.Latent.main_arg0) = m ((c.tc : Thread Cert.Latent.nD Cert.Latent.τ).loc Cert.Latent.main_arg0)
      ∧ r.2.mem ((c.tc : Thread Cert.Latent.nD Cert.Latent.τ).loc Cert.Latent.main_arg1) = m ((c.tc : Thread Cert.Latent.nD Cert.Latent.τ).loc Cert.Latent.main_arg1)
      ∧ r.2.mem ((c.tc : Thread Cert.Latent.nD Cert.Latent.τ).loc Cert.Latent.main_arg2) = m ((c.tc : Thread Cert.Latent.nD Cert.Latent.τ).loc Cert.Latent.main_arg2)
      ∧ r.2.mem ((c.tc : Thread Cert.Latent.nD Cert.Latent.τ).loc Cert.Latent.main_arg3) = m ((c.tc : Thread Cert.Latent.nD Cert.Latent.τ).loc Cert.Latent.main_arg3)
      ∧ r.2.mem ((c.tc : Thread Cert.Latent.nD Cert.Latent.τ).loc Cert.Latent.main_arg4) = m ((c.tc : Thread Cert.Latent.nD Cert.Latent.τ).loc Cert.Latent.main_arg4))
      ∧ r.2.sem = fun _ => 0)

def quiescent_LatentIdeal [hLatentIdeal : Cert.LatentIdeal.Facts] : Prop :=
  ∀ (m : (ℓ : Loc Cert.LatentIdeal.nD Cert.LatentIdeal.τ Cert.LatentIdeal.sig) → Buf (Elt Ideal) ℓ) (g : Dev Cert.LatentIdeal.nD → PrngReg), Pre_LatentIdeal m →
    θ_run (Cert.LatentIdeal.defs (F := Ideal)) (onTc (τ := Cert.LatentIdeal.τ) (Cert.LatentIdeal.main (F := Ideal))) ⟨m, fun _ => 0, g⟩ (fun r => (∀ c : Dev Cert.LatentIdeal.nD,
      r.2.mem ((c.tc : Thread Cert.LatentIdeal.nD Cert.LatentIdeal.τ).loc Cert.LatentIdeal.main_arg0) = m ((c.tc : Thread Cert.LatentIdeal.nD Cert.LatentIdeal.τ).loc Cert.LatentIdeal.main_arg0)
      ∧ r.2.mem ((c.tc : Thread Cert.LatentIdeal.nD Cert.LatentIdeal.τ).loc Cert.LatentIdeal.main_arg1) = m ((c.tc : Thread Cert.LatentIdeal.nD Cert.LatentIdeal.τ).loc Cert.LatentIdeal.main_arg1)
      ∧ r.2.mem ((c.tc : Thread Cert.LatentIdeal.nD Cert.LatentIdeal.τ).loc Cert.LatentIdeal.main_arg2) = m ((c.tc : Thread Cert.LatentIdeal.nD Cert.LatentIdeal.τ).loc Cert.LatentIdeal.main_arg2)
      ∧ r.2.mem ((c.tc : Thread Cert.LatentIdeal.nD Cert.LatentIdeal.τ).loc Cert.LatentIdeal.main_arg3) = m ((c.tc : Thread Cert.LatentIdeal.nD Cert.LatentIdeal.τ).loc Cert.LatentIdeal.main_arg3)
      ∧ r.2.mem ((c.tc : Thread Cert.LatentIdeal.nD Cert.LatentIdeal.τ).loc Cert.LatentIdeal.main_arg4) = m ((c.tc : Thread Cert.LatentIdeal.nD Cert.LatentIdeal.τ).loc Cert.LatentIdeal.main_arg4))
      ∧ r.2.sem = fun _ => 0)

def quiescent_LatentIdeal_pre_latent_finite [hLatentIdeal : Cert.LatentIdeal.Facts] [hPre_latent_finite : Cert.Pre_latent_finite.Facts] : Prop :=
  ∀ (m : (ℓ : Loc Cert.LatentIdeal.nD Cert.LatentIdeal.τ Cert.LatentIdeal.sig) → Buf (Elt Ideal) ℓ) (g : Dev Cert.LatentIdeal.nD → PrngReg), Pre_LatentIdeal_latent_finite m →
    θ_run (Cert.LatentIdeal.defs (F := Ideal)) (onTc (τ := Cert.LatentIdeal.τ) (Cert.LatentIdeal.main (F := Ideal))) ⟨m, fun _ => 0, g⟩ (fun r => (∀ c : Dev Cert.LatentIdeal.nD,
      r.2.mem ((c.tc : Thread Cert.LatentIdeal.nD Cert.LatentIdeal.τ).loc Cert.LatentIdeal.main_arg0) = m ((c.tc : Thread Cert.LatentIdeal.nD Cert.LatentIdeal.τ).loc Cert.LatentIdeal.main_arg0)
      ∧ r.2.mem ((c.tc : Thread Cert.LatentIdeal.nD Cert.LatentIdeal.τ).loc Cert.LatentIdeal.main_arg1) = m ((c.tc : Thread Cert.LatentIdeal.nD Cert.LatentIdeal.τ).loc Cert.LatentIdeal.main_arg1)
      ∧ r.2.mem ((c.tc : Thread Cert.LatentIdeal.nD Cert.LatentIdeal.τ).loc Cert.LatentIdeal.main_arg2) = m ((c.tc : Thread Cert.LatentIdeal.nD Cert.LatentIdeal.τ).loc Cert.LatentIdeal.main_arg2)
      ∧ r.2.mem ((c.tc : Thread Cert.LatentIdeal.nD Cert.LatentIdeal.τ).loc Cert.LatentIdeal.main_arg3) = m ((c.tc : Thread Cert.LatentIdeal.nD Cert.LatentIdeal.τ).loc Cert.LatentIdeal.main_arg3)
      ∧ r.2.mem ((c.tc : Thread Cert.LatentIdeal.nD Cert.LatentIdeal.τ).loc Cert.LatentIdeal.main_arg4) = m ((c.tc : Thread Cert.LatentIdeal.nD Cert.LatentIdeal.τ).loc Cert.LatentIdeal.main_arg4))
      ∧ r.2.sem = fun _ => 0)

def quiescent_LatentReferenceIdeal [hLatentReferenceIdeal : Cert.LatentReferenceIdeal.Facts] : Prop :=
  ∀ (m : (ℓ : Loc Cert.LatentReferenceIdeal.nD Cert.LatentReferenceIdeal.τ Cert.LatentReferenceIdeal.sig) → Buf (Elt Ideal) ℓ) (g : Dev Cert.LatentReferenceIdeal.nD → PrngReg), Pre_LatentReferenceIdeal m →
    θ_run (Cert.LatentReferenceIdeal.defs (F := Ideal)) (onTc (τ := Cert.LatentReferenceIdeal.τ) (Cert.LatentReferenceIdeal.main (F := Ideal))) ⟨m, fun _ => 0, g⟩ (fun r => (∀ c : Dev Cert.LatentReferenceIdeal.nD,
      r.2.mem ((c.tc : Thread Cert.LatentReferenceIdeal.nD Cert.LatentReferenceIdeal.τ).loc Cert.LatentReferenceIdeal.main_arg0) = m ((c.tc : Thread Cert.LatentReferenceIdeal.nD Cert.LatentReferenceIdeal.τ).loc Cert.LatentReferenceIdeal.main_arg0)
      ∧ r.2.mem ((c.tc : Thread Cert.LatentReferenceIdeal.nD Cert.LatentReferenceIdeal.τ).loc Cert.LatentReferenceIdeal.main_arg1) = m ((c.tc : Thread Cert.LatentReferenceIdeal.nD Cert.LatentReferenceIdeal.τ).loc Cert.LatentReferenceIdeal.main_arg1)
      ∧ r.2.mem ((c.tc : Thread Cert.LatentReferenceIdeal.nD Cert.LatentReferenceIdeal.τ).loc Cert.LatentReferenceIdeal.main_arg2) = m ((c.tc : Thread Cert.LatentReferenceIdeal.nD Cert.LatentReferenceIdeal.τ).loc Cert.LatentReferenceIdeal.main_arg2)
      ∧ r.2.mem ((c.tc : Thread Cert.LatentReferenceIdeal.nD Cert.LatentReferenceIdeal.τ).loc Cert.LatentReferenceIdeal.main_arg3) = m ((c.tc : Thread Cert.LatentReferenceIdeal.nD Cert.LatentReferenceIdeal.τ).loc Cert.LatentReferenceIdeal.main_arg3)
      ∧ r.2.mem ((c.tc : Thread Cert.LatentReferenceIdeal.nD Cert.LatentReferenceIdeal.τ).loc Cert.LatentReferenceIdeal.main_arg4) = m ((c.tc : Thread Cert.LatentReferenceIdeal.nD Cert.LatentReferenceIdeal.τ).loc Cert.LatentReferenceIdeal.main_arg4))
      ∧ r.2.sem = fun _ => 0)

def quiescent_LatentReferenceIdeal_pre_latent_finite [hLatentReferenceIdeal : Cert.LatentReferenceIdeal.Facts] [hPre_latent_finite : Cert.Pre_latent_finite.Facts] : Prop :=
  ∀ (m : (ℓ : Loc Cert.LatentReferenceIdeal.nD Cert.LatentReferenceIdeal.τ Cert.LatentReferenceIdeal.sig) → Buf (Elt Ideal) ℓ) (g : Dev Cert.LatentReferenceIdeal.nD → PrngReg), Pre_LatentReferenceIdeal_latent_finite m →
    θ_run (Cert.LatentReferenceIdeal.defs (F := Ideal)) (onTc (τ := Cert.LatentReferenceIdeal.τ) (Cert.LatentReferenceIdeal.main (F := Ideal))) ⟨m, fun _ => 0, g⟩ (fun r => (∀ c : Dev Cert.LatentReferenceIdeal.nD,
      r.2.mem ((c.tc : Thread Cert.LatentReferenceIdeal.nD Cert.LatentReferenceIdeal.τ).loc Cert.LatentReferenceIdeal.main_arg0) = m ((c.tc : Thread Cert.LatentReferenceIdeal.nD Cert.LatentReferenceIdeal.τ).loc Cert.LatentReferenceIdeal.main_arg0)
      ∧ r.2.mem ((c.tc : Thread Cert.LatentReferenceIdeal.nD Cert.LatentReferenceIdeal.τ).loc Cert.LatentReferenceIdeal.main_arg1) = m ((c.tc : Thread Cert.LatentReferenceIdeal.nD Cert.LatentReferenceIdeal.τ).loc Cert.LatentReferenceIdeal.main_arg1)
      ∧ r.2.mem ((c.tc : Thread Cert.LatentReferenceIdeal.nD Cert.LatentReferenceIdeal.τ).loc Cert.LatentReferenceIdeal.main_arg2) = m ((c.tc : Thread Cert.LatentReferenceIdeal.nD Cert.LatentReferenceIdeal.τ).loc Cert.LatentReferenceIdeal.main_arg2)
      ∧ r.2.mem ((c.tc : Thread Cert.LatentReferenceIdeal.nD Cert.LatentReferenceIdeal.τ).loc Cert.LatentReferenceIdeal.main_arg3) = m ((c.tc : Thread Cert.LatentReferenceIdeal.nD Cert.LatentReferenceIdeal.τ).loc Cert.LatentReferenceIdeal.main_arg3)
      ∧ r.2.mem ((c.tc : Thread Cert.LatentReferenceIdeal.nD Cert.LatentReferenceIdeal.τ).loc Cert.LatentReferenceIdeal.main_arg4) = m ((c.tc : Thread Cert.LatentReferenceIdeal.nD Cert.LatentReferenceIdeal.τ).loc Cert.LatentReferenceIdeal.main_arg4))
      ∧ r.2.sem = fun _ => 0)

def quiescent_ProjectC [hProjectC : Cert.ProjectC.Facts] : Prop :=
  ∀ (m : (ℓ : Loc Cert.ProjectC.nD Cert.ProjectC.τ Cert.ProjectC.sig) → Buf (Elt Bits) ℓ) (g : Dev Cert.ProjectC.nD → PrngReg), Pre_ProjectC m →
    θ_run (Cert.ProjectC.defs (F := Bits)) (onTc (τ := Cert.ProjectC.τ) (Cert.ProjectC.main (F := Bits))) ⟨m, fun _ => 0, g⟩ (fun r => (∀ c : Dev Cert.ProjectC.nD,
      r.2.mem ((c.tc : Thread Cert.ProjectC.nD Cert.ProjectC.τ).loc Cert.ProjectC.main_arg0) = m ((c.tc : Thread Cert.ProjectC.nD Cert.ProjectC.τ).loc Cert.ProjectC.main_arg0)
      ∧ r.2.mem ((c.tc : Thread Cert.ProjectC.nD Cert.ProjectC.τ).loc Cert.ProjectC.main_arg1) = m ((c.tc : Thread Cert.ProjectC.nD Cert.ProjectC.τ).loc Cert.ProjectC.main_arg1)
      ∧ r.2.mem ((c.tc : Thread Cert.ProjectC.nD Cert.ProjectC.τ).loc Cert.ProjectC.main_arg2) = m ((c.tc : Thread Cert.ProjectC.nD Cert.ProjectC.τ).loc Cert.ProjectC.main_arg2)
      ∧ r.2.mem ((c.tc : Thread Cert.ProjectC.nD Cert.ProjectC.τ).loc Cert.ProjectC.main_arg3) = m ((c.tc : Thread Cert.ProjectC.nD Cert.ProjectC.τ).loc Cert.ProjectC.main_arg3)
      ∧ r.2.mem ((c.tc : Thread Cert.ProjectC.nD Cert.ProjectC.τ).loc Cert.ProjectC.main_arg4) = m ((c.tc : Thread Cert.ProjectC.nD Cert.ProjectC.τ).loc Cert.ProjectC.main_arg4)
      ∧ r.2.mem ((c.tc : Thread Cert.ProjectC.nD Cert.ProjectC.τ).loc Cert.ProjectC.main_arg5) = m ((c.tc : Thread Cert.ProjectC.nD Cert.ProjectC.τ).loc Cert.ProjectC.main_arg5)
      ∧ r.2.mem ((c.tc : Thread Cert.ProjectC.nD Cert.ProjectC.τ).loc Cert.ProjectC.main_arg6) = m ((c.tc : Thread Cert.ProjectC.nD Cert.ProjectC.τ).loc Cert.ProjectC.main_arg6))
      ∧ r.2.sem = fun _ => 0)

def quiescent_ProjectCIdeal [hProjectCIdeal : Cert.ProjectCIdeal.Facts] : Prop :=
  ∀ (m : (ℓ : Loc Cert.ProjectCIdeal.nD Cert.ProjectCIdeal.τ Cert.ProjectCIdeal.sig) → Buf (Elt Ideal) ℓ) (g : Dev Cert.ProjectCIdeal.nD → PrngReg), Pre_ProjectCIdeal m →
    θ_run (Cert.ProjectCIdeal.defs (F := Ideal)) (onTc (τ := Cert.ProjectCIdeal.τ) (Cert.ProjectCIdeal.main (F := Ideal))) ⟨m, fun _ => 0, g⟩ (fun r => (∀ c : Dev Cert.ProjectCIdeal.nD,
      r.2.mem ((c.tc : Thread Cert.ProjectCIdeal.nD Cert.ProjectCIdeal.τ).loc Cert.ProjectCIdeal.main_arg0) = m ((c.tc : Thread Cert.ProjectCIdeal.nD Cert.ProjectCIdeal.τ).loc Cert.ProjectCIdeal.main_arg0)
      ∧ r.2.mem ((c.tc : Thread Cert.ProjectCIdeal.nD Cert.ProjectCIdeal.τ).loc Cert.ProjectCIdeal.main_arg1) = m ((c.tc : Thread Cert.ProjectCIdeal.nD Cert.ProjectCIdeal.τ).loc Cert.ProjectCIdeal.main_arg1)
      ∧ r.2.mem ((c.tc : Thread Cert.ProjectCIdeal.nD Cert.ProjectCIdeal.τ).loc Cert.ProjectCIdeal.main_arg2) = m ((c.tc : Thread Cert.ProjectCIdeal.nD Cert.ProjectCIdeal.τ).loc Cert.ProjectCIdeal.main_arg2)
      ∧ r.2.mem ((c.tc : Thread Cert.ProjectCIdeal.nD Cert.ProjectCIdeal.τ).loc Cert.ProjectCIdeal.main_arg3) = m ((c.tc : Thread Cert.ProjectCIdeal.nD Cert.ProjectCIdeal.τ).loc Cert.ProjectCIdeal.main_arg3)
      ∧ r.2.mem ((c.tc : Thread Cert.ProjectCIdeal.nD Cert.ProjectCIdeal.τ).loc Cert.ProjectCIdeal.main_arg4) = m ((c.tc : Thread Cert.ProjectCIdeal.nD Cert.ProjectCIdeal.τ).loc Cert.ProjectCIdeal.main_arg4)
      ∧ r.2.mem ((c.tc : Thread Cert.ProjectCIdeal.nD Cert.ProjectCIdeal.τ).loc Cert.ProjectCIdeal.main_arg5) = m ((c.tc : Thread Cert.ProjectCIdeal.nD Cert.ProjectCIdeal.τ).loc Cert.ProjectCIdeal.main_arg5)
      ∧ r.2.mem ((c.tc : Thread Cert.ProjectCIdeal.nD Cert.ProjectCIdeal.τ).loc Cert.ProjectCIdeal.main_arg6) = m ((c.tc : Thread Cert.ProjectCIdeal.nD Cert.ProjectCIdeal.τ).loc Cert.ProjectCIdeal.main_arg6))
      ∧ r.2.sem = fun _ => 0)

def quiescent_ProjectCReferenceIdeal [hProjectCReferenceIdeal : Cert.ProjectCReferenceIdeal.Facts] : Prop :=
  ∀ (m : (ℓ : Loc Cert.ProjectCReferenceIdeal.nD Cert.ProjectCReferenceIdeal.τ Cert.ProjectCReferenceIdeal.sig) → Buf (Elt Ideal) ℓ) (g : Dev Cert.ProjectCReferenceIdeal.nD → PrngReg), Pre_ProjectCReferenceIdeal m →
    θ_run (Cert.ProjectCReferenceIdeal.defs (F := Ideal)) (onTc (τ := Cert.ProjectCReferenceIdeal.τ) (Cert.ProjectCReferenceIdeal.main (F := Ideal))) ⟨m, fun _ => 0, g⟩ (fun r => (∀ c : Dev Cert.ProjectCReferenceIdeal.nD,
      r.2.mem ((c.tc : Thread Cert.ProjectCReferenceIdeal.nD Cert.ProjectCReferenceIdeal.τ).loc Cert.ProjectCReferenceIdeal.main_arg0) = m ((c.tc : Thread Cert.ProjectCReferenceIdeal.nD Cert.ProjectCReferenceIdeal.τ).loc Cert.ProjectCReferenceIdeal.main_arg0)
      ∧ r.2.mem ((c.tc : Thread Cert.ProjectCReferenceIdeal.nD Cert.ProjectCReferenceIdeal.τ).loc Cert.ProjectCReferenceIdeal.main_arg1) = m ((c.tc : Thread Cert.ProjectCReferenceIdeal.nD Cert.ProjectCReferenceIdeal.τ).loc Cert.ProjectCReferenceIdeal.main_arg1)
      ∧ r.2.mem ((c.tc : Thread Cert.ProjectCReferenceIdeal.nD Cert.ProjectCReferenceIdeal.τ).loc Cert.ProjectCReferenceIdeal.main_arg2) = m ((c.tc : Thread Cert.ProjectCReferenceIdeal.nD Cert.ProjectCReferenceIdeal.τ).loc Cert.ProjectCReferenceIdeal.main_arg2)
      ∧ r.2.mem ((c.tc : Thread Cert.ProjectCReferenceIdeal.nD Cert.ProjectCReferenceIdeal.τ).loc Cert.ProjectCReferenceIdeal.main_arg3) = m ((c.tc : Thread Cert.ProjectCReferenceIdeal.nD Cert.ProjectCReferenceIdeal.τ).loc Cert.ProjectCReferenceIdeal.main_arg3)
      ∧ r.2.mem ((c.tc : Thread Cert.ProjectCReferenceIdeal.nD Cert.ProjectCReferenceIdeal.τ).loc Cert.ProjectCReferenceIdeal.main_arg4) = m ((c.tc : Thread Cert.ProjectCReferenceIdeal.nD Cert.ProjectCReferenceIdeal.τ).loc Cert.ProjectCReferenceIdeal.main_arg4)
      ∧ r.2.mem ((c.tc : Thread Cert.ProjectCReferenceIdeal.nD Cert.ProjectCReferenceIdeal.τ).loc Cert.ProjectCReferenceIdeal.main_arg5) = m ((c.tc : Thread Cert.ProjectCReferenceIdeal.nD Cert.ProjectCReferenceIdeal.τ).loc Cert.ProjectCReferenceIdeal.main_arg5)
      ∧ r.2.mem ((c.tc : Thread Cert.ProjectCReferenceIdeal.nD Cert.ProjectCReferenceIdeal.τ).loc Cert.ProjectCReferenceIdeal.main_arg6) = m ((c.tc : Thread Cert.ProjectCReferenceIdeal.nD Cert.ProjectCReferenceIdeal.τ).loc Cert.ProjectCReferenceIdeal.main_arg6))
      ∧ r.2.sem = fun _ => 0)

def quiescent_ProjectAB [hProjectAB : Cert.ProjectAB.Facts] : Prop :=
  ∀ (m : (ℓ : Loc Cert.ProjectAB.nD Cert.ProjectAB.τ Cert.ProjectAB.sig) → Buf (Elt Bits) ℓ) (g : Dev Cert.ProjectAB.nD → PrngReg), Pre_ProjectAB m →
    θ_run (Cert.ProjectAB.defs (F := Bits)) (onTc (τ := Cert.ProjectAB.τ) (Cert.ProjectAB.main (F := Bits))) ⟨m, fun _ => 0, g⟩ (fun r => (∀ c : Dev Cert.ProjectAB.nD,
      r.2.mem ((c.tc : Thread Cert.ProjectAB.nD Cert.ProjectAB.τ).loc Cert.ProjectAB.main_arg0) = m ((c.tc : Thread Cert.ProjectAB.nD Cert.ProjectAB.τ).loc Cert.ProjectAB.main_arg0)
      ∧ r.2.mem ((c.tc : Thread Cert.ProjectAB.nD Cert.ProjectAB.τ).loc Cert.ProjectAB.main_arg1) = m ((c.tc : Thread Cert.ProjectAB.nD Cert.ProjectAB.τ).loc Cert.ProjectAB.main_arg1)
      ∧ r.2.mem ((c.tc : Thread Cert.ProjectAB.nD Cert.ProjectAB.τ).loc Cert.ProjectAB.main_arg2) = m ((c.tc : Thread Cert.ProjectAB.nD Cert.ProjectAB.τ).loc Cert.ProjectAB.main_arg2)
      ∧ r.2.mem ((c.tc : Thread Cert.ProjectAB.nD Cert.ProjectAB.τ).loc Cert.ProjectAB.main_arg3) = m ((c.tc : Thread Cert.ProjectAB.nD Cert.ProjectAB.τ).loc Cert.ProjectAB.main_arg3)
      ∧ r.2.mem ((c.tc : Thread Cert.ProjectAB.nD Cert.ProjectAB.τ).loc Cert.ProjectAB.main_arg4) = m ((c.tc : Thread Cert.ProjectAB.nD Cert.ProjectAB.τ).loc Cert.ProjectAB.main_arg4)
      ∧ r.2.mem ((c.tc : Thread Cert.ProjectAB.nD Cert.ProjectAB.τ).loc Cert.ProjectAB.main_arg5) = m ((c.tc : Thread Cert.ProjectAB.nD Cert.ProjectAB.τ).loc Cert.ProjectAB.main_arg5)
      ∧ r.2.mem ((c.tc : Thread Cert.ProjectAB.nD Cert.ProjectAB.τ).loc Cert.ProjectAB.main_arg6) = m ((c.tc : Thread Cert.ProjectAB.nD Cert.ProjectAB.τ).loc Cert.ProjectAB.main_arg6)
      ∧ r.2.mem ((c.tc : Thread Cert.ProjectAB.nD Cert.ProjectAB.τ).loc Cert.ProjectAB.main_arg7) = m ((c.tc : Thread Cert.ProjectAB.nD Cert.ProjectAB.τ).loc Cert.ProjectAB.main_arg7)
      ∧ r.2.mem ((c.tc : Thread Cert.ProjectAB.nD Cert.ProjectAB.τ).loc Cert.ProjectAB.main_arg8) = m ((c.tc : Thread Cert.ProjectAB.nD Cert.ProjectAB.τ).loc Cert.ProjectAB.main_arg8)
      ∧ r.2.mem ((c.tc : Thread Cert.ProjectAB.nD Cert.ProjectAB.τ).loc Cert.ProjectAB.main_arg9) = m ((c.tc : Thread Cert.ProjectAB.nD Cert.ProjectAB.τ).loc Cert.ProjectAB.main_arg9))
      ∧ r.2.sem = fun _ => 0)

def quiescent_ProjectABIdeal [hProjectABIdeal : Cert.ProjectABIdeal.Facts] : Prop :=
  ∀ (m : (ℓ : Loc Cert.ProjectABIdeal.nD Cert.ProjectABIdeal.τ Cert.ProjectABIdeal.sig) → Buf (Elt Ideal) ℓ) (g : Dev Cert.ProjectABIdeal.nD → PrngReg), Pre_ProjectABIdeal m →
    θ_run (Cert.ProjectABIdeal.defs (F := Ideal)) (onTc (τ := Cert.ProjectABIdeal.τ) (Cert.ProjectABIdeal.main (F := Ideal))) ⟨m, fun _ => 0, g⟩ (fun r => (∀ c : Dev Cert.ProjectABIdeal.nD,
      r.2.mem ((c.tc : Thread Cert.ProjectABIdeal.nD Cert.ProjectABIdeal.τ).loc Cert.ProjectABIdeal.main_arg0) = m ((c.tc : Thread Cert.ProjectABIdeal.nD Cert.ProjectABIdeal.τ).loc Cert.ProjectABIdeal.main_arg0)
      ∧ r.2.mem ((c.tc : Thread Cert.ProjectABIdeal.nD Cert.ProjectABIdeal.τ).loc Cert.ProjectABIdeal.main_arg1) = m ((c.tc : Thread Cert.ProjectABIdeal.nD Cert.ProjectABIdeal.τ).loc Cert.ProjectABIdeal.main_arg1)
      ∧ r.2.mem ((c.tc : Thread Cert.ProjectABIdeal.nD Cert.ProjectABIdeal.τ).loc Cert.ProjectABIdeal.main_arg2) = m ((c.tc : Thread Cert.ProjectABIdeal.nD Cert.ProjectABIdeal.τ).loc Cert.ProjectABIdeal.main_arg2)
      ∧ r.2.mem ((c.tc : Thread Cert.ProjectABIdeal.nD Cert.ProjectABIdeal.τ).loc Cert.ProjectABIdeal.main_arg3) = m ((c.tc : Thread Cert.ProjectABIdeal.nD Cert.ProjectABIdeal.τ).loc Cert.ProjectABIdeal.main_arg3)
      ∧ r.2.mem ((c.tc : Thread Cert.ProjectABIdeal.nD Cert.ProjectABIdeal.τ).loc Cert.ProjectABIdeal.main_arg4) = m ((c.tc : Thread Cert.ProjectABIdeal.nD Cert.ProjectABIdeal.τ).loc Cert.ProjectABIdeal.main_arg4)
      ∧ r.2.mem ((c.tc : Thread Cert.ProjectABIdeal.nD Cert.ProjectABIdeal.τ).loc Cert.ProjectABIdeal.main_arg5) = m ((c.tc : Thread Cert.ProjectABIdeal.nD Cert.ProjectABIdeal.τ).loc Cert.ProjectABIdeal.main_arg5)
      ∧ r.2.mem ((c.tc : Thread Cert.ProjectABIdeal.nD Cert.ProjectABIdeal.τ).loc Cert.ProjectABIdeal.main_arg6) = m ((c.tc : Thread Cert.ProjectABIdeal.nD Cert.ProjectABIdeal.τ).loc Cert.ProjectABIdeal.main_arg6)
      ∧ r.2.mem ((c.tc : Thread Cert.ProjectABIdeal.nD Cert.ProjectABIdeal.τ).loc Cert.ProjectABIdeal.main_arg7) = m ((c.tc : Thread Cert.ProjectABIdeal.nD Cert.ProjectABIdeal.τ).loc Cert.ProjectABIdeal.main_arg7)
      ∧ r.2.mem ((c.tc : Thread Cert.ProjectABIdeal.nD Cert.ProjectABIdeal.τ).loc Cert.ProjectABIdeal.main_arg8) = m ((c.tc : Thread Cert.ProjectABIdeal.nD Cert.ProjectABIdeal.τ).loc Cert.ProjectABIdeal.main_arg8)
      ∧ r.2.mem ((c.tc : Thread Cert.ProjectABIdeal.nD Cert.ProjectABIdeal.τ).loc Cert.ProjectABIdeal.main_arg9) = m ((c.tc : Thread Cert.ProjectABIdeal.nD Cert.ProjectABIdeal.τ).loc Cert.ProjectABIdeal.main_arg9))
      ∧ r.2.sem = fun _ => 0)

def quiescent_ProjectABReferenceIdeal [hProjectABReferenceIdeal : Cert.ProjectABReferenceIdeal.Facts] : Prop :=
  ∀ (m : (ℓ : Loc Cert.ProjectABReferenceIdeal.nD Cert.ProjectABReferenceIdeal.τ Cert.ProjectABReferenceIdeal.sig) → Buf (Elt Ideal) ℓ) (g : Dev Cert.ProjectABReferenceIdeal.nD → PrngReg), Pre_ProjectABReferenceIdeal m →
    θ_run (Cert.ProjectABReferenceIdeal.defs (F := Ideal)) (onTc (τ := Cert.ProjectABReferenceIdeal.τ) (Cert.ProjectABReferenceIdeal.main (F := Ideal))) ⟨m, fun _ => 0, g⟩ (fun r => (∀ c : Dev Cert.ProjectABReferenceIdeal.nD,
      r.2.mem ((c.tc : Thread Cert.ProjectABReferenceIdeal.nD Cert.ProjectABReferenceIdeal.τ).loc Cert.ProjectABReferenceIdeal.main_arg0) = m ((c.tc : Thread Cert.ProjectABReferenceIdeal.nD Cert.ProjectABReferenceIdeal.τ).loc Cert.ProjectABReferenceIdeal.main_arg0)
      ∧ r.2.mem ((c.tc : Thread Cert.ProjectABReferenceIdeal.nD Cert.ProjectABReferenceIdeal.τ).loc Cert.ProjectABReferenceIdeal.main_arg1) = m ((c.tc : Thread Cert.ProjectABReferenceIdeal.nD Cert.ProjectABReferenceIdeal.τ).loc Cert.ProjectABReferenceIdeal.main_arg1)
      ∧ r.2.mem ((c.tc : Thread Cert.ProjectABReferenceIdeal.nD Cert.ProjectABReferenceIdeal.τ).loc Cert.ProjectABReferenceIdeal.main_arg2) = m ((c.tc : Thread Cert.ProjectABReferenceIdeal.nD Cert.ProjectABReferenceIdeal.τ).loc Cert.ProjectABReferenceIdeal.main_arg2)
      ∧ r.2.mem ((c.tc : Thread Cert.ProjectABReferenceIdeal.nD Cert.ProjectABReferenceIdeal.τ).loc Cert.ProjectABReferenceIdeal.main_arg3) = m ((c.tc : Thread Cert.ProjectABReferenceIdeal.nD Cert.ProjectABReferenceIdeal.τ).loc Cert.ProjectABReferenceIdeal.main_arg3)
      ∧ r.2.mem ((c.tc : Thread Cert.ProjectABReferenceIdeal.nD Cert.ProjectABReferenceIdeal.τ).loc Cert.ProjectABReferenceIdeal.main_arg4) = m ((c.tc : Thread Cert.ProjectABReferenceIdeal.nD Cert.ProjectABReferenceIdeal.τ).loc Cert.ProjectABReferenceIdeal.main_arg4)
      ∧ r.2.mem ((c.tc : Thread Cert.ProjectABReferenceIdeal.nD Cert.ProjectABReferenceIdeal.τ).loc Cert.ProjectABReferenceIdeal.main_arg5) = m ((c.tc : Thread Cert.ProjectABReferenceIdeal.nD Cert.ProjectABReferenceIdeal.τ).loc Cert.ProjectABReferenceIdeal.main_arg5)
      ∧ r.2.mem ((c.tc : Thread Cert.ProjectABReferenceIdeal.nD Cert.ProjectABReferenceIdeal.τ).loc Cert.ProjectABReferenceIdeal.main_arg6) = m ((c.tc : Thread Cert.ProjectABReferenceIdeal.nD Cert.ProjectABReferenceIdeal.τ).loc Cert.ProjectABReferenceIdeal.main_arg6)
      ∧ r.2.mem ((c.tc : Thread Cert.ProjectABReferenceIdeal.nD Cert.ProjectABReferenceIdeal.τ).loc Cert.ProjectABReferenceIdeal.main_arg7) = m ((c.tc : Thread Cert.ProjectABReferenceIdeal.nD Cert.ProjectABReferenceIdeal.τ).loc Cert.ProjectABReferenceIdeal.main_arg7)
      ∧ r.2.mem ((c.tc : Thread Cert.ProjectABReferenceIdeal.nD Cert.ProjectABReferenceIdeal.τ).loc Cert.ProjectABReferenceIdeal.main_arg8) = m ((c.tc : Thread Cert.ProjectABReferenceIdeal.nD Cert.ProjectABReferenceIdeal.τ).loc Cert.ProjectABReferenceIdeal.main_arg8)
      ∧ r.2.mem ((c.tc : Thread Cert.ProjectABReferenceIdeal.nD Cert.ProjectABReferenceIdeal.τ).loc Cert.ProjectABReferenceIdeal.main_arg9) = m ((c.tc : Thread Cert.ProjectABReferenceIdeal.nD Cert.ProjectABReferenceIdeal.τ).loc Cert.ProjectABReferenceIdeal.main_arg9))
      ∧ r.2.sem = fun _ => 0)

def quiescent_OutC [hOutC : Cert.OutC.Facts] : Prop :=
  ∀ (m : (ℓ : Loc Cert.OutC.nD Cert.OutC.τ Cert.OutC.sig) → Buf (Elt Bits) ℓ) (g : Dev Cert.OutC.nD → PrngReg), Pre_OutC m →
    θ_run (Cert.OutC.defs (F := Bits)) (onTc (τ := Cert.OutC.τ) (Cert.OutC.main (F := Bits))) ⟨m, fun _ => 0, g⟩ (fun r => (∀ c : Dev Cert.OutC.nD,
      r.2.mem ((c.tc : Thread Cert.OutC.nD Cert.OutC.τ).loc Cert.OutC.main_arg0) = m ((c.tc : Thread Cert.OutC.nD Cert.OutC.τ).loc Cert.OutC.main_arg0)
      ∧ r.2.mem ((c.tc : Thread Cert.OutC.nD Cert.OutC.τ).loc Cert.OutC.main_arg1) = m ((c.tc : Thread Cert.OutC.nD Cert.OutC.τ).loc Cert.OutC.main_arg1)
      ∧ r.2.mem ((c.tc : Thread Cert.OutC.nD Cert.OutC.τ).loc Cert.OutC.main_arg2) = m ((c.tc : Thread Cert.OutC.nD Cert.OutC.τ).loc Cert.OutC.main_arg2)
      ∧ r.2.mem ((c.tc : Thread Cert.OutC.nD Cert.OutC.τ).loc Cert.OutC.main_arg3) = m ((c.tc : Thread Cert.OutC.nD Cert.OutC.τ).loc Cert.OutC.main_arg3)
      ∧ r.2.mem ((c.tc : Thread Cert.OutC.nD Cert.OutC.τ).loc Cert.OutC.main_arg4) = m ((c.tc : Thread Cert.OutC.nD Cert.OutC.τ).loc Cert.OutC.main_arg4)
      ∧ r.2.mem ((c.tc : Thread Cert.OutC.nD Cert.OutC.τ).loc Cert.OutC.main_arg5) = m ((c.tc : Thread Cert.OutC.nD Cert.OutC.τ).loc Cert.OutC.main_arg5)
      ∧ r.2.mem ((c.tc : Thread Cert.OutC.nD Cert.OutC.τ).loc Cert.OutC.main_arg6) = m ((c.tc : Thread Cert.OutC.nD Cert.OutC.τ).loc Cert.OutC.main_arg6)
      ∧ r.2.mem ((c.tc : Thread Cert.OutC.nD Cert.OutC.τ).loc Cert.OutC.main_arg7) = m ((c.tc : Thread Cert.OutC.nD Cert.OutC.τ).loc Cert.OutC.main_arg7)
      ∧ r.2.mem ((c.tc : Thread Cert.OutC.nD Cert.OutC.τ).loc Cert.OutC.main_arg8) = m ((c.tc : Thread Cert.OutC.nD Cert.OutC.τ).loc Cert.OutC.main_arg8))
      ∧ r.2.sem = fun _ => 0)

def quiescent_OutCIdeal [hOutCIdeal : Cert.OutCIdeal.Facts] : Prop :=
  ∀ (m : (ℓ : Loc Cert.OutCIdeal.nD Cert.OutCIdeal.τ Cert.OutCIdeal.sig) → Buf (Elt Ideal) ℓ) (g : Dev Cert.OutCIdeal.nD → PrngReg), Pre_OutCIdeal m →
    θ_run (Cert.OutCIdeal.defs (F := Ideal)) (onTc (τ := Cert.OutCIdeal.τ) (Cert.OutCIdeal.main (F := Ideal))) ⟨m, fun _ => 0, g⟩ (fun r => (∀ c : Dev Cert.OutCIdeal.nD,
      r.2.mem ((c.tc : Thread Cert.OutCIdeal.nD Cert.OutCIdeal.τ).loc Cert.OutCIdeal.main_arg0) = m ((c.tc : Thread Cert.OutCIdeal.nD Cert.OutCIdeal.τ).loc Cert.OutCIdeal.main_arg0)
      ∧ r.2.mem ((c.tc : Thread Cert.OutCIdeal.nD Cert.OutCIdeal.τ).loc Cert.OutCIdeal.main_arg1) = m ((c.tc : Thread Cert.OutCIdeal.nD Cert.OutCIdeal.τ).loc Cert.OutCIdeal.main_arg1)
      ∧ r.2.mem ((c.tc : Thread Cert.OutCIdeal.nD Cert.OutCIdeal.τ).loc Cert.OutCIdeal.main_arg2) = m ((c.tc : Thread Cert.OutCIdeal.nD Cert.OutCIdeal.τ).loc Cert.OutCIdeal.main_arg2)
      ∧ r.2.mem ((c.tc : Thread Cert.OutCIdeal.nD Cert.OutCIdeal.τ).loc Cert.OutCIdeal.main_arg3) = m ((c.tc : Thread Cert.OutCIdeal.nD Cert.OutCIdeal.τ).loc Cert.OutCIdeal.main_arg3)
      ∧ r.2.mem ((c.tc : Thread Cert.OutCIdeal.nD Cert.OutCIdeal.τ).loc Cert.OutCIdeal.main_arg4) = m ((c.tc : Thread Cert.OutCIdeal.nD Cert.OutCIdeal.τ).loc Cert.OutCIdeal.main_arg4)
      ∧ r.2.mem ((c.tc : Thread Cert.OutCIdeal.nD Cert.OutCIdeal.τ).loc Cert.OutCIdeal.main_arg5) = m ((c.tc : Thread Cert.OutCIdeal.nD Cert.OutCIdeal.τ).loc Cert.OutCIdeal.main_arg5)
      ∧ r.2.mem ((c.tc : Thread Cert.OutCIdeal.nD Cert.OutCIdeal.τ).loc Cert.OutCIdeal.main_arg6) = m ((c.tc : Thread Cert.OutCIdeal.nD Cert.OutCIdeal.τ).loc Cert.OutCIdeal.main_arg6)
      ∧ r.2.mem ((c.tc : Thread Cert.OutCIdeal.nD Cert.OutCIdeal.τ).loc Cert.OutCIdeal.main_arg7) = m ((c.tc : Thread Cert.OutCIdeal.nD Cert.OutCIdeal.τ).loc Cert.OutCIdeal.main_arg7)
      ∧ r.2.mem ((c.tc : Thread Cert.OutCIdeal.nD Cert.OutCIdeal.τ).loc Cert.OutCIdeal.main_arg8) = m ((c.tc : Thread Cert.OutCIdeal.nD Cert.OutCIdeal.τ).loc Cert.OutCIdeal.main_arg8))
      ∧ r.2.sem = fun _ => 0)

def quiescent_OutCReferenceIdeal [hOutCReferenceIdeal : Cert.OutCReferenceIdeal.Facts] : Prop :=
  ∀ (m : (ℓ : Loc Cert.OutCReferenceIdeal.nD Cert.OutCReferenceIdeal.τ Cert.OutCReferenceIdeal.sig) → Buf (Elt Ideal) ℓ) (g : Dev Cert.OutCReferenceIdeal.nD → PrngReg), Pre_OutCReferenceIdeal m →
    θ_run (Cert.OutCReferenceIdeal.defs (F := Ideal)) (onTc (τ := Cert.OutCReferenceIdeal.τ) (Cert.OutCReferenceIdeal.main (F := Ideal))) ⟨m, fun _ => 0, g⟩ (fun r => (∀ c : Dev Cert.OutCReferenceIdeal.nD,
      r.2.mem ((c.tc : Thread Cert.OutCReferenceIdeal.nD Cert.OutCReferenceIdeal.τ).loc Cert.OutCReferenceIdeal.main_arg0) = m ((c.tc : Thread Cert.OutCReferenceIdeal.nD Cert.OutCReferenceIdeal.τ).loc Cert.OutCReferenceIdeal.main_arg0)
      ∧ r.2.mem ((c.tc : Thread Cert.OutCReferenceIdeal.nD Cert.OutCReferenceIdeal.τ).loc Cert.OutCReferenceIdeal.main_arg1) = m ((c.tc : Thread Cert.OutCReferenceIdeal.nD Cert.OutCReferenceIdeal.τ).loc Cert.OutCReferenceIdeal.main_arg1)
      ∧ r.2.mem ((c.tc : Thread Cert.OutCReferenceIdeal.nD Cert.OutCReferenceIdeal.τ).loc Cert.OutCReferenceIdeal.main_arg2) = m ((c.tc : Thread Cert.OutCReferenceIdeal.nD Cert.OutCReferenceIdeal.τ).loc Cert.OutCReferenceIdeal.main_arg2)
      ∧ r.2.mem ((c.tc : Thread Cert.OutCReferenceIdeal.nD Cert.OutCReferenceIdeal.τ).loc Cert.OutCReferenceIdeal.main_arg3) = m ((c.tc : Thread Cert.OutCReferenceIdeal.nD Cert.OutCReferenceIdeal.τ).loc Cert.OutCReferenceIdeal.main_arg3)
      ∧ r.2.mem ((c.tc : Thread Cert.OutCReferenceIdeal.nD Cert.OutCReferenceIdeal.τ).loc Cert.OutCReferenceIdeal.main_arg4) = m ((c.tc : Thread Cert.OutCReferenceIdeal.nD Cert.OutCReferenceIdeal.τ).loc Cert.OutCReferenceIdeal.main_arg4)
      ∧ r.2.mem ((c.tc : Thread Cert.OutCReferenceIdeal.nD Cert.OutCReferenceIdeal.τ).loc Cert.OutCReferenceIdeal.main_arg5) = m ((c.tc : Thread Cert.OutCReferenceIdeal.nD Cert.OutCReferenceIdeal.τ).loc Cert.OutCReferenceIdeal.main_arg5)
      ∧ r.2.mem ((c.tc : Thread Cert.OutCReferenceIdeal.nD Cert.OutCReferenceIdeal.τ).loc Cert.OutCReferenceIdeal.main_arg6) = m ((c.tc : Thread Cert.OutCReferenceIdeal.nD Cert.OutCReferenceIdeal.τ).loc Cert.OutCReferenceIdeal.main_arg6)
      ∧ r.2.mem ((c.tc : Thread Cert.OutCReferenceIdeal.nD Cert.OutCReferenceIdeal.τ).loc Cert.OutCReferenceIdeal.main_arg7) = m ((c.tc : Thread Cert.OutCReferenceIdeal.nD Cert.OutCReferenceIdeal.τ).loc Cert.OutCReferenceIdeal.main_arg7)
      ∧ r.2.mem ((c.tc : Thread Cert.OutCReferenceIdeal.nD Cert.OutCReferenceIdeal.τ).loc Cert.OutCReferenceIdeal.main_arg8) = m ((c.tc : Thread Cert.OutCReferenceIdeal.nD Cert.OutCReferenceIdeal.τ).loc Cert.OutCReferenceIdeal.main_arg8))
      ∧ r.2.sem = fun _ => 0)

def quiescent_OutAB [hOutAB : Cert.OutAB.Facts] : Prop :=
  ∀ (m : (ℓ : Loc Cert.OutAB.nD Cert.OutAB.τ Cert.OutAB.sig) → Buf (Elt Bits) ℓ) (g : Dev Cert.OutAB.nD → PrngReg), Pre_OutAB m →
    θ_run (Cert.OutAB.defs (F := Bits)) (onTc (τ := Cert.OutAB.τ) (Cert.OutAB.main (F := Bits))) ⟨m, fun _ => 0, g⟩ (fun r => (∀ c : Dev Cert.OutAB.nD,
      r.2.mem ((c.tc : Thread Cert.OutAB.nD Cert.OutAB.τ).loc Cert.OutAB.main_arg0) = m ((c.tc : Thread Cert.OutAB.nD Cert.OutAB.τ).loc Cert.OutAB.main_arg0)
      ∧ r.2.mem ((c.tc : Thread Cert.OutAB.nD Cert.OutAB.τ).loc Cert.OutAB.main_arg1) = m ((c.tc : Thread Cert.OutAB.nD Cert.OutAB.τ).loc Cert.OutAB.main_arg1)
      ∧ r.2.mem ((c.tc : Thread Cert.OutAB.nD Cert.OutAB.τ).loc Cert.OutAB.main_arg2) = m ((c.tc : Thread Cert.OutAB.nD Cert.OutAB.τ).loc Cert.OutAB.main_arg2)
      ∧ r.2.mem ((c.tc : Thread Cert.OutAB.nD Cert.OutAB.τ).loc Cert.OutAB.main_arg3) = m ((c.tc : Thread Cert.OutAB.nD Cert.OutAB.τ).loc Cert.OutAB.main_arg3)
      ∧ r.2.mem ((c.tc : Thread Cert.OutAB.nD Cert.OutAB.τ).loc Cert.OutAB.main_arg4) = m ((c.tc : Thread Cert.OutAB.nD Cert.OutAB.τ).loc Cert.OutAB.main_arg4)
      ∧ r.2.mem ((c.tc : Thread Cert.OutAB.nD Cert.OutAB.τ).loc Cert.OutAB.main_arg5) = m ((c.tc : Thread Cert.OutAB.nD Cert.OutAB.τ).loc Cert.OutAB.main_arg5)
      ∧ r.2.mem ((c.tc : Thread Cert.OutAB.nD Cert.OutAB.τ).loc Cert.OutAB.main_arg6) = m ((c.tc : Thread Cert.OutAB.nD Cert.OutAB.τ).loc Cert.OutAB.main_arg6)
      ∧ r.2.mem ((c.tc : Thread Cert.OutAB.nD Cert.OutAB.τ).loc Cert.OutAB.main_arg7) = m ((c.tc : Thread Cert.OutAB.nD Cert.OutAB.τ).loc Cert.OutAB.main_arg7)
      ∧ r.2.mem ((c.tc : Thread Cert.OutAB.nD Cert.OutAB.τ).loc Cert.OutAB.main_arg8) = m ((c.tc : Thread Cert.OutAB.nD Cert.OutAB.τ).loc Cert.OutAB.main_arg8)
      ∧ r.2.mem ((c.tc : Thread Cert.OutAB.nD Cert.OutAB.τ).loc Cert.OutAB.main_arg9) = m ((c.tc : Thread Cert.OutAB.nD Cert.OutAB.τ).loc Cert.OutAB.main_arg9)
      ∧ r.2.mem ((c.tc : Thread Cert.OutAB.nD Cert.OutAB.τ).loc Cert.OutAB.main_arg10) = m ((c.tc : Thread Cert.OutAB.nD Cert.OutAB.τ).loc Cert.OutAB.main_arg10))
      ∧ r.2.sem = fun _ => 0)

def quiescent_OutABIdeal [hOutABIdeal : Cert.OutABIdeal.Facts] : Prop :=
  ∀ (m : (ℓ : Loc Cert.OutABIdeal.nD Cert.OutABIdeal.τ Cert.OutABIdeal.sig) → Buf (Elt Ideal) ℓ) (g : Dev Cert.OutABIdeal.nD → PrngReg), Pre_OutABIdeal m →
    θ_run (Cert.OutABIdeal.defs (F := Ideal)) (onTc (τ := Cert.OutABIdeal.τ) (Cert.OutABIdeal.main (F := Ideal))) ⟨m, fun _ => 0, g⟩ (fun r => (∀ c : Dev Cert.OutABIdeal.nD,
      r.2.mem ((c.tc : Thread Cert.OutABIdeal.nD Cert.OutABIdeal.τ).loc Cert.OutABIdeal.main_arg0) = m ((c.tc : Thread Cert.OutABIdeal.nD Cert.OutABIdeal.τ).loc Cert.OutABIdeal.main_arg0)
      ∧ r.2.mem ((c.tc : Thread Cert.OutABIdeal.nD Cert.OutABIdeal.τ).loc Cert.OutABIdeal.main_arg1) = m ((c.tc : Thread Cert.OutABIdeal.nD Cert.OutABIdeal.τ).loc Cert.OutABIdeal.main_arg1)
      ∧ r.2.mem ((c.tc : Thread Cert.OutABIdeal.nD Cert.OutABIdeal.τ).loc Cert.OutABIdeal.main_arg2) = m ((c.tc : Thread Cert.OutABIdeal.nD Cert.OutABIdeal.τ).loc Cert.OutABIdeal.main_arg2)
      ∧ r.2.mem ((c.tc : Thread Cert.OutABIdeal.nD Cert.OutABIdeal.τ).loc Cert.OutABIdeal.main_arg3) = m ((c.tc : Thread Cert.OutABIdeal.nD Cert.OutABIdeal.τ).loc Cert.OutABIdeal.main_arg3)
      ∧ r.2.mem ((c.tc : Thread Cert.OutABIdeal.nD Cert.OutABIdeal.τ).loc Cert.OutABIdeal.main_arg4) = m ((c.tc : Thread Cert.OutABIdeal.nD Cert.OutABIdeal.τ).loc Cert.OutABIdeal.main_arg4)
      ∧ r.2.mem ((c.tc : Thread Cert.OutABIdeal.nD Cert.OutABIdeal.τ).loc Cert.OutABIdeal.main_arg5) = m ((c.tc : Thread Cert.OutABIdeal.nD Cert.OutABIdeal.τ).loc Cert.OutABIdeal.main_arg5)
      ∧ r.2.mem ((c.tc : Thread Cert.OutABIdeal.nD Cert.OutABIdeal.τ).loc Cert.OutABIdeal.main_arg6) = m ((c.tc : Thread Cert.OutABIdeal.nD Cert.OutABIdeal.τ).loc Cert.OutABIdeal.main_arg6)
      ∧ r.2.mem ((c.tc : Thread Cert.OutABIdeal.nD Cert.OutABIdeal.τ).loc Cert.OutABIdeal.main_arg7) = m ((c.tc : Thread Cert.OutABIdeal.nD Cert.OutABIdeal.τ).loc Cert.OutABIdeal.main_arg7)
      ∧ r.2.mem ((c.tc : Thread Cert.OutABIdeal.nD Cert.OutABIdeal.τ).loc Cert.OutABIdeal.main_arg8) = m ((c.tc : Thread Cert.OutABIdeal.nD Cert.OutABIdeal.τ).loc Cert.OutABIdeal.main_arg8)
      ∧ r.2.mem ((c.tc : Thread Cert.OutABIdeal.nD Cert.OutABIdeal.τ).loc Cert.OutABIdeal.main_arg9) = m ((c.tc : Thread Cert.OutABIdeal.nD Cert.OutABIdeal.τ).loc Cert.OutABIdeal.main_arg9)
      ∧ r.2.mem ((c.tc : Thread Cert.OutABIdeal.nD Cert.OutABIdeal.τ).loc Cert.OutABIdeal.main_arg10) = m ((c.tc : Thread Cert.OutABIdeal.nD Cert.OutABIdeal.τ).loc Cert.OutABIdeal.main_arg10))
      ∧ r.2.sem = fun _ => 0)

def quiescent_OutABReferenceIdeal [hOutABReferenceIdeal : Cert.OutABReferenceIdeal.Facts] : Prop :=
  ∀ (m : (ℓ : Loc Cert.OutABReferenceIdeal.nD Cert.OutABReferenceIdeal.τ Cert.OutABReferenceIdeal.sig) → Buf (Elt Ideal) ℓ) (g : Dev Cert.OutABReferenceIdeal.nD → PrngReg), Pre_OutABReferenceIdeal m →
    θ_run (Cert.OutABReferenceIdeal.defs (F := Ideal)) (onTc (τ := Cert.OutABReferenceIdeal.τ) (Cert.OutABReferenceIdeal.main (F := Ideal))) ⟨m, fun _ => 0, g⟩ (fun r => (∀ c : Dev Cert.OutABReferenceIdeal.nD,
      r.2.mem ((c.tc : Thread Cert.OutABReferenceIdeal.nD Cert.OutABReferenceIdeal.τ).loc Cert.OutABReferenceIdeal.main_arg0) = m ((c.tc : Thread Cert.OutABReferenceIdeal.nD Cert.OutABReferenceIdeal.τ).loc Cert.OutABReferenceIdeal.main_arg0)
      ∧ r.2.mem ((c.tc : Thread Cert.OutABReferenceIdeal.nD Cert.OutABReferenceIdeal.τ).loc Cert.OutABReferenceIdeal.main_arg1) = m ((c.tc : Thread Cert.OutABReferenceIdeal.nD Cert.OutABReferenceIdeal.τ).loc Cert.OutABReferenceIdeal.main_arg1)
      ∧ r.2.mem ((c.tc : Thread Cert.OutABReferenceIdeal.nD Cert.OutABReferenceIdeal.τ).loc Cert.OutABReferenceIdeal.main_arg2) = m ((c.tc : Thread Cert.OutABReferenceIdeal.nD Cert.OutABReferenceIdeal.τ).loc Cert.OutABReferenceIdeal.main_arg2)
      ∧ r.2.mem ((c.tc : Thread Cert.OutABReferenceIdeal.nD Cert.OutABReferenceIdeal.τ).loc Cert.OutABReferenceIdeal.main_arg3) = m ((c.tc : Thread Cert.OutABReferenceIdeal.nD Cert.OutABReferenceIdeal.τ).loc Cert.OutABReferenceIdeal.main_arg3)
      ∧ r.2.mem ((c.tc : Thread Cert.OutABReferenceIdeal.nD Cert.OutABReferenceIdeal.τ).loc Cert.OutABReferenceIdeal.main_arg4) = m ((c.tc : Thread Cert.OutABReferenceIdeal.nD Cert.OutABReferenceIdeal.τ).loc Cert.OutABReferenceIdeal.main_arg4)
      ∧ r.2.mem ((c.tc : Thread Cert.OutABReferenceIdeal.nD Cert.OutABReferenceIdeal.τ).loc Cert.OutABReferenceIdeal.main_arg5) = m ((c.tc : Thread Cert.OutABReferenceIdeal.nD Cert.OutABReferenceIdeal.τ).loc Cert.OutABReferenceIdeal.main_arg5)
      ∧ r.2.mem ((c.tc : Thread Cert.OutABReferenceIdeal.nD Cert.OutABReferenceIdeal.τ).loc Cert.OutABReferenceIdeal.main_arg6) = m ((c.tc : Thread Cert.OutABReferenceIdeal.nD Cert.OutABReferenceIdeal.τ).loc Cert.OutABReferenceIdeal.main_arg6)
      ∧ r.2.mem ((c.tc : Thread Cert.OutABReferenceIdeal.nD Cert.OutABReferenceIdeal.τ).loc Cert.OutABReferenceIdeal.main_arg7) = m ((c.tc : Thread Cert.OutABReferenceIdeal.nD Cert.OutABReferenceIdeal.τ).loc Cert.OutABReferenceIdeal.main_arg7)
      ∧ r.2.mem ((c.tc : Thread Cert.OutABReferenceIdeal.nD Cert.OutABReferenceIdeal.τ).loc Cert.OutABReferenceIdeal.main_arg8) = m ((c.tc : Thread Cert.OutABReferenceIdeal.nD Cert.OutABReferenceIdeal.τ).loc Cert.OutABReferenceIdeal.main_arg8)
      ∧ r.2.mem ((c.tc : Thread Cert.OutABReferenceIdeal.nD Cert.OutABReferenceIdeal.τ).loc Cert.OutABReferenceIdeal.main_arg9) = m ((c.tc : Thread Cert.OutABReferenceIdeal.nD Cert.OutABReferenceIdeal.τ).loc Cert.OutABReferenceIdeal.main_arg9)
      ∧ r.2.mem ((c.tc : Thread Cert.OutABReferenceIdeal.nD Cert.OutABReferenceIdeal.τ).loc Cert.OutABReferenceIdeal.main_arg10) = m ((c.tc : Thread Cert.OutABReferenceIdeal.nD Cert.OutABReferenceIdeal.τ).loc Cert.OutABReferenceIdeal.main_arg10))
      ∧ r.2.sem = fun _ => 0)

def quiescent_ContextC [hContextC : Cert.ContextC.Facts] : Prop :=
  ∀ (m : (ℓ : Loc Cert.ContextC.nD Cert.ContextC.τ Cert.ContextC.sig) → Buf (Elt Bits) ℓ) (g : Dev Cert.ContextC.nD → PrngReg), Pre_ContextC m →
    θ_run (Cert.ContextC.defs (F := Bits)) (onTc (τ := Cert.ContextC.τ) (Cert.ContextC.main (F := Bits))) ⟨m, fun _ => 0, g⟩ (fun r => (∀ c : Dev Cert.ContextC.nD,
      r.2.mem ((c.tc : Thread Cert.ContextC.nD Cert.ContextC.τ).loc Cert.ContextC.main_arg0) = m ((c.tc : Thread Cert.ContextC.nD Cert.ContextC.τ).loc Cert.ContextC.main_arg0)
      ∧ r.2.mem ((c.tc : Thread Cert.ContextC.nD Cert.ContextC.τ).loc Cert.ContextC.main_arg1) = m ((c.tc : Thread Cert.ContextC.nD Cert.ContextC.τ).loc Cert.ContextC.main_arg1)
      ∧ r.2.mem ((c.tc : Thread Cert.ContextC.nD Cert.ContextC.τ).loc Cert.ContextC.main_arg2) = m ((c.tc : Thread Cert.ContextC.nD Cert.ContextC.τ).loc Cert.ContextC.main_arg2)
      ∧ r.2.mem ((c.tc : Thread Cert.ContextC.nD Cert.ContextC.τ).loc Cert.ContextC.main_arg3) = m ((c.tc : Thread Cert.ContextC.nD Cert.ContextC.τ).loc Cert.ContextC.main_arg3)
      ∧ r.2.mem ((c.tc : Thread Cert.ContextC.nD Cert.ContextC.τ).loc Cert.ContextC.main_arg4) = m ((c.tc : Thread Cert.ContextC.nD Cert.ContextC.τ).loc Cert.ContextC.main_arg4)
      ∧ r.2.mem ((c.tc : Thread Cert.ContextC.nD Cert.ContextC.τ).loc Cert.ContextC.main_arg5) = m ((c.tc : Thread Cert.ContextC.nD Cert.ContextC.τ).loc Cert.ContextC.main_arg5)
      ∧ r.2.mem ((c.tc : Thread Cert.ContextC.nD Cert.ContextC.τ).loc Cert.ContextC.main_arg6) = m ((c.tc : Thread Cert.ContextC.nD Cert.ContextC.τ).loc Cert.ContextC.main_arg6))
      ∧ r.2.sem = fun _ => 0)

def quiescent_ContextCIdeal [hContextCIdeal : Cert.ContextCIdeal.Facts] : Prop :=
  ∀ (m : (ℓ : Loc Cert.ContextCIdeal.nD Cert.ContextCIdeal.τ Cert.ContextCIdeal.sig) → Buf (Elt Ideal) ℓ) (g : Dev Cert.ContextCIdeal.nD → PrngReg), Pre_ContextCIdeal m →
    θ_run (Cert.ContextCIdeal.defs (F := Ideal)) (onTc (τ := Cert.ContextCIdeal.τ) (Cert.ContextCIdeal.main (F := Ideal))) ⟨m, fun _ => 0, g⟩ (fun r => (∀ c : Dev Cert.ContextCIdeal.nD,
      r.2.mem ((c.tc : Thread Cert.ContextCIdeal.nD Cert.ContextCIdeal.τ).loc Cert.ContextCIdeal.main_arg0) = m ((c.tc : Thread Cert.ContextCIdeal.nD Cert.ContextCIdeal.τ).loc Cert.ContextCIdeal.main_arg0)
      ∧ r.2.mem ((c.tc : Thread Cert.ContextCIdeal.nD Cert.ContextCIdeal.τ).loc Cert.ContextCIdeal.main_arg1) = m ((c.tc : Thread Cert.ContextCIdeal.nD Cert.ContextCIdeal.τ).loc Cert.ContextCIdeal.main_arg1)
      ∧ r.2.mem ((c.tc : Thread Cert.ContextCIdeal.nD Cert.ContextCIdeal.τ).loc Cert.ContextCIdeal.main_arg2) = m ((c.tc : Thread Cert.ContextCIdeal.nD Cert.ContextCIdeal.τ).loc Cert.ContextCIdeal.main_arg2)
      ∧ r.2.mem ((c.tc : Thread Cert.ContextCIdeal.nD Cert.ContextCIdeal.τ).loc Cert.ContextCIdeal.main_arg3) = m ((c.tc : Thread Cert.ContextCIdeal.nD Cert.ContextCIdeal.τ).loc Cert.ContextCIdeal.main_arg3)
      ∧ r.2.mem ((c.tc : Thread Cert.ContextCIdeal.nD Cert.ContextCIdeal.τ).loc Cert.ContextCIdeal.main_arg4) = m ((c.tc : Thread Cert.ContextCIdeal.nD Cert.ContextCIdeal.τ).loc Cert.ContextCIdeal.main_arg4)
      ∧ r.2.mem ((c.tc : Thread Cert.ContextCIdeal.nD Cert.ContextCIdeal.τ).loc Cert.ContextCIdeal.main_arg5) = m ((c.tc : Thread Cert.ContextCIdeal.nD Cert.ContextCIdeal.τ).loc Cert.ContextCIdeal.main_arg5)
      ∧ r.2.mem ((c.tc : Thread Cert.ContextCIdeal.nD Cert.ContextCIdeal.τ).loc Cert.ContextCIdeal.main_arg6) = m ((c.tc : Thread Cert.ContextCIdeal.nD Cert.ContextCIdeal.τ).loc Cert.ContextCIdeal.main_arg6))
      ∧ r.2.sem = fun _ => 0)

def quiescent_ContextCReferenceIdeal [hContextCReferenceIdeal : Cert.ContextCReferenceIdeal.Facts] : Prop :=
  ∀ (m : (ℓ : Loc Cert.ContextCReferenceIdeal.nD Cert.ContextCReferenceIdeal.τ Cert.ContextCReferenceIdeal.sig) → Buf (Elt Ideal) ℓ) (g : Dev Cert.ContextCReferenceIdeal.nD → PrngReg), Pre_ContextCReferenceIdeal m →
    θ_run (Cert.ContextCReferenceIdeal.defs (F := Ideal)) (onTc (τ := Cert.ContextCReferenceIdeal.τ) (Cert.ContextCReferenceIdeal.main (F := Ideal))) ⟨m, fun _ => 0, g⟩ (fun r => (∀ c : Dev Cert.ContextCReferenceIdeal.nD,
      r.2.mem ((c.tc : Thread Cert.ContextCReferenceIdeal.nD Cert.ContextCReferenceIdeal.τ).loc Cert.ContextCReferenceIdeal.main_arg0) = m ((c.tc : Thread Cert.ContextCReferenceIdeal.nD Cert.ContextCReferenceIdeal.τ).loc Cert.ContextCReferenceIdeal.main_arg0)
      ∧ r.2.mem ((c.tc : Thread Cert.ContextCReferenceIdeal.nD Cert.ContextCReferenceIdeal.τ).loc Cert.ContextCReferenceIdeal.main_arg1) = m ((c.tc : Thread Cert.ContextCReferenceIdeal.nD Cert.ContextCReferenceIdeal.τ).loc Cert.ContextCReferenceIdeal.main_arg1)
      ∧ r.2.mem ((c.tc : Thread Cert.ContextCReferenceIdeal.nD Cert.ContextCReferenceIdeal.τ).loc Cert.ContextCReferenceIdeal.main_arg2) = m ((c.tc : Thread Cert.ContextCReferenceIdeal.nD Cert.ContextCReferenceIdeal.τ).loc Cert.ContextCReferenceIdeal.main_arg2)
      ∧ r.2.mem ((c.tc : Thread Cert.ContextCReferenceIdeal.nD Cert.ContextCReferenceIdeal.τ).loc Cert.ContextCReferenceIdeal.main_arg3) = m ((c.tc : Thread Cert.ContextCReferenceIdeal.nD Cert.ContextCReferenceIdeal.τ).loc Cert.ContextCReferenceIdeal.main_arg3)
      ∧ r.2.mem ((c.tc : Thread Cert.ContextCReferenceIdeal.nD Cert.ContextCReferenceIdeal.τ).loc Cert.ContextCReferenceIdeal.main_arg4) = m ((c.tc : Thread Cert.ContextCReferenceIdeal.nD Cert.ContextCReferenceIdeal.τ).loc Cert.ContextCReferenceIdeal.main_arg4)
      ∧ r.2.mem ((c.tc : Thread Cert.ContextCReferenceIdeal.nD Cert.ContextCReferenceIdeal.τ).loc Cert.ContextCReferenceIdeal.main_arg5) = m ((c.tc : Thread Cert.ContextCReferenceIdeal.nD Cert.ContextCReferenceIdeal.τ).loc Cert.ContextCReferenceIdeal.main_arg5)
      ∧ r.2.mem ((c.tc : Thread Cert.ContextCReferenceIdeal.nD Cert.ContextCReferenceIdeal.τ).loc Cert.ContextCReferenceIdeal.main_arg6) = m ((c.tc : Thread Cert.ContextCReferenceIdeal.nD Cert.ContextCReferenceIdeal.τ).loc Cert.ContextCReferenceIdeal.main_arg6))
      ∧ r.2.sem = fun _ => 0)

def quiescent_ContextAB [hContextAB : Cert.ContextAB.Facts] : Prop :=
  ∀ (m : (ℓ : Loc Cert.ContextAB.nD Cert.ContextAB.τ Cert.ContextAB.sig) → Buf (Elt Bits) ℓ) (g : Dev Cert.ContextAB.nD → PrngReg), Pre_ContextAB m →
    θ_run (Cert.ContextAB.defs (F := Bits)) (onTc (τ := Cert.ContextAB.τ) (Cert.ContextAB.main (F := Bits))) ⟨m, fun _ => 0, g⟩ (fun r => (∀ c : Dev Cert.ContextAB.nD,
      r.2.mem ((c.tc : Thread Cert.ContextAB.nD Cert.ContextAB.τ).loc Cert.ContextAB.main_arg0) = m ((c.tc : Thread Cert.ContextAB.nD Cert.ContextAB.τ).loc Cert.ContextAB.main_arg0)
      ∧ r.2.mem ((c.tc : Thread Cert.ContextAB.nD Cert.ContextAB.τ).loc Cert.ContextAB.main_arg1) = m ((c.tc : Thread Cert.ContextAB.nD Cert.ContextAB.τ).loc Cert.ContextAB.main_arg1)
      ∧ r.2.mem ((c.tc : Thread Cert.ContextAB.nD Cert.ContextAB.τ).loc Cert.ContextAB.main_arg2) = m ((c.tc : Thread Cert.ContextAB.nD Cert.ContextAB.τ).loc Cert.ContextAB.main_arg2)
      ∧ r.2.mem ((c.tc : Thread Cert.ContextAB.nD Cert.ContextAB.τ).loc Cert.ContextAB.main_arg3) = m ((c.tc : Thread Cert.ContextAB.nD Cert.ContextAB.τ).loc Cert.ContextAB.main_arg3)
      ∧ r.2.mem ((c.tc : Thread Cert.ContextAB.nD Cert.ContextAB.τ).loc Cert.ContextAB.main_arg4) = m ((c.tc : Thread Cert.ContextAB.nD Cert.ContextAB.τ).loc Cert.ContextAB.main_arg4)
      ∧ r.2.mem ((c.tc : Thread Cert.ContextAB.nD Cert.ContextAB.τ).loc Cert.ContextAB.main_arg5) = m ((c.tc : Thread Cert.ContextAB.nD Cert.ContextAB.τ).loc Cert.ContextAB.main_arg5)
      ∧ r.2.mem ((c.tc : Thread Cert.ContextAB.nD Cert.ContextAB.τ).loc Cert.ContextAB.main_arg6) = m ((c.tc : Thread Cert.ContextAB.nD Cert.ContextAB.τ).loc Cert.ContextAB.main_arg6)
      ∧ r.2.mem ((c.tc : Thread Cert.ContextAB.nD Cert.ContextAB.τ).loc Cert.ContextAB.main_arg7) = m ((c.tc : Thread Cert.ContextAB.nD Cert.ContextAB.τ).loc Cert.ContextAB.main_arg7)
      ∧ r.2.mem ((c.tc : Thread Cert.ContextAB.nD Cert.ContextAB.τ).loc Cert.ContextAB.main_arg8) = m ((c.tc : Thread Cert.ContextAB.nD Cert.ContextAB.τ).loc Cert.ContextAB.main_arg8)
      ∧ r.2.mem ((c.tc : Thread Cert.ContextAB.nD Cert.ContextAB.τ).loc Cert.ContextAB.main_arg9) = m ((c.tc : Thread Cert.ContextAB.nD Cert.ContextAB.τ).loc Cert.ContextAB.main_arg9))
      ∧ r.2.sem = fun _ => 0)

def quiescent_ContextABIdeal [hContextABIdeal : Cert.ContextABIdeal.Facts] : Prop :=
  ∀ (m : (ℓ : Loc Cert.ContextABIdeal.nD Cert.ContextABIdeal.τ Cert.ContextABIdeal.sig) → Buf (Elt Ideal) ℓ) (g : Dev Cert.ContextABIdeal.nD → PrngReg), Pre_ContextABIdeal m →
    θ_run (Cert.ContextABIdeal.defs (F := Ideal)) (onTc (τ := Cert.ContextABIdeal.τ) (Cert.ContextABIdeal.main (F := Ideal))) ⟨m, fun _ => 0, g⟩ (fun r => (∀ c : Dev Cert.ContextABIdeal.nD,
      r.2.mem ((c.tc : Thread Cert.ContextABIdeal.nD Cert.ContextABIdeal.τ).loc Cert.ContextABIdeal.main_arg0) = m ((c.tc : Thread Cert.ContextABIdeal.nD Cert.ContextABIdeal.τ).loc Cert.ContextABIdeal.main_arg0)
      ∧ r.2.mem ((c.tc : Thread Cert.ContextABIdeal.nD Cert.ContextABIdeal.τ).loc Cert.ContextABIdeal.main_arg1) = m ((c.tc : Thread Cert.ContextABIdeal.nD Cert.ContextABIdeal.τ).loc Cert.ContextABIdeal.main_arg1)
      ∧ r.2.mem ((c.tc : Thread Cert.ContextABIdeal.nD Cert.ContextABIdeal.τ).loc Cert.ContextABIdeal.main_arg2) = m ((c.tc : Thread Cert.ContextABIdeal.nD Cert.ContextABIdeal.τ).loc Cert.ContextABIdeal.main_arg2)
      ∧ r.2.mem ((c.tc : Thread Cert.ContextABIdeal.nD Cert.ContextABIdeal.τ).loc Cert.ContextABIdeal.main_arg3) = m ((c.tc : Thread Cert.ContextABIdeal.nD Cert.ContextABIdeal.τ).loc Cert.ContextABIdeal.main_arg3)
      ∧ r.2.mem ((c.tc : Thread Cert.ContextABIdeal.nD Cert.ContextABIdeal.τ).loc Cert.ContextABIdeal.main_arg4) = m ((c.tc : Thread Cert.ContextABIdeal.nD Cert.ContextABIdeal.τ).loc Cert.ContextABIdeal.main_arg4)
      ∧ r.2.mem ((c.tc : Thread Cert.ContextABIdeal.nD Cert.ContextABIdeal.τ).loc Cert.ContextABIdeal.main_arg5) = m ((c.tc : Thread Cert.ContextABIdeal.nD Cert.ContextABIdeal.τ).loc Cert.ContextABIdeal.main_arg5)
      ∧ r.2.mem ((c.tc : Thread Cert.ContextABIdeal.nD Cert.ContextABIdeal.τ).loc Cert.ContextABIdeal.main_arg6) = m ((c.tc : Thread Cert.ContextABIdeal.nD Cert.ContextABIdeal.τ).loc Cert.ContextABIdeal.main_arg6)
      ∧ r.2.mem ((c.tc : Thread Cert.ContextABIdeal.nD Cert.ContextABIdeal.τ).loc Cert.ContextABIdeal.main_arg7) = m ((c.tc : Thread Cert.ContextABIdeal.nD Cert.ContextABIdeal.τ).loc Cert.ContextABIdeal.main_arg7)
      ∧ r.2.mem ((c.tc : Thread Cert.ContextABIdeal.nD Cert.ContextABIdeal.τ).loc Cert.ContextABIdeal.main_arg8) = m ((c.tc : Thread Cert.ContextABIdeal.nD Cert.ContextABIdeal.τ).loc Cert.ContextABIdeal.main_arg8)
      ∧ r.2.mem ((c.tc : Thread Cert.ContextABIdeal.nD Cert.ContextABIdeal.τ).loc Cert.ContextABIdeal.main_arg9) = m ((c.tc : Thread Cert.ContextABIdeal.nD Cert.ContextABIdeal.τ).loc Cert.ContextABIdeal.main_arg9))
      ∧ r.2.sem = fun _ => 0)

def quiescent_ContextABReferenceIdeal [hContextABReferenceIdeal : Cert.ContextABReferenceIdeal.Facts] : Prop :=
  ∀ (m : (ℓ : Loc Cert.ContextABReferenceIdeal.nD Cert.ContextABReferenceIdeal.τ Cert.ContextABReferenceIdeal.sig) → Buf (Elt Ideal) ℓ) (g : Dev Cert.ContextABReferenceIdeal.nD → PrngReg), Pre_ContextABReferenceIdeal m →
    θ_run (Cert.ContextABReferenceIdeal.defs (F := Ideal)) (onTc (τ := Cert.ContextABReferenceIdeal.τ) (Cert.ContextABReferenceIdeal.main (F := Ideal))) ⟨m, fun _ => 0, g⟩ (fun r => (∀ c : Dev Cert.ContextABReferenceIdeal.nD,
      r.2.mem ((c.tc : Thread Cert.ContextABReferenceIdeal.nD Cert.ContextABReferenceIdeal.τ).loc Cert.ContextABReferenceIdeal.main_arg0) = m ((c.tc : Thread Cert.ContextABReferenceIdeal.nD Cert.ContextABReferenceIdeal.τ).loc Cert.ContextABReferenceIdeal.main_arg0)
      ∧ r.2.mem ((c.tc : Thread Cert.ContextABReferenceIdeal.nD Cert.ContextABReferenceIdeal.τ).loc Cert.ContextABReferenceIdeal.main_arg1) = m ((c.tc : Thread Cert.ContextABReferenceIdeal.nD Cert.ContextABReferenceIdeal.τ).loc Cert.ContextABReferenceIdeal.main_arg1)
      ∧ r.2.mem ((c.tc : Thread Cert.ContextABReferenceIdeal.nD Cert.ContextABReferenceIdeal.τ).loc Cert.ContextABReferenceIdeal.main_arg2) = m ((c.tc : Thread Cert.ContextABReferenceIdeal.nD Cert.ContextABReferenceIdeal.τ).loc Cert.ContextABReferenceIdeal.main_arg2)
      ∧ r.2.mem ((c.tc : Thread Cert.ContextABReferenceIdeal.nD Cert.ContextABReferenceIdeal.τ).loc Cert.ContextABReferenceIdeal.main_arg3) = m ((c.tc : Thread Cert.ContextABReferenceIdeal.nD Cert.ContextABReferenceIdeal.τ).loc Cert.ContextABReferenceIdeal.main_arg3)
      ∧ r.2.mem ((c.tc : Thread Cert.ContextABReferenceIdeal.nD Cert.ContextABReferenceIdeal.τ).loc Cert.ContextABReferenceIdeal.main_arg4) = m ((c.tc : Thread Cert.ContextABReferenceIdeal.nD Cert.ContextABReferenceIdeal.τ).loc Cert.ContextABReferenceIdeal.main_arg4)
      ∧ r.2.mem ((c.tc : Thread Cert.ContextABReferenceIdeal.nD Cert.ContextABReferenceIdeal.τ).loc Cert.ContextABReferenceIdeal.main_arg5) = m ((c.tc : Thread Cert.ContextABReferenceIdeal.nD Cert.ContextABReferenceIdeal.τ).loc Cert.ContextABReferenceIdeal.main_arg5)
      ∧ r.2.mem ((c.tc : Thread Cert.ContextABReferenceIdeal.nD Cert.ContextABReferenceIdeal.τ).loc Cert.ContextABReferenceIdeal.main_arg6) = m ((c.tc : Thread Cert.ContextABReferenceIdeal.nD Cert.ContextABReferenceIdeal.τ).loc Cert.ContextABReferenceIdeal.main_arg6)
      ∧ r.2.mem ((c.tc : Thread Cert.ContextABReferenceIdeal.nD Cert.ContextABReferenceIdeal.τ).loc Cert.ContextABReferenceIdeal.main_arg7) = m ((c.tc : Thread Cert.ContextABReferenceIdeal.nD Cert.ContextABReferenceIdeal.τ).loc Cert.ContextABReferenceIdeal.main_arg7)
      ∧ r.2.mem ((c.tc : Thread Cert.ContextABReferenceIdeal.nD Cert.ContextABReferenceIdeal.τ).loc Cert.ContextABReferenceIdeal.main_arg8) = m ((c.tc : Thread Cert.ContextABReferenceIdeal.nD Cert.ContextABReferenceIdeal.τ).loc Cert.ContextABReferenceIdeal.main_arg8)
      ∧ r.2.mem ((c.tc : Thread Cert.ContextABReferenceIdeal.nD Cert.ContextABReferenceIdeal.τ).loc Cert.ContextABReferenceIdeal.main_arg9) = m ((c.tc : Thread Cert.ContextABReferenceIdeal.nD Cert.ContextABReferenceIdeal.τ).loc Cert.ContextABReferenceIdeal.main_arg9))
      ∧ r.2.sem = fun _ => 0)

def quiescent_Modulation [hModulation : Cert.Modulation.Facts] : Prop :=
  ∀ (m : (ℓ : Loc Cert.Modulation.nD Cert.Modulation.τ Cert.Modulation.sig) → Buf (Elt Bits) ℓ) (g : Dev Cert.Modulation.nD → PrngReg), Pre_Modulation m →
    θ_run (Cert.Modulation.defs (F := Bits)) (onTc (τ := Cert.Modulation.τ) (Cert.Modulation.main (F := Bits))) ⟨m, fun _ => 0, g⟩ (fun r => (∀ c : Dev Cert.Modulation.nD,
      r.2.mem ((c.tc : Thread Cert.Modulation.nD Cert.Modulation.τ).loc Cert.Modulation.main_arg0) = m ((c.tc : Thread Cert.Modulation.nD Cert.Modulation.τ).loc Cert.Modulation.main_arg0)
      ∧ r.2.mem ((c.tc : Thread Cert.Modulation.nD Cert.Modulation.τ).loc Cert.Modulation.main_arg1) = m ((c.tc : Thread Cert.Modulation.nD Cert.Modulation.τ).loc Cert.Modulation.main_arg1)
      ∧ r.2.mem ((c.tc : Thread Cert.Modulation.nD Cert.Modulation.τ).loc Cert.Modulation.main_arg2) = m ((c.tc : Thread Cert.Modulation.nD Cert.Modulation.τ).loc Cert.Modulation.main_arg2))
      ∧ r.2.sem = fun _ => 0)

def quiescent_ModulationIdeal [hModulationIdeal : Cert.ModulationIdeal.Facts] : Prop :=
  ∀ (m : (ℓ : Loc Cert.ModulationIdeal.nD Cert.ModulationIdeal.τ Cert.ModulationIdeal.sig) → Buf (Elt Ideal) ℓ) (g : Dev Cert.ModulationIdeal.nD → PrngReg), Pre_ModulationIdeal m →
    θ_run (Cert.ModulationIdeal.defs (F := Ideal)) (onTc (τ := Cert.ModulationIdeal.τ) (Cert.ModulationIdeal.main (F := Ideal))) ⟨m, fun _ => 0, g⟩ (fun r => (∀ c : Dev Cert.ModulationIdeal.nD,
      r.2.mem ((c.tc : Thread Cert.ModulationIdeal.nD Cert.ModulationIdeal.τ).loc Cert.ModulationIdeal.main_arg0) = m ((c.tc : Thread Cert.ModulationIdeal.nD Cert.ModulationIdeal.τ).loc Cert.ModulationIdeal.main_arg0)
      ∧ r.2.mem ((c.tc : Thread Cert.ModulationIdeal.nD Cert.ModulationIdeal.τ).loc Cert.ModulationIdeal.main_arg1) = m ((c.tc : Thread Cert.ModulationIdeal.nD Cert.ModulationIdeal.τ).loc Cert.ModulationIdeal.main_arg1)
      ∧ r.2.mem ((c.tc : Thread Cert.ModulationIdeal.nD Cert.ModulationIdeal.τ).loc Cert.ModulationIdeal.main_arg2) = m ((c.tc : Thread Cert.ModulationIdeal.nD Cert.ModulationIdeal.τ).loc Cert.ModulationIdeal.main_arg2))
      ∧ r.2.sem = fun _ => 0)

def quiescent_ModulationReferenceIdeal [hModulationReferenceIdeal : Cert.ModulationReferenceIdeal.Facts] : Prop :=
  ∀ (m : (ℓ : Loc Cert.ModulationReferenceIdeal.nD Cert.ModulationReferenceIdeal.τ Cert.ModulationReferenceIdeal.sig) → Buf (Elt Ideal) ℓ) (g : Dev Cert.ModulationReferenceIdeal.nD → PrngReg), Pre_ModulationReferenceIdeal m →
    θ_run (Cert.ModulationReferenceIdeal.defs (F := Ideal)) (onTc (τ := Cert.ModulationReferenceIdeal.τ) (Cert.ModulationReferenceIdeal.main (F := Ideal))) ⟨m, fun _ => 0, g⟩ (fun r => (∀ c : Dev Cert.ModulationReferenceIdeal.nD,
      r.2.mem ((c.tc : Thread Cert.ModulationReferenceIdeal.nD Cert.ModulationReferenceIdeal.τ).loc Cert.ModulationReferenceIdeal.main_arg0) = m ((c.tc : Thread Cert.ModulationReferenceIdeal.nD Cert.ModulationReferenceIdeal.τ).loc Cert.ModulationReferenceIdeal.main_arg0)
      ∧ r.2.mem ((c.tc : Thread Cert.ModulationReferenceIdeal.nD Cert.ModulationReferenceIdeal.τ).loc Cert.ModulationReferenceIdeal.main_arg1) = m ((c.tc : Thread Cert.ModulationReferenceIdeal.nD Cert.ModulationReferenceIdeal.τ).loc Cert.ModulationReferenceIdeal.main_arg1)
      ∧ r.2.mem ((c.tc : Thread Cert.ModulationReferenceIdeal.nD Cert.ModulationReferenceIdeal.τ).loc Cert.ModulationReferenceIdeal.main_arg2) = m ((c.tc : Thread Cert.ModulationReferenceIdeal.nD Cert.ModulationReferenceIdeal.τ).loc Cert.ModulationReferenceIdeal.main_arg2))
      ∧ r.2.sem = fun _ => 0)

def quiescent_ContextLatent [hContextLatent : Cert.ContextLatent.Facts] : Prop :=
  ∀ (m : (ℓ : Loc Cert.ContextLatent.nD Cert.ContextLatent.τ Cert.ContextLatent.sig) → Buf (Elt Bits) ℓ) (g : Dev Cert.ContextLatent.nD → PrngReg), Pre_ContextLatent m →
    θ_run (Cert.ContextLatent.defs (F := Bits)) (onTc (τ := Cert.ContextLatent.τ) (Cert.ContextLatent.main (F := Bits))) ⟨m, fun _ => 0, g⟩ (fun r => (∀ c : Dev Cert.ContextLatent.nD,
      r.2.mem ((c.tc : Thread Cert.ContextLatent.nD Cert.ContextLatent.τ).loc Cert.ContextLatent.main_arg0) = m ((c.tc : Thread Cert.ContextLatent.nD Cert.ContextLatent.τ).loc Cert.ContextLatent.main_arg0)
      ∧ r.2.mem ((c.tc : Thread Cert.ContextLatent.nD Cert.ContextLatent.τ).loc Cert.ContextLatent.main_arg1) = m ((c.tc : Thread Cert.ContextLatent.nD Cert.ContextLatent.τ).loc Cert.ContextLatent.main_arg1)
      ∧ r.2.mem ((c.tc : Thread Cert.ContextLatent.nD Cert.ContextLatent.τ).loc Cert.ContextLatent.main_arg2) = m ((c.tc : Thread Cert.ContextLatent.nD Cert.ContextLatent.τ).loc Cert.ContextLatent.main_arg2))
      ∧ r.2.sem = fun _ => 0)

def quiescent_ContextLatentIdeal [hContextLatentIdeal : Cert.ContextLatentIdeal.Facts] : Prop :=
  ∀ (m : (ℓ : Loc Cert.ContextLatentIdeal.nD Cert.ContextLatentIdeal.τ Cert.ContextLatentIdeal.sig) → Buf (Elt Ideal) ℓ) (g : Dev Cert.ContextLatentIdeal.nD → PrngReg), Pre_ContextLatentIdeal m →
    θ_run (Cert.ContextLatentIdeal.defs (F := Ideal)) (onTc (τ := Cert.ContextLatentIdeal.τ) (Cert.ContextLatentIdeal.main (F := Ideal))) ⟨m, fun _ => 0, g⟩ (fun r => (∀ c : Dev Cert.ContextLatentIdeal.nD,
      r.2.mem ((c.tc : Thread Cert.ContextLatentIdeal.nD Cert.ContextLatentIdeal.τ).loc Cert.ContextLatentIdeal.main_arg0) = m ((c.tc : Thread Cert.ContextLatentIdeal.nD Cert.ContextLatentIdeal.τ).loc Cert.ContextLatentIdeal.main_arg0)
      ∧ r.2.mem ((c.tc : Thread Cert.ContextLatentIdeal.nD Cert.ContextLatentIdeal.τ).loc Cert.ContextLatentIdeal.main_arg1) = m ((c.tc : Thread Cert.ContextLatentIdeal.nD Cert.ContextLatentIdeal.τ).loc Cert.ContextLatentIdeal.main_arg1)
      ∧ r.2.mem ((c.tc : Thread Cert.ContextLatentIdeal.nD Cert.ContextLatentIdeal.τ).loc Cert.ContextLatentIdeal.main_arg2) = m ((c.tc : Thread Cert.ContextLatentIdeal.nD Cert.ContextLatentIdeal.τ).loc Cert.ContextLatentIdeal.main_arg2))
      ∧ r.2.sem = fun _ => 0)

def quiescent_ContextLatentIdeal_pre_context_finite [hContextLatentIdeal : Cert.ContextLatentIdeal.Facts] [hPre_context_finite : Cert.Pre_context_finite.Facts] : Prop :=
  ∀ (m : (ℓ : Loc Cert.ContextLatentIdeal.nD Cert.ContextLatentIdeal.τ Cert.ContextLatentIdeal.sig) → Buf (Elt Ideal) ℓ) (g : Dev Cert.ContextLatentIdeal.nD → PrngReg), Pre_ContextLatentIdeal_context_finite m →
    θ_run (Cert.ContextLatentIdeal.defs (F := Ideal)) (onTc (τ := Cert.ContextLatentIdeal.τ) (Cert.ContextLatentIdeal.main (F := Ideal))) ⟨m, fun _ => 0, g⟩ (fun r => (∀ c : Dev Cert.ContextLatentIdeal.nD,
      r.2.mem ((c.tc : Thread Cert.ContextLatentIdeal.nD Cert.ContextLatentIdeal.τ).loc Cert.ContextLatentIdeal.main_arg0) = m ((c.tc : Thread Cert.ContextLatentIdeal.nD Cert.ContextLatentIdeal.τ).loc Cert.ContextLatentIdeal.main_arg0)
      ∧ r.2.mem ((c.tc : Thread Cert.ContextLatentIdeal.nD Cert.ContextLatentIdeal.τ).loc Cert.ContextLatentIdeal.main_arg1) = m ((c.tc : Thread Cert.ContextLatentIdeal.nD Cert.ContextLatentIdeal.τ).loc Cert.ContextLatentIdeal.main_arg1)
      ∧ r.2.mem ((c.tc : Thread Cert.ContextLatentIdeal.nD Cert.ContextLatentIdeal.τ).loc Cert.ContextLatentIdeal.main_arg2) = m ((c.tc : Thread Cert.ContextLatentIdeal.nD Cert.ContextLatentIdeal.τ).loc Cert.ContextLatentIdeal.main_arg2))
      ∧ r.2.sem = fun _ => 0)

def quiescent_ContextLatentReferenceIdeal [hContextLatentReferenceIdeal : Cert.ContextLatentReferenceIdeal.Facts] : Prop :=
  ∀ (m : (ℓ : Loc Cert.ContextLatentReferenceIdeal.nD Cert.ContextLatentReferenceIdeal.τ Cert.ContextLatentReferenceIdeal.sig) → Buf (Elt Ideal) ℓ) (g : Dev Cert.ContextLatentReferenceIdeal.nD → PrngReg), Pre_ContextLatentReferenceIdeal m →
    θ_run (Cert.ContextLatentReferenceIdeal.defs (F := Ideal)) (onTc (τ := Cert.ContextLatentReferenceIdeal.τ) (Cert.ContextLatentReferenceIdeal.main (F := Ideal))) ⟨m, fun _ => 0, g⟩ (fun r => (∀ c : Dev Cert.ContextLatentReferenceIdeal.nD,
      r.2.mem ((c.tc : Thread Cert.ContextLatentReferenceIdeal.nD Cert.ContextLatentReferenceIdeal.τ).loc Cert.ContextLatentReferenceIdeal.main_arg0) = m ((c.tc : Thread Cert.ContextLatentReferenceIdeal.nD Cert.ContextLatentReferenceIdeal.τ).loc Cert.ContextLatentReferenceIdeal.main_arg0)
      ∧ r.2.mem ((c.tc : Thread Cert.ContextLatentReferenceIdeal.nD Cert.ContextLatentReferenceIdeal.τ).loc Cert.ContextLatentReferenceIdeal.main_arg1) = m ((c.tc : Thread Cert.ContextLatentReferenceIdeal.nD Cert.ContextLatentReferenceIdeal.τ).loc Cert.ContextLatentReferenceIdeal.main_arg1)
      ∧ r.2.mem ((c.tc : Thread Cert.ContextLatentReferenceIdeal.nD Cert.ContextLatentReferenceIdeal.τ).loc Cert.ContextLatentReferenceIdeal.main_arg2) = m ((c.tc : Thread Cert.ContextLatentReferenceIdeal.nD Cert.ContextLatentReferenceIdeal.τ).loc Cert.ContextLatentReferenceIdeal.main_arg2))
      ∧ r.2.sem = fun _ => 0)

def quiescent_ContextLatentReferenceIdeal_pre_context_finite [hContextLatentReferenceIdeal : Cert.ContextLatentReferenceIdeal.Facts] [hPre_context_finite : Cert.Pre_context_finite.Facts] : Prop :=
  ∀ (m : (ℓ : Loc Cert.ContextLatentReferenceIdeal.nD Cert.ContextLatentReferenceIdeal.τ Cert.ContextLatentReferenceIdeal.sig) → Buf (Elt Ideal) ℓ) (g : Dev Cert.ContextLatentReferenceIdeal.nD → PrngReg), Pre_ContextLatentReferenceIdeal_context_finite m →
    θ_run (Cert.ContextLatentReferenceIdeal.defs (F := Ideal)) (onTc (τ := Cert.ContextLatentReferenceIdeal.τ) (Cert.ContextLatentReferenceIdeal.main (F := Ideal))) ⟨m, fun _ => 0, g⟩ (fun r => (∀ c : Dev Cert.ContextLatentReferenceIdeal.nD,
      r.2.mem ((c.tc : Thread Cert.ContextLatentReferenceIdeal.nD Cert.ContextLatentReferenceIdeal.τ).loc Cert.ContextLatentReferenceIdeal.main_arg0) = m ((c.tc : Thread Cert.ContextLatentReferenceIdeal.nD Cert.ContextLatentReferenceIdeal.τ).loc Cert.ContextLatentReferenceIdeal.main_arg0)
      ∧ r.2.mem ((c.tc : Thread Cert.ContextLatentReferenceIdeal.nD Cert.ContextLatentReferenceIdeal.τ).loc Cert.ContextLatentReferenceIdeal.main_arg1) = m ((c.tc : Thread Cert.ContextLatentReferenceIdeal.nD Cert.ContextLatentReferenceIdeal.τ).loc Cert.ContextLatentReferenceIdeal.main_arg1)
      ∧ r.2.mem ((c.tc : Thread Cert.ContextLatentReferenceIdeal.nD Cert.ContextLatentReferenceIdeal.τ).loc Cert.ContextLatentReferenceIdeal.main_arg2) = m ((c.tc : Thread Cert.ContextLatentReferenceIdeal.nD Cert.ContextLatentReferenceIdeal.τ).loc Cert.ContextLatentReferenceIdeal.main_arg2))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Experts_ExpertsIdeal : Prop :=
  True

def algebraic_ExpertsIdeal_ExpertsReferenceIdeal [hExpertsIdeal : Cert.ExpertsIdeal.Facts] [hExpertsReferenceIdeal : Cert.ExpertsReferenceIdeal.Facts] [hPre_expert_of_block : Cert.Pre_expert_of_block.Facts] : Prop :=
  ∀ (m : (ℓ : Loc Cert.ExpertsIdeal.nD Cert.ExpertsIdeal.τ Cert.ExpertsIdeal.sig) → Buf (Elt Ideal) ℓ) (g : Dev Cert.ExpertsIdeal.nD → PrngReg)
    (m' : (ℓ : Loc Cert.ExpertsReferenceIdeal.nD Cert.ExpertsReferenceIdeal.τ Cert.ExpertsReferenceIdeal.sig) → Buf (Elt Ideal) ℓ) (g' : Dev Cert.ExpertsReferenceIdeal.nD → PrngReg), Pre_ExpertsIdeal m →
    (∀ c : Dev Cert.ExpertsIdeal.nD,
      m' ((c.tc : Thread Cert.ExpertsReferenceIdeal.nD Cert.ExpertsReferenceIdeal.τ).loc Cert.ExpertsReferenceIdeal.main_arg0) = m ((c.tc : Thread Cert.ExpertsIdeal.nD Cert.ExpertsIdeal.τ).loc Cert.ExpertsIdeal.main_arg0)
      ∧ m' ((c.tc : Thread Cert.ExpertsReferenceIdeal.nD Cert.ExpertsReferenceIdeal.τ).loc Cert.ExpertsReferenceIdeal.main_arg1) = m ((c.tc : Thread Cert.ExpertsIdeal.nD Cert.ExpertsIdeal.τ).loc Cert.ExpertsIdeal.main_arg1)
      ∧ m' ((c.tc : Thread Cert.ExpertsReferenceIdeal.nD Cert.ExpertsReferenceIdeal.τ).loc Cert.ExpertsReferenceIdeal.main_arg2) = m ((c.tc : Thread Cert.ExpertsIdeal.nD Cert.ExpertsIdeal.τ).loc Cert.ExpertsIdeal.main_arg2)
      ∧ m' ((c.tc : Thread Cert.ExpertsReferenceIdeal.nD Cert.ExpertsReferenceIdeal.τ).loc Cert.ExpertsReferenceIdeal.main_arg3) = m ((c.tc : Thread Cert.ExpertsIdeal.nD Cert.ExpertsIdeal.τ).loc Cert.ExpertsIdeal.main_arg3)
      ∧ m' ((c.tc : Thread Cert.ExpertsReferenceIdeal.nD Cert.ExpertsReferenceIdeal.τ).loc Cert.ExpertsReferenceIdeal.main_arg4) = m ((c.tc : Thread Cert.ExpertsIdeal.nD Cert.ExpertsIdeal.τ).loc Cert.ExpertsIdeal.main_arg4)
      ∧ m' ((c.tc : Thread Cert.ExpertsReferenceIdeal.nD Cert.ExpertsReferenceIdeal.τ).loc Cert.ExpertsReferenceIdeal.main_arg5) = m ((c.tc : Thread Cert.ExpertsIdeal.nD Cert.ExpertsIdeal.τ).loc Cert.ExpertsIdeal.main_arg5)
      ∧ m' ((c.tc : Thread Cert.ExpertsReferenceIdeal.nD Cert.ExpertsReferenceIdeal.τ).loc Cert.ExpertsReferenceIdeal.main_arg6) = m ((c.tc : Thread Cert.ExpertsIdeal.nD Cert.ExpertsIdeal.τ).loc Cert.ExpertsIdeal.main_arg6)) →
    ∃ (v0 : (c : Dev Cert.ExpertsIdeal.nD) → Buf (Elt Ideal) ((c.tc : Thread Cert.ExpertsIdeal.nD Cert.ExpertsIdeal.τ).loc Cert.ExpertsIdeal.main_v0)),
      θ_run (Cert.ExpertsIdeal.defs (F := Ideal)) (onTc (τ := Cert.ExpertsIdeal.τ) (Cert.ExpertsIdeal.main (F := Ideal))) ⟨m, fun _ => 0, g⟩ (fun r => ∀ c : Dev Cert.ExpertsIdeal.nD,
          r.2.mem ((c.tc : Thread Cert.ExpertsIdeal.nD Cert.ExpertsIdeal.τ).loc Cert.ExpertsIdeal.main_v0) = v0 c
          ∧ r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
          ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
          ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
          ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
          ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
          ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5)
          ∧ r.2.mem ((c.tc : Thread Cert.ExpertsIdeal.nD Cert.ExpertsIdeal.τ).loc Cert.ExpertsIdeal.main_arg6) = m ((c.tc : Thread Cert.ExpertsIdeal.nD Cert.ExpertsIdeal.τ).loc Cert.ExpertsIdeal.main_arg6))
      ∧ θ_run (Cert.ExpertsReferenceIdeal.defs (F := Ideal)) (onTc (τ := Cert.ExpertsReferenceIdeal.τ) (Cert.ExpertsReferenceIdeal.main (F := Ideal))) ⟨m', fun _ => 0, g'⟩ (fun r => ∀ c : Dev Cert.ExpertsReferenceIdeal.nD,
          r.2.mem ((c.tc : Thread Cert.ExpertsReferenceIdeal.nD Cert.ExpertsReferenceIdeal.τ).loc Cert.ExpertsReferenceIdeal.main_v63) = v0 c
          ∧ r.2.mem ((c.tc : Thread Cert.ExpertsReferenceIdeal.nD Cert.ExpertsReferenceIdeal.τ).loc Cert.ExpertsReferenceIdeal.main_arg0) = m' ((c.tc : Thread Cert.ExpertsReferenceIdeal.nD Cert.ExpertsReferenceIdeal.τ).loc Cert.ExpertsReferenceIdeal.main_arg0)
          ∧ r.2.mem ((c.tc : Thread Cert.ExpertsReferenceIdeal.nD Cert.ExpertsReferenceIdeal.τ).loc Cert.ExpertsReferenceIdeal.main_arg1) = m' ((c.tc : Thread Cert.ExpertsReferenceIdeal.nD Cert.ExpertsReferenceIdeal.τ).loc Cert.ExpertsReferenceIdeal.main_arg1)
          ∧ r.2.mem ((c.tc : Thread Cert.ExpertsReferenceIdeal.nD Cert.ExpertsReferenceIdeal.τ).loc Cert.ExpertsReferenceIdeal.main_arg2) = m' ((c.tc : Thread Cert.ExpertsReferenceIdeal.nD Cert.ExpertsReferenceIdeal.τ).loc Cert.ExpertsReferenceIdeal.main_arg2)
          ∧ r.2.mem ((c.tc : Thread Cert.ExpertsReferenceIdeal.nD Cert.ExpertsReferenceIdeal.τ).loc Cert.ExpertsReferenceIdeal.main_arg3) = m' ((c.tc : Thread Cert.ExpertsReferenceIdeal.nD Cert.ExpertsReferenceIdeal.τ).loc Cert.ExpertsReferenceIdeal.main_arg3)
          ∧ r.2.mem ((c.tc : Thread Cert.ExpertsReferenceIdeal.nD Cert.ExpertsReferenceIdeal.τ).loc Cert.ExpertsReferenceIdeal.main_arg4) = m' ((c.tc : Thread Cert.ExpertsReferenceIdeal.nD Cert.ExpertsReferenceIdeal.τ).loc Cert.ExpertsReferenceIdeal.main_arg4)
          ∧ r.2.mem ((c.tc : Thread Cert.ExpertsReferenceIdeal.nD Cert.ExpertsReferenceIdeal.τ).loc Cert.ExpertsReferenceIdeal.main_arg5) = m' ((c.tc : Thread Cert.ExpertsReferenceIdeal.nD Cert.ExpertsReferenceIdeal.τ).loc Cert.ExpertsReferenceIdeal.main_arg5)
          ∧ r.2.mem ((c.tc : Thread Cert.ExpertsReferenceIdeal.nD Cert.ExpertsReferenceIdeal.τ).loc Cert.ExpertsReferenceIdeal.main_arg6) = m' ((c.tc : Thread Cert.ExpertsReferenceIdeal.nD Cert.ExpertsReferenceIdeal.τ).loc Cert.ExpertsReferenceIdeal.main_arg6))

def preserves_EvenExperts_EvenExpertsIdeal : Prop :=
  True

def algebraic_EvenExpertsIdeal_EvenExpertsReferenceIdeal [hEvenExpertsIdeal : Cert.EvenExpertsIdeal.Facts] [hEvenExpertsReferenceIdeal : Cert.EvenExpertsReferenceIdeal.Facts] [hPre_expert_of_even_block : Cert.Pre_expert_of_even_block.Facts] : Prop :=
  ∀ (m : (ℓ : Loc Cert.EvenExpertsIdeal.nD Cert.EvenExpertsIdeal.τ Cert.EvenExpertsIdeal.sig) → Buf (Elt Ideal) ℓ) (g : Dev Cert.EvenExpertsIdeal.nD → PrngReg)
    (m' : (ℓ : Loc Cert.EvenExpertsReferenceIdeal.nD Cert.EvenExpertsReferenceIdeal.τ Cert.EvenExpertsReferenceIdeal.sig) → Buf (Elt Ideal) ℓ) (g' : Dev Cert.EvenExpertsReferenceIdeal.nD → PrngReg), Pre_EvenExpertsIdeal m →
    (∀ c : Dev Cert.EvenExpertsIdeal.nD,
      m' ((c.tc : Thread Cert.EvenExpertsReferenceIdeal.nD Cert.EvenExpertsReferenceIdeal.τ).loc Cert.EvenExpertsReferenceIdeal.main_arg0) = m ((c.tc : Thread Cert.EvenExpertsIdeal.nD Cert.EvenExpertsIdeal.τ).loc Cert.EvenExpertsIdeal.main_arg0)
      ∧ m' ((c.tc : Thread Cert.EvenExpertsReferenceIdeal.nD Cert.EvenExpertsReferenceIdeal.τ).loc Cert.EvenExpertsReferenceIdeal.main_arg1) = m ((c.tc : Thread Cert.EvenExpertsIdeal.nD Cert.EvenExpertsIdeal.τ).loc Cert.EvenExpertsIdeal.main_arg1)
      ∧ m' ((c.tc : Thread Cert.EvenExpertsReferenceIdeal.nD Cert.EvenExpertsReferenceIdeal.τ).loc Cert.EvenExpertsReferenceIdeal.main_arg2) = m ((c.tc : Thread Cert.EvenExpertsIdeal.nD Cert.EvenExpertsIdeal.τ).loc Cert.EvenExpertsIdeal.main_arg2)
      ∧ m' ((c.tc : Thread Cert.EvenExpertsReferenceIdeal.nD Cert.EvenExpertsReferenceIdeal.τ).loc Cert.EvenExpertsReferenceIdeal.main_arg3) = m ((c.tc : Thread Cert.EvenExpertsIdeal.nD Cert.EvenExpertsIdeal.τ).loc Cert.EvenExpertsIdeal.main_arg3)
      ∧ m' ((c.tc : Thread Cert.EvenExpertsReferenceIdeal.nD Cert.EvenExpertsReferenceIdeal.τ).loc Cert.EvenExpertsReferenceIdeal.main_arg4) = m ((c.tc : Thread Cert.EvenExpertsIdeal.nD Cert.EvenExpertsIdeal.τ).loc Cert.EvenExpertsIdeal.main_arg4)
      ∧ m' ((c.tc : Thread Cert.EvenExpertsReferenceIdeal.nD Cert.EvenExpertsReferenceIdeal.τ).loc Cert.EvenExpertsReferenceIdeal.main_arg5) = m ((c.tc : Thread Cert.EvenExpertsIdeal.nD Cert.EvenExpertsIdeal.τ).loc Cert.EvenExpertsIdeal.main_arg5)
      ∧ m' ((c.tc : Thread Cert.EvenExpertsReferenceIdeal.nD Cert.EvenExpertsReferenceIdeal.τ).loc Cert.EvenExpertsReferenceIdeal.main_arg6) = m ((c.tc : Thread Cert.EvenExpertsIdeal.nD Cert.EvenExpertsIdeal.τ).loc Cert.EvenExpertsIdeal.main_arg6)) →
    ∃ (v0 : (c : Dev Cert.EvenExpertsIdeal.nD) → Buf (Elt Ideal) ((c.tc : Thread Cert.EvenExpertsIdeal.nD Cert.EvenExpertsIdeal.τ).loc Cert.EvenExpertsIdeal.main_v0)),
      θ_run (Cert.EvenExpertsIdeal.defs (F := Ideal)) (onTc (τ := Cert.EvenExpertsIdeal.τ) (Cert.EvenExpertsIdeal.main (F := Ideal))) ⟨m, fun _ => 0, g⟩ (fun r => ∀ c : Dev Cert.EvenExpertsIdeal.nD,
          r.2.mem ((c.tc : Thread Cert.EvenExpertsIdeal.nD Cert.EvenExpertsIdeal.τ).loc Cert.EvenExpertsIdeal.main_v0) = v0 c
          ∧ r.2.mem ((c.tc : Thread Cert.EvenExpertsIdeal.nD Cert.EvenExpertsIdeal.τ).loc Cert.EvenExpertsIdeal.main_arg0) = m ((c.tc : Thread Cert.EvenExpertsIdeal.nD Cert.EvenExpertsIdeal.τ).loc Cert.EvenExpertsIdeal.main_arg0)
          ∧ r.2.mem ((c.tc : Thread Cert.EvenExpertsIdeal.nD Cert.EvenExpertsIdeal.τ).loc Cert.EvenExpertsIdeal.main_arg1) = m ((c.tc : Thread Cert.EvenExpertsIdeal.nD Cert.EvenExpertsIdeal.τ).loc Cert.EvenExpertsIdeal.main_arg1)
          ∧ r.2.mem ((c.tc : Thread Cert.EvenExpertsIdeal.nD Cert.EvenExpertsIdeal.τ).loc Cert.EvenExpertsIdeal.main_arg2) = m ((c.tc : Thread Cert.EvenExpertsIdeal.nD Cert.EvenExpertsIdeal.τ).loc Cert.EvenExpertsIdeal.main_arg2)
          ∧ r.2.mem ((c.tc : Thread Cert.EvenExpertsIdeal.nD Cert.EvenExpertsIdeal.τ).loc Cert.EvenExpertsIdeal.main_arg3) = m ((c.tc : Thread Cert.EvenExpertsIdeal.nD Cert.EvenExpertsIdeal.τ).loc Cert.EvenExpertsIdeal.main_arg3)
          ∧ r.2.mem ((c.tc : Thread Cert.EvenExpertsIdeal.nD Cert.EvenExpertsIdeal.τ).loc Cert.EvenExpertsIdeal.main_arg4) = m ((c.tc : Thread Cert.EvenExpertsIdeal.nD Cert.EvenExpertsIdeal.τ).loc Cert.EvenExpertsIdeal.main_arg4)
          ∧ r.2.mem ((c.tc : Thread Cert.EvenExpertsIdeal.nD Cert.EvenExpertsIdeal.τ).loc Cert.EvenExpertsIdeal.main_arg5) = m ((c.tc : Thread Cert.EvenExpertsIdeal.nD Cert.EvenExpertsIdeal.τ).loc Cert.EvenExpertsIdeal.main_arg5)
          ∧ r.2.mem ((c.tc : Thread Cert.EvenExpertsIdeal.nD Cert.EvenExpertsIdeal.τ).loc Cert.EvenExpertsIdeal.main_arg6) = m ((c.tc : Thread Cert.EvenExpertsIdeal.nD Cert.EvenExpertsIdeal.τ).loc Cert.EvenExpertsIdeal.main_arg6))
      ∧ θ_run (Cert.EvenExpertsReferenceIdeal.defs (F := Ideal)) (onTc (τ := Cert.EvenExpertsReferenceIdeal.τ) (Cert.EvenExpertsReferenceIdeal.main (F := Ideal))) ⟨m', fun _ => 0, g'⟩ (fun r => ∀ c : Dev Cert.EvenExpertsReferenceIdeal.nD,
          r.2.mem ((c.tc : Thread Cert.EvenExpertsReferenceIdeal.nD Cert.EvenExpertsReferenceIdeal.τ).loc Cert.EvenExpertsReferenceIdeal.main_v63) = v0 c
          ∧ r.2.mem ((c.tc : Thread Cert.EvenExpertsReferenceIdeal.nD Cert.EvenExpertsReferenceIdeal.τ).loc Cert.EvenExpertsReferenceIdeal.main_arg0) = m' ((c.tc : Thread Cert.EvenExpertsReferenceIdeal.nD Cert.EvenExpertsReferenceIdeal.τ).loc Cert.EvenExpertsReferenceIdeal.main_arg0)
          ∧ r.2.mem ((c.tc : Thread Cert.EvenExpertsReferenceIdeal.nD Cert.EvenExpertsReferenceIdeal.τ).loc Cert.EvenExpertsReferenceIdeal.main_arg1) = m' ((c.tc : Thread Cert.EvenExpertsReferenceIdeal.nD Cert.EvenExpertsReferenceIdeal.τ).loc Cert.EvenExpertsReferenceIdeal.main_arg1)
          ∧ r.2.mem ((c.tc : Thread Cert.EvenExpertsReferenceIdeal.nD Cert.EvenExpertsReferenceIdeal.τ).loc Cert.EvenExpertsReferenceIdeal.main_arg2) = m' ((c.tc : Thread Cert.EvenExpertsReferenceIdeal.nD Cert.EvenExpertsReferenceIdeal.τ).loc Cert.EvenExpertsReferenceIdeal.main_arg2)
          ∧ r.2.mem ((c.tc : Thread Cert.EvenExpertsReferenceIdeal.nD Cert.EvenExpertsReferenceIdeal.τ).loc Cert.EvenExpertsReferenceIdeal.main_arg3) = m' ((c.tc : Thread Cert.EvenExpertsReferenceIdeal.nD Cert.EvenExpertsReferenceIdeal.τ).loc Cert.EvenExpertsReferenceIdeal.main_arg3)
          ∧ r.2.mem ((c.tc : Thread Cert.EvenExpertsReferenceIdeal.nD Cert.EvenExpertsReferenceIdeal.τ).loc Cert.EvenExpertsReferenceIdeal.main_arg4) = m' ((c.tc : Thread Cert.EvenExpertsReferenceIdeal.nD Cert.EvenExpertsReferenceIdeal.τ).loc Cert.EvenExpertsReferenceIdeal.main_arg4)
          ∧ r.2.mem ((c.tc : Thread Cert.EvenExpertsReferenceIdeal.nD Cert.EvenExpertsReferenceIdeal.τ).loc Cert.EvenExpertsReferenceIdeal.main_arg5) = m' ((c.tc : Thread Cert.EvenExpertsReferenceIdeal.nD Cert.EvenExpertsReferenceIdeal.τ).loc Cert.EvenExpertsReferenceIdeal.main_arg5)
          ∧ r.2.mem ((c.tc : Thread Cert.EvenExpertsReferenceIdeal.nD Cert.EvenExpertsReferenceIdeal.τ).loc Cert.EvenExpertsReferenceIdeal.main_arg6) = m' ((c.tc : Thread Cert.EvenExpertsReferenceIdeal.nD Cert.EvenExpertsReferenceIdeal.τ).loc Cert.EvenExpertsReferenceIdeal.main_arg6))

def preserves_Latent_LatentIdeal : Prop :=
  True

def algebraic_LatentIdeal_LatentReferenceIdeal_pre_latent_finite [hLatentIdeal : Cert.LatentIdeal.Facts] [hLatentReferenceIdeal : Cert.LatentReferenceIdeal.Facts] [hPre_latent_finite : Cert.Pre_latent_finite.Facts] : Prop :=
  ∀ (m : (ℓ : Loc Cert.LatentIdeal.nD Cert.LatentIdeal.τ Cert.LatentIdeal.sig) → Buf (Elt Ideal) ℓ) (g : Dev Cert.LatentIdeal.nD → PrngReg)
    (m' : (ℓ : Loc Cert.LatentReferenceIdeal.nD Cert.LatentReferenceIdeal.τ Cert.LatentReferenceIdeal.sig) → Buf (Elt Ideal) ℓ) (g' : Dev Cert.LatentReferenceIdeal.nD → PrngReg), Pre_LatentIdeal_latent_finite m →
    (∀ c : Dev Cert.LatentIdeal.nD,
      m' ((c.tc : Thread Cert.LatentReferenceIdeal.nD Cert.LatentReferenceIdeal.τ).loc Cert.LatentReferenceIdeal.main_arg0) = m ((c.tc : Thread Cert.LatentIdeal.nD Cert.LatentIdeal.τ).loc Cert.LatentIdeal.main_arg0)
      ∧ m' ((c.tc : Thread Cert.LatentReferenceIdeal.nD Cert.LatentReferenceIdeal.τ).loc Cert.LatentReferenceIdeal.main_arg1) = m ((c.tc : Thread Cert.LatentIdeal.nD Cert.LatentIdeal.τ).loc Cert.LatentIdeal.main_arg1)
      ∧ m' ((c.tc : Thread Cert.LatentReferenceIdeal.nD Cert.LatentReferenceIdeal.τ).loc Cert.LatentReferenceIdeal.main_arg2) = m ((c.tc : Thread Cert.LatentIdeal.nD Cert.LatentIdeal.τ).loc Cert.LatentIdeal.main_arg2)
      ∧ m' ((c.tc : Thread Cert.LatentReferenceIdeal.nD Cert.LatentReferenceIdeal.τ).loc Cert.LatentReferenceIdeal.main_arg3) = m ((c.tc : Thread Cert.LatentIdeal.nD Cert.LatentIdeal.τ).loc Cert.LatentIdeal.main_arg3)
      ∧ m' ((c.tc : Thread Cert.LatentReferenceIdeal.nD Cert.LatentReferenceIdeal.τ).loc Cert.LatentReferenceIdeal.main_arg4) = m ((c.tc : Thread Cert.LatentIdeal.nD Cert.LatentIdeal.τ).loc Cert.LatentIdeal.main_arg4)) →
    ∃ (v0 : (c : Dev Cert.LatentIdeal.nD) → Buf (Elt Ideal) ((c.tc : Thread Cert.LatentIdeal.nD Cert.LatentIdeal.τ).loc Cert.LatentIdeal.main_v0)),
      θ_run (Cert.LatentIdeal.defs (F := Ideal)) (onTc (τ := Cert.LatentIdeal.τ) (Cert.LatentIdeal.main (F := Ideal))) ⟨m, fun _ => 0, g⟩ (fun r => ∀ c : Dev Cert.LatentIdeal.nD,
          r.2.mem ((c.tc : Thread Cert.LatentIdeal.nD Cert.LatentIdeal.τ).loc Cert.LatentIdeal.main_v0) = v0 c
          ∧ r.2.mem ((c.tc : Thread Cert.LatentIdeal.nD Cert.LatentIdeal.τ).loc Cert.LatentIdeal.main_arg0) = m ((c.tc : Thread Cert.LatentIdeal.nD Cert.LatentIdeal.τ).loc Cert.LatentIdeal.main_arg0)
          ∧ r.2.mem ((c.tc : Thread Cert.LatentIdeal.nD Cert.LatentIdeal.τ).loc Cert.LatentIdeal.main_arg1) = m ((c.tc : Thread Cert.LatentIdeal.nD Cert.LatentIdeal.τ).loc Cert.LatentIdeal.main_arg1)
          ∧ r.2.mem ((c.tc : Thread Cert.LatentIdeal.nD Cert.LatentIdeal.τ).loc Cert.LatentIdeal.main_arg2) = m ((c.tc : Thread Cert.LatentIdeal.nD Cert.LatentIdeal.τ).loc Cert.LatentIdeal.main_arg2)
          ∧ r.2.mem ((c.tc : Thread Cert.LatentIdeal.nD Cert.LatentIdeal.τ).loc Cert.LatentIdeal.main_arg3) = m ((c.tc : Thread Cert.LatentIdeal.nD Cert.LatentIdeal.τ).loc Cert.LatentIdeal.main_arg3)
          ∧ r.2.mem ((c.tc : Thread Cert.LatentIdeal.nD Cert.LatentIdeal.τ).loc Cert.LatentIdeal.main_arg4) = m ((c.tc : Thread Cert.LatentIdeal.nD Cert.LatentIdeal.τ).loc Cert.LatentIdeal.main_arg4))
      ∧ θ_run (Cert.LatentReferenceIdeal.defs (F := Ideal)) (onTc (τ := Cert.LatentReferenceIdeal.τ) (Cert.LatentReferenceIdeal.main (F := Ideal))) ⟨m', fun _ => 0, g'⟩ (fun r => ∀ c : Dev Cert.LatentReferenceIdeal.nD,
          r.2.mem ((c.tc : Thread Cert.LatentReferenceIdeal.nD Cert.LatentReferenceIdeal.τ).loc Cert.LatentReferenceIdeal.main_v36) = v0 c
          ∧ r.2.mem ((c.tc : Thread Cert.LatentReferenceIdeal.nD Cert.LatentReferenceIdeal.τ).loc Cert.LatentReferenceIdeal.main_arg0) = m' ((c.tc : Thread Cert.LatentReferenceIdeal.nD Cert.LatentReferenceIdeal.τ).loc Cert.LatentReferenceIdeal.main_arg0)
          ∧ r.2.mem ((c.tc : Thread Cert.LatentReferenceIdeal.nD Cert.LatentReferenceIdeal.τ).loc Cert.LatentReferenceIdeal.main_arg1) = m' ((c.tc : Thread Cert.LatentReferenceIdeal.nD Cert.LatentReferenceIdeal.τ).loc Cert.LatentReferenceIdeal.main_arg1)
          ∧ r.2.mem ((c.tc : Thread Cert.LatentReferenceIdeal.nD Cert.LatentReferenceIdeal.τ).loc Cert.LatentReferenceIdeal.main_arg2) = m' ((c.tc : Thread Cert.LatentReferenceIdeal.nD Cert.LatentReferenceIdeal.τ).loc Cert.LatentReferenceIdeal.main_arg2)
          ∧ r.2.mem ((c.tc : Thread Cert.LatentReferenceIdeal.nD Cert.LatentReferenceIdeal.τ).loc Cert.LatentReferenceIdeal.main_arg3) = m' ((c.tc : Thread Cert.LatentReferenceIdeal.nD Cert.LatentReferenceIdeal.τ).loc Cert.LatentReferenceIdeal.main_arg3)
          ∧ r.2.mem ((c.tc : Thread Cert.LatentReferenceIdeal.nD Cert.LatentReferenceIdeal.τ).loc Cert.LatentReferenceIdeal.main_arg4) = m' ((c.tc : Thread Cert.LatentReferenceIdeal.nD Cert.LatentReferenceIdeal.τ).loc Cert.LatentReferenceIdeal.main_arg4))

def preserves_ProjectC_ProjectCIdeal : Prop :=
  True

def algebraic_ProjectCIdeal_ProjectCReferenceIdeal [hProjectCIdeal : Cert.ProjectCIdeal.Facts] [hProjectCReferenceIdeal : Cert.ProjectCReferenceIdeal.Facts] : Prop :=
  ∀ (m : (ℓ : Loc Cert.ProjectCIdeal.nD Cert.ProjectCIdeal.τ Cert.ProjectCIdeal.sig) → Buf (Elt Ideal) ℓ) (g : Dev Cert.ProjectCIdeal.nD → PrngReg)
    (m' : (ℓ : Loc Cert.ProjectCReferenceIdeal.nD Cert.ProjectCReferenceIdeal.τ Cert.ProjectCReferenceIdeal.sig) → Buf (Elt Ideal) ℓ) (g' : Dev Cert.ProjectCReferenceIdeal.nD → PrngReg), Pre_ProjectCIdeal m →
    (∀ c : Dev Cert.ProjectCIdeal.nD,
      m' ((c.tc : Thread Cert.ProjectCReferenceIdeal.nD Cert.ProjectCReferenceIdeal.τ).loc Cert.ProjectCReferenceIdeal.main_arg0) = m ((c.tc : Thread Cert.ProjectCIdeal.nD Cert.ProjectCIdeal.τ).loc Cert.ProjectCIdeal.main_arg0)
      ∧ m' ((c.tc : Thread Cert.ProjectCReferenceIdeal.nD Cert.ProjectCReferenceIdeal.τ).loc Cert.ProjectCReferenceIdeal.main_arg1) = m ((c.tc : Thread Cert.ProjectCIdeal.nD Cert.ProjectCIdeal.τ).loc Cert.ProjectCIdeal.main_arg1)
      ∧ m' ((c.tc : Thread Cert.ProjectCReferenceIdeal.nD Cert.ProjectCReferenceIdeal.τ).loc Cert.ProjectCReferenceIdeal.main_arg2) = m ((c.tc : Thread Cert.ProjectCIdeal.nD Cert.ProjectCIdeal.τ).loc Cert.ProjectCIdeal.main_arg2)
      ∧ m' ((c.tc : Thread Cert.ProjectCReferenceIdeal.nD Cert.ProjectCReferenceIdeal.τ).loc Cert.ProjectCReferenceIdeal.main_arg3) = m ((c.tc : Thread Cert.ProjectCIdeal.nD Cert.ProjectCIdeal.τ).loc Cert.ProjectCIdeal.main_arg3)
      ∧ m' ((c.tc : Thread Cert.ProjectCReferenceIdeal.nD Cert.ProjectCReferenceIdeal.τ).loc Cert.ProjectCReferenceIdeal.main_arg4) = m ((c.tc : Thread Cert.ProjectCIdeal.nD Cert.ProjectCIdeal.τ).loc Cert.ProjectCIdeal.main_arg4)
      ∧ m' ((c.tc : Thread Cert.ProjectCReferenceIdeal.nD Cert.ProjectCReferenceIdeal.τ).loc Cert.ProjectCReferenceIdeal.main_arg5) = m ((c.tc : Thread Cert.ProjectCIdeal.nD Cert.ProjectCIdeal.τ).loc Cert.ProjectCIdeal.main_arg5)
      ∧ m' ((c.tc : Thread Cert.ProjectCReferenceIdeal.nD Cert.ProjectCReferenceIdeal.τ).loc Cert.ProjectCReferenceIdeal.main_arg6) = m ((c.tc : Thread Cert.ProjectCIdeal.nD Cert.ProjectCIdeal.τ).loc Cert.ProjectCIdeal.main_arg6)) →
    ∃ (v0 : (c : Dev Cert.ProjectCIdeal.nD) → Buf (Elt Ideal) ((c.tc : Thread Cert.ProjectCIdeal.nD Cert.ProjectCIdeal.τ).loc Cert.ProjectCIdeal.main_v31_0)) (v1 : (c : Dev Cert.ProjectCIdeal.nD) → Buf (Elt Ideal) ((c.tc : Thread Cert.ProjectCIdeal.nD Cert.ProjectCIdeal.τ).loc Cert.ProjectCIdeal.main_v31_1)) (v2 : (c : Dev Cert.ProjectCIdeal.nD) → Buf (Elt Ideal) ((c.tc : Thread Cert.ProjectCIdeal.nD Cert.ProjectCIdeal.τ).loc Cert.ProjectCIdeal.main_v31_2)),
      θ_run (Cert.ProjectCIdeal.defs (F := Ideal)) (onTc (τ := Cert.ProjectCIdeal.τ) (Cert.ProjectCIdeal.main (F := Ideal))) ⟨m, fun _ => 0, g⟩ (fun r => ∀ c : Dev Cert.ProjectCIdeal.nD,
          r.2.mem ((c.tc : Thread Cert.ProjectCIdeal.nD Cert.ProjectCIdeal.τ).loc Cert.ProjectCIdeal.main_v31_0) = v0 c
          ∧ r.2.mem ((c.tc : Thread Cert.ProjectCIdeal.nD Cert.ProjectCIdeal.τ).loc Cert.ProjectCIdeal.main_v31_1) = v1 c
          ∧ r.2.mem ((c.tc : Thread Cert.ProjectCIdeal.nD Cert.ProjectCIdeal.τ).loc Cert.ProjectCIdeal.main_v31_2) = v2 c
          ∧ r.2.mem ((c.tc : Thread Cert.ProjectCIdeal.nD Cert.ProjectCIdeal.τ).loc Cert.ProjectCIdeal.main_arg0) = m ((c.tc : Thread Cert.ProjectCIdeal.nD Cert.ProjectCIdeal.τ).loc Cert.ProjectCIdeal.main_arg0)
          ∧ r.2.mem ((c.tc : Thread Cert.ProjectCIdeal.nD Cert.ProjectCIdeal.τ).loc Cert.ProjectCIdeal.main_arg1) = m ((c.tc : Thread Cert.ProjectCIdeal.nD Cert.ProjectCIdeal.τ).loc Cert.ProjectCIdeal.main_arg1)
          ∧ r.2.mem ((c.tc : Thread Cert.ProjectCIdeal.nD Cert.ProjectCIdeal.τ).loc Cert.ProjectCIdeal.main_arg2) = m ((c.tc : Thread Cert.ProjectCIdeal.nD Cert.ProjectCIdeal.τ).loc Cert.ProjectCIdeal.main_arg2)
          ∧ r.2.mem ((c.tc : Thread Cert.ProjectCIdeal.nD Cert.ProjectCIdeal.τ).loc Cert.ProjectCIdeal.main_arg3) = m ((c.tc : Thread Cert.ProjectCIdeal.nD Cert.ProjectCIdeal.τ).loc Cert.ProjectCIdeal.main_arg3)
          ∧ r.2.mem ((c.tc : Thread Cert.ProjectCIdeal.nD Cert.ProjectCIdeal.τ).loc Cert.ProjectCIdeal.main_arg4) = m ((c.tc : Thread Cert.ProjectCIdeal.nD Cert.ProjectCIdeal.τ).loc Cert.ProjectCIdeal.main_arg4)
          ∧ r.2.mem ((c.tc : Thread Cert.ProjectCIdeal.nD Cert.ProjectCIdeal.τ).loc Cert.ProjectCIdeal.main_arg5) = m ((c.tc : Thread Cert.ProjectCIdeal.nD Cert.ProjectCIdeal.τ).loc Cert.ProjectCIdeal.main_arg5)
          ∧ r.2.mem ((c.tc : Thread Cert.ProjectCIdeal.nD Cert.ProjectCIdeal.τ).loc Cert.ProjectCIdeal.main_arg6) = m ((c.tc : Thread Cert.ProjectCIdeal.nD Cert.ProjectCIdeal.τ).loc Cert.ProjectCIdeal.main_arg6))
      ∧ θ_run (Cert.ProjectCReferenceIdeal.defs (F := Ideal)) (onTc (τ := Cert.ProjectCReferenceIdeal.τ) (Cert.ProjectCReferenceIdeal.main (F := Ideal))) ⟨m', fun _ => 0, g'⟩ (fun r => ∀ c : Dev Cert.ProjectCReferenceIdeal.nD,
          r.2.mem ((c.tc : Thread Cert.ProjectCReferenceIdeal.nD Cert.ProjectCReferenceIdeal.τ).loc Cert.ProjectCReferenceIdeal.main_v129) = v0 c
          ∧ r.2.mem ((c.tc : Thread Cert.ProjectCReferenceIdeal.nD Cert.ProjectCReferenceIdeal.τ).loc Cert.ProjectCReferenceIdeal.main_v130) = v1 c
          ∧ r.2.mem ((c.tc : Thread Cert.ProjectCReferenceIdeal.nD Cert.ProjectCReferenceIdeal.τ).loc Cert.ProjectCReferenceIdeal.main_v132) = v2 c
          ∧ r.2.mem ((c.tc : Thread Cert.ProjectCReferenceIdeal.nD Cert.ProjectCReferenceIdeal.τ).loc Cert.ProjectCReferenceIdeal.main_arg0) = m' ((c.tc : Thread Cert.ProjectCReferenceIdeal.nD Cert.ProjectCReferenceIdeal.τ).loc Cert.ProjectCReferenceIdeal.main_arg0)
          ∧ r.2.mem ((c.tc : Thread Cert.ProjectCReferenceIdeal.nD Cert.ProjectCReferenceIdeal.τ).loc Cert.ProjectCReferenceIdeal.main_arg1) = m' ((c.tc : Thread Cert.ProjectCReferenceIdeal.nD Cert.ProjectCReferenceIdeal.τ).loc Cert.ProjectCReferenceIdeal.main_arg1)
          ∧ r.2.mem ((c.tc : Thread Cert.ProjectCReferenceIdeal.nD Cert.ProjectCReferenceIdeal.τ).loc Cert.ProjectCReferenceIdeal.main_arg2) = m' ((c.tc : Thread Cert.ProjectCReferenceIdeal.nD Cert.ProjectCReferenceIdeal.τ).loc Cert.ProjectCReferenceIdeal.main_arg2)
          ∧ r.2.mem ((c.tc : Thread Cert.ProjectCReferenceIdeal.nD Cert.ProjectCReferenceIdeal.τ).loc Cert.ProjectCReferenceIdeal.main_arg3) = m' ((c.tc : Thread Cert.ProjectCReferenceIdeal.nD Cert.ProjectCReferenceIdeal.τ).loc Cert.ProjectCReferenceIdeal.main_arg3)
          ∧ r.2.mem ((c.tc : Thread Cert.ProjectCReferenceIdeal.nD Cert.ProjectCReferenceIdeal.τ).loc Cert.ProjectCReferenceIdeal.main_arg4) = m' ((c.tc : Thread Cert.ProjectCReferenceIdeal.nD Cert.ProjectCReferenceIdeal.τ).loc Cert.ProjectCReferenceIdeal.main_arg4)
          ∧ r.2.mem ((c.tc : Thread Cert.ProjectCReferenceIdeal.nD Cert.ProjectCReferenceIdeal.τ).loc Cert.ProjectCReferenceIdeal.main_arg5) = m' ((c.tc : Thread Cert.ProjectCReferenceIdeal.nD Cert.ProjectCReferenceIdeal.τ).loc Cert.ProjectCReferenceIdeal.main_arg5)
          ∧ r.2.mem ((c.tc : Thread Cert.ProjectCReferenceIdeal.nD Cert.ProjectCReferenceIdeal.τ).loc Cert.ProjectCReferenceIdeal.main_arg6) = m' ((c.tc : Thread Cert.ProjectCReferenceIdeal.nD Cert.ProjectCReferenceIdeal.τ).loc Cert.ProjectCReferenceIdeal.main_arg6))

def preserves_ProjectAB_ProjectABIdeal : Prop :=
  True

def algebraic_ProjectABIdeal_ProjectABReferenceIdeal [hProjectABIdeal : Cert.ProjectABIdeal.Facts] [hProjectABReferenceIdeal : Cert.ProjectABReferenceIdeal.Facts] : Prop :=
  ∀ (m : (ℓ : Loc Cert.ProjectABIdeal.nD Cert.ProjectABIdeal.τ Cert.ProjectABIdeal.sig) → Buf (Elt Ideal) ℓ) (g : Dev Cert.ProjectABIdeal.nD → PrngReg)
    (m' : (ℓ : Loc Cert.ProjectABReferenceIdeal.nD Cert.ProjectABReferenceIdeal.τ Cert.ProjectABReferenceIdeal.sig) → Buf (Elt Ideal) ℓ) (g' : Dev Cert.ProjectABReferenceIdeal.nD → PrngReg), Pre_ProjectABIdeal m →
    (∀ c : Dev Cert.ProjectABIdeal.nD,
      m' ((c.tc : Thread Cert.ProjectABReferenceIdeal.nD Cert.ProjectABReferenceIdeal.τ).loc Cert.ProjectABReferenceIdeal.main_arg0) = m ((c.tc : Thread Cert.ProjectABIdeal.nD Cert.ProjectABIdeal.τ).loc Cert.ProjectABIdeal.main_arg0)
      ∧ m' ((c.tc : Thread Cert.ProjectABReferenceIdeal.nD Cert.ProjectABReferenceIdeal.τ).loc Cert.ProjectABReferenceIdeal.main_arg1) = m ((c.tc : Thread Cert.ProjectABIdeal.nD Cert.ProjectABIdeal.τ).loc Cert.ProjectABIdeal.main_arg1)
      ∧ m' ((c.tc : Thread Cert.ProjectABReferenceIdeal.nD Cert.ProjectABReferenceIdeal.τ).loc Cert.ProjectABReferenceIdeal.main_arg2) = m ((c.tc : Thread Cert.ProjectABIdeal.nD Cert.ProjectABIdeal.τ).loc Cert.ProjectABIdeal.main_arg2)
      ∧ m' ((c.tc : Thread Cert.ProjectABReferenceIdeal.nD Cert.ProjectABReferenceIdeal.τ).loc Cert.ProjectABReferenceIdeal.main_arg3) = m ((c.tc : Thread Cert.ProjectABIdeal.nD Cert.ProjectABIdeal.τ).loc Cert.ProjectABIdeal.main_arg3)
      ∧ m' ((c.tc : Thread Cert.ProjectABReferenceIdeal.nD Cert.ProjectABReferenceIdeal.τ).loc Cert.ProjectABReferenceIdeal.main_arg4) = m ((c.tc : Thread Cert.ProjectABIdeal.nD Cert.ProjectABIdeal.τ).loc Cert.ProjectABIdeal.main_arg4)
      ∧ m' ((c.tc : Thread Cert.ProjectABReferenceIdeal.nD Cert.ProjectABReferenceIdeal.τ).loc Cert.ProjectABReferenceIdeal.main_arg5) = m ((c.tc : Thread Cert.ProjectABIdeal.nD Cert.ProjectABIdeal.τ).loc Cert.ProjectABIdeal.main_arg5)
      ∧ m' ((c.tc : Thread Cert.ProjectABReferenceIdeal.nD Cert.ProjectABReferenceIdeal.τ).loc Cert.ProjectABReferenceIdeal.main_arg6) = m ((c.tc : Thread Cert.ProjectABIdeal.nD Cert.ProjectABIdeal.τ).loc Cert.ProjectABIdeal.main_arg6)
      ∧ m' ((c.tc : Thread Cert.ProjectABReferenceIdeal.nD Cert.ProjectABReferenceIdeal.τ).loc Cert.ProjectABReferenceIdeal.main_arg7) = m ((c.tc : Thread Cert.ProjectABIdeal.nD Cert.ProjectABIdeal.τ).loc Cert.ProjectABIdeal.main_arg7)
      ∧ m' ((c.tc : Thread Cert.ProjectABReferenceIdeal.nD Cert.ProjectABReferenceIdeal.τ).loc Cert.ProjectABReferenceIdeal.main_arg8) = m ((c.tc : Thread Cert.ProjectABIdeal.nD Cert.ProjectABIdeal.τ).loc Cert.ProjectABIdeal.main_arg8)
      ∧ m' ((c.tc : Thread Cert.ProjectABReferenceIdeal.nD Cert.ProjectABReferenceIdeal.τ).loc Cert.ProjectABReferenceIdeal.main_arg9) = m ((c.tc : Thread Cert.ProjectABIdeal.nD Cert.ProjectABIdeal.τ).loc Cert.ProjectABIdeal.main_arg9)) →
    ∃ (v0 : (c : Dev Cert.ProjectABIdeal.nD) → Buf (Elt Ideal) ((c.tc : Thread Cert.ProjectABIdeal.nD Cert.ProjectABIdeal.τ).loc Cert.ProjectABIdeal.main_v62_0)) (v1 : (c : Dev Cert.ProjectABIdeal.nD) → Buf (Elt Ideal) ((c.tc : Thread Cert.ProjectABIdeal.nD Cert.ProjectABIdeal.τ).loc Cert.ProjectABIdeal.main_v62_1)) (v2 : (c : Dev Cert.ProjectABIdeal.nD) → Buf (Elt Ideal) ((c.tc : Thread Cert.ProjectABIdeal.nD Cert.ProjectABIdeal.τ).loc Cert.ProjectABIdeal.main_v62_2)) (v3 : (c : Dev Cert.ProjectABIdeal.nD) → Buf (Elt Ideal) ((c.tc : Thread Cert.ProjectABIdeal.nD Cert.ProjectABIdeal.τ).loc Cert.ProjectABIdeal.main_v62_3)) (v4 : (c : Dev Cert.ProjectABIdeal.nD) → Buf (Elt Ideal) ((c.tc : Thread Cert.ProjectABIdeal.nD Cert.ProjectABIdeal.τ).loc Cert.ProjectABIdeal.main_v62_4)) (v5 : (c : Dev Cert.ProjectABIdeal.nD) → Buf (Elt Ideal) ((c.tc : Thread Cert.ProjectABIdeal.nD Cert.ProjectABIdeal.τ).loc Cert.ProjectABIdeal.main_v62_5)),
      θ_run (Cert.ProjectABIdeal.defs (F := Ideal)) (onTc (τ := Cert.ProjectABIdeal.τ) (Cert.ProjectABIdeal.main (F := Ideal))) ⟨m, fun _ => 0, g⟩ (fun r => ∀ c : Dev Cert.ProjectABIdeal.nD,
          r.2.mem ((c.tc : Thread Cert.ProjectABIdeal.nD Cert.ProjectABIdeal.τ).loc Cert.ProjectABIdeal.main_v62_0) = v0 c
          ∧ r.2.mem ((c.tc : Thread Cert.ProjectABIdeal.nD Cert.ProjectABIdeal.τ).loc Cert.ProjectABIdeal.main_v62_1) = v1 c
          ∧ r.2.mem ((c.tc : Thread Cert.ProjectABIdeal.nD Cert.ProjectABIdeal.τ).loc Cert.ProjectABIdeal.main_v62_2) = v2 c
          ∧ r.2.mem ((c.tc : Thread Cert.ProjectABIdeal.nD Cert.ProjectABIdeal.τ).loc Cert.ProjectABIdeal.main_v62_3) = v3 c
          ∧ r.2.mem ((c.tc : Thread Cert.ProjectABIdeal.nD Cert.ProjectABIdeal.τ).loc Cert.ProjectABIdeal.main_v62_4) = v4 c
          ∧ r.2.mem ((c.tc : Thread Cert.ProjectABIdeal.nD Cert.ProjectABIdeal.τ).loc Cert.ProjectABIdeal.main_v62_5) = v5 c
          ∧ r.2.mem ((c.tc : Thread Cert.ProjectABIdeal.nD Cert.ProjectABIdeal.τ).loc Cert.ProjectABIdeal.main_arg0) = m ((c.tc : Thread Cert.ProjectABIdeal.nD Cert.ProjectABIdeal.τ).loc Cert.ProjectABIdeal.main_arg0)
          ∧ r.2.mem ((c.tc : Thread Cert.ProjectABIdeal.nD Cert.ProjectABIdeal.τ).loc Cert.ProjectABIdeal.main_arg1) = m ((c.tc : Thread Cert.ProjectABIdeal.nD Cert.ProjectABIdeal.τ).loc Cert.ProjectABIdeal.main_arg1)
          ∧ r.2.mem ((c.tc : Thread Cert.ProjectABIdeal.nD Cert.ProjectABIdeal.τ).loc Cert.ProjectABIdeal.main_arg2) = m ((c.tc : Thread Cert.ProjectABIdeal.nD Cert.ProjectABIdeal.τ).loc Cert.ProjectABIdeal.main_arg2)
          ∧ r.2.mem ((c.tc : Thread Cert.ProjectABIdeal.nD Cert.ProjectABIdeal.τ).loc Cert.ProjectABIdeal.main_arg3) = m ((c.tc : Thread Cert.ProjectABIdeal.nD Cert.ProjectABIdeal.τ).loc Cert.ProjectABIdeal.main_arg3)
          ∧ r.2.mem ((c.tc : Thread Cert.ProjectABIdeal.nD Cert.ProjectABIdeal.τ).loc Cert.ProjectABIdeal.main_arg4) = m ((c.tc : Thread Cert.ProjectABIdeal.nD Cert.ProjectABIdeal.τ).loc Cert.ProjectABIdeal.main_arg4)
          ∧ r.2.mem ((c.tc : Thread Cert.ProjectABIdeal.nD Cert.ProjectABIdeal.τ).loc Cert.ProjectABIdeal.main_arg5) = m ((c.tc : Thread Cert.ProjectABIdeal.nD Cert.ProjectABIdeal.τ).loc Cert.ProjectABIdeal.main_arg5)
          ∧ r.2.mem ((c.tc : Thread Cert.ProjectABIdeal.nD Cert.ProjectABIdeal.τ).loc Cert.ProjectABIdeal.main_arg6) = m ((c.tc : Thread Cert.ProjectABIdeal.nD Cert.ProjectABIdeal.τ).loc Cert.ProjectABIdeal.main_arg6)
          ∧ r.2.mem ((c.tc : Thread Cert.ProjectABIdeal.nD Cert.ProjectABIdeal.τ).loc Cert.ProjectABIdeal.main_arg7) = m ((c.tc : Thread Cert.ProjectABIdeal.nD Cert.ProjectABIdeal.τ).loc Cert.ProjectABIdeal.main_arg7)
          ∧ r.2.mem ((c.tc : Thread Cert.ProjectABIdeal.nD Cert.ProjectABIdeal.τ).loc Cert.ProjectABIdeal.main_arg8) = m ((c.tc : Thread Cert.ProjectABIdeal.nD Cert.ProjectABIdeal.τ).loc Cert.ProjectABIdeal.main_arg8)
          ∧ r.2.mem ((c.tc : Thread Cert.ProjectABIdeal.nD Cert.ProjectABIdeal.τ).loc Cert.ProjectABIdeal.main_arg9) = m ((c.tc : Thread Cert.ProjectABIdeal.nD Cert.ProjectABIdeal.τ).loc Cert.ProjectABIdeal.main_arg9))
      ∧ θ_run (Cert.ProjectABReferenceIdeal.defs (F := Ideal)) (onTc (τ := Cert.ProjectABReferenceIdeal.τ) (Cert.ProjectABReferenceIdeal.main (F := Ideal))) ⟨m', fun _ => 0, g'⟩ (fun r => ∀ c : Dev Cert.ProjectABReferenceIdeal.nD,
          r.2.mem ((c.tc : Thread Cert.ProjectABReferenceIdeal.nD Cert.ProjectABReferenceIdeal.τ).loc Cert.ProjectABReferenceIdeal.main_v225) = v0 c
          ∧ r.2.mem ((c.tc : Thread Cert.ProjectABReferenceIdeal.nD Cert.ProjectABReferenceIdeal.τ).loc Cert.ProjectABReferenceIdeal.main_v228) = v1 c
          ∧ r.2.mem ((c.tc : Thread Cert.ProjectABReferenceIdeal.nD Cert.ProjectABReferenceIdeal.τ).loc Cert.ProjectABReferenceIdeal.main_v230) = v2 c
          ∧ r.2.mem ((c.tc : Thread Cert.ProjectABReferenceIdeal.nD Cert.ProjectABReferenceIdeal.τ).loc Cert.ProjectABReferenceIdeal.main_v233) = v3 c
          ∧ r.2.mem ((c.tc : Thread Cert.ProjectABReferenceIdeal.nD Cert.ProjectABReferenceIdeal.τ).loc Cert.ProjectABReferenceIdeal.main_v236) = v4 c
          ∧ r.2.mem ((c.tc : Thread Cert.ProjectABReferenceIdeal.nD Cert.ProjectABReferenceIdeal.τ).loc Cert.ProjectABReferenceIdeal.main_v238) = v5 c
          ∧ r.2.mem ((c.tc : Thread Cert.ProjectABReferenceIdeal.nD Cert.ProjectABReferenceIdeal.τ).loc Cert.ProjectABReferenceIdeal.main_arg0) = m' ((c.tc : Thread Cert.ProjectABReferenceIdeal.nD Cert.ProjectABReferenceIdeal.τ).loc Cert.ProjectABReferenceIdeal.main_arg0)
          ∧ r.2.mem ((c.tc : Thread Cert.ProjectABReferenceIdeal.nD Cert.ProjectABReferenceIdeal.τ).loc Cert.ProjectABReferenceIdeal.main_arg1) = m' ((c.tc : Thread Cert.ProjectABReferenceIdeal.nD Cert.ProjectABReferenceIdeal.τ).loc Cert.ProjectABReferenceIdeal.main_arg1)
          ∧ r.2.mem ((c.tc : Thread Cert.ProjectABReferenceIdeal.nD Cert.ProjectABReferenceIdeal.τ).loc Cert.ProjectABReferenceIdeal.main_arg2) = m' ((c.tc : Thread Cert.ProjectABReferenceIdeal.nD Cert.ProjectABReferenceIdeal.τ).loc Cert.ProjectABReferenceIdeal.main_arg2)
          ∧ r.2.mem ((c.tc : Thread Cert.ProjectABReferenceIdeal.nD Cert.ProjectABReferenceIdeal.τ).loc Cert.ProjectABReferenceIdeal.main_arg3) = m' ((c.tc : Thread Cert.ProjectABReferenceIdeal.nD Cert.ProjectABReferenceIdeal.τ).loc Cert.ProjectABReferenceIdeal.main_arg3)
          ∧ r.2.mem ((c.tc : Thread Cert.ProjectABReferenceIdeal.nD Cert.ProjectABReferenceIdeal.τ).loc Cert.ProjectABReferenceIdeal.main_arg4) = m' ((c.tc : Thread Cert.ProjectABReferenceIdeal.nD Cert.ProjectABReferenceIdeal.τ).loc Cert.ProjectABReferenceIdeal.main_arg4)
          ∧ r.2.mem ((c.tc : Thread Cert.ProjectABReferenceIdeal.nD Cert.ProjectABReferenceIdeal.τ).loc Cert.ProjectABReferenceIdeal.main_arg5) = m' ((c.tc : Thread Cert.ProjectABReferenceIdeal.nD Cert.ProjectABReferenceIdeal.τ).loc Cert.ProjectABReferenceIdeal.main_arg5)
          ∧ r.2.mem ((c.tc : Thread Cert.ProjectABReferenceIdeal.nD Cert.ProjectABReferenceIdeal.τ).loc Cert.ProjectABReferenceIdeal.main_arg6) = m' ((c.tc : Thread Cert.ProjectABReferenceIdeal.nD Cert.ProjectABReferenceIdeal.τ).loc Cert.ProjectABReferenceIdeal.main_arg6)
          ∧ r.2.mem ((c.tc : Thread Cert.ProjectABReferenceIdeal.nD Cert.ProjectABReferenceIdeal.τ).loc Cert.ProjectABReferenceIdeal.main_arg7) = m' ((c.tc : Thread Cert.ProjectABReferenceIdeal.nD Cert.ProjectABReferenceIdeal.τ).loc Cert.ProjectABReferenceIdeal.main_arg7)
          ∧ r.2.mem ((c.tc : Thread Cert.ProjectABReferenceIdeal.nD Cert.ProjectABReferenceIdeal.τ).loc Cert.ProjectABReferenceIdeal.main_arg8) = m' ((c.tc : Thread Cert.ProjectABReferenceIdeal.nD Cert.ProjectABReferenceIdeal.τ).loc Cert.ProjectABReferenceIdeal.main_arg8)
          ∧ r.2.mem ((c.tc : Thread Cert.ProjectABReferenceIdeal.nD Cert.ProjectABReferenceIdeal.τ).loc Cert.ProjectABReferenceIdeal.main_arg9) = m' ((c.tc : Thread Cert.ProjectABReferenceIdeal.nD Cert.ProjectABReferenceIdeal.τ).loc Cert.ProjectABReferenceIdeal.main_arg9))

def preserves_OutC_OutCIdeal : Prop :=
  True

def algebraic_OutCIdeal_OutCReferenceIdeal [hOutCIdeal : Cert.OutCIdeal.Facts] [hOutCReferenceIdeal : Cert.OutCReferenceIdeal.Facts] : Prop :=
  ∀ (m : (ℓ : Loc Cert.OutCIdeal.nD Cert.OutCIdeal.τ Cert.OutCIdeal.sig) → Buf (Elt Ideal) ℓ) (g : Dev Cert.OutCIdeal.nD → PrngReg)
    (m' : (ℓ : Loc Cert.OutCReferenceIdeal.nD Cert.OutCReferenceIdeal.τ Cert.OutCReferenceIdeal.sig) → Buf (Elt Ideal) ℓ) (g' : Dev Cert.OutCReferenceIdeal.nD → PrngReg), Pre_OutCIdeal m →
    (∀ c : Dev Cert.OutCIdeal.nD,
      m' ((c.tc : Thread Cert.OutCReferenceIdeal.nD Cert.OutCReferenceIdeal.τ).loc Cert.OutCReferenceIdeal.main_arg0) = m ((c.tc : Thread Cert.OutCIdeal.nD Cert.OutCIdeal.τ).loc Cert.OutCIdeal.main_arg0)
      ∧ m' ((c.tc : Thread Cert.OutCReferenceIdeal.nD Cert.OutCReferenceIdeal.τ).loc Cert.OutCReferenceIdeal.main_arg1) = m ((c.tc : Thread Cert.OutCIdeal.nD Cert.OutCIdeal.τ).loc Cert.OutCIdeal.main_arg1)
      ∧ m' ((c.tc : Thread Cert.OutCReferenceIdeal.nD Cert.OutCReferenceIdeal.τ).loc Cert.OutCReferenceIdeal.main_arg2) = m ((c.tc : Thread Cert.OutCIdeal.nD Cert.OutCIdeal.τ).loc Cert.OutCIdeal.main_arg2)
      ∧ m' ((c.tc : Thread Cert.OutCReferenceIdeal.nD Cert.OutCReferenceIdeal.τ).loc Cert.OutCReferenceIdeal.main_arg3) = m ((c.tc : Thread Cert.OutCIdeal.nD Cert.OutCIdeal.τ).loc Cert.OutCIdeal.main_arg3)
      ∧ m' ((c.tc : Thread Cert.OutCReferenceIdeal.nD Cert.OutCReferenceIdeal.τ).loc Cert.OutCReferenceIdeal.main_arg4) = m ((c.tc : Thread Cert.OutCIdeal.nD Cert.OutCIdeal.τ).loc Cert.OutCIdeal.main_arg4)
      ∧ m' ((c.tc : Thread Cert.OutCReferenceIdeal.nD Cert.OutCReferenceIdeal.τ).loc Cert.OutCReferenceIdeal.main_arg5) = m ((c.tc : Thread Cert.OutCIdeal.nD Cert.OutCIdeal.τ).loc Cert.OutCIdeal.main_arg5)
      ∧ m' ((c.tc : Thread Cert.OutCReferenceIdeal.nD Cert.OutCReferenceIdeal.τ).loc Cert.OutCReferenceIdeal.main_arg6) = m ((c.tc : Thread Cert.OutCIdeal.nD Cert.OutCIdeal.τ).loc Cert.OutCIdeal.main_arg6)
      ∧ m' ((c.tc : Thread Cert.OutCReferenceIdeal.nD Cert.OutCReferenceIdeal.τ).loc Cert.OutCReferenceIdeal.main_arg7) = m ((c.tc : Thread Cert.OutCIdeal.nD Cert.OutCIdeal.τ).loc Cert.OutCIdeal.main_arg7)
      ∧ m' ((c.tc : Thread Cert.OutCReferenceIdeal.nD Cert.OutCReferenceIdeal.τ).loc Cert.OutCReferenceIdeal.main_arg8) = m ((c.tc : Thread Cert.OutCIdeal.nD Cert.OutCIdeal.τ).loc Cert.OutCIdeal.main_arg8)) →
    ∃ (v0 : (c : Dev Cert.OutCIdeal.nD) → Buf (Elt Ideal) ((c.tc : Thread Cert.OutCIdeal.nD Cert.OutCIdeal.τ).loc Cert.OutCIdeal.main_v0_0)) (v1 : (c : Dev Cert.OutCIdeal.nD) → Buf (Elt Ideal) ((c.tc : Thread Cert.OutCIdeal.nD Cert.OutCIdeal.τ).loc Cert.OutCIdeal.main_v0_1)),
      θ_run (Cert.OutCIdeal.defs (F := Ideal)) (onTc (τ := Cert.OutCIdeal.τ) (Cert.OutCIdeal.main (F := Ideal))) ⟨m, fun _ => 0, g⟩ (fun r => ∀ c : Dev Cert.OutCIdeal.nD,
          r.2.mem ((c.tc : Thread Cert.OutCIdeal.nD Cert.OutCIdeal.τ).loc Cert.OutCIdeal.main_v0_0) = v0 c
          ∧ r.2.mem ((c.tc : Thread Cert.OutCIdeal.nD Cert.OutCIdeal.τ).loc Cert.OutCIdeal.main_v0_1) = v1 c
          ∧ r.2.mem ((c.tc : Thread Cert.OutCIdeal.nD Cert.OutCIdeal.τ).loc Cert.OutCIdeal.main_arg0) = m ((c.tc : Thread Cert.OutCIdeal.nD Cert.OutCIdeal.τ).loc Cert.OutCIdeal.main_arg0)
          ∧ r.2.mem ((c.tc : Thread Cert.OutCIdeal.nD Cert.OutCIdeal.τ).loc Cert.OutCIdeal.main_arg1) = m ((c.tc : Thread Cert.OutCIdeal.nD Cert.OutCIdeal.τ).loc Cert.OutCIdeal.main_arg1)
          ∧ r.2.mem ((c.tc : Thread Cert.OutCIdeal.nD Cert.OutCIdeal.τ).loc Cert.OutCIdeal.main_arg2) = m ((c.tc : Thread Cert.OutCIdeal.nD Cert.OutCIdeal.τ).loc Cert.OutCIdeal.main_arg2)
          ∧ r.2.mem ((c.tc : Thread Cert.OutCIdeal.nD Cert.OutCIdeal.τ).loc Cert.OutCIdeal.main_arg3) = m ((c.tc : Thread Cert.OutCIdeal.nD Cert.OutCIdeal.τ).loc Cert.OutCIdeal.main_arg3)
          ∧ r.2.mem ((c.tc : Thread Cert.OutCIdeal.nD Cert.OutCIdeal.τ).loc Cert.OutCIdeal.main_arg4) = m ((c.tc : Thread Cert.OutCIdeal.nD Cert.OutCIdeal.τ).loc Cert.OutCIdeal.main_arg4)
          ∧ r.2.mem ((c.tc : Thread Cert.OutCIdeal.nD Cert.OutCIdeal.τ).loc Cert.OutCIdeal.main_arg5) = m ((c.tc : Thread Cert.OutCIdeal.nD Cert.OutCIdeal.τ).loc Cert.OutCIdeal.main_arg5)
          ∧ r.2.mem ((c.tc : Thread Cert.OutCIdeal.nD Cert.OutCIdeal.τ).loc Cert.OutCIdeal.main_arg6) = m ((c.tc : Thread Cert.OutCIdeal.nD Cert.OutCIdeal.τ).loc Cert.OutCIdeal.main_arg6)
          ∧ r.2.mem ((c.tc : Thread Cert.OutCIdeal.nD Cert.OutCIdeal.τ).loc Cert.OutCIdeal.main_arg7) = m ((c.tc : Thread Cert.OutCIdeal.nD Cert.OutCIdeal.τ).loc Cert.OutCIdeal.main_arg7)
          ∧ r.2.mem ((c.tc : Thread Cert.OutCIdeal.nD Cert.OutCIdeal.τ).loc Cert.OutCIdeal.main_arg8) = m ((c.tc : Thread Cert.OutCIdeal.nD Cert.OutCIdeal.τ).loc Cert.OutCIdeal.main_arg8))
      ∧ θ_run (Cert.OutCReferenceIdeal.defs (F := Ideal)) (onTc (τ := Cert.OutCReferenceIdeal.τ) (Cert.OutCReferenceIdeal.main (F := Ideal))) ⟨m', fun _ => 0, g'⟩ (fun r => ∀ c : Dev Cert.OutCReferenceIdeal.nD,
          r.2.mem ((c.tc : Thread Cert.OutCReferenceIdeal.nD Cert.OutCReferenceIdeal.τ).loc Cert.OutCReferenceIdeal.main_v32) = v0 c
          ∧ r.2.mem ((c.tc : Thread Cert.OutCReferenceIdeal.nD Cert.OutCReferenceIdeal.τ).loc Cert.OutCReferenceIdeal.main_v33) = v1 c
          ∧ r.2.mem ((c.tc : Thread Cert.OutCReferenceIdeal.nD Cert.OutCReferenceIdeal.τ).loc Cert.OutCReferenceIdeal.main_arg0) = m' ((c.tc : Thread Cert.OutCReferenceIdeal.nD Cert.OutCReferenceIdeal.τ).loc Cert.OutCReferenceIdeal.main_arg0)
          ∧ r.2.mem ((c.tc : Thread Cert.OutCReferenceIdeal.nD Cert.OutCReferenceIdeal.τ).loc Cert.OutCReferenceIdeal.main_arg1) = m' ((c.tc : Thread Cert.OutCReferenceIdeal.nD Cert.OutCReferenceIdeal.τ).loc Cert.OutCReferenceIdeal.main_arg1)
          ∧ r.2.mem ((c.tc : Thread Cert.OutCReferenceIdeal.nD Cert.OutCReferenceIdeal.τ).loc Cert.OutCReferenceIdeal.main_arg2) = m' ((c.tc : Thread Cert.OutCReferenceIdeal.nD Cert.OutCReferenceIdeal.τ).loc Cert.OutCReferenceIdeal.main_arg2)
          ∧ r.2.mem ((c.tc : Thread Cert.OutCReferenceIdeal.nD Cert.OutCReferenceIdeal.τ).loc Cert.OutCReferenceIdeal.main_arg3) = m' ((c.tc : Thread Cert.OutCReferenceIdeal.nD Cert.OutCReferenceIdeal.τ).loc Cert.OutCReferenceIdeal.main_arg3)
          ∧ r.2.mem ((c.tc : Thread Cert.OutCReferenceIdeal.nD Cert.OutCReferenceIdeal.τ).loc Cert.OutCReferenceIdeal.main_arg4) = m' ((c.tc : Thread Cert.OutCReferenceIdeal.nD Cert.OutCReferenceIdeal.τ).loc Cert.OutCReferenceIdeal.main_arg4)
          ∧ r.2.mem ((c.tc : Thread Cert.OutCReferenceIdeal.nD Cert.OutCReferenceIdeal.τ).loc Cert.OutCReferenceIdeal.main_arg5) = m' ((c.tc : Thread Cert.OutCReferenceIdeal.nD Cert.OutCReferenceIdeal.τ).loc Cert.OutCReferenceIdeal.main_arg5)
          ∧ r.2.mem ((c.tc : Thread Cert.OutCReferenceIdeal.nD Cert.OutCReferenceIdeal.τ).loc Cert.OutCReferenceIdeal.main_arg6) = m' ((c.tc : Thread Cert.OutCReferenceIdeal.nD Cert.OutCReferenceIdeal.τ).loc Cert.OutCReferenceIdeal.main_arg6)
          ∧ r.2.mem ((c.tc : Thread Cert.OutCReferenceIdeal.nD Cert.OutCReferenceIdeal.τ).loc Cert.OutCReferenceIdeal.main_arg7) = m' ((c.tc : Thread Cert.OutCReferenceIdeal.nD Cert.OutCReferenceIdeal.τ).loc Cert.OutCReferenceIdeal.main_arg7)
          ∧ r.2.mem ((c.tc : Thread Cert.OutCReferenceIdeal.nD Cert.OutCReferenceIdeal.τ).loc Cert.OutCReferenceIdeal.main_arg8) = m' ((c.tc : Thread Cert.OutCReferenceIdeal.nD Cert.OutCReferenceIdeal.τ).loc Cert.OutCReferenceIdeal.main_arg8))

def preserves_OutAB_OutABIdeal : Prop :=
  True

def algebraic_OutABIdeal_OutABReferenceIdeal [hOutABIdeal : Cert.OutABIdeal.Facts] [hOutABReferenceIdeal : Cert.OutABReferenceIdeal.Facts] : Prop :=
  ∀ (m : (ℓ : Loc Cert.OutABIdeal.nD Cert.OutABIdeal.τ Cert.OutABIdeal.sig) → Buf (Elt Ideal) ℓ) (g : Dev Cert.OutABIdeal.nD → PrngReg)
    (m' : (ℓ : Loc Cert.OutABReferenceIdeal.nD Cert.OutABReferenceIdeal.τ Cert.OutABReferenceIdeal.sig) → Buf (Elt Ideal) ℓ) (g' : Dev Cert.OutABReferenceIdeal.nD → PrngReg), Pre_OutABIdeal m →
    (∀ c : Dev Cert.OutABIdeal.nD,
      m' ((c.tc : Thread Cert.OutABReferenceIdeal.nD Cert.OutABReferenceIdeal.τ).loc Cert.OutABReferenceIdeal.main_arg0) = m ((c.tc : Thread Cert.OutABIdeal.nD Cert.OutABIdeal.τ).loc Cert.OutABIdeal.main_arg0)
      ∧ m' ((c.tc : Thread Cert.OutABReferenceIdeal.nD Cert.OutABReferenceIdeal.τ).loc Cert.OutABReferenceIdeal.main_arg1) = m ((c.tc : Thread Cert.OutABIdeal.nD Cert.OutABIdeal.τ).loc Cert.OutABIdeal.main_arg1)
      ∧ m' ((c.tc : Thread Cert.OutABReferenceIdeal.nD Cert.OutABReferenceIdeal.τ).loc Cert.OutABReferenceIdeal.main_arg2) = m ((c.tc : Thread Cert.OutABIdeal.nD Cert.OutABIdeal.τ).loc Cert.OutABIdeal.main_arg2)
      ∧ m' ((c.tc : Thread Cert.OutABReferenceIdeal.nD Cert.OutABReferenceIdeal.τ).loc Cert.OutABReferenceIdeal.main_arg3) = m ((c.tc : Thread Cert.OutABIdeal.nD Cert.OutABIdeal.τ).loc Cert.OutABIdeal.main_arg3)
      ∧ m' ((c.tc : Thread Cert.OutABReferenceIdeal.nD Cert.OutABReferenceIdeal.τ).loc Cert.OutABReferenceIdeal.main_arg4) = m ((c.tc : Thread Cert.OutABIdeal.nD Cert.OutABIdeal.τ).loc Cert.OutABIdeal.main_arg4)
      ∧ m' ((c.tc : Thread Cert.OutABReferenceIdeal.nD Cert.OutABReferenceIdeal.τ).loc Cert.OutABReferenceIdeal.main_arg5) = m ((c.tc : Thread Cert.OutABIdeal.nD Cert.OutABIdeal.τ).loc Cert.OutABIdeal.main_arg5)
      ∧ m' ((c.tc : Thread Cert.OutABReferenceIdeal.nD Cert.OutABReferenceIdeal.τ).loc Cert.OutABReferenceIdeal.main_arg6) = m ((c.tc : Thread Cert.OutABIdeal.nD Cert.OutABIdeal.τ).loc Cert.OutABIdeal.main_arg6)
      ∧ m' ((c.tc : Thread Cert.OutABReferenceIdeal.nD Cert.OutABReferenceIdeal.τ).loc Cert.OutABReferenceIdeal.main_arg7) = m ((c.tc : Thread Cert.OutABIdeal.nD Cert.OutABIdeal.τ).loc Cert.OutABIdeal.main_arg7)
      ∧ m' ((c.tc : Thread Cert.OutABReferenceIdeal.nD Cert.OutABReferenceIdeal.τ).loc Cert.OutABReferenceIdeal.main_arg8) = m ((c.tc : Thread Cert.OutABIdeal.nD Cert.OutABIdeal.τ).loc Cert.OutABIdeal.main_arg8)
      ∧ m' ((c.tc : Thread Cert.OutABReferenceIdeal.nD Cert.OutABReferenceIdeal.τ).loc Cert.OutABReferenceIdeal.main_arg9) = m ((c.tc : Thread Cert.OutABIdeal.nD Cert.OutABIdeal.τ).loc Cert.OutABIdeal.main_arg9)
      ∧ m' ((c.tc : Thread Cert.OutABReferenceIdeal.nD Cert.OutABReferenceIdeal.τ).loc Cert.OutABReferenceIdeal.main_arg10) = m ((c.tc : Thread Cert.OutABIdeal.nD Cert.OutABIdeal.τ).loc Cert.OutABIdeal.main_arg10)) →
    ∃ (v0 : (c : Dev Cert.OutABIdeal.nD) → Buf (Elt Ideal) ((c.tc : Thread Cert.OutABIdeal.nD Cert.OutABIdeal.τ).loc Cert.OutABIdeal.main_v0_0)) (v1 : (c : Dev Cert.OutABIdeal.nD) → Buf (Elt Ideal) ((c.tc : Thread Cert.OutABIdeal.nD Cert.OutABIdeal.τ).loc Cert.OutABIdeal.main_v0_1)),
      θ_run (Cert.OutABIdeal.defs (F := Ideal)) (onTc (τ := Cert.OutABIdeal.τ) (Cert.OutABIdeal.main (F := Ideal))) ⟨m, fun _ => 0, g⟩ (fun r => ∀ c : Dev Cert.OutABIdeal.nD,
          r.2.mem ((c.tc : Thread Cert.OutABIdeal.nD Cert.OutABIdeal.τ).loc Cert.OutABIdeal.main_v0_0) = v0 c
          ∧ r.2.mem ((c.tc : Thread Cert.OutABIdeal.nD Cert.OutABIdeal.τ).loc Cert.OutABIdeal.main_v0_1) = v1 c
          ∧ r.2.mem ((c.tc : Thread Cert.OutABIdeal.nD Cert.OutABIdeal.τ).loc Cert.OutABIdeal.main_arg0) = m ((c.tc : Thread Cert.OutABIdeal.nD Cert.OutABIdeal.τ).loc Cert.OutABIdeal.main_arg0)
          ∧ r.2.mem ((c.tc : Thread Cert.OutABIdeal.nD Cert.OutABIdeal.τ).loc Cert.OutABIdeal.main_arg1) = m ((c.tc : Thread Cert.OutABIdeal.nD Cert.OutABIdeal.τ).loc Cert.OutABIdeal.main_arg1)
          ∧ r.2.mem ((c.tc : Thread Cert.OutABIdeal.nD Cert.OutABIdeal.τ).loc Cert.OutABIdeal.main_arg2) = m ((c.tc : Thread Cert.OutABIdeal.nD Cert.OutABIdeal.τ).loc Cert.OutABIdeal.main_arg2)
          ∧ r.2.mem ((c.tc : Thread Cert.OutABIdeal.nD Cert.OutABIdeal.τ).loc Cert.OutABIdeal.main_arg3) = m ((c.tc : Thread Cert.OutABIdeal.nD Cert.OutABIdeal.τ).loc Cert.OutABIdeal.main_arg3)
          ∧ r.2.mem ((c.tc : Thread Cert.OutABIdeal.nD Cert.OutABIdeal.τ).loc Cert.OutABIdeal.main_arg4) = m ((c.tc : Thread Cert.OutABIdeal.nD Cert.OutABIdeal.τ).loc Cert.OutABIdeal.main_arg4)
          ∧ r.2.mem ((c.tc : Thread Cert.OutABIdeal.nD Cert.OutABIdeal.τ).loc Cert.OutABIdeal.main_arg5) = m ((c.tc : Thread Cert.OutABIdeal.nD Cert.OutABIdeal.τ).loc Cert.OutABIdeal.main_arg5)
          ∧ r.2.mem ((c.tc : Thread Cert.OutABIdeal.nD Cert.OutABIdeal.τ).loc Cert.OutABIdeal.main_arg6) = m ((c.tc : Thread Cert.OutABIdeal.nD Cert.OutABIdeal.τ).loc Cert.OutABIdeal.main_arg6)
          ∧ r.2.mem ((c.tc : Thread Cert.OutABIdeal.nD Cert.OutABIdeal.τ).loc Cert.OutABIdeal.main_arg7) = m ((c.tc : Thread Cert.OutABIdeal.nD Cert.OutABIdeal.τ).loc Cert.OutABIdeal.main_arg7)
          ∧ r.2.mem ((c.tc : Thread Cert.OutABIdeal.nD Cert.OutABIdeal.τ).loc Cert.OutABIdeal.main_arg8) = m ((c.tc : Thread Cert.OutABIdeal.nD Cert.OutABIdeal.τ).loc Cert.OutABIdeal.main_arg8)
          ∧ r.2.mem ((c.tc : Thread Cert.OutABIdeal.nD Cert.OutABIdeal.τ).loc Cert.OutABIdeal.main_arg9) = m ((c.tc : Thread Cert.OutABIdeal.nD Cert.OutABIdeal.τ).loc Cert.OutABIdeal.main_arg9)
          ∧ r.2.mem ((c.tc : Thread Cert.OutABIdeal.nD Cert.OutABIdeal.τ).loc Cert.OutABIdeal.main_arg10) = m ((c.tc : Thread Cert.OutABIdeal.nD Cert.OutABIdeal.τ).loc Cert.OutABIdeal.main_arg10))
      ∧ θ_run (Cert.OutABReferenceIdeal.defs (F := Ideal)) (onTc (τ := Cert.OutABReferenceIdeal.τ) (Cert.OutABReferenceIdeal.main (F := Ideal))) ⟨m', fun _ => 0, g'⟩ (fun r => ∀ c : Dev Cert.OutABReferenceIdeal.nD,
          r.2.mem ((c.tc : Thread Cert.OutABReferenceIdeal.nD Cert.OutABReferenceIdeal.τ).loc Cert.OutABReferenceIdeal.main_v34) = v0 c
          ∧ r.2.mem ((c.tc : Thread Cert.OutABReferenceIdeal.nD Cert.OutABReferenceIdeal.τ).loc Cert.OutABReferenceIdeal.main_v35) = v1 c
          ∧ r.2.mem ((c.tc : Thread Cert.OutABReferenceIdeal.nD Cert.OutABReferenceIdeal.τ).loc Cert.OutABReferenceIdeal.main_arg0) = m' ((c.tc : Thread Cert.OutABReferenceIdeal.nD Cert.OutABReferenceIdeal.τ).loc Cert.OutABReferenceIdeal.main_arg0)
          ∧ r.2.mem ((c.tc : Thread Cert.OutABReferenceIdeal.nD Cert.OutABReferenceIdeal.τ).loc Cert.OutABReferenceIdeal.main_arg1) = m' ((c.tc : Thread Cert.OutABReferenceIdeal.nD Cert.OutABReferenceIdeal.τ).loc Cert.OutABReferenceIdeal.main_arg1)
          ∧ r.2.mem ((c.tc : Thread Cert.OutABReferenceIdeal.nD Cert.OutABReferenceIdeal.τ).loc Cert.OutABReferenceIdeal.main_arg2) = m' ((c.tc : Thread Cert.OutABReferenceIdeal.nD Cert.OutABReferenceIdeal.τ).loc Cert.OutABReferenceIdeal.main_arg2)
          ∧ r.2.mem ((c.tc : Thread Cert.OutABReferenceIdeal.nD Cert.OutABReferenceIdeal.τ).loc Cert.OutABReferenceIdeal.main_arg3) = m' ((c.tc : Thread Cert.OutABReferenceIdeal.nD Cert.OutABReferenceIdeal.τ).loc Cert.OutABReferenceIdeal.main_arg3)
          ∧ r.2.mem ((c.tc : Thread Cert.OutABReferenceIdeal.nD Cert.OutABReferenceIdeal.τ).loc Cert.OutABReferenceIdeal.main_arg4) = m' ((c.tc : Thread Cert.OutABReferenceIdeal.nD Cert.OutABReferenceIdeal.τ).loc Cert.OutABReferenceIdeal.main_arg4)
          ∧ r.2.mem ((c.tc : Thread Cert.OutABReferenceIdeal.nD Cert.OutABReferenceIdeal.τ).loc Cert.OutABReferenceIdeal.main_arg5) = m' ((c.tc : Thread Cert.OutABReferenceIdeal.nD Cert.OutABReferenceIdeal.τ).loc Cert.OutABReferenceIdeal.main_arg5)
          ∧ r.2.mem ((c.tc : Thread Cert.OutABReferenceIdeal.nD Cert.OutABReferenceIdeal.τ).loc Cert.OutABReferenceIdeal.main_arg6) = m' ((c.tc : Thread Cert.OutABReferenceIdeal.nD Cert.OutABReferenceIdeal.τ).loc Cert.OutABReferenceIdeal.main_arg6)
          ∧ r.2.mem ((c.tc : Thread Cert.OutABReferenceIdeal.nD Cert.OutABReferenceIdeal.τ).loc Cert.OutABReferenceIdeal.main_arg7) = m' ((c.tc : Thread Cert.OutABReferenceIdeal.nD Cert.OutABReferenceIdeal.τ).loc Cert.OutABReferenceIdeal.main_arg7)
          ∧ r.2.mem ((c.tc : Thread Cert.OutABReferenceIdeal.nD Cert.OutABReferenceIdeal.τ).loc Cert.OutABReferenceIdeal.main_arg8) = m' ((c.tc : Thread Cert.OutABReferenceIdeal.nD Cert.OutABReferenceIdeal.τ).loc Cert.OutABReferenceIdeal.main_arg8)
          ∧ r.2.mem ((c.tc : Thread Cert.OutABReferenceIdeal.nD Cert.OutABReferenceIdeal.τ).loc Cert.OutABReferenceIdeal.main_arg9) = m' ((c.tc : Thread Cert.OutABReferenceIdeal.nD Cert.OutABReferenceIdeal.τ).loc Cert.OutABReferenceIdeal.main_arg9)
          ∧ r.2.mem ((c.tc : Thread Cert.OutABReferenceIdeal.nD Cert.OutABReferenceIdeal.τ).loc Cert.OutABReferenceIdeal.main_arg10) = m' ((c.tc : Thread Cert.OutABReferenceIdeal.nD Cert.OutABReferenceIdeal.τ).loc Cert.OutABReferenceIdeal.main_arg10))

def preserves_ContextC_ContextCIdeal : Prop :=
  True

def algebraic_ContextCIdeal_ContextCReferenceIdeal [hContextCIdeal : Cert.ContextCIdeal.Facts] [hContextCReferenceIdeal : Cert.ContextCReferenceIdeal.Facts] : Prop :=
  ∀ (m : (ℓ : Loc Cert.ContextCIdeal.nD Cert.ContextCIdeal.τ Cert.ContextCIdeal.sig) → Buf (Elt Ideal) ℓ) (g : Dev Cert.ContextCIdeal.nD → PrngReg)
    (m' : (ℓ : Loc Cert.ContextCReferenceIdeal.nD Cert.ContextCReferenceIdeal.τ Cert.ContextCReferenceIdeal.sig) → Buf (Elt Ideal) ℓ) (g' : Dev Cert.ContextCReferenceIdeal.nD → PrngReg), Pre_ContextCIdeal m →
    (∀ c : Dev Cert.ContextCIdeal.nD,
      m' ((c.tc : Thread Cert.ContextCReferenceIdeal.nD Cert.ContextCReferenceIdeal.τ).loc Cert.ContextCReferenceIdeal.main_arg0) = m ((c.tc : Thread Cert.ContextCIdeal.nD Cert.ContextCIdeal.τ).loc Cert.ContextCIdeal.main_arg0)
      ∧ m' ((c.tc : Thread Cert.ContextCReferenceIdeal.nD Cert.ContextCReferenceIdeal.τ).loc Cert.ContextCReferenceIdeal.main_arg1) = m ((c.tc : Thread Cert.ContextCIdeal.nD Cert.ContextCIdeal.τ).loc Cert.ContextCIdeal.main_arg1)
      ∧ m' ((c.tc : Thread Cert.ContextCReferenceIdeal.nD Cert.ContextCReferenceIdeal.τ).loc Cert.ContextCReferenceIdeal.main_arg2) = m ((c.tc : Thread Cert.ContextCIdeal.nD Cert.ContextCIdeal.τ).loc Cert.ContextCIdeal.main_arg2)
      ∧ m' ((c.tc : Thread Cert.ContextCReferenceIdeal.nD Cert.ContextCReferenceIdeal.τ).loc Cert.ContextCReferenceIdeal.main_arg3) = m ((c.tc : Thread Cert.ContextCIdeal.nD Cert.ContextCIdeal.τ).loc Cert.ContextCIdeal.main_arg3)
      ∧ m' ((c.tc : Thread Cert.ContextCReferenceIdeal.nD Cert.ContextCReferenceIdeal.τ).loc Cert.ContextCReferenceIdeal.main_arg4) = m ((c.tc : Thread Cert.ContextCIdeal.nD Cert.ContextCIdeal.τ).loc Cert.ContextCIdeal.main_arg4)
      ∧ m' ((c.tc : Thread Cert.ContextCReferenceIdeal.nD Cert.ContextCReferenceIdeal.τ).loc Cert.ContextCReferenceIdeal.main_arg5) = m ((c.tc : Thread Cert.ContextCIdeal.nD Cert.ContextCIdeal.τ).loc Cert.ContextCIdeal.main_arg5)
      ∧ m' ((c.tc : Thread Cert.ContextCReferenceIdeal.nD Cert.ContextCReferenceIdeal.τ).loc Cert.ContextCReferenceIdeal.main_arg6) = m ((c.tc : Thread Cert.ContextCIdeal.nD Cert.ContextCIdeal.τ).loc Cert.ContextCIdeal.main_arg6)) →
    ∃ (v0 : (c : Dev Cert.ContextCIdeal.nD) → Buf (Elt Ideal) ((c.tc : Thread Cert.ContextCIdeal.nD Cert.ContextCIdeal.τ).loc Cert.ContextCIdeal.main_v0_0)) (v1 : (c : Dev Cert.ContextCIdeal.nD) → Buf (Elt Ideal) ((c.tc : Thread Cert.ContextCIdeal.nD Cert.ContextCIdeal.τ).loc Cert.ContextCIdeal.main_v0_1)) (v2 : (c : Dev Cert.ContextCIdeal.nD) → Buf (Elt Ideal) ((c.tc : Thread Cert.ContextCIdeal.nD Cert.ContextCIdeal.τ).loc Cert.ContextCIdeal.main_v0_2)),
      θ_run (Cert.ContextCIdeal.defs (F := Ideal)) (onTc (τ := Cert.ContextCIdeal.τ) (Cert.ContextCIdeal.main (F := Ideal))) ⟨m, fun _ => 0, g⟩ (fun r => ∀ c : Dev Cert.ContextCIdeal.nD,
          r.2.mem ((c.tc : Thread Cert.ContextCIdeal.nD Cert.ContextCIdeal.τ).loc Cert.ContextCIdeal.main_v0_0) = v0 c
          ∧ r.2.mem ((c.tc : Thread Cert.ContextCIdeal.nD Cert.ContextCIdeal.τ).loc Cert.ContextCIdeal.main_v0_1) = v1 c
          ∧ r.2.mem ((c.tc : Thread Cert.ContextCIdeal.nD Cert.ContextCIdeal.τ).loc Cert.ContextCIdeal.main_v0_2) = v2 c
          ∧ r.2.mem ((c.tc : Thread Cert.ContextCIdeal.nD Cert.ContextCIdeal.τ).loc Cert.ContextCIdeal.main_arg0) = m ((c.tc : Thread Cert.ContextCIdeal.nD Cert.ContextCIdeal.τ).loc Cert.ContextCIdeal.main_arg0)
          ∧ r.2.mem ((c.tc : Thread Cert.ContextCIdeal.nD Cert.ContextCIdeal.τ).loc Cert.ContextCIdeal.main_arg1) = m ((c.tc : Thread Cert.ContextCIdeal.nD Cert.ContextCIdeal.τ).loc Cert.ContextCIdeal.main_arg1)
          ∧ r.2.mem ((c.tc : Thread Cert.ContextCIdeal.nD Cert.ContextCIdeal.τ).loc Cert.ContextCIdeal.main_arg2) = m ((c.tc : Thread Cert.ContextCIdeal.nD Cert.ContextCIdeal.τ).loc Cert.ContextCIdeal.main_arg2)
          ∧ r.2.mem ((c.tc : Thread Cert.ContextCIdeal.nD Cert.ContextCIdeal.τ).loc Cert.ContextCIdeal.main_arg3) = m ((c.tc : Thread Cert.ContextCIdeal.nD Cert.ContextCIdeal.τ).loc Cert.ContextCIdeal.main_arg3)
          ∧ r.2.mem ((c.tc : Thread Cert.ContextCIdeal.nD Cert.ContextCIdeal.τ).loc Cert.ContextCIdeal.main_arg4) = m ((c.tc : Thread Cert.ContextCIdeal.nD Cert.ContextCIdeal.τ).loc Cert.ContextCIdeal.main_arg4)
          ∧ r.2.mem ((c.tc : Thread Cert.ContextCIdeal.nD Cert.ContextCIdeal.τ).loc Cert.ContextCIdeal.main_arg5) = m ((c.tc : Thread Cert.ContextCIdeal.nD Cert.ContextCIdeal.τ).loc Cert.ContextCIdeal.main_arg5)
          ∧ r.2.mem ((c.tc : Thread Cert.ContextCIdeal.nD Cert.ContextCIdeal.τ).loc Cert.ContextCIdeal.main_arg6) = m ((c.tc : Thread Cert.ContextCIdeal.nD Cert.ContextCIdeal.τ).loc Cert.ContextCIdeal.main_arg6))
      ∧ θ_run (Cert.ContextCReferenceIdeal.defs (F := Ideal)) (onTc (τ := Cert.ContextCReferenceIdeal.τ) (Cert.ContextCReferenceIdeal.main (F := Ideal))) ⟨m', fun _ => 0, g'⟩ (fun r => ∀ c : Dev Cert.ContextCReferenceIdeal.nD,
          r.2.mem ((c.tc : Thread Cert.ContextCReferenceIdeal.nD Cert.ContextCReferenceIdeal.τ).loc Cert.ContextCReferenceIdeal.main_v66) = v0 c
          ∧ r.2.mem ((c.tc : Thread Cert.ContextCReferenceIdeal.nD Cert.ContextCReferenceIdeal.τ).loc Cert.ContextCReferenceIdeal.main_v67) = v1 c
          ∧ r.2.mem ((c.tc : Thread Cert.ContextCReferenceIdeal.nD Cert.ContextCReferenceIdeal.τ).loc Cert.ContextCReferenceIdeal.main_v69) = v2 c
          ∧ r.2.mem ((c.tc : Thread Cert.ContextCReferenceIdeal.nD Cert.ContextCReferenceIdeal.τ).loc Cert.ContextCReferenceIdeal.main_arg0) = m' ((c.tc : Thread Cert.ContextCReferenceIdeal.nD Cert.ContextCReferenceIdeal.τ).loc Cert.ContextCReferenceIdeal.main_arg0)
          ∧ r.2.mem ((c.tc : Thread Cert.ContextCReferenceIdeal.nD Cert.ContextCReferenceIdeal.τ).loc Cert.ContextCReferenceIdeal.main_arg1) = m' ((c.tc : Thread Cert.ContextCReferenceIdeal.nD Cert.ContextCReferenceIdeal.τ).loc Cert.ContextCReferenceIdeal.main_arg1)
          ∧ r.2.mem ((c.tc : Thread Cert.ContextCReferenceIdeal.nD Cert.ContextCReferenceIdeal.τ).loc Cert.ContextCReferenceIdeal.main_arg2) = m' ((c.tc : Thread Cert.ContextCReferenceIdeal.nD Cert.ContextCReferenceIdeal.τ).loc Cert.ContextCReferenceIdeal.main_arg2)
          ∧ r.2.mem ((c.tc : Thread Cert.ContextCReferenceIdeal.nD Cert.ContextCReferenceIdeal.τ).loc Cert.ContextCReferenceIdeal.main_arg3) = m' ((c.tc : Thread Cert.ContextCReferenceIdeal.nD Cert.ContextCReferenceIdeal.τ).loc Cert.ContextCReferenceIdeal.main_arg3)
          ∧ r.2.mem ((c.tc : Thread Cert.ContextCReferenceIdeal.nD Cert.ContextCReferenceIdeal.τ).loc Cert.ContextCReferenceIdeal.main_arg4) = m' ((c.tc : Thread Cert.ContextCReferenceIdeal.nD Cert.ContextCReferenceIdeal.τ).loc Cert.ContextCReferenceIdeal.main_arg4)
          ∧ r.2.mem ((c.tc : Thread Cert.ContextCReferenceIdeal.nD Cert.ContextCReferenceIdeal.τ).loc Cert.ContextCReferenceIdeal.main_arg5) = m' ((c.tc : Thread Cert.ContextCReferenceIdeal.nD Cert.ContextCReferenceIdeal.τ).loc Cert.ContextCReferenceIdeal.main_arg5)
          ∧ r.2.mem ((c.tc : Thread Cert.ContextCReferenceIdeal.nD Cert.ContextCReferenceIdeal.τ).loc Cert.ContextCReferenceIdeal.main_arg6) = m' ((c.tc : Thread Cert.ContextCReferenceIdeal.nD Cert.ContextCReferenceIdeal.τ).loc Cert.ContextCReferenceIdeal.main_arg6))

def preserves_ContextAB_ContextABIdeal : Prop :=
  True

def algebraic_ContextABIdeal_ContextABReferenceIdeal [hContextABIdeal : Cert.ContextABIdeal.Facts] [hContextABReferenceIdeal : Cert.ContextABReferenceIdeal.Facts] : Prop :=
  ∀ (m : (ℓ : Loc Cert.ContextABIdeal.nD Cert.ContextABIdeal.τ Cert.ContextABIdeal.sig) → Buf (Elt Ideal) ℓ) (g : Dev Cert.ContextABIdeal.nD → PrngReg)
    (m' : (ℓ : Loc Cert.ContextABReferenceIdeal.nD Cert.ContextABReferenceIdeal.τ Cert.ContextABReferenceIdeal.sig) → Buf (Elt Ideal) ℓ) (g' : Dev Cert.ContextABReferenceIdeal.nD → PrngReg), Pre_ContextABIdeal m →
    (∀ c : Dev Cert.ContextABIdeal.nD,
      m' ((c.tc : Thread Cert.ContextABReferenceIdeal.nD Cert.ContextABReferenceIdeal.τ).loc Cert.ContextABReferenceIdeal.main_arg0) = m ((c.tc : Thread Cert.ContextABIdeal.nD Cert.ContextABIdeal.τ).loc Cert.ContextABIdeal.main_arg0)
      ∧ m' ((c.tc : Thread Cert.ContextABReferenceIdeal.nD Cert.ContextABReferenceIdeal.τ).loc Cert.ContextABReferenceIdeal.main_arg1) = m ((c.tc : Thread Cert.ContextABIdeal.nD Cert.ContextABIdeal.τ).loc Cert.ContextABIdeal.main_arg1)
      ∧ m' ((c.tc : Thread Cert.ContextABReferenceIdeal.nD Cert.ContextABReferenceIdeal.τ).loc Cert.ContextABReferenceIdeal.main_arg2) = m ((c.tc : Thread Cert.ContextABIdeal.nD Cert.ContextABIdeal.τ).loc Cert.ContextABIdeal.main_arg2)
      ∧ m' ((c.tc : Thread Cert.ContextABReferenceIdeal.nD Cert.ContextABReferenceIdeal.τ).loc Cert.ContextABReferenceIdeal.main_arg3) = m ((c.tc : Thread Cert.ContextABIdeal.nD Cert.ContextABIdeal.τ).loc Cert.ContextABIdeal.main_arg3)
      ∧ m' ((c.tc : Thread Cert.ContextABReferenceIdeal.nD Cert.ContextABReferenceIdeal.τ).loc Cert.ContextABReferenceIdeal.main_arg4) = m ((c.tc : Thread Cert.ContextABIdeal.nD Cert.ContextABIdeal.τ).loc Cert.ContextABIdeal.main_arg4)
      ∧ m' ((c.tc : Thread Cert.ContextABReferenceIdeal.nD Cert.ContextABReferenceIdeal.τ).loc Cert.ContextABReferenceIdeal.main_arg5) = m ((c.tc : Thread Cert.ContextABIdeal.nD Cert.ContextABIdeal.τ).loc Cert.ContextABIdeal.main_arg5)
      ∧ m' ((c.tc : Thread Cert.ContextABReferenceIdeal.nD Cert.ContextABReferenceIdeal.τ).loc Cert.ContextABReferenceIdeal.main_arg6) = m ((c.tc : Thread Cert.ContextABIdeal.nD Cert.ContextABIdeal.τ).loc Cert.ContextABIdeal.main_arg6)
      ∧ m' ((c.tc : Thread Cert.ContextABReferenceIdeal.nD Cert.ContextABReferenceIdeal.τ).loc Cert.ContextABReferenceIdeal.main_arg7) = m ((c.tc : Thread Cert.ContextABIdeal.nD Cert.ContextABIdeal.τ).loc Cert.ContextABIdeal.main_arg7)
      ∧ m' ((c.tc : Thread Cert.ContextABReferenceIdeal.nD Cert.ContextABReferenceIdeal.τ).loc Cert.ContextABReferenceIdeal.main_arg8) = m ((c.tc : Thread Cert.ContextABIdeal.nD Cert.ContextABIdeal.τ).loc Cert.ContextABIdeal.main_arg8)
      ∧ m' ((c.tc : Thread Cert.ContextABReferenceIdeal.nD Cert.ContextABReferenceIdeal.τ).loc Cert.ContextABReferenceIdeal.main_arg9) = m ((c.tc : Thread Cert.ContextABIdeal.nD Cert.ContextABIdeal.τ).loc Cert.ContextABIdeal.main_arg9)) →
    ∃ (v0 : (c : Dev Cert.ContextABIdeal.nD) → Buf (Elt Ideal) ((c.tc : Thread Cert.ContextABIdeal.nD Cert.ContextABIdeal.τ).loc Cert.ContextABIdeal.main_v0_0)) (v1 : (c : Dev Cert.ContextABIdeal.nD) → Buf (Elt Ideal) ((c.tc : Thread Cert.ContextABIdeal.nD Cert.ContextABIdeal.τ).loc Cert.ContextABIdeal.main_v0_1)) (v2 : (c : Dev Cert.ContextABIdeal.nD) → Buf (Elt Ideal) ((c.tc : Thread Cert.ContextABIdeal.nD Cert.ContextABIdeal.τ).loc Cert.ContextABIdeal.main_v0_2)) (v3 : (c : Dev Cert.ContextABIdeal.nD) → Buf (Elt Ideal) ((c.tc : Thread Cert.ContextABIdeal.nD Cert.ContextABIdeal.τ).loc Cert.ContextABIdeal.main_v0_3)) (v4 : (c : Dev Cert.ContextABIdeal.nD) → Buf (Elt Ideal) ((c.tc : Thread Cert.ContextABIdeal.nD Cert.ContextABIdeal.τ).loc Cert.ContextABIdeal.main_v0_4)) (v5 : (c : Dev Cert.ContextABIdeal.nD) → Buf (Elt Ideal) ((c.tc : Thread Cert.ContextABIdeal.nD Cert.ContextABIdeal.τ).loc Cert.ContextABIdeal.main_v0_5)),
      θ_run (Cert.ContextABIdeal.defs (F := Ideal)) (onTc (τ := Cert.ContextABIdeal.τ) (Cert.ContextABIdeal.main (F := Ideal))) ⟨m, fun _ => 0, g⟩ (fun r => ∀ c : Dev Cert.ContextABIdeal.nD,
          r.2.mem ((c.tc : Thread Cert.ContextABIdeal.nD Cert.ContextABIdeal.τ).loc Cert.ContextABIdeal.main_v0_0) = v0 c
          ∧ r.2.mem ((c.tc : Thread Cert.ContextABIdeal.nD Cert.ContextABIdeal.τ).loc Cert.ContextABIdeal.main_v0_1) = v1 c
          ∧ r.2.mem ((c.tc : Thread Cert.ContextABIdeal.nD Cert.ContextABIdeal.τ).loc Cert.ContextABIdeal.main_v0_2) = v2 c
          ∧ r.2.mem ((c.tc : Thread Cert.ContextABIdeal.nD Cert.ContextABIdeal.τ).loc Cert.ContextABIdeal.main_v0_3) = v3 c
          ∧ r.2.mem ((c.tc : Thread Cert.ContextABIdeal.nD Cert.ContextABIdeal.τ).loc Cert.ContextABIdeal.main_v0_4) = v4 c
          ∧ r.2.mem ((c.tc : Thread Cert.ContextABIdeal.nD Cert.ContextABIdeal.τ).loc Cert.ContextABIdeal.main_v0_5) = v5 c
          ∧ r.2.mem ((c.tc : Thread Cert.ContextABIdeal.nD Cert.ContextABIdeal.τ).loc Cert.ContextABIdeal.main_arg0) = m ((c.tc : Thread Cert.ContextABIdeal.nD Cert.ContextABIdeal.τ).loc Cert.ContextABIdeal.main_arg0)
          ∧ r.2.mem ((c.tc : Thread Cert.ContextABIdeal.nD Cert.ContextABIdeal.τ).loc Cert.ContextABIdeal.main_arg1) = m ((c.tc : Thread Cert.ContextABIdeal.nD Cert.ContextABIdeal.τ).loc Cert.ContextABIdeal.main_arg1)
          ∧ r.2.mem ((c.tc : Thread Cert.ContextABIdeal.nD Cert.ContextABIdeal.τ).loc Cert.ContextABIdeal.main_arg2) = m ((c.tc : Thread Cert.ContextABIdeal.nD Cert.ContextABIdeal.τ).loc Cert.ContextABIdeal.main_arg2)
          ∧ r.2.mem ((c.tc : Thread Cert.ContextABIdeal.nD Cert.ContextABIdeal.τ).loc Cert.ContextABIdeal.main_arg3) = m ((c.tc : Thread Cert.ContextABIdeal.nD Cert.ContextABIdeal.τ).loc Cert.ContextABIdeal.main_arg3)
          ∧ r.2.mem ((c.tc : Thread Cert.ContextABIdeal.nD Cert.ContextABIdeal.τ).loc Cert.ContextABIdeal.main_arg4) = m ((c.tc : Thread Cert.ContextABIdeal.nD Cert.ContextABIdeal.τ).loc Cert.ContextABIdeal.main_arg4)
          ∧ r.2.mem ((c.tc : Thread Cert.ContextABIdeal.nD Cert.ContextABIdeal.τ).loc Cert.ContextABIdeal.main_arg5) = m ((c.tc : Thread Cert.ContextABIdeal.nD Cert.ContextABIdeal.τ).loc Cert.ContextABIdeal.main_arg5)
          ∧ r.2.mem ((c.tc : Thread Cert.ContextABIdeal.nD Cert.ContextABIdeal.τ).loc Cert.ContextABIdeal.main_arg6) = m ((c.tc : Thread Cert.ContextABIdeal.nD Cert.ContextABIdeal.τ).loc Cert.ContextABIdeal.main_arg6)
          ∧ r.2.mem ((c.tc : Thread Cert.ContextABIdeal.nD Cert.ContextABIdeal.τ).loc Cert.ContextABIdeal.main_arg7) = m ((c.tc : Thread Cert.ContextABIdeal.nD Cert.ContextABIdeal.τ).loc Cert.ContextABIdeal.main_arg7)
          ∧ r.2.mem ((c.tc : Thread Cert.ContextABIdeal.nD Cert.ContextABIdeal.τ).loc Cert.ContextABIdeal.main_arg8) = m ((c.tc : Thread Cert.ContextABIdeal.nD Cert.ContextABIdeal.τ).loc Cert.ContextABIdeal.main_arg8)
          ∧ r.2.mem ((c.tc : Thread Cert.ContextABIdeal.nD Cert.ContextABIdeal.τ).loc Cert.ContextABIdeal.main_arg9) = m ((c.tc : Thread Cert.ContextABIdeal.nD Cert.ContextABIdeal.τ).loc Cert.ContextABIdeal.main_arg9))
      ∧ θ_run (Cert.ContextABReferenceIdeal.defs (F := Ideal)) (onTc (τ := Cert.ContextABReferenceIdeal.τ) (Cert.ContextABReferenceIdeal.main (F := Ideal))) ⟨m', fun _ => 0, g'⟩ (fun r => ∀ c : Dev Cert.ContextABReferenceIdeal.nD,
          r.2.mem ((c.tc : Thread Cert.ContextABReferenceIdeal.nD Cert.ContextABReferenceIdeal.τ).loc Cert.ContextABReferenceIdeal.main_v78) = v0 c
          ∧ r.2.mem ((c.tc : Thread Cert.ContextABReferenceIdeal.nD Cert.ContextABReferenceIdeal.τ).loc Cert.ContextABReferenceIdeal.main_v80) = v1 c
          ∧ r.2.mem ((c.tc : Thread Cert.ContextABReferenceIdeal.nD Cert.ContextABReferenceIdeal.τ).loc Cert.ContextABReferenceIdeal.main_v82) = v2 c
          ∧ r.2.mem ((c.tc : Thread Cert.ContextABReferenceIdeal.nD Cert.ContextABReferenceIdeal.τ).loc Cert.ContextABReferenceIdeal.main_v84) = v3 c
          ∧ r.2.mem ((c.tc : Thread Cert.ContextABReferenceIdeal.nD Cert.ContextABReferenceIdeal.τ).loc Cert.ContextABReferenceIdeal.main_v86) = v4 c
          ∧ r.2.mem ((c.tc : Thread Cert.ContextABReferenceIdeal.nD Cert.ContextABReferenceIdeal.τ).loc Cert.ContextABReferenceIdeal.main_v88) = v5 c
          ∧ r.2.mem ((c.tc : Thread Cert.ContextABReferenceIdeal.nD Cert.ContextABReferenceIdeal.τ).loc Cert.ContextABReferenceIdeal.main_arg0) = m' ((c.tc : Thread Cert.ContextABReferenceIdeal.nD Cert.ContextABReferenceIdeal.τ).loc Cert.ContextABReferenceIdeal.main_arg0)
          ∧ r.2.mem ((c.tc : Thread Cert.ContextABReferenceIdeal.nD Cert.ContextABReferenceIdeal.τ).loc Cert.ContextABReferenceIdeal.main_arg1) = m' ((c.tc : Thread Cert.ContextABReferenceIdeal.nD Cert.ContextABReferenceIdeal.τ).loc Cert.ContextABReferenceIdeal.main_arg1)
          ∧ r.2.mem ((c.tc : Thread Cert.ContextABReferenceIdeal.nD Cert.ContextABReferenceIdeal.τ).loc Cert.ContextABReferenceIdeal.main_arg2) = m' ((c.tc : Thread Cert.ContextABReferenceIdeal.nD Cert.ContextABReferenceIdeal.τ).loc Cert.ContextABReferenceIdeal.main_arg2)
          ∧ r.2.mem ((c.tc : Thread Cert.ContextABReferenceIdeal.nD Cert.ContextABReferenceIdeal.τ).loc Cert.ContextABReferenceIdeal.main_arg3) = m' ((c.tc : Thread Cert.ContextABReferenceIdeal.nD Cert.ContextABReferenceIdeal.τ).loc Cert.ContextABReferenceIdeal.main_arg3)
          ∧ r.2.mem ((c.tc : Thread Cert.ContextABReferenceIdeal.nD Cert.ContextABReferenceIdeal.τ).loc Cert.ContextABReferenceIdeal.main_arg4) = m' ((c.tc : Thread Cert.ContextABReferenceIdeal.nD Cert.ContextABReferenceIdeal.τ).loc Cert.ContextABReferenceIdeal.main_arg4)
          ∧ r.2.mem ((c.tc : Thread Cert.ContextABReferenceIdeal.nD Cert.ContextABReferenceIdeal.τ).loc Cert.ContextABReferenceIdeal.main_arg5) = m' ((c.tc : Thread Cert.ContextABReferenceIdeal.nD Cert.ContextABReferenceIdeal.τ).loc Cert.ContextABReferenceIdeal.main_arg5)
          ∧ r.2.mem ((c.tc : Thread Cert.ContextABReferenceIdeal.nD Cert.ContextABReferenceIdeal.τ).loc Cert.ContextABReferenceIdeal.main_arg6) = m' ((c.tc : Thread Cert.ContextABReferenceIdeal.nD Cert.ContextABReferenceIdeal.τ).loc Cert.ContextABReferenceIdeal.main_arg6)
          ∧ r.2.mem ((c.tc : Thread Cert.ContextABReferenceIdeal.nD Cert.ContextABReferenceIdeal.τ).loc Cert.ContextABReferenceIdeal.main_arg7) = m' ((c.tc : Thread Cert.ContextABReferenceIdeal.nD Cert.ContextABReferenceIdeal.τ).loc Cert.ContextABReferenceIdeal.main_arg7)
          ∧ r.2.mem ((c.tc : Thread Cert.ContextABReferenceIdeal.nD Cert.ContextABReferenceIdeal.τ).loc Cert.ContextABReferenceIdeal.main_arg8) = m' ((c.tc : Thread Cert.ContextABReferenceIdeal.nD Cert.ContextABReferenceIdeal.τ).loc Cert.ContextABReferenceIdeal.main_arg8)
          ∧ r.2.mem ((c.tc : Thread Cert.ContextABReferenceIdeal.nD Cert.ContextABReferenceIdeal.τ).loc Cert.ContextABReferenceIdeal.main_arg9) = m' ((c.tc : Thread Cert.ContextABReferenceIdeal.nD Cert.ContextABReferenceIdeal.τ).loc Cert.ContextABReferenceIdeal.main_arg9))

def preserves_Modulation_ModulationIdeal : Prop :=
  True

def algebraic_ModulationIdeal_ModulationReferenceIdeal [hModulationIdeal : Cert.ModulationIdeal.Facts] [hModulationReferenceIdeal : Cert.ModulationReferenceIdeal.Facts] : Prop :=
  ∀ (m : (ℓ : Loc Cert.ModulationIdeal.nD Cert.ModulationIdeal.τ Cert.ModulationIdeal.sig) → Buf (Elt Ideal) ℓ) (g : Dev Cert.ModulationIdeal.nD → PrngReg)
    (m' : (ℓ : Loc Cert.ModulationReferenceIdeal.nD Cert.ModulationReferenceIdeal.τ Cert.ModulationReferenceIdeal.sig) → Buf (Elt Ideal) ℓ) (g' : Dev Cert.ModulationReferenceIdeal.nD → PrngReg), Pre_ModulationIdeal m →
    (∀ c : Dev Cert.ModulationIdeal.nD,
      m' ((c.tc : Thread Cert.ModulationReferenceIdeal.nD Cert.ModulationReferenceIdeal.τ).loc Cert.ModulationReferenceIdeal.main_arg0) = m ((c.tc : Thread Cert.ModulationIdeal.nD Cert.ModulationIdeal.τ).loc Cert.ModulationIdeal.main_arg0)
      ∧ m' ((c.tc : Thread Cert.ModulationReferenceIdeal.nD Cert.ModulationReferenceIdeal.τ).loc Cert.ModulationReferenceIdeal.main_arg1) = m ((c.tc : Thread Cert.ModulationIdeal.nD Cert.ModulationIdeal.τ).loc Cert.ModulationIdeal.main_arg1)
      ∧ m' ((c.tc : Thread Cert.ModulationReferenceIdeal.nD Cert.ModulationReferenceIdeal.τ).loc Cert.ModulationReferenceIdeal.main_arg2) = m ((c.tc : Thread Cert.ModulationIdeal.nD Cert.ModulationIdeal.τ).loc Cert.ModulationIdeal.main_arg2)) →
    ∃ (v0 : (c : Dev Cert.ModulationIdeal.nD) → Buf (Elt Ideal) ((c.tc : Thread Cert.ModulationIdeal.nD Cert.ModulationIdeal.τ).loc Cert.ModulationIdeal.main_v1)),
      θ_run (Cert.ModulationIdeal.defs (F := Ideal)) (onTc (τ := Cert.ModulationIdeal.τ) (Cert.ModulationIdeal.main (F := Ideal))) ⟨m, fun _ => 0, g⟩ (fun r => ∀ c : Dev Cert.ModulationIdeal.nD,
          r.2.mem ((c.tc : Thread Cert.ModulationIdeal.nD Cert.ModulationIdeal.τ).loc Cert.ModulationIdeal.main_v1) = v0 c
          ∧ r.2.mem ((c.tc : Thread Cert.ModulationIdeal.nD Cert.ModulationIdeal.τ).loc Cert.ModulationIdeal.main_arg0) = m ((c.tc : Thread Cert.ModulationIdeal.nD Cert.ModulationIdeal.τ).loc Cert.ModulationIdeal.main_arg0)
          ∧ r.2.mem ((c.tc : Thread Cert.ModulationIdeal.nD Cert.ModulationIdeal.τ).loc Cert.ModulationIdeal.main_arg1) = m ((c.tc : Thread Cert.ModulationIdeal.nD Cert.ModulationIdeal.τ).loc Cert.ModulationIdeal.main_arg1)
          ∧ r.2.mem ((c.tc : Thread Cert.ModulationIdeal.nD Cert.ModulationIdeal.τ).loc Cert.ModulationIdeal.main_arg2) = m ((c.tc : Thread Cert.ModulationIdeal.nD Cert.ModulationIdeal.τ).loc Cert.ModulationIdeal.main_arg2))
      ∧ θ_run (Cert.ModulationReferenceIdeal.defs (F := Ideal)) (onTc (τ := Cert.ModulationReferenceIdeal.τ) (Cert.ModulationReferenceIdeal.main (F := Ideal))) ⟨m', fun _ => 0, g'⟩ (fun r => ∀ c : Dev Cert.ModulationReferenceIdeal.nD,
          r.2.mem ((c.tc : Thread Cert.ModulationReferenceIdeal.nD Cert.ModulationReferenceIdeal.τ).loc Cert.ModulationReferenceIdeal.main_v19) = v0 c
          ∧ r.2.mem ((c.tc : Thread Cert.ModulationReferenceIdeal.nD Cert.ModulationReferenceIdeal.τ).loc Cert.ModulationReferenceIdeal.main_arg0) = m' ((c.tc : Thread Cert.ModulationReferenceIdeal.nD Cert.ModulationReferenceIdeal.τ).loc Cert.ModulationReferenceIdeal.main_arg0)
          ∧ r.2.mem ((c.tc : Thread Cert.ModulationReferenceIdeal.nD Cert.ModulationReferenceIdeal.τ).loc Cert.ModulationReferenceIdeal.main_arg1) = m' ((c.tc : Thread Cert.ModulationReferenceIdeal.nD Cert.ModulationReferenceIdeal.τ).loc Cert.ModulationReferenceIdeal.main_arg1)
          ∧ r.2.mem ((c.tc : Thread Cert.ModulationReferenceIdeal.nD Cert.ModulationReferenceIdeal.τ).loc Cert.ModulationReferenceIdeal.main_arg2) = m' ((c.tc : Thread Cert.ModulationReferenceIdeal.nD Cert.ModulationReferenceIdeal.τ).loc Cert.ModulationReferenceIdeal.main_arg2))

def preserves_ContextLatent_ContextLatentIdeal : Prop :=
  True

def algebraic_ContextLatentIdeal_ContextLatentReferenceIdeal_pre_context_finite [hContextLatentIdeal : Cert.ContextLatentIdeal.Facts] [hContextLatentReferenceIdeal : Cert.ContextLatentReferenceIdeal.Facts] [hPre_context_finite : Cert.Pre_context_finite.Facts] : Prop :=
  ∀ (m : (ℓ : Loc Cert.ContextLatentIdeal.nD Cert.ContextLatentIdeal.τ Cert.ContextLatentIdeal.sig) → Buf (Elt Ideal) ℓ) (g : Dev Cert.ContextLatentIdeal.nD → PrngReg)
    (m' : (ℓ : Loc Cert.ContextLatentReferenceIdeal.nD Cert.ContextLatentReferenceIdeal.τ Cert.ContextLatentReferenceIdeal.sig) → Buf (Elt Ideal) ℓ) (g' : Dev Cert.ContextLatentReferenceIdeal.nD → PrngReg), Pre_ContextLatentIdeal_context_finite m →
    (∀ c : Dev Cert.ContextLatentIdeal.nD,
      m' ((c.tc : Thread Cert.ContextLatentReferenceIdeal.nD Cert.ContextLatentReferenceIdeal.τ).loc Cert.ContextLatentReferenceIdeal.main_arg0) = m ((c.tc : Thread Cert.ContextLatentIdeal.nD Cert.ContextLatentIdeal.τ).loc Cert.ContextLatentIdeal.main_arg0)
      ∧ m' ((c.tc : Thread Cert.ContextLatentReferenceIdeal.nD Cert.ContextLatentReferenceIdeal.τ).loc Cert.ContextLatentReferenceIdeal.main_arg1) = m ((c.tc : Thread Cert.ContextLatentIdeal.nD Cert.ContextLatentIdeal.τ).loc Cert.ContextLatentIdeal.main_arg1)
      ∧ m' ((c.tc : Thread Cert.ContextLatentReferenceIdeal.nD Cert.ContextLatentReferenceIdeal.τ).loc Cert.ContextLatentReferenceIdeal.main_arg2) = m ((c.tc : Thread Cert.ContextLatentIdeal.nD Cert.ContextLatentIdeal.τ).loc Cert.ContextLatentIdeal.main_arg2)) →
    ∃ (v0 : (c : Dev Cert.ContextLatentIdeal.nD) → Buf (Elt Ideal) ((c.tc : Thread Cert.ContextLatentIdeal.nD Cert.ContextLatentIdeal.τ).loc Cert.ContextLatentIdeal.main_v0)),
      θ_run (Cert.ContextLatentIdeal.defs (F := Ideal)) (onTc (τ := Cert.ContextLatentIdeal.τ) (Cert.ContextLatentIdeal.main (F := Ideal))) ⟨m, fun _ => 0, g⟩ (fun r => ∀ c : Dev Cert.ContextLatentIdeal.nD,
          r.2.mem ((c.tc : Thread Cert.ContextLatentIdeal.nD Cert.ContextLatentIdeal.τ).loc Cert.ContextLatentIdeal.main_v0) = v0 c
          ∧ r.2.mem ((c.tc : Thread Cert.ContextLatentIdeal.nD Cert.ContextLatentIdeal.τ).loc Cert.ContextLatentIdeal.main_arg0) = m ((c.tc : Thread Cert.ContextLatentIdeal.nD Cert.ContextLatentIdeal.τ).loc Cert.ContextLatentIdeal.main_arg0)
          ∧ r.2.mem ((c.tc : Thread Cert.ContextLatentIdeal.nD Cert.ContextLatentIdeal.τ).loc Cert.ContextLatentIdeal.main_arg1) = m ((c.tc : Thread Cert.ContextLatentIdeal.nD Cert.ContextLatentIdeal.τ).loc Cert.ContextLatentIdeal.main_arg1)
          ∧ r.2.mem ((c.tc : Thread Cert.ContextLatentIdeal.nD Cert.ContextLatentIdeal.τ).loc Cert.ContextLatentIdeal.main_arg2) = m ((c.tc : Thread Cert.ContextLatentIdeal.nD Cert.ContextLatentIdeal.τ).loc Cert.ContextLatentIdeal.main_arg2))
      ∧ θ_run (Cert.ContextLatentReferenceIdeal.defs (F := Ideal)) (onTc (τ := Cert.ContextLatentReferenceIdeal.τ) (Cert.ContextLatentReferenceIdeal.main (F := Ideal))) ⟨m', fun _ => 0, g'⟩ (fun r => ∀ c : Dev Cert.ContextLatentReferenceIdeal.nD,
          r.2.mem ((c.tc : Thread Cert.ContextLatentReferenceIdeal.nD Cert.ContextLatentReferenceIdeal.τ).loc Cert.ContextLatentReferenceIdeal.main_v28) = v0 c
          ∧ r.2.mem ((c.tc : Thread Cert.ContextLatentReferenceIdeal.nD Cert.ContextLatentReferenceIdeal.τ).loc Cert.ContextLatentReferenceIdeal.main_arg0) = m' ((c.tc : Thread Cert.ContextLatentReferenceIdeal.nD Cert.ContextLatentReferenceIdeal.τ).loc Cert.ContextLatentReferenceIdeal.main_arg0)
          ∧ r.2.mem ((c.tc : Thread Cert.ContextLatentReferenceIdeal.nD Cert.ContextLatentReferenceIdeal.τ).loc Cert.ContextLatentReferenceIdeal.main_arg1) = m' ((c.tc : Thread Cert.ContextLatentReferenceIdeal.nD Cert.ContextLatentReferenceIdeal.τ).loc Cert.ContextLatentReferenceIdeal.main_arg1)
          ∧ r.2.mem ((c.tc : Thread Cert.ContextLatentReferenceIdeal.nD Cert.ContextLatentReferenceIdeal.τ).loc Cert.ContextLatentReferenceIdeal.main_arg2) = m' ((c.tc : Thread Cert.ContextLatentReferenceIdeal.nD Cert.ContextLatentReferenceIdeal.τ).loc Cert.ContextLatentReferenceIdeal.main_arg2))

def Claim : Prop :=
  ∃ (hKernel : Cert.Kernel.Facts) (hKernelIdeal : Cert.KernelIdeal.Facts) (hReferenceIdeal : Cert.ReferenceIdeal.Facts) (hExperts : Cert.Experts.Facts) (hExpertsIdeal : Cert.ExpertsIdeal.Facts) (hExpertsReferenceIdeal : Cert.ExpertsReferenceIdeal.Facts) (hEvenExperts : Cert.EvenExperts.Facts) (hEvenExpertsIdeal : Cert.EvenExpertsIdeal.Facts) (hEvenExpertsReferenceIdeal : Cert.EvenExpertsReferenceIdeal.Facts) (hLatent : Cert.Latent.Facts) (hLatentIdeal : Cert.LatentIdeal.Facts) (hLatentReferenceIdeal : Cert.LatentReferenceIdeal.Facts) (hProjectC : Cert.ProjectC.Facts) (hProjectCIdeal : Cert.ProjectCIdeal.Facts) (hProjectCReferenceIdeal : Cert.ProjectCReferenceIdeal.Facts) (hProjectAB : Cert.ProjectAB.Facts) (hProjectABIdeal : Cert.ProjectABIdeal.Facts) (hProjectABReferenceIdeal : Cert.ProjectABReferenceIdeal.Facts) (hOutC : Cert.OutC.Facts) (hOutCIdeal : Cert.OutCIdeal.Facts) (hOutCReferenceIdeal : Cert.OutCReferenceIdeal.Facts) (hOutAB : Cert.OutAB.Facts) (hOutABIdeal : Cert.OutABIdeal.Facts) (hOutABReferenceIdeal : Cert.OutABReferenceIdeal.Facts) (hContextC : Cert.ContextC.Facts) (hContextCIdeal : Cert.ContextCIdeal.Facts) (hContextCReferenceIdeal : Cert.ContextCReferenceIdeal.Facts) (hContextAB : Cert.ContextAB.Facts) (hContextABIdeal : Cert.ContextABIdeal.Facts) (hContextABReferenceIdeal : Cert.ContextABReferenceIdeal.Facts) (hModulation : Cert.Modulation.Facts) (hModulationIdeal : Cert.ModulationIdeal.Facts) (hModulationReferenceIdeal : Cert.ModulationReferenceIdeal.Facts) (hContextLatent : Cert.ContextLatent.Facts) (hContextLatentIdeal : Cert.ContextLatentIdeal.Facts) (hContextLatentReferenceIdeal : Cert.ContextLatentReferenceIdeal.Facts) (hPre_finite : Cert.Pre_finite.Facts) (hPre_expert_of_block : Cert.Pre_expert_of_block.Facts) (hPre_expert_of_even_block : Cert.Pre_expert_of_even_block.Facts) (hPre_latent_finite : Cert.Pre_latent_finite.Facts) (hPre_context_finite : Cert.Pre_context_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Experts (hExperts := hExperts) (hPre_expert_of_block := hPre_expert_of_block)
    ∧ quiescent_ExpertsIdeal (hExpertsIdeal := hExpertsIdeal) (hPre_expert_of_block := hPre_expert_of_block)
    ∧ quiescent_ExpertsReferenceIdeal (hExpertsReferenceIdeal := hExpertsReferenceIdeal)
    ∧ quiescent_ExpertsReferenceIdeal_pre_expert_of_block (hExpertsReferenceIdeal := hExpertsReferenceIdeal) (hPre_expert_of_block := hPre_expert_of_block)
    ∧ quiescent_EvenExperts (hEvenExperts := hEvenExperts) (hPre_expert_of_even_block := hPre_expert_of_even_block)
    ∧ quiescent_EvenExpertsIdeal (hEvenExpertsIdeal := hEvenExpertsIdeal) (hPre_expert_of_even_block := hPre_expert_of_even_block)
    ∧ quiescent_EvenExpertsReferenceIdeal (hEvenExpertsReferenceIdeal := hEvenExpertsReferenceIdeal)
    ∧ quiescent_EvenExpertsReferenceIdeal_pre_expert_of_even_block (hEvenExpertsReferenceIdeal := hEvenExpertsReferenceIdeal) (hPre_expert_of_even_block := hPre_expert_of_even_block)
    ∧ quiescent_Latent (hLatent := hLatent)
    ∧ quiescent_LatentIdeal (hLatentIdeal := hLatentIdeal)
    ∧ quiescent_LatentIdeal_pre_latent_finite (hLatentIdeal := hLatentIdeal) (hPre_latent_finite := hPre_latent_finite)
    ∧ quiescent_LatentReferenceIdeal (hLatentReferenceIdeal := hLatentReferenceIdeal)
    ∧ quiescent_LatentReferenceIdeal_pre_latent_finite (hLatentReferenceIdeal := hLatentReferenceIdeal) (hPre_latent_finite := hPre_latent_finite)
    ∧ quiescent_ProjectC (hProjectC := hProjectC)
    ∧ quiescent_ProjectCIdeal (hProjectCIdeal := hProjectCIdeal)
    ∧ quiescent_ProjectCReferenceIdeal (hProjectCReferenceIdeal := hProjectCReferenceIdeal)
    ∧ quiescent_ProjectAB (hProjectAB := hProjectAB)
    ∧ quiescent_ProjectABIdeal (hProjectABIdeal := hProjectABIdeal)
    ∧ quiescent_ProjectABReferenceIdeal (hProjectABReferenceIdeal := hProjectABReferenceIdeal)
    ∧ quiescent_OutC (hOutC := hOutC)
    ∧ quiescent_OutCIdeal (hOutCIdeal := hOutCIdeal)
    ∧ quiescent_OutCReferenceIdeal (hOutCReferenceIdeal := hOutCReferenceIdeal)
    ∧ quiescent_OutAB (hOutAB := hOutAB)
    ∧ quiescent_OutABIdeal (hOutABIdeal := hOutABIdeal)
    ∧ quiescent_OutABReferenceIdeal (hOutABReferenceIdeal := hOutABReferenceIdeal)
    ∧ quiescent_ContextC (hContextC := hContextC)
    ∧ quiescent_ContextCIdeal (hContextCIdeal := hContextCIdeal)
    ∧ quiescent_ContextCReferenceIdeal (hContextCReferenceIdeal := hContextCReferenceIdeal)
    ∧ quiescent_ContextAB (hContextAB := hContextAB)
    ∧ quiescent_ContextABIdeal (hContextABIdeal := hContextABIdeal)
    ∧ quiescent_ContextABReferenceIdeal (hContextABReferenceIdeal := hContextABReferenceIdeal)
    ∧ quiescent_Modulation (hModulation := hModulation)
    ∧ quiescent_ModulationIdeal (hModulationIdeal := hModulationIdeal)
    ∧ quiescent_ModulationReferenceIdeal (hModulationReferenceIdeal := hModulationReferenceIdeal)
    ∧ quiescent_ContextLatent (hContextLatent := hContextLatent)
    ∧ quiescent_ContextLatentIdeal (hContextLatentIdeal := hContextLatentIdeal)
    ∧ quiescent_ContextLatentIdeal_pre_context_finite (hContextLatentIdeal := hContextLatentIdeal) (hPre_context_finite := hPre_context_finite)
    ∧ quiescent_ContextLatentReferenceIdeal (hContextLatentReferenceIdeal := hContextLatentReferenceIdeal)
    ∧ quiescent_ContextLatentReferenceIdeal_pre_context_finite (hContextLatentReferenceIdeal := hContextLatentReferenceIdeal) (hPre_context_finite := hPre_context_finite)
    ∧ preserves_Kernel_KernelIdeal
    ∧ algebraic_KernelIdeal_ReferenceIdeal_pre_finite (hKernelIdeal := hKernelIdeal) (hReferenceIdeal := hReferenceIdeal) (hPre_finite := hPre_finite)
    ∧ preserves_Experts_ExpertsIdeal
    ∧ algebraic_ExpertsIdeal_ExpertsReferenceIdeal (hExpertsIdeal := hExpertsIdeal) (hExpertsReferenceIdeal := hExpertsReferenceIdeal) (hPre_expert_of_block := hPre_expert_of_block)
    ∧ preserves_EvenExperts_EvenExpertsIdeal
    ∧ algebraic_EvenExpertsIdeal_EvenExpertsReferenceIdeal (hEvenExpertsIdeal := hEvenExpertsIdeal) (hEvenExpertsReferenceIdeal := hEvenExpertsReferenceIdeal) (hPre_expert_of_even_block := hPre_expert_of_even_block)
    ∧ preserves_Latent_LatentIdeal
    ∧ algebraic_LatentIdeal_LatentReferenceIdeal_pre_latent_finite (hLatentIdeal := hLatentIdeal) (hLatentReferenceIdeal := hLatentReferenceIdeal) (hPre_latent_finite := hPre_latent_finite)
    ∧ preserves_ProjectC_ProjectCIdeal
    ∧ algebraic_ProjectCIdeal_ProjectCReferenceIdeal (hProjectCIdeal := hProjectCIdeal) (hProjectCReferenceIdeal := hProjectCReferenceIdeal)
    ∧ preserves_ProjectAB_ProjectABIdeal
    ∧ algebraic_ProjectABIdeal_ProjectABReferenceIdeal (hProjectABIdeal := hProjectABIdeal) (hProjectABReferenceIdeal := hProjectABReferenceIdeal)
    ∧ preserves_OutC_OutCIdeal
    ∧ algebraic_OutCIdeal_OutCReferenceIdeal (hOutCIdeal := hOutCIdeal) (hOutCReferenceIdeal := hOutCReferenceIdeal)
    ∧ preserves_OutAB_OutABIdeal
    ∧ algebraic_OutABIdeal_OutABReferenceIdeal (hOutABIdeal := hOutABIdeal) (hOutABReferenceIdeal := hOutABReferenceIdeal)
    ∧ preserves_ContextC_ContextCIdeal
    ∧ algebraic_ContextCIdeal_ContextCReferenceIdeal (hContextCIdeal := hContextCIdeal) (hContextCReferenceIdeal := hContextCReferenceIdeal)
    ∧ preserves_ContextAB_ContextABIdeal
    ∧ algebraic_ContextABIdeal_ContextABReferenceIdeal (hContextABIdeal := hContextABIdeal) (hContextABReferenceIdeal := hContextABReferenceIdeal)
    ∧ preserves_Modulation_ModulationIdeal
    ∧ algebraic_ModulationIdeal_ModulationReferenceIdeal (hModulationIdeal := hModulationIdeal) (hModulationReferenceIdeal := hModulationReferenceIdeal)
    ∧ preserves_ContextLatent_ContextLatentIdeal
    ∧ algebraic_ContextLatentIdeal_ContextLatentReferenceIdeal_pre_context_finite (hContextLatentIdeal := hContextLatentIdeal) (hContextLatentReferenceIdeal := hContextLatentReferenceIdeal) (hPre_context_finite := hPre_context_finite)
-- ==== Pre_context_finite.lean ====
abbrev S4096x1024 : Shape := ⟨2, ![4096, 1024]⟩
abbrev S_ : Shape := ⟨0, ![]⟩

class Facts : Prop where
  bitsLt_bf16_f32 : FTy.bits .bf16 < FTy.bits .f32
  bcast_S_S4096x1024 : S_.BroadcastsInDim S4096x1024 (![] : Fin 0 → Fin S4096x1024.rank)
  reducesTo_S4096x1024_S_d0_1 : S4096x1024.ReducesTo [0, 1] S_
  h_S_ : 0 < S_.numel

variable [Facts]

def fn {F : FTy → Type} [FloatOps F] (main_arg0 : FVec F S4096x1024 .bf16) (main_arg1 : FVec F S4096x1024 .bf16) (main_arg2 : FVec F S4096x1024 .bf16) : IVec S_ 1 :=
  let main_v0 : FVec F S4096x1024 .f32 := (extf .f32 · bitsLt_bf16_f32) main_arg0
  let main_v1 : FVec F S4096x1024 .f32 := Host.absf main_v0
  let main_cst : FVec F S_ .f32 := constant S_ .f32 0x7F800000#32
  let main_v2 : FVec F S4096x1024 .f32 := broadcastInDim S4096x1024 ![] bcast_S_S4096x1024 main_cst
  let main_v3 : IVec S4096x1024 1 := cmpf .olt main_v1 main_v2
  let main_c : IVec S_ 1 := constantI S_ 1 1#1
  let main_v4 : IVec S_ 1 := (fun x v => Host.reduce IntOp.andi x v reducesTo_S4096x1024_S_d0_1 h_S_) main_v3 main_c
  let main_v5 : FVec F S4096x1024 .f32 := (extf .f32 · bitsLt_bf16_f32) main_arg1
  let main_v6 : FVec F S4096x1024 .f32 := Host.absf main_v5
  let main_cst_0 : FVec F S_ .f32 := constant S_ .f32 0x7F800000#32
  let main_v7 : FVec F S4096x1024 .f32 := broadcastInDim S4096x1024 ![] bcast_S_S4096x1024 main_cst_0
  let main_v8 : IVec S4096x1024 1 := cmpf .olt main_v6 main_v7
  let main_c_1 : IVec S_ 1 := constantI S_ 1 1#1
  let main_v9 : IVec S_ 1 := (fun x v => Host.reduce IntOp.andi x v reducesTo_S4096x1024_S_d0_1 h_S_) main_v8 main_c_1
  let main_v10 : IVec S_ 1 := andi main_v4 main_v9
  main_v10
-- ==== Pre_expert_of_block.lean ====
abbrev S1179648x128 : Shape := ⟨2, ![1179648, 128]⟩
abbrev S288 : Shape := ⟨1, ![288]⟩
abbrev S1 : Shape := ⟨1, ![1]⟩
abbrev S32x1024x2048 : Shape := ⟨3, ![32, 1024, 2048]⟩
abbrev S32x1x2048 : Shape := ⟨3, ![32, 1, 2048]⟩
abbrev S32x1024x1024 : Shape := ⟨3, ![32, 1024, 1024]⟩
abbrev S32x1x1024 : Shape := ⟨3, ![32, 1, 1024]⟩
abbrev S_ : Shape := ⟨0, ![]⟩

class Facts : Prop where
  bcast_S_S288 : S_.BroadcastsInDim S288 (![] : Fin 0 → Fin S288.rank)
  reducesTo_S288_S_d0 : S288.ReducesTo [0] S_
  h_S_ : 0 < S_.numel

variable [Facts]

def fn {F : FTy → Type} [FloatOps F] (main_arg0 : FVec F S1179648x128 .f32) (main_arg1 : IVec S288 32) (main_arg2 : IVec S1 32) (main_arg3 : FVec F S32x1024x2048 .bf16) (main_arg4 : FVec F S32x1x2048 .f32) (main_arg5 : FVec F S32x1024x1024 .bf16) (main_arg6 : FVec F S32x1x1024 .f32) : IVec S_ 1 :=
  let main_c : IVec S_ 32 := constantI S_ 32 0#32
  let main_v0 : IVec S288 32 := broadcastInDim S288 ![] bcast_S_S288 main_c
  let main_v1 : IVec S288 1 := cmpi .sge main_arg1 main_v0
  let main_c_0 : IVec S_ 32 := constantI S_ 32 32#32
  let main_v2 : IVec S288 32 := broadcastInDim S288 ![] bcast_S_S288 main_c_0
  let main_v3 : IVec S288 1 := cmpi .slt main_arg1 main_v2
  let main_v4 : IVec S288 1 := andi main_v1 main_v3
  let main_c_1 : IVec S_ 1 := constantI S_ 1 1#1
  let main_v5 : IVec S_ 1 := (fun x v => Host.reduce IntOp.andi x v reducesTo_S288_S_d0 h_S_) main_v4 main_c_1
  main_v5
-- ==== Pre_expert_of_even_block.lean ====
abbrev S1310720x128 : Shape := ⟨2, ![1310720, 128]⟩
abbrev S320 : Shape := ⟨1, ![320]⟩
abbrev S1 : Shape := ⟨1, ![1]⟩
abbrev S32x1024x2048 : Shape := ⟨3, ![32, 1024, 2048]⟩
abbrev S32x1x2048 : Shape := ⟨3, ![32, 1, 2048]⟩
abbrev S32x1024x1024 : Shape := ⟨3, ![32, 1024, 1024]⟩
abbrev S32x1x1024 : Shape := ⟨3, ![32, 1, 1024]⟩
abbrev S_ : Shape := ⟨0, ![]⟩

class Facts : Prop where
  bcast_S_S320 : S_.BroadcastsInDim S320 (![] : Fin 0 → Fin S320.rank)
  reducesTo_S320_S_d0 : S320.ReducesTo [0] S_
  h_S_ : 0 < S_.numel

variable [Facts]

def fn {F : FTy → Type} [FloatOps F] (main_arg0 : FVec F S1310720x128 .f32) (main_arg1 : IVec S320 32) (main_arg2 : IVec S1 32) (main_arg3 : FVec F S32x1024x2048 .bf16) (main_arg4 : FVec F S32x1x2048 .f32) (main_arg5 : FVec F S32x1024x1024 .bf16) (main_arg6 : FVec F S32x1x1024 .f32) : IVec S_ 1 :=
  let main_c : IVec S_ 32 := constantI S_ 32 0#32
  let main_v0 : IVec S320 32 := broadcastInDim S320 ![] bcast_S_S320 main_c
  let main_v1 : IVec S320 1 := cmpi .sge main_arg1 main_v0
  let main_c_0 : IVec S_ 32 := constantI S_ 32 32#32
  let main_v2 : IVec S320 32 := broadcastInDim S320 ![] bcast_S_S320 main_c_0
  let main_v3 : IVec S320 1 := cmpi .slt main_arg1 main_v2
  let main_v4 : IVec S320 1 := andi main_v1 main_v3
  let main_c_1 : IVec S_ 1 := constantI S_ 1 1#1
  let main_v5 : IVec S_ 1 := (fun x v => Host.reduce IntOp.andi x v reducesTo_S320_S_d0 h_S_) main_v4 main_c_1
  main_v5
-- ==== Pre_finite.lean ====
abbrev S32768x1024 : Shape := ⟨2, ![32768, 1024]⟩
abbrev S32768x256 : Shape := ⟨2, ![32768, 256]⟩
abbrev S4096x256 : Shape := ⟨2, ![4096, 256]⟩
abbrev S_ : Shape := ⟨0, ![]⟩

class Facts : Prop where
  bitsLt_bf16_f32 : FTy.bits .bf16 < FTy.bits .f32
  bcast_S_S32768x1024 : S_.BroadcastsInDim S32768x1024 (![] : Fin 0 → Fin S32768x1024.rank)
  reducesTo_S32768x1024_S_d0_1 : S32768x1024.ReducesTo [0, 1] S_
  h_S_ : 0 < S_.numel
  bcast_S_S32768x256 : S_.BroadcastsInDim S32768x256 (![] : Fin 0 → Fin S32768x256.rank)
  reducesTo_S32768x256_S_d0_1 : S32768x256.ReducesTo [0, 1] S_
  bcast_S_S4096x256 : S_.BroadcastsInDim S4096x256 (![] : Fin 0 → Fin S4096x256.rank)
  reducesTo_S4096x256_S_d0_1 : S4096x256.ReducesTo [0, 1] S_

variable [Facts]

def fn {F : FTy → Type} [FloatOps F] (main_arg0 : FVec F S32768x1024 .bf16) (main_arg1 : FVec F S32768x256 .bf16) (main_arg2 : FVec F S32768x256 .bf16) (main_arg3 : FVec F S4096x256 .bf16) (main_arg4 : FVec F S4096x256 .bf16) : IVec S_ 1 :=
  let main_v0 : FVec F S32768x1024 .f32 := (extf .f32 · bitsLt_bf16_f32) main_arg0
  let main_v1 : FVec F S32768x1024 .f32 := Host.absf main_v0
  let main_cst : FVec F S_ .f32 := constant S_ .f32 0x7F800000#32
  let main_v2 : FVec F S32768x1024 .f32 := broadcastInDim S32768x1024 ![] bcast_S_S32768x1024 main_cst
  let main_v3 : IVec S32768x1024 1 := cmpf .olt main_v1 main_v2
  let main_c : IVec S_ 1 := constantI S_ 1 1#1
  let main_v4 : IVec S_ 1 := (fun x v => Host.reduce IntOp.andi x v reducesTo_S32768x1024_S_d0_1 h_S_) main_v3 main_c
  let main_v5 : FVec F S32768x256 .f32 := (extf .f32 · bitsLt_bf16_f32) main_arg1
  let main_v6 : FVec F S32768x256 .f32 := Host.absf main_v5
  let main_cst_0 : FVec F S_ .f32 := constant S_ .f32 0x7F800000#32
  let main_v7 : FVec F S32768x256 .f32 := broadcastInDim S32768x256 ![] bcast_S_S32768x256 main_cst_0
  let main_v8 : IVec S32768x256 1 := cmpf .olt main_v6 main_v7
  let main_c_1 : IVec S_ 1 := constantI S_ 1 1#1
  let main_v9 : IVec S_ 1 := (fun x v => Host.reduce IntOp.andi x v reducesTo_S32768x256_S_d0_1 h_S_) main_v8 main_c_1
  let main_v10 : IVec S_ 1 := andi main_v4 main_v9
  let main_v11 : FVec F S4096x256 .f32 := (extf .f32 · bitsLt_bf16_f32) main_arg3
  let main_v12 : FVec F S4096x256 .f32 := Host.absf main_v11
  let main_cst_2 : FVec F S_ .f32 := constant S_ .f32 0x7F800000#32
  let main_v13 : FVec F S4096x256 .f32 := broadcastInDim S4096x256 ![] bcast_S_S4096x256 main_cst_2
  let main_v14 : IVec S4096x256 1 := cmpf .olt main_v12 main_v13
  let main_c_3 : IVec S_ 1 := constantI S_ 1 1#1
  let main_v15 : IVec S_ 1 := (fun x v => Host.reduce IntOp.andi x v reducesTo_S4096x256_S_d0_1 h_S_) main_v14 main_c_3
  let main_v16 : IVec S_ 1 := andi main_v10 main_v15
  main_v16
-- ==== Pre_latent_finite.lean ====
abbrev S32768x1024 : Shape := ⟨2, ![32768, 1024]⟩
abbrev S4096x1024 : Shape := ⟨2, ![4096, 1024]⟩
abbrev S_ : Shape := ⟨0, ![]⟩

class Facts : Prop where
  bitsLt_bf16_f32 : FTy.bits .bf16 < FTy.bits .f32
  bcast_S_S32768x1024 : S_.BroadcastsInDim S32768x1024 (![] : Fin 0 → Fin S32768x1024.rank)
  reducesTo_S32768x1024_S_d0_1 : S32768x1024.ReducesTo [0, 1] S_
  h_S_ : 0 < S_.numel
  bcast_S_S4096x1024 : S_.BroadcastsInDim S4096x1024 (![] : Fin 0 → Fin S4096x1024.rank)
  reducesTo_S4096x1024_S_d0_1 : S4096x1024.ReducesTo [0, 1] S_

variable [Facts]

def fn {F : FTy → Type} [FloatOps F] (main_arg0 : FVec F S32768x1024 .bf16) (main_arg1 : FVec F S32768x1024 .bf16) (main_arg2 : FVec F S32768x1024 .bf16) (main_arg3 : FVec F S4096x1024 .bf16) (main_arg4 : FVec F S4096x1024 .bf16) : IVec S_ 1 :=
  let main_v0 : FVec F S32768x1024 .f32 := (extf .f32 · bitsLt_bf16_f32) main_arg0
  let main_v1 : FVec F S32768x1024 .f32 := Host.absf main_v0
  let main_cst : FVec F S_ .f32 := constant S_ .f32 0x7F800000#32
  let main_v2 : FVec F S32768x1024 .f32 := broadcastInDim S32768x1024 ![] bcast_S_S32768x1024 main_cst
  let main_v3 : IVec S32768x1024 1 := cmpf .olt main_v1 main_v2
  let main_c : IVec S_ 1 := constantI S_ 1 1#1
  let main_v4 : IVec S_ 1 := (fun x v => Host.reduce IntOp.andi x v reducesTo_S32768x1024_S_d0_1 h_S_) main_v3 main_c
  let main_v5 : FVec F S32768x1024 .f32 := (extf .f32 · bitsLt_bf16_f32) main_arg1
  let main_v6 : FVec F S32768x1024 .f32 := Host.absf main_v5
  let main_cst_0 : FVec F S_ .f32 := constant S_ .f32 0x7F800000#32
  let main_v7 : FVec F S32768x1024 .f32 := broadcastInDim S32768x1024 ![] bcast_S_S32768x1024 main_cst_0
  let main_v8 : IVec S32768x1024 1 := cmpf .olt main_v6 main_v7
  let main_c_1 : IVec S_ 1 := constantI S_ 1 1#1
  let main_v9 : IVec S_ 1 := (fun x v => Host.reduce IntOp.andi x v reducesTo_S32768x1024_S_d0_1 h_S_) main_v8 main_c_1
  let main_v10 : IVec S_ 1 := andi main_v4 main_v9
  let main_v11 : FVec F S4096x1024 .f32 := (extf .f32 · bitsLt_bf16_f32) main_arg3
  let main_v12 : FVec F S4096x1024 .f32 := Host.absf main_v11
  let main_cst_2 : FVec F S_ .f32 := constant S_ .f32 0x7F800000#32
  let main_v13 : FVec F S4096x1024 .f32 := broadcastInDim S4096x1024 ![] bcast_S_S4096x1024 main_cst_2
  let main_v14 : IVec S4096x1024 1 := cmpf .olt main_v12 main_v13
  let main_c_3 : IVec S_ 1 := constantI S_ 1 1#1
  let main_v15 : IVec S_ 1 := (fun x v => Host.reduce IntOp.andi x v reducesTo_S4096x1024_S_d0_1 h_S_) main_v14 main_c_3
  let main_v16 : IVec S_ 1 := andi main_v10 main_v15
  main_v16
-- ==== Kernel.lean ====
abbrev S32768x1024 : Shape := ⟨2, ![32768, 1024]⟩
abbrev S32768x256 : Shape := ⟨2, ![32768, 256]⟩
abbrev S4096x256 : Shape := ⟨2, ![4096, 256]⟩
abbrev S1024x512 : Shape := ⟨2, ![1024, 512]⟩
abbrev S2048x128 : Shape := ⟨2, ![2048, 128]⟩
abbrev S256x128 : Shape := ⟨2, ![256, 128]⟩
abbrev S1024x128 : Shape := ⟨2, ![1024, 128]⟩
abbrev S1024x256 : Shape := ⟨2, ![1024, 256]⟩
abbrev S1024 : Shape := ⟨1, ![1024]⟩
abbrev S1024x1 : Shape := ⟨2, ![1024, 1]⟩
abbrev S1024x2048 : Shape := ⟨2, ![1024, 2048]⟩

abbrev nBuf : Space → Nat
  | .hbm => 6
  | .vmem => 12
  | .smem => 0
  | _ => 0

abbrev bufTy : (tb : Table) → Fin (tcTables nBuf tb) → BufTy
  | .hbm, ⟨0, _⟩ => ⟨S32768x1024, .bf16⟩
  | .hbm, ⟨1, _⟩ => ⟨S32768x256, .bf16⟩
  | .hbm, ⟨2, _⟩ => ⟨S32768x256, .bf16⟩
  | .hbm, ⟨3, _⟩ => ⟨S4096x256, .bf16⟩
  | .hbm, ⟨4, _⟩ => ⟨S4096x256, .bf16⟩
  | .hbm, ⟨5, _⟩ => ⟨S32768x1024, .bf16⟩
  | .local _ .vmem, ⟨0, _⟩ => ⟨S1024x512, .bf16⟩
  | .local _ .vmem, ⟨1, _⟩ => ⟨S1024x512, .bf16⟩
  | .local _ .vmem, ⟨2, _⟩ => ⟨S2048x128, .bf16⟩
  | .local _ .vmem, ⟨3, _⟩ => ⟨S2048x128, .bf16⟩
  | .local _ .vmem, ⟨4, _⟩ => ⟨S2048x128, .bf16⟩
  | .local _ .vmem, ⟨5, _⟩ => ⟨S2048x128, .bf16⟩
  | .local _ .vmem, ⟨6, _⟩ => ⟨S256x128, .bf16⟩
  | .local _ .vmem, ⟨7, _⟩ => ⟨S256x128, .bf16⟩
  | .local _ .vmem, ⟨8, _⟩ => ⟨S256x128, .bf16⟩
  | .local _ .vmem, ⟨9, _⟩ => ⟨S256x128, .bf16⟩
  | .local _ .vmem, ⟨10, _⟩ => ⟨S1024x512, .bf16⟩
  | .local _ .vmem, ⟨11, _⟩ => ⟨S1024x512, .bf16⟩
  | _, _ => ⟨S32768x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![16, 2, 2], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg2
  let c0_i32 : BitVec 32 := 0#32
  ![v1.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== ReferenceIdeal.lean ====
abbrev S32768x1024 : Shape := ⟨2, ![32768, 1024]⟩
abbrev S32768x256 : Shape := ⟨2, ![32768, 256]⟩
abbrev S4096x256 : Shape := ⟨2, ![4096, 256]⟩
abbrev S16x2048x2x4x128 : Shape := ⟨5, ![16, 2048, 2, 4, 128]⟩
abbrev S16x2x4x2048x128 : Shape := ⟨5, ![16, 2, 4, 2048, 128]⟩
abbrev S_ : Shape := ⟨0, ![]⟩
abbrev S16x2048x2x128 : Shape := ⟨4, ![16, 2048, 2, 128]⟩
abbrev S16x2x2048x128 : Shape := ⟨4, ![16, 2, 2048, 128]⟩
abbrev S16x256x2x128 : Shape := ⟨4, ![16, 256, 2, 128]⟩
abbrev S16x2x256x128 : Shape := ⟨4, ![16, 2, 256, 128]⟩
abbrev S16x2x2304x128 : Shape := ⟨4, ![16, 2, 2304, 128]⟩
abbrev S16x2x4x2048x2304 : Shape := ⟨5, ![16, 2, 4, 2048, 2304]⟩
abbrev S16x2x4x2048 : Shape := ⟨4, ![16, 2, 4, 2048]⟩
abbrev S16x2x4x2048x1 : Shape := ⟨5, ![16, 2, 4, 2048, 1]⟩

abbrev nBuf : Space → Nat
  | .hbm => 45
  | .vmem => 0
  | .smem => 0
  | _ => 0

abbrev bufTy : (tb : Table) → Fin (tcTables nBuf tb) → BufTy
  | .hbm, ⟨0, _⟩ => ⟨S32768x1024, .bf16⟩
  | .hbm, ⟨1, _⟩ => ⟨S32768x256, .bf16⟩
  | .hbm, ⟨2, _⟩ => ⟨S32768x256, .bf16⟩
  | .hbm, ⟨3, _⟩ => ⟨S4096x256, .bf16⟩
  | .hbm, ⟨4, _⟩ => ⟨S4096x256, .bf16⟩
  | .hbm, ⟨5, _⟩ => ⟨S16x2048x2x4x128, .bf16⟩
  | .hbm, ⟨6, _⟩ => ⟨S16x2x4x2048x128, .bf16⟩
  | .hbm, ⟨7, _⟩ => ⟨S16x2x4x2048x128, .f32⟩
  | .hbm, ⟨8, _⟩ => ⟨S_, .f32⟩
  | .hbm, ⟨9, _⟩ => ⟨S_, .f32⟩
  | .hbm, ⟨10, _⟩ => ⟨S16x2x4x2048x128, .f32⟩
  | .hbm, ⟨11, _⟩ => ⟨S16x2x4x2048x128, .f32⟩
  | .hbm, ⟨12, _⟩ => ⟨S16x2048x2x128, .bf16⟩
  | .hbm, ⟨13, _⟩ => ⟨S16x2x2048x128, .bf16⟩
  | .hbm, ⟨14, _⟩ => ⟨S16x2x2048x128, .f32⟩
  | .hbm, ⟨15, _⟩ => ⟨S16x256x2x128, .bf16⟩
  | .hbm, ⟨16, _⟩ => ⟨S16x2x256x128, .bf16⟩
  | .hbm, ⟨17, _⟩ => ⟨S16x2x256x128, .f32⟩
  | .hbm, ⟨18, _⟩ => ⟨S16x2x2304x128, .f32⟩
  | .hbm, ⟨19, _⟩ => ⟨S16x2048x2x128, .bf16⟩
  | .hbm, ⟨20, _⟩ => ⟨S16x2x2048x128, .bf16⟩
  | .hbm, ⟨21, _⟩ => ⟨S16x2x2048x128, .f32⟩
  | .hbm, ⟨22, _⟩ => ⟨S16x256x2x128, .bf16⟩
  | .hbm, ⟨23, _⟩ => ⟨S16x2x256x128, .bf16⟩
  | .hbm, ⟨24, _⟩ => ⟨S16x2x256x128, .f32⟩
  | .hbm, ⟨25, _⟩ => ⟨S16x2x2304x128, .f32⟩
  | .hbm, ⟨26, _⟩ => ⟨S16x2x4x2048x2304, .f32⟩
  | .hbm, ⟨27, _⟩ => ⟨S_, .f32⟩
  | .hbm, ⟨28, _⟩ => ⟨S16x2x4x2048, .f32⟩
  | .hbm, ⟨29, _⟩ => ⟨S_, .f32⟩
  | .hbm, ⟨30, _⟩ => ⟨S16x2x4x2048, .f32⟩
  | .hbm, ⟨31, _⟩ => ⟨S16x2x4x2048, .f32⟩
  | .hbm, ⟨32, _⟩ => ⟨S16x2x4x2048x1, .f32⟩
  | .hbm, ⟨33, _⟩ => ⟨S16x2x4x2048x2304, .f32⟩
  | .hbm, ⟨34, _⟩ => ⟨S16x2x4x2048x2304, .f32⟩
  | .hbm, ⟨35, _⟩ => ⟨S16x2x4x2048x2304, .f32⟩
  | .hbm, ⟨36, _⟩ => ⟨S_, .f32⟩
  | .hbm, ⟨37, _⟩ => ⟨S16x2x4x2048, .f32⟩
  | .hbm, ⟨38, _⟩ => ⟨S16x2x4x2048x1, .f32⟩
  | .hbm, ⟨39, _⟩ => ⟨S16x2x4x2048x2304, .f32⟩
  | .hbm, ⟨40, _⟩ => ⟨S16x2x4x2048x2304, .f32⟩
  | .hbm, ⟨41, _⟩ => ⟨S16x2x4x2048x128, .f32⟩
  | .hbm, ⟨42, _⟩ => ⟨S16x2048x2x4x128, .f32⟩
  | .hbm, ⟨43, _⟩ => ⟨S32768x1024, .f32⟩
  | .hbm, ⟨44, _⟩ => ⟨S32768x1024, .bf16⟩
  | _, _ => ⟨S32768x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst_0 : Ref sig .tc := ⟨.hbm, 27, rfl⟩
abbrev main_v21 : Ref sig .tc := ⟨.hbm, 28, rfl⟩
abbrev main_cst_1 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_cst_2 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩

abbrev nD : Nat := 1
abbrev τ : Topo := Topo.v7x

variable {F : FTy → Type} [FloatOps F]
-- ==== Experts.lean ====
abbrev S1179648x128 : Shape := ⟨2, ![1179648, 128]⟩
abbrev S288 : Shape := ⟨1, ![288]⟩
abbrev S1 : Shape := ⟨1, ![1]⟩
abbrev S32x1024x2048 : Shape := ⟨3, ![32, 1024, 2048]⟩
abbrev S32x1x2048 : Shape := ⟨3, ![32, 1, 2048]⟩
abbrev S32x1024x1024 : Shape := ⟨3, ![32, 1024, 1024]⟩
abbrev S32x1x1024 : Shape := ⟨3, ![32, 1, 1024]⟩
abbrev S4096x128 : Shape := ⟨2, ![4096, 128]⟩
abbrev S1x1024x2048 : Shape := ⟨3, ![1, 1024, 2048]⟩
abbrev S1x1x2048 : Shape := ⟨3, ![1, 1, 2048]⟩
abbrev S1x1024x1024 : Shape := ⟨3, ![1, 1024, 1024]⟩
abbrev S1x1x1024 : Shape := ⟨3, ![1, 1, 1024]⟩
abbrev S512x128 : Shape := ⟨2, ![512, 128]⟩
abbrev S512x1024 : Shape := ⟨2, ![512, 1024]⟩
abbrev S1024x2048 : Shape := ⟨2, ![1024, 2048]⟩
abbrev S512x2048 : Shape := ⟨2, ![512, 2048]⟩
abbrev S1x2048 : Shape := ⟨2, ![1, 2048]⟩
abbrev S1024x1024 : Shape := ⟨2, ![1024, 1024]⟩
abbrev S1x1024 : Shape := ⟨2, ![1, 1024]⟩

abbrev nBuf : Space → Nat
  | .hbm => 6
  | .vmem => 12
  | .smem => 2
  | _ => 0

abbrev bufTy : (tb : Table) → Fin (tcTables nBuf tb) → BufTy
  | .hbm, ⟨0, _⟩ => ⟨S1179648x128, .f32⟩
  | .hbm, ⟨1, _⟩ => ⟨S32x1024x2048, .bf16⟩
  | .hbm, ⟨2, _⟩ => ⟨S32x1x2048, .f32⟩
  | .hbm, ⟨3, _⟩ => ⟨S32x1024x1024, .bf16⟩
  | .hbm, ⟨4, _⟩ => ⟨S32x1x1024, .f32⟩
  | .hbm, ⟨5, _⟩ => ⟨S1179648x128, .f32⟩
  | .local _ .vmem, ⟨0, _⟩ => ⟨S4096x128, .f32⟩
  | .local _ .vmem, ⟨1, _⟩ => ⟨S4096x128, .f32⟩
  | .local _ .vmem, ⟨2, _⟩ => ⟨S1x1024x2048, .bf16⟩
  | .local _ .vmem, ⟨3, _⟩ => ⟨S1x1024x2048, .bf16⟩
  | .local _ .vmem, ⟨4, _⟩ => ⟨S1x1x2048, .f32⟩
  | .local _ .vmem, ⟨5, _⟩ => ⟨S1x1x2048, .f32⟩
  | .local _ .vmem, ⟨6, _⟩ => ⟨S1x1024x1024, .bf16⟩
  | .local _ .vmem, ⟨7, _⟩ => ⟨S1x1024x1024, .bf16⟩
  | .local _ .vmem, ⟨8, _⟩ => ⟨S1x1x1024, .f32⟩
  | .local _ .vmem, ⟨9, _⟩ => ⟨S1x1x1024, .f32⟩
  | .local _ .vmem, ⟨10, _⟩ => ⟨S4096x128, .f32⟩
  | .local _ .vmem, ⟨11, _⟩ => ⟨S4096x128, .f32⟩
  | .local _ .smem, ⟨0, _⟩ => ⟨S288, .i32⟩
  | .local _ .smem, ⟨1, _⟩ => ⟨S1, .i32⟩
  | _, _ => ⟨S1179648x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_arg6 : Ref sig .tc := ⟨.hbm, 4, rfl⟩
abbrev main_v0 : Ref sig .tc := ⟨.hbm, 5, rfl⟩
abbrev main_arg1 : Ref sig .tc := ⟨.smem, 0, rfl⟩
abbrev main_arg2 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![288], ![false]⟩

abbrev pre0 : Pipeline.Prefetch sig := ⟨2, ![main_arg1.idx, main_arg2.idx], fun | 0 => main_arg1.names | 1 => main_arg2.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def k0_cond2 (i : grid0.Coords) (v4 : BitVec 32) : BitVec 1 :=
  let arg0 : BitVec 32 := BitVec.ofNat 32 (i 0).val
  let v5 : BitVec 1 := Scalar.cmpi .sge arg0 v4
  let v6 : BitVec 32 := Scalar.extui v5
  let c0_i32_1 : BitVec 32 := 0#32
  let v7 : BitVec 1 := Scalar.cmpi .ne v6 c0_i32_1
  v7

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4096x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ExpertsIdeal.lean ====
abbrev S1179648x128 : Shape := ⟨2, ![1179648, 128]⟩
abbrev S288 : Shape := ⟨1, ![288]⟩
abbrev S1 : Shape := ⟨1, ![1]⟩
abbrev S32x1024x2048 : Shape := ⟨3, ![32, 1024, 2048]⟩
abbrev S32x1x2048 : Shape := ⟨3, ![32, 1, 2048]⟩
abbrev S32x1024x1024 : Shape := ⟨3, ![32, 1024, 1024]⟩
abbrev S32x1x1024 : Shape := ⟨3, ![32, 1, 1024]⟩
abbrev S4096x128 : Shape := ⟨2, ![4096, 128]⟩
abbrev S1x1024x2048 : Shape := ⟨3, ![1, 1024, 2048]⟩
abbrev S1x1x2048 : Shape := ⟨3, ![1, 1, 2048]⟩
abbrev S1x1024x1024 : Shape := ⟨3, ![1, 1024, 1024]⟩
abbrev S1x1x1024 : Shape := ⟨3, ![1, 1, 1024]⟩
abbrev S512x128 : Shape := ⟨2, ![512, 128]⟩
abbrev S512x1024 : Shape := ⟨2, ![512, 1024]⟩
abbrev S1024x2048 : Shape := ⟨2, ![1024, 2048]⟩
abbrev S512x2048 : Shape := ⟨2, ![512, 2048]⟩
abbrev S1x2048 : Shape := ⟨2, ![1, 2048]⟩
abbrev S1024x1024 : Shape := ⟨2, ![1024, 1024]⟩
abbrev S1x1024 : Shape := ⟨2, ![1, 1024]⟩

abbrev nBuf : Space → Nat
  | .hbm => 6
  | .vmem => 12
  | .smem => 2
  | _ => 0

abbrev bufTy : (tb : Table) → Fin (tcTables nBuf tb) → BufTy
  | .hbm, ⟨0, _⟩ => ⟨S1179648x128, .f32⟩
  | .hbm, ⟨1, _⟩ => ⟨S32x1024x2048, .bf16⟩
  | .hbm, ⟨2, _⟩ => ⟨S32x1x2048, .f32⟩
  | .hbm, ⟨3, _⟩ => ⟨S32x1024x1024, .bf16⟩
  | .hbm, ⟨4, _⟩ => ⟨S32x1x1024, .f32⟩
  | .hbm, ⟨5, _⟩ => ⟨S1179648x128, .f32⟩
  | .local _ .vmem, ⟨0, _⟩ => ⟨S4096x128, .f32⟩
  | .local _ .vmem, ⟨1, _⟩ => ⟨S4096x128, .f32⟩
  | .local _ .vmem, ⟨2, _⟩ => ⟨S1x1024x2048, .bf16⟩
  | .local _ .vmem, ⟨3, _⟩ => ⟨S1x1024x2048, .bf16⟩
  | .local _ .vmem, ⟨4, _⟩ => ⟨S1x1x2048, .f32⟩
  | .local _ .vmem, ⟨5, _⟩ => ⟨S1x1x2048, .f32⟩
  | .local _ .vmem, ⟨6, _⟩ => ⟨S1x1024x1024, .bf16⟩
  | .local _ .vmem, ⟨7, _⟩ => ⟨S1x1024x1024, .bf16⟩
  | .local _ .vmem, ⟨8, _⟩ => ⟨S1x1x1024, .f32⟩
  | .local _ .vmem, ⟨9, _⟩ => ⟨S1x1x1024, .f32⟩
  | .local _ .vmem, ⟨10, _⟩ => ⟨S4096x128, .f32⟩
  | .local _ .vmem, ⟨11, _⟩ => ⟨S4096x128, .f32⟩
  | .local _ .smem, ⟨0, _⟩ => ⟨S288, .i32⟩
  | .local _ .smem, ⟨1, _⟩ => ⟨S1, .i32⟩
  | _, _ => ⟨S1179648x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_arg6 : Ref sig .tc := ⟨.hbm, 4, rfl⟩
abbrev main_v0 : Ref sig .tc := ⟨.hbm, 5, rfl⟩
abbrev main_arg1 : Ref sig .tc := ⟨.smem, 0, rfl⟩
abbrev main_arg2 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![288], ![false]⟩

abbrev pre0 : Pipeline.Prefetch sig := ⟨2, ![main_arg1.idx, main_arg2.idx], fun | 0 => main_arg1.names | 1 => main_arg2.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def k0_cond2 (i : grid0.Coords) (v4 : BitVec 32) : BitVec 1 :=
  let arg0 : BitVec 32 := BitVec.ofNat 32 (i 0).val
  let v5 : BitVec 1 := Scalar.cmpi .sge arg0 v4
  let v6 : BitVec 32 := Scalar.extui v5
  let c0_i32_1 : BitVec 32 := 0#32
  let v7 : BitVec 1 := Scalar.cmpi .ne v6 c0_i32_1
  v7

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4096x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ExpertsReferenceIdeal.lean ====
abbrev S1179648x128 : Shape := ⟨2, ![1179648, 128]⟩
abbrev S288 : Shape := ⟨1, ![288]⟩
abbrev S1 : Shape := ⟨1, ![1]⟩
abbrev S32x1024x2048 : Shape := ⟨3, ![32, 1024, 2048]⟩
abbrev S32x1x2048 : Shape := ⟨3, ![32, 1, 2048]⟩
abbrev S32x1024x1024 : Shape := ⟨3, ![32, 1024, 1024]⟩
abbrev S32x1x1024 : Shape := ⟨3, ![32, 1, 1024]⟩
abbrev S288x512x1024 : Shape := ⟨3, ![288, 512, 1024]⟩
abbrev S_ : Shape := ⟨0, ![]⟩
abbrev S288x1 : Shape := ⟨2, ![288, 1]⟩
abbrev S288x1024x2048 : Shape := ⟨3, ![288, 1024, 2048]⟩
abbrev S288x512x2048 : Shape := ⟨3, ![288, 512, 2048]⟩
abbrev S288x1x2048 : Shape := ⟨3, ![288, 1, 2048]⟩
abbrev S288x512x8x2x128 : Shape := ⟨5, ![288, 512, 8, 2, 128]⟩
abbrev S288x512x8x128x2 : Shape := ⟨5, ![288, 512, 8, 128, 2]⟩
abbrev S288x1024x1024 : Shape := ⟨3, ![288, 1024, 1024]⟩
abbrev S288x1x1024 : Shape := ⟨3, ![288, 1, 1024]⟩
abbrev S288x1x1 : Shape := ⟨3, ![288, 1, 1]⟩

abbrev nBuf : Space → Nat
  | .hbm => 95
  | .vmem => 0
  | .smem => 0
  | _ => 0

abbrev bufTy : (tb : Table) → Fin (tcTables nBuf tb) → BufTy
  | .hbm, ⟨0, _⟩ => ⟨S1179648x128, .f32⟩
  | .hbm, ⟨1, _⟩ => ⟨S288, .i32⟩
  | .hbm, ⟨2, _⟩ => ⟨S1, .i32⟩
  | .hbm, ⟨3, _⟩ => ⟨S32x1024x2048, .bf16⟩
  | .hbm, ⟨4, _⟩ => ⟨S32x1x2048, .f32⟩
  | .hbm, ⟨5, _⟩ => ⟨S32x1024x1024, .bf16⟩
  | .hbm, ⟨6, _⟩ => ⟨S32x1x1024, .f32⟩
  | .hbm, ⟨7, _⟩ => ⟨S288x512x1024, .f32⟩
  | .hbm, ⟨8, _⟩ => ⟨S_, .i32⟩
  | .hbm, ⟨9, _⟩ => ⟨S288, .i32⟩
  | .hbm, ⟨10, _⟩ => ⟨S288, .i1⟩
  | .hbm, ⟨11, _⟩ => ⟨S_, .i32⟩
  | .hbm, ⟨12, _⟩ => ⟨S288, .i32⟩
  | .hbm, ⟨13, _⟩ => ⟨S288, .i32⟩
  | .hbm, ⟨14, _⟩ => ⟨S288, .i32⟩
  | .hbm, ⟨15, _⟩ => ⟨S288x1, .i32⟩
  | .hbm, ⟨16, _⟩ => ⟨S288x1024x2048, .bf16⟩
  | .hbm, ⟨17, _⟩ => ⟨S288x1024x2048, .f32⟩
  | .hbm, ⟨18, _⟩ => ⟨S288x512x2048, .f32⟩
  | .hbm, ⟨19, _⟩ => ⟨S_, .i32⟩
  | .hbm, ⟨20, _⟩ => ⟨S288, .i32⟩
  | .hbm, ⟨21, _⟩ => ⟨S288, .i1⟩
  | .hbm, ⟨22, _⟩ => ⟨S_, .i32⟩
  | .hbm, ⟨23, _⟩ => ⟨S288, .i32⟩
  | .hbm, ⟨24, _⟩ => ⟨S288, .i32⟩
  | .hbm, ⟨25, _⟩ => ⟨S288, .i32⟩
  | .hbm, ⟨26, _⟩ => ⟨S288x1, .i32⟩
  | .hbm, ⟨27, _⟩ => ⟨S288x1x2048, .f32⟩
  | .hbm, ⟨28, _⟩ => ⟨S288x512x2048, .f32⟩
  | .hbm, ⟨29, _⟩ => ⟨S288x512x2048, .f32⟩
  | .hbm, ⟨30, _⟩ => ⟨S288x512x8x2x128, .f32⟩
  | .hbm, ⟨31, _⟩ => ⟨S288x512x8x128x2, .f32⟩
  | .hbm, ⟨32, _⟩ => ⟨S288x512x2048, .f32⟩
  | .hbm, ⟨33, _⟩ => ⟨S288x512x1024, .f32⟩
  | .hbm, ⟨34, _⟩ => ⟨S_, .f32⟩
  | .hbm, ⟨35, _⟩ => ⟨S288x512x1024, .f32⟩
  | .hbm, ⟨36, _⟩ => ⟨S288x512x1024, .f32⟩
  | .hbm, ⟨37, _⟩ => ⟨S288x512x1024, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S288x512x1024, .f32⟩
  | .hbm, ⟨42, _⟩ => ⟨S288x512x1024, .f32⟩
  | .hbm, ⟨43, _⟩ => ⟨S_, .f32⟩
  | .hbm, ⟨44, _⟩ => ⟨S288x512x1024, .f32⟩
  | .hbm, ⟨45, _⟩ => ⟨S288x512x1024, .f32⟩
  | .hbm, ⟨46, _⟩ => ⟨S_, .f32⟩
  | .hbm, ⟨47, _⟩ => ⟨S288x512x1024, .f32⟩
  | .hbm, ⟨48, _⟩ => ⟨S288x512x1024, .f32⟩
  | .hbm, ⟨49, _⟩ => ⟨S288x512x1024, .f32⟩
  | .hbm, ⟨50, _⟩ => ⟨S288x512x1024, .f32⟩
  | .hbm, ⟨51, _⟩ => ⟨S_, .f32⟩
  | .hbm, ⟨52, _⟩ => ⟨S288x512x1024, .f32⟩
  | .hbm, ⟨53, _⟩ => ⟨S288x512x1024, .f32⟩
  | .hbm, ⟨54, _⟩ => ⟨S_, .f32⟩
  | .hbm, ⟨55, _⟩ => ⟨S288x512x1024, .f32⟩
  | .hbm, ⟨56, _⟩ => ⟨S288x512x1024, .f32⟩
  | .hbm, ⟨57, _⟩ => ⟨S288x512x1024, .f32⟩
  | .hbm, ⟨58, _⟩ => ⟨S_, .f32⟩
  | .hbm, ⟨59, _⟩ => ⟨S288x512x1024, .f32⟩
  | .hbm, ⟨60, _⟩ => ⟨S288x512x1024, .f32⟩
  | .hbm, ⟨61, _⟩ => ⟨S288x512x1024, .f32⟩
  | .hbm, ⟨62, _⟩ => ⟨S_, .i32⟩
  | .hbm, ⟨63, _⟩ => ⟨S288, .i32⟩
  | .hbm, ⟨64, _⟩ => ⟨S288, .i1⟩
  | .hbm, ⟨65, _⟩ => ⟨S_, .i32⟩
  | .hbm, ⟨66, _⟩ => ⟨S288, .i32⟩
  | .hbm, ⟨67, _⟩ => ⟨S288, .i32⟩
  | .hbm, ⟨68, _⟩ => ⟨S288, .i32⟩
  | .hbm, ⟨69, _⟩ => ⟨S288x1, .i32⟩
  | .hbm, ⟨70, _⟩ => ⟨S288x1024x1024, .bf16⟩
  | .hbm, ⟨71, _⟩ => ⟨S288x1024x1024, .f32⟩
  | .hbm, ⟨72, _⟩ => ⟨S288x512x1024, .f32⟩
  | .hbm, ⟨73, _⟩ => ⟨S_, .i32⟩
  | .hbm, ⟨74, _⟩ => ⟨S288, .i32⟩
  | .hbm, ⟨75, _⟩ => ⟨S288, .i1⟩
  | .hbm, ⟨76, _⟩ => ⟨S_, .i32⟩
  | .hbm, ⟨77, _⟩ => ⟨S288, .i32⟩
  | .hbm, ⟨78, _⟩ => ⟨S288, .i32⟩
  | .hbm, ⟨79, _⟩ => ⟨S288, .i32⟩
  | .hbm, ⟨80, _⟩ => ⟨S288x1, .i32⟩
  | .hbm, ⟨81, _⟩ => ⟨S288x1x1024, .f32⟩
  | .hbm, ⟨82, _⟩ => ⟨S288x512x1024, .f32⟩
  | .hbm, ⟨83, _⟩ => ⟨S288x512x1024, .f32⟩
  | .hbm, ⟨84, _⟩ => ⟨S288, .i32⟩
  | .hbm, ⟨85, _⟩ => ⟨S_, .i32⟩
  | .hbm, ⟨86, _⟩ => ⟨S288, .i32⟩
  | .hbm, ⟨87, _⟩ => ⟨S288, .i1⟩
  | .hbm, ⟨88, _⟩ => ⟨S288x1x1, .i1⟩
  | .hbm, ⟨89, _⟩ => ⟨S_, .f32⟩
  | .hbm, ⟨90, _⟩ => ⟨S_, .f32⟩
  | .hbm, ⟨91, _⟩ => ⟨S288x512x1024, .i1⟩
  | .hbm, ⟨92, _⟩ => ⟨S288x512x1024, .f32⟩
  | .hbm, ⟨93, _⟩ => ⟨S288x512x1024, .f32⟩
  | .hbm, ⟨94, _⟩ => ⟨S1179648x128, .f32⟩
  | _, _ => ⟨S1179648x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_c_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_c_1 : Ref sig .tc := ⟨.hbm, 19, rfl⟩
abbrev main_v10 : Ref sig .tc := ⟨.hbm, 20, rfl⟩
abbrev main_v11 : Ref sig .tc := ⟨.hbm, 21, rfl⟩
abbrev main_c_2 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_3 : Ref sig .tc := ⟨.hbm, 38, rfl⟩
abbrev main_cst_4 : Ref sig .tc := ⟨.hbm, 39, rfl⟩
abbrev main_call0_v0 : Ref sig .tc := ⟨.hbm, 40, rfl⟩
abbrev main_call0_v1 : Ref sig .tc := ⟨.hbm, 41, rfl⟩
abbrev main_call0_v2 : Ref sig .tc := ⟨.hbm, 42, rfl⟩
abbrev main_call0_v3 : Ref sig .tc := ⟨.hbm, 43, rfl⟩
abbrev main_call0_v4 : Ref sig .tc := ⟨.hbm, 44, rfl⟩
abbrev main_v26 : Ref sig .tc := ⟨.hbm, 45, rfl⟩
abbrev main_cst_5 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_cst_6 : Ref sig .tc := ⟨.hbm, 51, rfl⟩
abbrev main_v31 : Ref sig .tc := ⟨.hbm, 52, rfl⟩
abbrev main_v32 : Ref sig .tc := ⟨.hbm, 53, rfl⟩
abbrev main_cst_7 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_cst_8 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_c_9 : Ref sig .tc := ⟨.hbm, 62, rfl⟩
abbrev main_v39 : Ref sig .tc := ⟨.hbm, 63, rfl⟩
abbrev main_v40 : Ref sig .tc := ⟨.hbm, 64, rfl⟩
abbrev main_c_10 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_c_11 : Ref sig .tc := ⟨.hbm, 73, rfl⟩
abbrev main_v48 : Ref sig .tc := ⟨.hbm, 74, rfl⟩
abbrev main_v49 : Ref sig .tc := ⟨.hbm, 75, rfl⟩
abbrev main_c_12 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_cst_13 : Ref sig .tc := ⟨.hbm, 89, rfl⟩
abbrev main_call1_v0 : Ref sig .tc := ⟨.hbm, 90, rfl⟩
abbrev main_call1_v1 : Ref sig .tc := ⟨.hbm, 91, rfl⟩
abbrev main_call1_v2 : Ref sig .tc := ⟨.hbm, 92, rfl⟩
abbrev main_v62 : Ref sig .tc := ⟨.hbm, 93, rfl⟩
abbrev main_v63 : Ref sig .tc := ⟨.hbm, 94, rfl⟩

abbrev nD : Nat := 1
abbrev τ : Topo := Topo.v7x

variable {F : FTy → Type} [FloatOps F]
-- ==== EvenExperts.lean ====
abbrev S1310720x128 : Shape := ⟨2, ![1310720, 128]⟩
abbrev S320 : Shape := ⟨1, ![320]⟩
abbrev S1 : Shape := ⟨1, ![1]⟩
abbrev S32x1024x2048 : Shape := ⟨3, ![32, 1024, 2048]⟩
abbrev S32x1x2048 : Shape := ⟨3, ![32, 1, 2048]⟩
abbrev S32x1024x1024 : Shape := ⟨3, ![32, 1024, 1024]⟩
abbrev S32x1x1024 : Shape := ⟨3, ![32, 1, 1024]⟩
abbrev S4096x128 : Shape := ⟨2, ![4096, 128]⟩
abbrev S1x1024x2048 : Shape := ⟨3, ![1, 1024, 2048]⟩
abbrev S1x1x2048 : Shape := ⟨3, ![1, 1, 2048]⟩
abbrev S1x1024x1024 : Shape := ⟨3, ![1, 1024, 1024]⟩
abbrev S1x1x1024 : Shape := ⟨3, ![1, 1, 1024]⟩
abbrev S512x128 : Shape := ⟨2, ![512, 128]⟩
abbrev S512x1024 : Shape := ⟨2, ![512, 1024]⟩
abbrev S1024x2048 : Shape := ⟨2, ![1024, 2048]⟩
abbrev S512x2048 : Shape := ⟨2, ![512, 2048]⟩
abbrev S1x2048 : Shape := ⟨2, ![1, 2048]⟩
abbrev S1024x1024 : Shape := ⟨2, ![1024, 1024]⟩
abbrev S1x1024 : Shape := ⟨2, ![1, 1024]⟩

abbrev nBuf : Space → Nat
  | .hbm => 6
  | .vmem => 12
  | .smem => 2
  | _ => 0

abbrev bufTy : (tb : Table) → Fin (tcTables nBuf tb) → BufTy
  | .hbm, ⟨0, _⟩ => ⟨S1310720x128, .f32⟩
  | .hbm, ⟨1, _⟩ => ⟨S32x1024x2048, .bf16⟩
  | .hbm, ⟨2, _⟩ => ⟨S32x1x2048, .f32⟩
  | .hbm, ⟨3, _⟩ => ⟨S32x1024x1024, .bf16⟩
  | .hbm, ⟨4, _⟩ => ⟨S32x1x1024, .f32⟩
  | .hbm, ⟨5, _⟩ => ⟨S1310720x128, .f32⟩
  | .local _ .vmem, ⟨0, _⟩ => ⟨S4096x128, .f32⟩
  | .local _ .vmem, ⟨1, _⟩ => ⟨S4096x128, .f32⟩
  | .local _ .vmem, ⟨2, _⟩ => ⟨S1x1024x2048, .bf16⟩
  | .local _ .vmem, ⟨3, _⟩ => ⟨S1x1024x2048, .bf16⟩
  | .local _ .vmem, ⟨4, _⟩ => ⟨S1x1x2048, .f32⟩
  | .local _ .vmem, ⟨5, _⟩ => ⟨S1x1x2048, .f32⟩
  | .local _ .vmem, ⟨6, _⟩ => ⟨S1x1024x1024, .bf16⟩
  | .local _ .vmem, ⟨7, _⟩ => ⟨S1x1024x1024, .bf16⟩
  | .local _ .vmem, ⟨8, _⟩ => ⟨S1x1x1024, .f32⟩
  | .local _ .vmem, ⟨9, _⟩ => ⟨S1x1x1024, .f32⟩
  | .local _ .vmem, ⟨10, _⟩ => ⟨S4096x128, .f32⟩
  | .local _ .vmem, ⟨11, _⟩ => ⟨S4096x128, .f32⟩
  | .local _ .smem, ⟨0, _⟩ => ⟨S320, .i32⟩
  | .local _ .smem, ⟨1, _⟩ => ⟨S1, .i32⟩
  | _, _ => ⟨S1310720x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_arg6 : Ref sig .tc := ⟨.hbm, 4, rfl⟩
abbrev main_v0 : Ref sig .tc := ⟨.hbm, 5, rfl⟩
abbrev main_arg1 : Ref sig .tc := ⟨.smem, 0, rfl⟩
abbrev main_arg2 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![320], ![false]⟩

abbrev pre0 : Pipeline.Prefetch sig := ⟨2, ![main_arg1.idx, main_arg2.idx], fun | 0 => main_arg1.names | 1 => main_arg2.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def k0_cond2 (i : grid0.Coords) (v4 : BitVec 32) : BitVec 1 :=
  let arg0 : BitVec 32 := BitVec.ofNat 32 (i 0).val
  let v5 : BitVec 1 := Scalar.cmpi .sge arg0 v4
  let v6 : BitVec 32 := Scalar.extui v5
  let c0_i32_1 : BitVec 32 := 0#32
  let v7 : BitVec 1 := Scalar.cmpi .ne v6 c0_i32_1
  v7

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S320.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S320) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S320.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S320) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S320.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S320) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (k0_off1_inb : ∀ i : grid0.Coords, ∀ a, (k0_off1 i) a + S1.size a ≤ S320.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S320) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4096x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== EvenExpertsReferenceIdeal.lean ====
abbrev S1310720x128 : Shape := ⟨2, ![1310720, 128]⟩
abbrev S320 : Shape := ⟨1, ![320]⟩
abbrev S1 : Shape := ⟨1, ![1]⟩
abbrev S32x1024x2048 : Shape := ⟨3, ![32, 1024, 2048]⟩
abbrev S32x1x2048 : Shape := ⟨3, ![32, 1, 2048]⟩
abbrev S32x1024x1024 : Shape := ⟨3, ![32, 1024, 1024]⟩
abbrev S32x1x1024 : Shape := ⟨3, ![32, 1, 1024]⟩
abbrev S320x512x1024 : Shape := ⟨3, ![320, 512, 1024]⟩
abbrev S_ : Shape := ⟨0, ![]⟩
abbrev S320x1 : Shape := ⟨2, ![320, 1]⟩
abbrev S320x1024x2048 : Shape := ⟨3, ![320, 1024, 2048]⟩
abbrev S320x512x2048 : Shape := ⟨3, ![320, 512, 2048]⟩
abbrev S320x1x2048 : Shape := ⟨3, ![320, 1, 2048]⟩
abbrev S320x512x8x2x128 : Shape := ⟨5, ![320, 512, 8, 2, 128]⟩
abbrev S320x512x8x128x2 : Shape := ⟨5, ![320, 512, 8, 128, 2]⟩
abbrev S320x1024x1024 : Shape := ⟨3, ![320, 1024, 1024]⟩
abbrev S320x1x1024 : Shape := ⟨3, ![320, 1, 1024]⟩
abbrev S320x1x1 : Shape := ⟨3, ![320, 1, 1]⟩

abbrev nBuf : Space → Nat
  | .hbm => 95
  | .vmem => 0
  | .smem => 0
  | _ => 0

abbrev bufTy : (tb : Table) → Fin (tcTables nBuf tb) → BufTy
  | .hbm, ⟨0, _⟩ => ⟨S1310720x128, .f32⟩
  | .hbm, ⟨1, _⟩ => ⟨S320, .i32⟩
  | .hbm, ⟨2, _⟩ => ⟨S1, .i32⟩
  | .hbm, ⟨3, _⟩ => ⟨S32x1024x2048, .bf16⟩
  | .hbm, ⟨4, _⟩ => ⟨S32x1x2048, .f32⟩
  | .hbm, ⟨5, _⟩ => ⟨S32x1024x1024, .bf16⟩
  | .hbm, ⟨6, _⟩ => ⟨S32x1x1024, .f32⟩
  | .hbm, ⟨7, _⟩ => ⟨S320x512x1024, .f32⟩
  | .hbm, ⟨8, _⟩ => ⟨S_, .i32⟩
  | .hbm, ⟨9, _⟩ => ⟨S320, .i32⟩
  | .hbm, ⟨10, _⟩ => ⟨S320, .i1⟩
  | .hbm, ⟨11, _⟩ => ⟨S_, .i32⟩
  | .hbm, ⟨12, _⟩ => ⟨S320, .i32⟩
  | .hbm, ⟨13, _⟩ => ⟨S320, .i32⟩
  | .hbm, ⟨14, _⟩ => ⟨S320, .i32⟩
  | .hbm, ⟨15, _⟩ => ⟨S320x1, .i32⟩
  | .hbm, ⟨16, _⟩ => ⟨S320x1024x2048, .bf16⟩
  | .hbm, ⟨17, _⟩ => ⟨S320x1024x2048, .f32⟩
  | .hbm, ⟨18, _⟩ => ⟨S320x512x2048, .f32⟩
  | .hbm, ⟨19, _⟩ => ⟨S_, .i32⟩
  | .hbm, ⟨20, _⟩ => ⟨S320, .i32⟩
  | .hbm, ⟨21, _⟩ => ⟨S320, .i1⟩
  | .hbm, ⟨22, _⟩ => ⟨S_, .i32⟩
  | .hbm, ⟨23, _⟩ => ⟨S320, .i32⟩
  | .hbm, ⟨24, _⟩ => ⟨S320, .i32⟩
  | .hbm, ⟨25, _⟩ => ⟨S320, .i32⟩
  | .hbm, ⟨26, _⟩ => ⟨S320x1, .i32⟩
  | .hbm, ⟨27, _⟩ => ⟨S320x1x2048, .f32⟩
  | .hbm, ⟨28, _⟩ => ⟨S320x512x2048, .f32⟩
  | .hbm, ⟨29, _⟩ => ⟨S320x512x2048, .f32⟩
  | .hbm, ⟨30, _⟩ => ⟨S320x512x8x2x128, .f32⟩
  | .hbm, ⟨31, _⟩ => ⟨S320x512x8x128x2, .f32⟩
  | .hbm, ⟨32, _⟩ => ⟨S320x512x2048, .f32⟩
  | .hbm, ⟨33, _⟩ => ⟨S320x512x1024, .f32⟩
  | .hbm, ⟨34, _⟩ => ⟨S_, .f32⟩
  | .hbm, ⟨35, _⟩ => ⟨S320x512x1024, .f32⟩
  | .hbm, ⟨36, _⟩ => ⟨S320x512x1024, .f32⟩
  | .hbm, ⟨37, _⟩ => ⟨S320x512x1024, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S320x512x1024, .f32⟩
  | .hbm, ⟨42, _⟩ => ⟨S320x512x1024, .f32⟩
  | .hbm, ⟨43, _⟩ => ⟨S_, .f32⟩
  | .hbm, ⟨44, _⟩ => ⟨S320x512x1024, .f32⟩
  | .hbm, ⟨45, _⟩ => ⟨S320x512x1024, .f32⟩
  | .hbm, ⟨46, _⟩ => ⟨S_, .f32⟩
  | .hbm, ⟨47, _⟩ => ⟨S320x512x1024, .f32⟩
  | .hbm, ⟨48, _⟩ => ⟨S320x512x1024, .f32⟩
  | .hbm, ⟨49, _⟩ => ⟨S320x512x1024, .f32⟩
  | .hbm, ⟨50, _⟩ => ⟨S320x512x1024, .f32⟩
  | .hbm, ⟨51, _⟩ => ⟨S_, .f32⟩
  | .hbm, ⟨52, _⟩ => ⟨S320x512x1024, .f32⟩
  | .hbm, ⟨53, _⟩ => ⟨S320x512x1024, .f32⟩
  | .hbm, ⟨54, _⟩ => ⟨S_, .f32⟩
  | .hbm, ⟨55, _⟩ => ⟨S320x512x1024, .f32⟩
  | .hbm, ⟨56, _⟩ => ⟨S320x512x1024, .f32⟩
  | .hbm, ⟨57, _⟩ => ⟨S320x512x1024, .f32⟩
  | .hbm, ⟨58, _⟩ => ⟨S_, .f32⟩
  | .hbm, ⟨59, _⟩ => ⟨S320x512x1024, .f32⟩
  | .hbm, ⟨60, _⟩ => ⟨S320x512x1024, .f32⟩
  | .hbm, ⟨61, _⟩ => ⟨S320x512x1024, .f32⟩
  | .hbm, ⟨62, _⟩ => ⟨S_, .i32⟩
  | .hbm, ⟨63, _⟩ => ⟨S320, .i32⟩
  | .hbm, ⟨64, _⟩ => ⟨S320, .i1⟩
  | .hbm, ⟨65, _⟩ => ⟨S_, .i32⟩
  | .hbm, ⟨66, _⟩ => ⟨S320, .i32⟩
  | .hbm, ⟨67, _⟩ => ⟨S320, .i32⟩
  | .hbm, ⟨68, _⟩ => ⟨S320, .i32⟩
  | .hbm, ⟨69, _⟩ => ⟨S320x1, .i32⟩
  | .hbm, ⟨70, _⟩ => ⟨S320x1024x1024, .bf16⟩
  | .hbm, ⟨71, _⟩ => ⟨S320x1024x1024, .f32⟩
  | .hbm, ⟨72, _⟩ => ⟨S320x512x1024, .f32⟩
  | .hbm, ⟨73, _⟩ => ⟨S_, .i32⟩
  | .hbm, ⟨74, _⟩ => ⟨S320, .i32⟩
  | .hbm, ⟨75, _⟩ => ⟨S320, .i1⟩
  | .hbm, ⟨76, _⟩ => ⟨S_, .i32⟩
  | .hbm, ⟨77, _⟩ => ⟨S320, .i32⟩
  | .hbm, ⟨78, _⟩ => ⟨S320, .i32⟩
  | .hbm, ⟨79, _⟩ => ⟨S320, .i32⟩
  | .hbm, ⟨80, _⟩ => ⟨S320x1, .i32⟩
  | .hbm, ⟨81, _⟩ => ⟨S320x1x1024, .f32⟩
  | .hbm, ⟨82, _⟩ => ⟨S320x512x1024, .f32⟩
  | .hbm, ⟨83, _⟩ => ⟨S320x512x1024, .f32⟩
  | .hbm, ⟨84, _⟩ => ⟨S320, .i32⟩
  | .hbm, ⟨85, _⟩ => ⟨S_, .i32⟩
  | .hbm, ⟨86, _⟩ => ⟨S320, .i32⟩
  | .hbm, ⟨87, _⟩ => ⟨S320, .i1⟩
  | .hbm, ⟨88, _⟩ => ⟨S320x1x1, .i1⟩
  | .hbm, ⟨89, _⟩ => ⟨S_, .f32⟩
  | .hbm, ⟨90, _⟩ => ⟨S_, .f32⟩
  | .hbm, ⟨91, _⟩ => ⟨S320x512x1024, .i1⟩
  | .hbm, ⟨92, _⟩ => ⟨S320x512x1024, .f32⟩
  | .hbm, ⟨93, _⟩ => ⟨S320x512x1024, .f32⟩
  | .hbm, ⟨94, _⟩ => ⟨S1310720x128, .f32⟩
  | _, _ => ⟨S1310720x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_c_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_c_1 : Ref sig .tc := ⟨.hbm, 19, rfl⟩
abbrev main_v10 : Ref sig .tc := ⟨.hbm, 20, rfl⟩
abbrev main_v11 : Ref sig .tc := ⟨.hbm, 21, rfl⟩
abbrev main_c_2 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_3 : Ref sig .tc := ⟨.hbm, 38, rfl⟩
abbrev main_cst_4 : Ref sig .tc := ⟨.hbm, 39, rfl⟩
abbrev main_call0_v0 : Ref sig .tc := ⟨.hbm, 40, rfl⟩
abbrev main_call0_v1 : Ref sig .tc := ⟨.hbm, 41, rfl⟩
abbrev main_call0_v2 : Ref sig .tc := ⟨.hbm, 42, rfl⟩
abbrev main_call0_v3 : Ref sig .tc := ⟨.hbm, 43, rfl⟩
abbrev main_call0_v4 : Ref sig .tc := ⟨.hbm, 44, rfl⟩
abbrev main_v26 : Ref sig .tc := ⟨.hbm, 45, rfl⟩
abbrev main_cst_5 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_cst_6 : Ref sig .tc := ⟨.hbm, 51, rfl⟩
abbrev main_v31 : Ref sig .tc := ⟨.hbm, 52, rfl⟩
abbrev main_v32 : Ref sig .tc := ⟨.hbm, 53, rfl⟩
abbrev main_cst_7 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_cst_8 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_c_9 : Ref sig .tc := ⟨.hbm, 62, rfl⟩
abbrev main_v39 : Ref sig .tc := ⟨.hbm, 63, rfl⟩
abbrev main_v40 : Ref sig .tc := ⟨.hbm, 64, rfl⟩
abbrev main_c_10 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_c_11 : Ref sig .tc := ⟨.hbm, 73, rfl⟩
abbrev main_v48 : Ref sig .tc := ⟨.hbm, 74, rfl⟩
abbrev main_v49 : Ref sig .tc := ⟨.hbm, 75, rfl⟩
abbrev main_c_12 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_cst_13 : Ref sig .tc := ⟨.hbm, 89, rfl⟩
abbrev main_call1_v0 : Ref sig .tc := ⟨.hbm, 90, rfl⟩
abbrev main_call1_v1 : Ref sig .tc := ⟨.hbm, 91, rfl⟩
abbrev main_call1_v2 : Ref sig .tc := ⟨.hbm, 92, rfl⟩
abbrev main_v62 : Ref sig .tc := ⟨.hbm, 93, rfl⟩
abbrev main_v63 : Ref sig .tc := ⟨.hbm, 94, rfl⟩

abbrev nD : Nat := 1
abbrev τ : Topo := Topo.v7x

variable {F : FTy → Type} [FloatOps F]
-- ==== Latent.lean ====
abbrev S32768x1024 : Shape := ⟨2, ![32768, 1024]⟩
abbrev S4096x1024 : Shape := ⟨2, ![4096, 1024]⟩
abbrev S32768x512 : Shape := ⟨2, ![32768, 512]⟩
abbrev S1024x512 : Shape := ⟨2, ![1024, 512]⟩
abbrev S2048x512 : Shape := ⟨2, ![2048, 512]⟩
abbrev S256x512 : Shape := ⟨2, ![256, 512]⟩
abbrev S1024x256 : Shape := ⟨2, ![1024, 256]⟩
abbrev S256x128 : Shape := ⟨2, ![256, 128]⟩
abbrev S2048x128 : Shape := ⟨2, ![2048, 128]⟩
abbrev S1024x128 : Shape := ⟨2, ![1024, 128]⟩
abbrev S1024 : Shape := ⟨1, ![1024]⟩
abbrev S1024x1 : Shape := ⟨2, ![1024, 1]⟩
abbrev S1024x2048 : Shape := ⟨2, ![1024, 2048]⟩

abbrev nBuf : Space → Nat
  | .hbm => 6
  | .vmem => 12
  | .smem => 0
  | _ => 0

abbrev bufTy : (tb : Table) → Fin (tcTables nBuf tb) → BufTy
  | .hbm, ⟨0, _⟩ => ⟨S32768x1024, .bf16⟩
  | .hbm, ⟨1, _⟩ => ⟨S32768x1024, .bf16⟩
  | .hbm, ⟨2, _⟩ => ⟨S32768x1024, .bf16⟩
  | .hbm, ⟨3, _⟩ => ⟨S4096x1024, .bf16⟩
  | .hbm, ⟨4, _⟩ => ⟨S4096x1024, .bf16⟩
  | .hbm, ⟨5, _⟩ => ⟨S32768x512, .bf16⟩
  | .local _ .vmem, ⟨0, _⟩ => ⟨S1024x512, .bf16⟩
  | .local _ .vmem, ⟨1, _⟩ => ⟨S1024x512, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S256x512, .bf16⟩
  | .local _ .vmem, ⟨7, _⟩ => ⟨S256x512, .bf16⟩
  | .local _ .vmem, ⟨8, _⟩ => ⟨S256x512, .bf16⟩
  | .local _ .vmem, ⟨9, _⟩ => ⟨S256x512, .bf16⟩
  | .local _ .vmem, ⟨10, _⟩ => ⟨S1024x256, .bf16⟩
  | .local _ .vmem, ⟨11, _⟩ => ⟨S1024x256, .bf16⟩
  | _, _ => ⟨S32768x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![16, 2, 2], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg2
  let c0_i32 : BitVec 32 := 0#32
  ![v1.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== LatentReferenceIdeal.lean ====
abbrev S32768x1024 : Shape := ⟨2, ![32768, 1024]⟩
abbrev S4096x1024 : Shape := ⟨2, ![4096, 1024]⟩
abbrev S16x2048x8x1x128 : Shape := ⟨5, ![16, 2048, 8, 1, 128]⟩
abbrev S16x8x1x2048x128 : Shape := ⟨5, ![16, 8, 1, 2048, 128]⟩
abbrev S_ : Shape := ⟨0, ![]⟩
abbrev S16x2048x8x128 : Shape := ⟨4, ![16, 2048, 8, 128]⟩
abbrev S16x8x2048x128 : Shape := ⟨4, ![16, 8, 2048, 128]⟩
abbrev S16x256x8x128 : Shape := ⟨4, ![16, 256, 8, 128]⟩
abbrev S16x8x256x128 : Shape := ⟨4, ![16, 8, 256, 128]⟩
abbrev S16x8x2304x128 : Shape := ⟨4, ![16, 8, 2304, 128]⟩
abbrev S16x8x2304x64 : Shape := ⟨4, ![16, 8, 2304, 64]⟩
abbrev S16x8x1x2048x2304 : Shape := ⟨5, ![16, 8, 1, 2048, 2304]⟩
abbrev S16x8x1x2048 : Shape := ⟨4, ![16, 8, 1, 2048]⟩
abbrev S16x8x1x2048x1 : Shape := ⟨5, ![16, 8, 1, 2048, 1]⟩
abbrev S16x8x1x2048x64 : Shape := ⟨5, ![16, 8, 1, 2048, 64]⟩
abbrev S16x2048x8x1x64 : Shape := ⟨5, ![16, 2048, 8, 1, 64]⟩
abbrev S32768x512 : Shape := ⟨2, ![32768, 512]⟩

abbrev nBuf : Space → Nat
  | .hbm => 46
  | .vmem => 0
  | .smem => 0
  | _ => 0

abbrev bufTy : (tb : Table) → Fin (tcTables nBuf tb) → BufTy
  | .hbm, ⟨0, _⟩ => ⟨S32768x1024, .bf16⟩
  | .hbm, ⟨1, _⟩ => ⟨S32768x1024, .bf16⟩
  | .hbm, ⟨2, _⟩ => ⟨S32768x1024, .bf16⟩
  | .hbm, ⟨3, _⟩ => ⟨S4096x1024, .bf16⟩
  | .hbm, ⟨4, _⟩ => ⟨S4096x1024, .bf16⟩
  | .hbm, ⟨5, _⟩ => ⟨S16x2048x8x1x128, .bf16⟩
  | .hbm, ⟨6, _⟩ => ⟨S16x8x1x2048x128, .bf16⟩
  | .hbm, ⟨7, _⟩ => ⟨S16x8x1x2048x128, .f32⟩
  | .hbm, ⟨8, _⟩ => ⟨S_, .f32⟩
  | .hbm, ⟨9, _⟩ => ⟨S_, .f32⟩
  | .hbm, ⟨10, _⟩ => ⟨S16x8x1x2048x128, .f32⟩
  | .hbm, ⟨11, _⟩ => ⟨S16x8x1x2048x128, .f32⟩
  | .hbm, ⟨12, _⟩ => ⟨S16x2048x8x128, .bf16⟩
  | .hbm, ⟨13, _⟩ => ⟨S16x8x2048x128, .bf16⟩
  | .hbm, ⟨14, _⟩ => ⟨S16x8x2048x128, .f32⟩
  | .hbm, ⟨15, _⟩ => ⟨S16x256x8x128, .bf16⟩
  | .hbm, ⟨16, _⟩ => ⟨S16x8x256x128, .bf16⟩
  | .hbm, ⟨17, _⟩ => ⟨S16x8x256x128, .f32⟩
  | .hbm, ⟨18, _⟩ => ⟨S16x8x2304x128, .f32⟩
  | .hbm, ⟨19, _⟩ => ⟨S16x2048x8x128, .bf16⟩
  | .hbm, ⟨20, _⟩ => ⟨S16x8x2048x128, .bf16⟩
  | .hbm, ⟨21, _⟩ => ⟨S16x8x2048x128, .f32⟩
  | .hbm, ⟨22, _⟩ => ⟨S16x256x8x128, .bf16⟩
  | .hbm, ⟨23, _⟩ => ⟨S16x8x256x128, .bf16⟩
  | .hbm, ⟨24, _⟩ => ⟨S16x8x256x128, .f32⟩
  | .hbm, ⟨25, _⟩ => ⟨S16x8x2304x128, .f32⟩
  | .hbm, ⟨26, _⟩ => ⟨S16x8x2304x64, .f32⟩
  | .hbm, ⟨27, _⟩ => ⟨S16x8x1x2048x2304, .f32⟩
  | .hbm, ⟨28, _⟩ => ⟨S_, .f32⟩
  | .hbm, ⟨29, _⟩ => ⟨S16x8x1x2048, .f32⟩
  | .hbm, ⟨30, _⟩ => ⟨S_, .f32⟩
  | .hbm, ⟨31, _⟩ => ⟨S16x8x1x2048, .f32⟩
  | .hbm, ⟨32, _⟩ => ⟨S16x8x1x2048, .f32⟩
  | .hbm, ⟨33, _⟩ => ⟨S16x8x1x2048x1, .f32⟩
  | .hbm, ⟨34, _⟩ => ⟨S16x8x1x2048x2304, .f32⟩
  | .hbm, ⟨35, _⟩ => ⟨S16x8x1x2048x2304, .f32⟩
  | .hbm, ⟨36, _⟩ => ⟨S16x8x1x2048x2304, .f32⟩
  | .hbm, ⟨37, _⟩ => ⟨S_, .f32⟩
  | .hbm, ⟨38, _⟩ => ⟨S16x8x1x2048, .f32⟩
  | .hbm, ⟨39, _⟩ => ⟨S16x8x1x2048x1, .f32⟩
  | .hbm, ⟨40, _⟩ => ⟨S16x8x1x2048x2304, .f32⟩
  | .hbm, ⟨41, _⟩ => ⟨S16x8x1x2048x2304, .f32⟩
  | .hbm, ⟨42, _⟩ => ⟨S16x8x1x2048x64, .f32⟩
  | .hbm, ⟨43, _⟩ => ⟨S16x2048x8x1x64, .f32⟩
  | .hbm, ⟨44, _⟩ => ⟨S32768x512, .f32⟩
  | .hbm, ⟨45, _⟩ => ⟨S32768x512, .bf16⟩
  | _, _ => ⟨S32768x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst_0 : Ref sig .tc := ⟨.hbm, 28, rfl⟩
abbrev main_v22 : Ref sig .tc := ⟨.hbm, 29, rfl⟩
abbrev main_cst_1 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_cst_2 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩

abbrev nD : Nat := 1
abbrev τ : Topo := Topo.v7x

variable {F : FTy → Type} [FloatOps F]
-- ==== ProjectC.lean ====
abbrev S32768x1024 : Shape := ⟨2, ![32768, 1024]⟩
abbrev S1x1024 : Shape := ⟨2, ![1, 1024]⟩
abbrev S24x1x1024 : Shape := ⟨3, ![24, 1, 1024]⟩
abbrev S1024x1536 : Shape := ⟨2, ![1024, 1536]⟩
abbrev S1x128 : Shape := ⟨2, ![1, 128]⟩
abbrev S2048 : Shape := ⟨1, ![2048]⟩
abbrev S_ : Shape := ⟨0, ![]⟩
abbrev S32 : Shape := ⟨1, ![32]⟩
abbrev S2048x1 : Shape := ⟨2, ![2048, 1]⟩
abbrev S1x32 : Shape := ⟨2, ![1, 32]⟩
abbrev S2048x32 : Shape := ⟨2, ![2048, 32]⟩
abbrev S2048x64 : Shape := ⟨2, ![2048, 64]⟩
abbrev S2048x0 : Shape := ⟨2, ![2048, 0]⟩
abbrev S2048x128 : Shape := ⟨2, ![2048, 128]⟩
abbrev S32768x256 : Shape := ⟨2, ![32768, 256]⟩
abbrev S512x1024 : Shape := ⟨2, ![512, 1024]⟩
abbrev S1x1x1024 : Shape := ⟨3, ![1, 1, 1024]⟩
abbrev S512x128 : Shape := ⟨2, ![512, 128]⟩
abbrev S512x256 : Shape := ⟨2, ![512, 256]⟩
abbrev S512 : Shape := ⟨1, ![512]⟩
abbrev S512x1 : Shape := ⟨2, ![512, 1]⟩
abbrev S512x1536 : Shape := ⟨2, ![512, 1536]⟩

abbrev nBuf : Space → Nat
  | .hbm => 85
  | .vmem => 20
  | .smem => 0
  | _ => 0

abbrev bufTy : (tb : Table) → Fin (tcTables nBuf tb) → BufTy
  | .hbm, ⟨0, _⟩ => ⟨S32768x1024, .f32⟩
  | .hbm, ⟨1, _⟩ => ⟨S1x1024, .f32⟩
  | .hbm, ⟨2, _⟩ => ⟨S24x1x1024, .f32⟩
  | .hbm, ⟨3, _⟩ => ⟨S24x1x1024, .f32⟩
  | .hbm, ⟨4, _⟩ => ⟨S1024x1536, .bf16⟩
  | .hbm, ⟨5, _⟩ => ⟨S1x128, .f32⟩
  | .hbm, ⟨6, _⟩ => ⟨S1x128, .f32⟩
  | .hbm, ⟨7, _⟩ => ⟨S2048, .i32⟩
  | .hbm, ⟨8, _⟩ => ⟨S_, .i32⟩
  | .hbm, ⟨9, _⟩ => ⟨S_, .i32⟩
  | .hbm, ⟨10, _⟩ => ⟨S2048, .i32⟩
  | .hbm, ⟨11, _⟩ => ⟨S2048, .i32⟩
  | .hbm, ⟨12, _⟩ => ⟨S2048, .i32⟩
  | .hbm, ⟨13, _⟩ => ⟨S_, .i32⟩
  | .hbm, ⟨14, _⟩ => ⟨S2048, .i32⟩
  | .hbm, ⟨15, _⟩ => ⟨S2048, .i1⟩
  | .hbm, ⟨16, _⟩ => ⟨S2048, .i32⟩
  | .hbm, ⟨17, _⟩ => ⟨S2048, .i32⟩
  | .hbm, ⟨18, _⟩ => ⟨S_, .i32⟩
  | .hbm, ⟨19, _⟩ => ⟨S2048, .i32⟩
  | .hbm, ⟨20, _⟩ => ⟨S2048, .i1⟩
  | .hbm, ⟨21, _⟩ => ⟨S2048, .i1⟩
  | .hbm, ⟨22, _⟩ => ⟨S_, .i32⟩
  | .hbm, ⟨23, _⟩ => ⟨S2048, .i32⟩
  | .hbm, ⟨24, _⟩ => ⟨S2048, .i32⟩
  | .hbm, ⟨25, _⟩ => ⟨S2048, .i32⟩
  | .hbm, ⟨26, _⟩ => ⟨S2048, .f32⟩
  | .hbm, ⟨27, _⟩ => ⟨S_, .i32⟩
  | .hbm, ⟨28, _⟩ => ⟨S_, .i32⟩
  | .hbm, ⟨29, _⟩ => ⟨S_, .i32⟩
  | .hbm, ⟨30, _⟩ => ⟨S_, .i1⟩
  | .hbm, ⟨31, _⟩ => ⟨S_, .i32⟩
  | .hbm, ⟨32, _⟩ => ⟨S_, .i32⟩
  | .hbm, ⟨33, _⟩ => ⟨S2048, .i32⟩
  | .hbm, ⟨34, _⟩ => ⟨S2048, .i32⟩
  | .hbm, ⟨35, _⟩ => ⟨S_, .i32⟩
  | .hbm, ⟨36, _⟩ => ⟨S2048, .i32⟩
  | .hbm, ⟨37, _⟩ => ⟨S2048, .i1⟩
  | .hbm, ⟨38, _⟩ => ⟨S_, .i32⟩
  | .hbm, ⟨39, _⟩ => ⟨S2048, .i32⟩
  | .hbm, ⟨40, _⟩ => ⟨S2048, .i1⟩
  | .hbm, ⟨41, _⟩ => ⟨S_, .i32⟩
  | .hbm, ⟨42, _⟩ => ⟨S_, .i1⟩
  | .hbm, ⟨43, _⟩ => ⟨S2048, .i1⟩
  | .hbm, ⟨44, _⟩ => ⟨S2048, .i1⟩
  | .hbm, ⟨45, _⟩ => ⟨S2048, .i1⟩
  | .hbm, ⟨46, _⟩ => ⟨S2048, .i32⟩
  | .hbm, ⟨47, _⟩ => ⟨S2048, .i32⟩
  | .hbm, ⟨48, _⟩ => ⟨S2048, .i32⟩
  | .hbm, ⟨49, _⟩ => ⟨S2048, .f32⟩
  | .hbm, ⟨50, _⟩ => ⟨S32, .f32⟩
  | .hbm, ⟨51, _⟩ => ⟨S32, .f32⟩
  | .hbm, ⟨52, _⟩ => ⟨S_, .f32⟩
  | .hbm, ⟨53, _⟩ => ⟨S32, .f32⟩
  | .hbm, ⟨54, _⟩ => ⟨S32, .f32⟩
  | .hbm, ⟨55, _⟩ => ⟨S_, .f32⟩
  | .hbm, ⟨56, _⟩ => ⟨S32, .f32⟩
  | .hbm, ⟨57, _⟩ => ⟨S32, .f32⟩
  | .hbm, ⟨58, _⟩ => ⟨S2048x1, .f32⟩
  | .hbm, ⟨59, _⟩ => ⟨S1x32, .f32⟩
  | .hbm, ⟨60, _⟩ => ⟨S2048x32, .f32⟩
  | .hbm, ⟨61, _⟩ => ⟨S2048x32, .f32⟩
  | .hbm, ⟨62, _⟩ => ⟨S2048x32, .f32⟩
  | .hbm, ⟨63, _⟩ => ⟨S2048x1, .f32⟩
  | .hbm, ⟨64, _⟩ => ⟨S1x32, .f32⟩
  | .hbm, ⟨65, _⟩ => ⟨S2048x32, .f32⟩
  | .hbm, ⟨66, _⟩ => ⟨S2048x32, .f32⟩
  | .hbm, ⟨67, _⟩ => ⟨S2048x32, .f32⟩
  | .hbm, ⟨68, _⟩ => ⟨S2048x64, .f32⟩
  | .hbm, ⟨69, _⟩ => ⟨S2048x64, .f32⟩
  | .hbm, ⟨70, _⟩ => ⟨S2048x64, .f32⟩
  | .hbm, ⟨71, _⟩ => ⟨S_, .f32⟩
  | .hbm, ⟨72, _⟩ => ⟨S2048x0, .f32⟩
  | .hbm, ⟨73, _⟩ => ⟨S_, .f32⟩
  | .hbm, ⟨74, _⟩ => ⟨S2048x0, .f32⟩
  | .hbm, ⟨75, _⟩ => ⟨S2048x128, .f32⟩
  | .hbm, ⟨76, _⟩ => ⟨S_, .f32⟩
  | .hbm, ⟨77, _⟩ => ⟨S2048x0, .f32⟩
  | .hbm, ⟨78, _⟩ => ⟨S2048x64, .f32⟩
  | .hbm, ⟨79, _⟩ => ⟨S_, .f32⟩
  | .hbm, ⟨80, _⟩ => ⟨S2048x0, .f32⟩
  | .hbm, ⟨81, _⟩ => ⟨S2048x128, .f32⟩
  | .hbm, ⟨82, _⟩ => ⟨S32768x1024, .bf16⟩
  | .hbm, ⟨83, _⟩ => ⟨S32768x256, .bf16⟩
  | .hbm, ⟨84, _⟩ => ⟨S32768x256, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1024x1536, .bf16⟩
  | .local _ .vmem, ⟨8, _⟩ => ⟨S1x128, .f32⟩
  | .local _ .vmem, ⟨9, _⟩ => ⟨S1x128, .f32⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | .local _ .vmem, ⟨14, _⟩ => ⟨S512x1024, .bf16⟩
  | .local _ .vmem, ⟨15, _⟩ => ⟨S512x1024, .bf16⟩
  | .local _ .vmem, ⟨16, _⟩ => ⟨S512x256, .bf16⟩
  | .local _ .vmem, ⟨17, _⟩ => ⟨S512x256, .bf16⟩
  | .local _ .vmem, ⟨18, _⟩ => ⟨S512x256, .bf16⟩
  | .local _ .vmem, ⟨19, _⟩ => ⟨S512x256, .bf16⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_c : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_0 : Ref sig .tc := ⟨.hbm, 22, rfl⟩
abbrev main_call0_v12 : Ref sig .tc := ⟨.hbm, 23, rfl⟩
abbrev main_call0_v13 : Ref sig .tc := ⟨.hbm, 24, rfl⟩
abbrev main_v1 : Ref sig .tc := ⟨.hbm, 25, rfl⟩
abbrev main_v2 : Ref sig .tc := ⟨.hbm, 26, rfl⟩
abbrev main_c_0 : Ref sig .tc := ⟨.hbm, 27, rfl⟩
abbrev main_call1_v0 : Ref sig .tc := ⟨.hbm, 28, rfl⟩
abbrev main_call1_c : Ref sig .tc := ⟨.hbm, 29, rfl⟩
abbrev main_call1_v1 : Ref sig .tc := ⟨.hbm, 30, rfl⟩
abbrev main_call1_c_0 : Ref sig .tc := ⟨.hbm, 31, rfl⟩
abbrev main_call1_v2 : Ref sig .tc := ⟨.hbm, 32, rfl⟩
abbrev main_call1_v3 : Ref sig .tc := ⟨.hbm, 33, rfl⟩
abbrev main_call1_v4 : Ref sig .tc := ⟨.hbm, 34, rfl⟩
abbrev main_call1_c_1 : Ref sig .tc := ⟨.hbm, 35, rfl⟩
abbrev main_call1_v5 : Ref sig .tc := ⟨.hbm, 36, rfl⟩
abbrev main_call1_v6 : Ref sig .tc := ⟨.hbm, 37, rfl⟩
abbrev main_call1_c_2 : Ref sig .tc := ⟨.hbm, 38, rfl⟩
abbrev main_call1_v7 : Ref sig .tc := ⟨.hbm, 39, rfl⟩
abbrev main_call1_v8 : Ref sig .tc := ⟨.hbm, 40, rfl⟩
abbrev main_call1_c_3 : Ref sig .tc := ⟨.hbm, 41, rfl⟩
abbrev main_call1_v9 : Ref sig .tc := ⟨.hbm, 42, rfl⟩
abbrev main_call1_v10 : Ref sig .tc := ⟨.hbm, 43, rfl⟩
abbrev main_call1_v11 : Ref sig .tc := ⟨.hbm, 44, rfl⟩
abbrev main_call1_v12 : Ref sig .tc := ⟨.hbm, 45, rfl⟩
abbrev main_call1_v13 : Ref sig .tc := ⟨.hbm, 46, rfl⟩
abbrev main_call1_v14 : Ref sig .tc := ⟨.hbm, 47, rfl⟩
abbrev main_v3 : Ref sig .tc := ⟨.hbm, 48, rfl⟩
abbrev main_v4 : Ref sig .tc := ⟨.hbm, 49, rfl⟩
abbrev main_v5 : Ref sig .tc := ⟨.hbm, 50, rfl⟩
abbrev main_v6 : Ref sig .tc := ⟨.hbm, 51, rfl⟩
abbrev main_cst : Ref sig .tc := ⟨.hbm, 52, rfl⟩
abbrev main_v7 : Ref sig .tc := ⟨.hbm, 53, rfl⟩
abbrev main_v8 : Ref sig .tc := ⟨.hbm, 54, rfl⟩
abbrev main_cst_1 : Ref sig .tc := ⟨.hbm, 55, rfl⟩
abbrev main_v9 : Ref sig .tc := ⟨.hbm, 56, rfl⟩
abbrev main_v10 : Ref sig .tc := ⟨.hbm, 57, rfl⟩
abbrev main_v11 : Ref sig .tc := ⟨.hbm, 58, rfl⟩
abbrev main_v12 : Ref sig .tc := ⟨.hbm, 59, rfl⟩
abbrev main_v13 : Ref sig .tc := ⟨.hbm, 60, rfl⟩
abbrev main_v14 : Ref sig .tc := ⟨.hbm, 61, rfl⟩
abbrev main_v15 : Ref sig .tc := ⟨.hbm, 62, rfl⟩
abbrev main_v16 : Ref sig .tc := ⟨.hbm, 63, rfl⟩
abbrev main_v17 : Ref sig .tc := ⟨.hbm, 64, rfl⟩
abbrev main_v18 : Ref sig .tc := ⟨.hbm, 65, rfl⟩
abbrev main_v19 : Ref sig .tc := ⟨.hbm, 66, rfl⟩
abbrev main_v20 : Ref sig .tc := ⟨.hbm, 67, rfl⟩
abbrev main_v21 : Ref sig .tc := ⟨.hbm, 68, rfl⟩
abbrev main_v22 : Ref sig .tc := ⟨.hbm, 69, rfl⟩
abbrev main_v23 : Ref sig .tc := ⟨.hbm, 70, rfl⟩
abbrev main_cst_2 : Ref sig .tc := ⟨.hbm, 71, rfl⟩
abbrev main_v24 : Ref sig .tc := ⟨.hbm, 72, rfl⟩
abbrev main_cst_3 : Ref sig .tc := ⟨.hbm, 73, rfl⟩
abbrev main_v25 : Ref sig .tc := ⟨.hbm, 74, rfl⟩
abbrev main_v26 : Ref sig .tc := ⟨.hbm, 75, rfl⟩
abbrev main_cst_4 : Ref sig .tc := ⟨.hbm, 76, rfl⟩
abbrev main_v27 : Ref sig .tc := ⟨.hbm, 77, rfl⟩
abbrev main_v28 : Ref sig .tc := ⟨.hbm, 78, rfl⟩
abbrev main_cst_5 : Ref sig .tc := ⟨.hbm, 79, rfl⟩
abbrev main_v29 : Ref sig .tc := ⟨.hbm, 80, rfl⟩
abbrev main_v30 : Ref sig .tc := ⟨.hbm, 81, rfl⟩
abbrev main_v31_0 : Ref sig .tc := ⟨.hbm, 82, rfl⟩
abbrev main_v31_1 : Ref sig .tc := ⟨.hbm, 83, rfl⟩
abbrev main_v31_2 : Ref sig .tc := ⟨.hbm, 84, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c512_i32 : BitVec 32 := 512#32
  let v0 : BitVec 32 := Scalar.muli arg0 c512_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_3 (i : grid0.Coords) : Fin 3 → Nat :=
  let arg0 : BitVec 32 := BitVec.ofNat 32 (i 0).val
  let c512_i32 : BitVec 32 := 512#32
  let v0 : BitVec 32 := Scalar.muli arg0 c512_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_8 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1536 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== ProjectCReferenceIdeal.lean ====
abbrev S32768x1024 : Shape := ⟨2, ![32768, 1024]⟩
abbrev S1x1024 : Shape := ⟨2, ![1, 1024]⟩
abbrev S24x1x1024 : Shape := ⟨3, ![24, 1, 1024]⟩
abbrev S1024x1536 : Shape := ⟨2, ![1024, 1536]⟩
abbrev S1x128 : Shape := ⟨2, ![1, 128]⟩
abbrev S16x2048x1024 : Shape := ⟨3, ![16, 2048, 1024]⟩
abbrev S1024 : Shape := ⟨1, ![1024]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S16x1x1024 : Shape := ⟨3, ![16, 1, 1024]⟩
abbrev S16x2048x1536 : Shape := ⟨3, ![16, 2048, 1536]⟩
abbrev S16x2048x256 : Shape := ⟨3, ![16, 2048, 256]⟩
abbrev S16x2048x2x4x128 : Shape := ⟨5, ![16, 2048, 2, 4, 128]⟩
abbrev S128 : Shape := ⟨1, ![128]⟩
abbrev S16x2048x2x4 : Shape := ⟨4, ![16, 2048, 2, 4]⟩
abbrev S16x2048x2x4x1 : Shape := ⟨5, ![16, 2048, 2, 4, 1]⟩
abbrev S1x1x1x1x128 : Shape := ⟨5, ![1, 1, 1, 1, 128]⟩
abbrev S16x2x4x2048x128 : Shape := ⟨5, ![16, 2, 4, 2048, 128]⟩
abbrev S16x2048x2x128 : Shape := ⟨4, ![16, 2048, 2, 128]⟩
abbrev S16x2048x2 : Shape := ⟨3, ![16, 2048, 2]⟩
abbrev S16x2048x2x1 : Shape := ⟨4, ![16, 2048, 2, 1]⟩
abbrev S1x1x1x128 : Shape := ⟨4, ![1, 1, 1, 128]⟩
abbrev S16x2x2048x128 : Shape := ⟨4, ![16, 2, 2048, 128]⟩
abbrev S32 : Shape := ⟨1, ![32]⟩
abbrev S32x1 : Shape := ⟨2, ![32, 1]⟩
abbrev S32x64 : Shape := ⟨2, ![32, 64]⟩
abbrev S2048 : Shape := ⟨1, ![2048]⟩
abbrev S64 : Shape := ⟨1, ![64]⟩
abbrev S1x64 : Shape := ⟨2, ![1, 64]⟩
abbrev S2048x1 : Shape := ⟨2, ![2048, 1]⟩
abbrev S1x32 : Shape := ⟨2, ![1, 32]⟩
abbrev S2048x32 : Shape := ⟨2, ![2048, 32]⟩
abbrev S2048x64 : Shape := ⟨2, ![2048, 64]⟩
abbrev S16x2x4x2048x64 : Shape := ⟨5, ![16, 2, 4, 2048, 64]⟩
abbrev S1x1x1x2048x64 : Shape := ⟨5, ![1, 1, 1, 2048, 64]⟩
abbrev S16x2x2048x64 : Shape := ⟨4, ![16, 2, 2048, 64]⟩
abbrev S1x1x2048x64 : Shape := ⟨4, ![1, 1, 2048, 64]⟩
abbrev S32768x256 : Shape := ⟨2, ![32768, 256]⟩

abbrev nBuf : Space → Nat
  | .hbm => 153
  | .vmem => 0
  | .smem => 0
  | _ => 0

abbrev hbmTy0_0 (i : Nat) : BufTy := match i % 128 with
  | 0 => ⟨S32768x1024, .f32⟩
  | 1 => ⟨S1x1024, .f32⟩
  | 2 => ⟨S24x1x1024, .f32⟩
  | 3 => ⟨S24x1x1024, .f32⟩
  | 4 => ⟨S1024x1536, .bf16⟩
  | 5 => ⟨S1x128, .f32⟩
  | 6 => ⟨S1x128, .f32⟩
  | 7 => ⟨S16x2048x1024, .f32⟩
  | 8 => ⟨S1024, .f32⟩
  | 9 => ⟨S16x2048x1024, .f32⟩
  | 10 => ⟨S_, .f32⟩
  | 11 => ⟨S16x2048, .f32⟩
  | 12 => ⟨S16x2048x1, .f32⟩
  | 13 => ⟨S_, .f32⟩
  | 14 => ⟨S16x2048x1, .f32⟩
  | 15 => ⟨S16x2048x1, .f32⟩
  | 16 => ⟨S_, .f32⟩
  | 17 => ⟨S16x2048x1, .f32⟩
  | 18 => ⟨S16x2048x1, .f32⟩
  | 19 => ⟨S16x2048x1, .f32⟩
  | 20 => ⟨S16x2048x1024, .f32⟩
  | 21 => ⟨S16x2048x1024, .f32⟩
  | 22 => ⟨S1x1x1024, .f32⟩
  | 23 => ⟨S16x2048x1024, .f32⟩
  | 24 => ⟨S16x2048x1024, .f32⟩
  | 25 => ⟨S16x1x1024, .f32⟩
  | 26 => ⟨S_, .f32⟩
  | 27 => ⟨S16x1x1024, .f32⟩
  | 28 => ⟨S16x1x1024, .f32⟩
  | 29 => ⟨S16x2048x1024, .f32⟩
  | 30 => ⟨S16x2048x1024, .f32⟩
  | 31 => ⟨S16x1x1024, .f32⟩
  | 32 => ⟨S16x2048x1024, .f32⟩
  | 33 => ⟨S16x2048x1024, .f32⟩
  | 34 => ⟨S1024x1536, .f32⟩
  | 35 => ⟨S16x2048x1536, .f32⟩
  | 36 => ⟨S16x2048x1024, .f32⟩
  | 37 => ⟨S16x2048x256, .f32⟩
  | 38 => ⟨S16x2048x256, .f32⟩
  | 39 => ⟨S16x2048x2x4x128, .f32⟩
  | 40 => ⟨S128, .f32⟩
  | 41 => ⟨S16x2048x2x4x128, .f32⟩
  | 42 => ⟨S_, .f32⟩
  | 43 => ⟨S16x2048x2x4, .f32⟩
  | 44 => ⟨S16x2048x2x4x1, .f32⟩
  | 45 => ⟨S_, .f32⟩
  | 46 => ⟨S16x2048x2x4x1, .f32⟩
  | 47 => ⟨S16x2048x2x4x1, .f32⟩
  | 48 => ⟨S_, .f32⟩
  | 49 => ⟨S16x2048x2x4x1, .f32⟩
  | 50 => ⟨S16x2048x2x4x1, .f32⟩
  | 51 => ⟨S16x2048x2x4x1, .f32⟩
  | 52 => ⟨S16x2048x2x4x128, .f32⟩
  | 53 => ⟨S16x2048x2x4x128, .f32⟩
  | 54 => ⟨S1x1x1x1x128, .f32⟩
  | 55 => ⟨S16x2048x2x4x128, .f32⟩
  | 56 => ⟨S16x2048x2x4x128, .f32⟩
  | 57 => ⟨S16x2x4x2048x128, .f32⟩
  | 58 => ⟨S16x2048x2x128, .f32⟩
  | 59 => ⟨S128, .f32⟩
  | 60 => ⟨S16x2048x2x128, .f32⟩
  | 61 => ⟨S_, .f32⟩
  | 62 => ⟨S16x2048x2, .f32⟩
  | 63 => ⟨S16x2048x2x1, .f32⟩
  | 64 => ⟨S_, .f32⟩
  | 65 => ⟨S16x2048x2x1, .f32⟩
  | 66 => ⟨S16x2048x2x1, .f32⟩
  | 67 => ⟨S_, .f32⟩
  | 68 => ⟨S16x2048x2x1, .f32⟩
  | 69 => ⟨S16x2048x2x1, .f32⟩
  | 70 => ⟨S16x2048x2x1, .f32⟩
  | 71 => ⟨S16x2048x2x128, .f32⟩
  | 72 => ⟨S16x2048x2x128, .f32⟩
  | 73 => ⟨S1x1x1x128, .f32⟩
  | 74 => ⟨S16x2048x2x128, .f32⟩
  | 75 => ⟨S16x2048x2x128, .f32⟩
  | 76 => ⟨S16x2x2048x128, .f32⟩
  | 77 => ⟨S32, .i32⟩
  | 78 => ⟨S32x1, .i32⟩
  | 79 => ⟨S32x64, .i32⟩
  | 80 => ⟨S2048, .i32⟩
  | 81 => ⟨S64, .i32⟩
  | 82 => ⟨S1x64, .i32⟩
  | 83 => ⟨S32x64, .i32⟩
  | 84 => ⟨S2048, .i32⟩
  | 85 => ⟨S32, .f32⟩
  | 86 => ⟨S32, .f32⟩
  | 87 => ⟨S_, .f32⟩
  | 88 => ⟨S32, .f32⟩
  | 89 => ⟨S32, .f32⟩
  | 90 => ⟨S_, .f32⟩
  | 91 => ⟨S32, .f32⟩
  | 92 => ⟨S32, .f32⟩
  | 93 => ⟨S2048, .f32⟩
  | 94 => ⟨S2048x1, .f32⟩
  | 95 => ⟨S1x32, .f32⟩
  | 96 => ⟨S2048x32, .f32⟩
  | 97 => ⟨S2048x32, .f32⟩
  | 98 => ⟨S2048x32, .f32⟩
  | 99 => ⟨S2048, .f32⟩
  | 100 => ⟨S2048x1, .f32⟩
  | 101 => ⟨S1x32, .f32⟩
  | 102 => ⟨S2048x32, .f32⟩
  | 103 => ⟨S2048x32, .f32⟩
  | 104 => ⟨S2048x32, .f32⟩
  | 105 => ⟨S2048x64, .f32⟩
  | 106 => ⟨S2048x64, .f32⟩
  | 107 => ⟨S2048x64, .f32⟩
  | 108 => ⟨S16x2x4x2048x64, .f32⟩
  | 109 => ⟨S16x2x4x2048x64, .f32⟩
  | 110 => ⟨S1x1x1x2048x64, .f32⟩
  | 111 => ⟨S16x2x4x2048x64, .f32⟩
  | 112 => ⟨S16x2x4x2048x64, .f32⟩
  | 113 => ⟨S1x1x1x2048x64, .f32⟩
  | 114 => ⟨S16x2x4x2048x64, .f32⟩
  | 115 => ⟨S16x2x4x2048x64, .f32⟩
  | 116 => ⟨S16x2x4x2048x64, .f32⟩
  | 117 => ⟨S1x1x1x2048x64, .f32⟩
  | 118 => ⟨S16x2x4x2048x64, .f32⟩
  | 119 => ⟨S16x2x4x2048x64, .f32⟩
  | 120 => ⟨S1x1x1x2048x64, .f32⟩
  | 121 => ⟨S16x2x4x2048x64, .f32⟩
  | 122 => ⟨S16x2x4x2048x64, .f32⟩
  | 123 => ⟨S16x2x4x2048x64, .f32⟩
  | 124 => ⟨S16x2x4x2048x128, .f32⟩
  | 125 => ⟨S_, .f32⟩
  | 126 => ⟨S16x2x4x2048x128, .f32⟩
  | 127 => ⟨S16x2x4x2048x128, .f32⟩
  | _ => ⟨S32768x1024, .f32⟩

abbrev hbmTy0_1 (i : Nat) : BufTy := match i % 128 with
  | 0 => ⟨S16x2x2048x64, .f32⟩
  | 1 => ⟨S16x2x2048x64, .f32⟩
  | 2 => ⟨S1x1x2048x64, .f32⟩
  | 3 => ⟨S16x2x2048x64, .f32⟩
  | 4 => ⟨S16x2x2048x64, .f32⟩
  | 5 => ⟨S1x1x2048x64, .f32⟩
  | 6 => ⟨S16x2x2048x64, .f32⟩
  | 7 => ⟨S16x2x2048x64, .f32⟩
  | 8 => ⟨S16x2x2048x64, .f32⟩
  | 9 => ⟨S1x1x2048x64, .f32⟩
  | 10 => ⟨S16x2x2048x64, .f32⟩
  | 11 => ⟨S16x2x2048x64, .f32⟩
  | 12 => ⟨S1x1x2048x64, .f32⟩
  | 13 => ⟨S16x2x2048x64, .f32⟩
  | 14 => ⟨S16x2x2048x64, .f32⟩
  | 15 => ⟨S16x2x2048x64, .f32⟩
  | 16 => ⟨S16x2x2048x128, .f32⟩
  | 17 => ⟨S16x2048x2x4x128, .f32⟩
  | 18 => ⟨S32768x1024, .f32⟩
  | 19 => ⟨S16x2048x2x128, .f32⟩
  | 20 => ⟨S32768x256, .f32⟩
  | 21 => ⟨S32768x1024, .bf16⟩
  | 22 => ⟨S32768x256, .bf16⟩
  | 23 => ⟨S32768x256, .f32⟩
  | 24 => ⟨S32768x256, .bf16⟩
  | _ => ⟨S32768x1024, .f32⟩

abbrev hbmTy (i : Nat) : BufTy := match i / 128 with
  | 0 => hbmTy0_0 i
  | 1 => hbmTy0_1 i
  | _ => ⟨S32768x1024, .f32⟩

abbrev bufTy : (tb : Table) → Fin (tcTables nBuf tb) → BufTy
  | .hbm, ⟨i, _⟩ => hbmTy i
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_3 : Ref sig .tc := ⟨.hbm, 42, rfl⟩
abbrev main_v31 : Ref sig .tc := ⟨.hbm, 43, rfl⟩
abbrev main_v32 : Ref sig .tc := ⟨.hbm, 44, rfl⟩
abbrev main_cst_4 : Ref sig .tc := ⟨.hbm, 45, rfl⟩
abbrev main_v33 : Ref sig .tc := ⟨.hbm, 46, rfl⟩
abbrev main_v34 : Ref sig .tc := ⟨.hbm, 47, rfl⟩
abbrev main_cst_5 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_cst_6 : Ref sig .tc := ⟨.hbm, 61, rfl⟩
abbrev main_v47 : Ref sig .tc := ⟨.hbm, 62, rfl⟩
abbrev main_v48 : Ref sig .tc := ⟨.hbm, 63, rfl⟩
abbrev main_cst_7 : Ref sig .tc := ⟨.hbm, 64, rfl⟩
abbrev main_v49 : Ref sig .tc := ⟨.hbm, 65, rfl⟩
abbrev main_v50 : Ref sig .tc := ⟨.hbm, 66, rfl⟩
abbrev main_cst_8 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_cst_9 : Ref sig .tc := ⟨.hbm, 87, rfl⟩
abbrev main_v70 : Ref sig .tc := ⟨.hbm, 88, rfl⟩
abbrev main_v71 : Ref sig .tc := ⟨.hbm, 89, rfl⟩
abbrev main_cst_10 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_v88 : Ref sig .tc := ⟨.hbm, 107, rfl⟩
abbrev main_v89 : Ref sig .tc := ⟨.hbm, 108, rfl⟩
abbrev main_v90 : Ref sig .tc := ⟨.hbm, 109, rfl⟩
abbrev main_v91 : Ref sig .tc := ⟨.hbm, 110, rfl⟩
abbrev main_v92 : Ref sig .tc := ⟨.hbm, 111, rfl⟩
abbrev main_v93 : Ref sig .tc := ⟨.hbm, 112, rfl⟩
abbrev main_v94 : Ref sig .tc := ⟨.hbm, 113, rfl⟩
abbrev main_v95 : Ref sig .tc := ⟨.hbm, 114, rfl⟩
abbrev main_v96 : Ref sig .tc := ⟨.hbm, 115, rfl⟩
abbrev main_v97 : Ref sig .tc := ⟨.hbm, 116, rfl⟩
abbrev main_v98 : Ref sig .tc := ⟨.hbm, 117, rfl⟩
abbrev main_v99 : Ref sig .tc := ⟨.hbm, 118, rfl⟩
abbrev main_v100 : Ref sig .tc := ⟨.hbm, 119, rfl⟩
abbrev main_v101 : Ref sig .tc := ⟨.hbm, 120, rfl⟩
abbrev main_v102 : Ref sig .tc := ⟨.hbm, 121, rfl⟩
abbrev main_v103 : Ref sig .tc := ⟨.hbm, 122, rfl⟩
abbrev main_v104 : Ref sig .tc := ⟨.hbm, 123, rfl⟩
abbrev main_v105 : Ref sig .tc := ⟨.hbm, 124, rfl⟩
abbrev main_cst_11 : Ref sig .tc := ⟨.hbm, 125, rfl⟩
abbrev main_v106 : Ref sig .tc := ⟨.hbm, 126, rfl⟩
abbrev main_v107 : Ref sig .tc := ⟨.hbm, 127, rfl⟩
abbrev main_v108 : Ref sig .tc := ⟨.hbm, 128, rfl⟩
abbrev main_v109 : Ref sig .tc := ⟨.hbm, 129, rfl⟩
abbrev main_v110 : Ref sig .tc := ⟨.hbm, 130, rfl⟩
abbrev main_v111 : Ref sig .tc := ⟨.hbm, 131, rfl⟩
abbrev main_v112 : Ref sig .tc := ⟨.hbm, 132, rfl⟩
abbrev main_v113 : Ref sig .tc := ⟨.hbm, 133, rfl⟩
abbrev main_v114 : Ref sig .tc := ⟨.hbm, 134, rfl⟩
abbrev main_v115 : Ref sig .tc := ⟨.hbm, 135, rfl⟩
abbrev main_v116 : Ref sig .tc := ⟨.hbm, 136, rfl⟩
abbrev main_v117 : Ref sig .tc := ⟨.hbm, 137, rfl⟩
abbrev main_v118 : Ref sig .tc := ⟨.hbm, 138, rfl⟩
abbrev main_v119 : Ref sig .tc := ⟨.hbm, 139, rfl⟩
abbrev main_v120 : Ref sig .tc := ⟨.hbm, 140, rfl⟩
abbrev main_v121 : Ref sig .tc := ⟨.hbm, 141, rfl⟩
abbrev main_v122 : Ref sig .tc := ⟨.hbm, 142, rfl⟩
abbrev main_v123 : Ref sig .tc := ⟨.hbm, 143, rfl⟩
abbrev main_v124 : Ref sig .tc := ⟨.hbm, 144, rfl⟩
abbrev main_v125 : Ref sig .tc := ⟨.hbm, 145, rfl⟩
abbrev main_v126 : Ref sig .tc := ⟨.hbm, 146, rfl⟩
abbrev main_v127 : Ref sig .tc := ⟨.hbm, 147, rfl⟩
abbrev main_v128 : Ref sig .tc := ⟨.hbm, 148, rfl⟩
abbrev main_v129 : Ref sig .tc := ⟨.hbm, 149, rfl⟩
abbrev main_v130 : Ref sig .tc := ⟨.hbm, 150, rfl⟩
abbrev main_v131 : Ref sig .tc := ⟨.hbm, 151, rfl⟩
abbrev main_v132 : Ref sig .tc := ⟨.hbm, 152, rfl⟩

abbrev nD : Nat := 1
abbrev τ : Topo := Topo.v7x

variable {F : FTy → Type} [FloatOps F]
-- ==== ProjectAB.lean ====
abbrev S32768x1024 : Shape := ⟨2, ![32768, 1024]⟩
abbrev S1x1024 : Shape := ⟨2, ![1, 1024]⟩
abbrev S24x1x1024 : Shape := ⟨3, ![24, 1, 1024]⟩
abbrev S1024x2304 : Shape := ⟨2, ![1024, 2304]⟩
abbrev S1x384 : Shape := ⟨2, ![1, 384]⟩
abbrev S384x1024 : Shape := ⟨2, ![384, 1024]⟩
abbrev S1x256 : Shape := ⟨2, ![1, 256]⟩
abbrev S256x1024 : Shape := ⟨2, ![256, 1024]⟩
abbrev S2048 : Shape := ⟨1, ![2048]⟩
abbrev S_ : Shape := ⟨0, ![]⟩
abbrev S16 : Shape := ⟨1, ![16]⟩
abbrev S2048x1 : Shape := ⟨2, ![2048, 1]⟩
abbrev S1x16 : Shape := ⟨2, ![1, 16]⟩
abbrev S2048x16 : Shape := ⟨2, ![2048, 16]⟩
abbrev S2048x32 : Shape := ⟨2, ![2048, 32]⟩
abbrev S2048x0 : Shape := ⟨2, ![2048, 0]⟩
abbrev S2048x64 : Shape := ⟨2, ![2048, 64]⟩
abbrev S2048x128 : Shape := ⟨2, ![2048, 128]⟩
abbrev S8 : Shape := ⟨1, ![8]⟩
abbrev S1x8 : Shape := ⟨2, ![1, 8]⟩
abbrev S2048x8 : Shape := ⟨2, ![2048, 8]⟩
abbrev S32768x256 : Shape := ⟨2, ![32768, 256]⟩
abbrev S512x1024 : Shape := ⟨2, ![512, 1024]⟩
abbrev S1x1x1024 : Shape := ⟨3, ![1, 1, 1024]⟩
abbrev S512x128 : Shape := ⟨2, ![512, 128]⟩
abbrev S512x256 : Shape := ⟨2, ![512, 256]⟩
abbrev S512 : Shape := ⟨1, ![512]⟩
abbrev S512x1 : Shape := ⟨2, ![512, 1]⟩
abbrev S512x2304 : Shape := ⟨2, ![512, 2304]⟩
abbrev S512x384 : Shape := ⟨2, ![512, 384]⟩

abbrev nBuf : Space → Nat
  | .hbm => 166
  | .vmem => 33
  | .smem => 0
  | _ => 0

abbrev hbmTy0_0 (i : Nat) : BufTy := match i % 128 with
  | 0 => ⟨S32768x1024, .f32⟩
  | 1 => ⟨S1x1024, .f32⟩
  | 2 => ⟨S24x1x1024, .f32⟩
  | 3 => ⟨S24x1x1024, .f32⟩
  | 4 => ⟨S1024x2304, .bf16⟩
  | 5 => ⟨S1x384, .f32⟩
  | 6 => ⟨S384x1024, .bf16⟩
  | 7 => ⟨S1x256, .f32⟩
  | 8 => ⟨S256x1024, .bf16⟩
  | 9 => ⟨S256x1024, .bf16⟩
  | 10 => ⟨S2048, .i32⟩
  | 11 => ⟨S_, .i32⟩
  | 12 => ⟨S_, .i32⟩
  | 13 => ⟨S2048, .i32⟩
  | 14 => ⟨S2048, .i32⟩
  | 15 => ⟨S2048, .i32⟩
  | 16 => ⟨S_, .i32⟩
  | 17 => ⟨S2048, .i32⟩
  | 18 => ⟨S2048, .i1⟩
  | 19 => ⟨S2048, .i32⟩
  | 20 => ⟨S2048, .i32⟩
  | 21 => ⟨S_, .i32⟩
  | 22 => ⟨S2048, .i32⟩
  | 23 => ⟨S2048, .i1⟩
  | 24 => ⟨S2048, .i1⟩
  | 25 => ⟨S_, .i32⟩
  | 26 => ⟨S2048, .i32⟩
  | 27 => ⟨S2048, .i32⟩
  | 28 => ⟨S2048, .i32⟩
  | 29 => ⟨S2048, .f32⟩
  | 30 => ⟨S_, .i32⟩
  | 31 => ⟨S_, .i32⟩
  | 32 => ⟨S_, .i32⟩
  | 33 => ⟨S_, .i1⟩
  | 34 => ⟨S_, .i32⟩
  | 35 => ⟨S_, .i32⟩
  | 36 => ⟨S2048, .i32⟩
  | 37 => ⟨S2048, .i32⟩
  | 38 => ⟨S_, .i32⟩
  | 39 => ⟨S2048, .i32⟩
  | 40 => ⟨S2048, .i1⟩
  | 41 => ⟨S_, .i32⟩
  | 42 => ⟨S2048, .i32⟩
  | 43 => ⟨S2048, .i1⟩
  | 44 => ⟨S_, .i32⟩
  | 45 => ⟨S_, .i1⟩
  | 46 => ⟨S2048, .i1⟩
  | 47 => ⟨S2048, .i1⟩
  | 48 => ⟨S2048, .i1⟩
  | 49 => ⟨S2048, .i32⟩
  | 50 => ⟨S2048, .i32⟩
  | 51 => ⟨S2048, .i32⟩
  | 52 => ⟨S2048, .f32⟩
  | 53 => ⟨S16, .f32⟩
  | 54 => ⟨S16, .f32⟩
  | 55 => ⟨S_, .f32⟩
  | 56 => ⟨S16, .f32⟩
  | 57 => ⟨S16, .f32⟩
  | 58 => ⟨S_, .f32⟩
  | 59 => ⟨S16, .f32⟩
  | 60 => ⟨S16, .f32⟩
  | 61 => ⟨S2048x1, .f32⟩
  | 62 => ⟨S1x16, .f32⟩
  | 63 => ⟨S2048x16, .f32⟩
  | 64 => ⟨S2048x16, .f32⟩
  | 65 => ⟨S2048x16, .f32⟩
  | 66 => ⟨S2048x1, .f32⟩
  | 67 => ⟨S1x16, .f32⟩
  | 68 => ⟨S2048x16, .f32⟩
  | 69 => ⟨S2048x16, .f32⟩
  | 70 => ⟨S2048x16, .f32⟩
  | 71 => ⟨S2048x32, .f32⟩
  | 72 => ⟨S2048x32, .f32⟩
  | 73 => ⟨S2048x32, .f32⟩
  | 74 => ⟨S_, .f32⟩
  | 75 => ⟨S2048x0, .f32⟩
  | 76 => ⟨S_, .f32⟩
  | 77 => ⟨S2048x64, .f32⟩
  | 78 => ⟨S2048x128, .f32⟩
  | 79 => ⟨S_, .f32⟩
  | 80 => ⟨S2048x0, .f32⟩
  | 81 => ⟨S2048x32, .f32⟩
  | 82 => ⟨S_, .f32⟩
  | 83 => ⟨S2048x64, .f32⟩
  | 84 => ⟨S2048x128, .f32⟩
  | 85 => ⟨S2048, .i32⟩
  | 86 => ⟨S_, .i32⟩
  | 87 => ⟨S_, .i32⟩
  | 88 => ⟨S2048, .i32⟩
  | 89 => ⟨S2048, .i32⟩
  | 90 => ⟨S2048, .i32⟩
  | 91 => ⟨S_, .i32⟩
  | 92 => ⟨S2048, .i32⟩
  | 93 => ⟨S2048, .i1⟩
  | 94 => ⟨S2048, .i32⟩
  | 95 => ⟨S2048, .i32⟩
  | 96 => ⟨S_, .i32⟩
  | 97 => ⟨S2048, .i32⟩
  | 98 => ⟨S2048, .i1⟩
  | 99 => ⟨S2048, .i1⟩
  | 100 => ⟨S_, .i32⟩
  | 101 => ⟨S2048, .i32⟩
  | 102 => ⟨S2048, .i32⟩
  | 103 => ⟨S2048, .i32⟩
  | 104 => ⟨S2048, .f32⟩
  | 105 => ⟨S_, .i32⟩
  | 106 => ⟨S_, .i32⟩
  | 107 => ⟨S_, .i32⟩
  | 108 => ⟨S_, .i1⟩
  | 109 => ⟨S_, .i32⟩
  | 110 => ⟨S_, .i32⟩
  | 111 => ⟨S2048, .i32⟩
  | 112 => ⟨S2048, .i32⟩
  | 113 => ⟨S_, .i32⟩
  | 114 => ⟨S2048, .i32⟩
  | 115 => ⟨S2048, .i1⟩
  | 116 => ⟨S_, .i32⟩
  | 117 => ⟨S2048, .i32⟩
  | 118 => ⟨S2048, .i1⟩
  | 119 => ⟨S_, .i32⟩
  | 120 => ⟨S_, .i1⟩
  | 121 => ⟨S2048, .i1⟩
  | 122 => ⟨S2048, .i1⟩
  | 123 => ⟨S2048, .i1⟩
  | 124 => ⟨S2048, .i32⟩
  | 125 => ⟨S2048, .i32⟩
  | 126 => ⟨S2048, .i32⟩
  | 127 => ⟨S2048, .f32⟩
  | _ => ⟨S32768x1024, .f32⟩

abbrev hbmTy0_1 (i : Nat) : BufTy := match i % 128 with
  | 0 => ⟨S8, .f32⟩
  | 1 => ⟨S8, .f32⟩
  | 2 => ⟨S_, .f32⟩
  | 3 => ⟨S8, .f32⟩
  | 4 => ⟨S8, .f32⟩
  | 5 => ⟨S_, .f32⟩
  | 6 => ⟨S8, .f32⟩
  | 7 => ⟨S8, .f32⟩
  | 8 => ⟨S2048x1, .f32⟩
  | 9 => ⟨S1x8, .f32⟩
  | 10 => ⟨S2048x8, .f32⟩
  | 11 => ⟨S2048x8, .f32⟩
  | 12 => ⟨S2048x8, .f32⟩
  | 13 => ⟨S2048x1, .f32⟩
  | 14 => ⟨S1x8, .f32⟩
  | 15 => ⟨S2048x8, .f32⟩
  | 16 => ⟨S2048x8, .f32⟩
  | 17 => ⟨S2048x8, .f32⟩
  | 18 => ⟨S2048x16, .f32⟩
  | 19 => ⟨S2048x16, .f32⟩
  | 20 => ⟨S2048x16, .f32⟩
  | 21 => ⟨S_, .f32⟩
  | 22 => ⟨S2048x64, .f32⟩
  | 23 => ⟨S_, .f32⟩
  | 24 => ⟨S2048x32, .f32⟩
  | 25 => ⟨S2048x128, .f32⟩
  | 26 => ⟨S_, .f32⟩
  | 27 => ⟨S2048x64, .f32⟩
  | 28 => ⟨S2048x16, .f32⟩
  | 29 => ⟨S_, .f32⟩
  | 30 => ⟨S2048x32, .f32⟩
  | 31 => ⟨S2048x128, .f32⟩
  | 32 => ⟨S32768x1024, .bf16⟩
  | 33 => ⟨S32768x256, .bf16⟩
  | 34 => ⟨S32768x256, .bf16⟩
  | 35 => ⟨S32768x1024, .bf16⟩
  | 36 => ⟨S32768x1024, .bf16⟩
  | 37 => ⟨S32768x1024, .bf16⟩
  | _ => ⟨S32768x1024, .f32⟩

abbrev hbmTy (i : Nat) : BufTy := match i / 128 with
  | 0 => hbmTy0_0 i
  | 1 => hbmTy0_1 i
  | _ => ⟨S32768x1024, .f32⟩

abbrev bufTy : (tb : Table) → Fin (tcTables nBuf tb) → BufTy
  | .hbm, ⟨i, _⟩ => hbmTy i
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1024x2304, .bf16⟩
  | .local _ .vmem, ⟨8, _⟩ => ⟨S1x384, .f32⟩
  | .local _ .vmem, ⟨9, _⟩ => ⟨S384x1024, .bf16⟩
  | .local _ .vmem, ⟨10, _⟩ => ⟨S1x256, .f32⟩
  | .local _ .vmem, ⟨11, _⟩ => ⟨S256x1024, .bf16⟩
  | .local _ .vmem, ⟨12, _⟩ => ⟨S256x1024, .bf16⟩
  | .local _ .vmem, ⟨13, _⟩ => ⟨S512x128, .f32⟩
  | .local _ .vmem, ⟨14, _⟩ => ⟨S512x128, .f32⟩
  | .local _ .vmem, ⟨15, _⟩ => ⟨S512x128, .f32⟩
  | .local _ .vmem, ⟨16, _⟩ => ⟨S512x128, .f32⟩
  | .local _ .vmem, ⟨17, _⟩ => ⟨S512x128, .f32⟩
  | .local _ .vmem, ⟨18, _⟩ => ⟨S512x128, .f32⟩
  | .local _ .vmem, ⟨19, _⟩ => ⟨S512x128, .f32⟩
  | .local _ .vmem, ⟨20, _⟩ => ⟨S512x128, .f32⟩
  | .local _ .vmem, ⟨21, _⟩ => ⟨S512x1024, .bf16⟩
  | .local _ .vmem, ⟨22, _⟩ => ⟨S512x1024, .bf16⟩
  | .local _ .vmem, ⟨23, _⟩ => ⟨S512x256, .bf16⟩
  | .local _ .vmem, ⟨24, _⟩ => ⟨S512x256, .bf16⟩
  | .local _ .vmem, ⟨25, _⟩ => ⟨S512x256, .bf16⟩
  | .local _ .vmem, ⟨26, _⟩ => ⟨S512x256, .bf16⟩
  | .local _ .vmem, ⟨27, _⟩ => ⟨S512x1024, .bf16⟩
  | .local _ .vmem, ⟨28, _⟩ => ⟨S512x1024, .bf16⟩
  | .local _ .vmem, ⟨29, _⟩ => ⟨S512x1024, .bf16⟩
  | .local _ .vmem, ⟨30, _⟩ => ⟨S512x1024, .bf16⟩
  | .local _ .vmem, ⟨31, _⟩ => ⟨S512x1024, .bf16⟩
  | .local _ .vmem, ⟨32, _⟩ => ⟨S512x1024, .bf16⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_c : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_c : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_0 : Ref sig .tc := ⟨.hbm, 25, rfl⟩
abbrev main_call0_v12 : Ref sig .tc := ⟨.hbm, 26, rfl⟩
abbrev main_call0_v13 : Ref sig .tc := ⟨.hbm, 27, rfl⟩
abbrev main_v1 : Ref sig .tc := ⟨.hbm, 28, rfl⟩
abbrev main_v2 : Ref sig .tc := ⟨.hbm, 29, rfl⟩
abbrev main_c_0 : Ref sig .tc := ⟨.hbm, 30, rfl⟩
abbrev main_call1_v0 : Ref sig .tc := ⟨.hbm, 31, rfl⟩
abbrev main_call1_c : Ref sig .tc := ⟨.hbm, 32, rfl⟩
abbrev main_call1_v1 : Ref sig .tc := ⟨.hbm, 33, rfl⟩
abbrev main_call1_c_0 : Ref sig .tc := ⟨.hbm, 34, rfl⟩
abbrev main_call1_v2 : Ref sig .tc := ⟨.hbm, 35, rfl⟩
abbrev main_call1_v3 : Ref sig .tc := ⟨.hbm, 36, rfl⟩
abbrev main_call1_v4 : Ref sig .tc := ⟨.hbm, 37, rfl⟩
abbrev main_call1_c_1 : Ref sig .tc := ⟨.hbm, 38, rfl⟩
abbrev main_call1_v5 : Ref sig .tc := ⟨.hbm, 39, rfl⟩
abbrev main_call1_v6 : Ref sig .tc := ⟨.hbm, 40, rfl⟩
abbrev main_call1_c_2 : Ref sig .tc := ⟨.hbm, 41, rfl⟩
abbrev main_call1_v7 : Ref sig .tc := ⟨.hbm, 42, rfl⟩
abbrev main_call1_v8 : Ref sig .tc := ⟨.hbm, 43, rfl⟩
abbrev main_call1_c_3 : Ref sig .tc := ⟨.hbm, 44, rfl⟩
abbrev main_call1_v9 : Ref sig .tc := ⟨.hbm, 45, rfl⟩
abbrev main_call1_v10 : Ref sig .tc := ⟨.hbm, 46, rfl⟩
abbrev main_call1_v11 : Ref sig .tc := ⟨.hbm, 47, rfl⟩
abbrev main_call1_v12 : Ref sig .tc := ⟨.hbm, 48, rfl⟩
abbrev main_call1_v13 : Ref sig .tc := ⟨.hbm, 49, rfl⟩
abbrev main_call1_v14 : Ref sig .tc := ⟨.hbm, 50, rfl⟩
abbrev main_v3 : Ref sig .tc := ⟨.hbm, 51, rfl⟩
abbrev main_v4 : Ref sig .tc := ⟨.hbm, 52, rfl⟩
abbrev main_v5 : Ref sig .tc := ⟨.hbm, 53, rfl⟩
abbrev main_v6 : Ref sig .tc := ⟨.hbm, 54, rfl⟩
abbrev main_cst : Ref sig .tc := ⟨.hbm, 55, rfl⟩
abbrev main_v7 : Ref sig .tc := ⟨.hbm, 56, rfl⟩
abbrev main_v8 : Ref sig .tc := ⟨.hbm, 57, rfl⟩
abbrev main_cst_1 : Ref sig .tc := ⟨.hbm, 58, rfl⟩
abbrev main_v9 : Ref sig .tc := ⟨.hbm, 59, rfl⟩
abbrev main_v10 : Ref sig .tc := ⟨.hbm, 60, rfl⟩
abbrev main_v11 : Ref sig .tc := ⟨.hbm, 61, rfl⟩
abbrev main_v12 : Ref sig .tc := ⟨.hbm, 62, rfl⟩
abbrev main_v13 : Ref sig .tc := ⟨.hbm, 63, rfl⟩
abbrev main_v14 : Ref sig .tc := ⟨.hbm, 64, rfl⟩
abbrev main_v15 : Ref sig .tc := ⟨.hbm, 65, rfl⟩
abbrev main_v16 : Ref sig .tc := ⟨.hbm, 66, rfl⟩
abbrev main_v17 : Ref sig .tc := ⟨.hbm, 67, rfl⟩
abbrev main_v18 : Ref sig .tc := ⟨.hbm, 68, rfl⟩
abbrev main_v19 : Ref sig .tc := ⟨.hbm, 69, rfl⟩
abbrev main_v20 : Ref sig .tc := ⟨.hbm, 70, rfl⟩
abbrev main_v21 : Ref sig .tc := ⟨.hbm, 71, rfl⟩
abbrev main_v22 : Ref sig .tc := ⟨.hbm, 72, rfl⟩
abbrev main_v23 : Ref sig .tc := ⟨.hbm, 73, rfl⟩
abbrev main_cst_2 : Ref sig .tc := ⟨.hbm, 74, rfl⟩
abbrev main_v24 : Ref sig .tc := ⟨.hbm, 75, rfl⟩
abbrev main_cst_3 : Ref sig .tc := ⟨.hbm, 76, rfl⟩
abbrev main_v25 : Ref sig .tc := ⟨.hbm, 77, rfl⟩
abbrev main_v26 : Ref sig .tc := ⟨.hbm, 78, rfl⟩
abbrev main_cst_4 : Ref sig .tc := ⟨.hbm, 79, rfl⟩
abbrev main_v27 : Ref sig .tc := ⟨.hbm, 80, rfl⟩
abbrev main_v28 : Ref sig .tc := ⟨.hbm, 81, rfl⟩
abbrev main_cst_5 : Ref sig .tc := ⟨.hbm, 82, rfl⟩
abbrev main_v29 : Ref sig .tc := ⟨.hbm, 83, rfl⟩
abbrev main_v30 : Ref sig .tc := ⟨.hbm, 84, rfl⟩
abbrev main_v31 : Ref sig .tc := ⟨.hbm, 85, rfl⟩
abbrev main_c_6 : Ref sig .tc := ⟨.hbm, 86, rfl⟩
abbrev main_call2_v0 : Ref sig .tc := ⟨.hbm, 87, rfl⟩
abbrev main_call2_v1 : Ref sig .tc := ⟨.hbm, 88, rfl⟩
abbrev main_call2_v2 : Ref sig .tc := ⟨.hbm, 89, rfl⟩
abbrev main_call2_v3 : Ref sig .tc := ⟨.hbm, 90, rfl⟩
abbrev main_call2_v4 : Ref sig .tc := ⟨.hbm, 91, rfl⟩
abbrev main_call2_v5 : Ref sig .tc := ⟨.hbm, 92, rfl⟩
abbrev main_call2_v6 : Ref sig .tc := ⟨.hbm, 93, rfl⟩
abbrev main_call2_v7 : Ref sig .tc := ⟨.hbm, 94, rfl⟩
abbrev main_call2_v8 : Ref sig .tc := ⟨.hbm, 95, rfl⟩
abbrev main_call2_c : Ref sig .tc := ⟨.hbm, 96, rfl⟩
abbrev main_call2_v9 : Ref sig .tc := ⟨.hbm, 97, rfl⟩
abbrev main_call2_v10 : Ref sig .tc := ⟨.hbm, 98, rfl⟩
abbrev main_call2_v11 : Ref sig .tc := ⟨.hbm, 99, rfl⟩
abbrev main_call2_c_0 : Ref sig .tc := ⟨.hbm, 100, rfl⟩
abbrev main_call2_v12 : Ref sig .tc := ⟨.hbm, 101, rfl⟩
abbrev main_call2_v13 : Ref sig .tc := ⟨.hbm, 102, rfl⟩
abbrev main_v32 : Ref sig .tc := ⟨.hbm, 103, rfl⟩
abbrev main_v33 : Ref sig .tc := ⟨.hbm, 104, rfl⟩
abbrev main_c_7 : Ref sig .tc := ⟨.hbm, 105, rfl⟩
abbrev main_call3_v0 : Ref sig .tc := ⟨.hbm, 106, rfl⟩
abbrev main_call3_c : Ref sig .tc := ⟨.hbm, 107, rfl⟩
abbrev main_call3_v1 : Ref sig .tc := ⟨.hbm, 108, rfl⟩
abbrev main_call3_c_0 : Ref sig .tc := ⟨.hbm, 109, rfl⟩
abbrev main_call3_v2 : Ref sig .tc := ⟨.hbm, 110, rfl⟩
abbrev main_call3_v3 : Ref sig .tc := ⟨.hbm, 111, rfl⟩
abbrev main_call3_v4 : Ref sig .tc := ⟨.hbm, 112, rfl⟩
abbrev main_call3_c_1 : Ref sig .tc := ⟨.hbm, 113, rfl⟩
abbrev main_call3_v5 : Ref sig .tc := ⟨.hbm, 114, rfl⟩
abbrev main_call3_v6 : Ref sig .tc := ⟨.hbm, 115, rfl⟩
abbrev main_call3_c_2 : Ref sig .tc := ⟨.hbm, 116, rfl⟩
abbrev main_call3_v7 : Ref sig .tc := ⟨.hbm, 117, rfl⟩
abbrev main_call3_v8 : Ref sig .tc := ⟨.hbm, 118, rfl⟩
abbrev main_call3_c_3 : Ref sig .tc := ⟨.hbm, 119, rfl⟩
abbrev main_call3_v9 : Ref sig .tc := ⟨.hbm, 120, rfl⟩
abbrev main_call3_v10 : Ref sig .tc := ⟨.hbm, 121, rfl⟩
abbrev main_call3_v11 : Ref sig .tc := ⟨.hbm, 122, rfl⟩
abbrev main_call3_v12 : Ref sig .tc := ⟨.hbm, 123, rfl⟩
abbrev main_call3_v13 : Ref sig .tc := ⟨.hbm, 124, rfl⟩
abbrev main_call3_v14 : Ref sig .tc := ⟨.hbm, 125, rfl⟩
abbrev main_v34 : Ref sig .tc := ⟨.hbm, 126, rfl⟩
abbrev main_v35 : Ref sig .tc := ⟨.hbm, 127, rfl⟩
abbrev main_v36 : Ref sig .tc := ⟨.hbm, 128, rfl⟩
abbrev main_v37 : Ref sig .tc := ⟨.hbm, 129, rfl⟩
abbrev main_cst_8 : Ref sig .tc := ⟨.hbm, 130, rfl⟩
abbrev main_v38 : Ref sig .tc := ⟨.hbm, 131, rfl⟩
abbrev main_v39 : Ref sig .tc := ⟨.hbm, 132, rfl⟩
abbrev main_cst_9 : Ref sig .tc := ⟨.hbm, 133, rfl⟩
abbrev main_v40 : Ref sig .tc := ⟨.hbm, 134, rfl⟩
abbrev main_v41 : Ref sig .tc := ⟨.hbm, 135, rfl⟩
abbrev main_v42 : Ref sig .tc := ⟨.hbm, 136, rfl⟩
abbrev main_v43 : Ref sig .tc := ⟨.hbm, 137, rfl⟩
abbrev main_v44 : Ref sig .tc := ⟨.hbm, 138, rfl⟩
abbrev main_v45 : Ref sig .tc := ⟨.hbm, 139, rfl⟩
abbrev main_v46 : Ref sig .tc := ⟨.hbm, 140, rfl⟩
abbrev main_v47 : Ref sig .tc := ⟨.hbm, 141, rfl⟩
abbrev main_v48 : Ref sig .tc := ⟨.hbm, 142, rfl⟩
abbrev main_v49 : Ref sig .tc := ⟨.hbm, 143, rfl⟩
abbrev main_v50 : Ref sig .tc := ⟨.hbm, 144, rfl⟩
abbrev main_v51 : Ref sig .tc := ⟨.hbm, 145, rfl⟩
abbrev main_v52 : Ref sig .tc := ⟨.hbm, 146, rfl⟩
abbrev main_v53 : Ref sig .tc := ⟨.hbm, 147, rfl⟩
abbrev main_v54 : Ref sig .tc := ⟨.hbm, 148, rfl⟩
abbrev main_cst_10 : Ref sig .tc := ⟨.hbm, 149, rfl⟩
abbrev main_v55 : Ref sig .tc := ⟨.hbm, 150, rfl⟩
abbrev main_cst_11 : Ref sig .tc := ⟨.hbm, 151, rfl⟩
abbrev main_v56 : Ref sig .tc := ⟨.hbm, 152, rfl⟩
abbrev main_v57 : Ref sig .tc := ⟨.hbm, 153, rfl⟩
abbrev main_cst_12 : Ref sig .tc := ⟨.hbm, 154, rfl⟩
abbrev main_v58 : Ref sig .tc := ⟨.hbm, 155, rfl⟩
abbrev main_v59 : Ref sig .tc := ⟨.hbm, 156, rfl⟩
abbrev main_cst_13 : Ref sig .tc := ⟨.hbm, 157, rfl⟩
abbrev main_v60 : Ref sig .tc := ⟨.hbm, 158, rfl⟩
abbrev main_v61 : Ref sig .tc := ⟨.hbm, 159, rfl⟩
abbrev main_v62_0 : Ref sig .tc := ⟨.hbm, 160, rfl⟩
abbrev main_v62_1 : Ref sig .tc := ⟨.hbm, 161, rfl⟩
abbrev main_v62_2 : Ref sig .tc := ⟨.hbm, 162, rfl⟩
abbrev main_v62_3 : Ref sig .tc := ⟨.hbm, 163, rfl⟩
abbrev main_v62_4 : Ref sig .tc := ⟨.hbm, 164, rfl⟩
abbrev main_v62_5 : Ref sig .tc := ⟨.hbm, 165, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg15_1 : Ref sig .tc := ⟨.vmem, 24, rfl⟩
abbrev cc0_stg16_0 : Ref sig .tc := ⟨.vmem, 25, rfl⟩
abbrev cc0_stg16_1 : Ref sig .tc := ⟨.vmem, 26, rfl⟩
abbrev cc0_stg17_0 : Ref sig .tc := ⟨.vmem, 27, rfl⟩
abbrev cc0_stg17_1 : Ref sig .tc := ⟨.vmem, 28, rfl⟩
abbrev cc0_stg18_0 : Ref sig .tc := ⟨.vmem, 29, rfl⟩
abbrev cc0_stg18_1 : Ref sig .tc := ⟨.vmem, 30, rfl⟩
abbrev cc0_stg19_0 : Ref sig .tc := ⟨.vmem, 31, rfl⟩
abbrev cc0_stg19_1 : Ref sig .tc := ⟨.vmem, 32, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22
abbrev cc0_sem15_0 : DmaSem sig := 23
abbrev cc0_sem15_1 : DmaSem sig := 24
abbrev cc0_sem16_0 : DmaSem sig := 25
abbrev cc0_sem16_1 : DmaSem sig := 26
abbrev cc0_sem17_0 : DmaSem sig := 27
abbrev cc0_sem17_1 : DmaSem sig := 28
abbrev cc0_sem18_0 : DmaSem sig := 29
abbrev cc0_sem18_1 : DmaSem sig := 30
abbrev cc0_sem19_0 : DmaSem sig := 31
abbrev cc0_sem19_1 : DmaSem sig := 32

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c512_i32 : BitVec 32 := 512#32
  let v0 : BitVec 32 := Scalar.muli arg0 c512_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_3 (i : grid0.Coords) : Fin 3 → Nat :=
  let arg0 : BitVec 32 := BitVec.ofNat 32 (i 0).val
  let c512_i32 : BitVec 32 := 512#32
  let v0 : BitVec 32 := Scalar.muli arg0 c512_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_11 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_12 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_13 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x2304 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S384x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x256 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x256 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x1024 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S512x1024 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S512x1024 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]
-- ==== ProjectABReferenceIdeal.lean ====
abbrev S32768x1024 : Shape := ⟨2, ![32768, 1024]⟩
abbrev S1x1024 : Shape := ⟨2, ![1, 1024]⟩
abbrev S24x1x1024 : Shape := ⟨3, ![24, 1, 1024]⟩
abbrev S1024x2304 : Shape := ⟨2, ![1024, 2304]⟩
abbrev S1x384 : Shape := ⟨2, ![1, 384]⟩
abbrev S384x1024 : Shape := ⟨2, ![384, 1024]⟩
abbrev S1x256 : Shape := ⟨2, ![1, 256]⟩
abbrev S256x1024 : Shape := ⟨2, ![256, 1024]⟩
abbrev S16x2048x1024 : Shape := ⟨3, ![16, 2048, 1024]⟩
abbrev S1024 : Shape := ⟨1, ![1024]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S16x1x1024 : Shape := ⟨3, ![16, 1, 1024]⟩
abbrev S16x2048x2304 : Shape := ⟨3, ![16, 2048, 2304]⟩
abbrev S16x2048x256 : Shape := ⟨3, ![16, 2048, 256]⟩
abbrev S16x2048x384 : Shape := ⟨3, ![16, 2048, 384]⟩
abbrev S16x2048x128 : Shape := ⟨3, ![16, 2048, 128]⟩
abbrev S32 : Shape := ⟨1, ![32]⟩
abbrev S32x1 : Shape := ⟨2, ![32, 1]⟩
abbrev S32x64 : Shape := ⟨2, ![32, 64]⟩
abbrev S2048 : Shape := ⟨1, ![2048]⟩
abbrev S64 : Shape := ⟨1, ![64]⟩
abbrev S1x64 : Shape := ⟨2, ![1, 64]⟩
abbrev S16 : Shape := ⟨1, ![16]⟩
abbrev S2048x1 : Shape := ⟨2, ![2048, 1]⟩
abbrev S1x16 : Shape := ⟨2, ![1, 16]⟩
abbrev S2048x16 : Shape := ⟨2, ![2048, 16]⟩
abbrev S2048x32 : Shape := ⟨2, ![2048, 32]⟩
abbrev S8 : Shape := ⟨1, ![8]⟩
abbrev S1x8 : Shape := ⟨2, ![1, 8]⟩
abbrev S2048x8 : Shape := ⟨2, ![2048, 8]⟩
abbrev S16x2048x8x128 : Shape := ⟨4, ![16, 2048, 8, 128]⟩
abbrev S16x8x2048x128 : Shape := ⟨4, ![16, 8, 2048, 128]⟩
abbrev S16x8x2048x0 : Shape := ⟨4, ![16, 8, 2048, 0]⟩
abbrev S16x8x2048x64 : Shape := ⟨4, ![16, 8, 2048, 64]⟩
abbrev S16x8x2048x32 : Shape := ⟨4, ![16, 8, 2048, 32]⟩
abbrev S1x1x2048x32 : Shape := ⟨4, ![1, 1, 2048, 32]⟩
abbrev S16x2048x2x128 : Shape := ⟨4, ![16, 2048, 2, 128]⟩
abbrev S16x2x2048x128 : Shape := ⟨4, ![16, 2, 2048, 128]⟩
abbrev S16x2x2048x0 : Shape := ⟨4, ![16, 2, 2048, 0]⟩
abbrev S16x2x2048x64 : Shape := ⟨4, ![16, 2, 2048, 64]⟩
abbrev S16x2x2048x32 : Shape := ⟨4, ![16, 2, 2048, 32]⟩
abbrev S384 : Shape := ⟨1, ![384]⟩
abbrev S1x1x384 : Shape := ⟨3, ![1, 1, 384]⟩
abbrev S16x8x2048x16 : Shape := ⟨4, ![16, 8, 2048, 16]⟩
abbrev S1x1x2048x16 : Shape := ⟨4, ![1, 1, 2048, 16]⟩
abbrev S256 : Shape := ⟨1, ![256]⟩
abbrev S1x1x256 : Shape := ⟨3, ![1, 1, 256]⟩
abbrev S16x2048x1x128 : Shape := ⟨4, ![16, 2048, 1, 128]⟩
abbrev S16x1x2048x128 : Shape := ⟨4, ![16, 1, 2048, 128]⟩
abbrev S16x1x2048x64 : Shape := ⟨4, ![16, 1, 2048, 64]⟩
abbrev S16x1x2048x32 : Shape := ⟨4, ![16, 1, 2048, 32]⟩
abbrev S16x1x2048x16 : Shape := ⟨4, ![16, 1, 2048, 16]⟩
abbrev S32768x256 : Shape := ⟨2, ![32768, 256]⟩

abbrev nBuf : Space → Nat
  | .hbm => 265
  | .vmem => 0
  | .smem => 0
  | _ => 0

abbrev hbmTy0_0 (i : Nat) : BufTy := match i % 128 with
  | 0 => ⟨S32768x1024, .f32⟩
  | 1 => ⟨S1x1024, .f32⟩
  | 2 => ⟨S24x1x1024, .f32⟩
  | 3 => ⟨S24x1x1024, .f32⟩
  | 4 => ⟨S1024x2304, .bf16⟩
  | 5 => ⟨S1x384, .f32⟩
  | 6 => ⟨S384x1024, .bf16⟩
  | 7 => ⟨S1x256, .f32⟩
  | 8 => ⟨S256x1024, .bf16⟩
  | 9 => ⟨S256x1024, .bf16⟩
  | 10 => ⟨S16x2048x1024, .f32⟩
  | 11 => ⟨S1024, .f32⟩
  | 12 => ⟨S16x2048x1024, .f32⟩
  | 13 => ⟨S_, .f32⟩
  | 14 => ⟨S16x2048, .f32⟩
  | 15 => ⟨S16x2048x1, .f32⟩
  | 16 => ⟨S_, .f32⟩
  | 17 => ⟨S16x2048x1, .f32⟩
  | 18 => ⟨S16x2048x1, .f32⟩
  | 19 => ⟨S_, .f32⟩
  | 20 => ⟨S16x2048x1, .f32⟩
  | 21 => ⟨S16x2048x1, .f32⟩
  | 22 => ⟨S16x2048x1, .f32⟩
  | 23 => ⟨S16x2048x1024, .f32⟩
  | 24 => ⟨S16x2048x1024, .f32⟩
  | 25 => ⟨S1x1x1024, .f32⟩
  | 26 => ⟨S16x2048x1024, .f32⟩
  | 27 => ⟨S16x2048x1024, .f32⟩
  | 28 => ⟨S16x1x1024, .f32⟩
  | 29 => ⟨S_, .f32⟩
  | 30 => ⟨S16x1x1024, .f32⟩
  | 31 => ⟨S16x1x1024, .f32⟩
  | 32 => ⟨S16x2048x1024, .f32⟩
  | 33 => ⟨S16x2048x1024, .f32⟩
  | 34 => ⟨S16x1x1024, .f32⟩
  | 35 => ⟨S16x2048x1024, .f32⟩
  | 36 => ⟨S16x2048x1024, .f32⟩
  | 37 => ⟨S1024x2304, .f32⟩
  | 38 => ⟨S16x2048x2304, .f32⟩
  | 39 => ⟨S16x2048x1024, .f32⟩
  | 40 => ⟨S16x2048x256, .f32⟩
  | 41 => ⟨S16x2048x256, .f32⟩
  | 42 => ⟨S16x2048x384, .f32⟩
  | 43 => ⟨S16x2048x256, .f32⟩
  | 44 => ⟨S16x2048x128, .f32⟩
  | 45 => ⟨S32, .i32⟩
  | 46 => ⟨S32x1, .i32⟩
  | 47 => ⟨S32x64, .i32⟩
  | 48 => ⟨S2048, .i32⟩
  | 49 => ⟨S64, .i32⟩
  | 50 => ⟨S1x64, .i32⟩
  | 51 => ⟨S32x64, .i32⟩
  | 52 => ⟨S2048, .i32⟩
  | 53 => ⟨S16, .f32⟩
  | 54 => ⟨S16, .f32⟩
  | 55 => ⟨S_, .f32⟩
  | 56 => ⟨S16, .f32⟩
  | 57 => ⟨S16, .f32⟩
  | 58 => ⟨S_, .f32⟩
  | 59 => ⟨S16, .f32⟩
  | 60 => ⟨S16, .f32⟩
  | 61 => ⟨S2048, .f32⟩
  | 62 => ⟨S2048x1, .f32⟩
  | 63 => ⟨S1x16, .f32⟩
  | 64 => ⟨S2048x16, .f32⟩
  | 65 => ⟨S2048x16, .f32⟩
  | 66 => ⟨S2048x16, .f32⟩
  | 67 => ⟨S2048, .f32⟩
  | 68 => ⟨S2048x1, .f32⟩
  | 69 => ⟨S1x16, .f32⟩
  | 70 => ⟨S2048x16, .f32⟩
  | 71 => ⟨S2048x16, .f32⟩
  | 72 => ⟨S2048x16, .f32⟩
  | 73 => ⟨S2048x32, .f32⟩
  | 74 => ⟨S2048x32, .f32⟩
  | 75 => ⟨S2048x32, .f32⟩
  | 76 => ⟨S32, .i32⟩
  | 77 => ⟨S32x1, .i32⟩
  | 78 => ⟨S32x64, .i32⟩
  | 79 => ⟨S2048, .i32⟩
  | 80 => ⟨S64, .i32⟩
  | 81 => ⟨S1x64, .i32⟩
  | 82 => ⟨S32x64, .i32⟩
  | 83 => ⟨S2048, .i32⟩
  | 84 => ⟨S8, .f32⟩
  | 85 => ⟨S8, .f32⟩
  | 86 => ⟨S_, .f32⟩
  | 87 => ⟨S8, .f32⟩
  | 88 => ⟨S8, .f32⟩
  | 89 => ⟨S_, .f32⟩
  | 90 => ⟨S8, .f32⟩
  | 91 => ⟨S8, .f32⟩
  | 92 => ⟨S2048, .f32⟩
  | 93 => ⟨S2048x1, .f32⟩
  | 94 => ⟨S1x8, .f32⟩
  | 95 => ⟨S2048x8, .f32⟩
  | 96 => ⟨S2048x8, .f32⟩
  | 97 => ⟨S2048x8, .f32⟩
  | 98 => ⟨S2048, .f32⟩
  | 99 => ⟨S2048x1, .f32⟩
  | 100 => ⟨S1x8, .f32⟩
  | 101 => ⟨S2048x8, .f32⟩
  | 102 => ⟨S2048x8, .f32⟩
  | 103 => ⟨S2048x8, .f32⟩
  | 104 => ⟨S2048x16, .f32⟩
  | 105 => ⟨S2048x16, .f32⟩
  | 106 => ⟨S2048x16, .f32⟩
  | 107 => ⟨S16x2048x8x128, .f32⟩
  | 108 => ⟨S16x8x2048x128, .f32⟩
  | 109 => ⟨S16x8x2048x0, .f32⟩
  | 110 => ⟨S16x8x2048x64, .f32⟩
  | 111 => ⟨S16x8x2048x32, .f32⟩
  | 112 => ⟨S16x8x2048x32, .f32⟩
  | 113 => ⟨S1x1x2048x32, .f32⟩
  | 114 => ⟨S16x8x2048x32, .f32⟩
  | 115 => ⟨S16x8x2048x32, .f32⟩
  | 116 => ⟨S1x1x2048x32, .f32⟩
  | 117 => ⟨S16x8x2048x32, .f32⟩
  | 118 => ⟨S16x8x2048x32, .f32⟩
  | 119 => ⟨S16x8x2048x32, .f32⟩
  | 120 => ⟨S1x1x2048x32, .f32⟩
  | 121 => ⟨S16x8x2048x32, .f32⟩
  | 122 => ⟨S16x8x2048x32, .f32⟩
  | 123 => ⟨S1x1x2048x32, .f32⟩
  | 124 => ⟨S16x8x2048x32, .f32⟩
  | 125 => ⟨S16x8x2048x32, .f32⟩
  | 126 => ⟨S16x8x2048x32, .f32⟩
  | 127 => ⟨S16x8x2048x64, .f32⟩
  | _ => ⟨S32768x1024, .f32⟩

abbrev hbmTy0_1 (i : Nat) : BufTy := match i % 128 with
  | 0 => ⟨S16x8x2048x64, .f32⟩
  | 1 => ⟨S16x8x2048x128, .f32⟩
  | 2 => ⟨S_, .f32⟩
  | 3 => ⟨S16x8x2048x128, .f32⟩
  | 4 => ⟨S16x8x2048x128, .f32⟩
  | 5 => ⟨S16x2048x2x128, .f32⟩
  | 6 => ⟨S16x2x2048x128, .f32⟩
  | 7 => ⟨S16x2x2048x0, .f32⟩
  | 8 => ⟨S16x2x2048x64, .f32⟩
  | 9 => ⟨S16x2x2048x32, .f32⟩
  | 10 => ⟨S16x2x2048x32, .f32⟩
  | 11 => ⟨S1x1x2048x32, .f32⟩
  | 12 => ⟨S16x2x2048x32, .f32⟩
  | 13 => ⟨S16x2x2048x32, .f32⟩
  | 14 => ⟨S1x1x2048x32, .f32⟩
  | 15 => ⟨S16x2x2048x32, .f32⟩
  | 16 => ⟨S16x2x2048x32, .f32⟩
  | 17 => ⟨S16x2x2048x32, .f32⟩
  | 18 => ⟨S1x1x2048x32, .f32⟩
  | 19 => ⟨S16x2x2048x32, .f32⟩
  | 20 => ⟨S16x2x2048x32, .f32⟩
  | 21 => ⟨S1x1x2048x32, .f32⟩
  | 22 => ⟨S16x2x2048x32, .f32⟩
  | 23 => ⟨S16x2x2048x32, .f32⟩
  | 24 => ⟨S16x2x2048x32, .f32⟩
  | 25 => ⟨S16x2x2048x64, .f32⟩
  | 26 => ⟨S16x2x2048x64, .f32⟩
  | 27 => ⟨S16x2x2048x128, .f32⟩
  | 28 => ⟨S384, .f32⟩
  | 29 => ⟨S16x2048x384, .f32⟩
  | 30 => ⟨S_, .f32⟩
  | 31 => ⟨S16x2048, .f32⟩
  | 32 => ⟨S16x2048x1, .f32⟩
  | 33 => ⟨S_, .f32⟩
  | 34 => ⟨S16x2048x1, .f32⟩
  | 35 => ⟨S16x2048x1, .f32⟩
  | 36 => ⟨S_, .f32⟩
  | 37 => ⟨S16x2048x1, .f32⟩
  | 38 => ⟨S16x2048x1, .f32⟩
  | 39 => ⟨S16x2048x1, .f32⟩
  | 40 => ⟨S16x2048x384, .f32⟩
  | 41 => ⟨S16x2048x384, .f32⟩
  | 42 => ⟨S1x1x384, .f32⟩
  | 43 => ⟨S16x2048x384, .f32⟩
  | 44 => ⟨S16x2048x384, .f32⟩
  | 45 => ⟨S384x1024, .f32⟩
  | 46 => ⟨S16x2048x1024, .f32⟩
  | 47 => ⟨S16x2048x8x128, .f32⟩
  | 48 => ⟨S16x8x2048x128, .f32⟩
  | 49 => ⟨S16x8x2048x64, .f32⟩
  | 50 => ⟨S16x8x2048x32, .f32⟩
  | 51 => ⟨S16x8x2048x16, .f32⟩
  | 52 => ⟨S16x8x2048x16, .f32⟩
  | 53 => ⟨S1x1x2048x16, .f32⟩
  | 54 => ⟨S16x8x2048x16, .f32⟩
  | 55 => ⟨S16x8x2048x16, .f32⟩
  | 56 => ⟨S1x1x2048x16, .f32⟩
  | 57 => ⟨S16x8x2048x16, .f32⟩
  | 58 => ⟨S16x8x2048x16, .f32⟩
  | 59 => ⟨S16x8x2048x16, .f32⟩
  | 60 => ⟨S1x1x2048x16, .f32⟩
  | 61 => ⟨S16x8x2048x16, .f32⟩
  | 62 => ⟨S16x8x2048x16, .f32⟩
  | 63 => ⟨S1x1x2048x16, .f32⟩
  | 64 => ⟨S16x8x2048x16, .f32⟩
  | 65 => ⟨S16x8x2048x16, .f32⟩
  | 66 => ⟨S16x8x2048x16, .f32⟩
  | 67 => ⟨S16x8x2048x32, .f32⟩
  | 68 => ⟨S16x8x2048x32, .f32⟩
  | 69 => ⟨S16x8x2048x128, .f32⟩
  | 70 => ⟨S_, .f32⟩
  | 71 => ⟨S16x8x2048x128, .f32⟩
  | 72 => ⟨S16x8x2048x128, .f32⟩
  | 73 => ⟨S256, .f32⟩
  | 74 => ⟨S16x2048x256, .f32⟩
  | 75 => ⟨S_, .f32⟩
  | 76 => ⟨S16x2048, .f32⟩
  | 77 => ⟨S16x2048x1, .f32⟩
  | 78 => ⟨S_, .f32⟩
  | 79 => ⟨S16x2048x1, .f32⟩
  | 80 => ⟨S16x2048x1, .f32⟩
  | 81 => ⟨S_, .f32⟩
  | 82 => ⟨S16x2048x1, .f32⟩
  | 83 => ⟨S16x2048x1, .f32⟩
  | 84 => ⟨S16x2048x1, .f32⟩
  | 85 => ⟨S16x2048x256, .f32⟩
  | 86 => ⟨S16x2048x256, .f32⟩
  | 87 => ⟨S1x1x256, .f32⟩
  | 88 => ⟨S16x2048x256, .f32⟩
  | 89 => ⟨S16x2048x256, .f32⟩
  | 90 => ⟨S16x2048x1x128, .f32⟩
  | 91 => ⟨S16x1x2048x128, .f32⟩
  | 92 => ⟨S16x1x2048x64, .f32⟩
  | 93 => ⟨S16x1x2048x32, .f32⟩
  | 94 => ⟨S16x1x2048x16, .f32⟩
  | 95 => ⟨S16x1x2048x16, .f32⟩
  | 96 => ⟨S1x1x2048x16, .f32⟩
  | 97 => ⟨S16x1x2048x16, .f32⟩
  | 98 => ⟨S16x1x2048x16, .f32⟩
  | 99 => ⟨S1x1x2048x16, .f32⟩
  | 100 => ⟨S16x1x2048x16, .f32⟩
  | 101 => ⟨S16x1x2048x16, .f32⟩
  | 102 => ⟨S16x1x2048x16, .f32⟩
  | 103 => ⟨S1x1x2048x16, .f32⟩
  | 104 => ⟨S16x1x2048x16, .f32⟩
  | 105 => ⟨S16x1x2048x16, .f32⟩
  | 106 => ⟨S1x1x2048x16, .f32⟩
  | 107 => ⟨S16x1x2048x16, .f32⟩
  | 108 => ⟨S16x1x2048x16, .f32⟩
  | 109 => ⟨S16x1x2048x16, .f32⟩
  | 110 => ⟨S16x1x2048x32, .f32⟩
  | 111 => ⟨S16x1x2048x32, .f32⟩
  | 112 => ⟨S16x1x2048x128, .f32⟩
  | 113 => ⟨S256x1024, .f32⟩
  | 114 => ⟨S16x2048x1024, .f32⟩
  | 115 => ⟨S16x2048x8x128, .f32⟩
  | 116 => ⟨S16x8x2048x128, .f32⟩
  | 117 => ⟨S16x8x2048x128, .f32⟩
  | 118 => ⟨S16x8x2048x128, .f32⟩
  | 119 => ⟨S256x1024, .f32⟩
  | 120 => ⟨S16x2048x1024, .f32⟩
  | 121 => ⟨S16x2048x8x128, .f32⟩
  | 122 => ⟨S32768x1024, .f32⟩
  | 123 => ⟨S32768x1024, .bf16⟩
  | 124 => ⟨S16x2048x2x128, .f32⟩
  | 125 => ⟨S32768x256, .f32⟩
  | 126 => ⟨S32768x256, .bf16⟩
  | 127 => ⟨S32768x256, .f32⟩
  | _ => ⟨S32768x1024, .f32⟩

abbrev hbmTy0_2 (i : Nat) : BufTy := match i % 128 with
  | 0 => ⟨S32768x256, .bf16⟩
  | 1 => ⟨S16x2048x8x128, .f32⟩
  | 2 => ⟨S32768x1024, .f32⟩
  | 3 => ⟨S32768x1024, .bf16⟩
  | 4 => ⟨S16x2048x8x128, .f32⟩
  | 5 => ⟨S32768x1024, .f32⟩
  | 6 => ⟨S32768x1024, .bf16⟩
  | 7 => ⟨S32768x1024, .f32⟩
  | 8 => ⟨S32768x1024, .bf16⟩
  | _ => ⟨S32768x1024, .f32⟩

abbrev hbmTy (i : Nat) : BufTy := match i / 128 with
  | 0 => hbmTy0_0 i
  | 1 => hbmTy0_1 i
  | 2 => hbmTy0_2 i
  | _ => ⟨S32768x1024, .f32⟩

abbrev bufTy : (tb : Table) → Fin (tcTables nBuf tb) → BufTy
  | .hbm, ⟨i, _⟩ => hbmTy i
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_cst : Ref sig .tc := ⟨.hbm, 13, rfl⟩
abbrev main_v3 : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_cst_1 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_2 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_cst_3 : Ref sig .tc := ⟨.hbm, 55, rfl⟩
abbrev main_v41 : Ref sig .tc := ⟨.hbm, 56, rfl⟩
abbrev main_v42 : Ref sig .tc := ⟨.hbm, 57, rfl⟩
abbrev main_cst_4 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_cst_5 : Ref sig .tc := ⟨.hbm, 86, rfl⟩
abbrev main_v70 : Ref sig .tc := ⟨.hbm, 87, rfl⟩
abbrev main_v71 : Ref sig .tc := ⟨.hbm, 88, rfl⟩
abbrev main_cst_6 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_v88 : Ref sig .tc := ⟨.hbm, 106, rfl⟩
abbrev main_v89 : Ref sig .tc := ⟨.hbm, 107, rfl⟩
abbrev main_v90 : Ref sig .tc := ⟨.hbm, 108, rfl⟩
abbrev main_v91 : Ref sig .tc := ⟨.hbm, 109, rfl⟩
abbrev main_v92 : Ref sig .tc := ⟨.hbm, 110, rfl⟩
abbrev main_v93 : Ref sig .tc := ⟨.hbm, 111, rfl⟩
abbrev main_v94 : Ref sig .tc := ⟨.hbm, 112, rfl⟩
abbrev main_v95 : Ref sig .tc := ⟨.hbm, 113, rfl⟩
abbrev main_v96 : Ref sig .tc := ⟨.hbm, 114, rfl⟩
abbrev main_v97 : Ref sig .tc := ⟨.hbm, 115, rfl⟩
abbrev main_v98 : Ref sig .tc := ⟨.hbm, 116, rfl⟩
abbrev main_v99 : Ref sig .tc := ⟨.hbm, 117, rfl⟩
abbrev main_v100 : Ref sig .tc := ⟨.hbm, 118, rfl⟩
abbrev main_v101 : Ref sig .tc := ⟨.hbm, 119, rfl⟩
abbrev main_v102 : Ref sig .tc := ⟨.hbm, 120, rfl⟩
abbrev main_v103 : Ref sig .tc := ⟨.hbm, 121, rfl⟩
abbrev main_v104 : Ref sig .tc := ⟨.hbm, 122, rfl⟩
abbrev main_v105 : Ref sig .tc := ⟨.hbm, 123, rfl⟩
abbrev main_v106 : Ref sig .tc := ⟨.hbm, 124, rfl⟩
abbrev main_v107 : Ref sig .tc := ⟨.hbm, 125, rfl⟩
abbrev main_v108 : Ref sig .tc := ⟨.hbm, 126, rfl⟩
abbrev main_v109 : Ref sig .tc := ⟨.hbm, 127, rfl⟩
abbrev main_v110 : Ref sig .tc := ⟨.hbm, 128, rfl⟩
abbrev main_v111 : Ref sig .tc := ⟨.hbm, 129, rfl⟩
abbrev main_cst_7 : Ref sig .tc := ⟨.hbm, 130, rfl⟩
abbrev main_v112 : Ref sig .tc := ⟨.hbm, 131, rfl⟩
abbrev main_v113 : Ref sig .tc := ⟨.hbm, 132, rfl⟩
abbrev main_v114 : Ref sig .tc := ⟨.hbm, 133, rfl⟩
abbrev main_v115 : Ref sig .tc := ⟨.hbm, 134, rfl⟩
abbrev main_v116 : Ref sig .tc := ⟨.hbm, 135, rfl⟩
abbrev main_v117 : Ref sig .tc := ⟨.hbm, 136, rfl⟩
abbrev main_v118 : Ref sig .tc := ⟨.hbm, 137, rfl⟩
abbrev main_v119 : Ref sig .tc := ⟨.hbm, 138, rfl⟩
abbrev main_v120 : Ref sig .tc := ⟨.hbm, 139, rfl⟩
abbrev main_v121 : Ref sig .tc := ⟨.hbm, 140, rfl⟩
abbrev main_v122 : Ref sig .tc := ⟨.hbm, 141, rfl⟩
abbrev main_v123 : Ref sig .tc := ⟨.hbm, 142, rfl⟩
abbrev main_v124 : Ref sig .tc := ⟨.hbm, 143, rfl⟩
abbrev main_v125 : Ref sig .tc := ⟨.hbm, 144, rfl⟩
abbrev main_v126 : Ref sig .tc := ⟨.hbm, 145, rfl⟩
abbrev main_v127 : Ref sig .tc := ⟨.hbm, 146, rfl⟩
abbrev main_v128 : Ref sig .tc := ⟨.hbm, 147, rfl⟩
abbrev main_v129 : Ref sig .tc := ⟨.hbm, 148, rfl⟩
abbrev main_v130 : Ref sig .tc := ⟨.hbm, 149, rfl⟩
abbrev main_v131 : Ref sig .tc := ⟨.hbm, 150, rfl⟩
abbrev main_v132 : Ref sig .tc := ⟨.hbm, 151, rfl⟩
abbrev main_v133 : Ref sig .tc := ⟨.hbm, 152, rfl⟩
abbrev main_v134 : Ref sig .tc := ⟨.hbm, 153, rfl⟩
abbrev main_v135 : Ref sig .tc := ⟨.hbm, 154, rfl⟩
abbrev main_v136 : Ref sig .tc := ⟨.hbm, 155, rfl⟩
abbrev main_v137 : Ref sig .tc := ⟨.hbm, 156, rfl⟩
abbrev main_v138 : Ref sig .tc := ⟨.hbm, 157, rfl⟩
abbrev main_cst_8 : Ref sig .tc := ⟨.hbm, 158, rfl⟩
abbrev main_v139 : Ref sig .tc := ⟨.hbm, 159, rfl⟩
abbrev main_v140 : Ref sig .tc := ⟨.hbm, 160, rfl⟩
abbrev main_cst_9 : Ref sig .tc := ⟨.hbm, 161, rfl⟩
abbrev main_v141 : Ref sig .tc := ⟨.hbm, 162, rfl⟩
abbrev main_v142 : Ref sig .tc := ⟨.hbm, 163, rfl⟩
abbrev main_cst_10 : Ref sig .tc := ⟨.hbm, 164, rfl⟩
abbrev main_v143 : Ref sig .tc := ⟨.hbm, 165, rfl⟩
abbrev main_v144 : Ref sig .tc := ⟨.hbm, 166, rfl⟩
abbrev main_v145 : Ref sig .tc := ⟨.hbm, 167, rfl⟩
abbrev main_v146 : Ref sig .tc := ⟨.hbm, 168, rfl⟩
abbrev main_v147 : Ref sig .tc := ⟨.hbm, 169, rfl⟩
abbrev main_v148 : Ref sig .tc := ⟨.hbm, 170, rfl⟩
abbrev main_v149 : Ref sig .tc := ⟨.hbm, 171, rfl⟩
abbrev main_v150 : Ref sig .tc := ⟨.hbm, 172, rfl⟩
abbrev main_v151 : Ref sig .tc := ⟨.hbm, 173, rfl⟩
abbrev main_v152 : Ref sig .tc := ⟨.hbm, 174, rfl⟩
abbrev main_v153 : Ref sig .tc := ⟨.hbm, 175, rfl⟩
abbrev main_v154 : Ref sig .tc := ⟨.hbm, 176, rfl⟩
abbrev main_v155 : Ref sig .tc := ⟨.hbm, 177, rfl⟩
abbrev main_v156 : Ref sig .tc := ⟨.hbm, 178, rfl⟩
abbrev main_v157 : Ref sig .tc := ⟨.hbm, 179, rfl⟩
abbrev main_v158 : Ref sig .tc := ⟨.hbm, 180, rfl⟩
abbrev main_v159 : Ref sig .tc := ⟨.hbm, 181, rfl⟩
abbrev main_v160 : Ref sig .tc := ⟨.hbm, 182, rfl⟩
abbrev main_v161 : Ref sig .tc := ⟨.hbm, 183, rfl⟩
abbrev main_v162 : Ref sig .tc := ⟨.hbm, 184, rfl⟩
abbrev main_v163 : Ref sig .tc := ⟨.hbm, 185, rfl⟩
abbrev main_v164 : Ref sig .tc := ⟨.hbm, 186, rfl⟩
abbrev main_v165 : Ref sig .tc := ⟨.hbm, 187, rfl⟩
abbrev main_v166 : Ref sig .tc := ⟨.hbm, 188, rfl⟩
abbrev main_v167 : Ref sig .tc := ⟨.hbm, 189, rfl⟩
abbrev main_v168 : Ref sig .tc := ⟨.hbm, 190, rfl⟩
abbrev main_v169 : Ref sig .tc := ⟨.hbm, 191, rfl⟩
abbrev main_v170 : Ref sig .tc := ⟨.hbm, 192, rfl⟩
abbrev main_v171 : Ref sig .tc := ⟨.hbm, 193, rfl⟩
abbrev main_v172 : Ref sig .tc := ⟨.hbm, 194, rfl⟩
abbrev main_v173 : Ref sig .tc := ⟨.hbm, 195, rfl⟩
abbrev main_v174 : Ref sig .tc := ⟨.hbm, 196, rfl⟩
abbrev main_v175 : Ref sig .tc := ⟨.hbm, 197, rfl⟩
abbrev main_cst_11 : Ref sig .tc := ⟨.hbm, 198, rfl⟩
abbrev main_v176 : Ref sig .tc := ⟨.hbm, 199, rfl⟩
abbrev main_v177 : Ref sig .tc := ⟨.hbm, 200, rfl⟩
abbrev main_v178 : Ref sig .tc := ⟨.hbm, 201, rfl⟩
abbrev main_v179 : Ref sig .tc := ⟨.hbm, 202, rfl⟩
abbrev main_cst_12 : Ref sig .tc := ⟨.hbm, 203, rfl⟩
abbrev main_v180 : Ref sig .tc := ⟨.hbm, 204, rfl⟩
abbrev main_v181 : Ref sig .tc := ⟨.hbm, 205, rfl⟩
abbrev main_cst_13 : Ref sig .tc := ⟨.hbm, 206, rfl⟩
abbrev main_v182 : Ref sig .tc := ⟨.hbm, 207, rfl⟩
abbrev main_v183 : Ref sig .tc := ⟨.hbm, 208, rfl⟩
abbrev main_cst_14 : Ref sig .tc := ⟨.hbm, 209, rfl⟩
abbrev main_v184 : Ref sig .tc := ⟨.hbm, 210, rfl⟩
abbrev main_v185 : Ref sig .tc := ⟨.hbm, 211, rfl⟩
abbrev main_v186 : Ref sig .tc := ⟨.hbm, 212, rfl⟩
abbrev main_v187 : Ref sig .tc := ⟨.hbm, 213, rfl⟩
abbrev main_v188 : Ref sig .tc := ⟨.hbm, 214, rfl⟩
abbrev main_v189 : Ref sig .tc := ⟨.hbm, 215, rfl⟩
abbrev main_v190 : Ref sig .tc := ⟨.hbm, 216, rfl⟩
abbrev main_v191 : Ref sig .tc := ⟨.hbm, 217, rfl⟩
abbrev main_v192 : Ref sig .tc := ⟨.hbm, 218, rfl⟩
abbrev main_v193 : Ref sig .tc := ⟨.hbm, 219, rfl⟩
abbrev main_v194 : Ref sig .tc := ⟨.hbm, 220, rfl⟩
abbrev main_v195 : Ref sig .tc := ⟨.hbm, 221, rfl⟩
abbrev main_v196 : Ref sig .tc := ⟨.hbm, 222, rfl⟩
abbrev main_v197 : Ref sig .tc := ⟨.hbm, 223, rfl⟩
abbrev main_v198 : Ref sig .tc := ⟨.hbm, 224, rfl⟩
abbrev main_v199 : Ref sig .tc := ⟨.hbm, 225, rfl⟩
abbrev main_v200 : Ref sig .tc := ⟨.hbm, 226, rfl⟩
abbrev main_v201 : Ref sig .tc := ⟨.hbm, 227, rfl⟩
abbrev main_v202 : Ref sig .tc := ⟨.hbm, 228, rfl⟩
abbrev main_v203 : Ref sig .tc := ⟨.hbm, 229, rfl⟩
abbrev main_v204 : Ref sig .tc := ⟨.hbm, 230, rfl⟩
abbrev main_v205 : Ref sig .tc := ⟨.hbm, 231, rfl⟩
abbrev main_v206 : Ref sig .tc := ⟨.hbm, 232, rfl⟩
abbrev main_v207 : Ref sig .tc := ⟨.hbm, 233, rfl⟩
abbrev main_v208 : Ref sig .tc := ⟨.hbm, 234, rfl⟩
abbrev main_v209 : Ref sig .tc := ⟨.hbm, 235, rfl⟩
abbrev main_v210 : Ref sig .tc := ⟨.hbm, 236, rfl⟩
abbrev main_v211 : Ref sig .tc := ⟨.hbm, 237, rfl⟩
abbrev main_v212 : Ref sig .tc := ⟨.hbm, 238, rfl⟩
abbrev main_v213 : Ref sig .tc := ⟨.hbm, 239, rfl⟩
abbrev main_v214 : Ref sig .tc := ⟨.hbm, 240, rfl⟩
abbrev main_v215 : Ref sig .tc := ⟨.hbm, 241, rfl⟩
abbrev main_v216 : Ref sig .tc := ⟨.hbm, 242, rfl⟩
abbrev main_v217 : Ref sig .tc := ⟨.hbm, 243, rfl⟩
abbrev main_v218 : Ref sig .tc := ⟨.hbm, 244, rfl⟩
abbrev main_v219 : Ref sig .tc := ⟨.hbm, 245, rfl⟩
abbrev main_v220 : Ref sig .tc := ⟨.hbm, 246, rfl⟩
abbrev main_v221 : Ref sig .tc := ⟨.hbm, 247, rfl⟩
abbrev main_v222 : Ref sig .tc := ⟨.hbm, 248, rfl⟩
abbrev main_v223 : Ref sig .tc := ⟨.hbm, 249, rfl⟩
abbrev main_v224 : Ref sig .tc := ⟨.hbm, 250, rfl⟩
abbrev main_v225 : Ref sig .tc := ⟨.hbm, 251, rfl⟩
abbrev main_v226 : Ref sig .tc := ⟨.hbm, 252, rfl⟩
abbrev main_v227 : Ref sig .tc := ⟨.hbm, 253, rfl⟩
abbrev main_v228 : Ref sig .tc := ⟨.hbm, 254, rfl⟩
abbrev main_v229 : Ref sig .tc := ⟨.hbm, 255, rfl⟩
abbrev main_v230 : Ref sig .tc := ⟨.hbm, 256, rfl⟩
abbrev main_v231 : Ref sig .tc := ⟨.hbm, 257, rfl⟩
abbrev main_v232 : Ref sig .tc := ⟨.hbm, 258, rfl⟩
abbrev main_v233 : Ref sig .tc := ⟨.hbm, 259, rfl⟩
abbrev main_v234 : Ref sig .tc := ⟨.hbm, 260, rfl⟩
abbrev main_v235 : Ref sig .tc := ⟨.hbm, 261, rfl⟩
abbrev main_v236 : Ref sig .tc := ⟨.hbm, 262, rfl⟩
abbrev main_v237 : Ref sig .tc := ⟨.hbm, 263, rfl⟩
abbrev main_v238 : Ref sig .tc := ⟨.hbm, 264, rfl⟩

abbrev nD : Nat := 1
abbrev τ : Topo := Topo.v7x

variable {F : FTy → Type} [FloatOps F]
-- ==== OutC.lean ====
abbrev S32768x1024 : Shape := ⟨2, ![32768, 1024]⟩
abbrev S1024x1024 : Shape := ⟨2, ![1024, 1024]⟩
abbrev S24x1x1024 : Shape := ⟨3, ![24, 1, 1024]⟩
abbrev S1x1024 : Shape := ⟨2, ![1, 1024]⟩
abbrev S1024x256 : Shape := ⟨2, ![1024, 256]⟩
abbrev S1x128 : Shape := ⟨2, ![1, 128]⟩
abbrev S262144x128 : Shape := ⟨2, ![262144, 128]⟩
abbrev S32768x8 : Shape := ⟨2, ![32768, 8]⟩
abbrev S512x1024 : Shape := ⟨2, ![512, 1024]⟩
abbrev S1x1x1024 : Shape := ⟨3, ![1, 1, 1024]⟩
abbrev S4096x128 : Shape := ⟨2, ![4096, 128]⟩
abbrev S512x8 : Shape := ⟨2, ![512, 8]⟩
abbrev S512 : Shape := ⟨1, ![512]⟩
abbrev S512x1 : Shape := ⟨2, ![512, 1]⟩
abbrev S512x128 : Shape := ⟨2, ![512, 128]⟩
abbrev S512x256 : Shape := ⟨2, ![512, 256]⟩
abbrev S1024x128 : Shape := ⟨2, ![1024, 128]⟩

abbrev nBuf : Space → Nat
  | .hbm => 13
  | .vmem => 22
  | .smem => 0
  | _ => 0

abbrev bufTy : (tb : Table) → Fin (tcTables nBuf tb) → BufTy
  | .hbm, ⟨0, _⟩ => ⟨S32768x1024, .bf16⟩
  | .hbm, ⟨1, _⟩ => ⟨S1024x1024, .bf16⟩
  | .hbm, ⟨2, _⟩ => ⟨S32768x1024, .f32⟩
  | .hbm, ⟨3, _⟩ => ⟨S24x1x1024, .f32⟩
  | .hbm, ⟨4, _⟩ => ⟨S1x1024, .f32⟩
  | .hbm, ⟨5, _⟩ => ⟨S24x1x1024, .f32⟩
  | .hbm, ⟨6, _⟩ => ⟨S24x1x1024, .f32⟩
  | .hbm, ⟨7, _⟩ => ⟨S1024x256, .bf16⟩
  | .hbm, ⟨8, _⟩ => ⟨S1x128, .f32⟩
  | .hbm, ⟨9, _⟩ => ⟨S32768x1024, .f32⟩
  | .hbm, ⟨10, _⟩ => ⟨S262144x128, .f32⟩
  | .hbm, ⟨11, _⟩ => ⟨S32768x8, .i32⟩
  | .hbm, ⟨12, _⟩ => ⟨S32768x8, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x1024, .f32⟩
  | .local _ .vmem, ⟨8, _⟩ => ⟨S1x1x1024, .f32⟩
  | .local _ .vmem, ⟨9, _⟩ => ⟨S1x1x1024, .f32⟩
  | .local _ .vmem, ⟨10, _⟩ => ⟨S1x1x1024, .f32⟩
  | .local _ .vmem, ⟨11, _⟩ => ⟨S1x1x1024, .f32⟩
  | .local _ .vmem, ⟨12, _⟩ => ⟨S1024x256, .bf16⟩
  | .local _ .vmem, ⟨13, _⟩ => ⟨S1x128, .f32⟩
  | .local _ .vmem, ⟨14, _⟩ => ⟨S512x1024, .f32⟩
  | .local _ .vmem, ⟨15, _⟩ => ⟨S512x1024, .f32⟩
  | .local _ .vmem, ⟨16, _⟩ => ⟨S4096x128, .f32⟩
  | .local _ .vmem, ⟨17, _⟩ => ⟨S4096x128, .f32⟩
  | .local _ .vmem, ⟨18, _⟩ => ⟨S512x8, .i32⟩
  | .local _ .vmem, ⟨19, _⟩ => ⟨S512x8, .i32⟩
  | .local _ .vmem, ⟨20, _⟩ => ⟨S512x8, .f32⟩
  | .local _ .vmem, ⟨21, _⟩ => ⟨S512x8, .f32⟩
  | _, _ => ⟨S32768x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c512_i32 : BitVec 32 := 512#32
  let v0 : BitVec 32 := Scalar.muli arg0 c512_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c512_i32 : BitVec 32 := 512#32
  let v0 : BitVec 32 := Scalar.muli arg0 c512_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_6 (i : grid0.Coords) : Fin 3 → Nat :=
  let arg0 : BitVec 32 := BitVec.ofNat 32 (i 0).val
  let c512_i32 : BitVec 32 := 512#32
  let v0 : BitVec 32 := Scalar.muli arg0 c512_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1024x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S4096x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x8 .i32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x8 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== OutCReferenceIdeal.lean ====
abbrev S32768x1024 : Shape := ⟨2, ![32768, 1024]⟩
abbrev S1024x1024 : Shape := ⟨2, ![1024, 1024]⟩
abbrev S24x1x1024 : Shape := ⟨3, ![24, 1, 1024]⟩
abbrev S1x1024 : Shape := ⟨2, ![1, 1024]⟩
abbrev S1024x256 : Shape := ⟨2, ![1024, 256]⟩
abbrev S1x128 : Shape := ⟨2, ![1, 128]⟩
abbrev S16x2048x1024 : Shape := ⟨3, ![16, 2048, 1024]⟩
abbrev S16x1x1024 : Shape := ⟨3, ![16, 1, 1024]⟩
abbrev S1024 : Shape := ⟨1, ![1024]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S262144x128 : Shape := ⟨2, ![262144, 128]⟩

abbrev nBuf : Space → Nat
  | .hbm => 47
  | .vmem => 0
  | .smem => 0
  | _ => 0

abbrev bufTy : (tb : Table) → Fin (tcTables nBuf tb) → BufTy
  | .hbm, ⟨0, _⟩ => ⟨S32768x1024, .bf16⟩
  | .hbm, ⟨1, _⟩ => ⟨S1024x1024, .bf16⟩
  | .hbm, ⟨2, _⟩ => ⟨S32768x1024, .f32⟩
  | .hbm, ⟨3, _⟩ => ⟨S24x1x1024, .f32⟩
  | .hbm, ⟨4, _⟩ => ⟨S1x1024, .f32⟩
  | .hbm, ⟨5, _⟩ => ⟨S24x1x1024, .f32⟩
  | .hbm, ⟨6, _⟩ => ⟨S24x1x1024, .f32⟩
  | .hbm, ⟨7, _⟩ => ⟨S1024x256, .bf16⟩
  | .hbm, ⟨8, _⟩ => ⟨S1x128, .f32⟩
  | .hbm, ⟨9, _⟩ => ⟨S32768x1024, .f32⟩
  | .hbm, ⟨10, _⟩ => ⟨S16x2048x1024, .f32⟩
  | .hbm, ⟨11, _⟩ => ⟨S1024x1024, .f32⟩
  | .hbm, ⟨12, _⟩ => ⟨S16x2048x1024, .f32⟩
  | .hbm, ⟨13, _⟩ => ⟨S16x2048x1024, .f32⟩
  | .hbm, ⟨14, _⟩ => ⟨S16x1x1024, .f32⟩
  | .hbm, ⟨15, _⟩ => ⟨S16x2048x1024, .f32⟩
  | .hbm, ⟨16, _⟩ => ⟨S16x2048x1024, .f32⟩
  | .hbm, ⟨17, _⟩ => ⟨S16x2048x1024, .f32⟩
  | .hbm, ⟨18, _⟩ => ⟨S1024, .f32⟩
  | .hbm, ⟨19, _⟩ => ⟨S16x2048x1024, .f32⟩
  | .hbm, ⟨20, _⟩ => ⟨S_, .f32⟩
  | .hbm, ⟨21, _⟩ => ⟨S16x2048, .f32⟩
  | .hbm, ⟨22, _⟩ => ⟨S16x2048x1, .f32⟩
  | .hbm, ⟨23, _⟩ => ⟨S_, .f32⟩
  | .hbm, ⟨24, _⟩ => ⟨S16x2048x1, .f32⟩
  | .hbm, ⟨25, _⟩ => ⟨S16x2048x1, .f32⟩
  | .hbm, ⟨26, _⟩ => ⟨S_, .f32⟩
  | .hbm, ⟨27, _⟩ => ⟨S16x2048x1, .f32⟩
  | .hbm, ⟨28, _⟩ => ⟨S16x2048x1, .f32⟩
  | .hbm, ⟨29, _⟩ => ⟨S16x2048x1, .f32⟩
  | .hbm, ⟨30, _⟩ => ⟨S16x2048x1024, .f32⟩
  | .hbm, ⟨31, _⟩ => ⟨S16x2048x1024, .f32⟩
  | .hbm, ⟨32, _⟩ => ⟨S1x1x1024, .f32⟩
  | .hbm, ⟨33, _⟩ => ⟨S16x2048x1024, .f32⟩
  | .hbm, ⟨34, _⟩ => ⟨S16x2048x1024, .f32⟩
  | .hbm, ⟨35, _⟩ => ⟨S16x1x1024, .f32⟩
  | .hbm, ⟨36, _⟩ => ⟨S_, .f32⟩
  | .hbm, ⟨37, _⟩ => ⟨S16x1x1024, .f32⟩
  | .hbm, ⟨38, _⟩ => ⟨S16x1x1024, .f32⟩
  | .hbm, ⟨39, _⟩ => ⟨S16x2048x1024, .f32⟩
  | .hbm, ⟨40, _⟩ => ⟨S16x2048x1024, .f32⟩
  | .hbm, ⟨41, _⟩ => ⟨S16x1x1024, .f32⟩
  | .hbm, ⟨42, _⟩ => ⟨S16x2048x1024, .f32⟩
  | .hbm, ⟨43, _⟩ => ⟨S16x2048x1024, .f32⟩
  | .hbm, ⟨44, _⟩ => ⟨S32768x1024, .f32⟩
  | .hbm, ⟨45, _⟩ => ⟨S32768x1024, .f32⟩
  | .hbm, ⟨46, _⟩ => ⟨S262144x128, .f32⟩
  | _, _ => ⟨S32768x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst : Ref sig .tc := ⟨.hbm, 20, rfl⟩
abbrev main_v11 : Ref sig .tc := ⟨.hbm, 21, rfl⟩
abbrev main_v12 : Ref sig .tc := ⟨.hbm, 22, rfl⟩
abbrev main_cst_0 : Ref sig .tc := ⟨.hbm, 23, rfl⟩
abbrev main_v13 : Ref sig .tc := ⟨.hbm, 24, rfl⟩
abbrev main_v14 : Ref sig .tc := ⟨.hbm, 25, rfl⟩
abbrev main_cst_1 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_2 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩

abbrev nD : Nat := 1
abbrev τ : Topo := Topo.v7x

variable {F : FTy → Type} [FloatOps F]
-- ==== OutAB.lean ====
abbrev S32768x512 : Shape := ⟨2, ![32768, 512]⟩
abbrev S512x1024 : Shape := ⟨2, ![512, 1024]⟩
abbrev S32768x1024 : Shape := ⟨2, ![32768, 1024]⟩
abbrev S24x1x1024 : Shape := ⟨3, ![24, 1, 1024]⟩
abbrev S1x1024 : Shape := ⟨2, ![1, 1024]⟩
abbrev S1024x256 : Shape := ⟨2, ![1024, 256]⟩
abbrev S1x128 : Shape := ⟨2, ![1, 128]⟩
abbrev S262144x128 : Shape := ⟨2, ![262144, 128]⟩
abbrev S32768x8 : Shape := ⟨2, ![32768, 8]⟩
abbrev S512x512 : Shape := ⟨2, ![512, 512]⟩
abbrev S1x1x1024 : Shape := ⟨3, ![1, 1, 1024]⟩
abbrev S4096x128 : Shape := ⟨2, ![4096, 128]⟩
abbrev S512x8 : Shape := ⟨2, ![512, 8]⟩
abbrev S512 : Shape := ⟨1, ![512]⟩
abbrev S512x1 : Shape := ⟨2, ![512, 1]⟩
abbrev S512x128 : Shape := ⟨2, ![512, 128]⟩
abbrev S512x256 : Shape := ⟨2, ![512, 256]⟩
abbrev S1024x128 : Shape := ⟨2, ![1024, 128]⟩

abbrev nBuf : Space → Nat
  | .hbm => 15
  | .vmem => 25
  | .smem => 0
  | _ => 0

abbrev bufTy : (tb : Table) → Fin (tcTables nBuf tb) → BufTy
  | .hbm, ⟨0, _⟩ => ⟨S32768x512, .bf16⟩
  | .hbm, ⟨1, _⟩ => ⟨S32768x512, .bf16⟩
  | .hbm, ⟨2, _⟩ => ⟨S512x1024, .bf16⟩
  | .hbm, ⟨3, _⟩ => ⟨S512x1024, .bf16⟩
  | .hbm, ⟨4, _⟩ => ⟨S32768x1024, .f32⟩
  | .hbm, ⟨5, _⟩ => ⟨S24x1x1024, .f32⟩
  | .hbm, ⟨6, _⟩ => ⟨S1x1024, .f32⟩
  | .hbm, ⟨7, _⟩ => ⟨S24x1x1024, .f32⟩
  | .hbm, ⟨8, _⟩ => ⟨S24x1x1024, .f32⟩
  | .hbm, ⟨9, _⟩ => ⟨S1024x256, .bf16⟩
  | .hbm, ⟨10, _⟩ => ⟨S1x128, .f32⟩
  | .hbm, ⟨11, _⟩ => ⟨S32768x1024, .f32⟩
  | .hbm, ⟨12, _⟩ => ⟨S262144x128, .f32⟩
  | .hbm, ⟨13, _⟩ => ⟨S32768x8, .i32⟩
  | .hbm, ⟨14, _⟩ => ⟨S32768x8, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | .local _ .vmem, ⟨7, _⟩ => ⟨S512x1024, .f32⟩
  | .local _ .vmem, ⟨8, _⟩ => ⟨S1x1x1024, .f32⟩
  | .local _ .vmem, ⟨9, _⟩ => ⟨S1x1x1024, .f32⟩
  | .local _ .vmem, ⟨10, _⟩ => ⟨S1x1024, .f32⟩
  | .local _ .vmem, ⟨11, _⟩ => ⟨S1x1x1024, .f32⟩
  | .local _ .vmem, ⟨12, _⟩ => ⟨S1x1x1024, .f32⟩
  | .local _ .vmem, ⟨13, _⟩ => ⟨S1x1x1024, .f32⟩
  | .local _ .vmem, ⟨14, _⟩ => ⟨S1x1x1024, .f32⟩
  | .local _ .vmem, ⟨15, _⟩ => ⟨S1024x256, .bf16⟩
  | .local _ .vmem, ⟨16, _⟩ => ⟨S1x128, .f32⟩
  | .local _ .vmem, ⟨17, _⟩ => ⟨S512x1024, .f32⟩
  | .local _ .vmem, ⟨18, _⟩ => ⟨S512x1024, .f32⟩
  | .local _ .vmem, ⟨19, _⟩ => ⟨S4096x128, .f32⟩
  | .local _ .vmem, ⟨20, _⟩ => ⟨S4096x128, .f32⟩
  | .local _ .vmem, ⟨21, _⟩ => ⟨S512x8, .i32⟩
  | .local _ .vmem, ⟨22, _⟩ => ⟨S512x8, .i32⟩
  | .local _ .vmem, ⟨23, _⟩ => ⟨S512x8, .f32⟩
  | .local _ .vmem, ⟨24, _⟩ => ⟨S512x8, .f32⟩
  | _, _ => ⟨S32768x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0_0 : Ref sig .tc := ⟨.hbm, 11, rfl⟩
abbrev main_v0_1 : Ref sig .tc := ⟨.hbm, 12, rfl⟩
abbrev main_v0_2 : Ref sig .tc := ⟨.hbm, 13, rfl⟩
abbrev main_v0_3 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem10_0 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c512_i32 : BitVec 32 := 512#32
  let v0 : BitVec 32 := Scalar.muli arg0 c512_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c512_i32 : BitVec 32 := 512#32
  let v0 : BitVec 32 := Scalar.muli arg0 c512_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_8 (i : grid0.Coords) : Fin 3 → Nat :=
  let arg0 : BitVec 32 := BitVec.ofNat 32 (i 0).val
  let c512_i32 : BitVec 32 := 512#32
  let v0 : BitVec 32 := Scalar.muli arg0 c512_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x1x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1024x256 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S4096x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x8 .i32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x8 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== OutABReferenceIdeal.lean ====
abbrev S32768x512 : Shape := ⟨2, ![32768, 512]⟩
abbrev S512x1024 : Shape := ⟨2, ![512, 1024]⟩
abbrev S32768x1024 : Shape := ⟨2, ![32768, 1024]⟩
abbrev S24x1x1024 : Shape := ⟨3, ![24, 1, 1024]⟩
abbrev S1x1024 : Shape := ⟨2, ![1, 1024]⟩
abbrev S1024x256 : Shape := ⟨2, ![1024, 256]⟩
abbrev S1x128 : Shape := ⟨2, ![1, 128]⟩
abbrev S1024x1024 : Shape := ⟨2, ![1024, 1024]⟩
abbrev S16x2048x1024 : Shape := ⟨3, ![16, 2048, 1024]⟩
abbrev S16x1x1024 : Shape := ⟨3, ![16, 1, 1024]⟩
abbrev S1024 : Shape := ⟨1, ![1024]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S262144x128 : Shape := ⟨2, ![262144, 128]⟩

abbrev nBuf : Space → Nat
  | .hbm => 51
  | .vmem => 0
  | .smem => 0
  | _ => 0

abbrev bufTy : (tb : Table) → Fin (tcTables nBuf tb) → BufTy
  | .hbm, ⟨0, _⟩ => ⟨S32768x512, .bf16⟩
  | .hbm, ⟨1, _⟩ => ⟨S32768x512, .bf16⟩
  | .hbm, ⟨2, _⟩ => ⟨S512x1024, .bf16⟩
  | .hbm, ⟨3, _⟩ => ⟨S512x1024, .bf16⟩
  | .hbm, ⟨4, _⟩ => ⟨S32768x1024, .f32⟩
  | .hbm, ⟨5, _⟩ => ⟨S24x1x1024, .f32⟩
  | .hbm, ⟨6, _⟩ => ⟨S1x1024, .f32⟩
  | .hbm, ⟨7, _⟩ => ⟨S24x1x1024, .f32⟩
  | .hbm, ⟨8, _⟩ => ⟨S24x1x1024, .f32⟩
  | .hbm, ⟨9, _⟩ => ⟨S1024x256, .bf16⟩
  | .hbm, ⟨10, _⟩ => ⟨S1x128, .f32⟩
  | .hbm, ⟨11, _⟩ => ⟨S32768x1024, .bf16⟩
  | .hbm, ⟨12, _⟩ => ⟨S1024x1024, .bf16⟩
  | .hbm, ⟨13, _⟩ => ⟨S32768x1024, .f32⟩
  | .hbm, ⟨14, _⟩ => ⟨S16x2048x1024, .f32⟩
  | .hbm, ⟨15, _⟩ => ⟨S1024x1024, .f32⟩
  | .hbm, ⟨16, _⟩ => ⟨S16x2048x1024, .f32⟩
  | .hbm, ⟨17, _⟩ => ⟨S16x2048x1024, .f32⟩
  | .hbm, ⟨18, _⟩ => ⟨S16x1x1024, .f32⟩
  | .hbm, ⟨19, _⟩ => ⟨S16x2048x1024, .f32⟩
  | .hbm, ⟨20, _⟩ => ⟨S16x2048x1024, .f32⟩
  | .hbm, ⟨21, _⟩ => ⟨S16x2048x1024, .f32⟩
  | .hbm, ⟨22, _⟩ => ⟨S1024, .f32⟩
  | .hbm, ⟨23, _⟩ => ⟨S16x2048x1024, .f32⟩
  | .hbm, ⟨24, _⟩ => ⟨S_, .f32⟩
  | .hbm, ⟨25, _⟩ => ⟨S16x2048, .f32⟩
  | .hbm, ⟨26, _⟩ => ⟨S16x2048x1, .f32⟩
  | .hbm, ⟨27, _⟩ => ⟨S_, .f32⟩
  | .hbm, ⟨28, _⟩ => ⟨S16x2048x1, .f32⟩
  | .hbm, ⟨29, _⟩ => ⟨S16x2048x1, .f32⟩
  | .hbm, ⟨30, _⟩ => ⟨S_, .f32⟩
  | .hbm, ⟨31, _⟩ => ⟨S16x2048x1, .f32⟩
  | .hbm, ⟨32, _⟩ => ⟨S16x2048x1, .f32⟩
  | .hbm, ⟨33, _⟩ => ⟨S16x2048x1, .f32⟩
  | .hbm, ⟨34, _⟩ => ⟨S16x2048x1024, .f32⟩
  | .hbm, ⟨35, _⟩ => ⟨S16x2048x1024, .f32⟩
  | .hbm, ⟨36, _⟩ => ⟨S1x1x1024, .f32⟩
  | .hbm, ⟨37, _⟩ => ⟨S16x2048x1024, .f32⟩
  | .hbm, ⟨38, _⟩ => ⟨S16x2048x1024, .f32⟩
  | .hbm, ⟨39, _⟩ => ⟨S16x1x1024, .f32⟩
  | .hbm, ⟨40, _⟩ => ⟨S_, .f32⟩
  | .hbm, ⟨41, _⟩ => ⟨S16x1x1024, .f32⟩
  | .hbm, ⟨42, _⟩ => ⟨S16x1x1024, .f32⟩
  | .hbm, ⟨43, _⟩ => ⟨S16x2048x1024, .f32⟩
  | .hbm, ⟨44, _⟩ => ⟨S16x2048x1024, .f32⟩
  | .hbm, ⟨45, _⟩ => ⟨S16x1x1024, .f32⟩
  | .hbm, ⟨46, _⟩ => ⟨S16x2048x1024, .f32⟩
  | .hbm, ⟨47, _⟩ => ⟨S16x2048x1024, .f32⟩
  | .hbm, ⟨48, _⟩ => ⟨S32768x1024, .f32⟩
  | .hbm, ⟨49, _⟩ => ⟨S32768x1024, .f32⟩
  | .hbm, ⟨50, _⟩ => ⟨S262144x128, .f32⟩
  | _, _ => ⟨S32768x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst : Ref sig .tc := ⟨.hbm, 24, rfl⟩
abbrev main_v13 : Ref sig .tc := ⟨.hbm, 25, rfl⟩
abbrev main_v14 : Ref sig .tc := ⟨.hbm, 26, rfl⟩
abbrev main_cst_0 : Ref sig .tc := ⟨.hbm, 27, rfl⟩
abbrev main_v15 : Ref sig .tc := ⟨.hbm, 28, rfl⟩
abbrev main_v16 : Ref sig .tc := ⟨.hbm, 29, rfl⟩
abbrev main_cst_1 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_2 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩

abbrev nD : Nat := 1
abbrev τ : Topo := Topo.v7x

variable {F : FTy → Type} [FloatOps F]
-- ==== ContextC.lean ====
abbrev S4096x1024 : Shape := ⟨2, ![4096, 1024]⟩
abbrev S1x1024 : Shape := ⟨2, ![1, 1024]⟩
abbrev S24x1x1024 : Shape := ⟨3, ![24, 1, 1024]⟩
abbrev S1024x1536 : Shape := ⟨2, ![1024, 1536]⟩
abbrev S1x128 : Shape := ⟨2, ![1, 128]⟩
abbrev S4096x256 : Shape := ⟨2, ![4096, 256]⟩
abbrev S512x1024 : Shape := ⟨2, ![512, 1024]⟩
abbrev S1x1x1024 : Shape := ⟨3, ![1, 1, 1024]⟩
abbrev S512x256 : Shape := ⟨2, ![512, 256]⟩
abbrev S512 : Shape := ⟨1, ![512]⟩
abbrev S512x1 : Shape := ⟨2, ![512, 1]⟩
abbrev S512x1536 : Shape := ⟨2, ![512, 1536]⟩
abbrev S512x128 : Shape := ⟨2, ![512, 128]⟩

abbrev nBuf : Space → Nat
  | .hbm => 10
  | .vmem => 14
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S24x1x1024, .f32⟩
  | .hbm, ⟨3, _⟩ => ⟨S24x1x1024, .f32⟩
  | .hbm, ⟨4, _⟩ => ⟨S1024x1536, .bf16⟩
  | .hbm, ⟨5, _⟩ => ⟨S1x128, .f32⟩
  | .hbm, ⟨6, _⟩ => ⟨S1x128, .f32⟩
  | .hbm, ⟨7, _⟩ => ⟨S4096x1024, .bf16⟩
  | .hbm, ⟨8, _⟩ => ⟨S4096x256, .bf16⟩
  | .hbm, ⟨9, _⟩ => ⟨S4096x256, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1024x1536, .bf16⟩
  | .local _ .vmem, ⟨6, _⟩ => ⟨S1x128, .f32⟩
  | .local _ .vmem, ⟨7, _⟩ => ⟨S1x128, .f32⟩
  | .local _ .vmem, ⟨8, _⟩ => ⟨S512x1024, .bf16⟩
  | .local _ .vmem, ⟨9, _⟩ => ⟨S512x1024, .bf16⟩
  | .local _ .vmem, ⟨10, _⟩ => ⟨S512x256, .bf16⟩
  | .local _ .vmem, ⟨11, _⟩ => ⟨S512x256, .bf16⟩
  | .local _ .vmem, ⟨12, _⟩ => ⟨S512x256, .bf16⟩
  | .local _ .vmem, ⟨13, _⟩ => ⟨S512x256, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c16_i32 : BitVec 32 := 16#32
  let c0_i32 : BitVec 32 := 0#32
  let c0_i32_0 : BitVec 32 := 0#32
  let c0_i32_1 : BitVec 32 := 0#32
  ![c16_i32.toNat, c0_i32.toNat, c0_i32_0.toNat]

def cc0_transform_3 (i : grid0.Coords) : Fin 3 → Nat :=
  let arg0 : BitVec 32 := BitVec.ofNat 32 (i 0).val
  let c16_i32 : BitVec 32 := 16#32
  let c0_i32 : BitVec 32 := 0#32
  let c0_i32_0 : BitVec 32 := 0#32
  let c0_i32_1 : BitVec 32 := 0#32
  ![c16_i32.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1536 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== ContextCReferenceIdeal.lean ====
abbrev S4096x1024 : Shape := ⟨2, ![4096, 1024]⟩
abbrev S1x1024 : Shape := ⟨2, ![1, 1024]⟩
abbrev S24x1x1024 : Shape := ⟨3, ![24, 1, 1024]⟩
abbrev S1024x1536 : Shape := ⟨2, ![1024, 1536]⟩
abbrev S1x128 : Shape := ⟨2, ![1, 128]⟩
abbrev S16x256x1024 : Shape := ⟨3, ![16, 256, 1024]⟩
abbrev S1024 : Shape := ⟨1, ![1024]⟩
abbrev S_ : Shape := ⟨0, ![]⟩
abbrev S16x256 : Shape := ⟨2, ![16, 256]⟩
abbrev S16x256x1 : Shape := ⟨3, ![16, 256, 1]⟩
abbrev S1x1x1024 : Shape := ⟨3, ![1, 1, 1024]⟩
abbrev S16x256x1536 : Shape := ⟨3, ![16, 256, 1536]⟩
abbrev S16x256x256 : Shape := ⟨3, ![16, 256, 256]⟩
abbrev S16x256x2x4x128 : Shape := ⟨5, ![16, 256, 2, 4, 128]⟩
abbrev S128 : Shape := ⟨1, ![128]⟩
abbrev S16x256x2x4 : Shape := ⟨4, ![16, 256, 2, 4]⟩
abbrev S16x256x2x4x1 : Shape := ⟨5, ![16, 256, 2, 4, 1]⟩
abbrev S1x1x1x1x128 : Shape := ⟨5, ![1, 1, 1, 1, 128]⟩
abbrev S16x256x2x128 : Shape := ⟨4, ![16, 256, 2, 128]⟩
abbrev S16x256x2 : Shape := ⟨3, ![16, 256, 2]⟩
abbrev S16x256x2x1 : Shape := ⟨4, ![16, 256, 2, 1]⟩
abbrev S1x1x1x128 : Shape := ⟨4, ![1, 1, 1, 128]⟩
abbrev S4096x256 : Shape := ⟨2, ![4096, 256]⟩

abbrev nBuf : Space → Nat
  | .hbm => 88
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S24x1x1024, .f32⟩
  | .hbm, ⟨3, _⟩ => ⟨S24x1x1024, .f32⟩
  | .hbm, ⟨4, _⟩ => ⟨S1024x1536, .bf16⟩
  | .hbm, ⟨5, _⟩ => ⟨S1x128, .f32⟩
  | .hbm, ⟨6, _⟩ => ⟨S1x128, .f32⟩
  | .hbm, ⟨7, _⟩ => ⟨S16x256x1024, .f32⟩
  | .hbm, ⟨8, _⟩ => ⟨S1024, .f32⟩
  | .hbm, ⟨9, _⟩ => ⟨S16x256x1024, .f32⟩
  | .hbm, ⟨10, _⟩ => ⟨S_, .f32⟩
  | .hbm, ⟨11, _⟩ => ⟨S16x256, .f32⟩
  | .hbm, ⟨12, _⟩ => ⟨S16x256x1, .f32⟩
  | .hbm, ⟨13, _⟩ => ⟨S_, .f32⟩
  | .hbm, ⟨14, _⟩ => ⟨S16x256x1, .f32⟩
  | .hbm, ⟨15, _⟩ => ⟨S16x256x1, .f32⟩
  | .hbm, ⟨16, _⟩ => ⟨S_, .f32⟩
  | .hbm, ⟨17, _⟩ => ⟨S16x256x1, .f32⟩
  | .hbm, ⟨18, _⟩ => ⟨S16x256x1, .f32⟩
  | .hbm, ⟨19, _⟩ => ⟨S16x256x1, .f32⟩
  | .hbm, ⟨20, _⟩ => ⟨S16x256x1024, .f32⟩
  | .hbm, ⟨21, _⟩ => ⟨S16x256x1024, .f32⟩
  | .hbm, ⟨22, _⟩ => ⟨S1x1x1024, .f32⟩
  | .hbm, ⟨23, _⟩ => ⟨S16x256x1024, .f32⟩
  | .hbm, ⟨24, _⟩ => ⟨S16x256x1024, .f32⟩
  | .hbm, ⟨25, _⟩ => ⟨S1x1x1024, .f32⟩
  | .hbm, ⟨26, _⟩ => ⟨S1x1024, .f32⟩
  | .hbm, ⟨27, _⟩ => ⟨S_, .f32⟩
  | .hbm, ⟨28, _⟩ => ⟨S1x1024, .f32⟩
  | .hbm, ⟨29, _⟩ => ⟨S1x1024, .f32⟩
  | .hbm, ⟨30, _⟩ => ⟨S1x1x1024, .f32⟩
  | .hbm, ⟨31, _⟩ => ⟨S16x256x1024, .f32⟩
  | .hbm, ⟨32, _⟩ => ⟨S16x256x1024, .f32⟩
  | .hbm, ⟨33, _⟩ => ⟨S1x1x1024, .f32⟩
  | .hbm, ⟨34, _⟩ => ⟨S1x1024, .f32⟩
  | .hbm, ⟨35, _⟩ => ⟨S1x1x1024, .f32⟩
  | .hbm, ⟨36, _⟩ => ⟨S16x256x1024, .f32⟩
  | .hbm, ⟨37, _⟩ => ⟨S16x256x1024, .f32⟩
  | .hbm, ⟨38, _⟩ => ⟨S1024x1536, .f32⟩
  | .hbm, ⟨39, _⟩ => ⟨S16x256x1536, .f32⟩
  | .hbm, ⟨40, _⟩ => ⟨S16x256x1024, .f32⟩
  | .hbm, ⟨41, _⟩ => ⟨S16x256x256, .f32⟩
  | .hbm, ⟨42, _⟩ => ⟨S16x256x256, .f32⟩
  | .hbm, ⟨43, _⟩ => ⟨S16x256x2x4x128, .f32⟩
  | .hbm, ⟨44, _⟩ => ⟨S128, .f32⟩
  | .hbm, ⟨45, _⟩ => ⟨S16x256x2x4x128, .f32⟩
  | .hbm, ⟨46, _⟩ => ⟨S_, .f32⟩
  | .hbm, ⟨47, _⟩ => ⟨S16x256x2x4, .f32⟩
  | .hbm, ⟨48, _⟩ => ⟨S16x256x2x4x1, .f32⟩
  | .hbm, ⟨49, _⟩ => ⟨S_, .f32⟩
  | .hbm, ⟨50, _⟩ => ⟨S16x256x2x4x1, .f32⟩
  | .hbm, ⟨51, _⟩ => ⟨S16x256x2x4x1, .f32⟩
  | .hbm, ⟨52, _⟩ => ⟨S_, .f32⟩
  | .hbm, ⟨53, _⟩ => ⟨S16x256x2x4x1, .f32⟩
  | .hbm, ⟨54, _⟩ => ⟨S16x256x2x4x1, .f32⟩
  | .hbm, ⟨55, _⟩ => ⟨S16x256x2x4x1, .f32⟩
  | .hbm, ⟨56, _⟩ => ⟨S16x256x2x4x128, .f32⟩
  | .hbm, ⟨57, _⟩ => ⟨S16x256x2x4x128, .f32⟩
  | .hbm, ⟨58, _⟩ => ⟨S1x1x1x1x128, .f32⟩
  | .hbm, ⟨59, _⟩ => ⟨S16x256x2x4x128, .f32⟩
  | .hbm, ⟨60, _⟩ => ⟨S16x256x2x4x128, .f32⟩
  | .hbm, ⟨61, _⟩ => ⟨S16x256x2x128, .f32⟩
  | .hbm, ⟨62, _⟩ => ⟨S128, .f32⟩
  | .hbm, ⟨63, _⟩ => ⟨S16x256x2x128, .f32⟩
  | .hbm, ⟨64, _⟩ => ⟨S_, .f32⟩
  | .hbm, ⟨65, _⟩ => ⟨S16x256x2, .f32⟩
  | .hbm, ⟨66, _⟩ => ⟨S16x256x2x1, .f32⟩
  | .hbm, ⟨67, _⟩ => ⟨S_, .f32⟩
  | .hbm, ⟨68, _⟩ => ⟨S16x256x2x1, .f32⟩
  | .hbm, ⟨69, _⟩ => ⟨S16x256x2x1, .f32⟩
  | .hbm, ⟨70, _⟩ => ⟨S_, .f32⟩
  | .hbm, ⟨71, _⟩ => ⟨S16x256x2x1, .f32⟩
  | .hbm, ⟨72, _⟩ => ⟨S16x256x2x1, .f32⟩
  | .hbm, ⟨73, _⟩ => ⟨S16x256x2x1, .f32⟩
  | .hbm, ⟨74, _⟩ => ⟨S16x256x2x128, .f32⟩
  | .hbm, ⟨75, _⟩ => ⟨S16x256x2x128, .f32⟩
  | .hbm, ⟨76, _⟩ => ⟨S1x1x1x128, .f32⟩
  | .hbm, ⟨77, _⟩ => ⟨S16x256x2x128, .f32⟩
  | .hbm, ⟨78, _⟩ => ⟨S16x256x2x128, .f32⟩
  | .hbm, ⟨79, _⟩ => ⟨S_, .f32⟩
  | .hbm, ⟨80, _⟩ => ⟨S16x256x2x4x128, .f32⟩
  | .hbm, ⟨81, _⟩ => ⟨S16x256x2x4x128, .f32⟩
  | .hbm, ⟨82, _⟩ => ⟨S4096x1024, .f32⟩
  | .hbm, ⟨83, _⟩ => ⟨S4096x256, .f32⟩
  | .hbm, ⟨84, _⟩ => ⟨S4096x1024, .bf16⟩
  | .hbm, ⟨85, _⟩ => ⟨S4096x256, .bf16⟩
  | .hbm, ⟨86, _⟩ => ⟨S4096x256, .f32⟩
  | .hbm, ⟨87, _⟩ => ⟨S4096x256, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_2 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_cst_3 : Ref sig .tc := ⟨.hbm, 46, rfl⟩
abbrev main_v35 : Ref sig .tc := ⟨.hbm, 47, rfl⟩
abbrev main_v36 : Ref sig .tc := ⟨.hbm, 48, rfl⟩
abbrev main_cst_4 : Ref sig .tc := ⟨.hbm, 49, rfl⟩
abbrev main_v37 : Ref sig .tc := ⟨.hbm, 50, rfl⟩
abbrev main_v38 : Ref sig .tc := ⟨.hbm, 51, rfl⟩
abbrev main_cst_5 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_cst_6 : Ref sig .tc := ⟨.hbm, 64, rfl⟩
abbrev main_v50 : Ref sig .tc := ⟨.hbm, 65, rfl⟩
abbrev main_v51 : Ref sig .tc := ⟨.hbm, 66, rfl⟩
abbrev main_cst_7 : Ref sig .tc := ⟨.hbm, 67, rfl⟩
abbrev main_v52 : Ref sig .tc := ⟨.hbm, 68, rfl⟩
abbrev main_v53 : Ref sig .tc := ⟨.hbm, 69, rfl⟩
abbrev main_cst_8 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_cst_9 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩

abbrev nD : Nat := 1
abbrev τ : Topo := Topo.v7x

variable {F : FTy → Type} [FloatOps F]
-- ==== ContextAB.lean ====
abbrev S4096x1024 : Shape := ⟨2, ![4096, 1024]⟩
abbrev S1x1024 : Shape := ⟨2, ![1, 1024]⟩
abbrev S24x1x1024 : Shape := ⟨3, ![24, 1, 1024]⟩
abbrev S1024x2304 : Shape := ⟨2, ![1024, 2304]⟩
abbrev S1x384 : Shape := ⟨2, ![1, 384]⟩
abbrev S384x1024 : Shape := ⟨2, ![384, 1024]⟩
abbrev S1x256 : Shape := ⟨2, ![1, 256]⟩
abbrev S256x1024 : Shape := ⟨2, ![256, 1024]⟩
abbrev S4096x256 : Shape := ⟨2, ![4096, 256]⟩
abbrev S512x1024 : Shape := ⟨2, ![512, 1024]⟩
abbrev S1x1x1024 : Shape := ⟨3, ![1, 1, 1024]⟩
abbrev S512x256 : Shape := ⟨2, ![512, 256]⟩
abbrev S512 : Shape := ⟨1, ![512]⟩
abbrev S512x1 : Shape := ⟨2, ![512, 1]⟩
abbrev S512x2304 : Shape := ⟨2, ![512, 2304]⟩
abbrev S512x384 : Shape := ⟨2, ![512, 384]⟩
abbrev S512x128 : Shape := ⟨2, ![512, 128]⟩

abbrev nBuf : Space → Nat
  | .hbm => 16
  | .vmem => 23
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S24x1x1024, .f32⟩
  | .hbm, ⟨3, _⟩ => ⟨S24x1x1024, .f32⟩
  | .hbm, ⟨4, _⟩ => ⟨S1024x2304, .bf16⟩
  | .hbm, ⟨5, _⟩ => ⟨S1x384, .f32⟩
  | .hbm, ⟨6, _⟩ => ⟨S384x1024, .bf16⟩
  | .hbm, ⟨7, _⟩ => ⟨S1x256, .f32⟩
  | .hbm, ⟨8, _⟩ => ⟨S256x1024, .bf16⟩
  | .hbm, ⟨9, _⟩ => ⟨S256x1024, .bf16⟩
  | .hbm, ⟨10, _⟩ => ⟨S4096x1024, .bf16⟩
  | .hbm, ⟨11, _⟩ => ⟨S4096x256, .bf16⟩
  | .hbm, ⟨12, _⟩ => ⟨S4096x256, .bf16⟩
  | .hbm, ⟨13, _⟩ => ⟨S4096x1024, .bf16⟩
  | .hbm, ⟨14, _⟩ => ⟨S4096x1024, .bf16⟩
  | .hbm, ⟨15, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1024x2304, .bf16⟩
  | .local _ .vmem, ⟨6, _⟩ => ⟨S1x384, .f32⟩
  | .local _ .vmem, ⟨7, _⟩ => ⟨S384x1024, .bf16⟩
  | .local _ .vmem, ⟨8, _⟩ => ⟨S1x256, .f32⟩
  | .local _ .vmem, ⟨9, _⟩ => ⟨S256x1024, .bf16⟩
  | .local _ .vmem, ⟨10, _⟩ => ⟨S256x1024, .bf16⟩
  | .local _ .vmem, ⟨11, _⟩ => ⟨S512x1024, .bf16⟩
  | .local _ .vmem, ⟨12, _⟩ => ⟨S512x1024, .bf16⟩
  | .local _ .vmem, ⟨13, _⟩ => ⟨S512x256, .bf16⟩
  | .local _ .vmem, ⟨14, _⟩ => ⟨S512x256, .bf16⟩
  | .local _ .vmem, ⟨15, _⟩ => ⟨S512x256, .bf16⟩
  | .local _ .vmem, ⟨16, _⟩ => ⟨S512x256, .bf16⟩
  | .local _ .vmem, ⟨17, _⟩ => ⟨S512x1024, .bf16⟩
  | .local _ .vmem, ⟨18, _⟩ => ⟨S512x1024, .bf16⟩
  | .local _ .vmem, ⟨19, _⟩ => ⟨S512x1024, .bf16⟩
  | .local _ .vmem, ⟨20, _⟩ => ⟨S512x1024, .bf16⟩
  | .local _ .vmem, ⟨21, _⟩ => ⟨S512x1024, .bf16⟩
  | .local _ .vmem, ⟨22, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0_0 : Ref sig .tc := ⟨.hbm, 10, rfl⟩
abbrev main_v0_1 : Ref sig .tc := ⟨.hbm, 11, rfl⟩
abbrev main_v0_2 : Ref sig .tc := ⟨.hbm, 12, rfl⟩
abbrev main_v0_3 : Ref sig .tc := ⟨.hbm, 13, rfl⟩
abbrev main_v0_4 : Ref sig .tc := ⟨.hbm, 14, rfl⟩
abbrev main_v0_5 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg10_1 : Ref sig .tc := ⟨.vmem, 12, rfl⟩
abbrev cc0_stg11_0 : Ref sig .tc := ⟨.vmem, 13, rfl⟩
abbrev cc0_stg11_1 : Ref sig .tc := ⟨.vmem, 14, rfl⟩
abbrev cc0_stg12_0 : Ref sig .tc := ⟨.vmem, 15, rfl⟩
abbrev cc0_stg12_1 : Ref sig .tc := ⟨.vmem, 16, rfl⟩
abbrev cc0_stg13_0 : Ref sig .tc := ⟨.vmem, 17, rfl⟩
abbrev cc0_stg13_1 : Ref sig .tc := ⟨.vmem, 18, rfl⟩
abbrev cc0_stg14_0 : Ref sig .tc := ⟨.vmem, 19, rfl⟩
abbrev cc0_stg14_1 : Ref sig .tc := ⟨.vmem, 20, rfl⟩
abbrev cc0_stg15_0 : Ref sig .tc := ⟨.vmem, 21, rfl⟩
abbrev cc0_stg15_1 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem10_1 : DmaSem sig := 12
abbrev cc0_sem11_0 : DmaSem sig := 13
abbrev cc0_sem11_1 : DmaSem sig := 14
abbrev cc0_sem12_0 : DmaSem sig := 15
abbrev cc0_sem12_1 : DmaSem sig := 16
abbrev cc0_sem13_0 : DmaSem sig := 17
abbrev cc0_sem13_1 : DmaSem sig := 18
abbrev cc0_sem14_0 : DmaSem sig := 19
abbrev cc0_sem14_1 : DmaSem sig := 20
abbrev cc0_sem15_0 : DmaSem sig := 21
abbrev cc0_sem15_1 : DmaSem sig := 22

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c16_i32 : BitVec 32 := 16#32
  let c0_i32 : BitVec 32 := 0#32
  let c0_i32_0 : BitVec 32 := 0#32
  let c0_i32_1 : BitVec 32 := 0#32
  ![c16_i32.toNat, c0_i32.toNat, c0_i32_0.toNat]

def cc0_transform_3 (i : grid0.Coords) : Fin 3 → Nat :=
  let arg0 : BitVec 32 := BitVec.ofNat 32 (i 0).val
  let c16_i32 : BitVec 32 := 16#32
  let c0_i32 : BitVec 32 := 0#32
  let c0_i32_0 : BitVec 32 := 0#32
  let c0_i32_1 : BitVec 32 := 0#32
  ![c16_i32.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2304 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S384x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== ContextABReferenceIdeal.lean ====
abbrev S4096x1024 : Shape := ⟨2, ![4096, 1024]⟩
abbrev S1x1024 : Shape := ⟨2, ![1, 1024]⟩
abbrev S24x1x1024 : Shape := ⟨3, ![24, 1, 1024]⟩
abbrev S1024x2304 : Shape := ⟨2, ![1024, 2304]⟩
abbrev S1x384 : Shape := ⟨2, ![1, 384]⟩
abbrev S384x1024 : Shape := ⟨2, ![384, 1024]⟩
abbrev S1x256 : Shape := ⟨2, ![1, 256]⟩
abbrev S256x1024 : Shape := ⟨2, ![256, 1024]⟩
abbrev S16x256x1024 : Shape := ⟨3, ![16, 256, 1024]⟩
abbrev S1024 : Shape := ⟨1, ![1024]⟩
abbrev S_ : Shape := ⟨0, ![]⟩
abbrev S16x256 : Shape := ⟨2, ![16, 256]⟩
abbrev S16x256x1 : Shape := ⟨3, ![16, 256, 1]⟩
abbrev S1x1x1024 : Shape := ⟨3, ![1, 1, 1024]⟩
abbrev S16x256x2304 : Shape := ⟨3, ![16, 256, 2304]⟩
abbrev S16x256x256 : Shape := ⟨3, ![16, 256, 256]⟩
abbrev S16x256x384 : Shape := ⟨3, ![16, 256, 384]⟩
abbrev S16x256x128 : Shape := ⟨3, ![16, 256, 128]⟩
abbrev S384 : Shape := ⟨1, ![384]⟩
abbrev S1x1x384 : Shape := ⟨3, ![1, 1, 384]⟩
abbrev S256 : Shape := ⟨1, ![256]⟩
abbrev S1x1x256 : Shape := ⟨3, ![1, 1, 256]⟩
abbrev S16x256x8x128 : Shape := ⟨4, ![16, 256, 8, 128]⟩
abbrev S16x256x1x128 : Shape := ⟨4, ![16, 256, 1, 128]⟩
abbrev S4096x256 : Shape := ⟨2, ![4096, 256]⟩

abbrev nBuf : Space → Nat
  | .hbm => 111
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S24x1x1024, .f32⟩
  | .hbm, ⟨3, _⟩ => ⟨S24x1x1024, .f32⟩
  | .hbm, ⟨4, _⟩ => ⟨S1024x2304, .bf16⟩
  | .hbm, ⟨5, _⟩ => ⟨S1x384, .f32⟩
  | .hbm, ⟨6, _⟩ => ⟨S384x1024, .bf16⟩
  | .hbm, ⟨7, _⟩ => ⟨S1x256, .f32⟩
  | .hbm, ⟨8, _⟩ => ⟨S256x1024, .bf16⟩
  | .hbm, ⟨9, _⟩ => ⟨S256x1024, .bf16⟩
  | .hbm, ⟨10, _⟩ => ⟨S16x256x1024, .f32⟩
  | .hbm, ⟨11, _⟩ => ⟨S1024, .f32⟩
  | .hbm, ⟨12, _⟩ => ⟨S16x256x1024, .f32⟩
  | .hbm, ⟨13, _⟩ => ⟨S_, .f32⟩
  | .hbm, ⟨14, _⟩ => ⟨S16x256, .f32⟩
  | .hbm, ⟨15, _⟩ => ⟨S16x256x1, .f32⟩
  | .hbm, ⟨16, _⟩ => ⟨S_, .f32⟩
  | .hbm, ⟨17, _⟩ => ⟨S16x256x1, .f32⟩
  | .hbm, ⟨18, _⟩ => ⟨S16x256x1, .f32⟩
  | .hbm, ⟨19, _⟩ => ⟨S_, .f32⟩
  | .hbm, ⟨20, _⟩ => ⟨S16x256x1, .f32⟩
  | .hbm, ⟨21, _⟩ => ⟨S16x256x1, .f32⟩
  | .hbm, ⟨22, _⟩ => ⟨S16x256x1, .f32⟩
  | .hbm, ⟨23, _⟩ => ⟨S16x256x1024, .f32⟩
  | .hbm, ⟨24, _⟩ => ⟨S16x256x1024, .f32⟩
  | .hbm, ⟨25, _⟩ => ⟨S1x1x1024, .f32⟩
  | .hbm, ⟨26, _⟩ => ⟨S16x256x1024, .f32⟩
  | .hbm, ⟨27, _⟩ => ⟨S16x256x1024, .f32⟩
  | .hbm, ⟨28, _⟩ => ⟨S1x1x1024, .f32⟩
  | .hbm, ⟨29, _⟩ => ⟨S1x1024, .f32⟩
  | .hbm, ⟨30, _⟩ => ⟨S_, .f32⟩
  | .hbm, ⟨31, _⟩ => ⟨S1x1024, .f32⟩
  | .hbm, ⟨32, _⟩ => ⟨S1x1024, .f32⟩
  | .hbm, ⟨33, _⟩ => ⟨S1x1x1024, .f32⟩
  | .hbm, ⟨34, _⟩ => ⟨S16x256x1024, .f32⟩
  | .hbm, ⟨35, _⟩ => ⟨S16x256x1024, .f32⟩
  | .hbm, ⟨36, _⟩ => ⟨S1x1x1024, .f32⟩
  | .hbm, ⟨37, _⟩ => ⟨S1x1024, .f32⟩
  | .hbm, ⟨38, _⟩ => ⟨S1x1x1024, .f32⟩
  | .hbm, ⟨39, _⟩ => ⟨S16x256x1024, .f32⟩
  | .hbm, ⟨40, _⟩ => ⟨S16x256x1024, .f32⟩
  | .hbm, ⟨41, _⟩ => ⟨S1024x2304, .f32⟩
  | .hbm, ⟨42, _⟩ => ⟨S16x256x2304, .f32⟩
  | .hbm, ⟨43, _⟩ => ⟨S16x256x1024, .f32⟩
  | .hbm, ⟨44, _⟩ => ⟨S16x256x256, .f32⟩
  | .hbm, ⟨45, _⟩ => ⟨S16x256x256, .f32⟩
  | .hbm, ⟨46, _⟩ => ⟨S16x256x384, .f32⟩
  | .hbm, ⟨47, _⟩ => ⟨S16x256x256, .f32⟩
  | .hbm, ⟨48, _⟩ => ⟨S16x256x128, .f32⟩
  | .hbm, ⟨49, _⟩ => ⟨S_, .f32⟩
  | .hbm, ⟨50, _⟩ => ⟨S16x256x1024, .f32⟩
  | .hbm, ⟨51, _⟩ => ⟨S16x256x1024, .f32⟩
  | .hbm, ⟨52, _⟩ => ⟨S384, .f32⟩
  | .hbm, ⟨53, _⟩ => ⟨S16x256x384, .f32⟩
  | .hbm, ⟨54, _⟩ => ⟨S_, .f32⟩
  | .hbm, ⟨55, _⟩ => ⟨S16x256, .f32⟩
  | .hbm, ⟨56, _⟩ => ⟨S16x256x1, .f32⟩
  | .hbm, ⟨57, _⟩ => ⟨S_, .f32⟩
  | .hbm, ⟨58, _⟩ => ⟨S16x256x1, .f32⟩
  | .hbm, ⟨59, _⟩ => ⟨S16x256x1, .f32⟩
  | .hbm, ⟨60, _⟩ => ⟨S_, .f32⟩
  | .hbm, ⟨61, _⟩ => ⟨S16x256x1, .f32⟩
  | .hbm, ⟨62, _⟩ => ⟨S16x256x1, .f32⟩
  | .hbm, ⟨63, _⟩ => ⟨S16x256x1, .f32⟩
  | .hbm, ⟨64, _⟩ => ⟨S16x256x384, .f32⟩
  | .hbm, ⟨65, _⟩ => ⟨S16x256x384, .f32⟩
  | .hbm, ⟨66, _⟩ => ⟨S1x1x384, .f32⟩
  | .hbm, ⟨67, _⟩ => ⟨S16x256x384, .f32⟩
  | .hbm, ⟨68, _⟩ => ⟨S16x256x384, .f32⟩
  | .hbm, ⟨69, _⟩ => ⟨S384x1024, .f32⟩
  | .hbm, ⟨70, _⟩ => ⟨S16x256x1024, .f32⟩
  | .hbm, ⟨71, _⟩ => ⟨S_, .f32⟩
  | .hbm, ⟨72, _⟩ => ⟨S16x256x1024, .f32⟩
  | .hbm, ⟨73, _⟩ => ⟨S16x256x1024, .f32⟩
  | .hbm, ⟨74, _⟩ => ⟨S256, .f32⟩
  | .hbm, ⟨75, _⟩ => ⟨S16x256x256, .f32⟩
  | .hbm, ⟨76, _⟩ => ⟨S_, .f32⟩
  | .hbm, ⟨77, _⟩ => ⟨S16x256, .f32⟩
  | .hbm, ⟨78, _⟩ => ⟨S16x256x1, .f32⟩
  | .hbm, ⟨79, _⟩ => ⟨S_, .f32⟩
  | .hbm, ⟨80, _⟩ => ⟨S16x256x1, .f32⟩
  | .hbm, ⟨81, _⟩ => ⟨S16x256x1, .f32⟩
  | .hbm, ⟨82, _⟩ => ⟨S_, .f32⟩
  | .hbm, ⟨83, _⟩ => ⟨S16x256x1, .f32⟩
  | .hbm, ⟨84, _⟩ => ⟨S16x256x1, .f32⟩
  | .hbm, ⟨85, _⟩ => ⟨S16x256x1, .f32⟩
  | .hbm, ⟨86, _⟩ => ⟨S16x256x256, .f32⟩
  | .hbm, ⟨87, _⟩ => ⟨S16x256x256, .f32⟩
  | .hbm, ⟨88, _⟩ => ⟨S1x1x256, .f32⟩
  | .hbm, ⟨89, _⟩ => ⟨S16x256x256, .f32⟩
  | .hbm, ⟨90, _⟩ => ⟨S16x256x256, .f32⟩
  | .hbm, ⟨91, _⟩ => ⟨S256x1024, .f32⟩
  | .hbm, ⟨92, _⟩ => ⟨S16x256x1024, .f32⟩
  | .hbm, ⟨93, _⟩ => ⟨S16x256x8x128, .f32⟩
  | .hbm, ⟨94, _⟩ => ⟨S16x256x1x128, .f32⟩
  | .hbm, ⟨95, _⟩ => ⟨S16x256x8x128, .f32⟩
  | .hbm, ⟨96, _⟩ => ⟨S16x256x8x128, .f32⟩
  | .hbm, ⟨97, _⟩ => ⟨S256x1024, .f32⟩
  | .hbm, ⟨98, _⟩ => ⟨S16x256x1024, .f32⟩
  | .hbm, ⟨99, _⟩ => ⟨S4096x1024, .f32⟩
  | .hbm, ⟨100, _⟩ => ⟨S4096x1024, .bf16⟩
  | .hbm, ⟨101, _⟩ => ⟨S4096x256, .f32⟩
  | .hbm, ⟨102, _⟩ => ⟨S4096x256, .bf16⟩
  | .hbm, ⟨103, _⟩ => ⟨S4096x256, .f32⟩
  | .hbm, ⟨104, _⟩ => ⟨S4096x256, .bf16⟩
  | .hbm, ⟨105, _⟩ => ⟨S4096x1024, .f32⟩
  | .hbm, ⟨106, _⟩ => ⟨S4096x1024, .bf16⟩
  | .hbm, ⟨107, _⟩ => ⟨S4096x1024, .f32⟩
  | .hbm, ⟨108, _⟩ => ⟨S4096x1024, .bf16⟩
  | .hbm, ⟨109, _⟩ => ⟨S4096x1024, .f32⟩
  | .hbm, ⟨110, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_cst : Ref sig .tc := ⟨.hbm, 13, rfl⟩
abbrev main_v3 : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_cst_1 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_2 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_3 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_cst_4 : Ref sig .tc := ⟨.hbm, 54, rfl⟩
abbrev main_v39 : Ref sig .tc := ⟨.hbm, 55, rfl⟩
abbrev main_v40 : Ref sig .tc := ⟨.hbm, 56, rfl⟩
abbrev main_cst_5 : Ref sig .tc := ⟨.hbm, 57, rfl⟩
abbrev main_v41 : Ref sig .tc := ⟨.hbm, 58, rfl⟩
abbrev main_v42 : Ref sig .tc := ⟨.hbm, 59, rfl⟩
abbrev main_cst_6 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_cst_7 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_cst_8 : Ref sig .tc := ⟨.hbm, 76, rfl⟩
abbrev main_v57 : Ref sig .tc := ⟨.hbm, 77, rfl⟩
abbrev main_v58 : Ref sig .tc := ⟨.hbm, 78, rfl⟩
abbrev main_cst_9 : Ref sig .tc := ⟨.hbm, 79, rfl⟩
abbrev main_v59 : Ref sig .tc := ⟨.hbm, 80, rfl⟩
abbrev main_v60 : Ref sig .tc := ⟨.hbm, 81, rfl⟩
abbrev main_cst_10 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩

abbrev nD : Nat := 1
abbrev τ : Topo := Topo.v7x

variable {F : FTy → Type} [FloatOps F]
-- ==== Modulation.lean ====
abbrev S24x1024 : Shape := ⟨2, ![24, 1024]⟩
abbrev S2x1024x6144 : Shape := ⟨3, ![2, 1024, 6144]⟩
abbrev S2x6144 : Shape := ⟨2, ![2, 6144]⟩
abbrev S2x1x6144 : Shape := ⟨3, ![2, 1, 6144]⟩
abbrev S2x24x6144 : Shape := ⟨3, ![2, 24, 6144]⟩
abbrev S1x1024x1536 : Shape := ⟨3, ![1, 1024, 1536]⟩
abbrev S1x1x1536 : Shape := ⟨3, ![1, 1, 1536]⟩
abbrev S1x24x1536 : Shape := ⟨3, ![1, 24, 1536]⟩
abbrev S1024x1536 : Shape := ⟨2, ![1024, 1536]⟩
abbrev S24x1536 : Shape := ⟨2, ![24, 1536]⟩
abbrev S1x1536 : Shape := ⟨2, ![1, 1536]⟩

abbrev nBuf : Space → Nat
  | .hbm => 5
  | .vmem => 7
  | .smem => 0
  | _ => 0

abbrev bufTy : (tb : Table) → Fin (tcTables nBuf tb) → BufTy
  | .hbm, ⟨0, _⟩ => ⟨S24x1024, .f32⟩
  | .hbm, ⟨1, _⟩ => ⟨S2x1024x6144, .f32⟩
  | .hbm, ⟨2, _⟩ => ⟨S2x6144, .f32⟩
  | .hbm, ⟨3, _⟩ => ⟨S2x1x6144, .f32⟩
  | .hbm, ⟨4, _⟩ => ⟨S2x24x6144, .f32⟩
  | .local _ .vmem, ⟨0, _⟩ => ⟨S24x1024, .f32⟩
  | .local _ .vmem, ⟨1, _⟩ => ⟨S1x1024x1536, .f32⟩
  | .local _ .vmem, ⟨2, _⟩ => ⟨S1x1024x1536, .f32⟩
  | .local _ .vmem, ⟨3, _⟩ => ⟨S1x1x1536, .f32⟩
  | .local _ .vmem, ⟨4, _⟩ => ⟨S1x1x1536, .f32⟩
  | .local _ .vmem, ⟨5, _⟩ => ⟨S1x24x1536, .f32⟩
  | .local _ .vmem, ⟨6, _⟩ => ⟨S1x24x1536, .f32⟩
  | _, _ => ⟨S24x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S24x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x24x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ModulationReferenceIdeal.lean ====
abbrev S24x1024 : Shape := ⟨2, ![24, 1024]⟩
abbrev S2x1024x6144 : Shape := ⟨3, ![2, 1024, 6144]⟩
abbrev S2x6144 : Shape := ⟨2, ![2, 6144]⟩
abbrev S_ : Shape := ⟨0, ![]⟩
abbrev S1x1024x6144 : Shape := ⟨3, ![1, 1024, 6144]⟩
abbrev S1024x6144 : Shape := ⟨2, ![1024, 6144]⟩
abbrev S24x6144 : Shape := ⟨2, ![24, 6144]⟩
abbrev S1x6144 : Shape := ⟨2, ![1, 6144]⟩
abbrev S6144 : Shape := ⟨1, ![6144]⟩
abbrev S1x24x6144 : Shape := ⟨3, ![1, 24, 6144]⟩
abbrev S2x24x6144 : Shape := ⟨3, ![2, 24, 6144]⟩

abbrev nBuf : Space → Nat
  | .hbm => 31
  | .vmem => 0
  | .smem => 0
  | _ => 0

abbrev bufTy : (tb : Table) → Fin (tcTables nBuf tb) → BufTy
  | .hbm, ⟨0, _⟩ => ⟨S24x1024, .f32⟩
  | .hbm, ⟨1, _⟩ => ⟨S2x1024x6144, .f32⟩
  | .hbm, ⟨2, _⟩ => ⟨S2x6144, .f32⟩
  | .hbm, ⟨3, _⟩ => ⟨S24x1024, .f32⟩
  | .hbm, ⟨4, _⟩ => ⟨S24x1024, .f32⟩
  | .hbm, ⟨5, _⟩ => ⟨S_, .f32⟩
  | .hbm, ⟨6, _⟩ => ⟨S24x1024, .f32⟩
  | .hbm, ⟨7, _⟩ => ⟨S24x1024, .f32⟩
  | .hbm, ⟨8, _⟩ => ⟨S_, .f32⟩
  | .hbm, ⟨9, _⟩ => ⟨S24x1024, .f32⟩
  | .hbm, ⟨10, _⟩ => ⟨S24x1024, .f32⟩
  | .hbm, ⟨11, _⟩ => ⟨S24x1024, .f32⟩
  | .hbm, ⟨12, _⟩ => ⟨S1x1024x6144, .f32⟩
  | .hbm, ⟨13, _⟩ => ⟨S1024x6144, .f32⟩
  | .hbm, ⟨14, _⟩ => ⟨S24x6144, .f32⟩
  | .hbm, ⟨15, _⟩ => ⟨S1x6144, .f32⟩
  | .hbm, ⟨16, _⟩ => ⟨S6144, .f32⟩
  | .hbm, ⟨17, _⟩ => ⟨S1x6144, .f32⟩
  | .hbm, ⟨18, _⟩ => ⟨S24x6144, .f32⟩
  | .hbm, ⟨19, _⟩ => ⟨S24x6144, .f32⟩
  | .hbm, ⟨20, _⟩ => ⟨S1x1024x6144, .f32⟩
  | .hbm, ⟨21, _⟩ => ⟨S1024x6144, .f32⟩
  | .hbm, ⟨22, _⟩ => ⟨S24x6144, .f32⟩
  | .hbm, ⟨23, _⟩ => ⟨S1x6144, .f32⟩
  | .hbm, ⟨24, _⟩ => ⟨S6144, .f32⟩
  | .hbm, ⟨25, _⟩ => ⟨S1x6144, .f32⟩
  | .hbm, ⟨26, _⟩ => ⟨S24x6144, .f32⟩
  | .hbm, ⟨27, _⟩ => ⟨S24x6144, .f32⟩
  | .hbm, ⟨28, _⟩ => ⟨S1x24x6144, .f32⟩
  | .hbm, ⟨29, _⟩ => ⟨S1x24x6144, .f32⟩
  | .hbm, ⟨30, _⟩ => ⟨S2x24x6144, .f32⟩
  | _, _ => ⟨S24x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩

abbrev nD : Nat := 1
abbrev τ : Topo := Topo.v7x

variable {F : FTy → Type} [FloatOps F]
-- ==== ContextLatent.lean ====
abbrev S4096x1024 : Shape := ⟨2, ![4096, 1024]⟩
abbrev S4096x512 : Shape := ⟨2, ![4096, 512]⟩
abbrev S256x512 : Shape := ⟨2, ![256, 512]⟩
abbrev S256x256 : Shape := ⟨2, ![256, 256]⟩
abbrev S256x128 : Shape := ⟨2, ![256, 128]⟩
abbrev S256 : Shape := ⟨1, ![256]⟩
abbrev S256x1 : Shape := ⟨2, ![256, 1]⟩

abbrev nBuf : Space → Nat
  | .hbm => 4
  | .vmem => 8
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x1024, .bf16⟩
  | .hbm, ⟨3, _⟩ => ⟨S4096x512, .bf16⟩
  | .local _ .vmem, ⟨0, _⟩ => ⟨S256x512, .bf16⟩
  | .local _ .vmem, ⟨1, _⟩ => ⟨S256x512, .bf16⟩
  | .local _ .vmem, ⟨2, _⟩ => ⟨S256x512, .bf16⟩
  | .local _ .vmem, ⟨3, _⟩ => ⟨S256x512, .bf16⟩
  | .local _ .vmem, ⟨4, _⟩ => ⟨S256x512, .bf16⟩
  | .local _ .vmem, ⟨5, _⟩ => ⟨S256x512, .bf16⟩
  | .local _ .vmem, ⟨6, _⟩ => ⟨S256x256, .bf16⟩
  | .local _ .vmem, ⟨7, _⟩ => ⟨S256x256, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![16, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg2
  let c0_i32 : BitVec 32 := 0#32
  ![v1.toNat, arg1.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== ContextLatentReferenceIdeal.lean ====
abbrev S4096x1024 : Shape := ⟨2, ![4096, 1024]⟩
abbrev S16x256x8x1x128 : Shape := ⟨5, ![16, 256, 8, 1, 128]⟩
abbrev S16x8x1x256x128 : Shape := ⟨5, ![16, 8, 1, 256, 128]⟩
abbrev S_ : Shape := ⟨0, ![]⟩
abbrev S16x256x8x128 : Shape := ⟨4, ![16, 256, 8, 128]⟩
abbrev S16x8x256x128 : Shape := ⟨4, ![16, 8, 256, 128]⟩
abbrev S16x8x256x64 : Shape := ⟨4, ![16, 8, 256, 64]⟩
abbrev S16x8x1x256x256 : Shape := ⟨5, ![16, 8, 1, 256, 256]⟩
abbrev S16x8x1x256 : Shape := ⟨4, ![16, 8, 1, 256]⟩
abbrev S16x8x1x256x1 : Shape := ⟨5, ![16, 8, 1, 256, 1]⟩
abbrev S16x8x1x256x64 : Shape := ⟨5, ![16, 8, 1, 256, 64]⟩
abbrev S16x256x8x1x64 : Shape := ⟨5, ![16, 256, 8, 1, 64]⟩
abbrev S4096x512 : Shape := ⟨2, ![4096, 512]⟩

abbrev nBuf : Space → Nat
  | .hbm => 36
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x1024, .bf16⟩
  | .hbm, ⟨3, _⟩ => ⟨S16x256x8x1x128, .bf16⟩
  | .hbm, ⟨4, _⟩ => ⟨S16x8x1x256x128, .bf16⟩
  | .hbm, ⟨5, _⟩ => ⟨S16x8x1x256x128, .f32⟩
  | .hbm, ⟨6, _⟩ => ⟨S_, .f32⟩
  | .hbm, ⟨7, _⟩ => ⟨S_, .f32⟩
  | .hbm, ⟨8, _⟩ => ⟨S16x8x1x256x128, .f32⟩
  | .hbm, ⟨9, _⟩ => ⟨S16x8x1x256x128, .f32⟩
  | .hbm, ⟨10, _⟩ => ⟨S16x256x8x128, .bf16⟩
  | .hbm, ⟨11, _⟩ => ⟨S16x8x256x128, .bf16⟩
  | .hbm, ⟨12, _⟩ => ⟨S16x8x256x128, .f32⟩
  | .hbm, ⟨13, _⟩ => ⟨S16x256x8x128, .bf16⟩
  | .hbm, ⟨14, _⟩ => ⟨S16x8x256x128, .bf16⟩
  | .hbm, ⟨15, _⟩ => ⟨S16x8x256x128, .f32⟩
  | .hbm, ⟨16, _⟩ => ⟨S16x8x256x64, .f32⟩
  | .hbm, ⟨17, _⟩ => ⟨S16x8x1x256x256, .f32⟩
  | .hbm, ⟨18, _⟩ => ⟨S_, .f32⟩
  | .hbm, ⟨19, _⟩ => ⟨S16x8x1x256, .f32⟩
  | .hbm, ⟨20, _⟩ => ⟨S_, .f32⟩
  | .hbm, ⟨21, _⟩ => ⟨S16x8x1x256, .f32⟩
  | .hbm, ⟨22, _⟩ => ⟨S16x8x1x256, .f32⟩
  | .hbm, ⟨23, _⟩ => ⟨S16x8x1x256x1, .f32⟩
  | .hbm, ⟨24, _⟩ => ⟨S16x8x1x256x256, .f32⟩
  | .hbm, ⟨25, _⟩ => ⟨S16x8x1x256x256, .f32⟩
  | .hbm, ⟨26, _⟩ => ⟨S16x8x1x256x256, .f32⟩
  | .hbm, ⟨27, _⟩ => ⟨S_, .f32⟩
  | .hbm, ⟨28, _⟩ => ⟨S16x8x1x256, .f32⟩
  | .hbm, ⟨29, _⟩ => ⟨S16x8x1x256x1, .f32⟩
  | .hbm, ⟨30, _⟩ => ⟨S16x8x1x256x256, .f32⟩
  | .hbm, ⟨31, _⟩ => ⟨S16x8x1x256x256, .f32⟩
  | .hbm, ⟨32, _⟩ => ⟨S16x8x1x256x64, .f32⟩
  | .hbm, ⟨33, _⟩ => ⟨S16x256x8x1x64, .f32⟩
  | .hbm, ⟨34, _⟩ => ⟨S4096x512, .f32⟩
  | .hbm, ⟨35, _⟩ => ⟨S4096x512, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst_0 : Ref sig .tc := ⟨.hbm, 18, rfl⟩
abbrev main_v14 : Ref sig .tc := ⟨.hbm, 19, rfl⟩
abbrev main_cst_1 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst_2 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩

abbrev nD : Nat := 1
abbrev τ : Topo := Topo.v7x

variable {F : FTy → Type} [FloatOps F]
-- ==== Proof.Soft.lean ====
/-
  The softmax identity behind the attention calls, over the extended reals: weights in base two, the two groups of keys
  (latent, context) summed apart and the division done once at the end, against weights in base e over all the keys in
  one list, each divided by their sum before it multiplies its value. The scores are real numbers, the values arbitrary.
-/
module

public import Idealize.ShloMosaic.PureOps.Ideal
public import Mathlib.Analysis.SpecialFunctions.Pow.Real

@[expose] public section

noncomputable section

namespace Cert.Soft

open Idealize.ShloMosaic

/-- A sum of products with one nonnegative real factor: the factor comes out, whatever the terms. -/
theorem sum_mul_real {ι : Type*} (s : Finset ι) (f : ι → EReal) (d : ℝ) (hd : 0 ≤ d) :
    (∑ i ∈ s, f i) * (d : EReal) = ∑ i ∈ s, f i * (d : EReal) := by
  classical
  induction s using Finset.induction_on with
  | empty => simp
  | insert a s ha ih =>
    rw [Finset.sum_insert ha, Finset.sum_insert ha, ← ih,
      EReal.right_distrib_of_nonneg_of_ne_top (EReal.coe_nonneg.mpr hd) (EReal.coe_ne_top d)]

/-- A finite sum of reals, read in the extended reals. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The largest of finitely many reals. -/
theorem fold_max {ι : Type*} [Fintype ι] [Nonempty ι] (s : ι → ℝ) :
    ∃ m : ℝ, Finset.fold max (⊥ : EReal) (fun i => (s i : EReal)) Finset.univ = (m : EReal) ∧ (∀ i, s i ≤ m) ∧ ∃ i, s i = m := by
  obtain ⟨i, -, hi⟩ := Finset.exists_max_image Finset.univ s Finset.univ_nonempty
  refine ⟨s i, ?_, fun j => hi j (Finset.mem_univ j), i, rfl⟩
  apply le_antisymm
  · rw [Finset.fold_max_le]
    exact ⟨bot_le, fun j _ => EReal.coe_le_coe_iff.mpr (hi j (Finset.mem_univ j))⟩
  · rw [Finset.le_fold_max]
    exact Or.inr ⟨i, Finset.mem_univ i, le_rfl⟩

/-- The word `0xFF800000` is the least extended real. -/
theorem ninf : Ideal.ofBits FTy.f32 4286578688#32 = ⊥ := by
  simp [Ideal.ofBits, Ideal.ieee]

/-- The word of `2.0`, and its logarithm. -/
theorem two : Ideal.ofBits FTy.f32 1073741824#32 = ((2 : ℝ) : EReal) := by
  simp [Ideal.ofBits, Ideal.ieee, -EReal.coe_mul]; norm_num

theorem log_two : Ideal.log (Ideal.ofBits FTy.f32 1073741824#32) = ((Real.log 2 : ℝ) : EReal) := by
  rw [two, Ideal.log_coe, if_neg (by norm_num)]

/-- Attention of one query in base two: the maximum over both groups, the weighted values over the weights' sum. -/
def softK {α β : Type*} [Fintype α] [Fintype β] (s1 v1 : α → EReal) (s2 v2 : β → EReal) : EReal :=
  Ideal.div
    (∑ x, Ideal.exp2 (s2 x - max (Finset.fold max ⊥ s2 Finset.univ) (Finset.fold max ⊥ s1 Finset.univ)) * v2 x
      + ∑ x, Ideal.exp2 (s1 x - max (Finset.fold max ⊥ s2 Finset.univ) (Finset.fold max ⊥ s1 Finset.univ)) * v1 x)
    (∑ x, Ideal.exp2 (s2 x - max (Finset.fold max ⊥ s2 Finset.univ) (Finset.fold max ⊥ s1 Finset.univ))
      + ∑ x, Ideal.exp2 (s1 x - max (Finset.fold max ⊥ s2 Finset.univ) (Finset.fold max ⊥ s1 Finset.univ)))

/-- Attention of one query as a softmax over one list of keys. -/
def softR {γ : Type*} [Fintype γ] (s v : γ → EReal) : EReal :=
  ∑ x, Ideal.div (Ideal.exp (s x - max ⊥ (Finset.fold max ⊥ s Finset.univ)))
    (∑ y, Ideal.exp (s y - max ⊥ (Finset.fold max ⊥ s Finset.univ))) * v x

/-- A power of two as an exponential. -/
theorem exp2_coe (x : ℝ) : Ideal.exp2 (x : EReal) = ((Real.exp (Real.log 2 * x) : ℝ) : EReal) := by
  rw [Ideal.exp2_coe]
  exact congrArg _ (Real.rpow_def_of_pos (by norm_num) x)

theorem div_real (x : EReal) (d : ℝ) (hd : d ≠ 0) : Ideal.div x (d : EReal) = x * ((d⁻¹ : ℝ) : EReal) := by
  unfold Ideal.div
  rw [if_neg (by simpa using hd), EReal.coe_inv]

/-- The identity: the list's scores are `log 2` times those of the two groups, its values theirs. -/
theorem soft_eq {α β γ : Type*} [Fintype α] [Fintype β] [Fintype γ] [Nonempty α] [Nonempty β] (e : α ⊕ β ≃ γ)
    (r1 : α → ℝ) (r2 : β → ℝ) (v1 : α → EReal) (v2 : β → EReal) (s v : γ → EReal)
    (hs1 : ∀ a, s (e (.inl a)) = ((Real.log 2 * r1 a : ℝ) : EReal)) (hs2 : ∀ b, s (e (.inr b)) = ((Real.log 2 * r2 b : ℝ) : EReal))
    (hv1 : ∀ a, v (e (.inl a)) = v1 a) (hv2 : ∀ b, v (e (.inr b)) = v2 b) :
    softK (fun a => (r1 a : EReal)) v1 (fun b => (r2 b : EReal)) v2 = softR s v := by
  have hc : 0 < Real.log 2 := Real.log_pos (by norm_num)
  obtain ⟨m1, h1, l1, a1, e1⟩ := fold_max r1
  obtain ⟨m2, h2, l2, a2, e2⟩ := fold_max r2
  -- the two maxima
  have hm : max (Finset.fold max (⊥ : EReal) (fun b => (r2 b : EReal)) Finset.univ)
      (Finset.fold max ⊥ (fun a => (r1 a : EReal)) Finset.univ) = ((max m2 m1 : ℝ) : EReal) := by
    rw [h1, h2]; exact (EReal.coe_strictMono.monotone.map_max).symm
  have hM : max (⊥ : EReal) (Finset.fold max ⊥ s Finset.univ) = ((Real.log 2 * max m2 m1 : ℝ) : EReal) := by
    rw [max_eq_right bot_le]
    apply le_antisymm
    · rw [Finset.fold_max_le]
      refine ⟨bot_le, fun x _ => ?_⟩
      obtain ⟨y, rfl⟩ := e.surjective x
      rcases y with a | b
      · rw [hs1, EReal.coe_le_coe_iff]
        exact mul_le_mul_of_nonneg_left ((l1 a).trans (le_max_right _ _)) hc.le
      · rw [hs2, EReal.coe_le_coe_iff]
        exact mul_le_mul_of_nonneg_left ((l2 b).trans (le_max_left _ _)) hc.le
    · rw [Finset.le_fold_max]
      rcases le_total m1 m2 with h | h
      · exact Or.inr ⟨e (.inr a2), Finset.mem_univ _, by rw [hs2, e2, max_eq_left h]⟩
      · exact Or.inr ⟨e (.inl a1), Finset.mem_univ _, by rw [hs1, e1, max_eq_right h]⟩
  unfold softK softR
  simp only [hm, hM]
  generalize max m2 m1 = M
  -- the weights are one positive real function
  have k1 : ∀ a, Ideal.exp2 ((r1 a : EReal) - (M : EReal)) = ((Real.exp (Real.log 2 * (r1 a - M)) : ℝ) : EReal) := fun a => by
    rw [← EReal.coe_sub, exp2_coe]
  have k2 : ∀ b, Ideal.exp2 ((r2 b : EReal) - (M : EReal)) = ((Real.exp (Real.log 2 * (r2 b - M)) : ℝ) : EReal) := fun b => by
    rw [← EReal.coe_sub, exp2_coe]
  have w1 : ∀ a, Ideal.exp (s (e (.inl a)) - ((Real.log 2 * M : ℝ) : EReal)) = ((Real.exp (Real.log 2 * (r1 a - M)) : ℝ) : EReal) := fun a => by
    rw [hs1, ← EReal.coe_sub, Ideal.exp_coe, mul_sub]
  have w2 : ∀ b, Ideal.exp (s (e (.inr b)) - ((Real.log 2 * M : ℝ) : EReal)) = ((Real.exp (Real.log 2 * (r2 b - M)) : ℝ) : EReal) := fun b => by
    rw [hs2, ← EReal.coe_sub, Ideal.exp_coe, mul_sub]
  -- their sum
  have hD : (∑ y, Ideal.exp (s y - ((Real.log 2 * M : ℝ) : EReal)))
      = ((∑ b, Real.exp (Real.log 2 * (r2 b - M)) + ∑ a, Real.exp (Real.log 2 * (r1 a - M)) : ℝ) : EReal) := by
    rw [← e.sum_comp, Fintype.sum_sum_type]
    simp only [w1, w2]
    rw [EReal.coe_add, coe_sum, coe_sum, add_comm]
  have hD' : (∑ x, Ideal.exp2 ((r2 x : EReal) - (M : EReal)) + ∑ x, Ideal.exp2 ((r1 x : EReal) - (M : EReal)))
      = ((∑ b, Real.exp (Real.log 2 * (r2 b - M)) + ∑ a, Real.exp (Real.log 2 * (r1 a - M)) : ℝ) : EReal) := by
    simp only [k1, k2]
    rw [EReal.coe_add, coe_sum, coe_sum]
  have hpos : 0 < ∑ b, Real.exp (Real.log 2 * (r2 b - M)) + ∑ a, Real.exp (Real.log 2 * (r1 a - M)) :=
    add_pos (Finset.sum_pos (fun _ _ => Real.exp_pos _) Finset.univ_nonempty)
      (Finset.sum_pos (fun _ _ => Real.exp_pos _) Finset.univ_nonempty)
  rw [hD, hD']
  generalize (∑ b, Real.exp (Real.log 2 * (r2 b - M)) + ∑ a, Real.exp (Real.log 2 * (r1 a - M))) = D at hpos
  have hDi : 0 ≤ D⁻¹ := inv_nonneg.mpr hpos.le
  simp only [div_real _ D hpos.ne']
  rw [EReal.right_distrib_of_nonneg_of_ne_top (EReal.coe_nonneg.mpr hDi) (EReal.coe_ne_top _), sum_mul_real _ _ _ hDi,
    sum_mul_real _ _ _ hDi, ← e.sum_comp, Fintype.sum_sum_type, add_comm]
  congr 1
  · refine Finset.sum_congr rfl fun a _ => ?_
    rw [k1, w1, hv1, mul_right_comm]
  · refine Finset.sum_congr rfl fun b _ => ?_
    rw [k2, w2, hv2, mul_right_comm]

/-- Attention of one query in base two over one group of keys. -/
def softC {α : Type*} [Fintype α] (s v : α → EReal) : EReal :=
  Ideal.div (∑ x, Ideal.exp2 (s x - Finset.fold max ⊥ s Finset.univ) * v x) (∑ x, Ideal.exp2 (s x - Finset.fold max ⊥ s Finset.univ))

/-- The identity for one group: the list's scores are `log 2` times the group's. -/
theorem soft_eq_one {α : Type*} [Fintype α] [Nonempty α] (r : α → ℝ) (v s : α → EReal)
    (hs : ∀ a, s a = ((Real.log 2 * r a : ℝ) : EReal)) : softC (fun a => (r a : EReal)) v = softR s v := by
  have hc : 0 < Real.log 2 := Real.log_pos (by norm_num)
  obtain ⟨M, h, l, a, e⟩ := fold_max r
  have hM : max (⊥ : EReal) (Finset.fold max ⊥ s Finset.univ) = ((Real.log 2 * M : ℝ) : EReal) := by
    rw [max_eq_right bot_le]
    apply le_antisymm
    · rw [Finset.fold_max_le]
      exact ⟨bot_le, fun x _ => by rw [hs, EReal.coe_le_coe_iff]; exact mul_le_mul_of_nonneg_left (l x) hc.le⟩
    · rw [Finset.le_fold_max]
      exact Or.inr ⟨a, Finset.mem_univ _, by rw [hs, e]⟩
  have k : ∀ x, Ideal.exp2 ((r x : EReal) - (M : EReal)) = ((Real.exp (Real.log 2 * (r x - M)) : ℝ) : EReal) := fun x => by
    rw [← EReal.coe_sub, exp2_coe]
  have w : ∀ x, Ideal.exp (s x - ((Real.log 2 * M : ℝ) : EReal)) = ((Real.exp (Real.log 2 * (r x - M)) : ℝ) : EReal) := fun x => by
    rw [hs, ← EReal.coe_sub, Ideal.exp_coe, mul_sub]
  have hpos : 0 < ∑ x, Real.exp (Real.log 2 * (r x - M)) := Finset.sum_pos (fun _ _ => Real.exp_pos _) Finset.univ_nonempty
  unfold softC softR
  simp only [h, hM, k, w, ← coe_sum]
  simp only [div_real _ _ hpos.ne']
  rw [sum_mul_real _ _ _ (inv_nonneg.mpr hpos.le)]
  exact Finset.sum_congr rfl fun x _ => mul_right_comm _ _ _

/-- A product of real rows is real, and a real factor of every entry of one of them comes out. -/
theorem dot_real {ι : Type*} [Fintype ι] (q k : ι → ℝ) :
    ∑ d, (q d : EReal) * (k d : EReal) = ((∑ d, q d * k d : ℝ) : EReal) := by
  rw [coe_sum]
  exact Finset.sum_congr rfl fun d _ => (EReal.coe_mul _ _).symm

theorem dot_scaled {ι : Type*} [Fintype ι] (q k : ι → ℝ) (c : ℝ) :
    ∑ d, ((q d : EReal) * (c : EReal)) * (k d : EReal) = ((c * ∑ d, q d * k d : ℝ) : EReal) := by
  rw [Finset.mul_sum, coe_sum]
  refine Finset.sum_congr rfl fun d _ => ?_
  rw [← EReal.coe_mul, ← EReal.coe_mul]
  congr 1
  ring

end Cert.Soft

end
-- ==== Proof.AttnHead.lean ====
/-
  The four query heads of one grid point of the attention kernel: each stored block, at a row and a lane, is that
  query row's attention over the latent and the context keys.
-/
module

public import proofs.«01_k».proof.Proof.Gen.KernelIdeal.Value
public import proofs.«01_k».proof.Proof.Soft
public import Idealize.ShloMosaic.Lib.Pointwise
public import Idealize.ShloMosaic.Lib.Pipeline.ValueKit

@[expose] public section

set_option maxRecDepth 16384

noncomputable section

namespace Cert.AttnKer

open Cert.KernelIdeal Cert.KernelIdeal.Gen Idealize.ShloMosaic Idealize.SL.Sem

/-- Attention of the query row `r` of a block over the keys of two blocks, output lane `l`. -/
def head (kc vc : Vec Ideal S256x128 .bf16) (kl vl : Vec Ideal S2048x128 .bf16) (q : Vec Ideal S1024x128 .bf16)
    (r : Fin 1024) (l : Fin 128) : EReal :=
  Soft.softK (fun x : Fin 2048 => ∑ d : Fin 128, q (ix2 r d) * kl (ix2 x d)) (fun x => vl (ix2 x l))
    (fun x : Fin 256 => ∑ d : Fin 128, q (ix2 r d) * kc (ix2 x d)) (fun x => vc (ix2 x l))

section Heads

variable (kc vc : Vec Ideal S256x128 .bf16) (kl vl : Vec Ideal S2048x128 .bf16) (q : Vec Ideal S1024x128 .bf16)
  (r : Fin 1024) (l : Fin 128)

theorem head0 : k0_pay13 (k0_pay1 kc vc kl vl q) (ix2 r l) = head kc vc kl vl q r l := by
  unfold head Soft.softK
  unfold_payloads
  pointwise [dot_S1024x128_S256x128_S1024x256_1_1_0_0_n_n, dot_S1024x128_S2048x128_S1024x2048_1_1_0_0_n_n, dot_S1024x256_S256x128_S1024x128_1_0_0_1_n_n, dot_S1024x2048_S2048x128_S1024x128_1_0_0_1_n_n]
  simp only [Soft.ninf]
  rfl

theorem head1 : k0_pay14 (k0_pay4 vc kl vl q (k0_pay2 kc q) (k0_pay3 kc q) (constant S1024x2048 .f32 0x00000000#32)) (ix2 r l)
    = head kc vc kl vl q r l := by
  unfold head Soft.softK
  unfold_payloads
  pointwise [dot_S1024x128_S256x128_S1024x256_1_1_0_0_n_n, dot_S1024x128_S2048x128_S1024x2048_1_1_0_0_n_n, dot_S1024x256_S256x128_S1024x128_1_0_0_1_n_n, dot_S1024x2048_S2048x128_S1024x128_1_0_0_1_n_n]
  simp only [Soft.ninf]
  rfl

theorem head2 : k0_pay15 (k0_pay9 kc vc kl q) (k0_pay11 kc kl q) (k0_pay12 kc kl vl q) (ix2 r l) = head kc vc kl vl q r l := by
  unfold head Soft.softK
  unfold_payloads
  pointwise [dot_S1024x128_S256x128_S1024x256_1_1_0_0_n_n, dot_S1024x128_S2048x128_S1024x2048_1_1_0_0_n_n, dot_S1024x256_S256x128_S1024x128_1_0_0_1_n_n, dot_S1024x2048_S2048x128_S1024x128_1_0_0_1_n_n]
  simp only [Soft.ninf]
  rfl

theorem head3 : k0_pay16 kc vc kl vl q (ix2 r l) = head kc vc kl vl q r l := by
  unfold head Soft.softK
  unfold_payloads
  pointwise [dot_S1024x128_S256x128_S1024x256_1_1_0_0_n_n, dot_S1024x128_S2048x128_S1024x2048_1_1_0_0_n_n, dot_S1024x256_S256x128_S1024x128_1_0_0_1_n_n, dot_S1024x2048_S2048x128_S1024x128_1_0_0_1_n_n]
  simp only [Soft.ninf]
  rfl

end Heads

end Cert.AttnKer

end
-- ==== Proof.AttnKer.lean ====
/-
  What one grid point of the attention kernel writes, and what its output array holds at the end: at each row and
  lane, the attention of that row's query head over the latent and the context keys of the row's batch entry.
-/
module

public import proofs.«01_k».proof.Proof.AttnHead

@[expose] public section

set_option maxRecDepth 16384

noncomputable section

namespace Cert.AttnKer

open Cert.KernelIdeal Cert.KernelIdeal.Gen Idealize.ShloMosaic Idealize.ShloMosaic.Pipeline Idealize.SL.Sem

/-- One query row of a block against the keys of two blocks. -/
def row (x0 : Vec Ideal S1024x512 .bf16) (x1 x2 : Vec Ideal S2048x128 .bf16) (x3 x4 : Vec Ideal S256x128 .bf16)
    (R : Fin 1024) (L : Fin 512) : EReal :=
  Soft.softK
    (fun x : Fin 2048 => ∑ d : Fin 128, x0 (ix2 R ⟨L.val / 128 * 128 + d.val, by omega⟩) * x1 (ix2 x d))
    (fun x => x2 (ix2 x ⟨L.val % 128, by omega⟩))
    (fun x : Fin 256 => ∑ d : Fin 128, x0 (ix2 R ⟨L.val / 128 * 128 + d.val, by omega⟩) * x3 (ix2 x d))
    (fun x => x4 (ix2 x ⟨L.val % 128, by omega⟩))

theorem head_eq (x0 : Vec Ideal S1024x512 .bf16) (x1 x2 : Vec Ideal S2048x128 .bf16) (x3 x4 : Vec Ideal S256x128 .bf16)
    (q : Vec Ideal S1024x128 .bf16) (r : Fin 1024) (l : Fin 128) (R : Fin 1024) (L : Fin 512) (hl : l.val = L.val % 128)
    (hq : ∀ d : Fin 128, q (ix2 r d) = x0 (ix2 R ⟨L.val / 128 * 128 + d.val, by omega⟩)) :
    head x3 x4 x1 x2 q r l = row x0 x1 x2 x3 x4 R L := by
  have e : l = ⟨L.val % 128, by omega⟩ := Fin.ext hl
  unfold head row
  simp only [hq, e]

/-- One grid point's output block at a row and a lane. -/
theorem out_at (x0 : Vec Ideal S1024x512 .bf16) (x1 x2 : Vec Ideal S2048x128 .bf16) (x3 x4 : Vec Ideal S256x128 .bf16)
    (R : Fin 1024) (L : Fin 512) : out0_5 x0 x1 x2 x3 x4 (ix2 R L) = row x0 x1 x2 x3 x4 R L := by
  have hz : (![0, 0] : Fin 2 → ℕ) = fun _ => 0 := by decide
  have e0 : ∀ X : Vec Ideal S256x128 .bf16, View.ld X r0_0 = X := fun X => View.ld_unit_zero hz _ X
  have e1 : ∀ X : Vec Ideal S2048x128 .bf16, View.ld X r0_1 = X := fun X => View.ld_unit_zero hz _ X
  canon_tiles x h
  all_goals
    obtain ⟨r, l, rfl⟩ : ∃ r l, x = ix2 r l := ⟨x 0, x 1, by funext a; fin_cases a <;> rfl⟩
    simp only [e0, e1]
    change R.val = r.val at h0
    obtain rfl := Fin.ext h0
  · change L.val = 384 + l.val at h1
    rw [head3]
    refine head_eq x0 x1 x2 x3 x4 _ R l R L (by omega) fun d => View.ld_unit_apply_of x0 _ _ _ _ _ fun a => ?_
    fin_cases a
    · show R.val = 0 + R.val; omega
    · show L.val / 128 * 128 + d.val = 384 + d.val; omega
  · change L.val = 256 + l.val at h1
    rw [head2]
    refine head_eq x0 x1 x2 x3 x4 _ R l R L (by omega) fun d => View.ld_unit_apply_of x0 _ _ _ _ _ fun a => ?_
    fin_cases a
    · show R.val = 0 + R.val; omega
    · show L.val / 128 * 128 + d.val = 256 + d.val; omega
  · change L.val = 128 + l.val at h1
    rw [head1]
    refine head_eq x0 x1 x2 x3 x4 _ R l R L (by omega) fun d => View.ld_unit_apply_of x0 _ _ _ _ _ fun a => ?_
    fin_cases a
    · show R.val = 0 + R.val; omega
    · show L.val / 128 * 128 + d.val = 128 + d.val; omega
  · change L.val = l.val at h1
    rw [head0]
    refine head_eq x0 x1 x2 x3 x4 _ R l R L (by omega) fun d => View.ld_unit_apply_of x0 _ _ _ _ _ fun a => ?_
    fin_cases a
    · show R.val = 0 + R.val; omega
    · show L.val / 128 * 128 + d.val = 0 + d.val; omega

/-- Attention at a row and a lane of the whole arrays. -/
def attn (Q : Vec Ideal S32768x1024 .bf16) (K V : Vec Ideal S32768x256 .bf16) (Kc Vc : Vec Ideal S4096x256 .bf16)
    (R : Fin 32768) (L : Fin 1024) : EReal :=
  Soft.softK
    (fun x : Fin 2048 => ∑ d : Fin 128, Q (ix2 R ⟨L.val / 128 * 128 + d.val, by omega⟩)
      * K (ix2 ⟨R.val / 2048 * 2048 + x.val, by omega⟩ ⟨L.val / 512 * 128 + d.val, by omega⟩))
    (fun x => V (ix2 ⟨R.val / 2048 * 2048 + x.val, by omega⟩ ⟨L.val / 512 * 128 + L.val % 128, by omega⟩))
    (fun x : Fin 256 => ∑ d : Fin 128, Q (ix2 R ⟨L.val / 128 * 128 + d.val, by omega⟩)
      * Kc (ix2 ⟨R.val / 2048 * 256 + x.val, by omega⟩ ⟨L.val / 512 * 128 + d.val, by omega⟩))
    (fun x => Vc (ix2 ⟨R.val / 2048 * 256 + x.val, by omega⟩ ⟨L.val / 512 * 128 + L.val % 128, by omega⟩))

/-- Where the windows stand at each grid point. -/
theorem idx : ∀ t : Fin grid0.N, win0_0.index t = ![t.val / 4 * 2 + t.val % 2, t.val / 2 % 2]
    ∧ win0_1.index t = ![t.val / 4, t.val / 2 % 2] ∧ win0_2.index t = ![t.val / 4, t.val / 2 % 2]
    ∧ win0_3.index t = ![t.val / 4, t.val / 2 % 2] ∧ win0_4.index t = ![t.val / 4, t.val / 2 % 2]
    ∧ win0_5.index t = ![t.val / 4 * 2 + t.val % 2, t.val / 2 % 2] := by decide +kernel

variable (m : (ℓ : Loc nD τ sig) → Buf (Elt Ideal) ℓ) (c : Dev nD)

/-- The output array after the run, at each row and lane. -/
theorem arr : (dats m 0 c).arrAt 5 (cfgs 0).N = fun i => attn (m ((c.tc : Thread nD τ).loc main_arg0))
    (m ((c.tc : Thread nD τ).loc main_arg1)) (m ((c.tc : Thread nD τ).loc main_arg2)) (m ((c.tc : Thread nD τ).loc main_arg3))
    (m ((c.tc : Thread nD τ).loc main_arg4)) (i 0) (i 1) := by
  refine (dats m 0 c).arrAt_eq_of_covers 5 _ (by decide +kernel) fun t hf y => ?_
  blk_simp
  rw [after0_5]
  obtain ⟨r, l, rfl⟩ : ∃ (r : Fin 1024) (l : Fin 512), y = ix2 r l := ⟨y 0, y 1, by funext a; fin_cases a <;> rfl⟩
  have ht : t.val < 64 := t.isLt
  obtain ⟨i0, i1, i2, i3, i4, i5⟩ := idx t
  have he0 : (((win0_5.blk t).view.emb (ix2 r l) 0 : Fin 32768) : ℕ) = (t.val / 4 * 2 + t.val % 2) * 1024 + r.val := by
    blk_simp [i5]
  have he1 : (((win0_5.blk t).view.emb (ix2 r l) 1 : Fin 1024) : ℕ) = t.val / 2 % 2 * 512 + l.val := by
    blk_simp [i5]
  generalize ((win0_5.blk t).view.emb (ix2 r l) 0 : Fin 32768) = A at he0
  generalize ((win0_5.blk t).view.emb (ix2 r l) 1 : Fin 1024) = B at he1
  rw [out_at]
  unfold row attn
  have h0 : ∀ d : Fin 128, iblk m c 0 t (ix2 r ⟨l.val / 128 * 128 + d.val, by omega⟩)
      = m ((c.tc : Thread nD τ).loc main_arg0) (ix2 A ⟨B.val / 128 * 128 + d.val, by omega⟩) := fun d => by
    blk_ext [iblk, V, i0]
  have h1 : ∀ (x : Fin 2048) (d : Fin 128), iblk m c 1 t (ix2 x d)
      = m ((c.tc : Thread nD τ).loc main_arg1) (ix2 ⟨A.val / 2048 * 2048 + x.val, by omega⟩ ⟨B.val / 512 * 128 + d.val, by omega⟩) := fun x d => by
    blk_ext [iblk, V, i1]
  have h2 : ∀ (x : Fin 2048), iblk m c 2 t (ix2 x ⟨l.val % 128, by omega⟩)
      = m ((c.tc : Thread nD τ).loc main_arg2) (ix2 ⟨A.val / 2048 * 2048 + x.val, by omega⟩ ⟨B.val / 512 * 128 + B.val % 128, by omega⟩) := fun x => by
    blk_ext [iblk, V, i2]
  have h3 : ∀ (x : Fin 256) (d : Fin 128), iblk m c 3 t (ix2 x d)
      = m ((c.tc : Thread nD τ).loc main_arg3) (ix2 ⟨A.val / 2048 * 256 + x.val, by omega⟩ ⟨B.val / 512 * 128 + d.val, by omega⟩) := fun x d => by
    blk_ext [iblk, V, i3]
  have h4 : ∀ (x : Fin 256), iblk m c 4 t (ix2 x ⟨l.val % 128, by omega⟩)
      = m ((c.tc : Thread nD τ).loc main_arg4) (ix2 ⟨A.val / 2048 * 256 + x.val, by omega⟩ ⟨B.val / 512 * 128 + B.val % 128, by omega⟩) := fun x => by
    blk_ext [iblk, V, i4]
  simp only [h0, h1, h2, h3, h4]

end Cert.AttnKer

end
-- ==== Proof.AttnRef.lean ====
/-
  What the attention reference computes, read at one index: the printed composed term cut into its stages (scaled
  queries, the list of keys or values, scores, weights, output), each stage at an index.
-/
module

public import proofs.«01_k».proof.Proof.Gen.ReferenceIdeal.Run
public import proofs.«01_k».proof.Proof.Soft
public import Idealize.ShloMosaic.Lib.Pointwise

@[expose] public section

noncomputable section

namespace Cert.AttnRef

open Cert.ReferenceIdeal Cert.ReferenceIdeal.Gen Cert.ReferenceIdeal.Value Idealize.ShloMosaic Idealize.SL.Sem

/-- The queries by head, scaled back. -/
def refQ (x : Vec Ideal S32768x1024 .bf16) : FVec Ideal S16x2x4x2048x128 .f32 :=
  mulf (extf .f32 (transpose S16x2x4x2048x128 [0, 2, 3, 1, 4] (shapeCast _ x shapeCasts_S32768x1024_S16x2048x2x4x128) transposes_S16x2048x2x4x128_S16x2x4x2048x128_0_2_3_1_4) bitsLt_bf16_f32)
    (broadcastInDim S16x2x4x2048x128 ![] bcast_S_S16x2x4x2048x128 (Host.log (constant S_ .f32 0x40000000#32)))

/-- Keys or values by head: the latent rows, then the context rows. -/
def refKV (a : Vec Ideal S32768x256 .bf16) (b : Vec Ideal S4096x256 .bf16) : FVec Ideal S16x2x2304x128 .f32 :=
  concatenate S16x2x2304x128 2 [⟨S16x2x2048x128, (extf .f32 (transpose S16x2x2048x128 [0, 2, 1, 3] (shapeCast _ a shapeCasts_S32768x256_S16x2048x2x128) transposes_S16x2048x2x128_S16x2x2048x128_0_2_1_3) bitsLt_bf16_f32)⟩,
    ⟨S16x2x256x128, (extf .f32 (transpose S16x2x256x128 [0, 2, 1, 3] (shapeCast _ b shapeCasts_S4096x256_S16x256x2x128) transposes_S16x256x2x128_S16x2x256x128_0_2_1_3) bitsLt_bf16_f32)⟩] concatenates_S16x2x2048x128_S16x2x256x128_S16x2x2304x128_d2

/-- The scores. -/
def refS (q : FVec Ideal S16x2x4x2048x128 .f32) (k : FVec Ideal S16x2x2304x128 .f32) : FVec Ideal S16x2x4x2048x2304 .f32 :=
  Host.dotGeneral dot_S16x2x4x2048x128_S16x2x2304x128_S16x2x4x2048x2304_4_3_23_2_01_01 none q k

/-- The largest score of a row, the row's largest against the least value, and the weights. -/
def refMx (s : FVec Ideal S16x2x4x2048x2304 .f32) : FVec Ideal S16x2x4x2048 .f32 :=
  Host.reduce FloatOps.maximumf s (constant S_ .f32 0xFF800000#32) reducesTo_S16x2x4x2048x2304_S16x2x4x2048_d4 h_S_

def refM (s : FVec Ideal S16x2x4x2048 .f32) : FVec Ideal S16x2x4x2048 .f32 :=
  maximumf (broadcastInDim S16x2x4x2048 ![] bcast_S_S16x2x4x2048 (constant S_ .f32 0xFF800000#32)) s

def refE (s : FVec Ideal S16x2x4x2048x2304 .f32) (M : FVec Ideal S16x2x4x2048 .f32) : FVec Ideal S16x2x4x2048x2304 .f32 :=
  Host.exp (subf s (broadcastInDim S16x2x4x2048x2304 ![0, 1, 2, 3, 4] bcast_S16x2x4x2048x1_S16x2x4x2048x2304_0_1_2_3_4 (broadcastInDim S16x2x4x2048x1 ![0, 1, 2, 3] bcast_S16x2x4x2048_S16x2x4x2048x1_0_1_2_3 M)))

def refP (e : FVec Ideal S16x2x4x2048x2304 .f32) : FVec Ideal S16x2x4x2048x2304 .f32 :=
  Host.divf e (broadcastInDim S16x2x4x2048x2304 ![0, 1, 2, 3, 4] bcast_S16x2x4x2048x1_S16x2x4x2048x2304_0_1_2_3_4 (broadcastInDim S16x2x4x2048x1 ![0, 1, 2, 3] bcast_S16x2x4x2048_S16x2x4x2048x1_0_1_2_3 (Host.reduceAdd e (constant S_ .f32 0x00000000#32) reducesTo_S16x2x4x2048x2304_S16x2x4x2048_d4 h_S_)))

def refO (p : FVec Ideal S16x2x4x2048x2304 .f32) (v : FVec Ideal S16x2x2304x128 .f32) : FVec Ideal S32768x1024 .bf16 :=
  truncf .bf16 (shapeCast _ (transpose S16x2048x2x4x128 [0, 3, 1, 2, 4] (Host.dotGeneral dot_S16x2x4x2048x2304_S16x2x2304x128_S16x2x4x2048x128_4_2_23_3_01_01 none p v) transposes_S16x2x4x2048x128_S16x2048x2x4x128_0_3_1_2_4) shapeCasts_S16x2048x2x4x128_S32768x1024) bitsLt_bf16_f32

/-- The stages in order, from the scores and the values. -/
def refAttn (s : FVec Ideal S16x2x4x2048x2304 .f32) (v : FVec Ideal S16x2x2304x128 .f32) : FVec Ideal S32768x1024 .bf16 :=
  refO (refP (refE s (refM (refMx s)))) v

set_option maxRecDepth 8192 in
theorem res_eq (m : (ℓ : Loc nD τ sig) → Buf (Elt Ideal) ℓ) (c : Dev nD) :
    res_out0 m c = refAttn (refS (refQ (m ((c.tc : Thread nD τ).loc main_arg0))) (refKV (m ((c.tc : Thread nD τ).loc main_arg1)) (m ((c.tc : Thread nD τ).loc main_arg3))))
      (refKV (m ((c.tc : Thread nD τ).loc main_arg2)) (m ((c.tc : Thread nD τ).loc main_arg4))) := by
  unfold res_out0 res_main_v35 refAttn refO refP refE refM refMx refS refQ refKV
  rfl

theorem refQ_at (x : Vec Ideal S32768x1024 .bf16) (b : Fin 16) (h : Fin 2) (g : Fin 4) (s : Fin 2048) (d : Fin 128) :
    refQ x (ix5 b h g s d) = x (ix2 ⟨b.val * 2048 + s.val, by omega⟩ ⟨h.val * 512 + g.val * 128 + d.val, by omega⟩)
      * Ideal.log (Ideal.ofBits FTy.f32 1073741824#32) := by
  unfold refQ
  pointwise

theorem refKV_at (x : Vec Ideal S32768x256 .bf16) (y : Vec Ideal S4096x256 .bf16) (b : Fin 16) (h : Fin 2) (s : Fin 2304) (d : Fin 128) :
    refKV x y (ix4 b h s d) = if h_1 : s.val < 2048 then x (ix2 ⟨b.val * 2048 + s.val, by omega⟩ ⟨h.val * 128 + d.val, by omega⟩)
      else y (ix2 ⟨b.val * 256 + (s.val - 2048), by omega⟩ ⟨h.val * 128 + d.val, by omega⟩) := by
  unfold refKV
  pointwise

theorem refS_at (q : FVec Ideal S16x2x4x2048x128 .f32) (k : FVec Ideal S16x2x2304x128 .f32)
    (b : Fin 16) (h : Fin 2) (g : Fin 4) (s : Fin 2048) (t : Fin 2304) :
    refS q k (ix5 b h g s t) = ∑ x : Fin 128, q (ix5 b h g s x) * k (ix4 b h t x) := by
  unfold refS
  pointwise [dot_S16x2x4x2048x128_S16x2x2304x128_S16x2x4x2048x2304_4_3_23_2_01_01]

theorem refMx_at (s : FVec Ideal S16x2x4x2048x2304 .f32) (b : Fin 16) (h : Fin 2) (g : Fin 4) (r : Fin 2048) :
    refMx s (ix4 b h g r) = Finset.fold max (Ideal.ofBits FTy.f32 4286578688#32) (fun x => s (ix5 b h g r x)) Finset.univ := by
  unfold refMx
  pointwise

theorem refM_at (s : FVec Ideal S16x2x4x2048 .f32) (b : Fin 16) (h : Fin 2) (g : Fin 4) (r : Fin 2048) :
    refM s (ix4 b h g r) = max (Ideal.ofBits FTy.f32 4286578688#32) (s (ix4 b h g r)) := by
  unfold refM
  pointwise

theorem refE_at (s : FVec Ideal S16x2x4x2048x2304 .f32) (M : FVec Ideal S16x2x4x2048 .f32)
    (b : Fin 16) (h : Fin 2) (g : Fin 4) (r : Fin 2048) (t : Fin 2304) :
    refE s M (ix5 b h g r t) = Ideal.exp (s (ix5 b h g r t) - M (ix4 b h g r)) := by
  unfold refE
  pointwise

theorem refP_at (e : FVec Ideal S16x2x4x2048x2304 .f32) (b : Fin 16) (h : Fin 2) (g : Fin 4) (r : Fin 2048) (t : Fin 2304) :
    refP e (ix5 b h g r t) = Ideal.div (e (ix5 b h g r t)) (∑ x, e (ix5 b h g r x)) := by
  unfold refP
  pointwise

theorem refO_at (p : FVec Ideal S16x2x4x2048x2304 .f32) (v : FVec Ideal S16x2x2304x128 .f32) (r : Fin 32768) (l : Fin 1024) :
    refO p v (ix2 r l) = ∑ x : Fin 2304,
      p (ix5 ⟨r.val / 2048, by omega⟩ ⟨l.val / 512, by omega⟩ ⟨l.val / 128 % 4, by omega⟩ ⟨r.val % 2048, by omega⟩ x)
        * v (ix4 ⟨r.val / 2048, by omega⟩ ⟨l.val / 512, by omega⟩ x ⟨l.val % 128, by omega⟩) := by
  unfold refO
  pointwise [dot_S16x2x4x2048x2304_S16x2x2304x128_S16x2x4x2048x128_4_2_23_3_01_01]

/-- The output at row `r`, lane `l`: the softmax over that row's list of scores. -/
theorem refAttn_at (s : FVec Ideal S16x2x4x2048x2304 .f32) (v : FVec Ideal S16x2x2304x128 .f32) (r : Fin 32768) (l : Fin 1024) :
    refAttn s v (ix2 r l) = Soft.softR
      (fun t : Fin 2304 => s (ix5 ⟨r.val / 2048, by omega⟩ ⟨l.val / 512, by omega⟩ ⟨l.val / 128 % 4, by omega⟩ ⟨r.val % 2048, by omega⟩ t))
      (fun t => v (ix4 ⟨r.val / 2048, by omega⟩ ⟨l.val / 512, by omega⟩ t ⟨l.val % 128, by omega⟩)) := by
  unfold refAttn Soft.softR
  rw [refO_at]
  refine Finset.sum_congr rfl fun t _ => ?_
  rw [refP_at]
  simp only [refE_at, refM_at, refMx_at, Soft.ninf]

end Cert.AttnRef

end
-- ==== Proof.Finite.lean ====
/-
  A printed predicate that compares absolute values with infinity, read at one element: the element is a real number.
-/
module

public import Idealize.ShloMosaic.Lib.Pointwise
public import Idealize.ShloMosaic.Lib.ReduceAll

@[expose] public section

noncomputable section

namespace Cert.Finite

open Idealize.ShloMosaic Idealize.SL.Sem

theorem pinf : Ideal.ofBits FTy.f32 2139095040#32 = ⊤ := by
  simp [Ideal.ofBits, Ideal.ieee]

theorem real_of_lt (x : EReal) (h : Ideal.cmp .olt (max x (-x)) (Ideal.ofBits FTy.f32 2139095040#32) = 1#1) :
    ∃ r : ℝ, x = r := by
  rw [pinf] at h
  have h' : max x (-x) < ⊤ := by
    by_contra hc
    simp [Ideal.cmp, hc] at h
  induction x with
  | bot => simp at h'
  | top => simp at h'
  | coe r => exact ⟨r, rfl⟩

theorem andi_one (a b : BitVec 1) (h : IntOp.andi a b = 1#1) : a = 1#1 ∧ b = 1#1 := by
  revert a b; decide

end Cert.Finite

end
-- ==== Proof.AttnEq.lean ====
/-
  The attention kernel's array equals the reference's result when queries and keys are finite.
-/
module

public import proofs.«01_k».proof.Proof.AttnKer
public import proofs.«01_k».proof.Proof.AttnRef
public import proofs.«01_k».proof.Proof.Finite
public import proofs.«01_k».proof.Pre_finite

@[expose] public section

noncomputable section

namespace Cert.AttnEq

open Cert.KernelIdeal Idealize.ShloMosaic Idealize.SL.Sem

/-- The precondition read at every query and every key. -/
theorem reals [Cert.Pre_finite.Facts] (Q : Vec Ideal S32768x1024 .bf16) (K V : Vec Ideal S32768x256 .bf16) (Kc Vc : Vec Ideal S4096x256 .bf16)
    (h : Cert.Pre_finite.fn (F := Ideal) Q K V Kc Vc = fun _ => 1#1) :
    (∀ i, ∃ r : ℝ, Q i = (r : EReal)) ∧ (∀ i, ∃ r : ℝ, K i = (r : EReal)) ∧ (∀ i, ∃ r : ℝ, Kc i = (r : EReal)) := by
  have : Subsingleton (Cert.Pre_finite.S_ : Shape).Idx := ⟨fun a b => funext fun x => x.elim0⟩
  have e := congrFun h fun a => a.elim0
  obtain ⟨e12, e3⟩ := Finite.andi_one _ _ e
  obtain ⟨e1, e2⟩ := Finite.andi_one _ _ e12
  exact ⟨fun i => Finite.real_of_lt _ (Host.reduce_andi_all _ _ _ _ _ e1 i),
    fun i => Finite.real_of_lt _ (Host.reduce_andi_all _ _ _ _ _ e2 i),
    fun i => Finite.real_of_lt _ (Host.reduce_andi_all _ _ _ _ _ e3 i)⟩

/-- The latent keys, then the context keys, as one list. -/
def keys : Fin 2048 ⊕ Fin 256 ≃ Fin 2304 := finSumFinEquiv

theorem keys_inl (a : Fin 2048) : (keys (.inl a)).val = a.val := rfl

theorem keys_inr (b : Fin 256) : (keys (.inr b)).val = 2048 + b.val := rfl

theorem ix2_eq {n m : ℕ} {a a' : Fin n} {b b' : Fin m} (h : a.val = a'.val) (h' : b.val = b'.val) :
    ix2 a b = ix2 a' b' := by rw [Fin.ext h, Fin.ext h']

theorem attn_eq (Q : Vec Ideal S32768x1024 .bf16) (K V : Vec Ideal S32768x256 .bf16) (Kc Vc : Vec Ideal S4096x256 .bf16)
    (hQ : ∀ i, ∃ r : ℝ, Q i = (r : EReal)) (hK : ∀ i, ∃ r : ℝ, K i = (r : EReal)) (hKc : ∀ i, ∃ r : ℝ, Kc i = (r : EReal))
    (R : Fin 32768) (L : Fin 1024) :
    AttnKer.attn Q K V Kc Vc R L
      = AttnRef.refAttn (AttnRef.refS (AttnRef.refQ Q) (AttnRef.refKV K Kc)) (AttnRef.refKV V Vc) (ix2 R L) := by
  choose q hq using hQ
  choose k hk using hK
  choose kc hkc using hKc
  rw [AttnRef.refAttn_at]
  unfold AttnKer.attn
  simp only [hq, hk, hkc, Soft.dot_real]
  refine Soft.soft_eq keys _ _ _ _ _ _ (fun a => ?_) (fun b => ?_) (fun a => ?_) (fun b => ?_)
  · rw [AttnRef.refS_at, ← Soft.dot_scaled]
    refine Finset.sum_congr rfl fun d _ => ?_
    rw [AttnRef.refQ_at, AttnRef.refKV_at, dif_pos (by rw [keys_inl]; exact a.isLt), Soft.log_two, hq, hk]
    exact congrArg₂ (fun x y => (q x : EReal) * ((Real.log 2 : ℝ) : EReal) * (k y : EReal))
      (ix2_eq (by dsimp only; omega) (by dsimp only; omega)) (ix2_eq (by dsimp only; rw [keys_inl]) rfl)
  · rw [AttnRef.refS_at, ← Soft.dot_scaled]
    refine Finset.sum_congr rfl fun d _ => ?_
    rw [AttnRef.refQ_at, AttnRef.refKV_at, dif_neg (by rw [keys_inr]; omega), Soft.log_two, hq, hkc]
    exact congrArg₂ (fun x y => (q x : EReal) * ((Real.log 2 : ℝ) : EReal) * (kc y : EReal))
      (ix2_eq (by dsimp only; omega) (by dsimp only; omega)) (ix2_eq (by dsimp only; rw [keys_inr]; omega) rfl)
  · rw [AttnRef.refKV_at, dif_pos (by rw [keys_inl]; exact a.isLt)]
    rfl
  · rw [AttnRef.refKV_at, dif_neg (by rw [keys_inr]; omega)]
    exact congrArg Vc (ix2_eq (by dsimp only; rw [keys_inr]; omega) rfl)

end Cert.AttnEq

end
-- ==== Proof.ExpLaunch.lean ====
/-
  The launch of the experts' kernel: its two tables (each block's expert, the number of blocks in use), the pipeline at
  them, and each window's block as a function of the launch memory.
-/
module

public import proofs.«01_k».proof.Proof.Gen.ExpertsIdeal.Launch
public import proofs.«01_k».proof.Proof.Gen.ExpertsIdeal.Skeleton
public import Idealize.ShloMosaic.Lib.Pipeline.FrameBody
public import Idealize.ShloMosaic.Lib.Tactic
public import Idealize.ShloMosaic.Lib.WordCmp

@[expose] public section

set_option maxRecDepth 16384

noncomputable section

namespace Cert.ExpertsIdeal.Hand

open Cert.ExpertsIdeal Cert.ExpertsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

/-- Window 5 (result 0 (%0)) is written back at every point, at any contents of the tables (its index map reads none). -/
theorem flush0_5 (a : (pcfg0 (F := F)).Adm) : ∀ t : Fin (cfg0 a).N, ((cfg0 a).win 5).flush t = true :=
  (fun t => (Pipeline.Window.flushOf_reads cc0_transform_5 reads0_5 hreads0_5 0 (by decide) (by decide) (Pipeline.Window.sep_of_coord cc0_transform_5 0 0 (fun _ => rfl) (by decide)) (P := 1) (m := 0) (by decide) rfl t).mpr (Nat.mod_one _) : ∀ t : Fin grid0.N, Pipeline.Window.flushOf grid0 true cc0_transform_5 t = true)

/-- The current staging memref of each window at point `t`: which of its buffers it is on. -/
abbrev st0_0 (a : (pcfg0 (F := F)).Adm) (t : Fin (cfg0 a).N) := ((cfg0 a).win 0).stage ((cfg0 a).slots t 0)
abbrev st0_1 (a : (pcfg0 (F := F)).Adm) (t : Fin (cfg0 a).N) := ((cfg0 a).win 1).stage ((cfg0 a).slots t 1)
abbrev st0_2 (a : (pcfg0 (F := F)).Adm) (t : Fin (cfg0 a).N) := ((cfg0 a).win 2).stage ((cfg0 a).slots t 2)
abbrev st0_3 (a : (pcfg0 (F := F)).Adm) (t : Fin (cfg0 a).N) := ((cfg0 a).win 3).stage ((cfg0 a).slots t 3)
abbrev st0_4 (a : (pcfg0 (F := F)).Adm) (t : Fin (cfg0 a).N) := ((cfg0 a).win 4).stage ((cfg0 a).slots t 4)
abbrev st0_5 (a : (pcfg0 (F := F)).Adm) (t : Fin (cfg0 a).N) := ((cfg0 a).win 5).stage ((cfg0 a).slots t 5)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0_expert_mlp (grid0.coords t) (Memref.whole main_arg1) (Memref.isWhole_whole _) (Memref.whole main_arg2) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5))

variable (m : (ℓ : Loc nD τ sig) → Buf (Elt F) ℓ) (ρ : Dev nD → PrngReg)
/-! ## @main up to the region -/

/-- Core `c`'s TensorCore buffers when the region is entered: as launched (@main is the region alone). -/
abbrev V (c : Dev nD) (b : Ref sig .tc) : Buf (Elt F) ((c : Thread nD τ).loc b) := m ((c : Thread nD τ).loc b)

set_option maxHeartbeats 800000 in
/-- @main up to the region, at the certificate's variants `𝒱₀`: the region alone (`Pipeline.hmain_region` off
    `main_chain`). -/
theorem hmain (𝒱₀ : Variants) : Pipeline.HMainP (Ix := Unit) (Name := ℕ) (U := UR sig nD τ) (Lvl := ℕ) pcfgs 0 defs₀ 𝒱₀ m (main (F := F)) (V m) :=
  Pipeline.hmainP_region pcfgs 0 defs₀ 𝒱₀ m main fun c => (main_chain c).trans rfl

theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl
theorem V_main_arg3 (c : Dev nD) : V m c main_arg3 = m ((c : Thread nD τ).loc main_arg3) := rfl
theorem V_main_arg4 (c : Dev nD) : V m c main_arg4 = m ((c : Thread nD τ).loc main_arg4) := rfl
theorem V_main_arg5 (c : Dev nD) : V m c main_arg5 = m ((c : Thread nD τ).loc main_arg5) := rfl
theorem V_main_arg6 (c : Dev nD) : V m c main_arg6 = m ((c : Thread nD τ).loc main_arg6) := rfl

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 2) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S288 .i32 := Memref.whole main_arg1
abbrev htbM0_0 : tbM0_0.IsWhole := Memref.isWhole_whole _
abbrev tbM0_1 : Memref sig .tc .smem S1 .i32 := Memref.whole main_arg2
abbrev htbM0_1 : tbM0_1.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp 𝕄) = iprop(tbPt0 c tbM0_0 (tbl m 0) ∗ tbPt0 c tbM0_1 (tbl m 1)) := by
  unfold Pipeline.ΦT Pipeline.prefHeld
  rw [show (Finset.univ : Finset (Fin 2)) = insert (0 : Fin 2) {(1 : Fin 2)} from by decide,
    bigSep_insert (by decide), bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0 holds its block at every point, whether fetched there or kept from the point before. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1 holds its block at every point, whether fetched there or kept from the point before. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2 holds its block at every point, whether fetched there or kept from the point before. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3 holds its block at every point, whether fetched there or kept from the point before. -/
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4 holds its block at every point, whether fetched there or kept from the point before. -/
theorem before0_4_of (hO : Ok m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The kernel body on any staging memrefs: a subtype the run finds -/

/-- Each window's current staging memref at point `t`, spelled as the pipeline passes it (`bodyAt0`), and its wholeness. -/
abbrev ms0_0 (hO : Ok m) (t : Fin (cfgM m hO).N) : Memref sig .tc .vmem S4096x128 .f32 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x1024x2048 .bf16 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x1x2048 .f32 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S1x1024x1024 .bf16 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S1x1x1024 .f32 := spec0_4.stage ((cfgM m hO).slots t 4)
abbrev hs0_4 (hO : Ok m) (t : Fin (cfgM m hO).N) : (ms0_4 m hO t).IsWhole := hstage0_4 (((cfgM m hO).slots t 4).cast nbuf0_4)
abbrev ms0_5 (hO : Ok m) (t : Fin (cfgM m hO).N) : Memref sig .tc .vmem S4096x128 .f32 := spec0_5.stage ((cfgM m hO).slots t 5)
abbrev hs0_5 (hO : Ok m) (t : Fin (cfgM m hO).N) : (ms0_5 m hO t).IsWhole := hstage0_5 (((cfgM m hO).slots t 5).cast nbuf0_5)

end Cert.ExpertsIdeal.Hand

end
-- ==== Proof.ExpRun.lean ====
/-
  One grid point of the experts' kernel: a block in use goes through its expert's two layers, eight strided stores
  laying each token's columns out in eight rows; a block not in use is set to zero.
-/
module

public import proofs.«01_k».proof.Proof.ExpLaunch
public import Idealize.ShloMosaic.Lib.Pipeline.Value
public import Idealize.ShloMosaic.Lib.Pipeline.ValueKit
public import Idealize.ShloMosaic.Lib.Pointwise

@[expose] public section

set_option maxRecDepth 16384

noncomputable section

namespace Cert.ExpertsIdeal.Hand

open Cert.ExpertsIdeal Cert.ExpertsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

abbrev r0 : LoadRect S4096x128 := ⟨![0, 0], S512x128.size, ![8, 1], inb_S4096x128_S512x128_0_0_s_8_1⟩
abbrev r1 : LoadRect S4096x128 := ⟨![1, 0], S512x128.size, ![8, 1], inb_S4096x128_S512x128_1_0_s_8_1⟩
abbrev r2 : LoadRect S4096x128 := ⟨![2, 0], S512x128.size, ![8, 1], inb_S4096x128_S512x128_2_0_s_8_1⟩
abbrev r3 : LoadRect S4096x128 := ⟨![3, 0], S512x128.size, ![8, 1], inb_S4096x128_S512x128_3_0_s_8_1⟩
abbrev r4 : LoadRect S4096x128 := ⟨![4, 0], S512x128.size, ![8, 1], inb_S4096x128_S512x128_4_0_s_8_1⟩
abbrev r5 : LoadRect S4096x128 := ⟨![5, 0], S512x128.size, ![8, 1], inb_S4096x128_S512x128_5_0_s_8_1⟩
abbrev r6 : LoadRect S4096x128 := ⟨![6, 0], S512x128.size, ![8, 1], inb_S4096x128_S512x128_6_0_s_8_1⟩
abbrev r7 : LoadRect S4096x128 := ⟨![7, 0], S512x128.size, ![8, 1], inb_S4096x128_S512x128_7_0_s_8_1⟩

/-- Lane group `j` of the block's columns: rows `8 r + j`. -/
def part (x : Vec F S4096x128 .f32) (r : LoadRect S4096x128) : r.shape.Idx → F .f32 := fun y => x (r.idx y)

/-- A block through the first product and bias: every row's gates and linear parts. -/
def up (x0 : Vec F S4096x128 .f32) (x1 : Vec F S1x1024x2048 .bf16) (x2 : Vec F S1x1x2048 .f32) : FVec F S512x2048 .f32 :=
  k0_pay5 (part x0 r0) (part x0 r1) (part x0 r2) (part x0 r3) (part x0 r4) (part x0 r5) (part x0 r6) (part x0 r7) x1 x2

/-- The first 128 columns of the activation. -/
def act0 (x0 : Vec F S4096x128 .f32) (x1 : Vec F S1x1024x2048 .bf16) (x2 : Vec F S1x1x2048 .f32) : FVec F S512x128 .f32 :=
  k0_pay6 (part x0 r0) (part x0 r1) (part x0 r2) (part x0 r3) (part x0 r4) (part x0 r5) (part x0 r6) (part x0 r7) x1 x2

/-- A block through its expert's two layers, a row per token. -/
def mlp (x0 : Vec F S4096x128 .f32) (x1 : Vec F S1x1024x2048 .bf16) (x2 : Vec F S1x1x2048 .f32) (x3 : Vec F S1x1024x1024 .bf16) (x4 : Vec F S1x1x1024 .f32) : FVec F S512x1024 .f32 :=
  k0_pay13 (up x0 x1 x2) (act0 x0 x1 x2) (k0_pay7 (up x0 x1 x2)) (k0_pay8 (up x0 x1 x2)) (k0_pay9 (up x0 x1 x2)) (k0_pay10 (up x0 x1 x2))
    (k0_pay11 (up x0 x1 x2)) (k0_pay12 (up x0 x1 x2)) x3 x4

/-- What the kernel stores for a block in use: row `8 r + j` holds columns `128 j …` of token `r`. -/
def outB (x0 : Vec F S4096x128 .f32) (x1 : Vec F S1x1024x2048 .bf16) (x2 : Vec F S1x1x2048 .f32) (x3 : Vec F S1x1024x1024 .bf16) (x4 : Vec F S1x1x1024 .f32) : Vec F S4096x128 .f32 :=
  fun y => mlp x0 x1 x2 x3 x4 (ix2 ⟨(y 0).val / 8, by have : (y 0).val < 4096 := (y 0).isLt; omega⟩
    ⟨(y 0).val % 8 * 128 + (y 1).val, by have : (y 1).val < 128 := (y 1).isLt; omega⟩)

/-- What the kernel leaves at a grid point where `nb` blocks are in use. -/
def outAt (i : grid0.Coords) (nb : BitVec 32) (x0 : Vec F S4096x128 .f32) (x1 : Vec F S1x1024x2048 .bf16) (x2 : Vec F S1x1x2048 .f32) (x3 : Vec F S1x1024x1024 .bf16) (x4 : Vec F S1x1x1024 .f32) : Vec F S4096x128 .f32 :=
  if k0_cond1 i nb = 1#1 then outB x0 x1 x2 x3 x4 else k0_pay4

theorem ix2_eq {n m : ℕ} {a a' : Fin n} {b b' : Fin m} (h : a.val = a'.val) (h' : b.val = b'.val) : ix2 a b = ix2 a' b' := by
  rw [Fin.ext h, Fin.ext h']

/-- A block is either in use or not. -/
theorem cond_or (i : grid0.Coords) (nb : BitVec 32) : k0_cond2 i nb = 1#1 ↔ ¬ k0_cond1 i nb = 1#1 := by
  unfold k0_cond1 k0_cond2
  simp only [Scalar.cmpi, Scalar.extui, WordCmp.cmpi_slt_eq, WordCmp.cmpi_sge_eq]
  by_cases h : (BitVec.ofNat 32 (i 0).val).toInt < nb.toInt
  · have h' : ¬ nb.toInt ≤ (BitVec.ofNat 32 (i 0).val).toInt := by omega
    simp [h, h']; decide
  · have h' : nb.toInt ≤ (BitVec.ofNat 32 (i 0).val).toInt := by omega
    simp [h, h']; decide

open Idealize.ShloMosaic.Pipeline in
/-- The eight strided stores read back. -/
theorem stores_eq (v : View sig .tc .vmem S4096x128 .f32) (f : v.ty.Contents (Elt F)) (G : FVec F S512x1024 .f32)
    (p0 p1 p2 p3 p4 p5 p6 p7 : FVec F S512x128 .f32)
    (h0 : ∀ r l, p0 (ix2 r l) = G (ix2 r ⟨0 * 128 + l.val, by omega⟩)) (h1 : ∀ r l, p1 (ix2 r l) = G (ix2 r ⟨1 * 128 + l.val, by omega⟩))
    (h2 : ∀ r l, p2 (ix2 r l) = G (ix2 r ⟨2 * 128 + l.val, by omega⟩)) (h3 : ∀ r l, p3 (ix2 r l) = G (ix2 r ⟨3 * 128 + l.val, by omega⟩))
    (h4 : ∀ r l, p4 (ix2 r l) = G (ix2 r ⟨4 * 128 + l.val, by omega⟩)) (h5 : ∀ r l, p5 (ix2 r l) = G (ix2 r ⟨5 * 128 + l.val, by omega⟩))
    (h6 : ∀ r l, p6 (ix2 r l) = G (ix2 r ⟨6 * 128 + l.val, by omega⟩)) (h7 : ∀ r l, p7 (ix2 r l) = G (ix2 r ⟨7 * 128 + l.val, by omega⟩)) :
    v.read (Elt F) (v.writes (Elt F) f [⟨⟨r7, spos_8_1⟩, p7⟩, ⟨⟨r6, spos_8_1⟩, p6⟩, ⟨⟨r5, spos_8_1⟩, p5⟩, ⟨⟨r4, spos_8_1⟩, p4⟩,
      ⟨⟨r3, spos_8_1⟩, p3⟩, ⟨⟨r2, spos_8_1⟩, p2⟩, ⟨⟨r1, spos_8_1⟩, p1⟩, ⟨⟨r0, spos_8_1⟩, p0⟩])
      = fun y => G (ix2 ⟨(y 0).val / 8, by have : (y 0).val < 4096 := (y 0).isLt; omega⟩
          ⟨(y 0).val % 8 * 128 + (y 1).val, by have : (y 1).val < 128 := (y 1).isLt; omega⟩) := by
  have hc : ∀ y : S4096x128.Idx, ∃ p ∈ ([⟨⟨r7, spos_8_1⟩, p7⟩, ⟨⟨r6, spos_8_1⟩, p6⟩, ⟨⟨r5, spos_8_1⟩, p5⟩, ⟨⟨r4, spos_8_1⟩, p4⟩,
      ⟨⟨r3, spos_8_1⟩, p3⟩, ⟨⟨r2, spos_8_1⟩, p2⟩, ⟨⟨r1, spos_8_1⟩, p1⟩, ⟨⟨r0, spos_8_1⟩, p0⟩] : List (View.Piece (Elt F) S4096x128 .f32)), y ∈ p.1.set := by
    intro y
    have hy : (y 0).val < 4096 := (y 0).isLt
    have hm : ∀ (j : ℕ) (hi) (hj : (y 0).val % 8 = j), y ∈ (⟨⟨![j, 0], S512x128.size, ![8, 1], hi⟩, spos_8_1⟩ : Rect S4096x128).set := by
      intro j hi hj
      refine (LoadRect.mem_set _).2 fun a => ?_
      fin_cases a
      · exact ⟨(y 0).val / 8, by show (y 0).val / 8 < 512; omega, by show (y 0).val = j + 8 * ((y 0).val / 8); omega⟩
      · exact ⟨(y 1).val, (y 1).isLt, by show (y 1).val = 0 + 1 * (y 1).val; omega⟩
    obtain h | h | h | h | h | h | h | h : (y 0).val % 8 = 0 ∨ (y 0).val % 8 = 1 ∨ (y 0).val % 8 = 2 ∨ (y 0).val % 8 = 3
        ∨ (y 0).val % 8 = 4 ∨ (y 0).val % 8 = 5 ∨ (y 0).val % 8 = 6 ∨ (y 0).val % 8 = 7 := by omega
    · exact ⟨⟨⟨r0, spos_8_1⟩, p0⟩, by simp, hm 0 _ h⟩
    · exact ⟨⟨⟨r1, spos_8_1⟩, p1⟩, by simp, hm 1 _ h⟩
    · exact ⟨⟨⟨r2, spos_8_1⟩, p2⟩, by simp, hm 2 _ h⟩
    · exact ⟨⟨⟨r3, spos_8_1⟩, p3⟩, by simp, hm 3 _ h⟩
    · exact ⟨⟨⟨r4, spos_8_1⟩, p4⟩, by simp, hm 4 _ h⟩
    · exact ⟨⟨⟨r5, spos_8_1⟩, p5⟩, by simp, hm 5 _ h⟩
    · exact ⟨⟨⟨r6, spos_8_1⟩, p6⟩, by simp, hm 6 _ h⟩
    · exact ⟨⟨⟨r7, spos_8_1⟩, p7⟩, by simp, hm 7 _ h⟩
  rw [View.read_writes_eq_canon _ _ _ hc]
  funext y
  refine View.canon_apply_of_pieces (fun y => G (ix2 ⟨(y 0).val / 8, by have : (y 0).val < 4096 := (y 0).isLt; omega⟩
          ⟨(y 0).val % 8 * 128 + (y 1).val, by have : (y 1).val < 128 := (y 1).isLt; omega⟩)) _ ?_ y (hc y)
  have key : ∀ (j : ℕ) (hj : j < 8) (hi) (p : FVec F S512x128 .f32) (hp : ∀ r l, p (ix2 r l) = G (ix2 r ⟨j * 128 + l.val, by omega⟩))
      (x : S512x128.Idx), p x = (fun y : S4096x128.Idx => G (ix2 ⟨(y 0).val / 8, by have : (y 0).val < 4096 := (y 0).isLt; omega⟩
          ⟨(y 0).val % 8 * 128 + (y 1).val, by have : (y 1).val < 128 := (y 1).isLt; omega⟩)) ((⟨⟨![j, 0], S512x128.size, ![8, 1], hi⟩, spos_8_1⟩ : Rect S4096x128).emb x) := by
    intro j hj hi p hp x
    obtain ⟨r, l, rfl⟩ : ∃ (r : Fin 512) (l : Fin 128), x = ix2 r l := ⟨x 0, x 1, by funext a; fin_cases a <;> rfl⟩
    rw [hp]
    have e0 : ((⟨⟨![j, 0], S512x128.size, ![8, 1], hi⟩, spos_8_1⟩ : Rect S4096x128).emb (ix2 r l) 0 : ℕ) = j + 8 * r.val := rfl
    have e1 : ((⟨⟨![j, 0], S512x128.size, ![8, 1], hi⟩, spos_8_1⟩ : Rect S4096x128).emb (ix2 r l) 1 : ℕ) = 0 + 1 * l.val := rfl
    show _ = G _
    congr 1
    refine ix2_eq ?_ ?_
    · show r.val = _ / 8; rw [e0]; omega
    · show j * 128 + l.val = _ % 8 * 128 + _; rw [e0, e1]; omega
  intro p hp
  simp only [List.mem_cons, List.not_mem_nil, or_false] at hp
  rcases hp with rfl | rfl | rfl | rfl | rfl | rfl | rfl | rfl
  · exact key 7 (by omega) _ p7 h7
  · exact key 6 (by omega) _ p6 h6
  · exact key 5 (by omega) _ p5 h5
  · exact key 4 (by omega) _ p4 h4
  · exact key 3 (by omega) _ p3 h3
  · exact key 2 (by omega) _ p2 h2
  · exact key 1 (by omega) _ p1 h1
  · exact key 0 (by omega) _ p0 h0

theorem hz3 : (![0, 0, 0] : Fin 3 → ℕ) = fun _ => 0 := by decide
theorem hz2 : (![0, 0] : Fin 2 → ℕ) = fun _ => 0 := by decide

/-- A whole store read back. -/
theorem whole_store (v : View sig .tc .vmem S4096x128 .f32) (f : v.ty.Contents (Elt F)) (p : FVec F S4096x128 .f32) :
    v.read (Elt F) (v.writes (Elt F) f [⟨Rect.unit (s := S4096x128) ![0, 0] S4096x128.size inb_S4096x128_S4096x128_0_0, p⟩]) = p := by
  have hc : ∀ y : S4096x128.Idx, ∃ q ∈ ([⟨Rect.unit (s := S4096x128) ![0, 0] S4096x128.size inb_S4096x128_S4096x128_0_0, p⟩] : List (View.Piece (Elt F) S4096x128 .f32)), y ∈ q.1.set :=
    fun y => ⟨_, List.mem_cons_self, (LoadRect.mem_set _).2 fun a => ⟨(y a).val, (y a).isLt, by fin_cases a <;> simp [Rect.unit]⟩⟩
  rw [View.read_writes_eq_canon _ _ _ hc, View.canon_cons_unit_zero hz2]

/-- 128 columns of a block at a row and a lane. -/
theorem slice_at (G : FVec F S512x1024 .f32) (o : ℕ) (h : S512x1024.Slices ![0, o] S512x128) (h' : ∀ l : Fin 128, o + l.val < 1024)
    (r : Fin 512) (l : Fin 128) : extractStridedSlice S512x128 ![0, o] G h (ix2 r l) = G (ix2 r ⟨o + l.val, h' l⟩) :=
  extractStridedSlice_apply _ _ _ _ _ fun a => by fin_cases a <;> simp [ix2]

/-- The number of blocks in use, as the kernel reads it off its table. -/
def nbOf (c : Dev nD) (xt1 : TbBuf0 (F := F) c tbM0_1) : BitVec 32 := xt1 (ix1 0)

set_option maxHeartbeats 1000000 in
/-- The kernel body on whole buffers: the inputs kept, the output at `outAt`. -/
theorem body_run (c : Dev nD) (i : grid0.Coords) (arg3 : Memref sig .tc .vmem S4096x128 .f32) (harg3 : arg3.IsWhole) (arg4 : Memref sig .tc .vmem S1x1024x2048 .bf16) (harg4 : arg4.IsWhole) (arg5 : Memref sig .tc .vmem S1x1x2048 .f32) (harg5 : arg5.IsWhole) (arg6 : Memref sig .tc .vmem S1x1024x1024 .bf16) (harg6 : arg6.IsWhole) (arg7 : Memref sig .tc .vmem S1x1x1024 .f32) (harg7 : arg7.IsWhole) (arg8 : Memref sig .tc .vmem S4096x128 .f32) (harg8 : arg8.IsWhole)
    (x0 : Vec F S4096x128 .f32) (x1 : Vec F S1x1024x2048 .bf16) (x2 : Vec F S1x1x2048 .f32) (x3 : Vec F S1x1024x1024 .bf16) (x4 : Vec F S1x1x1024 .f32) (xt0 : TbBuf0 (F := F) c tbM0_0) (xt1 : TbBuf0 (F := F) c tbM0_1) :
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ tbPt0 c tbM0_0 xt0 ∗ tbPt0 c tbM0_1 xt1
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare (outAt i (nbOf c xt1) x0 x1 x2 x3 x4) ∗ tbPt0 c tbM0_0 xt0 ∗ tbPt0 c tbM0_1 xt1) -∗ K ⟨⟩))
          ⊢ wp frame (wpE (defs₀ (F := F)) Variants.none c none) E (cc0_expert_mlp i tbM0_0 htbM0_0 tbM0_1 htbM0_1 arg3 harg3 arg4 harg4 arg5 harg5 arg6 harg6 arg7 harg7 arg8 harg8) K := by
    intro E K
    simp only [cc0_expert_mlp_eq_skeleton]; unfold cc0_expert_mlp_skel
    simp only [k0_part1_eq_skeleton, k0_part2_eq_skeleton, k0_part3_eq_skeleton, k0_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, HT0, HT1, Hk⟩
    obtain rfl := harg3.eq_unread hf0; obtain rfl := harg4.eq_unread hf1; obtain rfl := harg5.eq_unread hf2; obtain rfl := harg6.eq_unread hf3; obtain rfl := harg7.eq_unread hf4
    sl_exec
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; swap; · iexact H5
      ipureintro
      have hn : body_run.sl.r c xt1 = nbOf c xt1 := by
        unfold body_run.sl.r nbOf
        exact congrArg xt1 (funext fun a => by fin_cases a; exact Subsingleton.elim (α := Fin 1) _ _)
      rw [hn]
      unfold outAt
      by_cases hc : k0_cond1 i (nbOf c xt1) = 1#1
      · have hc2 : ¬ k0_cond2 i (nbOf c xt1) = 1#1 := fun h => (cond_or i _).1 h hc
        rw [dif_neg hc2, dif_pos hc, if_pos hc]
        have e3 : ∀ r : LoadRect S4096x128, View.readAt (Elt F) arg3.view r (harg3.unread x0) = part x0 r := fun r =>
          funext fun y => congrFun (harg3.read_unread x0) (r.idx y)
        have e4 : View.readAt (Elt F) arg4.view (Rect.unit ![0, 0, 0] S1x1024x2048.size inb_S1x1024x2048_S1x1024x2048_0_0_0).toLoadRect (harg4.unread x1) = x1 :=
          (View.readAt_eq_ld _ _ _).trans ((View.ld_unit_zero hz3 _ _).trans (harg4.read_unread x1))
        have e5 : View.readAt (Elt F) arg5.view (Rect.unit ![0, 0, 0] S1x1x2048.size inb_S1x1x2048_S1x1x2048_0_0_0).toLoadRect (harg5.unread x2) = x2 :=
          (View.readAt_eq_ld _ _ _).trans ((View.ld_unit_zero hz3 _ _).trans (harg5.read_unread x2))
        have e6 : View.readAt (Elt F) arg6.view (Rect.unit ![0, 0, 0] S1x1024x1024.size inb_S1x1024x1024_S1x1024x1024_0_0_0).toLoadRect (harg6.unread x3) = x3 :=
          (View.readAt_eq_ld _ _ _).trans ((View.ld_unit_zero hz3 _ _).trans (harg6.read_unread x3))
        have e7 : View.readAt (Elt F) arg7.view (Rect.unit ![0, 0, 0] S1x1x1024.size inb_S1x1x1024_S1x1x1024_0_0_0).toLoadRect (harg7.unread x4) = x4 :=
          (View.readAt_eq_ld _ _ _).trans ((View.ld_unit_zero hz3 _ _).trans (harg7.read_unread x4))
        have f1 : body_run.sl.r_1 c arg3 harg3 arg4 harg4 arg5 harg5 x0 x1 x2 = up x0 x1 x2 := by
          unfold body_run.sl.r_1 up; rw [e3, e3, e3, e3, e3, e3, e3, e3, e4, e5]
        have f2 : body_run.sl.r_2 c arg3 harg3 arg4 harg4 arg5 harg5 x0 x1 x2 = act0 x0 x1 x2 := by
          unfold body_run.sl.r_2 act0; rw [e3, e3, e3, e3, e3, e3, e3, e3, e4, e5]
        have f3 : body_run.sl.r_3 c arg3 harg3 arg4 harg4 arg5 harg5 x0 x1 x2 = k0_pay7 (up x0 x1 x2) := by unfold body_run.sl.r_3; rw [f1]
        have f4 : body_run.sl.r_4 c arg3 harg3 arg4 harg4 arg5 harg5 x0 x1 x2 = k0_pay8 (up x0 x1 x2) := by unfold body_run.sl.r_4; rw [f1]
        have f5' : body_run.sl.r_5 c arg3 harg3 arg4 harg4 arg5 harg5 x0 x1 x2 = k0_pay9 (up x0 x1 x2) := by unfold body_run.sl.r_5; rw [f1]
        have f6 : body_run.sl.r_6 c arg3 harg3 arg4 harg4 arg5 harg5 x0 x1 x2 = k0_pay10 (up x0 x1 x2) := by unfold body_run.sl.r_6; rw [f1]
        have f7 : body_run.sl.r_7 c arg3 harg3 arg4 harg4 arg5 harg5 x0 x1 x2 = k0_pay11 (up x0 x1 x2) := by unfold body_run.sl.r_7; rw [f1]
        have f8 : body_run.sl.r_8 c arg3 harg3 arg4 harg4 arg5 harg5 x0 x1 x2 = k0_pay12 (up x0 x1 x2) := by unfold body_run.sl.r_8; rw [f1]
        have f9 : body_run.sl.r_9 c arg3 harg3 arg4 harg4 arg5 harg5 arg6 harg6 arg7 harg7 x0 x1 x2 x3 x4 = mlp x0 x1 x2 x3 x4 := by
          unfold body_run.sl.r_9 mlp; rw [f1, f2, f3, f4, f5', f6, f7, f8, e6, e7]
        have f10 : body_run.sl.r_10 c arg3 harg3 arg4 harg4 arg5 harg5 arg6 harg6 arg7 harg7 x0 x1 x2 x3 x4
            = extractStridedSlice S512x128 ![0, 512] (mlp x0 x1 x2 x3 x4) slices_S512x1024_o0_512_S512x128 := by
          unfold body_run.sl.r_10 mlp; rw [f1, f2, f3, f4, f5', f6, f7, f8, e6, e7]; rfl
        rw [f1, f2, f3, f4, f5', f6, f7, f8, f9, f10, e6, e7]
        refine stores_eq arg8.view f5 (mlp x0 x1 x2 x3 x4) _ _ _ _ _ _ _ _ ?_ ?_ ?_ ?_ ?_ ?_ ?_ ?_
        · exact fun r l => slice_at (mlp x0 x1 x2 x3 x4) 0 slices_S512x1024_o0_0_S512x128 (fun l => by omega) r l
        · exact fun r l => slice_at (mlp x0 x1 x2 x3 x4) 128 slices_S512x1024_o0_128_S512x128 (fun l => by omega) r l
        · exact fun r l => slice_at (mlp x0 x1 x2 x3 x4) 256 slices_S512x1024_o0_256_S512x128 (fun l => by omega) r l
        · exact fun r l => slice_at (mlp x0 x1 x2 x3 x4) 384 slices_S512x1024_o0_384_S512x128 (fun l => by omega) r l
        · exact fun r l => slice_at (mlp x0 x1 x2 x3 x4) 512 slices_S512x1024_o0_512_S512x128 (fun l => by omega) r l
        · exact fun r l => slice_at (mlp x0 x1 x2 x3 x4) 640 slices_S512x1024_o0_640_S512x128 (fun l => by omega) r l
        · exact fun r l => slice_at (mlp x0 x1 x2 x3 x4) 768 slices_S512x1024_o0_768_S512x128 (fun l => by omega) r l
        · exact fun r l => slice_at (mlp x0 x1 x2 x3 x4) 896 slices_S512x1024_o0_896_S512x128 (fun l => by omega) r l
      · have hc2 : k0_cond2 i (nbOf c xt1) = 1#1 := (cond_or i _).2 hc
        rw [dif_pos hc2, if_neg hc]
        exact whole_store arg8.view _ _
    isplitl [HT0]; · iexact HT0
    iexact HT1

end Cert.ExpertsIdeal.Hand

end
-- ==== Proof.ExpFrame.lean ====
/-
  The experts' kernel runs, keeps its arguments, and leaves in its result what the grid points' blocks hold.
-/
module

public import proofs.«01_k».proof.Proof.ExpRun
public import Idealize.ShloMosaic.Lib.Claim
public import Idealize.ShloMosaic.Lib.Pipeline.Value
public import Idealize.ShloMosaic.Lib.Pipeline.ValueKit
public import Idealize.ShloMosaic.Lib.Pointwise

@[expose] public section

set_option maxRecDepth 16384

noncomputable section

namespace Cert.ExpertsIdeal.Hand

open Cert.ExpertsIdeal Cert.ExpertsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The proof data of the one pipeline on core `c`: the arrays as the region finds them (`V`); after the body at
    point `t` each input's buffer at its block and the output's at `outAt` of the input blocks and the blocks in use; the invariant the class's
    (Lib/Pipeline/Frame.lean `ΦA`: the scoped rest and the generator register) and the tables' halves (`ΦT`); nothing owed;
    full shares. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => outAt (grid0.coords t) (nbOf c (tbl m 1)) (iblk m hO c 0 t) (iblk m hO c 1 t) (iblk m hO c 2 t) (iblk m hO c 3 t) (iblk m hO c 4 t)
  Φ _ := iprop(Pipeline.ΦA spec0 c ∗ Pipeline.ΦT pre0 (tbl m) c)
  q _ := fullShare
  owed _ := 0

/-- The proof data's arrays are the region-entry contents: the proof data's definition projected (`dsimp`), so that
    `V` — a fold over @main's host prefix, long for some programs — is never unfolded to check it. -/
theorem A_eq (hO : Ok m) (c : Dev nD) (w : Fin (cfgM m hO).W) : (dats m hO 0 c).A w = V m c (Pipeline.arrRef spec0 w) := by
  dsimp only [dats]

/-- What the body leaves, window by window (the proof data's `match` reduced by `dsimp`). -/
theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t = iblk m hO c 4 t := by dsimp only [dats]; try rfl
theorem after0_5 (hO : Ok m) (c : Dev nD) (t : Fin (cfgM m hO).N) : (dats m hO 0 c).after 5 t = outAt (grid0.coords t) (nbOf c (tbl m 1)) (iblk m hO c 0 t) (iblk m hO c 1 t) (iblk m hO c 2 t) (iblk m hO c 3 t) (iblk m hO c 4 t) := by dsimp only [dats]; try rfl

/-- Each input's current staging buffer holds its block at every point, fetched there or not (`beforeK_W_of`). -/
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d
theorem before0_4 (hO : Ok m) (c : Dev nD) (t : Fin (cfgM m hO).N) (d) : (dats m hO 0 c).before 4 t d = iblk m hO c 4 t :=
  before0_4_of m hO (dats m hO 0 c) (A_eq m hO c 4) (after0_4 m hO c) t d

/-! ## The body obligation, at a generic point -/

/-- What the body is called with at point `t` (Lib/Pipeline.lean `BodyObligation`'s precondition, the windows one by one), -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d))
    ∗ (∃ d, owns (c : Thread nD τ) (ms0_5 m hO t) fullShare ((dats m hO 0 c).before 5 t d)))

/-- and what it returns. -/
def bodyPost (hO : Ok m) (c : Dev nD) (t : Fin (cfgM m hO).N) : sProp 𝕄 :=
  iprop((dats m hO 0 c).Φ t.succ ∗ (dats m hO 0 c).owesAt () t.succ
    ∗ owns (c : Thread nD τ) (ms0_0 m hO t) fullShare ((dats m hO 0 c).after 0 t)
    ∗ owns (c : Thread nD τ) (ms0_1 m hO t) fullShare ((dats m hO 0 c).after 1 t)
    ∗ owns (c : Thread nD τ) (ms0_2 m hO t) fullShare ((dats m hO 0 c).after 2 t)
    ∗ owns (c : Thread nD τ) (ms0_3 m hO t) fullShare ((dats m hO 0 c).after 3 t)
    ∗ owns (c : Thread nD τ) (ms0_4 m hO t) fullShare ((dats m hO 0 c).after 4 t)
    ∗ owns (c : Thread nD τ) (ms0_5 m hO t) fullShare ((dats m hO 0 c).after 5 t))

/-- The body at any point: the inputs' memrefs hold their blocks (`before0_W`); so the
    run applies; the invariant passes through unread; the core owes nothing throughout. -/
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3, before0_4]
  rw [show (dats m hO 0 c).Φ t.succ = (dats m hO 0 c).Φ t.castSucc from rfl,
    show (dats m hO 0 c).owesAt () t.succ = (dats m hO 0 c).owesAt () t.castSucc from rfl,
    after0_0, after0_1, after0_2, after0_3, after0_4, after0_5]
  rw [show (dats m hO 0 c).Φ t.castSucc = iprop(Pipeline.ΦA spec0 c ∗ Pipeline.ΦT pre0 (tbl m) c) from rfl, PhiT0_eq]
  iintro ⟨⟨HΦ, ⟨HT0, HT1⟩⟩, Ho, ⟨%d0, H0⟩, ⟨%d1, H1⟩, ⟨%d2, H2⟩, ⟨%d3, H3⟩, ⟨%d4, H4⟩, ⟨%d5, H5⟩⟩
  iapply ((body_run c (grid0.coords t) _ _ _ _ _ _ _ _ _ _ _ _ (iblk m hO c 0 t) (iblk m hO c 1 t) (iblk m hO c 2 t) (iblk m hO c 3 t) (iblk m hO c 4 t) (tbl m 0) (tbl m 1)) Set.univ _)
  isplitl [H0]; · iexact H0
  isplitl [H1]; · iexact H1
  isplitl [H2]; · iexact H2
  isplitl [H3]; · iexact H3
  isplitl [H4]; · iexact H4
  isplitl [H5]; · iexists _; iexact H5
  isplitl [HT0]; · iexact HT0
  isplitl [HT1]; · iexact HT1
  iintro ⟨H0, H1, H2, H3, H4, H5, HT0, HT1⟩
  isplitl [HΦ HT0 HT1]
  · isplitl [HΦ]
    · iexact HΦ
    isplitl [HT0]; · iexact HT0
    iexact HT1
  isplitl [Ho]; · iexact Ho
  isplitl [H0]; · iexact H0
  isplitl [H1]; · iexact H1
  isplitl [H2]; · iexact H2
  isplitl [H3]; · iexact H3
  isplitl [H4]; · iexact H4
  iexact H5

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- At every point the kernel stores into its output block: the block is in use or it is not. -/
theorem idle5 (hO : Ok m) (t : Fin (cfgM m hO).N) : (cfgM m hO).idle 5 ((cfgM m hO).grid.coords t) = false := by
  show (!(k0_cond1 (grid0.coords t) ((tbl m).atD 1 ![0]) == 1#1) && !(k0_cond2 (grid0.coords t) ((tbl m).atD 1 ![0]) == 1#1)) = false
  by_cases h : k0_cond1 (grid0.coords t) ((tbl m).atD 1 ![0]) = 1#1
  · simp [h]
  · simp [(cond_or _ _).2 h]

/-- So the output's buffer is handed back at what the kernel stored. -/
theorem leaves5 (hO : Ok m) (c : Dev nD) (t : Fin (cfgM m hO).N) :
    (dats m hO 0 c).leavesExact 5 t = owns (c : Thread nD τ) (((cfgM m hO).win 5).stage ((cfgM m hO).slots t 5)) fullShare ((dats m hO 0 c).after 5 t) := by
  unfold Dat.leavesExact; rw [idle5 m hO t]

/-- The library's body obligation, at every point. -/
theorem body_obligation (hO : Ok m) (c : Dev nD) : BodyObligation (dats (F := F) m hO 0 c) (defs₀ (F := F)) Variants.none () Set.univ := fun t => by
  rw [bigSep_W0, bigSep_W0, defs₀_row m hO]
  refine triple_restated (sound_body m hO c t) rfl .rfl fun _ => ?_
  show bodyPost m hO c t ⊢ iprop((dats m hO 0 c).Φ t.succ ∗ (dats m hO 0 c).owesAt () t.succ
    ∗ owns (c : Thread nD τ) (ms0_0 m hO t) fullShare ((dats m hO 0 c).after 0 t)
    ∗ owns (c : Thread nD τ) (ms0_1 m hO t) fullShare ((dats m hO 0 c).after 1 t)
    ∗ owns (c : Thread nD τ) (ms0_2 m hO t) fullShare ((dats m hO 0 c).after 2 t)
    ∗ owns (c : Thread nD τ) (ms0_3 m hO t) fullShare ((dats m hO 0 c).after 3 t)
    ∗ owns (c : Thread nD τ) (ms0_4 m hO t) fullShare ((dats m hO 0 c).after 4 t)
    ∗ (dats m hO 0 c).leavesExact 5 t)
  rw [leaves5]
  exact .rfl

set_option backward.isDefEq.respectTransparency.types false in
set_option maxHeartbeats 800000 in
/-- The launch: every execution ends, with every array at what the pipeline computes and no semaphore pending. -/
theorem run_main_quiescent (hO : Ok m) : θ_run defs (onTc (τ := τ) (main (F := F))) (s₀ m ρ)
    (fun r => Pipeline.FramePost (Pipeline.pin pcfgs fun _ => adm m hO) (dats m hO) 0 (V m) r ∧ r.2.sem = fun _ => 0) :=
  Pipeline.θ_run_frameP (Q' := _) pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V := V m) (hmain := hmain m Variants.none) (hA := A_eq m hO) (hpf := V_pre m) (hΦ := fun _ _ => rfl)

/-- The launch with the result named, the arguments as they were. -/
theorem run_value (hO : Ok m) : θ_run defs (onTc (τ := τ) (main (F := F))) ⟨m, fun _ => 0, ρ⟩ (fun r => (∀ c : Dev nD,
      r.2.mem ((c.tc : Thread nD τ).loc main_v0) = (dats m hO 0 c).arrAt 5 (cfgM m hO).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun r h => ⟨fun c => ⟨(h.1 c).1 5,
      ((h.1 c).1 0).trans (((dats m hO 0 c).arrAt_in 0 rfl _).trans ((A_eq m hO c 0).trans (V_main_arg0 m c))),
      ((h.1 c).2 main_arg1 (by decide : main_arg1 ∈ Pipeline.restRefs sig spec0)).trans (V_main_arg1 m c),
      ((h.1 c).2 main_arg2 (by decide : main_arg2 ∈ Pipeline.restRefs sig spec0)).trans (V_main_arg2 m c),
      ((h.1 c).1 1).trans (((dats m hO 0 c).arrAt_in 1 rfl _).trans ((A_eq m hO c 1).trans (V_main_arg3 m c))),
      ((h.1 c).1 2).trans (((dats m hO 0 c).arrAt_in 2 rfl _).trans ((A_eq m hO c 2).trans (V_main_arg4 m c))),
      ((h.1 c).1 3).trans (((dats m hO 0 c).arrAt_in 3 rfl _).trans ((A_eq m hO c 3).trans (V_main_arg5 m c))),
      ((h.1 c).1 4).trans (((dats m hO 0 c).arrAt_in 4 rfl _).trans ((A_eq m hO c 4).trans (V_main_arg6 m c)))⟩, h.2⟩)
    (run_main_quiescent m ρ hO)

/-- The arguments are kept, and no semaphore is pending at the end. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun _ h => ⟨fun c => (h.1 c).2, h.2⟩) (run_value m ρ hO)

end Cert.ExpertsIdeal.Hand

end
-- ==== Proof.ExpOk.lean ====
/-
  Where the experts' windows stand: each weight and bias window at its block's expert; and, the experts being in range,
  that every window stands inside its array.
-/
module

public import proofs.«01_k».proof.Proof.ExpFrame

@[expose] public section

set_option maxRecDepth 16384

noncomputable section

namespace Cert.ExpertsIdeal.Hand

open Cert.ExpertsIdeal Cert.ExpertsIdeal.Gen
open Idealize.ShloMosaic Idealize.ShloMosaic.TcCoe

variable {F : FTy → Type} [FloatOps F]
variable (m : (ℓ : Loc nD τ sig) → Buf (Elt F) ℓ)

/-- The expert of a grid point's block. -/
def eOf (b : Fin 288) : ℕ := BitVec.toNat (w := 32) (tbl m 0 (ix1 b))

theorem word (i : grid0.Coords) : (tbl m).at 0 (Rect.unit (s := S288) ![(Scalar.indexCast (BitVec.ofNat 32 (i 0).val) : Index).toNat] S1.size (Facts₀.k0_off1_inb i)) Facts₀.numel1_S1
    = tbl m 0 (ix1 (i 0)) := by
  refine congrArg (tbl m 0) (funext fun a => ?_)
  fin_cases a
  refine Fin.ext ?_
  have h : (i 0).val < 288 := (i 0).isLt
  have e : (BitVec.ofNat 32 (i 0).val).toNat = (i 0).val := by rw [BitVec.toNat_ofNat]; omega
  refine (congrArg₂ (· + ·) e (?_ : _ = 0)).trans (Nat.add_zero _)
  have z : ∀ y : Fin 1, 1 * y.val = 0 := by decide
  exact z _

theorem tr1 (i : grid0.Coords) : cc0_transform_1 Facts₀.k0_off1_inb Facts₀.numel1_S1 (tbl m) i = ![eOf m (i 0), 0, 0] :=
  congrArg (fun w : BitVec 32 => ![w.toNat, 0, 0]) (word m i)
theorem tr2 (i : grid0.Coords) : cc0_transform_2 Facts₀.k0_off1_inb Facts₀.numel1_S1 (tbl m) i = ![eOf m (i 0), 0, 0] :=
  congrArg (fun w : BitVec 32 => ![w.toNat, 0, 0]) (word m i)
theorem tr3 (i : grid0.Coords) : cc0_transform_3 Facts₀.k0_off1_inb Facts₀.numel1_S1 (tbl m) i = ![eOf m (i 0), 0, 0] :=
  congrArg (fun w : BitVec 32 => ![w.toNat, 0, 0]) (word m i)
theorem tr4 (i : grid0.Coords) : cc0_transform_4 Facts₀.k0_off1_inb Facts₀.numel1_S1 (tbl m) i = ![eOf m (i 0), 0, 0] :=
  congrArg (fun w : BitVec 32 => ![w.toNat, 0, 0]) (word m i)

/-- With every expert in range, every window stands inside its array and moves whole words. -/
theorem ok_of (h : ∀ b : Fin 288, eOf m b < 32) : Ok m := by
  refine ⟨fun i => ⟨fun a => ?_, .inr ?_⟩, fun i => ⟨fun a => ?_, .inl rfl⟩, fun i => ⟨fun a => ?_, .inr ?_⟩, fun i => ⟨fun a => ?_, .inl rfl⟩⟩
  · rw [tr1]; have := h (i 0); fin_cases a
    · show (eOf m (i 0) + 1) * 1 ≤ 32; omega
    · show (0 + 1) * 1024 ≤ 1024; omega
    · show (0 + 1) * 2048 ≤ 2048; omega
  · refine Affine.words_rows (by decide) ?_ rfl
    show cc0_transform_1 Facts₀.k0_off1_inb Facts₀.numel1_S1 (tbl m) i 1 * 1024 = 0
    rw [tr1]; rfl
  · rw [tr2]; have := h (i 0); fin_cases a
    · show (eOf m (i 0) + 1) * 1 ≤ 32; omega
    · show (0 + 1) * 1 ≤ 1; omega
    · show (0 + 1) * 2048 ≤ 2048; omega
  · rw [tr3]; have := h (i 0); fin_cases a
    · show (eOf m (i 0) + 1) * 1 ≤ 32; omega
    · show (0 + 1) * 1024 ≤ 1024; omega
    · show (0 + 1) * 1024 ≤ 1024; omega
  · refine Affine.words_rows (by decide) ?_ rfl
    show cc0_transform_3 Facts₀.k0_off1_inb Facts₀.numel1_S1 (tbl m) i 1 * 1024 = 0
    rw [tr3]; rfl
  · rw [tr4]; have := h (i 0); fin_cases a
    · show (eOf m (i 0) + 1) * 1 ≤ 32; omega
    · show (0 + 1) * 1 ≤ 1; omega
    · show (0 + 1) * 1024 ≤ 1024; omega

end Cert.ExpertsIdeal.Hand

end
-- ==== Proof.ExpPre.lean ====
/-
  The precondition on the blocks' experts, read at one block: its expert's number is below 32.
-/
module

public import proofs.«01_k».proof.Proof.Gen.Pre_expert_of_block
public import proofs.«01_k».proof.Proof.Finite
public import Idealize.ShloMosaic.Lib.ReduceAll

@[expose] public section

noncomputable section

namespace Cert.ExpPre

open Cert.Pre_expert_of_block Idealize.ShloMosaic Idealize.SL.Sem

theorem both (w : BitVec 32) (h : IntOp.andi (IntOp.cmpi .sge w 0#32) (IntOp.cmpi .slt w 32#32) = 1#1) : w.toNat < 32 := by
  obtain ⟨h0, h1⟩ := Finite.andi_one _ _ h
  have h0' : (0#32).sle w = true := by
    by_contra hc; simp only [Bool.not_eq_true] at hc; simp [IntOp.cmpi, hc] at h0
  have h1' : w.slt 32#32 = true := by
    by_contra hc; simp only [Bool.not_eq_true] at hc; simp [IntOp.cmpi, hc] at h1
  rw [BitVec.sle_iff_toInt_le] at h0'
  rw [BitVec.slt_iff_toInt_lt] at h1'
  have e := BitVec.toInt_eq_toNat_cond w
  have hw := w.isLt
  have z0 : (0#32).toInt = 0 := by decide
  have z1 : (32#32).toInt = 32 := by decide
  rw [z0] at h0'; rw [z1] at h1'
  split at e <;> omega

variable [Facts] {F : FTy → Type} [FloatOps F]

theorem range (x0 : FVec F S1179648x128 .f32) (x1 : IVec S288 32) (x2 : IVec S1 32) (x3 : FVec F S32x1024x2048 .bf16)
    (x4 : FVec F S32x1x2048 .f32) (x5 : FVec F S32x1024x1024 .bf16) (x6 : FVec F S32x1x1024 .f32)
    (h : fn x0 x1 x2 x3 x4 x5 x6 = fun _ => 1#1) (b : Fin 288) : (x1 (ix1 b)).toNat < 32 := by
  have : Subsingleton (S_ : Shape).Idx := ⟨fun a b => funext fun x => x.elim0⟩
  exact both _ (Host.reduce_andi_all _ _ _ _ _ (congrFun h fun a => a.elim0) (ix1 b))

end Cert.ExpPre

end
-- ==== Proof.ExpBits.lean ====
/-
  The program at bit patterns is the program at extended reals with the other carrier, so the frame proved once for every carrier is the frame of both.
-/
module

public import proofs.«01_k».proof.Defs
public import proofs.«01_k».proof.Proof.ExpOk
public import proofs.«01_k».proof.Proof.ExpPre
public import proofs.«01_k».proof.Proof.Gen.Pre_expert_of_block
public import proofs.«01_k».proof.Proof.Gen.Experts.Launch

@[expose] public section

set_option maxRecDepth 16384

namespace Cert.ExpBits

open Idealize.ShloMosaic Idealize.SL.Sem

local instance : Cert.Pre_expert_of_block.Facts := Cert.Pre_expert_of_block.Gen.facts
local instance : Cert.Experts.Facts := Cert.Experts.Gen.facts
local instance : Cert.ExpertsIdeal.Facts := Cert.ExpertsIdeal.Gen.facts

variable {F : FTy → Type} [FloatOps F]

theorem calls_eq : Experts.defs₀ (F := F) = ExpertsIdeal.defs₀ := by
  unfold Experts.defs₀ ExpertsIdeal.defs₀
  refine congrArg Defs.onTc (funext fun l => funext fun x => ?_)
  match l, x with
  | 0, (t, s) => rfl
  | ⟨_ + 1, h⟩, _ => exact absurd h (Nat.not_lt.2 (Nat.le_add_left _ _))

theorem defs_eq : Experts.defs (F := F) = ExpertsIdeal.defs := by
  unfold Experts.defs ExpertsIdeal.defs
  exact congrArg (Pipeline.defs ExpertsIdeal.pcfgs) calls_eq

theorem frame : Cert.quiescent_Experts (hExperts := Cert.Experts.Gen.facts) := fun m ρ hp => by
  have h := Cert.ExpertsIdeal.Hand.frame (F := Bits) m ρ (Cert.ExpertsIdeal.Hand.ok_of m fun b => ExpPre.range _ _ _ _ _ _ _ (hp 0) b)
  rw [← defs_eq] at h
  exact h

end Cert.ExpBits

end
-- ==== Proof.ExpBlock.lean ====
/-
  One block of tokens through its expert: the kernel's chain of operations at a row and a column.
-/
module

public import proofs.«01_k».proof.Proof.ExpRun

@[expose] public section

set_option maxRecDepth 16384

noncomputable section

namespace Cert.ExpKer

open Cert.ExpertsIdeal Cert.ExpertsIdeal.Gen Cert.ExpertsIdeal.Hand Idealize.ShloMosaic Idealize.SL.Sem

/-- The clamped gated unit of a gate and a linear part. -/
def swiglu (g l : EReal) : EReal :=
  min g (Ideal.ofBits FTy.f32 0x40E00000#32)
    * Ideal.logistic (Ideal.ofBits FTy.f32 0x3FD9DB23#32 * min g (Ideal.ofBits FTy.f32 0x40E00000#32))
    * (min (Ideal.ofBits FTy.f32 0x40E00000#32) (max (Ideal.ofBits FTy.f32 0xC0E00000#32) l) + Ideal.ofBits FTy.f32 0x3F800000#32)

theorem part_idx (i : S4096x128.Idx) (r : Fin 512) (l : Fin 128) (a : Fin 4096) (h0 : (i 0).val = a.val) (h1 : (i 1).val = l.val) : i = ix2 a l := by
  funext d; fin_cases d
  · exact Fin.ext h0
  · exact Fin.ext h1

theorem part0 (x : Vec Ideal S4096x128 .f32) (r : Fin 512) (l : Fin 128) : part x r0 (ix2 r l) = x (ix2 ⟨r.val * 8 + 0, by omega⟩ l) :=
  congrArg x (part_idx _ r l _ (by show 0 + 8 * r.val = r.val * 8 + 0; omega) (by show 0 + 1 * l.val = _; omega))
theorem part1 (x : Vec Ideal S4096x128 .f32) (r : Fin 512) (l : Fin 128) : part x r1 (ix2 r l) = x (ix2 ⟨r.val * 8 + 1, by omega⟩ l) :=
  congrArg x (part_idx _ r l _ (by show 1 + 8 * r.val = r.val * 8 + 1; omega) (by show 0 + 1 * l.val = _; omega))
theorem part2 (x : Vec Ideal S4096x128 .f32) (r : Fin 512) (l : Fin 128) : part x r2 (ix2 r l) = x (ix2 ⟨r.val * 8 + 2, by omega⟩ l) :=
  congrArg x (part_idx _ r l _ (by show 2 + 8 * r.val = r.val * 8 + 2; omega) (by show 0 + 1 * l.val = _; omega))
theorem part3 (x : Vec Ideal S4096x128 .f32) (r : Fin 512) (l : Fin 128) : part x r3 (ix2 r l) = x (ix2 ⟨r.val * 8 + 3, by omega⟩ l) :=
  congrArg x (part_idx _ r l _ (by show 3 + 8 * r.val = r.val * 8 + 3; omega) (by show 0 + 1 * l.val = _; omega))
theorem part4 (x : Vec Ideal S4096x128 .f32) (r : Fin 512) (l : Fin 128) : part x r4 (ix2 r l) = x (ix2 ⟨r.val * 8 + 4, by omega⟩ l) :=
  congrArg x (part_idx _ r l _ (by show 4 + 8 * r.val = r.val * 8 + 4; omega) (by show 0 + 1 * l.val = _; omega))
theorem part5 (x : Vec Ideal S4096x128 .f32) (r : Fin 512) (l : Fin 128) : part x r5 (ix2 r l) = x (ix2 ⟨r.val * 8 + 5, by omega⟩ l) :=
  congrArg x (part_idx _ r l _ (by show 5 + 8 * r.val = r.val * 8 + 5; omega) (by show 0 + 1 * l.val = _; omega))
theorem part6 (x : Vec Ideal S4096x128 .f32) (r : Fin 512) (l : Fin 128) : part x r6 (ix2 r l) = x (ix2 ⟨r.val * 8 + 6, by omega⟩ l) :=
  congrArg x (part_idx _ r l _ (by show 6 + 8 * r.val = r.val * 8 + 6; omega) (by show 0 + 1 * l.val = _; omega))
theorem part7 (x : Vec Ideal S4096x128 .f32) (r : Fin 512) (l : Fin 128) : part x r7 (ix2 r l) = x (ix2 ⟨r.val * 8 + 7, by omega⟩ l) :=
  congrArg x (part_idx _ r l _ (by show 7 + 8 * r.val = r.val * 8 + 7; omega) (by show 0 + 1 * l.val = _; omega))

/-- A block through the first product and bias, at a row and a column. -/
theorem up_at (x0 : Vec Ideal S4096x128 .f32) (x1 : Vec Ideal S1x1024x2048 .bf16) (x2 : Vec Ideal S1x1x2048 .f32) (r : Fin 512) (f : Fin 2048) :
    up x0 x1 x2 (ix2 r f) = (∑ k : Fin 1024, x0 (ix2 ⟨r.val * 8 + k.val / 128, by omega⟩ ⟨k.val % 128, by omega⟩) * x1 (ix3 0 k f)) + x2 (ix3 0 0 f) := by
  unfold up
  unfold_payloads
  pointwise [dot_S512x1024_S1024x2048_S512x2048_1_0_0_1_n_n]
  refine congrArg (· + _) (Finset.sum_congr rfl fun k _ => congrArg (· * _) ?_)
  have hk := k.isLt
  simp only [part0, part1, part2, part3, part4, part5, part6, part7]
  split_ifs <;> exact congrArg x0 (ix2_eq (by show _ = r.val * 8 + k.val / 128; simp only []; omega) (by show _ = k.val % 128; simp only []; omega))

theorem act0_at (x0 : Vec Ideal S4096x128 .f32) (x1 : Vec Ideal S1x1024x2048 .bf16) (x2 : Vec Ideal S1x1x2048 .f32) (r : Fin 512) (l : Fin 128) :
    act0 x0 x1 x2 (ix2 r l) = swiglu (up x0 x1 x2 (ix2 r ⟨l.val, by omega⟩)) (up x0 x1 x2 (ix2 r ⟨128 + l.val, by omega⟩)) := by
  have e : act0 x0 x1 x2 = k0_pay6 (part x0 r0) (part x0 r1) (part x0 r2) (part x0 r3) (part x0 r4) (part x0 r5) (part x0 r6) (part x0 r7) x1 x2 := rfl
  rw [e]
  unfold k0_pay6
  rw [show k0_pay5 (part x0 r0) (part x0 r1) (part x0 r2) (part x0 r3) (part x0 r4) (part x0 r5) (part x0 r6) (part x0 r7) x1 x2 = up x0 x1 x2 from rfl]
  generalize up x0 x1 x2 = u
  unfold swiglu
  pointwise

theorem act1_at (u : FVec Ideal S512x2048 .f32) (r : Fin 512) (l : Fin 128) :
    k0_pay7 u (ix2 r l) = swiglu (u (ix2 r ⟨256 + l.val, by omega⟩)) (u (ix2 r ⟨384 + l.val, by omega⟩)) := by
  unfold k0_pay7 swiglu
  pointwise

theorem act2_at (u : FVec Ideal S512x2048 .f32) (r : Fin 512) (l : Fin 128) :
    k0_pay8 u (ix2 r l) = swiglu (u (ix2 r ⟨512 + l.val, by omega⟩)) (u (ix2 r ⟨640 + l.val, by omega⟩)) := by
  unfold k0_pay8 swiglu
  pointwise

theorem act3_at (u : FVec Ideal S512x2048 .f32) (r : Fin 512) (l : Fin 128) :
    k0_pay9 u (ix2 r l) = swiglu (u (ix2 r ⟨768 + l.val, by omega⟩)) (u (ix2 r ⟨896 + l.val, by omega⟩)) := by
  unfold k0_pay9 swiglu
  pointwise

theorem act4_at (u : FVec Ideal S512x2048 .f32) (r : Fin 512) (l : Fin 128) :
    k0_pay10 u (ix2 r l) = swiglu (u (ix2 r ⟨1024 + l.val, by omega⟩)) (u (ix2 r ⟨1152 + l.val, by omega⟩)) := by
  unfold k0_pay10 swiglu
  pointwise

theorem act5_at (u : FVec Ideal S512x2048 .f32) (r : Fin 512) (l : Fin 128) :
    k0_pay11 u (ix2 r l) = swiglu (u (ix2 r ⟨1280 + l.val, by omega⟩)) (u (ix2 r ⟨1408 + l.val, by omega⟩)) := by
  unfold k0_pay11 swiglu
  pointwise

theorem act6_at (u : FVec Ideal S512x2048 .f32) (r : Fin 512) (l : Fin 128) :
    k0_pay12 u (ix2 r l) = swiglu (u (ix2 r ⟨1536 + l.val, by omega⟩)) (u (ix2 r ⟨1664 + l.val, by omega⟩)) := by
  unfold k0_pay12 swiglu
  pointwise

/-- The activation at a row and a column: the gates' and the linear parts' columns alternate by 128. -/
def act (u : FVec Ideal S512x2048 .f32) (r : Fin 512) (k : Fin 1024) : EReal :=
  swiglu (u (ix2 r ⟨k.val / 128 * 256 + k.val % 128, by omega⟩)) (u (ix2 r ⟨k.val / 128 * 256 + 128 + k.val % 128, by omega⟩))

theorem act_eq (u : FVec Ideal S512x2048 .f32) (r : Fin 512) (k : Fin 1024) (a b : Fin 2048)
    (ha : a.val = k.val / 128 * 256 + k.val % 128) (hb : b.val = k.val / 128 * 256 + 128 + k.val % 128) :
    swiglu (u (ix2 r a)) (u (ix2 r b)) = act u r k := by
  unfold act
  exact congrArg₂ (fun a b => swiglu (u (ix2 r a)) (u (ix2 r b))) (Fin.ext ha) (Fin.ext hb)

/-- The second product and bias over any activation, its last 128 columns computed where they are used. -/
theorem second_at (u : FVec Ideal S512x2048 .f32) (v0 v1 v2 v3 v4 v5 v6 : FVec Ideal S512x128 .f32) (x3 : Vec Ideal S1x1024x1024 .bf16) (x4 : Vec Ideal S1x1x1024 .f32)
    (r : Fin 512) (d : Fin 1024) (a : Fin 1024 → EReal)
    (h0 : ∀ l : Fin 128, v0 (ix2 r l) = a ⟨0 + l.val, by omega⟩) (h1 : ∀ l : Fin 128, v1 (ix2 r l) = a ⟨128 + l.val, by omega⟩) (h2 : ∀ l : Fin 128, v2 (ix2 r l) = a ⟨256 + l.val, by omega⟩) (h3 : ∀ l : Fin 128, v3 (ix2 r l) = a ⟨384 + l.val, by omega⟩) (h4 : ∀ l : Fin 128, v4 (ix2 r l) = a ⟨512 + l.val, by omega⟩) (h5 : ∀ l : Fin 128, v5 (ix2 r l) = a ⟨640 + l.val, by omega⟩) (h6 : ∀ l : Fin 128, v6 (ix2 r l) = a ⟨768 + l.val, by omega⟩)
    (h7 : ∀ l : Fin 128, swiglu (u (ix2 r ⟨1792 + l.val, by omega⟩)) (u (ix2 r ⟨1920 + l.val, by omega⟩)) = a ⟨896 + l.val, by omega⟩) :
    k0_pay13 u v0 v1 v2 v3 v4 v5 v6 x3 x4 (ix2 r d) = (∑ k : Fin 1024, a k * x3 (ix3 0 k d)) + x4 (ix3 0 0 d) := by
  unfold swiglu at h7
  rw [Ideal.ofBits_one_f32] at h7
  unfold k0_pay13
  pointwise [dot_S512x1024_S1024x1024_S512x1024_1_0_0_1_n_n]
  refine congrArg (· + _) (Finset.sum_congr rfl fun k _ => congrArg (· * _) ?_)
  have hk := k.isLt
  simp only [h0, h1, h2, h3, h4, h5, h6]
  split_ifs <;> first
    | exact congrArg a (Fin.ext (by simp only []; omega))
    | exact (h7 ⟨k.val - 128 - 128 - 128 - 128 - 128 - 128 - 128, by omega⟩).trans (congrArg a (Fin.ext (by simp only []; omega)))

/-- A block through both layers, at a row and a column. -/
theorem mlp_at (x0 : Vec Ideal S4096x128 .f32) (x1 : Vec Ideal S1x1024x2048 .bf16) (x2 : Vec Ideal S1x1x2048 .f32)
    (x3 : Vec Ideal S1x1024x1024 .bf16) (x4 : Vec Ideal S1x1x1024 .f32) (r : Fin 512) (d : Fin 1024) :
    mlp x0 x1 x2 x3 x4 (ix2 r d) = (∑ k : Fin 1024, act (up x0 x1 x2) r k * x3 (ix3 0 k d)) + x4 (ix3 0 0 d) := by
  unfold mlp
  refine second_at _ _ _ _ _ _ _ _ x3 x4 r d _ (fun l => ?_) (fun l => ?_) (fun l => ?_) (fun l => ?_) (fun l => ?_) (fun l => ?_) (fun l => ?_) (fun l => ?_)
  · rw [act0_at]; exact act_eq _ _ _ _ _ (by simp only []; omega) (by simp only []; omega)
  · rw [act1_at]; exact act_eq _ _ _ _ _ (by simp only []; omega) (by simp only []; omega)
  · rw [act2_at]; exact act_eq _ _ _ _ _ (by simp only []; omega) (by simp only []; omega)
  · rw [act3_at]; exact act_eq _ _ _ _ _ (by simp only []; omega) (by simp only []; omega)
  · rw [act4_at]; exact act_eq _ _ _ _ _ (by simp only []; omega) (by simp only []; omega)
  · rw [act5_at]; exact act_eq _ _ _ _ _ (by simp only []; omega) (by simp only []; omega)
  · rw [act6_at]; exact act_eq _ _ _ _ _ (by simp only []; omega) (by simp only []; omega)
  · exact act_eq _ _ _ _ _ (by simp only []; omega) (by simp only []; omega)

end Cert.ExpKer

end
-- ==== Proof.ExpArr.lean ====
/-
  What the experts' result array holds after the run: each row's block of tokens through its expert's two layers, zero in
  the blocks not in use.
-/
module

public import proofs.«01_k».proof.Proof.ExpOk
public import proofs.«01_k».proof.Proof.ExpBlock
public import Idealize.ShloMosaic.Lib.Pipeline.Covers

@[expose] public section

set_option maxRecDepth 16384

noncomputable section

namespace Cert.ExpKer

open Cert.ExpertsIdeal Cert.ExpertsIdeal.Gen Cert.ExpertsIdeal.Hand Idealize.ShloMosaic Idealize.ShloMosaic.TcCoe Idealize.ShloMosaic.Pipeline Idealize.SL.Sem

/-- Where the windows stand at each grid point. -/
theorem coord : ∀ t : Fin grid0.N, (grid0.coords t 0).val = t.val := by decide +kernel

variable (m : (ℓ : Loc nD τ sig) → Buf (Elt Ideal) ℓ) (c : Dev nD)

theorem in_use (i : grid0.Coords) (nb : BitVec 32) : (k0_cond1 i nb = 1#1) ↔ (BitVec.ofNat 32 (i 0).val).slt nb = true := by
  unfold k0_cond1
  simp only [Scalar.cmpi, Scalar.extui, IntOp.cmpi]
  cases (BitVec.ofNat 32 (i 0).val).slt nb <;> decide

/-- A token's activation at column `k`, from its row of `X` and its expert's first layer. -/
def actOf (X : Vec Ideal S1179648x128 .f32) (W1 : Vec Ideal S32x1024x2048 .bf16) (B1 : Vec Ideal S32x1x2048 .f32) (e : Fin 32) (T : Fin 147456) (k : Fin 1024) : EReal :=
  swiglu ((∑ k' : Fin 1024, X (ix2 ⟨T.val * 8 + k'.val / 128, by omega⟩ ⟨k'.val % 128, by omega⟩) * W1 (ix3 e k' ⟨k.val / 128 * 256 + k.val % 128, by omega⟩)) + B1 (ix3 e 0 ⟨k.val / 128 * 256 + k.val % 128, by omega⟩))
    ((∑ k' : Fin 1024, X (ix2 ⟨T.val * 8 + k'.val / 128, by omega⟩ ⟨k'.val % 128, by omega⟩) * W1 (ix3 e k' ⟨k.val / 128 * 256 + 128 + k.val % 128, by omega⟩)) + B1 (ix3 e 0 ⟨k.val / 128 * 256 + 128 + k.val % 128, by omega⟩))

/-- The result at token `T` and column `d`, through expert `e`. -/
def tok (X : Vec Ideal S1179648x128 .f32) (W1 : Vec Ideal S32x1024x2048 .bf16) (B1 : Vec Ideal S32x1x2048 .f32)
    (W2 : Vec Ideal S32x1024x1024 .bf16) (B2 : Vec Ideal S32x1x1024 .f32) (e : Fin 32) (T : Fin 147456) (d : Fin 1024) : EReal :=
  (∑ k : Fin 1024, actOf X W1 B1 e T k * W2 (ix3 e k d)) + B2 (ix3 e 0 d)

/-- The whole result: zero in the blocks not in use. -/
def experts (X : Vec Ideal S1179648x128 .f32) (e : Fin 288 → Fin 32) (nb : BitVec 32) (W1 : Vec Ideal S32x1024x2048 .bf16) (B1 : Vec Ideal S32x1x2048 .f32)
    (W2 : Vec Ideal S32x1024x1024 .bf16) (B2 : Vec Ideal S32x1x1024 .f32) (R : Fin 1179648) (l : Fin 128) : EReal :=
  if (BitVec.ofNat 32 (R.val / 4096)).slt nb = true then
    tok X W1 B1 W2 B2 (e ⟨R.val / 4096, by omega⟩) ⟨R.val / 8, by omega⟩ ⟨R.val % 8 * 128 + l.val, by omega⟩
  else 0

variable (hO : Ok m)

theorem idx0 (t : Fin (cfgM m hO).N) : ((cfgM m hO).win 0).index t = ![t.val, 0] := by
  have h : ∀ t : Fin grid0.N, cc0_transform_0 (grid0.coords t) = ![t.val, 0] := by decide +kernel
  exact h t

theorem idx5 (t : Fin (cfgM m hO).N) : ((cfgM m hO).win 5).index t = ![t.val, 0] := by
  have h : ∀ t : Fin grid0.N, cc0_transform_5 (grid0.coords t) = ![t.val, 0] := by decide +kernel
  exact h t

theorem pt (t : Fin grid0.N) : grid0.coords t 0 = (⟨t.val, t.isLt⟩ : Fin 288) := Fin.ext (coord t)

theorem idx1 (t : Fin (cfgM m hO).N) : ((cfgM m hO).win 1).index t = ![eOf m ⟨t.val, t.isLt⟩, 0, 0] :=
  (tr1 m (grid0.coords t)).trans (congrArg (fun b => ![eOf m b, 0, 0]) (pt t))
theorem idx2 (t : Fin (cfgM m hO).N) : ((cfgM m hO).win 2).index t = ![eOf m ⟨t.val, t.isLt⟩, 0, 0] :=
  (tr2 m (grid0.coords t)).trans (congrArg (fun b => ![eOf m b, 0, 0]) (pt t))
theorem idx3 (t : Fin (cfgM m hO).N) : ((cfgM m hO).win 3).index t = ![eOf m ⟨t.val, t.isLt⟩, 0, 0] :=
  (tr3 m (grid0.coords t)).trans (congrArg (fun b => ![eOf m b, 0, 0]) (pt t))
theorem idx4 (t : Fin (cfgM m hO).N) : ((cfgM m hO).win 4).index t = ![eOf m ⟨t.val, t.isLt⟩, 0, 0] :=
  (tr4 m (grid0.coords t)).trans (congrArg (fun b => ![eOf m b, 0, 0]) (pt t))

theorem read0 (t : Fin (cfgM m hO).N) (r : Fin 4096) (l : Fin 128) (A : Fin 1179648) (hA : A.val = t.val * 4096 + r.val) :
    iblk m hO c 0 t (ix2 r l) = m ((c.tc : Thread nD τ).loc main_arg0) (ix2 A l) := by
  refine congrArg (m ((c.tc : Thread nD τ).loc main_arg0)) (funext fun a => Fin.ext ?_)
  refine (Pipeline.Window.rect_emb_val ((cfgM m hO).win 0) t _ a).trans ?_
  rw [idx0]
  fin_cases a
  · show t.val * 4096 + r.val = A.val; omega
  · show 0 * 128 + l.val = l.val; omega

theorem read1 (e : Fin 32) (t : Fin (cfgM m hO).N) (he : e.val = eOf m ⟨t.val, t.isLt⟩) (k : Fin 1024) (f : Fin 2048) :
    iblk m hO c 1 t (ix3 0 k f) = m ((c.tc : Thread nD τ).loc main_arg3) (ix3 e k f) := by
  refine congrArg (m ((c.tc : Thread nD τ).loc main_arg3)) (funext fun a => Fin.ext ?_)
  refine (Pipeline.Window.rect_emb_val ((cfgM m hO).win 1) t _ a).trans ?_
  rw [idx1]
  fin_cases a
  · show eOf m ⟨t.val, t.isLt⟩ * 1 + 0 = e.val; omega
  · show 0 * 1024 + k.val = k.val; omega
  · show 0 * 2048 + f.val = f.val; omega

theorem read2 (e : Fin 32) (t : Fin (cfgM m hO).N) (he : e.val = eOf m ⟨t.val, t.isLt⟩) (k : Fin 1) (f : Fin 2048) :
    iblk m hO c 2 t (ix3 0 k f) = m ((c.tc : Thread nD τ).loc main_arg4) (ix3 e k f) := by
  refine congrArg (m ((c.tc : Thread nD τ).loc main_arg4)) (funext fun a => Fin.ext ?_)
  refine (Pipeline.Window.rect_emb_val ((cfgM m hO).win 2) t _ a).trans ?_
  rw [idx2]
  fin_cases a
  · show eOf m ⟨t.val, t.isLt⟩ * 1 + 0 = e.val; omega
  · show 0 * 1 + k.val = k.val; omega
  · show 0 * 2048 + f.val = f.val; omega

theorem read3 (e : Fin 32) (t : Fin (cfgM m hO).N) (he : e.val = eOf m ⟨t.val, t.isLt⟩) (k : Fin 1024) (f : Fin 1024) :
    iblk m hO c 3 t (ix3 0 k f) = m ((c.tc : Thread nD τ).loc main_arg5) (ix3 e k f) := by
  refine congrArg (m ((c.tc : Thread nD τ).loc main_arg5)) (funext fun a => Fin.ext ?_)
  refine (Pipeline.Window.rect_emb_val ((cfgM m hO).win 3) t _ a).trans ?_
  rw [idx3]
  fin_cases a
  · show eOf m ⟨t.val, t.isLt⟩ * 1 + 0 = e.val; omega
  · show 0 * 1024 + k.val = k.val; omega
  · show 0 * 1024 + f.val = f.val; omega

theorem read4 (e : Fin 32) (t : Fin (cfgM m hO).N) (he : e.val = eOf m ⟨t.val, t.isLt⟩) (k : Fin 1) (f : Fin 1024) :
    iblk m hO c 4 t (ix3 0 k f) = m ((c.tc : Thread nD τ).loc main_arg6) (ix3 e k f) := by
  refine congrArg (m ((c.tc : Thread nD τ).loc main_arg6)) (funext fun a => Fin.ext ?_)
  refine (Pipeline.Window.rect_emb_val ((cfgM m hO).win 4) t _ a).trans ?_
  rw [idx4]
  fin_cases a
  · show eOf m ⟨t.val, t.isLt⟩ * 1 + 0 = e.val; omega
  · show 0 * 1 + k.val = k.val; omega
  · show 0 * 1024 + f.val = f.val; omega

theorem covers5 : ((cfgM m hO).win 5).Covers := by
  refine Pipeline.Window.covers_of_index_surj _ rfl ?_ fun β => ?_
  · have h : ∀ a : Fin 2, 0 < S4096x128.size a := by decide
    exact h
  · have hβ : (β (show Fin 2 from 0)).val < 288 := lt_of_lt_of_le (β (show Fin 2 from 0)).isLt (show (1179648 + 4096 - 1) / 4096 ≤ 288 by norm_num)
    refine ⟨⟨(β (show Fin 2 from 0)).val, hβ⟩, fun a => ?_⟩
    rw [idx5]
    revert a
    have h1 : (β (show Fin 2 from 1)).val < 1 := lt_of_lt_of_le (β (show Fin 2 from 1)).isLt (show (128 + 128 - 1) / 128 ≤ 1 by norm_num)
    intro (a : Fin 2)
    fin_cases a
    · rfl
    · show 0 = (β (show Fin 2 from 1)).val
      omega

theorem emb5 (t : Fin (cfgM m hO).N) (r : Fin 4096) (l : Fin 128) (A : Fin 1179648) (hA : A.val = t.val * 4096 + r.val) :
    ((((cfgM m hO).win 5).blk t).view.emb (show S4096x128.Idx from ix2 r l) : S1179648x128.Idx) = ix2 A l := by
  funext a
  refine Fin.ext ?_
  refine (Pipeline.Window.rect_emb_val ((cfgM m hO).win 5) t _ a).trans ?_
  rw [idx5]
  fin_cases a
  · show t.val * 4096 + r.val = A.val; omega
  · show 0 * 128 + l.val = l.val; omega

/-- What a grid point leaves of its block, at a row and a lane of the whole arrays. -/
theorem out_at (e : Fin 288 → Fin 32) (he : ∀ b, (e b).val = eOf m b) (t : Fin (cfgM m hO).N) (r : Fin 4096) (l : Fin 128) (A : Fin 1179648)
    (hA : A.val = t.val * 4096 + r.val) :
    outAt (grid0.coords t) (nbOf c (tbl m 1)) (iblk m hO c 0 t) (iblk m hO c 1 t) (iblk m hO c 2 t) (iblk m hO c 3 t) (iblk m hO c 4 t) (ix2 r l)
      = experts (m ((c.tc : Thread nD τ).loc main_arg0)) e (nbOf c (tbl m 1)) (m ((c.tc : Thread nD τ).loc main_arg3)) (m ((c.tc : Thread nD τ).loc main_arg4))
        (m ((c.tc : Thread nD τ).loc main_arg5)) (m ((c.tc : Thread nD τ).loc main_arg6)) A l := by
  have ht : t.val < 288 := t.isLt
  have hr := r.isLt
  have hb : A.val / 4096 = t.val := by omega
  have hT : A.val / 8 = t.val * 512 + r.val / 8 := by omega
  have hm : A.val % 8 = r.val % 8 := by omega
  unfold outAt experts
  simp only [in_use, coord, hb, hm]
  split_ifs with hu
  · unfold outB tok
    have h0 := fun (k' : Fin 1024) => read0 m c hO t ⟨r.val / 8 * 8 + k'.val / 128, by omega⟩ ⟨k'.val % 128, by omega⟩ ⟨A.val / 8 * 8 + k'.val / 128, by omega⟩ (by simp only []; omega)
    have hE : (e ⟨t.val, ht⟩).val = eOf m ⟨t.val, t.isLt⟩ := he _
    have h1 := read1 m c hO (e ⟨t.val, ht⟩) t hE
    have h2 := read2 m c hO (e ⟨t.val, ht⟩) t hE
    have h3 := read3 m c hO (e ⟨t.val, ht⟩) t hE
    have h4 := read4 m c hO (e ⟨t.val, ht⟩) t hE
    refine (mlp_at _ _ _ _ _ _ _).trans ?_
    unfold act actOf
    refine congrArg₂ (fun a b : EReal => a + b) (Finset.sum_congr rfl fun k _ => congrArg₂ (fun a b : EReal => a * b) (congrArg₂ swiglu ?_ ?_) (h3 _ _)) (h4 _ _)
    · exact (up_at _ _ _ _ _).trans (congrArg₂ (fun a b : EReal => a + b) (Finset.sum_congr rfl fun k' _ => congrArg₂ (fun a b : EReal => a * b) (h0 k') (h1 _ _)) (h2 _ _))
    · exact (up_at _ _ _ _ _).trans (congrArg₂ (fun a b : EReal => a + b) (Finset.sum_congr rfl fun k' _ => congrArg₂ (fun a b : EReal => a * b) (h0 k') (h1 _ _)) (h2 _ _))
  · exact Ideal.ofBits_zero_f32

/-- The result array after the run. -/
theorem arr (e : Fin 288 → Fin 32) (he : ∀ b, (e b).val = eOf m b) : (dats m hO 0 c).arrAt 5 (cfgM m hO).N = fun i : S1179648x128.Idx => experts
    (m ((c.tc : Thread nD τ).loc main_arg0)) e (nbOf c (tbl m 1)) (m ((c.tc : Thread nD τ).loc main_arg3)) (m ((c.tc : Thread nD τ).loc main_arg4))
    (m ((c.tc : Thread nD τ).loc main_arg5)) (m ((c.tc : Thread nD τ).loc main_arg6)) (i 0) (i 1) := by
  refine (dats m hO 0 c).arrAt_eq_of_covers 5 _ (covers5 m hO) fun t hf (y : S4096x128.Idx) => ?_
  blk_simp
  rw [after0_5]
  obtain ⟨r, l, rfl⟩ : ∃ (r : Fin 4096) (l : Fin 128), y = ix2 r l := ⟨y 0, y 1, by funext a; fin_cases a <;> rfl⟩
  have ht : t.val < 288 := t.isLt
  refine (out_at m c hO e he t r l ⟨t.val * 4096 + r.val, by omega⟩ rfl).trans ?_
  exact (congrArg (fun i : S1179648x128.Idx => experts
    (m ((c.tc : Thread nD τ).loc main_arg0)) e (nbOf c (tbl m 1)) (m ((c.tc : Thread nD τ).loc main_arg3)) (m ((c.tc : Thread nD τ).loc main_arg4))
    (m ((c.tc : Thread nD τ).loc main_arg5)) (m ((c.tc : Thread nD τ).loc main_arg6)) (i 0) (i 1)) (emb5 m hO t r l ⟨t.val * 4096 + r.val, by omega⟩ rfl)).symm

end Cert.ExpKer

end
-- ==== Proof.ExpRef.lean ====
/-
  What the experts' reference computes, read at one index: the printed composed term cut into its stages.
-/
module

public import proofs.«01_k».proof.Proof.Gen.ExpertsReferenceIdeal.Run
public import proofs.«01_k».proof.Proof.ExpArr
public import Idealize.ShloMosaic.Lib.Pointwise

@[expose] public section

noncomputable section

namespace Cert.ExpRef

open Cert.ExpertsReferenceIdeal Cert.ExpertsReferenceIdeal.Gen Cert.ExpertsReferenceIdeal.Value Idealize.ShloMosaic Idealize.SL.Sem

/-- The blocks' experts, a negative number counted from the end. -/
def refE (be : IVec S288 32) : IVec S288x1 32 :=
  broadcastInDim S288x1 ![0] bcast_S288_S288x1_0 (select (cmpi .slt be (broadcastInDim S288 ![] bcast_S_S288 (constantI S_ 32 0#32))) (addi be (broadcastInDim S288 ![] bcast_S_S288 (constantI S_ 32 32#32))) be)

/-- The first layer: product and bias. -/
def refU (X : Vec Ideal S1179648x128 .f32) (e : IVec S288x1 32) (W1 : Vec Ideal S32x1024x2048 .bf16) (B1 : Vec Ideal S32x1x2048 .f32) : FVec Ideal S288x512x2048 .f32 :=
  addf (Host.dotGeneral dot_S288x512x1024_S288x1024x2048_S288x512x2048_2_1_1_2_0_0 none (shapeCast S288x512x1024 (show FVec Ideal S1179648x128 .f32 from X) shapeCasts_S1179648x128_S288x512x1024) (extf .f32 (Host.gather gather_S32x1024x2048_S288x1_S288x1024x2048_12_0_n_n_0_1_110242048 W1 e) bitsLt_bf16_f32)) (broadcastInDim S288x512x2048 ![0, 1, 2] bcast_S288x1x2048_S288x512x2048_0_1_2 (Host.gather gather_S32x1x2048_S288x1_S288x1x2048_12_0_n_n_0_1_112048 B1 e))

/-- Its columns with gates and linear parts in turn. -/
def refI (u : FVec Ideal S288x512x2048 .f32) : FVec Ideal S288x512x2048 .f32 :=
  shapeCast _ (transpose S288x512x8x128x2 [0, 1, 2, 4, 3] (shapeCast _ u shapeCasts_S288x512x2048_S288x512x8x2x128) transposes_S288x512x8x2x128_S288x512x8x128x2_0_1_2_4_3) shapeCasts_S288x512x8x128x2_S288x512x2048

/-- The clamped gated unit. -/
def refG (v : FVec Ideal S288x512x2048 .f32) : FVec Ideal S288x512x1024 .f32 :=
  mulf (mulf (minimumf (Host.slice S288x512x1024 ![0, 0, 0] ![1, 1, 2] v slicesBy_S288x512x2048_S288x512x1024_0s1_0s1_0s2) (broadcastInDim S288x512x1024 ![] bcast_S_S288x512x1024 (constant S_ .f32 0x40E00000#32))) (Host.divf (broadcastInDim S288x512x1024 ![] bcast_S_S288x512x1024 (constant S_ .f32 0x3F800000#32)) (addf (broadcastInDim S288x512x1024 ![] bcast_S_S288x512x1024 (constant S_ .f32 0x3F800000#32)) (Host.exp (Host.negf (mulf (broadcastInDim S288x512x1024 ![] bcast_S_S288x512x1024 (constant S_ .f32 0x3FD9DB23#32)) (minimumf (Host.slice S288x512x1024 ![0, 0, 0] ![1, 1, 2] v slicesBy_S288x512x2048_S288x512x1024_0s1_0s1_0s2) (broadcastInDim S288x512x1024 ![] bcast_S_S288x512x1024 (constant S_ .f32 0x40E00000#32))))))))) (addf (minimumf (broadcastInDim S288x512x1024 ![] bcast_S_S288x512x1024 (id (constant S_ .f32 0x40E00000#32))) (maximumf (broadcastInDim S288x512x1024 ![] bcast_S_S288x512x1024 (id (constant S_ .f32 0xC0E00000#32))) (Host.slice S288x512x1024 ![0, 0, 1] ![1, 1, 2] v slicesBy_S288x512x2048_S288x512x1024_0s1_0s1_1s2))) (broadcastInDim S288x512x1024 ![] bcast_S_S288x512x1024 (constant S_ .f32 0x3F800000#32)))

/-- The second layer. -/
def refY (g : FVec Ideal S288x512x1024 .f32) (e : IVec S288x1 32) (W2 : Vec Ideal S32x1024x1024 .bf16) (B2 : Vec Ideal S32x1x1024 .f32) : FVec Ideal S288x512x1024 .f32 :=
  addf (Host.dotGeneral dot_S288x512x1024_S288x1024x1024_S288x512x1024_2_1_1_2_0_0 none g (extf .f32 (Host.gather gather_S32x1024x1024_S288x1_S288x1024x1024_12_0_n_n_0_1_110241024 W2 e) bitsLt_bf16_f32)) (broadcastInDim S288x512x1024 ![0, 1, 2] bcast_S288x1x1024_S288x512x1024_0_1_2 (Host.gather gather_S32x1x1024_S288x1_S288x1x1024_12_0_n_n_0_1_111024 B2 e))

/-- Zero in the blocks not in use. -/
def refO (nb : IVec S1 32) (y : FVec Ideal S288x512x1024 .f32) : FVec Ideal S1179648x128 .f32 :=
  shapeCast _ (select (broadcastInDim S288x512x1024 ![0, 1, 2] bcast_S288x1x1_S288x512x1024_0_1_2 (broadcastInDim S288x1x1 ![0] bcast_S288_S288x1x1_0 (cmpi .slt (iotaInDim S288 32 0) (broadcastInDim S288 ![] bcast_S_S288 (shapeCast _ nb shapeCasts_S1_S_))))) y (broadcastInDim S288x512x1024 ![] bcast_S_S288x512x1024 (id (constant S_ .f32 0x00000000#32)))) shapeCasts_S288x512x1024_S1179648x128

set_option maxRecDepth 8192 in
set_option maxHeartbeats 2000000 in
theorem res_eq (m : (ℓ : Loc nD τ sig) → Buf (Elt Ideal) ℓ) (c : Dev nD) :
    res_out0 m c = refO (m ((c.tc : Thread nD τ).loc main_arg2)) (refY (refG (refI (refU (m ((c.tc : Thread nD τ).loc main_arg0)) (refE (m ((c.tc : Thread nD τ).loc main_arg1)))
      (m ((c.tc : Thread nD τ).loc main_arg3)) (m ((c.tc : Thread nD τ).loc main_arg4))))) (refE (m ((c.tc : Thread nD τ).loc main_arg1))) (m ((c.tc : Thread nD τ).loc main_arg5)) (m ((c.tc : Thread nD τ).loc main_arg6))) := by
  unfold res_out0 res_main_v63 refO refY refG refI refU refE
  rfl

theorem refE_at (be : IVec S288 32) (b : Fin 288) (h : (be (ix1 b)).toNat < 32) : refE be (ix2 b 0) = be (ix1 b) := by
  unfold refE
  pointwise
  have hn : (be (ix1 b)).slt 0#32 = false := by
    rw [BitVec.slt_eq_decide, decide_eq_false_iff_not, BitVec.toInt_eq_toNat_of_lt (by omega)]
    simp
  simp [Scalar.select, IntOp.cmpi, hn]

theorem start_row (w : BitVec 32) (n : Fin 32) (h : w.toNat = n.val) (x : ℕ) (hx : x = min w.toInt.toNat 31) : x + 0 + 0 = n.val := by
  rw [hx, BitVec.toInt_eq_toNat_of_lt (by omega), h]
  have := n.isLt
  simp only [Int.toNat_natCast]
  omega

theorem gather1 {α : Type} (W : S32x1024x2048.Idx → α) (e : IVec S288x1 32) (b : Fin 288) (n : Fin 32) (h : (e (ix2 b 0)).toNat = n.val) (k : Fin 1024) (f : Fin 2048) :
    Host.gather gather_S32x1024x2048_S288x1_S288x1024x2048_12_0_n_n_0_1_110242048 W e (ix3 b k f) = W (ix3 n k f) := by
  refine congrArg W (funext fun a => ?_)
  fin_cases a <;> refine Fin.ext ?_
  · show GatherDims.start _ _ _ _ + GatherDims.batchCoord _ _ _ + GatherDims.offCoord _ _ _ = n.val
    rw [GatherDims.batchCoord_eq_zero _ _ _ (by decide), GatherDims.offCoord_eq_zero _ _ _ (by decide)]
    refine start_row (e (ix2 b 0)) n h _ ?_
    unfold GatherDims.start
    rw [dif_pos (by decide)]
    refine congrArg (fun i => min (e i).toInt.toNat 31) (funext fun x => ?_)
    fin_cases x <;> rfl
  · show GatherDims.start _ _ _ _ + GatherDims.batchCoord _ _ _ + GatherDims.offCoord _ _ _ = k.val
    rw [GatherDims.batchCoord_eq_zero _ _ _ (by decide)]
    unfold GatherDims.start GatherDims.offCoord
    rw [dif_neg (by decide), dif_pos (by decide)]
    exact (Nat.zero_add _)
  · show GatherDims.start _ _ _ _ + GatherDims.batchCoord _ _ _ + GatherDims.offCoord _ _ _ = f.val
    rw [GatherDims.batchCoord_eq_zero _ _ _ (by decide)]
    unfold GatherDims.start GatherDims.offCoord
    rw [dif_neg (by decide), dif_pos (by decide)]
    exact (Nat.zero_add _)

theorem gather2 {α : Type} (W : S32x1x2048.Idx → α) (e : IVec S288x1 32) (b : Fin 288) (n : Fin 32) (h : (e (ix2 b 0)).toNat = n.val) (k : Fin 1) (f : Fin 2048) :
    Host.gather gather_S32x1x2048_S288x1_S288x1x2048_12_0_n_n_0_1_112048 W e (ix3 b k f) = W (ix3 n k f) := by
  refine congrArg W (funext fun a => ?_)
  fin_cases a <;> refine Fin.ext ?_
  · show GatherDims.start _ _ _ _ + GatherDims.batchCoord _ _ _ + GatherDims.offCoord _ _ _ = n.val
    rw [GatherDims.batchCoord_eq_zero _ _ _ (by decide), GatherDims.offCoord_eq_zero _ _ _ (by decide)]
    refine start_row (e (ix2 b 0)) n h _ ?_
    unfold GatherDims.start
    rw [dif_pos (by decide)]
    refine congrArg (fun i => min (e i).toInt.toNat 31) (funext fun x => ?_)
    fin_cases x <;> rfl
  · show GatherDims.start _ _ _ _ + GatherDims.batchCoord _ _ _ + GatherDims.offCoord _ _ _ = k.val
    rw [GatherDims.batchCoord_eq_zero _ _ _ (by decide)]
    unfold GatherDims.start GatherDims.offCoord
    rw [dif_neg (by decide), dif_pos (by decide)]
    exact (Nat.zero_add _)
  · show GatherDims.start _ _ _ _ + GatherDims.batchCoord _ _ _ + GatherDims.offCoord _ _ _ = f.val
    rw [GatherDims.batchCoord_eq_zero _ _ _ (by decide)]
    unfold GatherDims.start GatherDims.offCoord
    rw [dif_neg (by decide), dif_pos (by decide)]
    exact (Nat.zero_add _)

theorem gather3 {α : Type} (W : S32x1024x1024.Idx → α) (e : IVec S288x1 32) (b : Fin 288) (n : Fin 32) (h : (e (ix2 b 0)).toNat = n.val) (k : Fin 1024) (f : Fin 1024) :
    Host.gather gather_S32x1024x1024_S288x1_S288x1024x1024_12_0_n_n_0_1_110241024 W e (ix3 b k f) = W (ix3 n k f) := by
  refine congrArg W (funext fun a => ?_)
  fin_cases a <;> refine Fin.ext ?_
  · show GatherDims.start _ _ _ _ + GatherDims.batchCoord _ _ _ + GatherDims.offCoord _ _ _ = n.val
    rw [GatherDims.batchCoord_eq_zero _ _ _ (by decide), GatherDims.offCoord_eq_zero _ _ _ (by decide)]
    refine start_row (e (ix2 b 0)) n h _ ?_
    unfold GatherDims.start
    rw [dif_pos (by decide)]
    refine congrArg (fun i => min (e i).toInt.toNat 31) (funext fun x => ?_)
    fin_cases x <;> rfl
  · show GatherDims.start _ _ _ _ + GatherDims.batchCoord _ _ _ + GatherDims.offCoord _ _ _ = k.val
    rw [GatherDims.batchCoord_eq_zero _ _ _ (by decide)]
    unfold GatherDims.start GatherDims.offCoord
    rw [dif_neg (by decide), dif_pos (by decide)]
    exact (Nat.zero_add _)
  · show GatherDims.start _ _ _ _ + GatherDims.batchCoord _ _ _ + GatherDims.offCoord _ _ _ = f.val
    rw [GatherDims.batchCoord_eq_zero _ _ _ (by decide)]
    unfold GatherDims.start GatherDims.offCoord
    rw [dif_neg (by decide), dif_pos (by decide)]
    exact (Nat.zero_add _)

theorem gather4 {α : Type} (W : S32x1x1024.Idx → α) (e : IVec S288x1 32) (b : Fin 288) (n : Fin 32) (h : (e (ix2 b 0)).toNat = n.val) (k : Fin 1) (f : Fin 1024) :
    Host.gather gather_S32x1x1024_S288x1_S288x1x1024_12_0_n_n_0_1_111024 W e (ix3 b k f) = W (ix3 n k f) := by
  refine congrArg W (funext fun a => ?_)
  fin_cases a <;> refine Fin.ext ?_
  · show GatherDims.start _ _ _ _ + GatherDims.batchCoord _ _ _ + GatherDims.offCoord _ _ _ = n.val
    rw [GatherDims.batchCoord_eq_zero _ _ _ (by decide), GatherDims.offCoord_eq_zero _ _ _ (by decide)]
    refine start_row (e (ix2 b 0)) n h _ ?_
    unfold GatherDims.start
    rw [dif_pos (by decide)]
    refine congrArg (fun i => min (e i).toInt.toNat 31) (funext fun x => ?_)
    fin_cases x <;> rfl
  · show GatherDims.start _ _ _ _ + GatherDims.batchCoord _ _ _ + GatherDims.offCoord _ _ _ = k.val
    rw [GatherDims.batchCoord_eq_zero _ _ _ (by decide)]
    unfold GatherDims.start GatherDims.offCoord
    rw [dif_neg (by decide), dif_pos (by decide)]
    exact (Nat.zero_add _)
  · show GatherDims.start _ _ _ _ + GatherDims.batchCoord _ _ _ + GatherDims.offCoord _ _ _ = f.val
    rw [GatherDims.batchCoord_eq_zero _ _ _ (by decide)]
    unfold GatherDims.start GatherDims.offCoord
    rw [dif_neg (by decide), dif_pos (by decide)]
    exact (Nat.zero_add _)

theorem refU_at (X : Vec Ideal S1179648x128 .f32) (e : IVec S288x1 32) (W1 : Vec Ideal S32x1024x2048 .bf16) (B1 : Vec Ideal S32x1x2048 .f32)
    (b : Fin 288) (n : Fin 32) (h : (e (ix2 b 0)).toNat = n.val) (r : Fin 512) (f : Fin 2048) : refU X e W1 B1 (ix3 b r f)
      = (∑ k : Fin 1024, X (ix2 ⟨b.val * 4096 + r.val * 8 + k.val / 128, by omega⟩ ⟨k.val % 128, by omega⟩) * W1 (ix3 n k f)) + B1 (ix3 n 0 f) := by
  unfold refU
  pointwise [dot_S288x512x1024_S288x1024x2048_S288x512x2048_2_1_1_2_0_0]
  simp only [gather1 _ e b n h, gather2 _ e b n h]

theorem refI_at (u : FVec Ideal S288x512x2048 .f32) (b : Fin 288) (r : Fin 512) (f : Fin 2048) :
    refI u (ix3 b r f) = u (ix3 b r ⟨f.val / 256 * 256 + f.val % 2 * 128 + f.val / 2 % 128, by omega⟩) := by
  unfold refI
  pointwise

theorem refG_at (v : FVec Ideal S288x512x2048 .f32) (b : Fin 288) (r : Fin 512) (k : Fin 1024) : refG v (ix3 b r k)
      = ExpKer.swiglu (v (ix3 b r ⟨2 * k.val, by omega⟩)) (v (ix3 b r ⟨1 + 2 * k.val, by omega⟩)) := by
  unfold refG ExpKer.swiglu Ideal.logistic
  pointwise
  rfl

theorem refY_at (g : FVec Ideal S288x512x1024 .f32) (e : IVec S288x1 32) (W2 : Vec Ideal S32x1024x1024 .bf16) (B2 : Vec Ideal S32x1x1024 .f32)
    (b : Fin 288) (n : Fin 32) (h : (e (ix2 b 0)).toNat = n.val) (r : Fin 512) (d : Fin 1024) : refY g e W2 B2 (ix3 b r d)
      = (∑ k : Fin 1024, g (ix3 b r k) * W2 (ix3 n k d)) + B2 (ix3 n 0 d) := by
  unfold refY
  pointwise [dot_S288x512x1024_S288x1024x1024_S288x512x1024_2_1_1_2_0_0]
  simp only [gather3 _ e b n h, gather4 _ e b n h]

theorem refO_at (nb : IVec S1 32) (y : FVec Ideal S288x512x1024 .f32) (R : Fin 1179648) (l : Fin 128) : refO nb y (ix2 R l)
      = if (BitVec.ofNat 32 (R.val / 4096)).slt (nb (ix1 0)) = true then y (ix3 ⟨R.val / 4096, by omega⟩ ⟨R.val / 8 % 512, by omega⟩ ⟨R.val % 8 * 128 + l.val, by omega⟩) else 0 := by
  unfold refO
  pointwise
  have h : ∀ (q : Bool) (a b : EReal), (if BitVec.ofBool q = 1 then a else b) = if q = true then a else b := by
    intro q a b; cases q <;> simp
  refine (h _ _ _).trans ?_
  rw [show id (constant (F := Ideal) S_ .f32 0x00000000#32) ix0 = 0 from Ideal.ofBits_zero_f32]

end Cert.ExpRef

end
-- ==== Proof.ExpEq.lean ====
/-
  The experts' equation: at every row and lane the reference holds what the kernel's array holds.
-/
module

public import proofs.«01_k».proof.Proof.ExpRef

@[expose] public section

noncomputable section

namespace Cert.ExpEq

open Cert.ExpertsReferenceIdeal Cert.ExpKer Cert.ExpRef Idealize.ShloMosaic Idealize.SL.Sem

variable (X : Vec Ideal S1179648x128 .f32) (be : IVec S288 32) (nb : IVec S1 32) (W1 : Vec Ideal S32x1024x2048 .bf16) (B1 : Vec Ideal S32x1x2048 .f32)
  (W2 : Vec Ideal S32x1024x1024 .bf16) (B2 : Vec Ideal S32x1x1024 .f32) (e : Fin 288 → Fin 32) (he : ∀ b, (be (ix1 b)).toNat = (e b).val)

include he

theorem word (b : Fin 288) : (refE be (ix2 b 0)).toNat = (e b).val := by
  rw [refE_at be b (by rw [he b]; exact (e b).isLt), he b]

/-- The reference's first layer at the column the gated unit reads. -/
theorem layer1 (R : Fin 1179648) (f g : Fin 2048) (hg : f.val / 256 * 256 + f.val % 2 * 128 + f.val / 2 % 128 = g.val) :
    refI (refU X (refE be) W1 B1) (ix3 ⟨R.val / 4096, by omega⟩ ⟨R.val / 8 % 512, by omega⟩ f)
      = (∑ k : Fin 1024, X (ix2 ⟨R.val / 8 * 8 + k.val / 128, by omega⟩ ⟨k.val % 128, by omega⟩) * W1 (ix3 (e ⟨R.val / 4096, by omega⟩) k g)) + B1 (ix3 (e ⟨R.val / 4096, by omega⟩) 0 g) := by
  refine (refI_at _ _ _ _).trans ?_
  rw [show (⟨f.val / 256 * 256 + f.val % 2 * 128 + f.val / 2 % 128, by omega⟩ : Fin 2048) = g from Fin.ext hg]
  refine (refU_at X _ W1 B1 _ _ (word be e he _) _ _).trans ?_
  refine congrArg (· + _) (Finset.sum_congr rfl fun k _ => congrArg (· * _) ?_)
  exact congrArg (fun a => X (ix2 a _)) (Fin.ext (by simp only []; omega))

theorem ref_eq (R : Fin 1179648) (l : Fin 128) :
    refO nb (refY (refG (refI (refU X (refE be) W1 B1))) (refE be) W2 B2) (ix2 R l) = experts X e (nb (ix1 0)) W1 B1 W2 B2 R l := by
  rw [refO_at]
  unfold experts tok actOf
  split_ifs
  · refine (refY_at _ _ W2 B2 _ _ (word be e he _) _ _).trans ?_
    refine congrArg (· + _) (Finset.sum_congr rfl fun k _ => congrArg (· * _) ?_)
    have hk := k.isLt
    refine (refG_at _ _ _ _).trans (congrArg₂ swiglu ?_ ?_)
    · exact layer1 X be W1 B1 e he R _ _ (by simp only []; omega)
    · exact layer1 X be W1 B1 e he R _ _ (by simp only []; omega)
  · rfl

end Cert.ExpEq

end
-- ==== Proof.EvenLaunch.lean ====
/-
  The launch of the even layer's experts' kernel: its two tables (each block's expert, the number of blocks in use), the pipeline at
  them, and each window's block as a function of the launch memory.
-/
module

public import proofs.«01_k».proof.Proof.Gen.EvenExpertsIdeal.Launch
public import proofs.«01_k».proof.Proof.Gen.EvenExpertsIdeal.Skeleton
public import Idealize.ShloMosaic.Lib.Pipeline.FrameBody
public import Idealize.ShloMosaic.Lib.Tactic
public import Idealize.ShloMosaic.Lib.WordCmp

@[expose] public section

set_option maxRecDepth 16384

noncomputable section

namespace Cert.EvenExpertsIdeal.Hand

open Cert.EvenExpertsIdeal Cert.EvenExpertsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

/-- Window 5 (result 0 (%0)) is written back at every point, at any contents of the tables (its index map reads none). -/
theorem flush0_5 (a : (pcfg0 (F := F)).Adm) : ∀ t : Fin (cfg0 a).N, ((cfg0 a).win 5).flush t = true :=
  (fun t => (Pipeline.Window.flushOf_reads cc0_transform_5 reads0_5 hreads0_5 0 (by decide) (by decide) (Pipeline.Window.sep_of_coord cc0_transform_5 0 0 (fun _ => rfl) (by decide)) (P := 1) (m := 0) (by decide) rfl t).mpr (Nat.mod_one _) : ∀ t : Fin grid0.N, Pipeline.Window.flushOf grid0 true cc0_transform_5 t = true)

/-- The current staging memref of each window at point `t`: which of its buffers it is on. -/
abbrev st0_0 (a : (pcfg0 (F := F)).Adm) (t : Fin (cfg0 a).N) := ((cfg0 a).win 0).stage ((cfg0 a).slots t 0)
abbrev st0_1 (a : (pcfg0 (F := F)).Adm) (t : Fin (cfg0 a).N) := ((cfg0 a).win 1).stage ((cfg0 a).slots t 1)
abbrev st0_2 (a : (pcfg0 (F := F)).Adm) (t : Fin (cfg0 a).N) := ((cfg0 a).win 2).stage ((cfg0 a).slots t 2)
abbrev st0_3 (a : (pcfg0 (F := F)).Adm) (t : Fin (cfg0 a).N) := ((cfg0 a).win 3).stage ((cfg0 a).slots t 3)
abbrev st0_4 (a : (pcfg0 (F := F)).Adm) (t : Fin (cfg0 a).N) := ((cfg0 a).win 4).stage ((cfg0 a).slots t 4)
abbrev st0_5 (a : (pcfg0 (F := F)).Adm) (t : Fin (cfg0 a).N) := ((cfg0 a).win 5).stage ((cfg0 a).slots t 5)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0_expert_mlp (grid0.coords t) (Memref.whole main_arg1) (Memref.isWhole_whole _) (Memref.whole main_arg2) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5))

variable (m : (ℓ : Loc nD τ sig) → Buf (Elt F) ℓ) (ρ : Dev nD → PrngReg)
/-! ## @main up to the region -/

/-- Core `c`'s TensorCore buffers when the region is entered: as launched (@main is the region alone). -/
abbrev V (c : Dev nD) (b : Ref sig .tc) : Buf (Elt F) ((c : Thread nD τ).loc b) := m ((c : Thread nD τ).loc b)

set_option maxHeartbeats 800000 in
/-- @main up to the region, at the certificate's variants `𝒱₀`: the region alone (`Pipeline.hmain_region` off
    `main_chain`). -/
theorem hmain (𝒱₀ : Variants) : Pipeline.HMainP (Ix := Unit) (Name := ℕ) (U := UR sig nD τ) (Lvl := ℕ) pcfgs 0 defs₀ 𝒱₀ m (main (F := F)) (V m) :=
  Pipeline.hmainP_region pcfgs 0 defs₀ 𝒱₀ m main fun c => (main_chain c).trans rfl

theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl
theorem V_main_arg3 (c : Dev nD) : V m c main_arg3 = m ((c : Thread nD τ).loc main_arg3) := rfl
theorem V_main_arg4 (c : Dev nD) : V m c main_arg4 = m ((c : Thread nD τ).loc main_arg4) := rfl
theorem V_main_arg5 (c : Dev nD) : V m c main_arg5 = m ((c : Thread nD τ).loc main_arg5) := rfl
theorem V_main_arg6 (c : Dev nD) : V m c main_arg6 = m ((c : Thread nD τ).loc main_arg6) := rfl

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 2) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S320 .i32 := Memref.whole main_arg1
abbrev htbM0_0 : tbM0_0.IsWhole := Memref.isWhole_whole _
abbrev tbM0_1 : Memref sig .tc .smem S1 .i32 := Memref.whole main_arg2
abbrev htbM0_1 : tbM0_1.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp 𝕄) = iprop(tbPt0 c tbM0_0 (tbl m 0) ∗ tbPt0 c tbM0_1 (tbl m 1)) := by
  unfold Pipeline.ΦT Pipeline.prefHeld
  rw [show (Finset.univ : Finset (Fin 2)) = insert (0 : Fin 2) {(1 : Fin 2)} from by decide,
    bigSep_insert (by decide), bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0 holds its block at every point, whether fetched there or kept from the point before. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1 holds its block at every point, whether fetched there or kept from the point before. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2 holds its block at every point, whether fetched there or kept from the point before. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3 holds its block at every point, whether fetched there or kept from the point before. -/
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4 holds its block at every point, whether fetched there or kept from the point before. -/
theorem before0_4_of (hO : Ok m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The kernel body on any staging memrefs: a subtype the run finds -/

/-- Each window's current staging memref at point `t`, spelled as the pipeline passes it (`bodyAt0`), and its wholeness. -/
abbrev ms0_0 (hO : Ok m) (t : Fin (cfgM m hO).N) : Memref sig .tc .vmem S4096x128 .f32 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x1024x2048 .bf16 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x1x2048 .f32 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S1x1024x1024 .bf16 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S1x1x1024 .f32 := spec0_4.stage ((cfgM m hO).slots t 4)
abbrev hs0_4 (hO : Ok m) (t : Fin (cfgM m hO).N) : (ms0_4 m hO t).IsWhole := hstage0_4 (((cfgM m hO).slots t 4).cast nbuf0_4)
abbrev ms0_5 (hO : Ok m) (t : Fin (cfgM m hO).N) : Memref sig .tc .vmem S4096x128 .f32 := spec0_5.stage ((cfgM m hO).slots t 5)
abbrev hs0_5 (hO : Ok m) (t : Fin (cfgM m hO).N) : (ms0_5 m hO t).IsWhole := hstage0_5 (((cfgM m hO).slots t 5).cast nbuf0_5)

end Cert.EvenExpertsIdeal.Hand

end
-- ==== Proof.EvenRun.lean ====
/-
  One grid point of the even layer's experts' kernel: a block in use goes through its expert's two layers, eight strided stores
  laying each token's columns out in eight rows; a block not in use is set to zero.
-/
module

public import proofs.«01_k».proof.Proof.EvenLaunch
public import Idealize.ShloMosaic.Lib.Pipeline.Value
public import Idealize.ShloMosaic.Lib.Pipeline.ValueKit
public import Idealize.ShloMosaic.Lib.Pointwise

@[expose] public section

set_option maxRecDepth 16384

noncomputable section

namespace Cert.EvenExpertsIdeal.Hand

open Cert.EvenExpertsIdeal Cert.EvenExpertsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

abbrev r0 : LoadRect S4096x128 := ⟨![0, 0], S512x128.size, ![8, 1], inb_S4096x128_S512x128_0_0_s_8_1⟩
abbrev r1 : LoadRect S4096x128 := ⟨![1, 0], S512x128.size, ![8, 1], inb_S4096x128_S512x128_1_0_s_8_1⟩
abbrev r2 : LoadRect S4096x128 := ⟨![2, 0], S512x128.size, ![8, 1], inb_S4096x128_S512x128_2_0_s_8_1⟩
abbrev r3 : LoadRect S4096x128 := ⟨![3, 0], S512x128.size, ![8, 1], inb_S4096x128_S512x128_3_0_s_8_1⟩
abbrev r4 : LoadRect S4096x128 := ⟨![4, 0], S512x128.size, ![8, 1], inb_S4096x128_S512x128_4_0_s_8_1⟩
abbrev r5 : LoadRect S4096x128 := ⟨![5, 0], S512x128.size, ![8, 1], inb_S4096x128_S512x128_5_0_s_8_1⟩
abbrev r6 : LoadRect S4096x128 := ⟨![6, 0], S512x128.size, ![8, 1], inb_S4096x128_S512x128_6_0_s_8_1⟩
abbrev r7 : LoadRect S4096x128 := ⟨![7, 0], S512x128.size, ![8, 1], inb_S4096x128_S512x128_7_0_s_8_1⟩

/-- Lane group `j` of the block's columns: rows `8 r + j`. -/
def part (x : Vec F S4096x128 .f32) (r : LoadRect S4096x128) : r.shape.Idx → F .f32 := fun y => x (r.idx y)

/-- A block through the first product and bias: every row's gates and linear parts. -/
def up (x0 : Vec F S4096x128 .f32) (x1 : Vec F S1x1024x2048 .bf16) (x2 : Vec F S1x1x2048 .f32) : FVec F S512x2048 .f32 :=
  k0_pay5 (part x0 r0) (part x0 r1) (part x0 r2) (part x0 r3) (part x0 r4) (part x0 r5) (part x0 r6) (part x0 r7) x1 x2

/-- The first 128 columns of the activation. -/
def act0 (x0 : Vec F S4096x128 .f32) (x1 : Vec F S1x1024x2048 .bf16) (x2 : Vec F S1x1x2048 .f32) : FVec F S512x128 .f32 :=
  k0_pay6 (part x0 r0) (part x0 r1) (part x0 r2) (part x0 r3) (part x0 r4) (part x0 r5) (part x0 r6) (part x0 r7) x1 x2

/-- A block through its expert's two layers, a row per token. -/
def mlp (x0 : Vec F S4096x128 .f32) (x1 : Vec F S1x1024x2048 .bf16) (x2 : Vec F S1x1x2048 .f32) (x3 : Vec F S1x1024x1024 .bf16) (x4 : Vec F S1x1x1024 .f32) : FVec F S512x1024 .f32 :=
  k0_pay13 (up x0 x1 x2) (act0 x0 x1 x2) (k0_pay7 (up x0 x1 x2)) (k0_pay8 (up x0 x1 x2)) (k0_pay9 (up x0 x1 x2)) (k0_pay10 (up x0 x1 x2))
    (k0_pay11 (up x0 x1 x2)) (k0_pay12 (up x0 x1 x2)) x3 x4

/-- What the kernel stores for a block in use: row `8 r + j` holds columns `128 j …` of token `r`. -/
def outB (x0 : Vec F S4096x128 .f32) (x1 : Vec F S1x1024x2048 .bf16) (x2 : Vec F S1x1x2048 .f32) (x3 : Vec F S1x1024x1024 .bf16) (x4 : Vec F S1x1x1024 .f32) : Vec F S4096x128 .f32 :=
  fun y => mlp x0 x1 x2 x3 x4 (ix2 ⟨(y 0).val / 8, by have : (y 0).val < 4096 := (y 0).isLt; omega⟩
    ⟨(y 0).val % 8 * 128 + (y 1).val, by have : (y 1).val < 128 := (y 1).isLt; omega⟩)

/-- What the kernel leaves at a grid point where `nb` blocks are in use. -/
def outAt (i : grid0.Coords) (nb : BitVec 32) (x0 : Vec F S4096x128 .f32) (x1 : Vec F S1x1024x2048 .bf16) (x2 : Vec F S1x1x2048 .f32) (x3 : Vec F S1x1024x1024 .bf16) (x4 : Vec F S1x1x1024 .f32) : Vec F S4096x128 .f32 :=
  if k0_cond1 i nb = 1#1 then outB x0 x1 x2 x3 x4 else k0_pay4

theorem ix2_eq {n m : ℕ} {a a' : Fin n} {b b' : Fin m} (h : a.val = a'.val) (h' : b.val = b'.val) : ix2 a b = ix2 a' b' := by
  rw [Fin.ext h, Fin.ext h']

/-- A block is either in use or not. -/
theorem cond_or (i : grid0.Coords) (nb : BitVec 32) : k0_cond2 i nb = 1#1 ↔ ¬ k0_cond1 i nb = 1#1 := by
  unfold k0_cond1 k0_cond2
  simp only [Scalar.cmpi, Scalar.extui, WordCmp.cmpi_slt_eq, WordCmp.cmpi_sge_eq]
  by_cases h : (BitVec.ofNat 32 (i 0).val).toInt < nb.toInt
  · have h' : ¬ nb.toInt ≤ (BitVec.ofNat 32 (i 0).val).toInt := by omega
    simp [h, h']; decide
  · have h' : nb.toInt ≤ (BitVec.ofNat 32 (i 0).val).toInt := by omega
    simp [h, h']; decide

open Idealize.ShloMosaic.Pipeline in
/-- The eight strided stores read back. -/
theorem stores_eq (v : View sig .tc .vmem S4096x128 .f32) (f : v.ty.Contents (Elt F)) (G : FVec F S512x1024 .f32)
    (p0 p1 p2 p3 p4 p5 p6 p7 : FVec F S512x128 .f32)
    (h0 : ∀ r l, p0 (ix2 r l) = G (ix2 r ⟨0 * 128 + l.val, by omega⟩)) (h1 : ∀ r l, p1 (ix2 r l) = G (ix2 r ⟨1 * 128 + l.val, by omega⟩))
    (h2 : ∀ r l, p2 (ix2 r l) = G (ix2 r ⟨2 * 128 + l.val, by omega⟩)) (h3 : ∀ r l, p3 (ix2 r l) = G (ix2 r ⟨3 * 128 + l.val, by omega⟩))
    (h4 : ∀ r l, p4 (ix2 r l) = G (ix2 r ⟨4 * 128 + l.val, by omega⟩)) (h5 : ∀ r l, p5 (ix2 r l) = G (ix2 r ⟨5 * 128 + l.val, by omega⟩))
    (h6 : ∀ r l, p6 (ix2 r l) = G (ix2 r ⟨6 * 128 + l.val, by omega⟩)) (h7 : ∀ r l, p7 (ix2 r l) = G (ix2 r ⟨7 * 128 + l.val, by omega⟩)) :
    v.read (Elt F) (v.writes (Elt F) f [⟨⟨r7, spos_8_1⟩, p7⟩, ⟨⟨r6, spos_8_1⟩, p6⟩, ⟨⟨r5, spos_8_1⟩, p5⟩, ⟨⟨r4, spos_8_1⟩, p4⟩,
      ⟨⟨r3, spos_8_1⟩, p3⟩, ⟨⟨r2, spos_8_1⟩, p2⟩, ⟨⟨r1, spos_8_1⟩, p1⟩, ⟨⟨r0, spos_8_1⟩, p0⟩])
      = fun y => G (ix2 ⟨(y 0).val / 8, by have : (y 0).val < 4096 := (y 0).isLt; omega⟩
          ⟨(y 0).val % 8 * 128 + (y 1).val, by have : (y 1).val < 128 := (y 1).isLt; omega⟩) := by
  have hc : ∀ y : S4096x128.Idx, ∃ p ∈ ([⟨⟨r7, spos_8_1⟩, p7⟩, ⟨⟨r6, spos_8_1⟩, p6⟩, ⟨⟨r5, spos_8_1⟩, p5⟩, ⟨⟨r4, spos_8_1⟩, p4⟩,
      ⟨⟨r3, spos_8_1⟩, p3⟩, ⟨⟨r2, spos_8_1⟩, p2⟩, ⟨⟨r1, spos_8_1⟩, p1⟩, ⟨⟨r0, spos_8_1⟩, p0⟩] : List (View.Piece (Elt F) S4096x128 .f32)), y ∈ p.1.set := by
    intro y
    have hy : (y 0).val < 4096 := (y 0).isLt
    have hm : ∀ (j : ℕ) (hi) (hj : (y 0).val % 8 = j), y ∈ (⟨⟨![j, 0], S512x128.size, ![8, 1], hi⟩, spos_8_1⟩ : Rect S4096x128).set := by
      intro j hi hj
      refine (LoadRect.mem_set _).2 fun a => ?_
      fin_cases a
      · exact ⟨(y 0).val / 8, by show (y 0).val / 8 < 512; omega, by show (y 0).val = j + 8 * ((y 0).val / 8); omega⟩
      · exact ⟨(y 1).val, (y 1).isLt, by show (y 1).val = 0 + 1 * (y 1).val; omega⟩
    obtain h | h | h | h | h | h | h | h : (y 0).val % 8 = 0 ∨ (y 0).val % 8 = 1 ∨ (y 0).val % 8 = 2 ∨ (y 0).val % 8 = 3
        ∨ (y 0).val % 8 = 4 ∨ (y 0).val % 8 = 5 ∨ (y 0).val % 8 = 6 ∨ (y 0).val % 8 = 7 := by omega
    · exact ⟨⟨⟨r0, spos_8_1⟩, p0⟩, by simp, hm 0 _ h⟩
    · exact ⟨⟨⟨r1, spos_8_1⟩, p1⟩, by simp, hm 1 _ h⟩
    · exact ⟨⟨⟨r2, spos_8_1⟩, p2⟩, by simp, hm 2 _ h⟩
    · exact ⟨⟨⟨r3, spos_8_1⟩, p3⟩, by simp, hm 3 _ h⟩
    · exact ⟨⟨⟨r4, spos_8_1⟩, p4⟩, by simp, hm 4 _ h⟩
    · exact ⟨⟨⟨r5, spos_8_1⟩, p5⟩, by simp, hm 5 _ h⟩
    · exact ⟨⟨⟨r6, spos_8_1⟩, p6⟩, by simp, hm 6 _ h⟩
    · exact ⟨⟨⟨r7, spos_8_1⟩, p7⟩, by simp, hm 7 _ h⟩
  rw [View.read_writes_eq_canon _ _ _ hc]
  funext y
  refine View.canon_apply_of_pieces (fun y => G (ix2 ⟨(y 0).val / 8, by have : (y 0).val < 4096 := (y 0).isLt; omega⟩
          ⟨(y 0).val % 8 * 128 + (y 1).val, by have : (y 1).val < 128 := (y 1).isLt; omega⟩)) _ ?_ y (hc y)
  have key : ∀ (j : ℕ) (hj : j < 8) (hi) (p : FVec F S512x128 .f32) (hp : ∀ r l, p (ix2 r l) = G (ix2 r ⟨j * 128 + l.val, by omega⟩))
      (x : S512x128.Idx), p x = (fun y : S4096x128.Idx => G (ix2 ⟨(y 0).val / 8, by have : (y 0).val < 4096 := (y 0).isLt; omega⟩
          ⟨(y 0).val % 8 * 128 + (y 1).val, by have : (y 1).val < 128 := (y 1).isLt; omega⟩)) ((⟨⟨![j, 0], S512x128.size, ![8, 1], hi⟩, spos_8_1⟩ : Rect S4096x128).emb x) := by
    intro j hj hi p hp x
    obtain ⟨r, l, rfl⟩ : ∃ (r : Fin 512) (l : Fin 128), x = ix2 r l := ⟨x 0, x 1, by funext a; fin_cases a <;> rfl⟩
    rw [hp]
    have e0 : ((⟨⟨![j, 0], S512x128.size, ![8, 1], hi⟩, spos_8_1⟩ : Rect S4096x128).emb (ix2 r l) 0 : ℕ) = j + 8 * r.val := rfl
    have e1 : ((⟨⟨![j, 0], S512x128.size, ![8, 1], hi⟩, spos_8_1⟩ : Rect S4096x128).emb (ix2 r l) 1 : ℕ) = 0 + 1 * l.val := rfl
    show _ = G _
    congr 1
    refine ix2_eq ?_ ?_
    · show r.val = _ / 8; rw [e0]; omega
    · show j * 128 + l.val = _ % 8 * 128 + _; rw [e0, e1]; omega
  intro p hp
  simp only [List.mem_cons, List.not_mem_nil, or_false] at hp
  rcases hp with rfl | rfl | rfl | rfl | rfl | rfl | rfl | rfl
  · exact key 7 (by omega) _ p7 h7
  · exact key 6 (by omega) _ p6 h6
  · exact key 5 (by omega) _ p5 h5
  · exact key 4 (by omega) _ p4 h4
  · exact key 3 (by omega) _ p3 h3
  · exact key 2 (by omega) _ p2 h2
  · exact key 1 (by omega) _ p1 h1
  · exact key 0 (by omega) _ p0 h0

theorem hz3 : (![0, 0, 0] : Fin 3 → ℕ) = fun _ => 0 := by decide
theorem hz2 : (![0, 0] : Fin 2 → ℕ) = fun _ => 0 := by decide

/-- A whole store read back. -/
theorem whole_store (v : View sig .tc .vmem S4096x128 .f32) (f : v.ty.Contents (Elt F)) (p : FVec F S4096x128 .f32) :
    v.read (Elt F) (v.writes (Elt F) f [⟨Rect.unit (s := S4096x128) ![0, 0] S4096x128.size inb_S4096x128_S4096x128_0_0, p⟩]) = p := by
  have hc : ∀ y : S4096x128.Idx, ∃ q ∈ ([⟨Rect.unit (s := S4096x128) ![0, 0] S4096x128.size inb_S4096x128_S4096x128_0_0, p⟩] : List (View.Piece (Elt F) S4096x128 .f32)), y ∈ q.1.set :=
    fun y => ⟨_, List.mem_cons_self, (LoadRect.mem_set _).2 fun a => ⟨(y a).val, (y a).isLt, by fin_cases a <;> simp [Rect.unit]⟩⟩
  rw [View.read_writes_eq_canon _ _ _ hc, View.canon_cons_unit_zero hz2]

/-- 128 columns of a block at a row and a lane. -/
theorem slice_at (G : FVec F S512x1024 .f32) (o : ℕ) (h : S512x1024.Slices ![0, o] S512x128) (h' : ∀ l : Fin 128, o + l.val < 1024)
    (r : Fin 512) (l : Fin 128) : extractStridedSlice S512x128 ![0, o] G h (ix2 r l) = G (ix2 r ⟨o + l.val, h' l⟩) :=
  extractStridedSlice_apply _ _ _ _ _ fun a => by fin_cases a <;> simp [ix2]

/-- The number of blocks in use, as the kernel reads it off its table. -/
def nbOf (c : Dev nD) (xt1 : TbBuf0 (F := F) c tbM0_1) : BitVec 32 := xt1 (ix1 0)

set_option maxHeartbeats 1000000 in
/-- The kernel body on whole buffers: the inputs kept, the output at `outAt`. -/
theorem body_run (c : Dev nD) (i : grid0.Coords) (arg3 : Memref sig .tc .vmem S4096x128 .f32) (harg3 : arg3.IsWhole) (arg4 : Memref sig .tc .vmem S1x1024x2048 .bf16) (harg4 : arg4.IsWhole) (arg5 : Memref sig .tc .vmem S1x1x2048 .f32) (harg5 : arg5.IsWhole) (arg6 : Memref sig .tc .vmem S1x1024x1024 .bf16) (harg6 : arg6.IsWhole) (arg7 : Memref sig .tc .vmem S1x1x1024 .f32) (harg7 : arg7.IsWhole) (arg8 : Memref sig .tc .vmem S4096x128 .f32) (harg8 : arg8.IsWhole)
    (x0 : Vec F S4096x128 .f32) (x1 : Vec F S1x1024x2048 .bf16) (x2 : Vec F S1x1x2048 .f32) (x3 : Vec F S1x1024x1024 .bf16) (x4 : Vec F S1x1x1024 .f32) (xt0 : TbBuf0 (F := F) c tbM0_0) (xt1 : TbBuf0 (F := F) c tbM0_1) :
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ tbPt0 c tbM0_0 xt0 ∗ tbPt0 c tbM0_1 xt1
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare (outAt i (nbOf c xt1) x0 x1 x2 x3 x4) ∗ tbPt0 c tbM0_0 xt0 ∗ tbPt0 c tbM0_1 xt1) -∗ K ⟨⟩))
          ⊢ wp frame (wpE (defs₀ (F := F)) Variants.none c none) E (cc0_expert_mlp i tbM0_0 htbM0_0 tbM0_1 htbM0_1 arg3 harg3 arg4 harg4 arg5 harg5 arg6 harg6 arg7 harg7 arg8 harg8) K := by
    intro E K
    simp only [cc0_expert_mlp_eq_skeleton]; unfold cc0_expert_mlp_skel
    simp only [k0_part1_eq_skeleton, k0_part2_eq_skeleton, k0_part3_eq_skeleton, k0_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, HT0, HT1, Hk⟩
    obtain rfl := harg3.eq_unread hf0; obtain rfl := harg4.eq_unread hf1; obtain rfl := harg5.eq_unread hf2; obtain rfl := harg6.eq_unread hf3; obtain rfl := harg7.eq_unread hf4
    sl_exec
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; swap; · iexact H5
      ipureintro
      have hn : body_run.sl.r c xt1 = nbOf c xt1 := by
        unfold body_run.sl.r nbOf
        exact congrArg xt1 (funext fun a => by fin_cases a; exact Subsingleton.elim (α := Fin 1) _ _)
      rw [hn]
      unfold outAt
      by_cases hc : k0_cond1 i (nbOf c xt1) = 1#1
      · have hc2 : ¬ k0_cond2 i (nbOf c xt1) = 1#1 := fun h => (cond_or i _).1 h hc
        rw [dif_neg hc2, dif_pos hc, if_pos hc]
        have e3 : ∀ r : LoadRect S4096x128, View.readAt (Elt F) arg3.view r (harg3.unread x0) = part x0 r := fun r =>
          funext fun y => congrFun (harg3.read_unread x0) (r.idx y)
        have e4 : View.readAt (Elt F) arg4.view (Rect.unit ![0, 0, 0] S1x1024x2048.size inb_S1x1024x2048_S1x1024x2048_0_0_0).toLoadRect (harg4.unread x1) = x1 :=
          (View.readAt_eq_ld _ _ _).trans ((View.ld_unit_zero hz3 _ _).trans (harg4.read_unread x1))
        have e5 : View.readAt (Elt F) arg5.view (Rect.unit ![0, 0, 0] S1x1x2048.size inb_S1x1x2048_S1x1x2048_0_0_0).toLoadRect (harg5.unread x2) = x2 :=
          (View.readAt_eq_ld _ _ _).trans ((View.ld_unit_zero hz3 _ _).trans (harg5.read_unread x2))
        have e6 : View.readAt (Elt F) arg6.view (Rect.unit ![0, 0, 0] S1x1024x1024.size inb_S1x1024x1024_S1x1024x1024_0_0_0).toLoadRect (harg6.unread x3) = x3 :=
          (View.readAt_eq_ld _ _ _).trans ((View.ld_unit_zero hz3 _ _).trans (harg6.read_unread x3))
        have e7 : View.readAt (Elt F) arg7.view (Rect.unit ![0, 0, 0] S1x1x1024.size inb_S1x1x1024_S1x1x1024_0_0_0).toLoadRect (harg7.unread x4) = x4 :=
          (View.readAt_eq_ld _ _ _).trans ((View.ld_unit_zero hz3 _ _).trans (harg7.read_unread x4))
        have f1 : body_run.sl.r_1 c arg3 harg3 arg4 harg4 arg5 harg5 x0 x1 x2 = up x0 x1 x2 := by
          unfold body_run.sl.r_1 up; rw [e3, e3, e3, e3, e3, e3, e3, e3, e4, e5]
        have f2 : body_run.sl.r_2 c arg3 harg3 arg4 harg4 arg5 harg5 x0 x1 x2 = act0 x0 x1 x2 := by
          unfold body_run.sl.r_2 act0; rw [e3, e3, e3, e3, e3, e3, e3, e3, e4, e5]
        have f3 : body_run.sl.r_3 c arg3 harg3 arg4 harg4 arg5 harg5 x0 x1 x2 = k0_pay7 (up x0 x1 x2) := by unfold body_run.sl.r_3; rw [f1]
        have f4 : body_run.sl.r_4 c arg3 harg3 arg4 harg4 arg5 harg5 x0 x1 x2 = k0_pay8 (up x0 x1 x2) := by unfold body_run.sl.r_4; rw [f1]
        have f5' : body_run.sl.r_5 c arg3 harg3 arg4 harg4 arg5 harg5 x0 x1 x2 = k0_pay9 (up x0 x1 x2) := by unfold body_run.sl.r_5; rw [f1]
        have f6 : body_run.sl.r_6 c arg3 harg3 arg4 harg4 arg5 harg5 x0 x1 x2 = k0_pay10 (up x0 x1 x2) := by unfold body_run.sl.r_6; rw [f1]
        have f7 : body_run.sl.r_7 c arg3 harg3 arg4 harg4 arg5 harg5 x0 x1 x2 = k0_pay11 (up x0 x1 x2) := by unfold body_run.sl.r_7; rw [f1]
        have f8 : body_run.sl.r_8 c arg3 harg3 arg4 harg4 arg5 harg5 x0 x1 x2 = k0_pay12 (up x0 x1 x2) := by unfold body_run.sl.r_8; rw [f1]
        have f9 : body_run.sl.r_9 c arg3 harg3 arg4 harg4 arg5 harg5 arg6 harg6 arg7 harg7 x0 x1 x2 x3 x4 = mlp x0 x1 x2 x3 x4 := by
          unfold body_run.sl.r_9 mlp; rw [f1, f2, f3, f4, f5', f6, f7, f8, e6, e7]
        have f10 : body_run.sl.r_10 c arg3 harg3 arg4 harg4 arg5 harg5 arg6 harg6 arg7 harg7 x0 x1 x2 x3 x4
            = extractStridedSlice S512x128 ![0, 512] (mlp x0 x1 x2 x3 x4) slices_S512x1024_o0_512_S512x128 := by
          unfold body_run.sl.r_10 mlp; rw [f1, f2, f3, f4, f5', f6, f7, f8, e6, e7]; rfl
        rw [f1, f2, f3, f4, f5', f6, f7, f8, f9, f10, e6, e7]
        refine stores_eq arg8.view f5 (mlp x0 x1 x2 x3 x4) _ _ _ _ _ _ _ _ ?_ ?_ ?_ ?_ ?_ ?_ ?_ ?_
        · exact fun r l => slice_at (mlp x0 x1 x2 x3 x4) 0 slices_S512x1024_o0_0_S512x128 (fun l => by omega) r l
        · exact fun r l => slice_at (mlp x0 x1 x2 x3 x4) 128 slices_S512x1024_o0_128_S512x128 (fun l => by omega) r l
        · exact fun r l => slice_at (mlp x0 x1 x2 x3 x4) 256 slices_S512x1024_o0_256_S512x128 (fun l => by omega) r l
        · exact fun r l => slice_at (mlp x0 x1 x2 x3 x4) 384 slices_S512x1024_o0_384_S512x128 (fun l => by omega) r l
        · exact fun r l => slice_at (mlp x0 x1 x2 x3 x4) 512 slices_S512x1024_o0_512_S512x128 (fun l => by omega) r l
        · exact fun r l => slice_at (mlp x0 x1 x2 x3 x4) 640 slices_S512x1024_o0_640_S512x128 (fun l => by omega) r l
        · exact fun r l => slice_at (mlp x0 x1 x2 x3 x4) 768 slices_S512x1024_o0_768_S512x128 (fun l => by omega) r l
        · exact fun r l => slice_at (mlp x0 x1 x2 x3 x4) 896 slices_S512x1024_o0_896_S512x128 (fun l => by omega) r l
      · have hc2 : k0_cond2 i (nbOf c xt1) = 1#1 := (cond_or i _).2 hc
        rw [dif_pos hc2, if_neg hc]
        exact whole_store arg8.view _ _
    isplitl [HT0]; · iexact HT0
    iexact HT1

end Cert.EvenExpertsIdeal.Hand

end
-- ==== Proof.EvenFrame.lean ====
/-
  The even layer's experts' kernel runs, keeps its arguments, and leaves in its result what the grid points' blocks hold.
-/
module

public import proofs.«01_k».proof.Proof.EvenRun
public import Idealize.ShloMosaic.Lib.Claim
public import Idealize.ShloMosaic.Lib.Pipeline.Value
public import Idealize.ShloMosaic.Lib.Pipeline.ValueKit
public import Idealize.ShloMosaic.Lib.Pointwise

@[expose] public section

set_option maxRecDepth 16384

noncomputable section

namespace Cert.EvenExpertsIdeal.Hand

open Cert.EvenExpertsIdeal Cert.EvenExpertsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The proof data of the one pipeline on core `c`: the arrays as the region finds them (`V`); after the body at
    point `t` each input's buffer at its block and the output's at `outAt` of the input blocks and the blocks in use; the invariant the class's
    (Lib/Pipeline/Frame.lean `ΦA`: the scoped rest and the generator register) and the tables' halves (`ΦT`); nothing owed;
    full shares. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => outAt (grid0.coords t) (nbOf c (tbl m 1)) (iblk m hO c 0 t) (iblk m hO c 1 t) (iblk m hO c 2 t) (iblk m hO c 3 t) (iblk m hO c 4 t)
  Φ _ := iprop(Pipeline.ΦA spec0 c ∗ Pipeline.ΦT pre0 (tbl m) c)
  q _ := fullShare
  owed _ := 0

/-- The proof data's arrays are the region-entry contents: the proof data's definition projected (`dsimp`), so that
    `V` — a fold over @main's host prefix, long for some programs — is never unfolded to check it. -/
theorem A_eq (hO : Ok m) (c : Dev nD) (w : Fin (cfgM m hO).W) : (dats m hO 0 c).A w = V m c (Pipeline.arrRef spec0 w) := by
  dsimp only [dats]

/-- What the body leaves, window by window (the proof data's `match` reduced by `dsimp`). -/
theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t = iblk m hO c 4 t := by dsimp only [dats]; try rfl
theorem after0_5 (hO : Ok m) (c : Dev nD) (t : Fin (cfgM m hO).N) : (dats m hO 0 c).after 5 t = outAt (grid0.coords t) (nbOf c (tbl m 1)) (iblk m hO c 0 t) (iblk m hO c 1 t) (iblk m hO c 2 t) (iblk m hO c 3 t) (iblk m hO c 4 t) := by dsimp only [dats]; try rfl

/-- Each input's current staging buffer holds its block at every point, fetched there or not (`beforeK_W_of`). -/
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d
theorem before0_4 (hO : Ok m) (c : Dev nD) (t : Fin (cfgM m hO).N) (d) : (dats m hO 0 c).before 4 t d = iblk m hO c 4 t :=
  before0_4_of m hO (dats m hO 0 c) (A_eq m hO c 4) (after0_4 m hO c) t d

/-! ## The body obligation, at a generic point -/

/-- What the body is called with at point `t` (Lib/Pipeline.lean `BodyObligation`'s precondition, the windows one by one), -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d))
    ∗ (∃ d, owns (c : Thread nD τ) (ms0_5 m hO t) fullShare ((dats m hO 0 c).before 5 t d)))

/-- and what it returns. -/
def bodyPost (hO : Ok m) (c : Dev nD) (t : Fin (cfgM m hO).N) : sProp 𝕄 :=
  iprop((dats m hO 0 c).Φ t.succ ∗ (dats m hO 0 c).owesAt () t.succ
    ∗ owns (c : Thread nD τ) (ms0_0 m hO t) fullShare ((dats m hO 0 c).after 0 t)
    ∗ owns (c : Thread nD τ) (ms0_1 m hO t) fullShare ((dats m hO 0 c).after 1 t)
    ∗ owns (c : Thread nD τ) (ms0_2 m hO t) fullShare ((dats m hO 0 c).after 2 t)
    ∗ owns (c : Thread nD τ) (ms0_3 m hO t) fullShare ((dats m hO 0 c).after 3 t)
    ∗ owns (c : Thread nD τ) (ms0_4 m hO t) fullShare ((dats m hO 0 c).after 4 t)
    ∗ owns (c : Thread nD τ) (ms0_5 m hO t) fullShare ((dats m hO 0 c).after 5 t))

/-- The body at any point: the inputs' memrefs hold their blocks (`before0_W`); so the
    run applies; the invariant passes through unread; the core owes nothing throughout. -/
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3, before0_4]
  rw [show (dats m hO 0 c).Φ t.succ = (dats m hO 0 c).Φ t.castSucc from rfl,
    show (dats m hO 0 c).owesAt () t.succ = (dats m hO 0 c).owesAt () t.castSucc from rfl,
    after0_0, after0_1, after0_2, after0_3, after0_4, after0_5]
  rw [show (dats m hO 0 c).Φ t.castSucc = iprop(Pipeline.ΦA spec0 c ∗ Pipeline.ΦT pre0 (tbl m) c) from rfl, PhiT0_eq]
  iintro ⟨⟨HΦ, ⟨HT0, HT1⟩⟩, Ho, ⟨%d0, H0⟩, ⟨%d1, H1⟩, ⟨%d2, H2⟩, ⟨%d3, H3⟩, ⟨%d4, H4⟩, ⟨%d5, H5⟩⟩
  iapply ((body_run c (grid0.coords t) _ _ _ _ _ _ _ _ _ _ _ _ (iblk m hO c 0 t) (iblk m hO c 1 t) (iblk m hO c 2 t) (iblk m hO c 3 t) (iblk m hO c 4 t) (tbl m 0) (tbl m 1)) Set.univ _)
  isplitl [H0]; · iexact H0
  isplitl [H1]; · iexact H1
  isplitl [H2]; · iexact H2
  isplitl [H3]; · iexact H3
  isplitl [H4]; · iexact H4
  isplitl [H5]; · iexists _; iexact H5
  isplitl [HT0]; · iexact HT0
  isplitl [HT1]; · iexact HT1
  iintro ⟨H0, H1, H2, H3, H4, H5, HT0, HT1⟩
  isplitl [HΦ HT0 HT1]
  · isplitl [HΦ]
    · iexact HΦ
    isplitl [HT0]; · iexact HT0
    iexact HT1
  isplitl [Ho]; · iexact Ho
  isplitl [H0]; · iexact H0
  isplitl [H1]; · iexact H1
  isplitl [H2]; · iexact H2
  isplitl [H3]; · iexact H3
  isplitl [H4]; · iexact H4
  iexact H5

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- At every point the kernel stores into its output block: the block is in use or it is not. -/
theorem idle5 (hO : Ok m) (t : Fin (cfgM m hO).N) : (cfgM m hO).idle 5 ((cfgM m hO).grid.coords t) = false := by
  show (!(k0_cond1 (grid0.coords t) ((tbl m).atD 1 ![0]) == 1#1) && !(k0_cond2 (grid0.coords t) ((tbl m).atD 1 ![0]) == 1#1)) = false
  by_cases h : k0_cond1 (grid0.coords t) ((tbl m).atD 1 ![0]) = 1#1
  · simp [h]
  · simp [(cond_or _ _).2 h]

/-- So the output's buffer is handed back at what the kernel stored. -/
theorem leaves5 (hO : Ok m) (c : Dev nD) (t : Fin (cfgM m hO).N) :
    (dats m hO 0 c).leavesExact 5 t = owns (c : Thread nD τ) (((cfgM m hO).win 5).stage ((cfgM m hO).slots t 5)) fullShare ((dats m hO 0 c).after 5 t) := by
  unfold Dat.leavesExact; rw [idle5 m hO t]

/-- The library's body obligation, at every point. -/
theorem body_obligation (hO : Ok m) (c : Dev nD) : BodyObligation (dats (F := F) m hO 0 c) (defs₀ (F := F)) Variants.none () Set.univ := fun t => by
  rw [bigSep_W0, bigSep_W0, defs₀_row m hO]
  refine triple_restated (sound_body m hO c t) rfl .rfl fun _ => ?_
  show bodyPost m hO c t ⊢ iprop((dats m hO 0 c).Φ t.succ ∗ (dats m hO 0 c).owesAt () t.succ
    ∗ owns (c : Thread nD τ) (ms0_0 m hO t) fullShare ((dats m hO 0 c).after 0 t)
    ∗ owns (c : Thread nD τ) (ms0_1 m hO t) fullShare ((dats m hO 0 c).after 1 t)
    ∗ owns (c : Thread nD τ) (ms0_2 m hO t) fullShare ((dats m hO 0 c).after 2 t)
    ∗ owns (c : Thread nD τ) (ms0_3 m hO t) fullShare ((dats m hO 0 c).after 3 t)
    ∗ owns (c : Thread nD τ) (ms0_4 m hO t) fullShare ((dats m hO 0 c).after 4 t)
    ∗ (dats m hO 0 c).leavesExact 5 t)
  rw [leaves5]
  exact .rfl

set_option backward.isDefEq.respectTransparency.types false in
set_option maxHeartbeats 800000 in
/-- The launch: every execution ends, with every array at what the pipeline computes and no semaphore pending. -/
theorem run_main_quiescent (hO : Ok m) : θ_run defs (onTc (τ := τ) (main (F := F))) (s₀ m ρ)
    (fun r => Pipeline.FramePost (Pipeline.pin pcfgs fun _ => adm m hO) (dats m hO) 0 (V m) r ∧ r.2.sem = fun _ => 0) :=
  Pipeline.θ_run_frameP (Q' := _) pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V := V m) (hmain := hmain m Variants.none) (hA := A_eq m hO) (hpf := V_pre m) (hΦ := fun _ _ => rfl)

/-- The launch with the result named, the arguments as they were. -/
theorem run_value (hO : Ok m) : θ_run defs (onTc (τ := τ) (main (F := F))) ⟨m, fun _ => 0, ρ⟩ (fun r => (∀ c : Dev nD,
      r.2.mem ((c.tc : Thread nD τ).loc main_v0) = (dats m hO 0 c).arrAt 5 (cfgM m hO).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun r h => ⟨fun c => ⟨(h.1 c).1 5,
      ((h.1 c).1 0).trans (((dats m hO 0 c).arrAt_in 0 rfl _).trans ((A_eq m hO c 0).trans (V_main_arg0 m c))),
      ((h.1 c).2 main_arg1 (by decide : main_arg1 ∈ Pipeline.restRefs sig spec0)).trans (V_main_arg1 m c),
      ((h.1 c).2 main_arg2 (by decide : main_arg2 ∈ Pipeline.restRefs sig spec0)).trans (V_main_arg2 m c),
      ((h.1 c).1 1).trans (((dats m hO 0 c).arrAt_in 1 rfl _).trans ((A_eq m hO c 1).trans (V_main_arg3 m c))),
      ((h.1 c).1 2).trans (((dats m hO 0 c).arrAt_in 2 rfl _).trans ((A_eq m hO c 2).trans (V_main_arg4 m c))),
      ((h.1 c).1 3).trans (((dats m hO 0 c).arrAt_in 3 rfl _).trans ((A_eq m hO c 3).trans (V_main_arg5 m c))),
      ((h.1 c).1 4).trans (((dats m hO 0 c).arrAt_in 4 rfl _).trans ((A_eq m hO c 4).trans (V_main_arg6 m c)))⟩, h.2⟩)
    (run_main_quiescent m ρ hO)

/-- The arguments are kept, and no semaphore is pending at the end. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun _ h => ⟨fun c => (h.1 c).2, h.2⟩) (run_value m ρ hO)

end Cert.EvenExpertsIdeal.Hand

end
-- ==== Proof.EvenOk.lean ====
/-
  Where the even layer's experts' windows stand: each weight and bias window at its block's expert; and, the experts being in range,
  that every window stands inside its array.
-/
module

public import proofs.«01_k».proof.Proof.EvenFrame

@[expose] public section

set_option maxRecDepth 16384

noncomputable section

namespace Cert.EvenExpertsIdeal.Hand

open Cert.EvenExpertsIdeal Cert.EvenExpertsIdeal.Gen
open Idealize.ShloMosaic Idealize.ShloMosaic.TcCoe

variable {F : FTy → Type} [FloatOps F]
variable (m : (ℓ : Loc nD τ sig) → Buf (Elt F) ℓ)

/-- The expert of a grid point's block. -/
def eOf (b : Fin 320) : ℕ := BitVec.toNat (w := 32) (tbl m 0 (ix1 b))

theorem word (i : grid0.Coords) : (tbl m).at 0 (Rect.unit (s := S320) ![(Scalar.indexCast (BitVec.ofNat 32 (i 0).val) : Index).toNat] S1.size (Facts₀.k0_off1_inb i)) Facts₀.numel1_S1
    = tbl m 0 (ix1 (i 0)) := by
  refine congrArg (tbl m 0) (funext fun a => ?_)
  fin_cases a
  refine Fin.ext ?_
  have h : (i 0).val < 320 := (i 0).isLt
  have e : (BitVec.ofNat 32 (i 0).val).toNat = (i 0).val := by rw [BitVec.toNat_ofNat]; omega
  refine (congrArg₂ (· + ·) e (?_ : _ = 0)).trans (Nat.add_zero _)
  have z : ∀ y : Fin 1, 1 * y.val = 0 := by decide
  exact z _

theorem tr1 (i : grid0.Coords) : cc0_transform_1 Facts₀.k0_off1_inb Facts₀.numel1_S1 (tbl m) i = ![eOf m (i 0), 0, 0] :=
  congrArg (fun w : BitVec 32 => ![w.toNat, 0, 0]) (word m i)
theorem tr2 (i : grid0.Coords) : cc0_transform_2 Facts₀.k0_off1_inb Facts₀.numel1_S1 (tbl m) i = ![eOf m (i 0), 0, 0] :=
  congrArg (fun w : BitVec 32 => ![w.toNat, 0, 0]) (word m i)
theorem tr3 (i : grid0.Coords) : cc0_transform_3 Facts₀.k0_off1_inb Facts₀.numel1_S1 (tbl m) i = ![eOf m (i 0), 0, 0] :=
  congrArg (fun w : BitVec 32 => ![w.toNat, 0, 0]) (word m i)
theorem tr4 (i : grid0.Coords) : cc0_transform_4 Facts₀.k0_off1_inb Facts₀.numel1_S1 (tbl m) i = ![eOf m (i 0), 0, 0] :=
  congrArg (fun w : BitVec 32 => ![w.toNat, 0, 0]) (word m i)

/-- With every expert in range, every window stands inside its array and moves whole words. -/
theorem ok_of (h : ∀ b : Fin 320, eOf m b < 32) : Ok m := by
  refine ⟨fun i => ⟨fun a => ?_, .inr ?_⟩, fun i => ⟨fun a => ?_, .inl rfl⟩, fun i => ⟨fun a => ?_, .inr ?_⟩, fun i => ⟨fun a => ?_, .inl rfl⟩⟩
  · rw [tr1]; have := h (i 0); fin_cases a
    · show (eOf m (i 0) + 1) * 1 ≤ 32; omega
    · show (0 + 1) * 1024 ≤ 1024; omega
    · show (0 + 1) * 2048 ≤ 2048; omega
  · refine Affine.words_rows (by decide) ?_ rfl
    show cc0_transform_1 Facts₀.k0_off1_inb Facts₀.numel1_S1 (tbl m) i 1 * 1024 = 0
    rw [tr1]; rfl
  · rw [tr2]; have := h (i 0); fin_cases a
    · show (eOf m (i 0) + 1) * 1 ≤ 32; omega
    · show (0 + 1) * 1 ≤ 1; omega
    · show (0 + 1) * 2048 ≤ 2048; omega
  · rw [tr3]; have := h (i 0); fin_cases a
    · show (eOf m (i 0) + 1) * 1 ≤ 32; omega
    · show (0 + 1) * 1024 ≤ 1024; omega
    · show (0 + 1) * 1024 ≤ 1024; omega
  · refine Affine.words_rows (by decide) ?_ rfl
    show cc0_transform_3 Facts₀.k0_off1_inb Facts₀.numel1_S1 (tbl m) i 1 * 1024 = 0
    rw [tr3]; rfl
  · rw [tr4]; have := h (i 0); fin_cases a
    · show (eOf m (i 0) + 1) * 1 ≤ 32; omega
    · show (0 + 1) * 1 ≤ 1; omega
    · show (0 + 1) * 1024 ≤ 1024; omega

end Cert.EvenExpertsIdeal.Hand

end
-- ==== Proof.EvenPre.lean ====
/-
  The precondition on the blocks' experts, read at one block: its expert's number is below 32.
-/
module

public import proofs.«01_k».proof.Proof.Gen.Pre_expert_of_even_block
public import proofs.«01_k».proof.Proof.Finite
public import Idealize.ShloMosaic.Lib.ReduceAll

@[expose] public section

noncomputable section

namespace Cert.EvenPre

open Cert.Pre_expert_of_even_block Idealize.ShloMosaic Idealize.SL.Sem

theorem both (w : BitVec 32) (h : IntOp.andi (IntOp.cmpi .sge w 0#32) (IntOp.cmpi .slt w 32#32) = 1#1) : w.toNat < 32 := by
  obtain ⟨h0, h1⟩ := Finite.andi_one _ _ h
  have h0' : (0#32).sle w = true := by
    by_contra hc; simp only [Bool.not_eq_true] at hc; simp [IntOp.cmpi, hc] at h0
  have h1' : w.slt 32#32 = true := by
    by_contra hc; simp only [Bool.not_eq_true] at hc; simp [IntOp.cmpi, hc] at h1
  rw [BitVec.sle_iff_toInt_le] at h0'
  rw [BitVec.slt_iff_toInt_lt] at h1'
  have e := BitVec.toInt_eq_toNat_cond w
  have hw := w.isLt
  have z0 : (0#32).toInt = 0 := by decide
  have z1 : (32#32).toInt = 32 := by decide
  rw [z0] at h0'; rw [z1] at h1'
  split at e <;> omega

variable [Facts] {F : FTy → Type} [FloatOps F]

theorem range (x0 : FVec F S1310720x128 .f32) (x1 : IVec S320 32) (x2 : IVec S1 32) (x3 : FVec F S32x1024x2048 .bf16)
    (x4 : FVec F S32x1x2048 .f32) (x5 : FVec F S32x1024x1024 .bf16) (x6 : FVec F S32x1x1024 .f32)
    (h : fn x0 x1 x2 x3 x4 x5 x6 = fun _ => 1#1) (b : Fin 320) : (x1 (ix1 b)).toNat < 32 := by
  have : Subsingleton (S_ : Shape).Idx := ⟨fun a b => funext fun x => x.elim0⟩
  exact both _ (Host.reduce_andi_all _ _ _ _ _ (congrFun h fun a => a.elim0) (ix1 b))

end Cert.EvenPre

end
-- ==== Proof.EvenBits.lean ====
/-
  The program at bit patterns is the program at extended reals with the other carrier, so the frame proved once for every carrier is the frame of both.
-/
module

public import proofs.«01_k».proof.Defs
public import proofs.«01_k».proof.Proof.EvenOk
public import proofs.«01_k».proof.Proof.EvenPre
public import proofs.«01_k».proof.Proof.Gen.Pre_expert_of_even_block
public import proofs.«01_k».proof.Proof.Gen.EvenExperts.Launch

@[expose] public section

set_option maxRecDepth 16384

namespace Cert.EvenBits

open Idealize.ShloMosaic Idealize.SL.Sem

local instance : Cert.Pre_expert_of_even_block.Facts := Cert.Pre_expert_of_even_block.Gen.facts
local instance : Cert.EvenExperts.Facts := Cert.EvenExperts.Gen.facts
local instance : Cert.EvenExpertsIdeal.Facts := Cert.EvenExpertsIdeal.Gen.facts

variable {F : FTy → Type} [FloatOps F]

theorem calls_eq : EvenExperts.defs₀ (F := F) = EvenExpertsIdeal.defs₀ := by
  unfold EvenExperts.defs₀ EvenExpertsIdeal.defs₀
  refine congrArg Defs.onTc (funext fun l => funext fun x => ?_)
  match l, x with
  | 0, (t, s) => rfl
  | ⟨_ + 1, h⟩, _ => exact absurd h (Nat.not_lt.2 (Nat.le_add_left _ _))

theorem defs_eq : EvenExperts.defs (F := F) = EvenExpertsIdeal.defs := by
  unfold EvenExperts.defs EvenExpertsIdeal.defs
  exact congrArg (Pipeline.defs EvenExpertsIdeal.pcfgs) calls_eq

theorem frame : Cert.quiescent_EvenExperts (hEvenExperts := Cert.EvenExperts.Gen.facts) := fun m ρ hp => by
  have h := Cert.EvenExpertsIdeal.Hand.frame (F := Bits) m ρ (Cert.EvenExpertsIdeal.Hand.ok_of m fun b => EvenPre.range _ _ _ _ _ _ _ (hp 0) b)
  rw [← defs_eq] at h
  exact h

end Cert.EvenBits

end
-- ==== Proof.EvenArr.lean ====
/-
  What the even layer's experts' result array holds after the run: each row's block of tokens through its expert's two layers, zero in
  the blocks not in use.
-/
module

public import proofs.«01_k».proof.Proof.EvenOk
public import proofs.«01_k».proof.Proof.EvenRun
public import proofs.«01_k».proof.Proof.ExpBlock
public import Idealize.ShloMosaic.Lib.Pipeline.Covers

@[expose] public section

set_option maxRecDepth 16384

noncomputable section

namespace Cert.EvenKer

open Cert.EvenExpertsIdeal Cert.EvenExpertsIdeal.Gen Cert.EvenExpertsIdeal.Hand Idealize.ShloMosaic Idealize.ShloMosaic.TcCoe Idealize.ShloMosaic.Pipeline Idealize.SL.Sem
open Cert.ExpKer (swiglu act up_at)

/-- A block through both layers, at a row and a column: the odd layer's block computation. -/
theorem mlp_at (x0 : Vec Ideal S4096x128 .f32) (x1 : Vec Ideal S1x1024x2048 .bf16) (x2 : Vec Ideal S1x1x2048 .f32)
    (x3 : Vec Ideal S1x1024x1024 .bf16) (x4 : Vec Ideal S1x1x1024 .f32) (r : Fin 512) (d : Fin 1024) :
    mlp x0 x1 x2 x3 x4 (ix2 r d) = (∑ k : Fin 1024, act (Cert.ExpertsIdeal.Hand.up x0 x1 x2) r k * x3 (ix3 0 k d)) + x4 (ix3 0 0 d) :=
  Cert.ExpKer.mlp_at x0 x1 x2 x3 x4 r d

/-- Where the windows stand at each grid point. -/
theorem coord : ∀ t : Fin grid0.N, (grid0.coords t 0).val = t.val := by decide +kernel

variable (m : (ℓ : Loc nD τ sig) → Buf (Elt Ideal) ℓ) (c : Dev nD)

theorem in_use (i : grid0.Coords) (nb : BitVec 32) : (k0_cond1 i nb = 1#1) ↔ (BitVec.ofNat 32 (i 0).val).slt nb = true := by
  unfold k0_cond1
  simp only [Scalar.cmpi, Scalar.extui, IntOp.cmpi]
  cases (BitVec.ofNat 32 (i 0).val).slt nb <;> decide

/-- A token's activation at column `k`, from its row of `X` and its expert's first layer. -/
def actOf (X : Vec Ideal S1310720x128 .f32) (W1 : Vec Ideal S32x1024x2048 .bf16) (B1 : Vec Ideal S32x1x2048 .f32) (e : Fin 32) (T : Fin 163840) (k : Fin 1024) : EReal :=
  swiglu ((∑ k' : Fin 1024, X (ix2 ⟨T.val * 8 + k'.val / 128, by omega⟩ ⟨k'.val % 128, by omega⟩) * W1 (ix3 e k' ⟨k.val / 128 * 256 + k.val % 128, by omega⟩)) + B1 (ix3 e 0 ⟨k.val / 128 * 256 + k.val % 128, by omega⟩))
    ((∑ k' : Fin 1024, X (ix2 ⟨T.val * 8 + k'.val / 128, by omega⟩ ⟨k'.val % 128, by omega⟩) * W1 (ix3 e k' ⟨k.val / 128 * 256 + 128 + k.val % 128, by omega⟩)) + B1 (ix3 e 0 ⟨k.val / 128 * 256 + 128 + k.val % 128, by omega⟩))

/-- The result at token `T` and column `d`, through expert `e`. -/
def tok (X : Vec Ideal S1310720x128 .f32) (W1 : Vec Ideal S32x1024x2048 .bf16) (B1 : Vec Ideal S32x1x2048 .f32)
    (W2 : Vec Ideal S32x1024x1024 .bf16) (B2 : Vec Ideal S32x1x1024 .f32) (e : Fin 32) (T : Fin 163840) (d : Fin 1024) : EReal :=
  (∑ k : Fin 1024, actOf X W1 B1 e T k * W2 (ix3 e k d)) + B2 (ix3 e 0 d)

/-- The whole result: zero in the blocks not in use. -/
def experts (X : Vec Ideal S1310720x128 .f32) (e : Fin 320 → Fin 32) (nb : BitVec 32) (W1 : Vec Ideal S32x1024x2048 .bf16) (B1 : Vec Ideal S32x1x2048 .f32)
    (W2 : Vec Ideal S32x1024x1024 .bf16) (B2 : Vec Ideal S32x1x1024 .f32) (R : Fin 1310720) (l : Fin 128) : EReal :=
  if (BitVec.ofNat 32 (R.val / 4096)).slt nb = true then
    tok X W1 B1 W2 B2 (e ⟨R.val / 4096, by omega⟩) ⟨R.val / 8, by omega⟩ ⟨R.val % 8 * 128 + l.val, by omega⟩
  else 0

variable (hO : Ok m)

theorem idx0 (t : Fin (cfgM m hO).N) : ((cfgM m hO).win 0).index t = ![t.val, 0] := by
  have h : ∀ t : Fin grid0.N, cc0_transform_0 (grid0.coords t) = ![t.val, 0] := by decide +kernel
  exact h t

theorem idx5 (t : Fin (cfgM m hO).N) : ((cfgM m hO).win 5).index t = ![t.val, 0] := by
  have h : ∀ t : Fin grid0.N, cc0_transform_5 (grid0.coords t) = ![t.val, 0] := by decide +kernel
  exact h t

theorem pt (t : Fin grid0.N) : grid0.coords t 0 = (⟨t.val, t.isLt⟩ : Fin 320) := Fin.ext (coord t)

theorem idx1 (t : Fin (cfgM m hO).N) : ((cfgM m hO).win 1).index t = ![eOf m ⟨t.val, t.isLt⟩, 0, 0] :=
  (tr1 m (grid0.coords t)).trans (congrArg (fun b => ![eOf m b, 0, 0]) (pt t))
theorem idx2 (t : Fin (cfgM m hO).N) : ((cfgM m hO).win 2).index t = ![eOf m ⟨t.val, t.isLt⟩, 0, 0] :=
  (tr2 m (grid0.coords t)).trans (congrArg (fun b => ![eOf m b, 0, 0]) (pt t))
theorem idx3 (t : Fin (cfgM m hO).N) : ((cfgM m hO).win 3).index t = ![eOf m ⟨t.val, t.isLt⟩, 0, 0] :=
  (tr3 m (grid0.coords t)).trans (congrArg (fun b => ![eOf m b, 0, 0]) (pt t))
theorem idx4 (t : Fin (cfgM m hO).N) : ((cfgM m hO).win 4).index t = ![eOf m ⟨t.val, t.isLt⟩, 0, 0] :=
  (tr4 m (grid0.coords t)).trans (congrArg (fun b => ![eOf m b, 0, 0]) (pt t))

theorem read0 (t : Fin (cfgM m hO).N) (r : Fin 4096) (l : Fin 128) (A : Fin 1310720) (hA : A.val = t.val * 4096 + r.val) :
    iblk m hO c 0 t (ix2 r l) = m ((c.tc : Thread nD τ).loc main_arg0) (ix2 A l) := by
  refine congrArg (m ((c.tc : Thread nD τ).loc main_arg0)) (funext fun a => Fin.ext ?_)
  refine (Pipeline.Window.rect_emb_val ((cfgM m hO).win 0) t _ a).trans ?_
  rw [idx0]
  fin_cases a
  · show t.val * 4096 + r.val = A.val; omega
  · show 0 * 128 + l.val = l.val; omega

theorem read1 (e : Fin 32) (t : Fin (cfgM m hO).N) (he : e.val = eOf m ⟨t.val, t.isLt⟩) (k : Fin 1024) (f : Fin 2048) :
    iblk m hO c 1 t (ix3 0 k f) = m ((c.tc : Thread nD τ).loc main_arg3) (ix3 e k f) := by
  refine congrArg (m ((c.tc : Thread nD τ).loc main_arg3)) (funext fun a => Fin.ext ?_)
  refine (Pipeline.Window.rect_emb_val ((cfgM m hO).win 1) t _ a).trans ?_
  rw [idx1]
  fin_cases a
  · show eOf m ⟨t.val, t.isLt⟩ * 1 + 0 = e.val; omega
  · show 0 * 1024 + k.val = k.val; omega
  · show 0 * 2048 + f.val = f.val; omega

theorem read2 (e : Fin 32) (t : Fin (cfgM m hO).N) (he : e.val = eOf m ⟨t.val, t.isLt⟩) (k : Fin 1) (f : Fin 2048) :
    iblk m hO c 2 t (ix3 0 k f) = m ((c.tc : Thread nD τ).loc main_arg4) (ix3 e k f) := by
  refine congrArg (m ((c.tc : Thread nD τ).loc main_arg4)) (funext fun a => Fin.ext ?_)
  refine (Pipeline.Window.rect_emb_val ((cfgM m hO).win 2) t _ a).trans ?_
  rw [idx2]
  fin_cases a
  · show eOf m ⟨t.val, t.isLt⟩ * 1 + 0 = e.val; omega
  · show 0 * 1 + k.val = k.val; omega
  · show 0 * 2048 + f.val = f.val; omega

theorem read3 (e : Fin 32) (t : Fin (cfgM m hO).N) (he : e.val = eOf m ⟨t.val, t.isLt⟩) (k : Fin 1024) (f : Fin 1024) :
    iblk m hO c 3 t (ix3 0 k f) = m ((c.tc : Thread nD τ).loc main_arg5) (ix3 e k f) := by
  refine congrArg (m ((c.tc : Thread nD τ).loc main_arg5)) (funext fun a => Fin.ext ?_)
  refine (Pipeline.Window.rect_emb_val ((cfgM m hO).win 3) t _ a).trans ?_
  rw [idx3]
  fin_cases a
  · show eOf m ⟨t.val, t.isLt⟩ * 1 + 0 = e.val; omega
  · show 0 * 1024 + k.val = k.val; omega
  · show 0 * 1024 + f.val = f.val; omega

theorem read4 (e : Fin 32) (t : Fin (cfgM m hO).N) (he : e.val = eOf m ⟨t.val, t.isLt⟩) (k : Fin 1) (f : Fin 1024) :
    iblk m hO c 4 t (ix3 0 k f) = m ((c.tc : Thread nD τ).loc main_arg6) (ix3 e k f) := by
  refine congrArg (m ((c.tc : Thread nD τ).loc main_arg6)) (funext fun a => Fin.ext ?_)
  refine (Pipeline.Window.rect_emb_val ((cfgM m hO).win 4) t _ a).trans ?_
  rw [idx4]
  fin_cases a
  · show eOf m ⟨t.val, t.isLt⟩ * 1 + 0 = e.val; omega
  · show 0 * 1 + k.val = k.val; omega
  · show 0 * 1024 + f.val = f.val; omega

theorem covers5 : ((cfgM m hO).win 5).Covers := by
  refine Pipeline.Window.covers_of_index_surj _ rfl ?_ fun β => ?_
  · have h : ∀ a : Fin 2, 0 < S4096x128.size a := by decide
    exact h
  · have hβ : (β (show Fin 2 from 0)).val < 320 := lt_of_lt_of_le (β (show Fin 2 from 0)).isLt (show (1310720 + 4096 - 1) / 4096 ≤ 320 by norm_num)
    refine ⟨⟨(β (show Fin 2 from 0)).val, hβ⟩, fun a => ?_⟩
    rw [idx5]
    revert a
    have h1 : (β (show Fin 2 from 1)).val < 1 := lt_of_lt_of_le (β (show Fin 2 from 1)).isLt (show (128 + 128 - 1) / 128 ≤ 1 by norm_num)
    intro (a : Fin 2)
    fin_cases a
    · rfl
    · show 0 = (β (show Fin 2 from 1)).val
      omega

theorem emb5 (t : Fin (cfgM m hO).N) (r : Fin 4096) (l : Fin 128) (A : Fin 1310720) (hA : A.val = t.val * 4096 + r.val) :
    ((((cfgM m hO).win 5).blk t).view.emb (show S4096x128.Idx from ix2 r l) : S1310720x128.Idx) = ix2 A l := by
  funext a
  refine Fin.ext ?_
  refine (Pipeline.Window.rect_emb_val ((cfgM m hO).win 5) t _ a).trans ?_
  rw [idx5]
  fin_cases a
  · show t.val * 4096 + r.val = A.val; omega
  · show 0 * 128 + l.val = l.val; omega

/-- What a grid point leaves of its block, at a row and a lane of the whole arrays. -/
theorem out_at (e : Fin 320 → Fin 32) (he : ∀ b, (e b).val = eOf m b) (t : Fin (cfgM m hO).N) (r : Fin 4096) (l : Fin 128) (A : Fin 1310720)
    (hA : A.val = t.val * 4096 + r.val) :
    outAt (grid0.coords t) (nbOf c (tbl m 1)) (iblk m hO c 0 t) (iblk m hO c 1 t) (iblk m hO c 2 t) (iblk m hO c 3 t) (iblk m hO c 4 t) (ix2 r l)
      = experts (m ((c.tc : Thread nD τ).loc main_arg0)) e (nbOf c (tbl m 1)) (m ((c.tc : Thread nD τ).loc main_arg3)) (m ((c.tc : Thread nD τ).loc main_arg4))
        (m ((c.tc : Thread nD τ).loc main_arg5)) (m ((c.tc : Thread nD τ).loc main_arg6)) A l := by
  have ht : t.val < 320 := t.isLt
  have hr := r.isLt
  have hb : A.val / 4096 = t.val := by omega
  have hT : A.val / 8 = t.val * 512 + r.val / 8 := by omega
  have hm : A.val % 8 = r.val % 8 := by omega
  unfold outAt experts
  simp only [in_use, coord, hb, hm]
  split_ifs with hu
  · unfold outB tok
    have h0 := fun (k' : Fin 1024) => read0 m c hO t ⟨r.val / 8 * 8 + k'.val / 128, by omega⟩ ⟨k'.val % 128, by omega⟩ ⟨A.val / 8 * 8 + k'.val / 128, by omega⟩ (by simp only []; omega)
    have hE : (e ⟨t.val, ht⟩).val = eOf m ⟨t.val, t.isLt⟩ := he _
    have h1 := read1 m c hO (e ⟨t.val, ht⟩) t hE
    have h2 := read2 m c hO (e ⟨t.val, ht⟩) t hE
    have h3 := read3 m c hO (e ⟨t.val, ht⟩) t hE
    have h4 := read4 m c hO (e ⟨t.val, ht⟩) t hE
    refine (mlp_at _ _ _ _ _ _ _).trans ?_
    unfold act actOf
    refine congrArg₂ (fun a b : EReal => a + b) (Finset.sum_congr rfl fun k _ => congrArg₂ (fun a b : EReal => a * b) (congrArg₂ swiglu ?_ ?_) (h3 _ _)) (h4 _ _)
    · exact (up_at _ _ _ _ _).trans (congrArg₂ (fun a b : EReal => a + b) (Finset.sum_congr rfl fun k' _ => congrArg₂ (fun a b : EReal => a * b) (h0 k') (h1 _ _)) (h2 _ _))
    · exact (up_at _ _ _ _ _).trans (congrArg₂ (fun a b : EReal => a + b) (Finset.sum_congr rfl fun k' _ => congrArg₂ (fun a b : EReal => a * b) (h0 k') (h1 _ _)) (h2 _ _))
  · exact Ideal.ofBits_zero_f32

/-- The result array after the run. -/
theorem arr (e : Fin 320 → Fin 32) (he : ∀ b, (e b).val = eOf m b) : (dats m hO 0 c).arrAt 5 (cfgM m hO).N = fun i : S1310720x128.Idx => experts
    (m ((c.tc : Thread nD τ).loc main_arg0)) e (nbOf c (tbl m 1)) (m ((c.tc : Thread nD τ).loc main_arg3)) (m ((c.tc : Thread nD τ).loc main_arg4))
    (m ((c.tc : Thread nD τ).loc main_arg5)) (m ((c.tc : Thread nD τ).loc main_arg6)) (i 0) (i 1) := by
  refine (dats m hO 0 c).arrAt_eq_of_covers 5 _ (covers5 m hO) fun t hf (y : S4096x128.Idx) => ?_
  blk_simp
  rw [after0_5]
  obtain ⟨r, l, rfl⟩ : ∃ (r : Fin 4096) (l : Fin 128), y = ix2 r l := ⟨y 0, y 1, by funext a; fin_cases a <;> rfl⟩
  have ht : t.val < 320 := t.isLt
  refine (out_at m c hO e he t r l ⟨t.val * 4096 + r.val, by omega⟩ rfl).trans ?_
  exact (congrArg (fun i : S1310720x128.Idx => experts
    (m ((c.tc : Thread nD τ).loc main_arg0)) e (nbOf c (tbl m 1)) (m ((c.tc : Thread nD τ).loc main_arg3)) (m ((c.tc : Thread nD τ).loc main_arg4))
    (m ((c.tc : Thread nD τ).loc main_arg5)) (m ((c.tc : Thread nD τ).loc main_arg6)) (i 0) (i 1)) (emb5 m hO t r l ⟨t.val * 4096 + r.val, by omega⟩ rfl)).symm

end Cert.EvenKer

end
-- ==== Proof.EvenRef.lean ====
/-
  What the even layer's experts' reference computes, read at one index: the printed composed term cut into its stages.
-/
module

public import proofs.«01_k».proof.Proof.Gen.EvenExpertsReferenceIdeal.Run
public import proofs.«01_k».proof.Proof.EvenArr
public import Idealize.ShloMosaic.Lib.Pointwise

@[expose] public section

noncomputable section

namespace Cert.EvenRef

open Cert.EvenExpertsReferenceIdeal Cert.EvenExpertsReferenceIdeal.Gen Cert.EvenExpertsReferenceIdeal.Value Idealize.ShloMosaic Idealize.SL.Sem

/-- The blocks' experts, a negative number counted from the end. -/
def refE (be : IVec S320 32) : IVec S320x1 32 :=
  broadcastInDim S320x1 ![0] bcast_S320_S320x1_0 (select (cmpi .slt be (broadcastInDim S320 ![] bcast_S_S320 (constantI S_ 32 0#32))) (addi be (broadcastInDim S320 ![] bcast_S_S320 (constantI S_ 32 32#32))) be)

/-- The first layer: product and bias. -/
def refU (X : Vec Ideal S1310720x128 .f32) (e : IVec S320x1 32) (W1 : Vec Ideal S32x1024x2048 .bf16) (B1 : Vec Ideal S32x1x2048 .f32) : FVec Ideal S320x512x2048 .f32 :=
  addf (Host.dotGeneral dot_S320x512x1024_S320x1024x2048_S320x512x2048_2_1_1_2_0_0 none (shapeCast S320x512x1024 (show FVec Ideal S1310720x128 .f32 from X) shapeCasts_S1310720x128_S320x512x1024) (extf .f32 (Host.gather gather_S32x1024x2048_S320x1_S320x1024x2048_12_0_n_n_0_1_110242048 W1 e) bitsLt_bf16_f32)) (broadcastInDim S320x512x2048 ![0, 1, 2] bcast_S320x1x2048_S320x512x2048_0_1_2 (Host.gather gather_S32x1x2048_S320x1_S320x1x2048_12_0_n_n_0_1_112048 B1 e))

/-- Its columns with gates and linear parts in turn. -/
def refI (u : FVec Ideal S320x512x2048 .f32) : FVec Ideal S320x512x2048 .f32 :=
  shapeCast _ (transpose S320x512x8x128x2 [0, 1, 2, 4, 3] (shapeCast _ u shapeCasts_S320x512x2048_S320x512x8x2x128) transposes_S320x512x8x2x128_S320x512x8x128x2_0_1_2_4_3) shapeCasts_S320x512x8x128x2_S320x512x2048

/-- The clamped gated unit. -/
def refG (v : FVec Ideal S320x512x2048 .f32) : FVec Ideal S320x512x1024 .f32 :=
  mulf (mulf (minimumf (Host.slice S320x512x1024 ![0, 0, 0] ![1, 1, 2] v slicesBy_S320x512x2048_S320x512x1024_0s1_0s1_0s2) (broadcastInDim S320x512x1024 ![] bcast_S_S320x512x1024 (constant S_ .f32 0x40E00000#32))) (Host.divf (broadcastInDim S320x512x1024 ![] bcast_S_S320x512x1024 (constant S_ .f32 0x3F800000#32)) (addf (broadcastInDim S320x512x1024 ![] bcast_S_S320x512x1024 (constant S_ .f32 0x3F800000#32)) (Host.exp (Host.negf (mulf (broadcastInDim S320x512x1024 ![] bcast_S_S320x512x1024 (constant S_ .f32 0x3FD9DB23#32)) (minimumf (Host.slice S320x512x1024 ![0, 0, 0] ![1, 1, 2] v slicesBy_S320x512x2048_S320x512x1024_0s1_0s1_0s2) (broadcastInDim S320x512x1024 ![] bcast_S_S320x512x1024 (constant S_ .f32 0x40E00000#32))))))))) (addf (minimumf (broadcastInDim S320x512x1024 ![] bcast_S_S320x512x1024 (id (constant S_ .f32 0x40E00000#32))) (maximumf (broadcastInDim S320x512x1024 ![] bcast_S_S320x512x1024 (id (constant S_ .f32 0xC0E00000#32))) (Host.slice S320x512x1024 ![0, 0, 1] ![1, 1, 2] v slicesBy_S320x512x2048_S320x512x1024_0s1_0s1_1s2))) (broadcastInDim S320x512x1024 ![] bcast_S_S320x512x1024 (constant S_ .f32 0x3F800000#32)))

/-- The second layer. -/
def refY (g : FVec Ideal S320x512x1024 .f32) (e : IVec S320x1 32) (W2 : Vec Ideal S32x1024x1024 .bf16) (B2 : Vec Ideal S32x1x1024 .f32) : FVec Ideal S320x512x1024 .f32 :=
  addf (Host.dotGeneral dot_S320x512x1024_S320x1024x1024_S320x512x1024_2_1_1_2_0_0 none g (extf .f32 (Host.gather gather_S32x1024x1024_S320x1_S320x1024x1024_12_0_n_n_0_1_110241024 W2 e) bitsLt_bf16_f32)) (broadcastInDim S320x512x1024 ![0, 1, 2] bcast_S320x1x1024_S320x512x1024_0_1_2 (Host.gather gather_S32x1x1024_S320x1_S320x1x1024_12_0_n_n_0_1_111024 B2 e))

/-- Zero in the blocks not in use. -/
def refO (nb : IVec S1 32) (y : FVec Ideal S320x512x1024 .f32) : FVec Ideal S1310720x128 .f32 :=
  shapeCast _ (select (broadcastInDim S320x512x1024 ![0, 1, 2] bcast_S320x1x1_S320x512x1024_0_1_2 (broadcastInDim S320x1x1 ![0] bcast_S320_S320x1x1_0 (cmpi .slt (iotaInDim S320 32 0) (broadcastInDim S320 ![] bcast_S_S320 (shapeCast _ nb shapeCasts_S1_S_))))) y (broadcastInDim S320x512x1024 ![] bcast_S_S320x512x1024 (id (constant S_ .f32 0x00000000#32)))) shapeCasts_S320x512x1024_S1310720x128

set_option maxRecDepth 8192 in
set_option maxHeartbeats 2000000 in
theorem res_eq (m : (ℓ : Loc nD τ sig) → Buf (Elt Ideal) ℓ) (c : Dev nD) :
    res_out0 m c = refO (m ((c.tc : Thread nD τ).loc main_arg2)) (refY (refG (refI (refU (m ((c.tc : Thread nD τ).loc main_arg0)) (refE (m ((c.tc : Thread nD τ).loc main_arg1)))
      (m ((c.tc : Thread nD τ).loc main_arg3)) (m ((c.tc : Thread nD τ).loc main_arg4))))) (refE (m ((c.tc : Thread nD τ).loc main_arg1))) (m ((c.tc : Thread nD τ).loc main_arg5)) (m ((c.tc : Thread nD τ).loc main_arg6))) := by
  unfold res_out0 res_main_v63 refO refY refG refI refU refE
  rfl

theorem refE_at (be : IVec S320 32) (b : Fin 320) (h : (be (ix1 b)).toNat < 32) : refE be (ix2 b 0) = be (ix1 b) := by
  unfold refE
  pointwise
  have hn : (be (ix1 b)).slt 0#32 = false := by
    rw [BitVec.slt_eq_decide, decide_eq_false_iff_not, BitVec.toInt_eq_toNat_of_lt (by omega)]
    simp
  simp [Scalar.select, IntOp.cmpi, hn]

theorem start_row (w : BitVec 32) (n : Fin 32) (h : w.toNat = n.val) (x : ℕ) (hx : x = min w.toInt.toNat 31) : x + 0 + 0 = n.val := by
  rw [hx, BitVec.toInt_eq_toNat_of_lt (by omega), h]
  have := n.isLt
  simp only [Int.toNat_natCast]
  omega

theorem gather1 {α : Type} (W : S32x1024x2048.Idx → α) (e : IVec S320x1 32) (b : Fin 320) (n : Fin 32) (h : (e (ix2 b 0)).toNat = n.val) (k : Fin 1024) (f : Fin 2048) :
    Host.gather gather_S32x1024x2048_S320x1_S320x1024x2048_12_0_n_n_0_1_110242048 W e (ix3 b k f) = W (ix3 n k f) := by
  refine congrArg W (funext fun a => ?_)
  fin_cases a <;> refine Fin.ext ?_
  · show GatherDims.start _ _ _ _ + GatherDims.batchCoord _ _ _ + GatherDims.offCoord _ _ _ = n.val
    rw [GatherDims.batchCoord_eq_zero _ _ _ (by decide), GatherDims.offCoord_eq_zero _ _ _ (by decide)]
    refine start_row (e (ix2 b 0)) n h _ ?_
    unfold GatherDims.start
    rw [dif_pos (by decide)]
    refine congrArg (fun i => min (e i).toInt.toNat 31) (funext fun x => ?_)
    fin_cases x <;> rfl
  · show GatherDims.start _ _ _ _ + GatherDims.batchCoord _ _ _ + GatherDims.offCoord _ _ _ = k.val
    rw [GatherDims.batchCoord_eq_zero _ _ _ (by decide)]
    unfold GatherDims.start GatherDims.offCoord
    rw [dif_neg (by decide), dif_pos (by decide)]
    exact (Nat.zero_add _)
  · show GatherDims.start _ _ _ _ + GatherDims.batchCoord _ _ _ + GatherDims.offCoord _ _ _ = f.val
    rw [GatherDims.batchCoord_eq_zero _ _ _ (by decide)]
    unfold GatherDims.start GatherDims.offCoord
    rw [dif_neg (by decide), dif_pos (by decide)]
    exact (Nat.zero_add _)

theorem gather2 {α : Type} (W : S32x1x2048.Idx → α) (e : IVec S320x1 32) (b : Fin 320) (n : Fin 32) (h : (e (ix2 b 0)).toNat = n.val) (k : Fin 1) (f : Fin 2048) :
    Host.gather gather_S32x1x2048_S320x1_S320x1x2048_12_0_n_n_0_1_112048 W e (ix3 b k f) = W (ix3 n k f) := by
  refine congrArg W (funext fun a => ?_)
  fin_cases a <;> refine Fin.ext ?_
  · show GatherDims.start _ _ _ _ + GatherDims.batchCoord _ _ _ + GatherDims.offCoord _ _ _ = n.val
    rw [GatherDims.batchCoord_eq_zero _ _ _ (by decide), GatherDims.offCoord_eq_zero _ _ _ (by decide)]
    refine start_row (e (ix2 b 0)) n h _ ?_
    unfold GatherDims.start
    rw [dif_pos (by decide)]
    refine congrArg (fun i => min (e i).toInt.toNat 31) (funext fun x => ?_)
    fin_cases x <;> rfl
  · show GatherDims.start _ _ _ _ + GatherDims.batchCoord _ _ _ + GatherDims.offCoord _ _ _ = k.val
    rw [GatherDims.batchCoord_eq_zero _ _ _ (by decide)]
    unfold GatherDims.start GatherDims.offCoord
    rw [dif_neg (by decide), dif_pos (by decide)]
    exact (Nat.zero_add _)
  · show GatherDims.start _ _ _ _ + GatherDims.batchCoord _ _ _ + GatherDims.offCoord _ _ _ = f.val
    rw [GatherDims.batchCoord_eq_zero _ _ _ (by decide)]
    unfold GatherDims.start GatherDims.offCoord
    rw [dif_neg (by decide), dif_pos (by decide)]
    exact (Nat.zero_add _)

theorem gather3 {α : Type} (W : S32x1024x1024.Idx → α) (e : IVec S320x1 32) (b : Fin 320) (n : Fin 32) (h : (e (ix2 b 0)).toNat = n.val) (k : Fin 1024) (f : Fin 1024) :
    Host.gather gather_S32x1024x1024_S320x1_S320x1024x1024_12_0_n_n_0_1_110241024 W e (ix3 b k f) = W (ix3 n k f) := by
  refine congrArg W (funext fun a => ?_)
  fin_cases a <;> refine Fin.ext ?_
  · show GatherDims.start _ _ _ _ + GatherDims.batchCoord _ _ _ + GatherDims.offCoord _ _ _ = n.val
    rw [GatherDims.batchCoord_eq_zero _ _ _ (by decide), GatherDims.offCoord_eq_zero _ _ _ (by decide)]
    refine start_row (e (ix2 b 0)) n h _ ?_
    unfold GatherDims.start
    rw [dif_pos (by decide)]
    refine congrArg (fun i => min (e i).toInt.toNat 31) (funext fun x => ?_)
    fin_cases x <;> rfl
  · show GatherDims.start _ _ _ _ + GatherDims.batchCoord _ _ _ + GatherDims.offCoord _ _ _ = k.val
    rw [GatherDims.batchCoord_eq_zero _ _ _ (by decide)]
    unfold GatherDims.start GatherDims.offCoord
    rw [dif_neg (by decide), dif_pos (by decide)]
    exact (Nat.zero_add _)
  · show GatherDims.start _ _ _ _ + GatherDims.batchCoord _ _ _ + GatherDims.offCoord _ _ _ = f.val
    rw [GatherDims.batchCoord_eq_zero _ _ _ (by decide)]
    unfold GatherDims.start GatherDims.offCoord
    rw [dif_neg (by decide), dif_pos (by decide)]
    exact (Nat.zero_add _)

theorem gather4 {α : Type} (W : S32x1x1024.Idx → α) (e : IVec S320x1 32) (b : Fin 320) (n : Fin 32) (h : (e (ix2 b 0)).toNat = n.val) (k : Fin 1) (f : Fin 1024) :
    Host.gather gather_S32x1x1024_S320x1_S320x1x1024_12_0_n_n_0_1_111024 W e (ix3 b k f) = W (ix3 n k f) := by
  refine congrArg W (funext fun a => ?_)
  fin_cases a <;> refine Fin.ext ?_
  · show GatherDims.start _ _ _ _ + GatherDims.batchCoord _ _ _ + GatherDims.offCoord _ _ _ = n.val
    rw [GatherDims.batchCoord_eq_zero _ _ _ (by decide), GatherDims.offCoord_eq_zero _ _ _ (by decide)]
    refine start_row (e (ix2 b 0)) n h _ ?_
    unfold GatherDims.start
    rw [dif_pos (by decide)]
    refine congrArg (fun i => min (e i).toInt.toNat 31) (funext fun x => ?_)
    fin_cases x <;> rfl
  · show GatherDims.start _ _ _ _ + GatherDims.batchCoord _ _ _ + GatherDims.offCoord _ _ _ = k.val
    rw [GatherDims.batchCoord_eq_zero _ _ _ (by decide)]
    unfold GatherDims.start GatherDims.offCoord
    rw [dif_neg (by decide), dif_pos (by decide)]
    exact (Nat.zero_add _)
  · show GatherDims.start _ _ _ _ + GatherDims.batchCoord _ _ _ + GatherDims.offCoord _ _ _ = f.val
    rw [GatherDims.batchCoord_eq_zero _ _ _ (by decide)]
    unfold GatherDims.start GatherDims.offCoord
    rw [dif_neg (by decide), dif_pos (by decide)]
    exact (Nat.zero_add _)

theorem refU_at (X : Vec Ideal S1310720x128 .f32) (e : IVec S320x1 32) (W1 : Vec Ideal S32x1024x2048 .bf16) (B1 : Vec Ideal S32x1x2048 .f32)
    (b : Fin 320) (n : Fin 32) (h : (e (ix2 b 0)).toNat = n.val) (r : Fin 512) (f : Fin 2048) : refU X e W1 B1 (ix3 b r f)
      = (∑ k : Fin 1024, X (ix2 ⟨b.val * 4096 + r.val * 8 + k.val / 128, by omega⟩ ⟨k.val % 128, by omega⟩) * W1 (ix3 n k f)) + B1 (ix3 n 0 f) := by
  unfold refU
  pointwise [dot_S320x512x1024_S320x1024x2048_S320x512x2048_2_1_1_2_0_0]
  simp only [gather1 _ e b n h, gather2 _ e b n h]

theorem refI_at (u : FVec Ideal S320x512x2048 .f32) (b : Fin 320) (r : Fin 512) (f : Fin 2048) :
    refI u (ix3 b r f) = u (ix3 b r ⟨f.val / 256 * 256 + f.val % 2 * 128 + f.val / 2 % 128, by omega⟩) := by
  unfold refI
  pointwise

theorem refG_at (v : FVec Ideal S320x512x2048 .f32) (b : Fin 320) (r : Fin 512) (k : Fin 1024) : refG v (ix3 b r k)
      = ExpKer.swiglu (v (ix3 b r ⟨2 * k.val, by omega⟩)) (v (ix3 b r ⟨1 + 2 * k.val, by omega⟩)) := by
  unfold refG ExpKer.swiglu Ideal.logistic
  pointwise
  rfl

theorem refY_at (g : FVec Ideal S320x512x1024 .f32) (e : IVec S320x1 32) (W2 : Vec Ideal S32x1024x1024 .bf16) (B2 : Vec Ideal S32x1x1024 .f32)
    (b : Fin 320) (n : Fin 32) (h : (e (ix2 b 0)).toNat = n.val) (r : Fin 512) (d : Fin 1024) : refY g e W2 B2 (ix3 b r d)
      = (∑ k : Fin 1024, g (ix3 b r k) * W2 (ix3 n k d)) + B2 (ix3 n 0 d) := by
  unfold refY
  pointwise [dot_S320x512x1024_S320x1024x1024_S320x512x1024_2_1_1_2_0_0]
  simp only [gather3 _ e b n h, gather4 _ e b n h]

theorem refO_at (nb : IVec S1 32) (y : FVec Ideal S320x512x1024 .f32) (R : Fin 1310720) (l : Fin 128) : refO nb y (ix2 R l)
      = if (BitVec.ofNat 32 (R.val / 4096)).slt (nb (ix1 0)) = true then y (ix3 ⟨R.val / 4096, by omega⟩ ⟨R.val / 8 % 512, by omega⟩ ⟨R.val % 8 * 128 + l.val, by omega⟩) else 0 := by
  unfold refO
  pointwise
  have h : ∀ (q : Bool) (a b : EReal), (if BitVec.ofBool q = 1 then a else b) = if q = true then a else b := by
    intro q a b; cases q <;> simp
  refine (h _ _ _).trans ?_
  rw [show id (constant (F := Ideal) S_ .f32 0x00000000#32) ix0 = 0 from Ideal.ofBits_zero_f32]

end Cert.EvenRef

end
-- ==== Proof.EvenEq.lean ====
/-
  The even layer's experts' equation: at every row and lane the reference holds what the kernel's array holds.
-/
module

public import proofs.«01_k».proof.Proof.EvenRef

@[expose] public section

noncomputable section

namespace Cert.EvenEq

open Cert.EvenExpertsReferenceIdeal Cert.EvenKer Cert.EvenRef Idealize.ShloMosaic Idealize.SL.Sem

variable (X : Vec Ideal S1310720x128 .f32) (be : IVec S320 32) (nb : IVec S1 32) (W1 : Vec Ideal S32x1024x2048 .bf16) (B1 : Vec Ideal S32x1x2048 .f32)
  (W2 : Vec Ideal S32x1024x1024 .bf16) (B2 : Vec Ideal S32x1x1024 .f32) (e : Fin 320 → Fin 32) (he : ∀ b, (be (ix1 b)).toNat = (e b).val)

include he

theorem word (b : Fin 320) : (refE be (ix2 b 0)).toNat = (e b).val := by
  rw [refE_at be b (by rw [he b]; exact (e b).isLt), he b]

/-- The reference's first layer at the column the gated unit reads. -/
theorem layer1 (R : Fin 1310720) (f g : Fin 2048) (hg : f.val / 256 * 256 + f.val % 2 * 128 + f.val / 2 % 128 = g.val) :
    refI (refU X (refE be) W1 B1) (ix3 ⟨R.val / 4096, by omega⟩ ⟨R.val / 8 % 512, by omega⟩ f)
      = (∑ k : Fin 1024, X (ix2 ⟨R.val / 8 * 8 + k.val / 128, by omega⟩ ⟨k.val % 128, by omega⟩) * W1 (ix3 (e ⟨R.val / 4096, by omega⟩) k g)) + B1 (ix3 (e ⟨R.val / 4096, by omega⟩) 0 g) := by
  refine (refI_at _ _ _ _).trans ?_
  rw [show (⟨f.val / 256 * 256 + f.val % 2 * 128 + f.val / 2 % 128, by omega⟩ : Fin 2048) = g from Fin.ext hg]
  refine (refU_at X _ W1 B1 _ _ (word be e he _) _ _).trans ?_
  refine congrArg (· + _) (Finset.sum_congr rfl fun k _ => congrArg (· * _) ?_)
  exact congrArg (fun a => X (ix2 a _)) (Fin.ext (by simp only []; omega))

theorem ref_eq (R : Fin 1310720) (l : Fin 128) :
    refO nb (refY (refG (refI (refU X (refE be) W1 B1))) (refE be) W2 B2) (ix2 R l) = experts X e (nb (ix1 0)) W1 B1 W2 B2 R l := by
  rw [refO_at]
  unfold experts tok actOf
  split_ifs
  · refine (refY_at _ _ W2 B2 _ _ (word be e he _) _ _).trans ?_
    refine congrArg (· + _) (Finset.sum_congr rfl fun k _ => congrArg (· * _) ?_)
    have hk := k.isLt
    refine (refG_at _ _ _ _).trans (congrArg₂ Cert.ExpKer.swiglu ?_ ?_)
    · exact layer1 X be W1 B1 e he R _ _ (by simp only []; omega)
    · exact layer1 X be W1 B1 e he R _ _ (by simp only []; omega)
  · rfl

end Cert.EvenEq

end
-- ==== Proof.LatHead.lean ====
/-
  The four heads of one grid point of the latent attention kernel: each is the attention of its query row over the
  latent and the context keys, and a stored block holds two heads side by side, half a block's lanes each.
-/
module

public import proofs.«01_k».proof.Proof.Gen.LatentIdeal.Value
public import proofs.«01_k».proof.Proof.Soft
public import Idealize.ShloMosaic.Lib.Pointwise
public import Idealize.ShloMosaic.Lib.Pipeline.ValueKit

@[expose] public section

set_option maxRecDepth 16384

noncomputable section

namespace Cert.LatKer

open Cert.LatentIdeal Cert.LatentIdeal.Gen Idealize.ShloMosaic Idealize.SL.Sem

/-- Attention of the query row `r` of a block over the keys of two blocks, value lane `l`. -/
def head (kc vc : Vec Ideal S256x128 .bf16) (kl vl : Vec Ideal S2048x128 .bf16) (q : Vec Ideal S1024x128 .bf16)
    (r : Fin 1024) (l : Fin 128) : EReal :=
  Soft.softK (fun x : Fin 2048 => ∑ d : Fin 128, q (ix2 r d) * kl (ix2 x d)) (fun x => vl (ix2 x l))
    (fun x : Fin 256 => ∑ d : Fin 128, q (ix2 r d) * kc (ix2 x d)) (fun x => vc (ix2 x l))

/-- The mask of the lower lanes. -/
theorem lower : ∀ l : Fin 128, IntOp.cmpi CmpIPredicate.slt (BitVec.ofNat 32 l.val) 64#32 = if l.val < 64 then 1#1 else 0#1 := by
  decide +kernel

section Heads

variable (kc vc : Vec Ideal S256x128 .bf16) (kl vl : Vec Ideal S2048x128 .bf16) (q : Vec Ideal S1024x128 .bf16)

theorem head_at (r : Fin 1024) (l : Fin 128) : k0_pay3 kc vc kl vl q (ix2 r l) = head kc vc kl vl q r l := by
  unfold head Soft.softK
  unfold_payloads
  pointwise [dot_S1024x128_S256x128_S1024x256_1_1_0_0_n_n, dot_S1024x128_S2048x128_S1024x2048_1_1_0_0_n_n, dot_S1024x256_S256x128_S1024x128_1_0_0_1_n_n, dot_S1024x2048_S2048x128_S1024x128_1_0_0_1_n_n]
  simp only [Soft.ninf]
  rfl

/-- The other three heads are the same computation. -/
theorem second : k0_pay4 kc vc kl vl q = k0_pay3 kc vc kl vl q := rfl

theorem third : k0_pay7 vc kl vl q (k0_pay5 kc q) (k0_pay6 kc q) (constant S1024x2048 .f32 0x00000000#32) = k0_pay3 kc vc kl vl q := rfl

theorem fourth (a : FVec Ideal S1024x128 .f32) :
    k0_pay2 a vc vl (k0_pay9 kl q) (k0_pay10 kc kl q) (k0_pay12 kc kl q) (k0_pay13 kc kl q) = k0_pay1 a (k0_pay3 kc vc kl vl q) := rfl

/-- Two heads in one block: the first in the lower lanes, the second rotated into the upper ones. -/
theorem pair_at (a b : FVec Ideal S1024x128 .f32) (r : Fin 1024) (l : Fin 128) :
    k0_pay1 a b (ix2 r l) = if l.val < 64 then a (ix2 r l) else b (ix2 r ⟨l.val - 64, by omega⟩) := by
  unfold_payloads
  pointwise
  have hm : IntOp.cmpi CmpIPredicate.slt (BitVec.ofNat 32 l.val) 64#32 = if l.val < 64 then 1#1 else 0#1 := lower l
  rw [hm]
  by_cases hl : l.val < 64
  · simp only [if_pos hl]; rfl
  · simp only [if_neg hl]
    have e : (⟨(l.val + 128 - 64) % 128, by omega⟩ : Fin 128) = ⟨l.val - 64, by omega⟩ := Fin.ext (by dsimp only; omega)
    exact congrArg (fun k => b (ix2 r k)) e

end Heads

end Cert.LatKer

end
-- ==== Proof.LatKer.lean ====
/-
  What one grid point of the latent attention kernel writes, and what its output array holds at the end: at each row and
  lane, the attention of that row's query head over the latent and the context keys of the row's batch entry.
-/
module

public import proofs.«01_k».proof.Proof.LatHead

@[expose] public section

set_option maxRecDepth 16384

noncomputable section

namespace Cert.LatKer

open Cert.LatentIdeal Cert.LatentIdeal.Gen Idealize.ShloMosaic Idealize.ShloMosaic.Pipeline Idealize.SL.Sem

/-- One query row of a block against the keys of two blocks, output lane `L`: 64 lanes per head. -/
def row (x0 : Vec Ideal S1024x512 .bf16) (x1 x2 : Vec Ideal S2048x512 .bf16) (x3 x4 : Vec Ideal S256x512 .bf16)
    (R : Fin 1024) (L : Fin 256) : EReal :=
  Soft.softK
    (fun x : Fin 2048 => ∑ d : Fin 128, x0 (ix2 R ⟨L.val / 64 * 128 + d.val, by omega⟩) * x1 (ix2 x ⟨L.val / 64 * 128 + d.val, by omega⟩))
    (fun x => x2 (ix2 x ⟨L.val / 64 * 128 + L.val % 64, by omega⟩))
    (fun x : Fin 256 => ∑ d : Fin 128, x0 (ix2 R ⟨L.val / 64 * 128 + d.val, by omega⟩) * x3 (ix2 x ⟨L.val / 64 * 128 + d.val, by omega⟩))
    (fun x => x4 (ix2 x ⟨L.val / 64 * 128 + L.val % 64, by omega⟩))

theorem head_of (x0 : Vec Ideal S1024x512 .bf16) (x1 x2 : Vec Ideal S2048x512 .bf16) (x3 x4 : Vec Ideal S256x512 .bf16)
    (kc vc : Vec Ideal S256x128 .bf16) (kl vl : Vec Ideal S2048x128 .bf16) (q : Vec Ideal S1024x128 .bf16)
    (r : Fin 1024) (l : Fin 128) (L : Fin 256)
    (hq : ∀ d : Fin 128, q (ix2 r d) = x0 (ix2 r ⟨L.val / 64 * 128 + d.val, by omega⟩))
    (hk : ∀ (x : Fin 2048) (d : Fin 128), kl (ix2 x d) = x1 (ix2 x ⟨L.val / 64 * 128 + d.val, by omega⟩))
    (hv : ∀ x : Fin 2048, vl (ix2 x l) = x2 (ix2 x ⟨L.val / 64 * 128 + L.val % 64, by omega⟩))
    (hkc : ∀ (x : Fin 256) (d : Fin 128), kc (ix2 x d) = x3 (ix2 x ⟨L.val / 64 * 128 + d.val, by omega⟩))
    (hvc : ∀ x : Fin 256, vc (ix2 x l) = x4 (ix2 x ⟨L.val / 64 * 128 + L.val % 64, by omega⟩)) :
    head kc vc kl vl q r l = row x0 x1 x2 x3 x4 r L := by
  unfold head row
  simp only [hq, hk, hv, hkc, hvc]

/-- A head's value from its slices of the blocks: `n` its first lane there. -/
theorem head_eq (x0 : Vec Ideal S1024x512 .bf16) (x1 x2 : Vec Ideal S2048x512 .bf16) (x3 x4 : Vec Ideal S256x512 .bf16)
    (n : ℕ) (h2 : ∀ a, (![0, n] : Fin 2 → ℕ) a + S2048x128.size a ≤ S2048x512.size a)
    (h3 : ∀ a, (![0, n] : Fin 2 → ℕ) a + S256x128.size a ≤ S256x512.size a)
    (h1 : ∀ a, (![0, n] : Fin 2 → ℕ) a + S1024x128.size a ≤ S1024x512.size a)
    (r : Fin 1024) (l : Fin 128) (L : Fin 256) (hn : L.val / 64 * 128 = n) (hl : l.val = L.val % 64) :
    head (View.ld x3 (Rect.unit (s := S256x512) ![0, n] S256x128.size h3)) (View.ld x4 (Rect.unit (s := S256x512) ![0, n] S256x128.size h3))
      (View.ld x1 (Rect.unit (s := S2048x512) ![0, n] S2048x128.size h2)) (View.ld x2 (Rect.unit (s := S2048x512) ![0, n] S2048x128.size h2))
      (View.ld x0 (Rect.unit (s := S1024x512) ![0, n] S1024x128.size h1)) r l = row x0 x1 x2 x3 x4 r L := by
  subst hn
  have q0 : ∀ d : Fin 128, View.ld x0 (Rect.unit (s := S1024x512) ![0, L.val / 64 * 128] S1024x128.size h1) (ix2 r d)
      = x0 (ix2 r ⟨L.val / 64 * 128 + d.val, by omega⟩) := fun d =>
    View.ld_unit_apply_of x0 _ _ _ _ _ fun a => by
      fin_cases a
      · show r.val = 0 + r.val; omega
      · rfl
  have q1 : ∀ (X : Vec Ideal S2048x512 .bf16) (x : Fin 2048) (d : Fin 128),
      View.ld X (Rect.unit (s := S2048x512) ![0, L.val / 64 * 128] S2048x128.size h2) (ix2 x d)
      = X (ix2 x ⟨L.val / 64 * 128 + d.val, by omega⟩) := fun X x d =>
    View.ld_unit_apply_of X _ _ _ _ _ fun a => by
      fin_cases a
      · show x.val = 0 + x.val; omega
      · rfl
  have q3 : ∀ (X : Vec Ideal S256x512 .bf16) (x : Fin 256) (d : Fin 128),
      View.ld X (Rect.unit (s := S256x512) ![0, L.val / 64 * 128] S256x128.size h3) (ix2 x d)
      = X (ix2 x ⟨L.val / 64 * 128 + d.val, by omega⟩) := fun X x d =>
    View.ld_unit_apply_of X _ _ _ _ _ fun a => by
      fin_cases a
      · show x.val = 0 + x.val; omega
      · rfl
  have e : ∀ l' : Fin 128, l'.val = l.val → L.val / 64 * 128 + l'.val = L.val / 64 * 128 + L.val % 64 := fun l' h => by omega
  exact head_of x0 x1 x2 x3 x4 _ _ _ _ _ r l L q0 (q1 x1) (fun x => (q1 x2 x l).trans (congrArg (fun k => x2 (ix2 x k)) (Fin.ext (e l rfl))))
    (q3 x3) (fun x => (q3 x4 x l).trans (congrArg (fun k => x4 (ix2 x k)) (Fin.ext (e l rfl))))

/-- One grid point's output block at a row and a lane. -/
theorem out_at (x0 : Vec Ideal S1024x512 .bf16) (x1 x2 : Vec Ideal S2048x512 .bf16) (x3 x4 : Vec Ideal S256x512 .bf16)
    (R : Fin 1024) (L : Fin 256) : out0_5 x0 x1 x2 x3 x4 (ix2 R L) = row x0 x1 x2 x3 x4 R L := by
  canon_tiles x h
  all_goals
    obtain ⟨r, l, rfl⟩ : ∃ r l, x = ix2 r l := ⟨x 0, x 1, by funext a; fin_cases a <;> rfl⟩
    change R.val = r.val at h0
    obtain rfl := Fin.ext h0
  · change L.val = 128 + l.val at h1
    rw [third, fourth, pair_at]
    split_ifs with hl
    · rw [head_at]; exact head_eq x0 x1 x2 x3 x4 256 _ _ _ R l L (by omega) (by omega)
    · rw [head_at]; exact head_eq x0 x1 x2 x3 x4 384 _ _ _ R _ L (by omega) (by dsimp only; omega)
  · change L.val = l.val at h1
    rw [second, pair_at]
    split_ifs with hl
    · rw [head_at]; exact head_eq x0 x1 x2 x3 x4 0 _ _ _ R l L (by omega) (by omega)
    · rw [head_at]; exact head_eq x0 x1 x2 x3 x4 128 _ _ _ R _ L (by omega) (by dsimp only; omega)

/-- Attention at a row and a lane of the whole arrays. -/
def attn (Q K V : Vec Ideal S32768x1024 .bf16) (Kc Vc : Vec Ideal S4096x1024 .bf16)
    (R : Fin 32768) (L : Fin 512) : EReal :=
  Soft.softK
    (fun x : Fin 2048 => ∑ d : Fin 128, Q (ix2 R ⟨L.val / 64 * 128 + d.val, by omega⟩)
      * K (ix2 ⟨R.val / 2048 * 2048 + x.val, by omega⟩ ⟨L.val / 64 * 128 + d.val, by omega⟩))
    (fun x => V (ix2 ⟨R.val / 2048 * 2048 + x.val, by omega⟩ ⟨L.val / 64 * 128 + L.val % 64, by omega⟩))
    (fun x : Fin 256 => ∑ d : Fin 128, Q (ix2 R ⟨L.val / 64 * 128 + d.val, by omega⟩)
      * Kc (ix2 ⟨R.val / 2048 * 256 + x.val, by omega⟩ ⟨L.val / 64 * 128 + d.val, by omega⟩))
    (fun x => Vc (ix2 ⟨R.val / 2048 * 256 + x.val, by omega⟩ ⟨L.val / 64 * 128 + L.val % 64, by omega⟩))

/-- Where the windows stand at each grid point. -/
theorem idx : ∀ t : Fin grid0.N, win0_0.index t = ![t.val / 4 * 2 + t.val % 2, t.val / 2 % 2]
    ∧ win0_1.index t = ![t.val / 4, t.val / 2 % 2] ∧ win0_2.index t = ![t.val / 4, t.val / 2 % 2]
    ∧ win0_3.index t = ![t.val / 4, t.val / 2 % 2] ∧ win0_4.index t = ![t.val / 4, t.val / 2 % 2]
    ∧ win0_5.index t = ![t.val / 4 * 2 + t.val % 2, t.val / 2 % 2] := by decide +kernel

variable (m : (ℓ : Loc nD τ sig) → Buf (Elt Ideal) ℓ) (c : Dev nD)

/-- The output array after the run, at each row and lane. -/
theorem arr : (dats m 0 c).arrAt 5 (cfgs 0).N = fun i => attn (m ((c.tc : Thread nD τ).loc main_arg0))
    (m ((c.tc : Thread nD τ).loc main_arg1)) (m ((c.tc : Thread nD τ).loc main_arg2)) (m ((c.tc : Thread nD τ).loc main_arg3))
    (m ((c.tc : Thread nD τ).loc main_arg4)) (i 0) (i 1) := by
  refine (dats m 0 c).arrAt_eq_of_covers 5 _ (by decide +kernel) fun t hf y => ?_
  blk_simp
  rw [after0_5]
  obtain ⟨r, l, rfl⟩ : ∃ (r : Fin 1024) (l : Fin 256), y = ix2 r l := ⟨y 0, y 1, by funext a; fin_cases a <;> rfl⟩
  have ht : t.val < 64 := t.isLt
  obtain ⟨i0, i1, i2, i3, i4, i5⟩ := idx t
  have he0 : (((win0_5.blk t).view.emb (ix2 r l) 0 : Fin 32768) : ℕ) = (t.val / 4 * 2 + t.val % 2) * 1024 + r.val := by
    blk_simp [i5]
  have he1 : (((win0_5.blk t).view.emb (ix2 r l) 1 : Fin 512) : ℕ) = t.val / 2 % 2 * 256 + l.val := by
    blk_simp [i5]
  generalize ((win0_5.blk t).view.emb (ix2 r l) 0 : Fin 32768) = A at he0
  generalize ((win0_5.blk t).view.emb (ix2 r l) 1 : Fin 512) = B at he1
  rw [out_at]
  unfold row attn
  have h0 : ∀ d : Fin 128, iblk m c 0 t (ix2 r ⟨l.val / 64 * 128 + d.val, by omega⟩)
      = m ((c.tc : Thread nD τ).loc main_arg0) (ix2 A ⟨B.val / 64 * 128 + d.val, by omega⟩) := fun d => by
    blk_ext [iblk, V, i0]
  have h1 : ∀ (x : Fin 2048) (d : Fin 128), iblk m c 1 t (ix2 x ⟨l.val / 64 * 128 + d.val, by omega⟩)
      = m ((c.tc : Thread nD τ).loc main_arg1) (ix2 ⟨A.val / 2048 * 2048 + x.val, by omega⟩ ⟨B.val / 64 * 128 + d.val, by omega⟩) := fun x d => by
    blk_ext [iblk, V, i1]
  have h2 : ∀ (x : Fin 2048), iblk m c 2 t (ix2 x ⟨l.val / 64 * 128 + l.val % 64, by omega⟩)
      = m ((c.tc : Thread nD τ).loc main_arg2) (ix2 ⟨A.val / 2048 * 2048 + x.val, by omega⟩ ⟨B.val / 64 * 128 + B.val % 64, by omega⟩) := fun x => by
    blk_ext [iblk, V, i2]
  have h3 : ∀ (x : Fin 256) (d : Fin 128), iblk m c 3 t (ix2 x ⟨l.val / 64 * 128 + d.val, by omega⟩)
      = m ((c.tc : Thread nD τ).loc main_arg3) (ix2 ⟨A.val / 2048 * 256 + x.val, by omega⟩ ⟨B.val / 64 * 128 + d.val, by omega⟩) := fun x d => by
    blk_ext [iblk, V, i3]
  have h4 : ∀ (x : Fin 256), iblk m c 4 t (ix2 x ⟨l.val / 64 * 128 + l.val % 64, by omega⟩)
      = m ((c.tc : Thread nD τ).loc main_arg4) (ix2 ⟨A.val / 2048 * 256 + x.val, by omega⟩ ⟨B.val / 64 * 128 + B.val % 64, by omega⟩) := fun x => by
    blk_ext [iblk, V, i4]
  simp only [h0, h1, h2, h3, h4]

end Cert.LatKer

end
-- ==== Proof.LatRef.lean ====
/-
  What the latent attention reference computes, read at one index: the printed composed term cut into its stages (scaled
  queries, the list of keys or values, scores, weights, output), each stage at an index.
-/
module

public import proofs.«01_k».proof.Proof.Gen.LatentReferenceIdeal.Run
public import proofs.«01_k».proof.Proof.Soft
public import Idealize.ShloMosaic.Lib.Pointwise

@[expose] public section

noncomputable section

namespace Cert.LatRef

open Cert.LatentReferenceIdeal Cert.LatentReferenceIdeal.Gen Cert.LatentReferenceIdeal.Value Idealize.ShloMosaic Idealize.SL.Sem

/-- The queries by head, scaled back. -/
def refQ (x : Vec Ideal S32768x1024 .bf16) : FVec Ideal S16x8x1x2048x128 .f32 :=
  mulf (extf .f32 (transpose S16x8x1x2048x128 [0, 2, 3, 1, 4] (shapeCast _ x shapeCasts_S32768x1024_S16x2048x8x1x128) transposes_S16x2048x8x1x128_S16x8x1x2048x128_0_2_3_1_4) bitsLt_bf16_f32)
    (broadcastInDim S16x8x1x2048x128 ![] bcast_S_S16x8x1x2048x128 (Host.log (constant S_ .f32 0x40000000#32)))

/-- Keys or values by head: the latent rows, then the context rows. -/
def refKV (a : Vec Ideal S32768x1024 .bf16) (b : Vec Ideal S4096x1024 .bf16) : FVec Ideal S16x8x2304x128 .f32 :=
  concatenate S16x8x2304x128 2 [⟨S16x8x2048x128, (extf .f32 (transpose S16x8x2048x128 [0, 2, 1, 3] (shapeCast _ a shapeCasts_S32768x1024_S16x2048x8x128) transposes_S16x2048x8x128_S16x8x2048x128_0_2_1_3) bitsLt_bf16_f32)⟩,
    ⟨S16x8x256x128, (extf .f32 (transpose S16x8x256x128 [0, 2, 1, 3] (shapeCast _ b shapeCasts_S4096x1024_S16x256x8x128) transposes_S16x256x8x128_S16x8x256x128_0_2_1_3) bitsLt_bf16_f32)⟩] concatenates_S16x8x2048x128_S16x8x256x128_S16x8x2304x128_d2

/-- The scores. -/
def refS (q : FVec Ideal S16x8x1x2048x128 .f32) (k : FVec Ideal S16x8x2304x128 .f32) : FVec Ideal S16x8x1x2048x2304 .f32 :=
  Host.dotGeneral dot_S16x8x1x2048x128_S16x8x2304x128_S16x8x1x2048x2304_4_3_23_2_01_01 none q k

/-- The largest score of a row, the row's largest against the least value, and the weights. -/
def refMx (s : FVec Ideal S16x8x1x2048x2304 .f32) : FVec Ideal S16x8x1x2048 .f32 :=
  Host.reduce FloatOps.maximumf s (constant S_ .f32 0xFF800000#32) reducesTo_S16x8x1x2048x2304_S16x8x1x2048_d4 h_S_

def refM (s : FVec Ideal S16x8x1x2048 .f32) : FVec Ideal S16x8x1x2048 .f32 :=
  maximumf (broadcastInDim S16x8x1x2048 ![] bcast_S_S16x8x1x2048 (constant S_ .f32 0xFF800000#32)) s

def refE (s : FVec Ideal S16x8x1x2048x2304 .f32) (M : FVec Ideal S16x8x1x2048 .f32) : FVec Ideal S16x8x1x2048x2304 .f32 :=
  Host.exp (subf s (broadcastInDim S16x8x1x2048x2304 ![0, 1, 2, 3, 4] bcast_S16x8x1x2048x1_S16x8x1x2048x2304_0_1_2_3_4 (broadcastInDim S16x8x1x2048x1 ![0, 1, 2, 3] bcast_S16x8x1x2048_S16x8x1x2048x1_0_1_2_3 M)))

def refP (e : FVec Ideal S16x8x1x2048x2304 .f32) : FVec Ideal S16x8x1x2048x2304 .f32 :=
  Host.divf e (broadcastInDim S16x8x1x2048x2304 ![0, 1, 2, 3, 4] bcast_S16x8x1x2048x1_S16x8x1x2048x2304_0_1_2_3_4 (broadcastInDim S16x8x1x2048x1 ![0, 1, 2, 3] bcast_S16x8x1x2048_S16x8x1x2048x1_0_1_2_3 (Host.reduceAdd e (constant S_ .f32 0x00000000#32) reducesTo_S16x8x1x2048x2304_S16x8x1x2048_d4 h_S_)))

def refV (v : FVec Ideal S16x8x2304x128 .f32) : FVec Ideal S16x8x2304x64 .f32 :=
  extractStridedSlice S16x8x2304x64 ![0, 0, 0, 0] v slices_S16x8x2304x128_S16x8x2304x64_0_0_0_0

def refO (p : FVec Ideal S16x8x1x2048x2304 .f32) (v : FVec Ideal S16x8x2304x64 .f32) : FVec Ideal S32768x512 .bf16 :=
  truncf .bf16 (shapeCast _ (transpose S16x2048x8x1x64 [0, 3, 1, 2, 4] (Host.dotGeneral dot_S16x8x1x2048x2304_S16x8x2304x64_S16x8x1x2048x64_4_2_23_3_01_01 none p v) transposes_S16x8x1x2048x64_S16x2048x8x1x64_0_3_1_2_4) shapeCasts_S16x2048x8x1x64_S32768x512) bitsLt_bf16_f32

/-- The stages in order, from the scores and the values. -/
def refAttn (s : FVec Ideal S16x8x1x2048x2304 .f32) (v : FVec Ideal S16x8x2304x128 .f32) : FVec Ideal S32768x512 .bf16 :=
  refO (refP (refE s (refM (refMx s)))) (refV v)

set_option maxRecDepth 8192 in
theorem res_eq (m : (ℓ : Loc nD τ sig) → Buf (Elt Ideal) ℓ) (c : Dev nD) :
    res_out0 m c = refAttn (refS (refQ (m ((c.tc : Thread nD τ).loc main_arg0))) (refKV (m ((c.tc : Thread nD τ).loc main_arg1)) (m ((c.tc : Thread nD τ).loc main_arg3))))
      (refKV (m ((c.tc : Thread nD τ).loc main_arg2)) (m ((c.tc : Thread nD τ).loc main_arg4))) := by
  unfold res_out0 res_main_v36 refAttn refO refV refP refE refM refMx refS refQ refKV
  rfl

theorem refQ_at (x : Vec Ideal S32768x1024 .bf16) (b : Fin 16) (h : Fin 8) (g : Fin 1) (s : Fin 2048) (d : Fin 128) :
    refQ x (ix5 b h g s d) = x (ix2 ⟨b.val * 2048 + s.val, by omega⟩ ⟨h.val * 128 + d.val, by omega⟩)
      * Ideal.log (Ideal.ofBits FTy.f32 1073741824#32) := by
  unfold refQ
  pointwise

theorem refKV_at (x : Vec Ideal S32768x1024 .bf16) (y : Vec Ideal S4096x1024 .bf16) (b : Fin 16) (h : Fin 8) (s : Fin 2304) (d : Fin 128) :
    refKV x y (ix4 b h s d) = if h_1 : s.val < 2048 then x (ix2 ⟨b.val * 2048 + s.val, by omega⟩ ⟨h.val * 128 + d.val, by omega⟩)
      else y (ix2 ⟨b.val * 256 + (s.val - 2048), by omega⟩ ⟨h.val * 128 + d.val, by omega⟩) := by
  unfold refKV
  pointwise

theorem refS_at (q : FVec Ideal S16x8x1x2048x128 .f32) (k : FVec Ideal S16x8x2304x128 .f32)
    (b : Fin 16) (h : Fin 8) (g : Fin 1) (s : Fin 2048) (t : Fin 2304) :
    refS q k (ix5 b h g s t) = ∑ x : Fin 128, q (ix5 b h g s x) * k (ix4 b h t x) := by
  unfold refS
  pointwise [dot_S16x8x1x2048x128_S16x8x2304x128_S16x8x1x2048x2304_4_3_23_2_01_01]

theorem refMx_at (s : FVec Ideal S16x8x1x2048x2304 .f32) (b : Fin 16) (h : Fin 8) (g : Fin 1) (r : Fin 2048) :
    refMx s (ix4 b h g r) = Finset.fold max (Ideal.ofBits FTy.f32 4286578688#32) (fun x => s (ix5 b h g r x)) Finset.univ := by
  obtain rfl : g = 0 := Subsingleton.elim _ _
  unfold refMx
  pointwise

theorem refM_at (s : FVec Ideal S16x8x1x2048 .f32) (b : Fin 16) (h : Fin 8) (g : Fin 1) (r : Fin 2048) :
    refM s (ix4 b h g r) = max (Ideal.ofBits FTy.f32 4286578688#32) (s (ix4 b h g r)) := by
  obtain rfl : g = 0 := Subsingleton.elim _ _
  unfold refM
  pointwise

theorem refE_at (s : FVec Ideal S16x8x1x2048x2304 .f32) (M : FVec Ideal S16x8x1x2048 .f32)
    (b : Fin 16) (h : Fin 8) (g : Fin 1) (r : Fin 2048) (t : Fin 2304) :
    refE s M (ix5 b h g r t) = Ideal.exp (s (ix5 b h g r t) - M (ix4 b h g r)) := by
  obtain rfl : g = 0 := Subsingleton.elim _ _
  unfold refE
  pointwise

theorem refP_at (e : FVec Ideal S16x8x1x2048x2304 .f32) (b : Fin 16) (h : Fin 8) (g : Fin 1) (r : Fin 2048) (t : Fin 2304) :
    refP e (ix5 b h g r t) = Ideal.div (e (ix5 b h g r t)) (∑ x, e (ix5 b h g r x)) := by
  obtain rfl : g = 0 := Subsingleton.elim _ _
  unfold refP
  pointwise

theorem refV_at (v : FVec Ideal S16x8x2304x128 .f32) (b : Fin 16) (h : Fin 8) (t : Fin 2304) (d : Fin 64) :
    refV v (ix4 b h t d) = v (ix4 b h t ⟨d.val, by omega⟩) := by
  unfold refV
  pointwise

theorem refO_at (p : FVec Ideal S16x8x1x2048x2304 .f32) (v : FVec Ideal S16x8x2304x64 .f32) (r : Fin 32768) (l : Fin 512) :
    refO p v (ix2 r l) = ∑ x : Fin 2304,
      p (ix5 ⟨r.val / 2048, by omega⟩ ⟨l.val / 64, by omega⟩ 0 ⟨r.val % 2048, by omega⟩ x)
        * v (ix4 ⟨r.val / 2048, by omega⟩ ⟨l.val / 64, by omega⟩ x ⟨l.val % 64, by omega⟩) := by
  unfold refO
  pointwise [dot_S16x8x1x2048x2304_S16x8x2304x64_S16x8x1x2048x64_4_2_23_3_01_01]

/-- The output at row `r`, lane `l`: the softmax over that row's list of scores. -/
theorem refAttn_at (s : FVec Ideal S16x8x1x2048x2304 .f32) (v : FVec Ideal S16x8x2304x128 .f32) (r : Fin 32768) (l : Fin 512) :
    refAttn s v (ix2 r l) = Soft.softR
      (fun t : Fin 2304 => s (ix5 ⟨r.val / 2048, by omega⟩ ⟨l.val / 64, by omega⟩ 0 ⟨r.val % 2048, by omega⟩ t))
      (fun t => v (ix4 ⟨r.val / 2048, by omega⟩ ⟨l.val / 64, by omega⟩ t ⟨l.val % 64, by omega⟩)) := by
  unfold refAttn Soft.softR
  rw [refO_at]
  refine Finset.sum_congr rfl fun t _ => ?_
  rw [refP_at]
  simp only [refE_at, refM_at, refMx_at, refV_at, Soft.ninf]

end Cert.LatRef

end
-- ==== Proof.LatEq.lean ====
/-
  The latent attention kernel's array equals the reference's result when queries and keys are finite.
-/
module

public import proofs.«01_k».proof.Proof.AttnEq
public import proofs.«01_k».proof.Proof.LatKer
public import proofs.«01_k».proof.Proof.LatRef
public import proofs.«01_k».proof.Proof.Finite
public import proofs.«01_k».proof.Pre_latent_finite

@[expose] public section

noncomputable section

namespace Cert.LatEq

open Cert.LatentIdeal Idealize.ShloMosaic Idealize.SL.Sem

/-- The precondition read at every query and every key. -/
theorem reals [Cert.Pre_latent_finite.Facts] (Q K V : Vec Ideal S32768x1024 .bf16) (Kc Vc : Vec Ideal S4096x1024 .bf16)
    (h : Cert.Pre_latent_finite.fn (F := Ideal) Q K V Kc Vc = fun _ => 1#1) :
    (∀ i, ∃ r : ℝ, Q i = (r : EReal)) ∧ (∀ i, ∃ r : ℝ, K i = (r : EReal)) ∧ (∀ i, ∃ r : ℝ, Kc i = (r : EReal)) := by
  have : Subsingleton (Cert.Pre_latent_finite.S_ : Shape).Idx := ⟨fun a b => funext fun x => x.elim0⟩
  have e := congrFun h fun a => a.elim0
  obtain ⟨e12, e3⟩ := Finite.andi_one _ _ e
  obtain ⟨e1, e2⟩ := Finite.andi_one _ _ e12
  exact ⟨fun i => Finite.real_of_lt _ (Host.reduce_andi_all _ _ _ _ _ e1 i),
    fun i => Finite.real_of_lt _ (Host.reduce_andi_all _ _ _ _ _ e2 i),
    fun i => Finite.real_of_lt _ (Host.reduce_andi_all _ _ _ _ _ e3 i)⟩

theorem attn_eq (Q K V : Vec Ideal S32768x1024 .bf16) (Kc Vc : Vec Ideal S4096x1024 .bf16)
    (hQ : ∀ i, ∃ r : ℝ, Q i = (r : EReal)) (hK : ∀ i, ∃ r : ℝ, K i = (r : EReal)) (hKc : ∀ i, ∃ r : ℝ, Kc i = (r : EReal))
    (R : Fin 32768) (L : Fin 512) :
    LatKer.attn Q K V Kc Vc R L
      = LatRef.refAttn (LatRef.refS (LatRef.refQ Q) (LatRef.refKV K Kc)) (LatRef.refKV V Vc) (ix2 R L) := by
  choose q hq using hQ
  choose k hk using hK
  choose kc hkc using hKc
  rw [LatRef.refAttn_at]
  unfold LatKer.attn
  simp only [hq, hk, hkc, Soft.dot_real]
  refine Soft.soft_eq AttnEq.keys _ _ _ _ _ _ (fun a => ?_) (fun b => ?_) (fun a => ?_) (fun b => ?_)
  · rw [LatRef.refS_at, ← Soft.dot_scaled]
    refine Finset.sum_congr rfl fun d _ => ?_
    rw [LatRef.refQ_at, LatRef.refKV_at, dif_pos (by rw [AttnEq.keys_inl]; exact a.isLt), Soft.log_two, hq, hk]
    exact congrArg₂ (fun x y => (q x : EReal) * ((Real.log 2 : ℝ) : EReal) * (k y : EReal))
      (AttnEq.ix2_eq (by dsimp only; omega) (by dsimp only)) (AttnEq.ix2_eq (by dsimp only; rw [AttnEq.keys_inl]) rfl)
  · rw [LatRef.refS_at, ← Soft.dot_scaled]
    refine Finset.sum_congr rfl fun d _ => ?_
    rw [LatRef.refQ_at, LatRef.refKV_at, dif_neg (by rw [AttnEq.keys_inr]; omega), Soft.log_two, hq, hkc]
    exact congrArg₂ (fun x y => (q x : EReal) * ((Real.log 2 : ℝ) : EReal) * (kc y : EReal))
      (AttnEq.ix2_eq (by dsimp only; omega) (by dsimp only)) (AttnEq.ix2_eq (by dsimp only; rw [AttnEq.keys_inr]; omega) rfl)
  · rw [LatRef.refKV_at, dif_pos (by rw [AttnEq.keys_inl]; exact a.isLt)]
    rfl
  · rw [LatRef.refKV_at, dif_neg (by rw [AttnEq.keys_inr]; omega)]
    exact congrArg Vc (AttnEq.ix2_eq (by dsimp only; rw [AttnEq.keys_inr]; omega) rfl)

end Cert.LatEq

end
-- ==== Proof.ProjSpec.lean ====
/-
  One row of the projection to queries, keys and values, as functions of the row alone: the modulated norm, the product
  with the weights, a head's norm, and the rotation of its two halves written in two ways.
-/
module

public import Idealize.ShloMosaic.Lib.Pointwise

@[expose] public section

noncomputable section

namespace Cert.Proj

open Idealize.ShloMosaic

/-- The modulated norm of a row of 1024 numbers. -/
def hm (x g sc sh : Fin 1024 → EReal) (d : Fin 1024) : EReal :=
  x d * Ideal.rsqrt (Ideal.div (∑ e, x e * x e) (Ideal.ofBits FTy.f32 0x44800000#32) + Ideal.ofBits FTy.f32 0x358637BD#32) * g d
    * (1 + sc d) + sh d

/-- The row times the weights. -/
def pr (h : Fin 1024 → EReal) (w : Fin 1024 → Fin 1536 → EReal) (e : Fin 1536) : EReal := ∑ d, h d * w d e

/-- The norm of a head of 128 numbers. -/
def nrm (t q : Fin 128 → EReal) (l : Fin 128) : EReal :=
  t l * Ideal.rsqrt (Ideal.div (∑ e, t e * t e) (Ideal.ofBits FTy.f32 0x43000000#32) + Ideal.ofBits FTy.f32 0x358637BD#32) * q l

/-- The rotation with whole tables: each lane against the lane half a head away, the sign in the second table. -/
def rotW (t c s : Fin 128 → EReal) (l : Fin 128) : EReal :=
  t l * c l + t ⟨(l.val + 64) % 128, by omega⟩ * s l

/-- The rotation by halves: a difference in the lower half, a sum in the upper. -/
def rotH (t : Fin 128 → EReal) (c s : Fin 64 → EReal) (l : Fin 128) : EReal :=
  if h : l.val < 64 then t l * c ⟨l.val, h⟩ - t ⟨64 + l.val, by omega⟩ * s ⟨l.val, h⟩
  else t ⟨64 + (l.val - 64), by omega⟩ * c ⟨l.val - 64, by omega⟩ + t ⟨l.val - 64, by omega⟩ * s ⟨l.val - 64, by omega⟩

/-- The two ways agree, when the whole tables repeat the half ones and the second has its lower half negated. -/
theorem rot_eq (t C D : Fin 128 → EReal) (c s : Fin 64 → EReal)
    (hc : ∀ l : Fin 128, C l = c ⟨l.val % 64, by omega⟩)
    (hs : ∀ l : Fin 128, D l = if l.val < 64 then -(s ⟨l.val % 64, by omega⟩) else s ⟨l.val % 64, by omega⟩) (l : Fin 128) :
    rotW t C D l = rotH t c s l := by
  unfold rotW rotH
  rw [hc, hs]
  by_cases h : l.val < 64
  · have e : (⟨l.val % 64, by omega⟩ : Fin 64) = ⟨l.val, h⟩ := Fin.ext (Nat.mod_eq_of_lt h)
    have e' : (⟨(l.val + 64) % 128, by omega⟩ : Fin 128) = ⟨64 + l.val, by omega⟩ := Fin.ext (by dsimp only; omega)
    rw [if_pos h, dif_pos h, e, e', mul_neg, sub_eq_add_neg]
  · have e : (⟨l.val % 64, by omega⟩ : Fin 64) = ⟨l.val - 64, by omega⟩ := Fin.ext (by dsimp only; omega)
    have e' : (⟨(l.val + 64) % 128, by omega⟩ : Fin 128) = ⟨l.val - 64, by omega⟩ := Fin.ext (by dsimp only; omega)
    have e'' : (⟨64 + (l.val - 64), by omega⟩ : Fin 128) = l := Fin.ext (by dsimp only; omega)
    rw [if_neg h, dif_neg h, e, e', e'']

/-- The rotation angle of position `s` at lane `l`: the row times a frequency for 32 lanes, then the column. -/
def ang (s : Fin 2048) (l : Fin 64) : EReal :=
  if _h : l.val < 32 then
    FloatOps.sitofp (F := Ideal) FTy.f32 (BitVec.ofNat 32 (s.val / 64)) * Ideal.pow (Ideal.ofBits FTy.f32 0x461C4000#32)
      (Ideal.div (-FloatOps.sitofp (F := Ideal) FTy.f32 (BitVec.ofNat 32 l.val)) (Ideal.ofBits FTy.f32 0x42000000#32))
  else
    FloatOps.sitofp (F := Ideal) FTy.f32 (BitVec.ofNat 32 (s.val % 64)) * Ideal.pow (Ideal.ofBits FTy.f32 0x461C4000#32)
      (Ideal.div (-FloatOps.sitofp (F := Ideal) FTy.f32 (BitVec.ofNat 32 (l.val - 32))) (Ideal.ofBits FTy.f32 0x42000000#32))

/-- One projected row: its product, a query lane, a key lane. -/
def qrow (p : Fin 1536 → EReal) (q : Fin 128 → EReal) (s : Fin 2048) (L : Fin 1024) : EReal :=
  rotH (nrm (fun l => p ⟨L.val / 128 * 128 + l.val, by omega⟩) q) (fun l => Ideal.cos (ang s l)) (fun l => Ideal.sin (ang s l)) ⟨L.val % 128, by omega⟩
    * Ideal.ofBits FTy.f32 0x3E0293EE#32

def krow (p : Fin 1536 → EReal) (q : Fin 128 → EReal) (s : Fin 2048) (L : Fin 256) : EReal :=
  rotH (nrm (fun l => p ⟨1024 + L.val / 128 * 128 + l.val, by omega⟩) q) (fun l => Ideal.cos (ang s l)) (fun l => Ideal.sin (ang s l)) ⟨L.val % 128, by omega⟩

end Cert.Proj

end
-- ==== Proof.ProjHead.lean ====
/-
  The steps of one grid point of the projection kernel: the modulated rows times the weights, the ten heads' norms and
  rotations, and the heads side by side in a stored block.
-/
module

public import proofs.«01_k».proof.Proof.Gen.ProjectCIdeal.Value
public import proofs.«01_k».proof.Proof.ProjSpec
public import Idealize.ShloMosaic.Lib.Pipeline.ValueKit

@[expose] public section

set_option maxRecDepth 16384

noncomputable section

namespace Cert.ProjKer

open Cert.ProjectCIdeal Cert.ProjectCIdeal.Gen Cert.Proj Idealize.ShloMosaic Idealize.SL.Sem

theorem prod_at (x : Vec Ideal S512x1024 .f32) (g : Vec Ideal S1x1024 .f32) (sc sh : Vec Ideal S1x1x1024 .f32)
    (w : Vec Ideal S1024x1536 .bf16) (r : Fin 512) (e : Fin 1536) :
    k0_pay4 x g sc sh w (ix2 r e) = pr (hm (fun d => x (ix2 r d)) (fun d => g (ix2 0 d)) (fun d => sc (ix3 0 0 d)) (fun d => sh (ix3 0 0 d)))
      (fun d e => w (ix2 d e)) e := by
  unfold pr hm
  unfold_payloads
  pointwise [dot_S512x1024_S1024x1536_S512x1536_1_0_0_1_n_n]

theorem nrm_at (t : FVec Ideal S512x128 .f32) (q : Vec Ideal S1x128 .f32) (r : Fin 512) (l : Fin 128) :
    k0_pay16 t q (ix2 r l) = nrm (fun l => t (ix2 r l)) (fun l => q (ix2 0 l)) l := by
  unfold nrm
  unfold_payloads
  pointwise

theorem rot_at (t : FVec Ideal S512x128 .f32) (c s : Vec Ideal S512x128 .f32) (r : Fin 512) (l : Fin 128) :
    k0_pay30 t c s (ix2 r l) = rotW (fun l => t (ix2 r l)) (fun l => c (ix2 r l)) (fun l => s (ix2 r l)) l := by
  unfold rotW
  unfold_payloads
  pointwise
  have e : (⟨(l.val + 128 - 64) % 128, by omega⟩ : Fin 128) = ⟨(l.val + 64) % 128, by omega⟩ := Fin.ext (by dsimp only; omega)
  exact congrArg (fun k => t (ix2 r l) * c (ix2 r l) + t (ix2 r k) * s (ix2 r l)) e

section Same

variable (t a b : FVec Ideal S512x128 .f32) (q : Vec Ideal S1x128 .f32) (c s : Vec Ideal S512x128 .f32)

theorem nrm21 : k0_pay21 t q = k0_pay16 t q := rfl
theorem nrm22 : k0_pay22 t q = k0_pay16 t q := rfl
theorem nrm23 : k0_pay23 t q = k0_pay16 t q := rfl
theorem nrm24 : k0_pay24 t q = k0_pay16 t q := rfl
theorem nrm17 : k0_pay17 t q = k0_pay16 t q := rfl
theorem nrm20 : k0_pay20 t q (k0_pay18 t) k0_pay19 = k0_pay16 t q := rfl
theorem rot31 : k0_pay31 t c s = k0_pay30 t c s := rfl
theorem rot32 : k0_pay32 t c s = k0_pay30 t c s := rfl
theorem rot35 : k0_pay35 t (k0_pay28 c) (k0_pay29 s) k0_pay33 k0_pay34 = k0_pay30 t c s := rfl
theorem rot36 : k0_pay36 t (k0_pay28 c) (k0_pay29 s) = k0_pay30 t c s := rfl
theorem rot37 : k0_pay37 t (k0_pay28 c) (k0_pay29 s) = k0_pay30 t c s := rfl
theorem rot38 : k0_pay38 t (k0_pay28 c) (k0_pay29 s) = k0_pay30 t c s := rfl
theorem rot40 : k0_pay40 t (k0_pay28 c) (k0_pay29 s) (iota .tc S512x128 32 [1] iota_S512x128_d1_w32) k0_pay39 = k0_pay30 t c s := rfl
theorem rot41 : k0_pay41 t (k0_pay28 c) (k0_pay29 s) = k0_pay30 t c s := rfl
theorem rot42 : k0_pay42 t (k0_pay28 c) (k0_pay29 s) = k0_pay30 t c s := rfl

end Same

theorem nrm15 (x : Vec Ideal S512x1024 .f32) (g : Vec Ideal S1x1024 .f32) (sc sh : Vec Ideal S1x1x1024 .f32)
    (w : Vec Ideal S1024x1536 .bf16) (q : Vec Ideal S1x128 .f32) :
    k0_pay15 (k0_pay6 x g sc sh w) q (k0_pay14 x g sc sh w) = k0_pay16 (k0_pay6 x g sc sh w) q := rfl

section Cuts

variable (x : Vec Ideal S512x1024 .f32) (g : Vec Ideal S1x1024 .f32) (sc sh : Vec Ideal S1x1x1024 .f32) (w : Vec Ideal S1024x1536 .bf16)

/-- The eight query heads' lanes of the product. -/
def qcut : Fin 8 → FVec Ideal S512x128 .f32 :=
  ![k0_pay6 x g sc sh w, k0_pay7 x g sc sh w, k0_pay8 x g sc sh w, k0_pay9 x g sc sh w,
    k0_pay10 x g sc sh w, k0_pay11 x g sc sh w, k0_pay12 x g sc sh w, k0_pay13 x g sc sh w]

theorem qcut_at (j : Fin 8) (r : Fin 512) (l : Fin 128) :
    qcut x g sc sh w j (ix2 r l) = k0_pay4 x g sc sh w (ix2 r ⟨j.val * 128 + l.val, by omega⟩) := by
  unfold qcut k0_pay6 k0_pay7 k0_pay8 k0_pay9 k0_pay10 k0_pay11 k0_pay12 k0_pay13 k0_pay5
  generalize k0_pay4 x g sc sh w = p
  fin_cases j
  all_goals
    simp only [Fin.zero_eta, Matrix.cons_val]
    pointwise

end Cuts

/-- The two key heads' lanes of the product. -/
def kcut (p : FVec Ideal S512x1536 .f32) : Fin 2 → FVec Ideal S512x128 .f32 :=
  ![extractStridedSlice S512x128 ![0, 0] (k0_pay25 p) slices_S512x256_o0_0_S512x128,
    extractStridedSlice S512x128 ![0, 128] (k0_pay25 p) slices_S512x256_o0_128_S512x128]

theorem kcut_at (p : FVec Ideal S512x1536 .f32) (j : Fin 2) (r : Fin 512) (l : Fin 128) :
    kcut p j (ix2 r l) = p (ix2 r ⟨1024 + j.val * 128 + l.val, by omega⟩) := by
  unfold kcut k0_pay25
  fin_cases j
  · simp only [Fin.zero_eta, Matrix.cons_val]
    pointwise
  · simp only [Fin.mk_one, Matrix.cons_val]
    pointwise
    exact congrArg (fun k => p (ix2 r k)) (Fin.ext (by dsimp only; omega))

theorem nrm26 (p : FVec Ideal S512x1536 .f32) (q : Vec Ideal S1x128 .f32) : k0_pay26 p q = k0_pay16 (kcut p 0) q := rfl
theorem nrm27 (p : FVec Ideal S512x1536 .f32) (q : Vec Ideal S1x128 .f32) : k0_pay27 p q = k0_pay16 (kcut p 1) q := rfl

theorem same {n : ℕ} (a : Fin n → FVec Ideal S512x128 .f32) (r : Fin 512) {j j' : Fin n} {k k' : Fin 128}
    (hj : j.val = j'.val) (hk : k.val = k'.val) : a j (ix2 r k) = a j' (ix2 r k') := by
  rw [Fin.ext hj, Fin.ext hk]

theorem heads8_at (a : Fin 8 → FVec Ideal S512x128 .f32) (r : Fin 512) (l : Fin 1024) :
    k0_pay1 (a 5) (a 6) (a 7) (k0_pay43 (a 0)) (k0_pay44 (a 1)) (k0_pay45 (a 2)) (k0_pay46 (a 3)) (k0_pay47 (a 4)) (ix2 r l)
      = a ⟨l.val / 128, by omega⟩ (ix2 r ⟨l.val % 128, by omega⟩) * Ideal.ofBits FTy.f32 0x3E0293EE#32 := by
  unfold_payloads
  pointwise
  split_ifs <;> refine congrArg (· * Ideal.ofBits FTy.f32 0x3E0293EE#32) (same a r ?_ ?_) <;> simp <;> omega

theorem heads2_at (a : Fin 2 → FVec Ideal S512x128 .f32) (r : Fin 512) (l : Fin 256) :
    k0_pay2 (a 0) (a 1) (ix2 r l) = a ⟨l.val / 128, by omega⟩ (ix2 r ⟨l.val % 128, by omega⟩) := by
  unfold_payloads
  pointwise
  split_ifs <;> refine same a r ?_ ?_ <;> simp <;> omega

theorem third_at (p : FVec Ideal S512x1536 .f32) (r : Fin 512) (l : Fin 256) :
    k0_pay3 p (ix2 r l) = p (ix2 r ⟨1280 + l.val, by omega⟩) := by
  unfold_payloads
  pointwise

end Cert.ProjKer

end
-- ==== Proof.ProjTab.lean ====
/-
  The rotation tables the program computes before the launch, at one index.
-/
module

public import proofs.«01_k».proof.Proof.Gen.ProjectCIdeal.Value
public import proofs.«01_k».proof.Proof.ProjSpec
public import Idealize.ShloMosaic.Lib.Pipeline.ValueKit

@[expose] public section

set_option maxRecDepth 16384

noncomputable section

namespace Cert.ProjKer

open Cert.ProjectCIdeal Cert.ProjectCIdeal.Gen Cert.Proj Idealize.ShloMosaic Idealize.SL.Sem

/-- The inverse frequencies, the angles, and the two tables, from the positions' rows and columns. -/
def freqs : FVec Ideal S32 .f32 :=
  Host.powf (broadcastInDim S32 ![] bcast_S_S32 (constant S_ .f32 0x461C4000#32))
    (Host.divf (Host.negf (sitofp .f32 (iotaInDim S32 32 0))) (broadcastInDim S32 ![] bcast_S_S32 (constant S_ .f32 0x42000000#32)))

def times (p : FVec Ideal S2048 .f32) : FVec Ideal S2048x32 .f32 :=
  mulf (broadcastInDim S2048x32 ![0, 1] bcast_S2048x1_S2048x32_0_1 (broadcastInDim S2048x1 ![0] bcast_S2048_S2048x1_0 p))
    (broadcastInDim S2048x32 ![0, 1] bcast_S1x32_S2048x32_0_1 (broadcastInDim S1x32 ![1] bcast_S32_S1x32_1 freqs))

def angs (p q : FVec Ideal S2048 .f32) : FVec Ideal S2048x64 .f32 :=
  concatenate S2048x64 1 [⟨S2048x32, times p⟩, ⟨S2048x32, times q⟩] concatenates_S2048x32_S2048x32_S2048x64_d1

def cosTab (a : FVec Ideal S2048x64 .f32) : FVec Ideal S2048x128 .f32 :=
  concatenate S2048x128 1 [⟨S2048x0, broadcastInDim S2048x0 ![] bcast_S_S2048x0 (constant S_ .f32 0x3F800000#32)⟩, ⟨S2048x64, Host.cos a⟩,
    ⟨S2048x64, Host.cos a⟩, ⟨S2048x0, broadcastInDim S2048x0 ![] bcast_S_S2048x0 (constant S_ .f32 0x3F800000#32)⟩]
    concatenates_S2048x0_S2048x64_S2048x64_S2048x0_S2048x128_d1

def sinTab (a : FVec Ideal S2048x64 .f32) : FVec Ideal S2048x128 .f32 :=
  concatenate S2048x128 1 [⟨S2048x0, broadcastInDim S2048x0 ![] bcast_S_S2048x0 (constant S_ .f32 0x00000000#32)⟩, ⟨S2048x64, Host.negf (Host.sin a)⟩,
    ⟨S2048x64, Host.sin a⟩, ⟨S2048x0, broadcastInDim S2048x0 ![] bcast_S_S2048x0 (constant S_ .f32 0x00000000#32)⟩]
    concatenates_S2048x0_S2048x64_S2048x64_S2048x0_S2048x128_d1

variable (W : (b : DevRef τ sig) → b.ty.Contents (Elt Ideal))

theorem cos_read : StableHlo.after hostOps0_4 W (Proc.devRef .tc main_v26)
    = cosTab (angs (W (Proc.devRef .tc main_v2)) (sitofp .f32 (show IVec S2048 32 from W (Proc.devRef .tc main_v3)))) := by
  after_results_simp
  rfl

theorem sin_read : StableHlo.after hostOps0_4 W (Proc.devRef .tc main_v30)
    = sinTab (angs (W (Proc.devRef .tc main_v2)) (sitofp .f32 (show IVec S2048 32 from W (Proc.devRef .tc main_v3)))) := by
  after_results_simp
  rfl

theorem cosTab_at (a : FVec Ideal S2048x64 .f32) (s : Fin 2048) (l : Fin 128) :
    cosTab a (ix2 s l) = Ideal.cos (a (ix2 s ⟨l.val % 64, by omega⟩)) := by
  unfold cosTab
  pointwise
  rw [dif_neg (Nat.not_lt_zero _)]
  by_cases h : l.val < 64
  · rw [dif_pos h]
    exact congrArg (fun k => Ideal.cos (a (ix2 s k))) (Fin.ext (show l.val = l.val % 64 by omega))
  · rw [dif_neg h, dif_pos (by omega)]
    exact congrArg (fun k => Ideal.cos (a (ix2 s k))) (Fin.ext (show l.val - 64 = l.val % 64 by omega))

theorem sinTab_at (a : FVec Ideal S2048x64 .f32) (s : Fin 2048) (l : Fin 128) :
    sinTab a (ix2 s l) = if l.val < 64 then -Ideal.sin (a (ix2 s ⟨l.val % 64, by omega⟩)) else Ideal.sin (a (ix2 s ⟨l.val % 64, by omega⟩)) := by
  unfold sinTab
  pointwise
  rw [dif_neg (Nat.not_lt_zero _)]
  by_cases h : l.val < 64
  · rw [dif_pos h, if_pos h]
    exact congrArg (fun k => -Ideal.sin (a (ix2 s k))) (Fin.ext (show l.val = l.val % 64 by omega))
  · rw [dif_neg h, if_neg h, dif_pos (by omega)]
    exact congrArg (fun k => Ideal.sin (a (ix2 s k))) (Fin.ext (show l.val - 64 = l.val % 64 by omega))

/-- The rows and the columns of the positions: the quotient and the remainder by 64, rounded down. -/
def bc (n : BitVec 32) : IVec S2048 32 := broadcastInDim S2048 ![] bcast_S_S2048 (constantI S_ 32 n)

def rows : IVec S2048 32 :=
  select (andi (cmpi .ne (signi (iotaInDim S2048 32 0)) (broadcastInDim S2048 ![] bcast_S_S2048 (signi (constantI S_ 32 64#32))))
      (cmpi .ne (Host.remsi (iotaInDim S2048 32 0) (bc 64#32)) (bc 0#32)))
    (subi (Host.divsi (iotaInDim S2048 32 0) (bc 64#32)) (bc 1#32)) (Host.divsi (iotaInDim S2048 32 0) (bc 64#32))

def den : IVec S_ 32 := select (cmpi .eq (constantI S_ 32 64#32) (constantI S_ 32 0#32)) (constantI S_ 32 1#32) (constantI S_ 32 64#32)

def rem : IVec S2048 32 := Host.remsi (iotaInDim S2048 32 0) (broadcastInDim S2048 ![] bcast_S_S2048 den)

def cols : IVec S2048 32 :=
  select (andi (cmpi .ne (cmpi .slt rem (bc 0#32)) (broadcastInDim S2048 ![] bcast_S_S2048 (cmpi .slt den (constantI S_ 32 0#32))))
      (cmpi .ne rem (bc 0#32)))
    (addi rem (broadcastInDim S2048 ![] bcast_S_S2048 den)) rem

theorem rows_at (s : Fin 2048) : rows (ix1 s) = BitVec.ofNat 32 (s.val / 64) := by
  unfold rows bc
  pointwise
  revert s
  decide +kernel

theorem cols_at (s : Fin 2048) : cols (ix1 s) = BitVec.ofNat 32 (s.val % 64) := by
  unfold cols rem den bc
  pointwise
  revert s
  decide +kernel

variable (m : (ℓ : Loc nD τ sig) → Buf (Elt Ideal) ℓ) (c : Dev nD)

/-- What the buffers hold before the tables' own operations. -/
def before : (b : DevRef τ sig) → b.ty.Contents (Elt Ideal) :=
  StableHlo.after (List.flatten [hostOps0, hostOps0_1, hostOps0_2, hostOps0_3]) (fun b => m (c, b))

theorem split (b : Ref sig .tc) : V m c b = StableHlo.after hostOps0_4 (before m c) (Proc.devRef .tc b) := rfl

theorem rows_read : before m c (Proc.devRef .tc main_v2) = (sitofp .f32 rows : FVec Ideal S2048 .f32) := by
  unfold before
  simp only [hostOps0, hostOps0_1, hostOps0_2, hostOps0_3, List.flatten_cons, List.flatten_nil, List.append_nil, List.cons_append, List.nil_append]
  after_results_simp
  rfl

theorem cols_read : before m c (Proc.devRef .tc main_v3) = cols := by
  unfold before
  simp only [hostOps0, hostOps0_1, hostOps0_2, hostOps0_3, List.flatten_cons, List.flatten_nil, List.append_nil, List.cons_append, List.nil_append]
  after_results_simp
  rfl

theorem angs_at (s : Fin 2048) (l : Fin 64) : angs (sitofp .f32 rows) (sitofp .f32 cols) (ix2 s l) = ang s l := by
  unfold angs times freqs ang
  pointwise
  rw [rows_at, cols_at]

/-- The two tables at a row and a lane. -/
theorem cos_at (s : Fin 2048) (l : Fin 128) :
    (V m c main_v26 : FVec Ideal S2048x128 .f32) (ix2 s l) = Ideal.cos (ang s ⟨l.val % 64, by omega⟩) := by
  rw [← angs_at, ← cosTab_at, split, cos_read, rows_read, cols_read]

theorem sin_at (s : Fin 2048) (l : Fin 128) :
    (V m c main_v30 : FVec Ideal S2048x128 .f32) (ix2 s l)
      = if l.val < 64 then -Ideal.sin (ang s ⟨l.val % 64, by omega⟩) else Ideal.sin (ang s ⟨l.val % 64, by omega⟩) := by
  rw [← angs_at, ← sinTab_at, split, sin_read, rows_read, cols_read]

end Cert.ProjKer

end
-- ==== Proof.ProjKer.lean ====
/-
  What one grid point of the projection kernel writes, and what its three output arrays hold at the end.
-/
module

public import proofs.«01_k».proof.Proof.ProjHead
public import proofs.«01_k».proof.Proof.ProjTab

@[expose] public section

set_option maxRecDepth 16384

noncomputable section

namespace Cert.ProjKer

open Cert.ProjectCIdeal Cert.ProjectCIdeal.Gen Cert.Proj Idealize.ShloMosaic Idealize.ShloMosaic.Pipeline Idealize.SL.Sem

section Block

variable (x0 : Vec Ideal S512x1024 .f32) (x1 : Vec Ideal S1x1024 .f32) (x2 x3 : Vec Ideal S1x1x1024 .f32) (x4 : Vec Ideal S1024x1536 .bf16)
  (x5 x6 : Vec Ideal S1x128 .f32) (x7 x8 : Vec Ideal S512x128 .f32)

/-- Row `R` of a block's product. -/
def brow (R : Fin 512) : Fin 1536 → EReal :=
  pr (hm (fun d => x0 (ix2 R d)) (fun d => x1 (ix2 0 d)) (fun d => x2 (ix3 0 0 d)) (fun d => x3 (ix3 0 0 d))) (fun d e => x4 (ix2 d e))

/-- The rotated query heads of a block, and its rotated key heads. -/
def qhead (j : Fin 8) : FVec Ideal S512x128 .f32 := k0_pay30 (k0_pay16 (qcut x0 x1 x2 x3 x4 j) x5) x7 x8

def khead (j : Fin 2) : FVec Ideal S512x128 .f32 := k0_pay30 (k0_pay16 (kcut (k0_pay4 x0 x1 x2 x3 x4) j) x6) x7 x8

theorem qhead_at (j : Fin 8) (R : Fin 512) (l : Fin 128) : qhead x0 x1 x2 x3 x4 x5 x7 x8 j (ix2 R l)
    = rotW (nrm (fun l => brow x0 x1 x2 x3 x4 R ⟨j.val * 128 + l.val, by omega⟩) (fun l => x5 (ix2 0 l))) (fun l => x7 (ix2 R l)) (fun l => x8 (ix2 R l)) l := by
  unfold qhead brow
  rw [rot_at]
  simp only [nrm_at, qcut_at, prod_at]

theorem khead_at (j : Fin 2) (R : Fin 512) (l : Fin 128) : khead x0 x1 x2 x3 x4 x6 x7 x8 j (ix2 R l)
    = rotW (nrm (fun l => brow x0 x1 x2 x3 x4 R ⟨1024 + j.val * 128 + l.val, by omega⟩) (fun l => x6 (ix2 0 l))) (fun l => x7 (ix2 R l)) (fun l => x8 (ix2 R l)) l := by
  unfold khead brow
  rw [rot_at]
  simp only [nrm_at, kcut_at, prod_at]

theorem z2 : (![0, 0] : Fin 2 → ℕ) = fun _ => 0 := by decide
theorem z3 : (![0, 0, 0] : Fin 3 → ℕ) = fun _ => 0 := by decide
theorem l0 (X : Vec Ideal S512x1024 .f32) : View.ld X r0_0 = X := View.ld_unit_zero z2 _ X
theorem l1 (X : Vec Ideal S1x1024 .f32) : View.ld X r0_1 = X := View.ld_unit_zero z2 _ X
theorem l2 (X : Vec Ideal S1x1x1024 .f32) : View.ld X r0_2 = X := View.ld_unit_zero z3 _ X
theorem l3 (X : Vec Ideal S1024x1536 .bf16) : View.ld X r0_3 = X := View.ld_unit_zero z2 _ X
theorem l4 (X : Vec Ideal S1x128 .f32) : View.ld X r0_4 = X := View.ld_unit_zero z2 _ X
theorem l5 (X : Vec Ideal S512x128 .f32) : View.ld X r0_5 = X := View.ld_unit_zero z2 _ X

theorem outq_at (R : Fin 512) (L : Fin 1024) : out0_9 x0 x1 x2 x3 x4 x5 x6 x7 x8 (ix2 R L)
    = qhead x0 x1 x2 x3 x4 x5 x7 x8 ⟨L.val / 128, by omega⟩ (ix2 R ⟨L.val % 128, by omega⟩) * Ideal.ofBits FTy.f32 0x3E0293EE#32 := by
  canon_tiles x h
  obtain ⟨r, l, rfl⟩ : ∃ r l, x = ix2 r l := ⟨x 0, x 1, by funext a; fin_cases a <;> rfl⟩
  change R.val = r.val at h0
  change L.val = l.val at h1
  obtain rfl := Fin.ext h0
  obtain rfl := Fin.ext h1
  simp only [k0_pay48, k0_pay49, k0_pay50, k0_pay51]
  rw [l0, l1, l2, l2, l3, l4, l5, l5, rot37, rot38, rot40, rot31, rot32, rot35, rot36, nrm15, nrm17, nrm20, nrm21, nrm22, nrm23, nrm24]
  exact heads8_at (qhead x0 x1 x2 x3 x4 x5 x7 x8) R L

theorem outk_at (R : Fin 512) (L : Fin 256) : out0_10 x0 x1 x2 x3 x4 x5 x6 x7 x8 (ix2 R L)
    = khead x0 x1 x2 x3 x4 x6 x7 x8 ⟨L.val / 128, by omega⟩ (ix2 R ⟨L.val % 128, by omega⟩) := by
  canon_tiles x h
  obtain ⟨r, l, rfl⟩ : ∃ r l, x = ix2 r l := ⟨x 0, x 1, by funext a; fin_cases a <;> rfl⟩
  change R.val = r.val at h0
  change L.val = l.val at h1
  obtain rfl := Fin.ext h0
  obtain rfl := Fin.ext h1
  unfold k0_pay48 k0_pay50 k0_pay51
  rw [l0, l1, l2, l2, l3, l4, l5, l5, rot41, rot42, nrm26, nrm27]
  exact heads2_at (khead x0 x1 x2 x3 x4 x6 x7 x8) R L

theorem outv_at (R : Fin 512) (L : Fin 256) : out0_11 x0 x1 x2 x3 x4 x5 x6 x7 x8 (ix2 R L) = brow x0 x1 x2 x3 x4 R ⟨1280 + L.val, by omega⟩ := by
  canon_tiles x h
  obtain ⟨r, l, rfl⟩ : ∃ r l, x = ix2 r l := ⟨x 0, x 1, by funext a; fin_cases a <;> rfl⟩
  change R.val = r.val at h0
  change L.val = l.val at h1
  obtain rfl := Fin.ext h0
  obtain rfl := Fin.ext h1
  unfold k0_pay48
  rw [l0, l1, l2, l2, l3, third_at, prod_at]
  rfl

end Block

/-- Where the windows stand at each grid point. -/
theorem idx : ∀ t : Fin grid0.N, win0_0.index t = ![t.val, 0] ∧ win0_1.index t = ![0, 0]
    ∧ win0_2.index t = ![t.val / 4, 0, 0] ∧ win0_3.index t = ![t.val / 4, 0, 0] ∧ win0_4.index t = ![0, 0]
    ∧ win0_5.index t = ![0, 0] ∧ win0_6.index t = ![0, 0] ∧ win0_7.index t = ![t.val % 4, 0] ∧ win0_8.index t = ![t.val % 4, 0]
    ∧ win0_9.index t = ![t.val, 0] ∧ win0_10.index t = ![t.val, 0] ∧ win0_11.index t = ![t.val, 0] := by decide +kernel

variable (m : (ℓ : Loc nD τ sig) → Buf (Elt Ideal) ℓ) (c : Dev nD)

/-- Row `R` of the product, from the arguments. -/
def prow (R : Fin 32768) : Fin 1536 → EReal :=
  pr (hm (fun d => (m ((c.tc : Thread nD τ).loc main_arg0) : Vec Ideal S32768x1024 .f32) (ix2 R d))
      (fun d => (m ((c.tc : Thread nD τ).loc main_arg1) : Vec Ideal S1x1024 .f32) (ix2 0 d))
      (fun d => (m ((c.tc : Thread nD τ).loc main_arg2) : Vec Ideal S24x1x1024 .f32) (ix3 ⟨R.val / 2048, by omega⟩ 0 d))
      (fun d => (m ((c.tc : Thread nD τ).loc main_arg3) : Vec Ideal S24x1x1024 .f32) (ix3 ⟨R.val / 2048, by omega⟩ 0 d)))
    (fun d e => (m ((c.tc : Thread nD τ).loc main_arg4) : Vec Ideal S1024x1536 .bf16) (ix2 d e))

/-- The three results at a row and a lane, from the arguments. -/
def qarr (R : Fin 32768) (L : Fin 1024) : EReal :=
  qrow (prow m c R) (fun l => (m ((c.tc : Thread nD τ).loc main_arg5) : Vec Ideal S1x128 .f32) (ix2 0 l))
    ⟨R.val % 2048, by omega⟩ L

def karr (R : Fin 32768) (L : Fin 256) : EReal :=
  krow (prow m c R) (fun l => (m ((c.tc : Thread nD τ).loc main_arg6) : Vec Ideal S1x128 .f32) (ix2 0 l))
    ⟨R.val % 2048, by omega⟩ L

def varr (R : Fin 32768) (L : Fin 256) : EReal := prow m c R ⟨1280 + L.val, by omega⟩

set_option maxHeartbeats 2000000 in
/-- A block's rows of the product are the arrays'. -/
theorem brow_eq (t : Fin grid0.N) (r : Fin 512) (A : Fin 32768) (hA : A.val = t.val * 512 + r.val) :
    brow (iblk m c 0 t) (iblk m c 1 t) (iblk m c 2 t) (iblk m c 3 t) (iblk m c 4 t) r = prow m c A := by
  obtain ⟨i0, i1, i2, i3, i4, -⟩ := idx t
  have h0 : ∀ d : Fin 1024, iblk m c 0 t (ix2 r d) = m ((c.tc : Thread nD τ).loc main_arg0) (ix2 A d) := fun d =>
    Eq.trans (b := V m c main_arg0 (ix2 A d)) (by blk_ext [iblk, i0]) (congrFun (V_main_arg0 m c) _)
  have h1 : ∀ d : Fin 1024, iblk m c 1 t (ix2 0 d) = m ((c.tc : Thread nD τ).loc main_arg1) (ix2 0 d) := fun d =>
    Eq.trans (b := V m c main_arg1 (ix2 0 d)) (by blk_ext [iblk, i1]) (congrFun (V_main_arg1 m c) _)
  have h2 : ∀ d : Fin 1024, iblk m c 2 t (ix3 0 0 d) = m ((c.tc : Thread nD τ).loc main_arg2) (ix3 ⟨A.val / 2048, by omega⟩ 0 d) := fun d =>
    Eq.trans (b := V m c main_arg2 (ix3 ⟨A.val / 2048, by omega⟩ 0 d)) (by blk_ext [iblk, i2]) (congrFun (V_main_arg2 m c) _)
  have h3 : ∀ d : Fin 1024, iblk m c 3 t (ix3 0 0 d) = m ((c.tc : Thread nD τ).loc main_arg3) (ix3 ⟨A.val / 2048, by omega⟩ 0 d) := fun d =>
    Eq.trans (b := V m c main_arg3 (ix3 ⟨A.val / 2048, by omega⟩ 0 d)) (by blk_ext [iblk, i3]) (congrFun (V_main_arg3 m c) _)
  have h4 : ∀ (d : Fin 1024) (e : Fin 1536), iblk m c 4 t (ix2 d e) = m ((c.tc : Thread nD τ).loc main_arg4) (ix2 d e) := fun d e =>
    Eq.trans (b := V m c main_arg4 (ix2 d e)) (by blk_ext [iblk, i4]) (congrFun (V_main_arg4 m c) _)
  unfold brow prow
  simp only [h0, h1, h2, h3, h4]

set_option maxHeartbeats 2000000 in
/-- The block's tables are the rows of the whole tables at the rows' positions. -/
theorem rot_block (t : Fin grid0.N) (r : Fin 512) (A : Fin 32768) (hA : A.val = t.val * 512 + r.val) (n : Fin 128 → EReal) (l : Fin 128) :
    rotW n (fun l => iblk m c 7 t (ix2 r l)) (fun l => iblk m c 8 t (ix2 r l)) l
      = rotH n (fun l => Ideal.cos (ang ⟨A.val % 2048, by omega⟩ l)) (fun l => Ideal.sin (ang ⟨A.val % 2048, by omega⟩ l)) l := by
  obtain ⟨-, -, -, -, -, -, -, i7, i8, -⟩ := idx t
  have h7 : ∀ l : Fin 128, iblk m c 7 t (ix2 r l) = V m c main_v26 (ix2 ⟨A.val % 2048, by omega⟩ l) := fun l => by
    blk_ext [iblk, i7]
  have h8 : ∀ l : Fin 128, iblk m c 8 t (ix2 r l) = V m c main_v30 (ix2 ⟨A.val % 2048, by omega⟩ l) := fun l => by
    blk_ext [iblk, i8]
  exact rot_eq n _ _ _ _ (fun l => (h7 l).trans (cos_at m c _ l)) (fun l => (h8 l).trans (sin_at m c _ l)) l

/-- The three output arrays after the run, at each row and lane. -/
theorem arrq : (dats m 0 c).arrAt 9 (cfgs 0).N = fun i => qarr m c (i 0) (i 1) := by
  refine (dats m 0 c).arrAt_eq_of_covers 9 _ (by decide +kernel) fun t hf y => ?_
  blk_simp
  rw [after0_9]
  obtain ⟨r, l, rfl⟩ : ∃ (r : Fin 512) (l : Fin 1024), y = ix2 r l := ⟨y 0, y 1, by funext a; fin_cases a <;> rfl⟩
  obtain ⟨-, -, -, -, -, i5, -, -, -, i9, -⟩ := idx t
  have he0 : (((win0_9.blk t).view.emb (ix2 r l) 0 : Fin 32768) : ℕ) = t.val * 512 + r.val := by
    blk_simp [i9]
  have he1 : (((win0_9.blk t).view.emb (ix2 r l) 1 : Fin 1024) : ℕ) = l.val := by
    blk_simp [i9]
  generalize ((win0_9.blk t).view.emb (ix2 r l) 0 : Fin 32768) = A at he0
  generalize ((win0_9.blk t).view.emb (ix2 r l) 1 : Fin 1024) = B at he1
  obtain rfl : l = B := (Fin.ext he1).symm
  have h5 : ∀ l : Fin 128, iblk m c 5 t (ix2 0 l) = m ((c.tc : Thread nD τ).loc main_arg5) (ix2 0 l) := fun l =>
    Eq.trans (b := V m c main_arg5 (ix2 0 l)) (by blk_ext [iblk, i5]) (congrFun (V_main_arg5 m c) _)
  unfold qarr
  rw [outq_at, qhead_at, rot_block m c t r A he0, brow_eq m c t r A he0]
  simp only [h5]
  rfl

theorem arrk : (dats m 0 c).arrAt 10 (cfgs 0).N = fun i => karr m c (i 0) (i 1) := by
  refine (dats m 0 c).arrAt_eq_of_covers 10 _ (by decide +kernel) fun t hf y => ?_
  blk_simp
  rw [after0_10]
  obtain ⟨r, l, rfl⟩ : ∃ (r : Fin 512) (l : Fin 256), y = ix2 r l := ⟨y 0, y 1, by funext a; fin_cases a <;> rfl⟩
  obtain ⟨-, -, -, -, -, -, i6, -, -, -, i10, -⟩ := idx t
  have he0 : (((win0_10.blk t).view.emb (ix2 r l) 0 : Fin 32768) : ℕ) = t.val * 512 + r.val := by
    blk_simp [i10]
  have he1 : (((win0_10.blk t).view.emb (ix2 r l) 1 : Fin 256) : ℕ) = l.val := by
    blk_simp [i10]
  generalize ((win0_10.blk t).view.emb (ix2 r l) 0 : Fin 32768) = A at he0
  generalize ((win0_10.blk t).view.emb (ix2 r l) 1 : Fin 256) = B at he1
  obtain rfl : l = B := (Fin.ext he1).symm
  have h6 : ∀ l : Fin 128, iblk m c 6 t (ix2 0 l) = m ((c.tc : Thread nD τ).loc main_arg6) (ix2 0 l) := fun l =>
    Eq.trans (b := V m c main_arg6 (ix2 0 l)) (by blk_ext [iblk, i6]) (congrFun (V_main_arg6 m c) _)
  unfold karr
  rw [outk_at, khead_at, rot_block m c t r A he0, brow_eq m c t r A he0]
  simp only [h6]
  rfl

theorem arrv : (dats m 0 c).arrAt 11 (cfgs 0).N = fun i => varr m c (i 0) (i 1) := by
  refine (dats m 0 c).arrAt_eq_of_covers 11 _ (by decide +kernel) fun t hf y => ?_
  blk_simp
  rw [after0_11]
  obtain ⟨r, l, rfl⟩ : ∃ (r : Fin 512) (l : Fin 256), y = ix2 r l := ⟨y 0, y 1, by funext a; fin_cases a <;> rfl⟩
  obtain ⟨-, -, -, -, -, -, -, -, -, -, -, i11⟩ := idx t
  have he0 : (((win0_11.blk t).view.emb (ix2 r l) 0 : Fin 32768) : ℕ) = t.val * 512 + r.val := by
    blk_simp [i11]
  have he1 : (((win0_11.blk t).view.emb (ix2 r l) 1 : Fin 256) : ℕ) = l.val := by
    blk_simp [i11]
  generalize ((win0_11.blk t).view.emb (ix2 r l) 0 : Fin 32768) = A at he0
  generalize ((win0_11.blk t).view.emb (ix2 r l) 1 : Fin 256) = B at he1
  obtain rfl : l = B := (Fin.ext he1).symm
  unfold varr
  rw [outv_at, brow_eq m c t r A he0]

end Cert.ProjKer

end
-- ==== Proof.ProjRef.lean ====
/-
  What the projection reference computes, read at one index: the printed composed terms cut into their stages (modulated
  norm, product, heads' norms, angles, rotations, results), each stage at an index.
-/
module

public import proofs.«01_k».proof.Proof.Gen.ProjectCReferenceIdeal.Run
public import proofs.«01_k».proof.Proof.ProjSpec

@[expose] public section

noncomputable section

namespace Cert.ProjRef

open Cert.ProjectCReferenceIdeal Cert.ProjectCReferenceIdeal.Gen Cert.ProjectCReferenceIdeal.Value Cert.Proj Idealize.ShloMosaic Idealize.SL.Sem

/-- The rows by batch entry. -/
def refX (x : Vec Ideal S32768x1024 .f32) : FVec Ideal S16x2048x1024 .f32 :=
  shapeCast _ x shapeCasts_S32768x1024_S16x2048x1024

/-- The modulated norm. -/
def refH (x : FVec Ideal S16x2048x1024 .f32) (g : Vec Ideal S1x1024 .f32) (sc sh : Vec Ideal S24x1x1024 .f32) : FVec Ideal S16x2048x1024 .f32 :=
  addf (mulf (mulf (mulf x (broadcastInDim S16x2048x1024 ![0, 1, 2] bcast_S16x2048x1_S16x2048x1024_0_1_2
      (Host.rsqrt (addf (Host.divf (broadcastInDim S16x2048x1 ![0, 1] bcast_S16x2048_S16x2048x1_0_1
          (Host.reduceAdd (mulf x x) (constant S_ .f32 0x00000000#32) reducesTo_S16x2048x1024_S16x2048_d2 h_S_))
          (broadcastInDim S16x2048x1 ![] bcast_S_S16x2048x1 (constant S_ .f32 0x44800000#32)))
        (broadcastInDim S16x2048x1 ![] bcast_S_S16x2048x1 (constant S_ .f32 0x358637BD#32))))))
      (broadcastInDim S16x2048x1024 ![0, 1, 2] bcast_S1x1x1024_S16x2048x1024_0_1_2 (broadcastInDim S1x1x1024 ![2] bcast_S1024_S1x1x1024_2
        (shapeCast _ g shapeCasts_S1x1024_S1024))))
    (broadcastInDim S16x2048x1024 ![0, 1, 2] bcast_S16x1x1024_S16x2048x1024_0_1_2
      (addf (broadcastInDim S16x1x1024 ![] bcast_S_S16x1x1024 (constant S_ .f32 0x3F800000#32))
        (extractStridedSlice S16x1x1024 ![0, 0, 0] sc slices_S24x1x1024_S16x1x1024_0_0_0))))
    (broadcastInDim S16x2048x1024 ![0, 1, 2] bcast_S16x1x1024_S16x2048x1024_0_1_2
      (extractStridedSlice S16x1x1024 ![0, 0, 0] sh slices_S24x1x1024_S16x1x1024_0_0_0))

/-- The product with the weights. -/
def refP (h : FVec Ideal S16x2048x1024 .f32) (w : Vec Ideal S1024x1536 .bf16) : FVec Ideal S16x2048x1536 .f32 :=
  Host.dotGeneral dot_S16x2048x1024_S1024x1536_S16x2048x1536_2_0_01_1_n_n none h (extf .f32 w bitsLt_bf16_f32)

/-- The query heads and the key heads, then their norms. -/
def refQ (p : FVec Ideal S16x2048x1536 .f32) : FVec Ideal S16x2048x2x4x128 .f32 :=
  shapeCast _ (extractStridedSlice S16x2048x1024 ![0, 0, 0] p slices_S16x2048x1536_S16x2048x1024_0_0_0) shapeCasts_S16x2048x1024_S16x2048x2x4x128

def refK (p : FVec Ideal S16x2048x1536 .f32) : FVec Ideal S16x2048x2x128 .f32 :=
  shapeCast _ (extractStridedSlice S16x2048x256 ![0, 0, 1024] p slices_S16x2048x1536_S16x2048x256_0_0_1024) shapeCasts_S16x2048x256_S16x2048x2x128

def refQn (t : FVec Ideal S16x2048x2x4x128 .f32) (q : Vec Ideal S1x128 .f32) : FVec Ideal S16x2x4x2048x128 .f32 :=
  transpose S16x2x4x2048x128 [0, 2, 3, 1, 4]
    (mulf (mulf t (broadcastInDim S16x2048x2x4x128 ![0, 1, 2, 3, 4] bcast_S16x2048x2x4x1_S16x2048x2x4x128_0_1_2_3_4
      (Host.rsqrt (addf (Host.divf (broadcastInDim S16x2048x2x4x1 ![0, 1, 2, 3] bcast_S16x2048x2x4_S16x2048x2x4x1_0_1_2_3
          (Host.reduceAdd (mulf t t) (constant S_ .f32 0x00000000#32) reducesTo_S16x2048x2x4x128_S16x2048x2x4_d4 h_S_))
          (broadcastInDim S16x2048x2x4x1 ![] bcast_S_S16x2048x2x4x1 (constant S_ .f32 0x43000000#32)))
        (broadcastInDim S16x2048x2x4x1 ![] bcast_S_S16x2048x2x4x1 (constant S_ .f32 0x358637BD#32))))))
      (broadcastInDim S16x2048x2x4x128 ![0, 1, 2, 3, 4] bcast_S1x1x1x1x128_S16x2048x2x4x128_0_1_2_3_4
        (broadcastInDim S1x1x1x1x128 ![4] bcast_S128_S1x1x1x1x128_4 (shapeCast _ q shapeCasts_S1x128_S128))))
    transposes_S16x2048x2x4x128_S16x2x4x2048x128_0_2_3_1_4

def refKn (t : FVec Ideal S16x2048x2x128 .f32) (q : Vec Ideal S1x128 .f32) : FVec Ideal S16x2x2048x128 .f32 :=
  transpose S16x2x2048x128 [0, 2, 1, 3]
    (mulf (mulf t (broadcastInDim S16x2048x2x128 ![0, 1, 2, 3] bcast_S16x2048x2x1_S16x2048x2x128_0_1_2_3
      (Host.rsqrt (addf (Host.divf (broadcastInDim S16x2048x2x1 ![0, 1, 2] bcast_S16x2048x2_S16x2048x2x1_0_1_2
          (Host.reduceAdd (mulf t t) (constant S_ .f32 0x00000000#32) reducesTo_S16x2048x2x128_S16x2048x2_d3 h_S_))
          (broadcastInDim S16x2048x2x1 ![] bcast_S_S16x2048x2x1 (constant S_ .f32 0x43000000#32)))
        (broadcastInDim S16x2048x2x1 ![] bcast_S_S16x2048x2x1 (constant S_ .f32 0x358637BD#32))))))
      (broadcastInDim S16x2048x2x128 ![0, 1, 2, 3] bcast_S1x1x1x128_S16x2048x2x128_0_1_2_3
        (broadcastInDim S1x1x1x128 ![3] bcast_S128_S1x1x1x128_3 (shapeCast _ q shapeCasts_S1x128_S128))))
    transposes_S16x2048x2x128_S16x2x2048x128_0_2_1_3

/-- The angles. -/
def freqs : FVec Ideal S32 .f32 :=
  Host.powf (broadcastInDim S32 ![] bcast_S_S32 (constant S_ .f32 0x461C4000#32))
    (Host.divf (Host.negf (sitofp .f32 (iotaInDim S32 32 0))) (broadcastInDim S32 ![] bcast_S_S32 (constant S_ .f32 0x42000000#32)))

def times (p : IVec S32x64 32) : FVec Ideal S2048x32 .f32 :=
  mulf (broadcastInDim S2048x32 ![0, 1] bcast_S2048x1_S2048x32_0_1 (broadcastInDim S2048x1 ![0] bcast_S2048_S2048x1_0
      (sitofp .f32 (shapeCast S2048 p shapeCasts_S32x64_S2048))))
    (broadcastInDim S2048x32 ![0, 1] bcast_S1x32_S2048x32_0_1 (broadcastInDim S1x32 ![1] bcast_S32_S1x32_1 freqs))

def angs : FVec Ideal S2048x64 .f32 :=
  concatenate S2048x64 1 [⟨S2048x32, times (broadcastInDim S32x64 ![0, 1] bcast_S32x1_S32x64_0_1 (broadcastInDim S32x1 ![0] bcast_S32_S32x1_0 (iotaInDim S32 32 0)))⟩,
    ⟨S2048x32, times (broadcastInDim S32x64 ![0, 1] bcast_S1x64_S32x64_0_1 (broadcastInDim S1x64 ![1] bcast_S64_S1x64_1 (iotaInDim S64 32 0)))⟩]
    concatenates_S2048x32_S2048x32_S2048x64_d1

/-- The rotations. -/
def tab5 (a : FVec Ideal S2048x64 .f32) : FVec Ideal S16x2x4x2048x64 .f32 :=
  broadcastInDim S16x2x4x2048x64 ![0, 1, 2, 3, 4] bcast_S1x1x1x2048x64_S16x2x4x2048x64_0_1_2_3_4 (broadcastInDim S1x1x1x2048x64 ![3, 4] bcast_S2048x64_S1x1x1x2048x64_3_4 a)

def tab4 (a : FVec Ideal S2048x64 .f32) : FVec Ideal S16x2x2048x64 .f32 :=
  broadcastInDim S16x2x2048x64 ![0, 1, 2, 3] bcast_S1x1x2048x64_S16x2x2048x64_0_1_2_3 (broadcastInDim S1x1x2048x64 ![2, 3] bcast_S2048x64_S1x1x2048x64_2_3 a)

def refQr (t : FVec Ideal S16x2x4x2048x128 .f32) (c s : FVec Ideal S2048x64 .f32) : FVec Ideal S16x2x4x2048x128 .f32 :=
  concatenate S16x2x4x2048x128 4 [
    ⟨S16x2x4x2048x64, subf (mulf (extractStridedSlice S16x2x4x2048x64 ![0, 0, 0, 0, 0] t slices_S16x2x4x2048x128_S16x2x4x2048x64_0_0_0_0_0) (tab5 c))
      (mulf (extractStridedSlice S16x2x4x2048x64 ![0, 0, 0, 0, 64] t slices_S16x2x4x2048x128_S16x2x4x2048x64_0_0_0_0_64) (tab5 s))⟩,
    ⟨S16x2x4x2048x64, addf (mulf (extractStridedSlice S16x2x4x2048x64 ![0, 0, 0, 0, 64] t slices_S16x2x4x2048x128_S16x2x4x2048x64_0_0_0_0_64) (tab5 c))
      (mulf (extractStridedSlice S16x2x4x2048x64 ![0, 0, 0, 0, 0] t slices_S16x2x4x2048x128_S16x2x4x2048x64_0_0_0_0_0) (tab5 s))⟩]
    concatenates_S16x2x4x2048x64_S16x2x4x2048x64_S16x2x4x2048x128_d4

def refKr (t : FVec Ideal S16x2x2048x128 .f32) (c s : FVec Ideal S2048x64 .f32) : FVec Ideal S16x2x2048x128 .f32 :=
  concatenate S16x2x2048x128 3 [
    ⟨S16x2x2048x64, subf (mulf (extractStridedSlice S16x2x2048x64 ![0, 0, 0, 0] t slices_S16x2x2048x128_S16x2x2048x64_0_0_0_0) (tab4 c))
      (mulf (extractStridedSlice S16x2x2048x64 ![0, 0, 0, 64] t slices_S16x2x2048x128_S16x2x2048x64_0_0_0_64) (tab4 s))⟩,
    ⟨S16x2x2048x64, addf (mulf (extractStridedSlice S16x2x2048x64 ![0, 0, 0, 64] t slices_S16x2x2048x128_S16x2x2048x64_0_0_0_64) (tab4 c))
      (mulf (extractStridedSlice S16x2x2048x64 ![0, 0, 0, 0] t slices_S16x2x2048x128_S16x2x2048x64_0_0_0_0) (tab4 s))⟩]
    concatenates_S16x2x2048x64_S16x2x2048x64_S16x2x2048x128_d3

/-- The results. -/
def refQo (t : FVec Ideal S16x2x4x2048x128 .f32) : FVec Ideal S32768x1024 .bf16 :=
  truncf .bf16 (shapeCast _ (transpose S16x2048x2x4x128 [0, 3, 1, 2, 4]
    (mulf t (broadcastInDim S16x2x4x2048x128 ![] bcast_S_S16x2x4x2048x128 (constant S_ .f32 0x3E0293EE#32)))
    transposes_S16x2x4x2048x128_S16x2048x2x4x128_0_3_1_2_4) shapeCasts_S16x2048x2x4x128_S32768x1024) bitsLt_bf16_f32

def refKo (t : FVec Ideal S16x2x2048x128 .f32) : FVec Ideal S32768x256 .bf16 :=
  truncf .bf16 (shapeCast _ (transpose S16x2048x2x128 [0, 2, 1, 3] t transposes_S16x2x2048x128_S16x2048x2x128_0_2_1_3) shapeCasts_S16x2048x2x128_S32768x256) bitsLt_bf16_f32

def refVo (p : FVec Ideal S16x2048x1536 .f32) : FVec Ideal S32768x256 .bf16 :=
  truncf .bf16 (shapeCast _ (extractStridedSlice S16x2048x256 ![0, 0, 1280] p slices_S16x2048x1536_S16x2048x256_0_0_1280) shapeCasts_S16x2048x256_S32768x256) bitsLt_bf16_f32

section Results

variable (m : (ℓ : Loc nD τ sig) → Buf (Elt Ideal) ℓ) (c : Dev nD)

/-- The product, from the arguments. -/
def prod : FVec Ideal S16x2048x1536 .f32 :=
  refP (refH (refX (m ((c.tc : Thread nD τ).loc main_arg0))) (m ((c.tc : Thread nD τ).loc main_arg1)) (m ((c.tc : Thread nD τ).loc main_arg2))
    (m ((c.tc : Thread nD τ).loc main_arg3))) (m ((c.tc : Thread nD τ).loc main_arg4))

set_option maxRecDepth 8192 in
theorem resq_eq : res_main_v129 m c = refQo (refQr (refQn (refQ (prod m c)) (m ((c.tc : Thread nD τ).loc main_arg5))) (Host.cos angs) (Host.sin angs)) := by
  unfold res_main_v129 refQo refQr refQn refQ prod refP refH refX tab5 angs times freqs
  rfl

set_option maxRecDepth 8192 in
theorem resk_eq : res_main_v130 m c = refKo (refKr (refKn (refK (prod m c)) (m ((c.tc : Thread nD τ).loc main_arg6))) (Host.cos angs) (Host.sin angs)) := by
  unfold res_main_v130 refKo refKr refKn refK prod refP refH refX tab4 angs times freqs
  rfl

end Results

/-! ## Each stage at an index -/

theorem refX_at (x : Vec Ideal S32768x1024 .f32) (b : Fin 16) (s : Fin 2048) (d : Fin 1024) :
    refX x (ix3 b s d) = x (ix2 ⟨b.val * 2048 + s.val, by omega⟩ d) := by
  unfold refX
  pointwise

theorem refH_at (x : FVec Ideal S16x2048x1024 .f32) (g : Vec Ideal S1x1024 .f32) (sc sh : Vec Ideal S24x1x1024 .f32)
    (b : Fin 16) (s : Fin 2048) (d : Fin 1024) :
    refH x g sc sh (ix3 b s d) = hm (fun d => x (ix3 b s d)) (fun d => g (ix2 0 d)) (fun d => sc (ix3 ⟨b.val, by omega⟩ 0 d))
      (fun d => sh (ix3 ⟨b.val, by omega⟩ 0 d)) d := by
  unfold refH hm
  pointwise

theorem refP_at (h : FVec Ideal S16x2048x1024 .f32) (w : Vec Ideal S1024x1536 .bf16) (b : Fin 16) (s : Fin 2048) (e : Fin 1536) :
    refP h w (ix3 b s e) = pr (fun d => h (ix3 b s d)) (fun d e => w (ix2 d e)) e := by
  unfold refP pr
  pointwise [dot_S16x2048x1024_S1024x1536_S16x2048x1536_2_0_01_1_n_n]

theorem refQ_at (p : FVec Ideal S16x2048x1536 .f32) (b : Fin 16) (s : Fin 2048) (h : Fin 2) (g : Fin 4) (l : Fin 128) :
    refQ p (ix5 b s h g l) = p (ix3 b s ⟨h.val * 512 + g.val * 128 + l.val, by omega⟩) := by
  unfold refQ
  pointwise

theorem refK_at (p : FVec Ideal S16x2048x1536 .f32) (b : Fin 16) (s : Fin 2048) (h : Fin 2) (l : Fin 128) :
    refK p (ix4 b s h l) = p (ix3 b s ⟨1024 + (h.val * 128 + l.val), by omega⟩) := by
  unfold refK
  pointwise

theorem refQn_at (t : FVec Ideal S16x2048x2x4x128 .f32) (q : Vec Ideal S1x128 .f32)
    (b : Fin 16) (s : Fin 2048) (h : Fin 2) (g : Fin 4) (l : Fin 128) :
    refQn t q (ix5 b h g s l) = nrm (fun l => t (ix5 b s h g l)) (fun l => q (ix2 0 l)) l := by
  unfold refQn nrm
  pointwise

theorem refKn_at (t : FVec Ideal S16x2048x2x128 .f32) (q : Vec Ideal S1x128 .f32) (b : Fin 16) (s : Fin 2048) (h : Fin 2) (l : Fin 128) :
    refKn t q (ix4 b h s l) = nrm (fun l => t (ix4 b s h l)) (fun l => q (ix2 0 l)) l := by
  unfold refKn nrm
  pointwise

theorem angs_at (s : Fin 2048) (l : Fin 64) : angs (ix2 s l) = ang s l := by
  unfold angs times freqs ang
  pointwise

theorem refQr_at (t : FVec Ideal S16x2x4x2048x128 .f32) (c s : FVec Ideal S2048x64 .f32)
    (b : Fin 16) (r : Fin 2048) (h : Fin 2) (g : Fin 4) (l : Fin 128) :
    refQr t c s (ix5 b h g r l) = rotH (fun l => t (ix5 b h g r l)) (fun l => c (ix2 r l)) (fun l => s (ix2 r l)) l := by
  unfold refQr rotH tab5
  pointwise

theorem refKr_at (t : FVec Ideal S16x2x2048x128 .f32) (c s : FVec Ideal S2048x64 .f32) (b : Fin 16) (r : Fin 2048) (h : Fin 2) (l : Fin 128) :
    refKr t c s (ix4 b h r l) = rotH (fun l => t (ix4 b h r l)) (fun l => c (ix2 r l)) (fun l => s (ix2 r l)) l := by
  unfold refKr rotH tab4
  pointwise

theorem refQo_at (t : FVec Ideal S16x2x4x2048x128 .f32) (R : Fin 32768) (L : Fin 1024) :
    refQo t (ix2 R L) = t (ix5 ⟨R.val / 2048, by omega⟩ ⟨L.val / 512, by omega⟩ ⟨L.val / 128 % 4, by omega⟩ ⟨R.val % 2048, by omega⟩ ⟨L.val % 128, by omega⟩)
      * Ideal.ofBits FTy.f32 0x3E0293EE#32 := by
  unfold refQo
  pointwise

theorem refKo_at (t : FVec Ideal S16x2x2048x128 .f32) (R : Fin 32768) (L : Fin 256) :
    refKo t (ix2 R L) = t (ix4 ⟨R.val / 2048, by omega⟩ ⟨L.val / 128, by omega⟩ ⟨R.val % 2048, by omega⟩ ⟨L.val % 128, by omega⟩) := by
  unfold refKo
  pointwise

theorem refVo_at (p : FVec Ideal S16x2048x1536 .f32) (R : Fin 32768) (L : Fin 256) :
    refVo p (ix2 R L) = p (ix3 ⟨R.val / 2048, by omega⟩ ⟨R.val % 2048, by omega⟩ ⟨1280 + L.val, by omega⟩) := by
  unfold refVo
  pointwise

/-! ## The results at an index -/

section Values

variable (m : (ℓ : Loc nD τ sig) → Buf (Elt Ideal) ℓ) (c : Dev nD)

/-- Row `R` of the product, from the arguments. -/
def prow (R : Fin 32768) : Fin 1536 → EReal :=
  pr (hm (fun d => (m ((c.tc : Thread nD τ).loc main_arg0) : Vec Ideal S32768x1024 .f32) (ix2 R d))
      (fun d => (m ((c.tc : Thread nD τ).loc main_arg1) : Vec Ideal S1x1024 .f32) (ix2 0 d))
      (fun d => (m ((c.tc : Thread nD τ).loc main_arg2) : Vec Ideal S24x1x1024 .f32) (ix3 ⟨R.val / 2048, by omega⟩ 0 d))
      (fun d => (m ((c.tc : Thread nD τ).loc main_arg3) : Vec Ideal S24x1x1024 .f32) (ix3 ⟨R.val / 2048, by omega⟩ 0 d)))
    (fun d e => (m ((c.tc : Thread nD τ).loc main_arg4) : Vec Ideal S1024x1536 .bf16) (ix2 d e))

theorem prod_at (R : Fin 32768) (e : Fin 1536) :
    prod m c (ix3 ⟨R.val / 2048, by omega⟩ ⟨R.val % 2048, by omega⟩ e) = prow m c R e := by
  have hR : (⟨R.val / 2048 * 2048 + R.val % 2048, by omega⟩ : Fin 32768) = R := Fin.ext (by dsimp only; omega)
  unfold prod prow
  simp only [refP_at, refH_at, refX_at, hR]

theorem resq_at (R : Fin 32768) (L : Fin 1024) : (res_main_v129 m c : FVec Ideal S32768x1024 .bf16) (ix2 R L)
    = qrow (prow m c R) (fun l => (m ((c.tc : Thread nD τ).loc main_arg5) : Vec Ideal S1x128 .f32) (ix2 0 l)) ⟨R.val % 2048, by omega⟩ L := by
  have e : ∀ l : Fin 128, (⟨L.val / 512 * 512 + L.val / 128 % 4 * 128 + l.val, by omega⟩ : Fin 1536) = ⟨L.val / 128 * 128 + l.val, by omega⟩ :=
    fun l => Fin.ext (by dsimp only; omega)
  rw [resq_eq, refQo_at, refQr_at]
  unfold qrow
  simp only [refQn_at, refQ_at, e, prod_at]
  pointwise
  simp only [angs_at]

theorem resk_at (R : Fin 32768) (L : Fin 256) : (res_main_v130 m c : FVec Ideal S32768x256 .bf16) (ix2 R L)
    = krow (prow m c R) (fun l => (m ((c.tc : Thread nD τ).loc main_arg6) : Vec Ideal S1x128 .f32) (ix2 0 l)) ⟨R.val % 2048, by omega⟩ L := by
  rw [resk_eq, refKo_at, refKr_at]
  unfold krow
  simp only [refKn_at, refK_at, ← Nat.add_assoc, prod_at]
  pointwise
  simp only [angs_at]

theorem resv_at (R : Fin 32768) (L : Fin 256) : refVo (prod m c) (ix2 R L) = prow m c R ⟨1280 + L.val, by omega⟩ := by
  rw [refVo_at, prod_at]

end Values

end Cert.ProjRef

end
-- ==== Proof.ProjEq.lean ====
/-
  The projection kernel's three arrays equal the reference's three results.
-/
module

public import proofs.«01_k».proof.Proof.ProjKer
public import proofs.«01_k».proof.Proof.ProjRef

@[expose] public section

noncomputable section

namespace Cert.ProjEq

open Idealize.ShloMosaic Idealize.SL.Sem

variable (m : (ℓ : Loc ProjectCIdeal.nD ProjectCIdeal.τ ProjectCIdeal.sig) → Buf (Elt Ideal) ℓ)
  (m' : (ℓ : Loc ProjectCReferenceIdeal.nD ProjectCReferenceIdeal.τ ProjectCReferenceIdeal.sig) → Buf (Elt Ideal) ℓ) (c : Dev ProjectCIdeal.nD)

theorem prow_eq
    (a0 : m' ((c.tc : Thread ProjectCReferenceIdeal.nD ProjectCReferenceIdeal.τ).loc ProjectCReferenceIdeal.main_arg0)
      = m ((c.tc : Thread ProjectCIdeal.nD ProjectCIdeal.τ).loc ProjectCIdeal.main_arg0))
    (a1 : m' ((c.tc : Thread ProjectCReferenceIdeal.nD ProjectCReferenceIdeal.τ).loc ProjectCReferenceIdeal.main_arg1)
      = m ((c.tc : Thread ProjectCIdeal.nD ProjectCIdeal.τ).loc ProjectCIdeal.main_arg1))
    (a2 : m' ((c.tc : Thread ProjectCReferenceIdeal.nD ProjectCReferenceIdeal.τ).loc ProjectCReferenceIdeal.main_arg2)
      = m ((c.tc : Thread ProjectCIdeal.nD ProjectCIdeal.τ).loc ProjectCIdeal.main_arg2))
    (a3 : m' ((c.tc : Thread ProjectCReferenceIdeal.nD ProjectCReferenceIdeal.τ).loc ProjectCReferenceIdeal.main_arg3)
      = m ((c.tc : Thread ProjectCIdeal.nD ProjectCIdeal.τ).loc ProjectCIdeal.main_arg3))
    (a4 : m' ((c.tc : Thread ProjectCReferenceIdeal.nD ProjectCReferenceIdeal.τ).loc ProjectCReferenceIdeal.main_arg4)
      = m ((c.tc : Thread ProjectCIdeal.nD ProjectCIdeal.τ).loc ProjectCIdeal.main_arg4)) (R : Fin 32768) :
    ProjKer.prow m c R = ProjRef.prow m' c R := by
  unfold ProjKer.prow ProjRef.prow
  rw [a0, a1, a2, a3, a4]

end Cert.ProjEq

end
-- ==== Proof.AbSpec.lean ====
/-
  One row of the even layer's projection to latents, as functions of the row alone: the products, the latents' norms, and
  the rotation of a part of a head's lanes written in two ways, the other lanes passing.
-/
module

public import proofs.«01_k».proof.Proof.ProjSpec

@[expose] public section

noncomputable section

namespace Cert.Ab

open Idealize.ShloMosaic

/-- A row times weights. -/
def lin {n k : ℕ} (h : Fin n → EReal) (w : Fin n → Fin k → EReal) (e : Fin k) : EReal := ∑ d, h d * w d e

/-- The norm of a row whose length is the number `N` writes. -/
def rn {n : ℕ} (N : BitVec 32) (t q : Fin n → EReal) (l : Fin n) : EReal :=
  t l * Ideal.rsqrt (Ideal.div (∑ e, t e * t e) (Ideal.ofBits FTy.f32 N) + Ideal.ofBits FTy.f32 0x358637BD#32) * q l

/-- The rotation of lanes 0 to 63 with whole tables, the sign in the second table. -/
def rotAW (t c s : Fin 128 → EReal) (l : Fin 128) : EReal :=
  t l * c l + (if l.val < 32 then t ⟨(l.val + 32) % 128, by omega⟩ else t ⟨(l.val + 96) % 128, by omega⟩) * s l

/-- The same by halves: a difference on lanes 0 to 31, a sum on lanes 32 to 63, the others as they are. -/
def rotAH (t : Fin 128 → EReal) (c s : Fin 32 → EReal) (l : Fin 128) : EReal :=
  if h : l.val < 32 then t l * c ⟨l.val, h⟩ - t ⟨l.val + 32, by omega⟩ * s ⟨l.val, h⟩
  else if h' : l.val < 64 then t l * c ⟨l.val - 32, by omega⟩ + t ⟨l.val - 32, by omega⟩ * s ⟨l.val - 32, by omega⟩
  else t l

/-- The rotation of lanes 64 to 95 with whole tables. -/
def rotBW (t c s : Fin 128 → EReal) (l : Fin 128) : EReal :=
  t l * c l + (if 64 ≤ l.val ∧ l.val < 80 then t ⟨(l.val + 16) % 128, by omega⟩ else t ⟨(l.val + 112) % 128, by omega⟩) * s l

/-- The same by halves: a difference on lanes 64 to 79, a sum on lanes 80 to 95, the others as they are. -/
def rotBH (t : Fin 128 → EReal) (c s : Fin 16 → EReal) (l : Fin 128) : EReal :=
  if h0 : l.val < 64 then t l
  else if h : l.val < 80 then t l * c ⟨l.val - 64, by omega⟩ - t ⟨l.val + 16, by omega⟩ * s ⟨l.val - 64, by omega⟩
  else if h' : l.val < 96 then t l * c ⟨l.val - 80, by omega⟩ + t ⟨l.val - 16, by omega⟩ * s ⟨l.val - 80, by omega⟩
  else t l

/-- Whole tables from half ones: the first 1 and the second 0 where the lanes pass, the second negated on the lower half. -/
def cosA (c : Fin 32 → EReal) (l : Fin 128) : EReal :=
  if h : l.val < 32 then c ⟨l.val, h⟩ else if h' : l.val < 64 then c ⟨l.val - 32, by omega⟩ else 1

def sinA (s : Fin 32 → EReal) (l : Fin 128) : EReal :=
  if h : l.val < 32 then -(s ⟨l.val, h⟩) else if h' : l.val < 64 then s ⟨l.val - 32, by omega⟩ else 0

def cosB (c : Fin 16 → EReal) (l : Fin 128) : EReal :=
  if h0 : l.val < 64 then 1 else if h : l.val < 80 then c ⟨l.val - 64, by omega⟩ else if h' : l.val < 96 then c ⟨l.val - 80, by omega⟩ else 1

def sinB (s : Fin 16 → EReal) (l : Fin 128) : EReal :=
  if h0 : l.val < 64 then 0 else if h : l.val < 80 then -(s ⟨l.val - 64, by omega⟩) else if h' : l.val < 96 then s ⟨l.val - 80, by omega⟩ else 0

theorem rotA_eq (t : Fin 128 → EReal) (c s : Fin 32 → EReal) (l : Fin 128) : rotAW t (cosA c) (sinA s) l = rotAH t c s l := by
  unfold rotAW rotAH cosA sinA
  by_cases h : l.val < 32
  · have e : (⟨(l.val + 32) % 128, by omega⟩ : Fin 128) = ⟨l.val + 32, by omega⟩ := Fin.ext (show (l.val + 32) % 128 = l.val + 32 by omega)
    simp only [h, if_true, dif_pos, e, mul_neg, sub_eq_add_neg]
  · by_cases h' : l.val < 64
    · have e : (⟨(l.val + 96) % 128, by omega⟩ : Fin 128) = ⟨l.val - 32, by omega⟩ := Fin.ext (show (l.val + 96) % 128 = l.val - 32 by omega)
      simp only [h, h', if_false, dif_pos, dif_neg, not_false_eq_true, e]
    · simp only [h, h', dif_neg, not_false_eq_true, mul_one, mul_zero, add_zero]

theorem rotB_eq (t : Fin 128 → EReal) (c s : Fin 16 → EReal) (l : Fin 128) : rotBW t (cosB c) (sinB s) l = rotBH t c s l := by
  unfold rotBW rotBH cosB sinB
  by_cases h0 : l.val < 64
  · simp only [h0, dif_pos, mul_one, mul_zero, add_zero]
  · by_cases h : l.val < 80
    · have e : (⟨(l.val + 16) % 128, by omega⟩ : Fin 128) = ⟨l.val + 16, by omega⟩ := Fin.ext (show (l.val + 16) % 128 = l.val + 16 by omega)
      rw [if_pos ⟨by omega, h⟩]
      simp only [h0, h, dif_pos, dif_neg, not_false_eq_true, e, mul_neg, sub_eq_add_neg]
    · by_cases h' : l.val < 96
      · have e : (⟨(l.val + 112) % 128, by omega⟩ : Fin 128) = ⟨l.val - 16, by omega⟩ := Fin.ext (show (l.val + 112) % 128 = l.val - 16 by omega)
        rw [if_neg (by omega)]
        simp only [h0, h, h', dif_pos, dif_neg, not_false_eq_true, e]
      · simp only [h0, h, h', dif_neg, not_false_eq_true, mul_one, mul_zero, add_zero]

/-- The angle of position `s` at lane `l`: the row times a frequency for the first half of the lanes, then the column. -/
def angA (s : Fin 2048) (l : Fin 32) : EReal :=
  if _h : l.val < 16 then
    FloatOps.sitofp (F := Ideal) FTy.f32 (BitVec.ofNat 32 (s.val / 64)) * Ideal.pow (Ideal.ofBits FTy.f32 0x461C4000#32)
      (Ideal.div (-FloatOps.sitofp (F := Ideal) FTy.f32 (BitVec.ofNat 32 l.val)) (Ideal.ofBits FTy.f32 0x41800000#32))
  else
    FloatOps.sitofp (F := Ideal) FTy.f32 (BitVec.ofNat 32 (s.val % 64)) * Ideal.pow (Ideal.ofBits FTy.f32 0x461C4000#32)
      (Ideal.div (-FloatOps.sitofp (F := Ideal) FTy.f32 (BitVec.ofNat 32 (l.val - 16))) (Ideal.ofBits FTy.f32 0x41800000#32))

def angB (s : Fin 2048) (l : Fin 16) : EReal :=
  if _h : l.val < 8 then
    FloatOps.sitofp (F := Ideal) FTy.f32 (BitVec.ofNat 32 (s.val / 64)) * Ideal.pow (Ideal.ofBits FTy.f32 0x461C4000#32)
      (Ideal.div (-FloatOps.sitofp (F := Ideal) FTy.f32 (BitVec.ofNat 32 l.val)) (Ideal.ofBits FTy.f32 0x41000000#32))
  else
    FloatOps.sitofp (F := Ideal) FTy.f32 (BitVec.ofNat 32 (s.val % 64)) * Ideal.pow (Ideal.ofBits FTy.f32 0x461C4000#32)
      (Ideal.div (-FloatOps.sitofp (F := Ideal) FTy.f32 (BitVec.ofNat 32 (l.val - 8))) (Ideal.ofBits FTy.f32 0x41000000#32))

def turnA (t : Fin 128 → EReal) (s : Fin 2048) (l : Fin 128) : EReal :=
  rotAH t (fun l => Ideal.cos (angA s l)) (fun l => Ideal.sin (angA s l)) l

def turnB (t : Fin 128 → EReal) (s : Fin 2048) (l : Fin 128) : EReal :=
  rotBH t (fun l => Ideal.cos (angB s l)) (fun l => Ideal.sin (angB s l)) l

/-- The row's normalised query latent times its weights, and its normalised key-value latent. -/
def lq (p : Fin 2304 → EReal) (g : Fin 384 → EReal) (w : Fin 384 → Fin 1024 → EReal) : Fin 1024 → EReal :=
  lin (rn 0x43C00000#32 (fun d : Fin 384 => p ⟨1536 + d.val, by omega⟩) g) w

def lk (p : Fin 2304 → EReal) (g : Fin 256 → EReal) : Fin 256 → EReal := rn 0x43800000#32 (fun d : Fin 256 => p ⟨1920 + d.val, by omega⟩) g

/-- The six results of a row: from its product with the first weights. -/
def rqa (p : Fin 2304 → EReal) (s : Fin 2048) (L : Fin 1024) : EReal :=
  turnA (fun l => p ⟨L.val / 128 * 128 + l.val, by omega⟩) s ⟨L.val % 128, by omega⟩ * Ideal.ofBits FTy.f32 0x3E38AA3B#32

def rka (p : Fin 2304 → EReal) (s : Fin 2048) (L : Fin 256) : EReal :=
  turnA (fun l => p ⟨1024 + (L.val / 128 * 128 + l.val), by omega⟩) s ⟨L.val % 128, by omega⟩

def rva (p : Fin 2304 → EReal) (L : Fin 256) : EReal := p ⟨1280 + L.val, by omega⟩

def rqb (q : Fin 1024 → EReal) (s : Fin 2048) (L : Fin 1024) : EReal :=
  turnB (fun l => q ⟨L.val / 128 * 128 + l.val, by omega⟩) s ⟨L.val % 128, by omega⟩ * Ideal.ofBits FTy.f32 0x3E16C740#32

def rkb (p : Fin 2304 → EReal) (k : Fin 1024 → EReal) (s : Fin 2048) (L : Fin 1024) : EReal :=
  k L + turnB (fun l => p ⟨2176 + l.val, by omega⟩) s ⟨L.val % 128, by omega⟩

end Cert.Ab

end
-- ==== Proof.AbHead.lean ====
/-
  The steps of one grid point of the kernel of the even layer's latents: the rows times the weights, the latents' norms
  and their products, the heads' rotations, and the heads side by side in a stored block.
-/
module

public import proofs.«01_k».proof.Proof.Gen.ProjectABIdeal.Value
public import proofs.«01_k».proof.Proof.AbSpec
public import Idealize.ShloMosaic.Lib.Pipeline.ValueKit

@[expose] public section

set_option maxRecDepth 16384

noncomputable section

namespace Cert.AbKer

open Cert.ProjectABIdeal Cert.ProjectABIdeal.Gen Cert.Ab Idealize.ShloMosaic Idealize.SL.Sem

section Rows

variable (x : Vec Ideal S512x1024 .f32) (g : Vec Ideal S1x1024 .f32) (sc sh : Vec Ideal S1x1x1024 .f32) (w : Vec Ideal S1024x2304 .bf16)

/-- Row `r` of a block's product. -/
def brow (r : Fin 512) : Fin 2304 → EReal :=
  lin (Proj.hm (fun d => x (ix2 r d)) (fun d => g (ix2 0 d)) (fun d => sc (ix3 0 0 d)) (fun d => sh (ix3 0 0 d))) (fun d e => w (ix2 d e))

theorem prod_at (r : Fin 512) (e : Fin 2304) : k0_pay1 x g sc sh w (ix2 r e) = brow x g sc sh w r e := by
  unfold brow lin Proj.hm
  unfold_payloads
  pointwise [dot_S512x1024_S1024x2304_S512x2304_1_0_0_1_n_n]

theorem qa_at (r : Fin 512) (l : Fin 1024) : k0_pay2 x g sc sh w (ix2 r l) = brow x g sc sh w r ⟨l.val, by omega⟩ := by
  rw [← prod_at]
  unfold k0_pay2
  generalize k0_pay1 x g sc sh w = p
  pointwise

theorem ka_at (r : Fin 512) (l : Fin 256) : k0_pay3 x g sc sh w (ix2 r l) = brow x g sc sh w r ⟨1024 + l.val, by omega⟩ := by
  rw [← prod_at]
  unfold k0_pay3
  generalize k0_pay1 x g sc sh w = p
  pointwise

theorem va_at (r : Fin 512) (l : Fin 256) : k0_pay4 x g sc sh w (ix2 r l) = brow x g sc sh w r ⟨1280 + l.val, by omega⟩ := by
  rw [← prod_at]
  unfold k0_pay4
  generalize k0_pay1 x g sc sh w = p
  pointwise

theorem cq_at (r : Fin 512) (l : Fin 384) : k0_pay5 x g sc sh w (ix2 r l) = brow x g sc sh w r ⟨1536 + l.val, by omega⟩ := by
  rw [← prod_at]
  unfold k0_pay5
  generalize k0_pay1 x g sc sh w = p
  pointwise

theorem kv_at (r : Fin 512) (l : Fin 256) : k0_pay6 x g sc sh w (ix2 r l) = brow x g sc sh w r ⟨1920 + l.val, by omega⟩ := by
  rw [← prod_at]
  unfold k0_pay6
  generalize k0_pay1 x g sc sh w = p
  pointwise

theorem kr_at (r : Fin 512) (l : Fin 128) : k0_pay7 x g sc sh w (ix2 r l) = brow x g sc sh w r ⟨2176 + l.val, by omega⟩ := by
  rw [← prod_at]
  unfold k0_pay7
  generalize k0_pay1 x g sc sh w = p
  pointwise

theorem cq_prod (q : Vec Ideal S1x384 .f32) (u : Vec Ideal S384x1024 .bf16) (r : Fin 512) (e : Fin 1024) :
    k0_pay10 (k0_pay5 x g sc sh w) q (k0_pay8 x g sc sh w) k0_pay9 u (ix2 r e)
      = lq (brow x g sc sh w r) (fun d => q (ix2 0 d)) (fun d e => u (ix2 d e)) e := by
  unfold lq lin rn
  simp only [← cq_at]
  unfold k0_pay10 k0_pay8 k0_pay9
  generalize k0_pay5 x g sc sh w = p
  pointwise [dot_S512x384_S384x1024_S512x1024_1_0_0_1_n_n]

theorem kv_prod (q : Vec Ideal S1x256 .f32) (u : Vec Ideal S256x1024 .bf16) (r : Fin 512) (e : Fin 1024) :
    k0_pay12 (k0_pay6 x g sc sh w) q u (ix2 r e)
      = lin (lk (brow x g sc sh w r) (fun d => q (ix2 0 d))) (fun d e => u (ix2 d e)) e := by
  unfold lk lin rn
  simp only [← kv_at]
  unfold k0_pay12 k0_pay11
  generalize k0_pay6 x g sc sh w = p
  pointwise [dot_S512x256_S256x1024_S512x1024_1_0_0_1_n_n]

theorem kv_same (k : FVec Ideal S512x256 .f32) (q : Vec Ideal S1x256 .f32) (u : Vec Ideal S256x1024 .bf16) : k0_pay13 k q u = k0_pay12 k q u := rfl

end Rows

theorem selA (l : Fin 128) (a b : EReal) :
    Scalar.select (IntOp.andi (IntOp.cmpi CmpIPredicate.sge (BitVec.ofNat 32 l.val) 0#32) (IntOp.cmpi CmpIPredicate.slt (BitVec.ofNat 32 l.val) 32#32)) a b
      = if l.val < 32 then a else b := by
  have e : ∀ l : Fin 128, IntOp.andi (IntOp.cmpi CmpIPredicate.sge (BitVec.ofNat 32 l.val) 0#32) (IntOp.cmpi CmpIPredicate.slt (BitVec.ofNat 32 l.val) 32#32)
      = if l.val < 32 then 1#1 else 0#1 := by decide +kernel
  rw [e l]
  split_ifs <;> rfl

theorem selB (l : Fin 128) (a b : EReal) :
    Scalar.select (IntOp.andi (IntOp.cmpi CmpIPredicate.sge (BitVec.ofNat 32 l.val) 64#32) (IntOp.cmpi CmpIPredicate.slt (BitVec.ofNat 32 l.val) 80#32)) a b
      = if 64 ≤ l.val ∧ l.val < 80 then a else b := by
  have e : ∀ l : Fin 128, IntOp.andi (IntOp.cmpi CmpIPredicate.sge (BitVec.ofNat 32 l.val) 64#32) (IntOp.cmpi CmpIPredicate.slt (BitVec.ofNat 32 l.val) 80#32)
      = if 64 ≤ l.val ∧ l.val < 80 then 1#1 else 0#1 := by decide +kernel
  rw [e l]
  split_ifs <;> rfl

theorem rotA_at (t c s : FVec Ideal S512x128 .f32) (r : Fin 512) (l : Fin 128) :
    k0_pay31 c s t (ix2 r l) = rotAW (fun l => t (ix2 r l)) (fun l => c (ix2 r l)) (fun l => s (ix2 r l)) l := by
  unfold rotAW
  unfold_payloads
  pointwise
  rw [selA]
  have e : (⟨(l.val + 128 - 96) % 128, by omega⟩ : Fin 128) = ⟨(l.val + 32) % 128, by omega⟩ := Fin.ext (show (l.val + 128 - 96) % 128 = (l.val + 32) % 128 by omega)
  have e' : (⟨(l.val + 128 - 32) % 128, by omega⟩ : Fin 128) = ⟨(l.val + 96) % 128, by omega⟩ := Fin.ext (show (l.val + 128 - 32) % 128 = (l.val + 96) % 128 by omega)
  rw [e, e']

/-- The other rotation, unscaled. -/
def rotB (c s t : FVec Ideal S512x128 .f32) : FVec Ideal S512x128 .f32 :=
  addf (mulf t c) (mulf (select (andi k0_pay53 (cmpi .slt (iota .tc S512x128 32 [1] iota_S512x128_d1_w32) k0_pay54)) (dynamicRotate 1 112#32 none t rotates_S512x128_d1)
    (dynamicRotate 1 16#32 none t rotates_S512x128_d1)) s)

theorem rotB_at (t c s : FVec Ideal S512x128 .f32) (r : Fin 512) (l : Fin 128) :
    rotB c s t (ix2 r l) = rotBW (fun l => t (ix2 r l)) (fun l => c (ix2 r l)) (fun l => s (ix2 r l)) l := by
  unfold rotBW rotB
  unfold_payloads
  pointwise
  rw [selB]
  have e : (⟨(l.val + 128 - 112) % 128, by omega⟩ : Fin 128) = ⟨(l.val + 16) % 128, by omega⟩ := Fin.ext (show (l.val + 128 - 112) % 128 = (l.val + 16) % 128 by omega)
  have e' : (⟨(l.val + 128 - 16) % 128, by omega⟩ : Fin 128) = ⟨(l.val + 112) % 128, by omega⟩ := Fin.ext (show (l.val + 128 - 16) % 128 = (l.val + 112) % 128 by omega)
  rw [e, e']

theorem tab14 (c : Vec Ideal S512x128 .f32) (r : Fin 512) (l : Fin 128) : k0_pay14 c (ix2 r l) = c (ix2 r l) := by
  unfold k0_pay14
  pointwise

theorem tab15 (c : Vec Ideal S512x128 .f32) : k0_pay15 c = k0_pay14 c := rfl
theorem tab16 (c : Vec Ideal S512x128 .f32) : k0_pay16 c = k0_pay14 c := rfl
theorem tab17 (c : Vec Ideal S512x128 .f32) : k0_pay17 c = k0_pay14 c := rfl

theorem scale_at (t : FVec Ideal S512x128 .f32) (b : BitVec 32) (r : Fin 512) (l : Fin 128) :
    k0_pay32 t (Scalar.ofBits .f32 b) (ix2 r l) = t (ix2 r l) * Ideal.ofBits FTy.f32 b := by
  unfold k0_pay32
  pointwise

/-- The lanes of eight heads, and of two. -/
def cut (v : FVec Ideal S512x1024 .f32) : Fin 8 → FVec Ideal S512x128 .f32 :=
  ![extractStridedSlice S512x128 ![0, 0] v slices_S512x1024_o0_0_S512x128, extractStridedSlice S512x128 ![0, 128] v slices_S512x1024_o0_128_S512x128,
    k0_pay18 v, k0_pay19 v, k0_pay20 v, k0_pay21 v, k0_pay22 v, k0_pay23 v]

theorem cut_at (v : FVec Ideal S512x1024 .f32) (j : Fin 8) (r : Fin 512) (l : Fin 128) :
    cut v j (ix2 r l) = v (ix2 r ⟨j.val * 128 + l.val, by omega⟩) := by
  unfold cut k0_pay18 k0_pay19 k0_pay20 k0_pay21 k0_pay22 k0_pay23
  fin_cases j
  all_goals
    simp only [Fin.zero_eta, Fin.mk_one, Matrix.cons_val]
    pointwise

def cut2 (v : FVec Ideal S512x256 .f32) : Fin 2 → FVec Ideal S512x128 .f32 :=
  ![extractStridedSlice S512x128 ![0, 0] v slices_S512x256_o0_0_S512x128, k0_pay35 v]

theorem cut2_at (v : FVec Ideal S512x256 .f32) (j : Fin 2) (r : Fin 512) (l : Fin 128) :
    cut2 v j (ix2 r l) = v (ix2 r ⟨j.val * 128 + l.val, by omega⟩) := by
  unfold cut2 k0_pay35
  fin_cases j
  all_goals
    simp only [Fin.zero_eta, Fin.mk_one, Matrix.cons_val]
    pointwise

/-- The rotated and scaled heads of the two kinds of queries, and the rotated key heads. -/
def headA (v : FVec Ideal S512x1024 .f32) (c s : FVec Ideal S512x128 .f32) (j : Fin 8) : FVec Ideal S512x128 .f32 :=
  k0_pay32 (k0_pay31 c s (cut v j)) (Scalar.ofBits .f32 0x3E38AA3B#32)

def headB (v : FVec Ideal S512x1024 .f32) (c s : FVec Ideal S512x128 .f32) (j : Fin 8) : FVec Ideal S512x128 .f32 :=
  k0_pay32 (rotB c s (cut v j)) (Scalar.ofBits .f32 0x3E16C740#32)

def headK (v : FVec Ideal S512x256 .f32) (c s : FVec Ideal S512x128 .f32) (j : Fin 2) : FVec Ideal S512x128 .f32 := k0_pay31 c s (cut2 v j)

section Same

variable (v : FVec Ideal S512x1024 .f32) (k : FVec Ideal S512x256 .f32) (c s : FVec Ideal S512x128 .f32)

theorem a0 : k0_pay24 v c s = headA v c s 0 := rfl
theorem a1 : k0_pay25 v c s = headA v c s 1 := rfl
theorem a2 : k0_pay28 s (k0_pay26 v) (k0_pay27 v c) = headA v c s 2 := rfl
theorem a3 : k0_pay29 c s (k0_pay19 v) = headA v c s 3 := rfl
theorem a4 : k0_pay30 c s (k0_pay20 v) = headA v c s 4 := rfl
theorem a5 : k0_pay32 (k0_pay31 c s (k0_pay21 v)) (Scalar.ofBits .f32 0x3E38AA3B#32) = headA v c s 5 := rfl
theorem a6 : k0_pay33 c s (k0_pay22 v) = headA v c s 6 := rfl
theorem a7 : k0_pay34 c s (k0_pay23 v) = headA v c s 7 := rfl
theorem b0 : k0_pay44 v c s = headB v c s 0 := rfl
theorem b1 : k0_pay45 v c s = headB v c s 1 := rfl
theorem b2 : k0_pay46 c s (k0_pay38 v) = headB v c s 2 := rfl
theorem b3 : k0_pay47 c s (k0_pay39 v) = headB v c s 3 := rfl
theorem b4 : k0_pay48 c s (k0_pay40 v) = headB v c s 4 := rfl
theorem b5 : k0_pay50 c s (k0_pay41 v) (iota .tc S512x128 32 [1] iota_S512x128_d1_w32) k0_pay49 = headB v c s 5 := rfl
theorem b6 : k0_pay51 c s (k0_pay42 v) = headB v c s 6 := rfl
theorem b7 : k0_pay52 c s (k0_pay43 v) = headB v c s 7 := rfl
theorem k0 : k0_pay36 k c s = headK k c s 0 := rfl
theorem k1 : k0_pay37 c s (k0_pay35 k) (iota .tc S512x128 32 [1] iota_S512x128_d1_w32) 0#32 = headK k c s 1 := rfl

end Same

theorem same {n : ℕ} (a : Fin n → FVec Ideal S512x128 .f32) (r : Fin 512) {j j' : Fin n} {k k' : Fin 128}
    (hj : j.val = j'.val) (hk : k.val = k'.val) : a j (ix2 r k) = a j' (ix2 r k') := by
  rw [Fin.ext hj, Fin.ext hk]

theorem heads8_at (a : Fin 8 → FVec Ideal S512x128 .f32) (r : Fin 512) (l : Fin 1024) :
    k0_pay55 (a 0) (a 1) (a 2) (a 3) (a 4) (a 5) (a 6) (a 7) (ix2 r l) = a ⟨l.val / 128, by omega⟩ (ix2 r ⟨l.val % 128, by omega⟩) := by
  unfold k0_pay55
  pointwise
  split_ifs <;> refine same a r ?_ ?_ <;> simp <;> omega

theorem heads8_same (a b c d e f g h : FVec Ideal S512x128 .f32) : k0_pay58 a b c d e f g h = k0_pay55 a b c d e f g h := rfl

theorem heads2_at (a : Fin 2 → FVec Ideal S512x128 .f32) (r : Fin 512) (l : Fin 256) :
    k0_pay56 (a 0) (a 1) (ix2 r l) = a ⟨l.val / 128, by omega⟩ (ix2 r ⟨l.val % 128, by omega⟩) := by
  unfold k0_pay56
  pointwise
  split_ifs <;> refine same a r ?_ ?_ <;> simp <;> omega

/-- A key head with the rotated part added. -/
def headS (v : FVec Ideal S512x1024 .f32) (z : FVec Ideal S512x128 .f32) (j : Fin 8) : FVec Ideal S512x128 .f32 := addf (cut v j) z

theorem headS_at (v : FVec Ideal S512x1024 .f32) (z : FVec Ideal S512x128 .f32) (j : Fin 8) (r : Fin 512) (l : Fin 128) :
    headS v z j (ix2 r l) = v (ix2 r ⟨j.val * 128 + l.val, by omega⟩) + z (ix2 r l) := by
  exact congrArg (· + z (ix2 r l)) (cut_at v j r l)

theorem heads_sum (t : FVec Ideal S512x128 .f32) (v : FVec Ideal S512x1024 .f32) (c s : FVec Ideal S512x128 .f32) :
    k0_pay59 t v c s (iota .tc S512x128 32 [1] iota_S512x128_d1_w32) k0_pay53 k0_pay54
      = k0_pay55 (headS v (rotB c s t) 0) (headS v (rotB c s t) 1) (headS v (rotB c s t) 2) (headS v (rotB c s t) 3)
        (headS v (rotB c s t) 4) (headS v (rotB c s t) 5) (headS v (rotB c s t) 6) (headS v (rotB c s t) 7) := rfl

theorem cast57 (v : FVec Ideal S512x256 .f32) (r : Fin 512) (l : Fin 256) : k0_pay57 v (ix2 r l) = v (ix2 r l) := by
  unfold k0_pay57
  pointwise

theorem cast60 (v : FVec Ideal S512x1024 .f32) (r : Fin 512) (l : Fin 1024) : k0_pay60 v (ix2 r l) = v (ix2 r l) := by
  unfold k0_pay60
  pointwise

end Cert.AbKer

end
-- ==== Proof.AbTab.lean ====
/-
  The four rotation tables the program computes before the launch, at one index.
-/
module

public import proofs.«01_k».proof.Proof.Gen.ProjectABIdeal.Value
public import proofs.«01_k».proof.Proof.AbSpec
public import Idealize.ShloMosaic.Lib.Pipeline.ValueKit

@[expose] public section

set_option maxRecDepth 16384

noncomputable section

namespace Cert.AbKer

open Cert.ProjectABIdeal Cert.ProjectABIdeal.Gen Cert.Ab Idealize.ShloMosaic Idealize.SL.Sem

/-- The inverse frequencies, the angles, and the two tables, from the positions' rows and columns: for 32 lanes. -/
def freqsA : FVec Ideal S16 .f32 :=
  Host.powf (broadcastInDim S16 ![] bcast_S_S16 (constant S_ .f32 0x461C4000#32))
    (Host.divf (Host.negf (sitofp .f32 (iotaInDim S16 32 0))) (broadcastInDim S16 ![] bcast_S_S16 (constant S_ .f32 0x41800000#32)))

def timesA (p : FVec Ideal S2048 .f32) : FVec Ideal S2048x16 .f32 :=
  mulf (broadcastInDim S2048x16 ![0, 1] bcast_S2048x1_S2048x16_0_1 (broadcastInDim S2048x1 ![0] bcast_S2048_S2048x1_0 p))
    (broadcastInDim S2048x16 ![0, 1] bcast_S1x16_S2048x16_0_1 (broadcastInDim S1x16 ![1] bcast_S16_S1x16_1 freqsA))

def angsA (p q : FVec Ideal S2048 .f32) : FVec Ideal S2048x32 .f32 :=
  concatenate S2048x32 1 [⟨S2048x16, timesA p⟩, ⟨S2048x16, timesA q⟩] concatenates_S2048x16_S2048x16_S2048x32_d1

def cosTabA (a : FVec Ideal S2048x32 .f32) : FVec Ideal S2048x128 .f32 :=
  concatenate S2048x128 1 [⟨S2048x0, broadcastInDim S2048x0 ![] bcast_S_S2048x0 (constant S_ .f32 0x3F800000#32)⟩, ⟨S2048x32, Host.cos a⟩,
    ⟨S2048x32, Host.cos a⟩, ⟨S2048x64, broadcastInDim S2048x64 ![] bcast_S_S2048x64 (constant S_ .f32 0x3F800000#32)⟩]
    concatenates_S2048x0_S2048x32_S2048x32_S2048x64_S2048x128_d1

def sinTabA (a : FVec Ideal S2048x32 .f32) : FVec Ideal S2048x128 .f32 :=
  concatenate S2048x128 1 [⟨S2048x0, broadcastInDim S2048x0 ![] bcast_S_S2048x0 (constant S_ .f32 0x00000000#32)⟩, ⟨S2048x32, Host.negf (Host.sin a)⟩,
    ⟨S2048x32, Host.sin a⟩, ⟨S2048x64, broadcastInDim S2048x64 ![] bcast_S_S2048x64 (constant S_ .f32 0x00000000#32)⟩]
    concatenates_S2048x0_S2048x32_S2048x32_S2048x64_S2048x128_d1

/-- The same for 16 lanes, after 64 that pass. -/
def freqsB : FVec Ideal S8 .f32 :=
  Host.powf (broadcastInDim S8 ![] bcast_S_S8 (constant S_ .f32 0x461C4000#32))
    (Host.divf (Host.negf (sitofp .f32 (iotaInDim S8 32 0))) (broadcastInDim S8 ![] bcast_S_S8 (constant S_ .f32 0x41000000#32)))

def timesB (p : FVec Ideal S2048 .f32) : FVec Ideal S2048x8 .f32 :=
  mulf (broadcastInDim S2048x8 ![0, 1] bcast_S2048x1_S2048x8_0_1 (broadcastInDim S2048x1 ![0] bcast_S2048_S2048x1_0 p))
    (broadcastInDim S2048x8 ![0, 1] bcast_S1x8_S2048x8_0_1 (broadcastInDim S1x8 ![1] bcast_S8_S1x8_1 freqsB))

def angsB (p q : FVec Ideal S2048 .f32) : FVec Ideal S2048x16 .f32 :=
  concatenate S2048x16 1 [⟨S2048x8, timesB p⟩, ⟨S2048x8, timesB q⟩] concatenates_S2048x8_S2048x8_S2048x16_d1

def cosTabB (a : FVec Ideal S2048x16 .f32) : FVec Ideal S2048x128 .f32 :=
  concatenate S2048x128 1 [⟨S2048x64, broadcastInDim S2048x64 ![] bcast_S_S2048x64 (constant S_ .f32 0x3F800000#32)⟩, ⟨S2048x16, Host.cos a⟩,
    ⟨S2048x16, Host.cos a⟩, ⟨S2048x32, broadcastInDim S2048x32 ![] bcast_S_S2048x32 (constant S_ .f32 0x3F800000#32)⟩]
    concatenates_S2048x64_S2048x16_S2048x16_S2048x32_S2048x128_d1

def sinTabB (a : FVec Ideal S2048x16 .f32) : FVec Ideal S2048x128 .f32 :=
  concatenate S2048x128 1 [⟨S2048x64, broadcastInDim S2048x64 ![] bcast_S_S2048x64 (constant S_ .f32 0x00000000#32)⟩, ⟨S2048x16, Host.negf (Host.sin a)⟩,
    ⟨S2048x16, Host.sin a⟩, ⟨S2048x32, broadcastInDim S2048x32 ![] bcast_S_S2048x32 (constant S_ .f32 0x00000000#32)⟩]
    concatenates_S2048x64_S2048x16_S2048x16_S2048x32_S2048x128_d1

section Reads

variable (W : (b : DevRef τ sig) → b.ty.Contents (Elt Ideal))

theorem cosA_read : StableHlo.after hostOps0_4 W (Proc.devRef .tc main_v26)
    = cosTabA (angsA (W (Proc.devRef .tc main_v2)) (sitofp .f32 (show IVec S2048 32 from W (Proc.devRef .tc main_v3)))) := by
  after_results_simp
  rfl

theorem sinA_read : StableHlo.after hostOps0_4 W (Proc.devRef .tc main_v30)
    = sinTabA (angsA (W (Proc.devRef .tc main_v2)) (sitofp .f32 (show IVec S2048 32 from W (Proc.devRef .tc main_v3)))) := by
  after_results_simp
  rfl

theorem cosB_read : StableHlo.after hostOps0_8 W (Proc.devRef .tc main_v57)
    = cosTabB (angsB (W (Proc.devRef .tc main_v33)) (sitofp .f32 (show IVec S2048 32 from W (Proc.devRef .tc main_v34)))) := by
  after_results_simp
  rfl

theorem sinB_read : StableHlo.after hostOps0_8 W (Proc.devRef .tc main_v61)
    = sinTabB (angsB (W (Proc.devRef .tc main_v33)) (sitofp .f32 (show IVec S2048 32 from W (Proc.devRef .tc main_v34)))) := by
  after_results_simp
  rfl

/-- The first two tables stay as they are. -/
theorem cosA_stays : StableHlo.after (List.flatten [hostOps0_5, hostOps0_6, hostOps0_7, hostOps0_8]) W (Proc.devRef .tc main_v26) = W (Proc.devRef .tc main_v26) := by
  simp only [hostOps0_5, hostOps0_6, hostOps0_7, hostOps0_8, List.flatten_cons, List.flatten_nil, List.append_nil, List.cons_append, List.nil_append]
  after_results_simp

theorem sinA_stays : StableHlo.after (List.flatten [hostOps0_5, hostOps0_6, hostOps0_7, hostOps0_8]) W (Proc.devRef .tc main_v30) = W (Proc.devRef .tc main_v30) := by
  simp only [hostOps0_5, hostOps0_6, hostOps0_7, hostOps0_8, List.flatten_cons, List.flatten_nil, List.append_nil, List.cons_append, List.nil_append]
  after_results_simp

end Reads

theorem cosTabA_at (a : FVec Ideal S2048x32 .f32) (s : Fin 2048) (l : Fin 128) : cosTabA a (ix2 s l) = cosA (fun l => Ideal.cos (a (ix2 s l))) l := by
  unfold cosTabA cosA
  pointwise
  rw [dif_neg (Nat.not_lt_zero _)]
  by_cases h : l.val < 32
  · rw [dif_pos h, dif_pos h]
  · rw [dif_neg h, dif_neg h]
    by_cases h' : l.val < 64
    · rw [dif_pos h', dif_pos (by omega)]
    · rw [dif_neg h', dif_neg (by omega)]

theorem sinTabA_at (a : FVec Ideal S2048x32 .f32) (s : Fin 2048) (l : Fin 128) : sinTabA a (ix2 s l) = sinA (fun l => Ideal.sin (a (ix2 s l))) l := by
  unfold sinTabA sinA
  pointwise
  rw [dif_neg (Nat.not_lt_zero _)]
  by_cases h : l.val < 32
  · rw [dif_pos h, dif_pos h]
  · rw [dif_neg h, dif_neg h]
    by_cases h' : l.val < 64
    · rw [dif_pos h', dif_pos (by omega)]
    · rw [dif_neg h', dif_neg (by omega)]

theorem cosTabB_at (a : FVec Ideal S2048x16 .f32) (s : Fin 2048) (l : Fin 128) : cosTabB a (ix2 s l) = cosB (fun l => Ideal.cos (a (ix2 s l))) l := by
  unfold cosTabB cosB
  pointwise
  by_cases h0 : l.val < 64
  · rw [dif_pos h0, dif_pos h0]
  · rw [dif_neg h0, dif_neg h0]
    by_cases h : l.val < 80
    · rw [dif_pos h, dif_pos (by omega)]
    · rw [dif_neg h, dif_neg (by omega)]
      by_cases h' : l.val < 96
      · rw [dif_pos h', dif_pos (by omega)]
        exact congrArg (fun k => Ideal.cos (a (ix2 s k))) (Fin.ext (show l.val - 64 - 16 = l.val - 80 by omega))
      · rw [dif_neg h', dif_neg (by omega)]

theorem sinTabB_at (a : FVec Ideal S2048x16 .f32) (s : Fin 2048) (l : Fin 128) : sinTabB a (ix2 s l) = sinB (fun l => Ideal.sin (a (ix2 s l))) l := by
  unfold sinTabB sinB
  pointwise
  by_cases h0 : l.val < 64
  · rw [dif_pos h0, dif_pos h0]
  · rw [dif_neg h0, dif_neg h0]
    by_cases h : l.val < 80
    · rw [dif_pos h, dif_pos (by omega)]
    · rw [dif_neg h, dif_neg (by omega)]
      by_cases h' : l.val < 96
      · rw [dif_pos h', dif_pos (by omega)]
        exact congrArg (fun k => Ideal.sin (a (ix2 s k))) (Fin.ext (show l.val - 64 - 16 = l.val - 80 by omega))
      · rw [dif_neg h', dif_neg (by omega)]

/-- The rows and the columns of the positions: the quotient and the remainder by 64, rounded down. -/
def bc (n : BitVec 32) : IVec S2048 32 := broadcastInDim S2048 ![] bcast_S_S2048 (constantI S_ 32 n)

def rows : IVec S2048 32 :=
  select (andi (cmpi .ne (signi (iotaInDim S2048 32 0)) (broadcastInDim S2048 ![] bcast_S_S2048 (signi (constantI S_ 32 64#32))))
      (cmpi .ne (Host.remsi (iotaInDim S2048 32 0) (bc 64#32)) (bc 0#32)))
    (subi (Host.divsi (iotaInDim S2048 32 0) (bc 64#32)) (bc 1#32)) (Host.divsi (iotaInDim S2048 32 0) (bc 64#32))

def den : IVec S_ 32 := select (cmpi .eq (constantI S_ 32 64#32) (constantI S_ 32 0#32)) (constantI S_ 32 1#32) (constantI S_ 32 64#32)

def rem : IVec S2048 32 := Host.remsi (iotaInDim S2048 32 0) (broadcastInDim S2048 ![] bcast_S_S2048 den)

def cols : IVec S2048 32 :=
  select (andi (cmpi .ne (cmpi .slt rem (bc 0#32)) (broadcastInDim S2048 ![] bcast_S_S2048 (cmpi .slt den (constantI S_ 32 0#32))))
      (cmpi .ne rem (bc 0#32)))
    (addi rem (broadcastInDim S2048 ![] bcast_S_S2048 den)) rem

theorem rows_at (s : Fin 2048) : rows (ix1 s) = BitVec.ofNat 32 (s.val / 64) := by
  unfold rows bc
  pointwise
  revert s
  decide +kernel

theorem cols_at (s : Fin 2048) : cols (ix1 s) = BitVec.ofNat 32 (s.val % 64) := by
  unfold cols rem den bc
  pointwise
  revert s
  decide +kernel

variable (m : (ℓ : Loc nD τ sig) → Buf (Elt Ideal) ℓ) (c : Dev nD)

/-- What the buffers hold before the first two tables' own operations, and before the other two's. -/
def beforeA : (b : DevRef τ sig) → b.ty.Contents (Elt Ideal) :=
  StableHlo.after (List.flatten [hostOps0, hostOps0_1, hostOps0_2, hostOps0_3]) (fun b => m (c, b))

def beforeB : (b : DevRef τ sig) → b.ty.Contents (Elt Ideal) :=
  StableHlo.after (List.flatten [hostOps0_4, hostOps0_5, hostOps0_6, hostOps0_7]) (beforeA m c)

theorem splitA (b : Ref sig .tc) : V m c b
    = StableHlo.after (List.flatten [hostOps0_5, hostOps0_6, hostOps0_7, hostOps0_8]) (StableHlo.after hostOps0_4 (beforeA m c)) (Proc.devRef .tc b) := rfl

theorem splitB (b : Ref sig .tc) : V m c b = StableHlo.after hostOps0_8 (beforeB m c) (Proc.devRef .tc b) := rfl

theorem rowsA_read : beforeA m c (Proc.devRef .tc main_v2) = (sitofp .f32 rows : FVec Ideal S2048 .f32) := by
  unfold beforeA
  simp only [hostOps0, hostOps0_1, hostOps0_2, hostOps0_3, List.flatten_cons, List.flatten_nil, List.append_nil, List.cons_append, List.nil_append]
  after_results_simp
  rfl

theorem colsA_read : beforeA m c (Proc.devRef .tc main_v3) = cols := by
  unfold beforeA
  simp only [hostOps0, hostOps0_1, hostOps0_2, hostOps0_3, List.flatten_cons, List.flatten_nil, List.append_nil, List.cons_append, List.nil_append]
  after_results_simp
  rfl

theorem rowsB_read : beforeB m c (Proc.devRef .tc main_v33) = (sitofp .f32 rows : FVec Ideal S2048 .f32) := by
  unfold beforeB
  generalize beforeA m c = W
  simp only [hostOps0_4, hostOps0_5, hostOps0_6, hostOps0_7, List.flatten_cons, List.flatten_nil, List.append_nil, List.cons_append, List.nil_append]
  after_results_simp
  rfl

theorem colsB_read : beforeB m c (Proc.devRef .tc main_v34) = cols := by
  unfold beforeB
  generalize beforeA m c = W
  simp only [hostOps0_4, hostOps0_5, hostOps0_6, hostOps0_7, List.flatten_cons, List.flatten_nil, List.append_nil, List.cons_append, List.nil_append]
  after_results_simp
  rfl

theorem angsA_at (s : Fin 2048) (l : Fin 32) : angsA (sitofp .f32 rows) (sitofp .f32 cols) (ix2 s l) = angA s l := by
  unfold angsA timesA freqsA angA
  pointwise
  rw [rows_at, cols_at]

theorem angsB_at (s : Fin 2048) (l : Fin 16) : angsB (sitofp .f32 rows) (sitofp .f32 cols) (ix2 s l) = angB s l := by
  unfold angsB timesB freqsB angB
  pointwise
  rw [rows_at, cols_at]

/-- The four tables at a row and a lane. -/
theorem cosA_at (s : Fin 2048) (l : Fin 128) :
    (V m c main_v26 : FVec Ideal S2048x128 .f32) (ix2 s l) = cosA (fun l => Ideal.cos (angA s l)) l := by
  simp only [← angsA_at]
  rw [← cosTabA_at, splitA, cosA_stays, cosA_read, rowsA_read, colsA_read]

theorem sinA_at (s : Fin 2048) (l : Fin 128) :
    (V m c main_v30 : FVec Ideal S2048x128 .f32) (ix2 s l) = sinA (fun l => Ideal.sin (angA s l)) l := by
  simp only [← angsA_at]
  rw [← sinTabA_at, splitA, sinA_stays, sinA_read, rowsA_read, colsA_read]

theorem cosB_at (s : Fin 2048) (l : Fin 128) :
    (V m c main_v57 : FVec Ideal S2048x128 .f32) (ix2 s l) = cosB (fun l => Ideal.cos (angB s l)) l := by
  simp only [← angsB_at]
  rw [← cosTabB_at, splitB, cosB_read, rowsB_read, colsB_read]

theorem sinB_at (s : Fin 2048) (l : Fin 128) :
    (V m c main_v61 : FVec Ideal S2048x128 .f32) (ix2 s l) = sinB (fun l => Ideal.sin (angB s l)) l := by
  simp only [← angsB_at]
  rw [← sinTabB_at, splitB, sinB_read, rowsB_read, colsB_read]

end Cert.AbKer

end
-- ==== Proof.AbKer.lean ====
/-
  What one grid point of the kernel of the even layer's latents writes.
-/
module

public import proofs.«01_k».proof.Proof.AbHead
public import proofs.«01_k».proof.Proof.AbTab

@[expose] public section

set_option maxRecDepth 16384

noncomputable section

namespace Cert.AbKer

open Cert.ProjectABIdeal Cert.ProjectABIdeal.Gen Cert.Ab Idealize.ShloMosaic Idealize.ShloMosaic.Pipeline Idealize.SL.Sem

variable (x0 : Vec Ideal S512x1024 .f32) (x1 : Vec Ideal S1x1024 .f32) (x2 x3 : Vec Ideal S1x1x1024 .f32) (x4 : Vec Ideal S1024x2304 .bf16)
  (x5 : Vec Ideal S1x384 .f32) (x6 : Vec Ideal S384x1024 .bf16) (x7 : Vec Ideal S1x256 .f32) (x8 x9 : Vec Ideal S256x1024 .bf16)
  (x10 x11 x12 x13 : Vec Ideal S512x128 .f32)

theorem z2 : (![0, 0] : Fin 2 → ℕ) = fun _ => 0 := by decide
theorem z3 : (![0, 0, 0] : Fin 3 → ℕ) = fun _ => 0 := by decide
theorem l0 (X : Vec Ideal S512x1024 .f32) : View.ld X r0_0 = X := View.ld_unit_zero z2 _ X
theorem l1 (X : Vec Ideal S1x1024 .f32) : View.ld X r0_1 = X := View.ld_unit_zero z2 _ X
theorem l2 (X : Vec Ideal S1x1x1024 .f32) : View.ld X r0_2 = X := View.ld_unit_zero z3 _ X
theorem l3 (X : Vec Ideal S1024x2304 .bf16) : View.ld X r0_3 = X := View.ld_unit_zero z2 _ X
theorem l4 (X : Vec Ideal S1x384 .f32) : View.ld X r0_4 = X := View.ld_unit_zero z2 _ X
theorem l5 (X : Vec Ideal S384x1024 .bf16) : View.ld X r0_5 = X := View.ld_unit_zero z2 _ X
theorem l6 (X : Vec Ideal S1x256 .f32) : View.ld X r0_6 = X := View.ld_unit_zero z2 _ X
theorem l7 (X : Vec Ideal S256x1024 .bf16) : View.ld X r0_7 = X := View.ld_unit_zero z2 _ X
theorem l8 (X : Vec Ideal S512x128 .f32) : View.ld X r0_8 = X := View.ld_unit_zero z2 _ X

theorem headA_at (c s : Vec Ideal S512x128 .f32) (j : Fin 8) (R : Fin 512) (l : Fin 128) :
    headA (k0_pay2 x0 x1 x2 x3 x4) (k0_pay14 c) (k0_pay14 s) j (ix2 R l)
      = rotAW (fun l => brow x0 x1 x2 x3 x4 R ⟨j.val * 128 + l.val, by omega⟩) (fun l => c (ix2 R l)) (fun l => s (ix2 R l)) l * Ideal.ofBits FTy.f32 0x3E38AA3B#32 := by
  unfold headA
  rw [scale_at, rotA_at]
  simp only [cut_at, qa_at, tab14]

theorem headK_at (c s : Vec Ideal S512x128 .f32) (j : Fin 2) (R : Fin 512) (l : Fin 128) :
    headK (k0_pay3 x0 x1 x2 x3 x4) (k0_pay14 c) (k0_pay14 s) j (ix2 R l)
      = rotAW (fun l => brow x0 x1 x2 x3 x4 R ⟨1024 + (j.val * 128 + l.val), by omega⟩) (fun l => c (ix2 R l)) (fun l => s (ix2 R l)) l := by
  unfold headK
  rw [rotA_at]
  simp only [cut2_at, ka_at, tab14]

theorem headB_at (c s : Vec Ideal S512x128 .f32) (j : Fin 8) (R : Fin 512) (l : Fin 128) :
    headB (k0_pay10 (k0_pay5 x0 x1 x2 x3 x4) x5 (k0_pay8 x0 x1 x2 x3 x4) k0_pay9 x6) (k0_pay14 c) (k0_pay14 s) j (ix2 R l)
      = rotBW (fun l => lq (brow x0 x1 x2 x3 x4 R) (fun d => x5 (ix2 0 d)) (fun d e => x6 (ix2 d e)) ⟨j.val * 128 + l.val, by omega⟩)
        (fun l => c (ix2 R l)) (fun l => s (ix2 R l)) l * Ideal.ofBits FTy.f32 0x3E16C740#32 := by
  unfold headB
  rw [scale_at, rotB_at]
  simp only [cut_at, cq_prod, tab14]

theorem turnKr_at (c s : Vec Ideal S512x128 .f32) (R : Fin 512) (l : Fin 128) :
    rotB (k0_pay14 c) (k0_pay14 s) (k0_pay7 x0 x1 x2 x3 x4) (ix2 R l)
      = rotBW (fun l => brow x0 x1 x2 x3 x4 R ⟨2176 + l.val, by omega⟩) (fun l => c (ix2 R l)) (fun l => s (ix2 R l)) l := by
  rw [rotB_at]
  simp only [kr_at, tab14]

theorem outqa_at (R : Fin 512) (L : Fin 1024) : out0_14 x0 x1 x2 x3 x4 x5 x6 x7 x8 x9 x10 x11 x12 x13 (ix2 R L)
    = rotAW (fun l => brow x0 x1 x2 x3 x4 R ⟨L.val / 128 * 128 + l.val, by omega⟩) (fun l => x10 (ix2 R l)) (fun l => x11 (ix2 R l)) ⟨L.val % 128, by omega⟩
      * Ideal.ofBits FTy.f32 0x3E38AA3B#32 := by
  canon_tiles x h
  obtain ⟨r, l, rfl⟩ : ∃ r l, x = ix2 r l := ⟨x 0, x 1, by funext a; fin_cases a <;> rfl⟩
  change R.val = r.val at h0
  change L.val = l.val at h1
  obtain rfl := Fin.ext h0
  obtain rfl := Fin.ext h1
  unfold k0_pay61 k0_pay65 k0_pay66
  rw [l0, l1, l2, l2, l3, l8, l8, tab15, a0, a1, a2, a3, a4, a5, a6, a7]
  refine (heads8_at (headA (k0_pay2 x0 x1 x2 x3 x4) (k0_pay14 x10) (k0_pay14 x11)) R L).trans ?_
  exact headA_at x0 x1 x2 x3 x4 x10 x11 _ R _

theorem outka_at (R : Fin 512) (L : Fin 256) : out0_15 x0 x1 x2 x3 x4 x5 x6 x7 x8 x9 x10 x11 x12 x13 (ix2 R L)
    = rotAW (fun l => brow x0 x1 x2 x3 x4 R ⟨1024 + (L.val / 128 * 128 + l.val), by omega⟩) (fun l => x10 (ix2 R l)) (fun l => x11 (ix2 R l)) ⟨L.val % 128, by omega⟩ := by
  canon_tiles x h
  obtain ⟨r, l, rfl⟩ : ∃ r l, x = ix2 r l := ⟨x 0, x 1, by funext a; fin_cases a <;> rfl⟩
  change R.val = r.val at h0
  change L.val = l.val at h1
  obtain rfl := Fin.ext h0
  obtain rfl := Fin.ext h1
  unfold k0_pay62 k0_pay65 k0_pay66
  rw [l0, l1, l2, l2, l3, l8, l8, tab15, k0, k1]
  refine (heads2_at (headK (k0_pay3 x0 x1 x2 x3 x4) (k0_pay14 x10) (k0_pay14 x11)) R L).trans ?_
  exact headK_at x0 x1 x2 x3 x4 x10 x11 _ R _

theorem outva_at (R : Fin 512) (L : Fin 256) : out0_16 x0 x1 x2 x3 x4 x5 x6 x7 x8 x9 x10 x11 x12 x13 (ix2 R L)
    = brow x0 x1 x2 x3 x4 R ⟨1280 + L.val, by omega⟩ := by
  canon_tiles x h
  obtain ⟨r, l, rfl⟩ : ∃ r l, x = ix2 r l := ⟨x 0, x 1, by funext a; fin_cases a <;> rfl⟩
  change R.val = r.val at h0
  change L.val = l.val at h1
  obtain rfl := Fin.ext h0
  obtain rfl := Fin.ext h1
  rw [l0, l1, l2, l2, l3, cast57, va_at]

theorem outqb_at (R : Fin 512) (L : Fin 1024) : out0_17 x0 x1 x2 x3 x4 x5 x6 x7 x8 x9 x10 x11 x12 x13 (ix2 R L)
    = rotBW (fun l => lq (brow x0 x1 x2 x3 x4 R) (fun d => x5 (ix2 0 d)) (fun d e => x6 (ix2 d e)) ⟨L.val / 128 * 128 + l.val, by omega⟩)
        (fun l => x12 (ix2 R l)) (fun l => x13 (ix2 R l)) ⟨L.val % 128, by omega⟩ * Ideal.ofBits FTy.f32 0x3E16C740#32 := by
  canon_tiles x h
  obtain ⟨r, l, rfl⟩ : ∃ r l, x = ix2 r l := ⟨x 0, x 1, by funext a; fin_cases a <;> rfl⟩
  change R.val = r.val at h0
  change L.val = l.val at h1
  obtain rfl := Fin.ext h0
  obtain rfl := Fin.ext h1
  unfold k0_pay64 k0_pay67 k0_pay68
  rw [l0, l1, l2, l2, l3, l4, l5, l8, l8, tab16, tab17, b0, b1, b2, b3, b4, b5, b6, b7, heads8_same]
  refine (heads8_at (headB (k0_pay10 (k0_pay5 x0 x1 x2 x3 x4) x5 (k0_pay8 x0 x1 x2 x3 x4) k0_pay9 x6) (k0_pay14 x12) (k0_pay14 x13)) R L).trans ?_
  exact headB_at x0 x1 x2 x3 x4 x5 x6 x12 x13 _ R _

theorem outkb_at (R : Fin 512) (L : Fin 1024) : out0_18 x0 x1 x2 x3 x4 x5 x6 x7 x8 x9 x10 x11 x12 x13 (ix2 R L)
    = lin (lk (brow x0 x1 x2 x3 x4 R) (fun d => x7 (ix2 0 d))) (fun d e => x8 (ix2 d e)) L
      + rotBW (fun l => brow x0 x1 x2 x3 x4 R ⟨2176 + l.val, by omega⟩) (fun l => x12 (ix2 R l)) (fun l => x13 (ix2 R l)) ⟨L.val % 128, by omega⟩ := by
  canon_tiles x h
  obtain ⟨r, l, rfl⟩ : ∃ r l, x = ix2 r l := ⟨x 0, x 1, by funext a; fin_cases a <;> rfl⟩
  change R.val = r.val at h0
  change L.val = l.val at h1
  obtain rfl := Fin.ext h0
  obtain rfl := Fin.ext h1
  unfold k0_pay63 k0_pay67 k0_pay68
  rw [l0, l1, l2, l2, l3, l6, l7, l8, l8, tab16, tab17, heads_sum]
  refine (heads8_at (headS (k0_pay12 (k0_pay6 x0 x1 x2 x3 x4) x7 x8) (rotB (k0_pay14 x12) (k0_pay14 x13) (k0_pay7 x0 x1 x2 x3 x4))) R L).trans ?_
  have e : (⟨L.val / 128 * 128 + L.val % 128, by omega⟩ : Fin 1024) = L := Fin.ext (show L.val / 128 * 128 + L.val % 128 = L.val by omega)
  rw [headS_at, turnKr_at, kv_prod, e]

theorem outvb_at (R : Fin 512) (L : Fin 1024) : out0_19 x0 x1 x2 x3 x4 x5 x6 x7 x8 x9 x10 x11 x12 x13 (ix2 R L)
    = lin (lk (brow x0 x1 x2 x3 x4 R) (fun d => x7 (ix2 0 d))) (fun d e => x9 (ix2 d e)) L := by
  canon_tiles x h
  obtain ⟨r, l, rfl⟩ : ∃ r l, x = ix2 r l := ⟨x 0, x 1, by funext a; fin_cases a <;> rfl⟩
  change R.val = r.val at h0
  change L.val = l.val at h1
  obtain rfl := Fin.ext h0
  obtain rfl := Fin.ext h1
  unfold k0_pay63
  rw [l0, l1, l2, l2, l3, l6, l7, cast60, kv_same, kv_prod]

end Cert.AbKer

end
-- ==== Proof.AbArr.lean ====
/-
  What the six output arrays of the kernel of the even layer's latents hold at the end, from its arguments.
-/
module

public import proofs.«01_k».proof.Proof.AbKer

@[expose] public section

set_option maxRecDepth 16384

noncomputable section

namespace Cert.AbKer

open Cert.ProjectABIdeal Cert.ProjectABIdeal.Gen Cert.Ab Idealize.ShloMosaic Idealize.ShloMosaic.Pipeline Idealize.SL.Sem

/-- Where the windows stand at each grid point. -/
theorem idx : ∀ t : Fin grid0.N, win0_0.index t = ![t.val, 0] ∧ win0_1.index t = ![0, 0]
    ∧ win0_2.index t = ![t.val / 4, 0, 0] ∧ win0_3.index t = ![t.val / 4, 0, 0] ∧ win0_4.index t = ![0, 0]
    ∧ win0_5.index t = ![0, 0] ∧ win0_6.index t = ![0, 0] ∧ win0_7.index t = ![0, 0] ∧ win0_8.index t = ![0, 0] ∧ win0_9.index t = ![0, 0]
    ∧ win0_10.index t = ![t.val % 4, 0] ∧ win0_11.index t = ![t.val % 4, 0] ∧ win0_12.index t = ![t.val % 4, 0] ∧ win0_13.index t = ![t.val % 4, 0]
    ∧ win0_14.index t = ![t.val, 0] ∧ win0_15.index t = ![t.val, 0] ∧ win0_16.index t = ![t.val, 0]
    ∧ win0_17.index t = ![t.val, 0] ∧ win0_18.index t = ![t.val, 0] ∧ win0_19.index t = ![t.val, 0] := by decide +kernel

variable (m : (ℓ : Loc nD τ sig) → Buf (Elt Ideal) ℓ) (c : Dev nD)

/-- Row `R` of the product, and of the latents' products, from the arguments. -/
def prow (R : Fin 32768) : Fin 2304 → EReal :=
  lin (Proj.hm (fun d => (m ((c.tc : Thread nD τ).loc main_arg0) : Vec Ideal S32768x1024 .f32) (ix2 R d))
      (fun d => (m ((c.tc : Thread nD τ).loc main_arg1) : Vec Ideal S1x1024 .f32) (ix2 0 d))
      (fun d => (m ((c.tc : Thread nD τ).loc main_arg2) : Vec Ideal S24x1x1024 .f32) (ix3 ⟨R.val / 2048, by omega⟩ 0 d))
      (fun d => (m ((c.tc : Thread nD τ).loc main_arg3) : Vec Ideal S24x1x1024 .f32) (ix3 ⟨R.val / 2048, by omega⟩ 0 d)))
    (fun d e => (m ((c.tc : Thread nD τ).loc main_arg4) : Vec Ideal S1024x2304 .bf16) (ix2 d e))

def qrow (R : Fin 32768) : Fin 1024 → EReal :=
  lq (prow m c R) (fun d => (m ((c.tc : Thread nD τ).loc main_arg5) : Vec Ideal S1x384 .f32) (ix2 0 d))
    (fun d e => (m ((c.tc : Thread nD τ).loc main_arg6) : Vec Ideal S384x1024 .bf16) (ix2 d e))

def krow (R : Fin 32768) : Fin 1024 → EReal :=
  lin (lk (prow m c R) (fun d => (m ((c.tc : Thread nD τ).loc main_arg7) : Vec Ideal S1x256 .f32) (ix2 0 d)))
    (fun d e => (m ((c.tc : Thread nD τ).loc main_arg8) : Vec Ideal S256x1024 .bf16) (ix2 d e))

def vrow (R : Fin 32768) : Fin 1024 → EReal :=
  lin (lk (prow m c R) (fun d => (m ((c.tc : Thread nD τ).loc main_arg7) : Vec Ideal S1x256 .f32) (ix2 0 d)))
    (fun d e => (m ((c.tc : Thread nD τ).loc main_arg9) : Vec Ideal S256x1024 .bf16) (ix2 d e))

/-- The six results at a row and a lane. -/
def qaarr (R : Fin 32768) (L : Fin 1024) : EReal := rqa (prow m c R) ⟨R.val % 2048, by omega⟩ L
def kaarr (R : Fin 32768) (L : Fin 256) : EReal := rka (prow m c R) ⟨R.val % 2048, by omega⟩ L
def vaarr (R : Fin 32768) (L : Fin 256) : EReal := rva (prow m c R) L
def qbarr (R : Fin 32768) (L : Fin 1024) : EReal := rqb (qrow m c R) ⟨R.val % 2048, by omega⟩ L
def kbarr (R : Fin 32768) (L : Fin 1024) : EReal := rkb (prow m c R) (krow m c R) ⟨R.val % 2048, by omega⟩ L
def vbarr (R : Fin 32768) (L : Fin 1024) : EReal := vrow m c R L

set_option maxHeartbeats 2000000 in
/-- A block's rows of the product are the arrays'. -/
theorem brow_eq (t : Fin grid0.N) (r : Fin 512) (A : Fin 32768) (hA : A.val = t.val * 512 + r.val) :
    brow (iblk m c 0 t) (iblk m c 1 t) (iblk m c 2 t) (iblk m c 3 t) (iblk m c 4 t) r = prow m c A := by
  obtain ⟨i0, i1, i2, i3, i4, -⟩ := idx t
  have h0 : ∀ d : Fin 1024, iblk m c 0 t (ix2 r d) = m ((c.tc : Thread nD τ).loc main_arg0) (ix2 A d) := fun d =>
    Eq.trans (b := V m c main_arg0 (ix2 A d)) (by blk_ext [iblk, i0]) (congrFun (V_main_arg0 m c) _)
  have h1 : ∀ d : Fin 1024, iblk m c 1 t (ix2 0 d) = m ((c.tc : Thread nD τ).loc main_arg1) (ix2 0 d) := fun d =>
    Eq.trans (b := V m c main_arg1 (ix2 0 d)) (by blk_ext [iblk, i1]) (congrFun (V_main_arg1 m c) _)
  have h2 : ∀ d : Fin 1024, iblk m c 2 t (ix3 0 0 d) = m ((c.tc : Thread nD τ).loc main_arg2) (ix3 ⟨A.val / 2048, by omega⟩ 0 d) := fun d =>
    Eq.trans (b := V m c main_arg2 (ix3 ⟨A.val / 2048, by omega⟩ 0 d)) (by blk_ext [iblk, i2]) (congrFun (V_main_arg2 m c) _)
  have h3 : ∀ d : Fin 1024, iblk m c 3 t (ix3 0 0 d) = m ((c.tc : Thread nD τ).loc main_arg3) (ix3 ⟨A.val / 2048, by omega⟩ 0 d) := fun d =>
    Eq.trans (b := V m c main_arg3 (ix3 ⟨A.val / 2048, by omega⟩ 0 d)) (by blk_ext [iblk, i3]) (congrFun (V_main_arg3 m c) _)
  have h4 : ∀ (d : Fin 1024) (e : Fin 2304), iblk m c 4 t (ix2 d e) = m ((c.tc : Thread nD τ).loc main_arg4) (ix2 d e) := fun d e =>
    Eq.trans (b := V m c main_arg4 (ix2 d e)) (by blk_ext [iblk, i4]) (congrFun (V_main_arg4 m c) _)
  unfold brow prow
  simp only [h0, h1, h2, h3, h4]

set_option maxHeartbeats 2000000 in
theorem qrow_eq (t : Fin grid0.N) (r : Fin 512) (A : Fin 32768) (hA : A.val = t.val * 512 + r.val) :
    lq (brow (iblk m c 0 t) (iblk m c 1 t) (iblk m c 2 t) (iblk m c 3 t) (iblk m c 4 t) r) (fun d => iblk m c 5 t (ix2 0 d)) (fun d e => iblk m c 6 t (ix2 d e)) = qrow m c A := by
  obtain ⟨-, -, -, -, -, i5, i6, -⟩ := idx t
  have h5 : ∀ d : Fin 384, iblk m c 5 t (ix2 0 d) = m ((c.tc : Thread nD τ).loc main_arg5) (ix2 0 d) := fun d =>
    Eq.trans (b := V m c main_arg5 (ix2 0 d)) (by blk_ext [iblk, i5]) (congrFun (V_main_arg5 m c) _)
  have h6 : ∀ (d : Fin 384) (e : Fin 1024), iblk m c 6 t (ix2 d e) = m ((c.tc : Thread nD τ).loc main_arg6) (ix2 d e) := fun d e =>
    Eq.trans (b := V m c main_arg6 (ix2 d e)) (by blk_ext [iblk, i6]) (congrFun (V_main_arg6 m c) _)
  rw [brow_eq m c t r A hA]
  unfold qrow
  simp only [h5, h6]

set_option maxHeartbeats 2000000 in
theorem krow_eq (t : Fin grid0.N) (r : Fin 512) (A : Fin 32768) (hA : A.val = t.val * 512 + r.val) :
    lin (lk (brow (iblk m c 0 t) (iblk m c 1 t) (iblk m c 2 t) (iblk m c 3 t) (iblk m c 4 t) r) (fun d => iblk m c 7 t (ix2 0 d))) (fun d e => iblk m c 8 t (ix2 d e)) = krow m c A := by
  obtain ⟨-, -, -, -, -, -, -, i7, i8, -⟩ := idx t
  have h7 : ∀ d : Fin 256, iblk m c 7 t (ix2 0 d) = m ((c.tc : Thread nD τ).loc main_arg7) (ix2 0 d) := fun d =>
    Eq.trans (b := V m c main_arg7 (ix2 0 d)) (by blk_ext [iblk, i7]) (congrFun (V_main_arg7 m c) _)
  have h8 : ∀ (d : Fin 256) (e : Fin 1024), iblk m c 8 t (ix2 d e) = m ((c.tc : Thread nD τ).loc main_arg8) (ix2 d e) := fun d e =>
    Eq.trans (b := V m c main_arg8 (ix2 d e)) (by blk_ext [iblk, i8]) (congrFun (V_main_arg8 m c) _)
  rw [brow_eq m c t r A hA]
  unfold krow
  simp only [h7, h8]

set_option maxHeartbeats 2000000 in
theorem vrow_eq (t : Fin grid0.N) (r : Fin 512) (A : Fin 32768) (hA : A.val = t.val * 512 + r.val) :
    lin (lk (brow (iblk m c 0 t) (iblk m c 1 t) (iblk m c 2 t) (iblk m c 3 t) (iblk m c 4 t) r) (fun d => iblk m c 7 t (ix2 0 d))) (fun d e => iblk m c 9 t (ix2 d e)) = vrow m c A := by
  obtain ⟨-, -, -, -, -, -, -, i7, -, i9, -⟩ := idx t
  have h7 : ∀ d : Fin 256, iblk m c 7 t (ix2 0 d) = m ((c.tc : Thread nD τ).loc main_arg7) (ix2 0 d) := fun d =>
    Eq.trans (b := V m c main_arg7 (ix2 0 d)) (by blk_ext [iblk, i7]) (congrFun (V_main_arg7 m c) _)
  have h9 : ∀ (d : Fin 256) (e : Fin 1024), iblk m c 9 t (ix2 d e) = m ((c.tc : Thread nD τ).loc main_arg9) (ix2 d e) := fun d e =>
    Eq.trans (b := V m c main_arg9 (ix2 d e)) (by blk_ext [iblk, i9]) (congrFun (V_main_arg9 m c) _)
  rw [brow_eq m c t r A hA]
  unfold vrow
  simp only [h7, h9]

set_option maxHeartbeats 2000000 in
/-- The block's tables turn lanes as the rows' positions do. -/
theorem rotA_block (t : Fin grid0.N) (r : Fin 512) (A : Fin 32768) (hA : A.val = t.val * 512 + r.val) (n : Fin 128 → EReal) (l : Fin 128) :
    rotAW n (fun l => iblk m c 10 t (ix2 r l)) (fun l => iblk m c 11 t (ix2 r l)) l = turnA n ⟨A.val % 2048, by omega⟩ l := by
  obtain ⟨-, -, -, -, -, -, -, -, -, -, i10, i11, -⟩ := idx t
  have hc : (fun l : Fin 128 => iblk m c 10 t (ix2 r l)) = cosA (fun l => Ideal.cos (angA ⟨A.val % 2048, by omega⟩ l)) := funext fun l =>
    Eq.trans (b := V m c main_v26 (ix2 ⟨A.val % 2048, by omega⟩ l)) (by blk_ext [iblk, i10]) (cosA_at m c _ l)
  have hs : (fun l : Fin 128 => iblk m c 11 t (ix2 r l)) = sinA (fun l => Ideal.sin (angA ⟨A.val % 2048, by omega⟩ l)) := funext fun l =>
    Eq.trans (b := V m c main_v30 (ix2 ⟨A.val % 2048, by omega⟩ l)) (by blk_ext [iblk, i11]) (sinA_at m c _ l)
  unfold turnA
  rw [← rotA_eq]
  exact congrFun (congrArg₂ (rotAW n) hc hs) l

set_option maxHeartbeats 2000000 in
/-- The block's tables turn lanes as the rows' positions do. -/
theorem rotB_block (t : Fin grid0.N) (r : Fin 512) (A : Fin 32768) (hA : A.val = t.val * 512 + r.val) (n : Fin 128 → EReal) (l : Fin 128) :
    rotBW n (fun l => iblk m c 12 t (ix2 r l)) (fun l => iblk m c 13 t (ix2 r l)) l = turnB n ⟨A.val % 2048, by omega⟩ l := by
  obtain ⟨-, -, -, -, -, -, -, -, -, -, -, -, i12, i13, -⟩ := idx t
  have hc : (fun l : Fin 128 => iblk m c 12 t (ix2 r l)) = cosB (fun l => Ideal.cos (angB ⟨A.val % 2048, by omega⟩ l)) := funext fun l =>
    Eq.trans (b := V m c main_v57 (ix2 ⟨A.val % 2048, by omega⟩ l)) (by blk_ext [iblk, i12]) (cosB_at m c _ l)
  have hs : (fun l : Fin 128 => iblk m c 13 t (ix2 r l)) = sinB (fun l => Ideal.sin (angB ⟨A.val % 2048, by omega⟩ l)) := funext fun l =>
    Eq.trans (b := V m c main_v61 (ix2 ⟨A.val % 2048, by omega⟩ l)) (by blk_ext [iblk, i13]) (sinB_at m c _ l)
  unfold turnB
  rw [← rotB_eq]
  exact congrFun (congrArg₂ (rotBW n) hc hs) l

/-- The output arrays after the run, at each row and lane. -/
theorem arrqa : (dats m 0 c).arrAt 14 (cfgs 0).N = fun i => qaarr m c (i 0) (i 1) := by
  refine (dats m 0 c).arrAt_eq_of_covers 14 _ (by decide +kernel) fun t hf y => ?_
  blk_simp
  rw [after0_14]
  obtain ⟨r, l, rfl⟩ : ∃ (r : Fin 512) (l : Fin 1024), y = ix2 r l := ⟨y 0, y 1, by funext a; fin_cases a <;> rfl⟩
  obtain ⟨-, -, -, -, -, -, -, -, -, -, -, -, -, -, i14, -⟩ := idx t
  have he0 : (((win0_14.blk t).view.emb (ix2 r l) 0 : Fin 32768) : ℕ) = t.val * 512 + r.val := by
    blk_simp [i14]
  have he1 : (((win0_14.blk t).view.emb (ix2 r l) 1 : Fin 1024) : ℕ) = l.val := by
    blk_simp [i14]
  generalize ((win0_14.blk t).view.emb (ix2 r l) 0 : Fin 32768) = A at he0
  generalize ((win0_14.blk t).view.emb (ix2 r l) 1 : Fin 1024) = B at he1
  obtain rfl : l = B := (Fin.ext he1).symm
  unfold qaarr rqa
  rw [outqa_at, rotA_block m c t r A he0, brow_eq m c t r A he0]

theorem arrka : (dats m 0 c).arrAt 15 (cfgs 0).N = fun i => kaarr m c (i 0) (i 1) := by
  refine (dats m 0 c).arrAt_eq_of_covers 15 _ (by decide +kernel) fun t hf y => ?_
  blk_simp
  rw [after0_15]
  obtain ⟨r, l, rfl⟩ : ∃ (r : Fin 512) (l : Fin 256), y = ix2 r l := ⟨y 0, y 1, by funext a; fin_cases a <;> rfl⟩
  obtain ⟨-, -, -, -, -, -, -, -, -, -, -, -, -, -, -, i15, -⟩ := idx t
  have he0 : (((win0_15.blk t).view.emb (ix2 r l) 0 : Fin 32768) : ℕ) = t.val * 512 + r.val := by
    blk_simp [i15]
  have he1 : (((win0_15.blk t).view.emb (ix2 r l) 1 : Fin 256) : ℕ) = l.val := by
    blk_simp [i15]
  generalize ((win0_15.blk t).view.emb (ix2 r l) 0 : Fin 32768) = A at he0
  generalize ((win0_15.blk t).view.emb (ix2 r l) 1 : Fin 256) = B at he1
  obtain rfl : l = B := (Fin.ext he1).symm
  unfold kaarr rka
  rw [outka_at, rotA_block m c t r A he0, brow_eq m c t r A he0]

theorem arrva : (dats m 0 c).arrAt 16 (cfgs 0).N = fun i => vaarr m c (i 0) (i 1) := by
  refine (dats m 0 c).arrAt_eq_of_covers 16 _ (by decide +kernel) fun t hf y => ?_
  blk_simp
  rw [after0_16]
  obtain ⟨r, l, rfl⟩ : ∃ (r : Fin 512) (l : Fin 256), y = ix2 r l := ⟨y 0, y 1, by funext a; fin_cases a <;> rfl⟩
  obtain ⟨-, -, -, -, -, -, -, -, -, -, -, -, -, -, -, -, i16, -⟩ := idx t
  have he0 : (((win0_16.blk t).view.emb (ix2 r l) 0 : Fin 32768) : ℕ) = t.val * 512 + r.val := by
    blk_simp [i16]
  have he1 : (((win0_16.blk t).view.emb (ix2 r l) 1 : Fin 256) : ℕ) = l.val := by
    blk_simp [i16]
  generalize ((win0_16.blk t).view.emb (ix2 r l) 0 : Fin 32768) = A at he0
  generalize ((win0_16.blk t).view.emb (ix2 r l) 1 : Fin 256) = B at he1
  obtain rfl : l = B := (Fin.ext he1).symm
  unfold vaarr rva
  rw [outva_at, brow_eq m c t r A he0]

theorem arrqb : (dats m 0 c).arrAt 17 (cfgs 0).N = fun i => qbarr m c (i 0) (i 1) := by
  refine (dats m 0 c).arrAt_eq_of_covers 17 _ (by decide +kernel) fun t hf y => ?_
  blk_simp
  rw [after0_17]
  obtain ⟨r, l, rfl⟩ : ∃ (r : Fin 512) (l : Fin 1024), y = ix2 r l := ⟨y 0, y 1, by funext a; fin_cases a <;> rfl⟩
  obtain ⟨-, -, -, -, -, -, -, -, -, -, -, -, -, -, -, -, -, i17, -⟩ := idx t
  have he0 : (((win0_17.blk t).view.emb (ix2 r l) 0 : Fin 32768) : ℕ) = t.val * 512 + r.val := by
    blk_simp [i17]
  have he1 : (((win0_17.blk t).view.emb (ix2 r l) 1 : Fin 1024) : ℕ) = l.val := by
    blk_simp [i17]
  generalize ((win0_17.blk t).view.emb (ix2 r l) 0 : Fin 32768) = A at he0
  generalize ((win0_17.blk t).view.emb (ix2 r l) 1 : Fin 1024) = B at he1
  obtain rfl : l = B := (Fin.ext he1).symm
  unfold qbarr rqb
  rw [outqb_at, rotB_block m c t r A he0, qrow_eq m c t r A he0]

theorem arrkb : (dats m 0 c).arrAt 18 (cfgs 0).N = fun i => kbarr m c (i 0) (i 1) := by
  refine (dats m 0 c).arrAt_eq_of_covers 18 _ (by decide +kernel) fun t hf y => ?_
  blk_simp
  rw [after0_18]
  obtain ⟨r, l, rfl⟩ : ∃ (r : Fin 512) (l : Fin 1024), y = ix2 r l := ⟨y 0, y 1, by funext a; fin_cases a <;> rfl⟩
  obtain ⟨-, -, -, -, -, -, -, -, -, -, -, -, -, -, -, -, -, -, i18, -⟩ := idx t
  have he0 : (((win0_18.blk t).view.emb (ix2 r l) 0 : Fin 32768) : ℕ) = t.val * 512 + r.val := by
    blk_simp [i18]
  have he1 : (((win0_18.blk t).view.emb (ix2 r l) 1 : Fin 1024) : ℕ) = l.val := by
    blk_simp [i18]
  generalize ((win0_18.blk t).view.emb (ix2 r l) 0 : Fin 32768) = A at he0
  generalize ((win0_18.blk t).view.emb (ix2 r l) 1 : Fin 1024) = B at he1
  obtain rfl : l = B := (Fin.ext he1).symm
  unfold kbarr rkb
  rw [outkb_at, rotB_block m c t r A he0, krow_eq m c t r A he0, brow_eq m c t r A he0]

theorem arrvb : (dats m 0 c).arrAt 19 (cfgs 0).N = fun i => vbarr m c (i 0) (i 1) := by
  refine (dats m 0 c).arrAt_eq_of_covers 19 _ (by decide +kernel) fun t hf y => ?_
  blk_simp
  rw [after0_19]
  obtain ⟨r, l, rfl⟩ : ∃ (r : Fin 512) (l : Fin 1024), y = ix2 r l := ⟨y 0, y 1, by funext a; fin_cases a <;> rfl⟩
  obtain ⟨-, -, -, -, -, -, -, -, -, -, -, -, -, -, -, -, -, -, -, i19⟩ := idx t
  have he0 : (((win0_19.blk t).view.emb (ix2 r l) 0 : Fin 32768) : ℕ) = t.val * 512 + r.val := by
    blk_simp [i19]
  have he1 : (((win0_19.blk t).view.emb (ix2 r l) 1 : Fin 1024) : ℕ) = l.val := by
    blk_simp [i19]
  generalize ((win0_19.blk t).view.emb (ix2 r l) 0 : Fin 32768) = A at he0
  generalize ((win0_19.blk t).view.emb (ix2 r l) 1 : Fin 1024) = B at he1
  obtain rfl : l = B := (Fin.ext he1).symm
  unfold vbarr
  rw [outvb_at, vrow_eq m c t r A he0]

end Cert.AbKer

end
-- ==== Proof.AbRef.lean ====
/-
  What the reference for the even layer's latents computes, read at one index: the printed composed terms cut into their
  stages (modulated norm, products, latents' norms, angles, rotations, results), each stage at an index.
-/
module

public import proofs.«01_k».proof.Proof.Gen.ProjectABReferenceIdeal.Run
public import proofs.«01_k».proof.Proof.AbSpec

@[expose] public section

noncomputable section

namespace Cert.AbRef

open Cert.ProjectABReferenceIdeal Cert.ProjectABReferenceIdeal.Gen Cert.ProjectABReferenceIdeal.Value Cert.Ab Idealize.ShloMosaic Idealize.SL.Sem

/-- The rows by batch entry. -/
def refX (x : Vec Ideal S32768x1024 .f32) : FVec Ideal S16x2048x1024 .f32 :=
  shapeCast _ x shapeCasts_S32768x1024_S16x2048x1024

/-- The modulated norm. -/
def refH (x : FVec Ideal S16x2048x1024 .f32) (g : Vec Ideal S1x1024 .f32) (sc sh : Vec Ideal S24x1x1024 .f32) : FVec Ideal S16x2048x1024 .f32 :=
  addf (mulf (mulf (mulf x (broadcastInDim S16x2048x1024 ![0, 1, 2] bcast_S16x2048x1_S16x2048x1024_0_1_2
      (Host.rsqrt (addf (Host.divf (broadcastInDim S16x2048x1 ![0, 1] bcast_S16x2048_S16x2048x1_0_1
          (Host.reduceAdd (mulf x x) (constant S_ .f32 0x00000000#32) reducesTo_S16x2048x1024_S16x2048_d2 h_S_))
          (broadcastInDim S16x2048x1 ![] bcast_S_S16x2048x1 (constant S_ .f32 0x44800000#32)))
        (broadcastInDim S16x2048x1 ![] bcast_S_S16x2048x1 (constant S_ .f32 0x358637BD#32))))))
      (broadcastInDim S16x2048x1024 ![0, 1, 2] bcast_S1x1x1024_S16x2048x1024_0_1_2 (broadcastInDim S1x1x1024 ![2] bcast_S1024_S1x1x1024_2
        (shapeCast _ g shapeCasts_S1x1024_S1024))))
    (broadcastInDim S16x2048x1024 ![0, 1, 2] bcast_S16x1x1024_S16x2048x1024_0_1_2
      (addf (broadcastInDim S16x1x1024 ![] bcast_S_S16x1x1024 (constant S_ .f32 0x3F800000#32))
        (extractStridedSlice S16x1x1024 ![0, 0, 0] sc slices_S24x1x1024_S16x1x1024_0_0_0))))
    (broadcastInDim S16x2048x1024 ![0, 1, 2] bcast_S16x1x1024_S16x2048x1024_0_1_2
      (extractStridedSlice S16x1x1024 ![0, 0, 0] sh slices_S24x1x1024_S16x1x1024_0_0_0))

/-- The product with the weights. -/
def refP (h : FVec Ideal S16x2048x1024 .f32) (w : Vec Ideal S1024x2304 .bf16) : FVec Ideal S16x2048x2304 .f32 :=
  Host.dotGeneral dot_S16x2048x1024_S1024x2304_S16x2048x2304_2_0_01_1_n_n none h (extf .f32 w bitsLt_bf16_f32)

def refCq (t : FVec Ideal S16x2048x384 .f32) (g : Vec Ideal S1x384 .f32) : FVec Ideal S16x2048x384 .f32 :=
  mulf (mulf t (broadcastInDim S16x2048x384 ![0, 1, 2] bcast_S16x2048x1_S16x2048x384_0_1_2
      (Host.rsqrt (addf (Host.divf (broadcastInDim S16x2048x1 ![0, 1] bcast_S16x2048_S16x2048x1_0_1
          (Host.reduceAdd (mulf t t) (constant S_ .f32 0x00000000#32) reducesTo_S16x2048x384_S16x2048_d2 h_S_))
          (broadcastInDim S16x2048x1 ![] bcast_S_S16x2048x1 (constant S_ .f32 0x43C00000#32)))
        (broadcastInDim S16x2048x1 ![] bcast_S_S16x2048x1 (constant S_ .f32 0x358637BD#32))))))
    (broadcastInDim S16x2048x384 ![0, 1, 2] bcast_S1x1x384_S16x2048x384_0_1_2 (broadcastInDim S1x1x384 ![2] bcast_S384_S1x1x384_2
      (shapeCast _ g shapeCasts_S1x384_S384)))

theorem refCq_at (t : FVec Ideal S16x2048x384 .f32) (g : Vec Ideal S1x384 .f32) (b : Fin 16) (s : Fin 2048) (d : Fin 384) :
    refCq t g (ix3 b s d) = rn 0x43C00000#32 (fun d => t (ix3 b s d)) (fun d => g (ix2 0 d)) d := by
  unfold refCq rn
  pointwise

def refKv (t : FVec Ideal S16x2048x256 .f32) (g : Vec Ideal S1x256 .f32) : FVec Ideal S16x2048x256 .f32 :=
  mulf (mulf t (broadcastInDim S16x2048x256 ![0, 1, 2] bcast_S16x2048x1_S16x2048x256_0_1_2
      (Host.rsqrt (addf (Host.divf (broadcastInDim S16x2048x1 ![0, 1] bcast_S16x2048_S16x2048x1_0_1
          (Host.reduceAdd (mulf t t) (constant S_ .f32 0x00000000#32) reducesTo_S16x2048x256_S16x2048_d2 h_S_))
          (broadcastInDim S16x2048x1 ![] bcast_S_S16x2048x1 (constant S_ .f32 0x43800000#32)))
        (broadcastInDim S16x2048x1 ![] bcast_S_S16x2048x1 (constant S_ .f32 0x358637BD#32))))))
    (broadcastInDim S16x2048x256 ![0, 1, 2] bcast_S1x1x256_S16x2048x256_0_1_2 (broadcastInDim S1x1x256 ![2] bcast_S256_S1x1x256_2
      (shapeCast _ g shapeCasts_S1x256_S256)))

theorem refKv_at (t : FVec Ideal S16x2048x256 .f32) (g : Vec Ideal S1x256 .f32) (b : Fin 16) (s : Fin 2048) (d : Fin 256) :
    refKv t g (ix3 b s d) = rn 0x43800000#32 (fun d => t (ix3 b s d)) (fun d => g (ix2 0 d)) d := by
  unfold refKv rn
  pointwise

/-- The pieces of the product, and the latents' products. -/
def cutCq (p : FVec Ideal S16x2048x2304 .f32) : FVec Ideal S16x2048x384 .f32 :=
  extractStridedSlice S16x2048x384 ![0, 0, 1536] p slices_S16x2048x2304_S16x2048x384_0_0_1536

def cutKv (p : FVec Ideal S16x2048x2304 .f32) : FVec Ideal S16x2048x256 .f32 :=
  extractStridedSlice S16x2048x256 ![0, 0, 1920] p slices_S16x2048x2304_S16x2048x256_0_0_1920

def refQ (h : FVec Ideal S16x2048x384 .f32) (w : Vec Ideal S384x1024 .bf16) : FVec Ideal S16x2048x1024 .f32 :=
  Host.dotGeneral dot_S16x2048x384_S384x1024_S16x2048x1024_2_0_01_1_n_n none h (extf .f32 w bitsLt_bf16_f32)

def refL (h : FVec Ideal S16x2048x256 .f32) (w : Vec Ideal S256x1024 .bf16) : FVec Ideal S16x2048x1024 .f32 :=
  Host.dotGeneral dot_S16x2048x256_S256x1024_S16x2048x1024_2_0_01_1_n_n none h (extf .f32 w bitsLt_bf16_f32)

/-- The heads. -/
def heads8 (t : FVec Ideal S16x2048x1024 .f32) : FVec Ideal S16x8x2048x128 .f32 :=
  transpose S16x8x2048x128 [0, 2, 1, 3] (shapeCast _ t shapeCasts_S16x2048x1024_S16x2048x8x128) transposes_S16x2048x8x128_S16x8x2048x128_0_2_1_3

def heads2 (t : FVec Ideal S16x2048x256 .f32) : FVec Ideal S16x2x2048x128 .f32 :=
  transpose S16x2x2048x128 [0, 2, 1, 3] (shapeCast _ t shapeCasts_S16x2048x256_S16x2048x2x128) transposes_S16x2048x2x128_S16x2x2048x128_0_2_1_3

def heads1 (t : FVec Ideal S16x2048x128 .f32) : FVec Ideal S16x1x2048x128 .f32 :=
  transpose S16x1x2048x128 [0, 2, 1, 3] (shapeCast _ t shapeCasts_S16x2048x128_S16x2048x1x128) transposes_S16x2048x1x128_S16x1x2048x128_0_2_1_3

def headsQa (p : FVec Ideal S16x2048x2304 .f32) : FVec Ideal S16x8x2048x128 .f32 :=
  heads8 (extractStridedSlice S16x2048x1024 ![0, 0, 0] p slices_S16x2048x2304_S16x2048x1024_0_0_0)

def headsKa (p : FVec Ideal S16x2048x2304 .f32) : FVec Ideal S16x2x2048x128 .f32 :=
  heads2 (extractStridedSlice S16x2048x256 ![0, 0, 1024] p slices_S16x2048x2304_S16x2048x256_0_0_1024)

def headsKr (p : FVec Ideal S16x2048x2304 .f32) : FVec Ideal S16x1x2048x128 .f32 :=
  heads1 (extractStridedSlice S16x2048x128 ![0, 0, 2176] p slices_S16x2048x2304_S16x2048x128_0_0_2176)

/-- The angles. -/
def rowsW : IVec S32x64 32 := broadcastInDim S32x64 ![0, 1] bcast_S32x1_S32x64_0_1 (broadcastInDim S32x1 ![0] bcast_S32_S32x1_0 (iotaInDim S32 32 0))
def colsW : IVec S32x64 32 := broadcastInDim S32x64 ![0, 1] bcast_S1x64_S32x64_0_1 (broadcastInDim S1x64 ![1] bcast_S64_S1x64_1 (iotaInDim S64 32 0))

def freqsA : FVec Ideal S16 .f32 :=
  Host.powf (broadcastInDim S16 ![] bcast_S_S16 (constant S_ .f32 0x461C4000#32))
    (Host.divf (Host.negf (sitofp .f32 (iotaInDim S16 32 0))) (broadcastInDim S16 ![] bcast_S_S16 (constant S_ .f32 0x41800000#32)))

def timesA (p : IVec S32x64 32) : FVec Ideal S2048x16 .f32 :=
  mulf (broadcastInDim S2048x16 ![0, 1] bcast_S2048x1_S2048x16_0_1 (broadcastInDim S2048x1 ![0] bcast_S2048_S2048x1_0
      (sitofp .f32 (shapeCast S2048 p shapeCasts_S32x64_S2048))))
    (broadcastInDim S2048x16 ![0, 1] bcast_S1x16_S2048x16_0_1 (broadcastInDim S1x16 ![1] bcast_S16_S1x16_1 freqsA))

def angsA : FVec Ideal S2048x32 .f32 :=
  concatenate S2048x32 1 [⟨S2048x16, timesA rowsW⟩, ⟨S2048x16, timesA colsW⟩] concatenates_S2048x16_S2048x16_S2048x32_d1

theorem angsA_at (s : Fin 2048) (l : Fin 32) : angsA (ix2 s l) = angA s l := by
  unfold angsA timesA freqsA angA rowsW colsW
  pointwise

def freqsB : FVec Ideal S8 .f32 :=
  Host.powf (broadcastInDim S8 ![] bcast_S_S8 (constant S_ .f32 0x461C4000#32))
    (Host.divf (Host.negf (sitofp .f32 (iotaInDim S8 32 0))) (broadcastInDim S8 ![] bcast_S_S8 (constant S_ .f32 0x41000000#32)))

def timesB (p : IVec S32x64 32) : FVec Ideal S2048x8 .f32 :=
  mulf (broadcastInDim S2048x8 ![0, 1] bcast_S2048x1_S2048x8_0_1 (broadcastInDim S2048x1 ![0] bcast_S2048_S2048x1_0
      (sitofp .f32 (shapeCast S2048 p shapeCasts_S32x64_S2048))))
    (broadcastInDim S2048x8 ![0, 1] bcast_S1x8_S2048x8_0_1 (broadcastInDim S1x8 ![1] bcast_S8_S1x8_1 freqsB))

def angsB : FVec Ideal S2048x16 .f32 :=
  concatenate S2048x16 1 [⟨S2048x8, timesB rowsW⟩, ⟨S2048x8, timesB colsW⟩] concatenates_S2048x8_S2048x8_S2048x16_d1

theorem angsB_at (s : Fin 2048) (l : Fin 16) : angsB (ix2 s l) = angB s l := by
  unfold angsB timesB freqsB angB rowsW colsW
  pointwise

/-! ## The rotations -/

theorem subm {a a' b b' c c' d d' : EReal} (ha : a = a') (hb : b = b') (hc : c = c') (hd : d = d') : a * b - c * d = a' * b' - c' * d' := by
  rw [ha, hb, hc, hd]

theorem addm {a a' b b' c c' d d' : EReal} (ha : a = a') (hb : b = b') (hc : c = c') (hd : d = d') : a * b + c * d = a' * b' + c' * d' := by
  rw [ha, hb, hc, hd]

theorem at4 {n : ℕ} (t : FVec Ideal ⟨4, ![16, n, 2048, 128]⟩ .f32) (b : Fin 16) (j : Fin n) (r : Fin 2048) {l l' : Fin 128} (h : l.val = l'.val) :
    t (ix4 b j r l) = t (ix4 b j r l') := by rw [Fin.ext h]

theorem at2 {n : ℕ} (t : FVec Ideal ⟨2, ![2048, n]⟩ .f32) (r : Fin 2048) {l l' : Fin n} (h : l.val = l'.val) : t (ix2 r l) = t (ix2 r l') := by
  rw [Fin.ext h]

def tabA8 (a : FVec Ideal S2048x32 .f32) : FVec Ideal S16x8x2048x32 .f32 :=
  broadcastInDim S16x8x2048x32 ![0, 1, 2, 3] bcast_S1x1x2048x32_S16x8x2048x32_0_1_2_3 (broadcastInDim S1x1x2048x32 ![2, 3] bcast_S2048x32_S1x1x2048x32_2_3 a)

def midA8 (t : FVec Ideal S16x8x2048x128 .f32) : FVec Ideal S16x8x2048x64 .f32 :=
  extractStridedSlice S16x8x2048x64 ![0, 0, 0, 0] t slices_S16x8x2048x128_S16x8x2048x64_0_0_0_0

def lowerA8 (t : FVec Ideal S16x8x2048x128 .f32) : FVec Ideal S16x8x2048x32 .f32 :=
  extractStridedSlice S16x8x2048x32 ![0, 0, 0, 0] (midA8 t) slices_S16x8x2048x64_S16x8x2048x32_0_0_0_0

def upperA8 (t : FVec Ideal S16x8x2048x128 .f32) : FVec Ideal S16x8x2048x32 .f32 :=
  extractStridedSlice S16x8x2048x32 ![0, 0, 0, 32] (midA8 t) slices_S16x8x2048x64_S16x8x2048x32_0_0_0_32

def rotA8 (t : FVec Ideal S16x8x2048x128 .f32) (c s : FVec Ideal S2048x32 .f32) : FVec Ideal S16x8x2048x64 .f32 :=
  concatenate S16x8x2048x64 3 [⟨S16x8x2048x32, subf (mulf (lowerA8 t) (tabA8 c)) (mulf (upperA8 t) (tabA8 s))⟩,
    ⟨S16x8x2048x32, addf (mulf (upperA8 t) (tabA8 c)) (mulf (lowerA8 t) (tabA8 s))⟩] concatenates_S16x8x2048x32_S16x8x2048x32_S16x8x2048x64_d3

def ropeA8 (t : FVec Ideal S16x8x2048x128 .f32) (c s : FVec Ideal S2048x32 .f32) : FVec Ideal S16x8x2048x128 .f32 :=
  concatenate S16x8x2048x128 3 [⟨S16x8x2048x0, extractStridedSlice S16x8x2048x0 ![0, 0, 0, 0] t slices_S16x8x2048x128_S16x8x2048x0_0_0_0_0⟩,
    ⟨S16x8x2048x64, rotA8 t c s⟩,
    ⟨S16x8x2048x64, extractStridedSlice S16x8x2048x64 ![0, 0, 0, 64] t slices_S16x8x2048x128_S16x8x2048x64_0_0_0_64⟩]
    concatenates_S16x8x2048x0_S16x8x2048x64_S16x8x2048x64_S16x8x2048x128_d3

theorem ropeA8_at (t : FVec Ideal S16x8x2048x128 .f32) (c s : FVec Ideal S2048x32 .f32) (b : Fin 16) (r : Fin 2048) (j : Fin 8) (l : Fin 128) :
    ropeA8 t c s (ix4 b j r l) = rotAH (fun l => t (ix4 b j r l)) (fun l => c (ix2 r l)) (fun l => s (ix2 r l)) l := by
  unfold ropeA8 rotA8 lowerA8 upperA8 midA8 tabA8 rotAH
  pointwise
  rw [dif_neg (Nat.not_lt_zero _)]
  by_cases h : l.val < 32
  · have h' : l.val < 64 := by omega
    simp only [h, h', dif_pos]
    refine subm ?_ ?_ ?_ ?_
    · exact at4 t b j r (by simp)
    · exact at2 c r (by simp)
    · exact at4 t b j r (by simp; omega)
    · exact at2 s r (by simp)
  · by_cases h' : l.val < 64
    · simp only [h, h', dif_pos, dif_neg, not_false_eq_true]
      refine addm ?_ ?_ ?_ ?_
      · exact at4 t b j r (by simp; omega)
      · exact at2 c r (by simp)
      · exact at4 t b j r (by simp)
      · exact at2 s r (by simp)
    · simp only [h, h', dif_neg, not_false_eq_true]
      exact at4 t b j r (by simp; omega)

def tabA2 (a : FVec Ideal S2048x32 .f32) : FVec Ideal S16x2x2048x32 .f32 :=
  broadcastInDim S16x2x2048x32 ![0, 1, 2, 3] bcast_S1x1x2048x32_S16x2x2048x32_0_1_2_3 (broadcastInDim S1x1x2048x32 ![2, 3] bcast_S2048x32_S1x1x2048x32_2_3 a)

def midA2 (t : FVec Ideal S16x2x2048x128 .f32) : FVec Ideal S16x2x2048x64 .f32 :=
  extractStridedSlice S16x2x2048x64 ![0, 0, 0, 0] t slices_S16x2x2048x128_S16x2x2048x64_0_0_0_0

def lowerA2 (t : FVec Ideal S16x2x2048x128 .f32) : FVec Ideal S16x2x2048x32 .f32 :=
  extractStridedSlice S16x2x2048x32 ![0, 0, 0, 0] (midA2 t) slices_S16x2x2048x64_S16x2x2048x32_0_0_0_0

def upperA2 (t : FVec Ideal S16x2x2048x128 .f32) : FVec Ideal S16x2x2048x32 .f32 :=
  extractStridedSlice S16x2x2048x32 ![0, 0, 0, 32] (midA2 t) slices_S16x2x2048x64_S16x2x2048x32_0_0_0_32

def rotA2 (t : FVec Ideal S16x2x2048x128 .f32) (c s : FVec Ideal S2048x32 .f32) : FVec Ideal S16x2x2048x64 .f32 :=
  concatenate S16x2x2048x64 3 [⟨S16x2x2048x32, subf (mulf (lowerA2 t) (tabA2 c)) (mulf (upperA2 t) (tabA2 s))⟩,
    ⟨S16x2x2048x32, addf (mulf (upperA2 t) (tabA2 c)) (mulf (lowerA2 t) (tabA2 s))⟩] concatenates_S16x2x2048x32_S16x2x2048x32_S16x2x2048x64_d3

def ropeA2 (t : FVec Ideal S16x2x2048x128 .f32) (c s : FVec Ideal S2048x32 .f32) : FVec Ideal S16x2x2048x128 .f32 :=
  concatenate S16x2x2048x128 3 [⟨S16x2x2048x0, extractStridedSlice S16x2x2048x0 ![0, 0, 0, 0] t slices_S16x2x2048x128_S16x2x2048x0_0_0_0_0⟩,
    ⟨S16x2x2048x64, rotA2 t c s⟩,
    ⟨S16x2x2048x64, extractStridedSlice S16x2x2048x64 ![0, 0, 0, 64] t slices_S16x2x2048x128_S16x2x2048x64_0_0_0_64⟩]
    concatenates_S16x2x2048x0_S16x2x2048x64_S16x2x2048x64_S16x2x2048x128_d3

theorem ropeA2_at (t : FVec Ideal S16x2x2048x128 .f32) (c s : FVec Ideal S2048x32 .f32) (b : Fin 16) (r : Fin 2048) (j : Fin 2) (l : Fin 128) :
    ropeA2 t c s (ix4 b j r l) = rotAH (fun l => t (ix4 b j r l)) (fun l => c (ix2 r l)) (fun l => s (ix2 r l)) l := by
  unfold ropeA2 rotA2 lowerA2 upperA2 midA2 tabA2 rotAH
  pointwise
  rw [dif_neg (Nat.not_lt_zero _)]
  by_cases h : l.val < 32
  · have h' : l.val < 64 := by omega
    simp only [h, h', dif_pos]
    refine subm ?_ ?_ ?_ ?_
    · exact at4 t b j r (by simp)
    · exact at2 c r (by simp)
    · exact at4 t b j r (by simp; omega)
    · exact at2 s r (by simp)
  · by_cases h' : l.val < 64
    · simp only [h, h', dif_pos, dif_neg, not_false_eq_true]
      refine addm ?_ ?_ ?_ ?_
      · exact at4 t b j r (by simp; omega)
      · exact at2 c r (by simp)
      · exact at4 t b j r (by simp)
      · exact at2 s r (by simp)
    · simp only [h, h', dif_neg, not_false_eq_true]
      exact at4 t b j r (by simp; omega)

def tabB8 (a : FVec Ideal S2048x16 .f32) : FVec Ideal S16x8x2048x16 .f32 :=
  broadcastInDim S16x8x2048x16 ![0, 1, 2, 3] bcast_S1x1x2048x16_S16x8x2048x16_0_1_2_3 (broadcastInDim S1x1x2048x16 ![2, 3] bcast_S2048x16_S1x1x2048x16_2_3 a)

def midB8 (t : FVec Ideal S16x8x2048x128 .f32) : FVec Ideal S16x8x2048x32 .f32 :=
  extractStridedSlice S16x8x2048x32 ![0, 0, 0, 64] t slices_S16x8x2048x128_S16x8x2048x32_0_0_0_64

def lowerB8 (t : FVec Ideal S16x8x2048x128 .f32) : FVec Ideal S16x8x2048x16 .f32 :=
  extractStridedSlice S16x8x2048x16 ![0, 0, 0, 0] (midB8 t) slices_S16x8x2048x32_S16x8x2048x16_0_0_0_0

def upperB8 (t : FVec Ideal S16x8x2048x128 .f32) : FVec Ideal S16x8x2048x16 .f32 :=
  extractStridedSlice S16x8x2048x16 ![0, 0, 0, 16] (midB8 t) slices_S16x8x2048x32_S16x8x2048x16_0_0_0_16

def rotB8 (t : FVec Ideal S16x8x2048x128 .f32) (c s : FVec Ideal S2048x16 .f32) : FVec Ideal S16x8x2048x32 .f32 :=
  concatenate S16x8x2048x32 3 [⟨S16x8x2048x16, subf (mulf (lowerB8 t) (tabB8 c)) (mulf (upperB8 t) (tabB8 s))⟩,
    ⟨S16x8x2048x16, addf (mulf (upperB8 t) (tabB8 c)) (mulf (lowerB8 t) (tabB8 s))⟩] concatenates_S16x8x2048x16_S16x8x2048x16_S16x8x2048x32_d3

def ropeB8 (t : FVec Ideal S16x8x2048x128 .f32) (c s : FVec Ideal S2048x16 .f32) : FVec Ideal S16x8x2048x128 .f32 :=
  concatenate S16x8x2048x128 3 [⟨S16x8x2048x64, extractStridedSlice S16x8x2048x64 ![0, 0, 0, 0] t slices_S16x8x2048x128_S16x8x2048x64_0_0_0_0⟩,
    ⟨S16x8x2048x32, rotB8 t c s⟩,
    ⟨S16x8x2048x32, extractStridedSlice S16x8x2048x32 ![0, 0, 0, 96] t slices_S16x8x2048x128_S16x8x2048x32_0_0_0_96⟩]
    concatenates_S16x8x2048x64_S16x8x2048x32_S16x8x2048x32_S16x8x2048x128_d3

theorem ropeB8_at (t : FVec Ideal S16x8x2048x128 .f32) (c s : FVec Ideal S2048x16 .f32) (b : Fin 16) (r : Fin 2048) (j : Fin 8) (l : Fin 128) :
    ropeB8 t c s (ix4 b j r l) = rotBH (fun l => t (ix4 b j r l)) (fun l => c (ix2 r l)) (fun l => s (ix2 r l)) l := by
  unfold ropeB8 rotB8 lowerB8 upperB8 midB8 tabB8 rotBH
  pointwise
  by_cases h0 : l.val < 64
  · rw [dif_pos h0, dif_pos h0]
  · by_cases h : l.val < 80
    · have g : l.val - 64 < 32 := by omega
      have g' : l.val - 64 < 16 := by omega
      simp only [h0, h, g, g', dif_pos, dif_neg, not_false_eq_true]
      refine subm ?_ ?_ ?_ ?_
      · exact at4 t b j r (by simp; omega)
      · exact at2 c r (by simp)
      · exact at4 t b j r (by simp; omega)
      · exact at2 s r (by simp)
    · by_cases h' : l.val < 96
      · have g : l.val - 64 < 32 := by omega
        have g' : ¬l.val - 64 < 16 := by omega
        simp only [h0, h, h', g, g', dif_pos, dif_neg, not_false_eq_true]
        refine addm ?_ ?_ ?_ ?_
        · exact at4 t b j r (by simp; omega)
        · exact at2 c r (by simp; omega)
        · exact at4 t b j r (by simp; omega)
        · exact at2 s r (by simp; omega)
      · have g : ¬l.val - 64 < 32 := by omega
        simp only [h0, h, h', g, dif_neg, not_false_eq_true]
        exact at4 t b j r (by simp; omega)

def tabB1 (a : FVec Ideal S2048x16 .f32) : FVec Ideal S16x1x2048x16 .f32 :=
  broadcastInDim S16x1x2048x16 ![0, 1, 2, 3] bcast_S1x1x2048x16_S16x1x2048x16_0_1_2_3 (broadcastInDim S1x1x2048x16 ![2, 3] bcast_S2048x16_S1x1x2048x16_2_3 a)

def midB1 (t : FVec Ideal S16x1x2048x128 .f32) : FVec Ideal S16x1x2048x32 .f32 :=
  extractStridedSlice S16x1x2048x32 ![0, 0, 0, 64] t slices_S16x1x2048x128_S16x1x2048x32_0_0_0_64

def lowerB1 (t : FVec Ideal S16x1x2048x128 .f32) : FVec Ideal S16x1x2048x16 .f32 :=
  extractStridedSlice S16x1x2048x16 ![0, 0, 0, 0] (midB1 t) slices_S16x1x2048x32_S16x1x2048x16_0_0_0_0

def upperB1 (t : FVec Ideal S16x1x2048x128 .f32) : FVec Ideal S16x1x2048x16 .f32 :=
  extractStridedSlice S16x1x2048x16 ![0, 0, 0, 16] (midB1 t) slices_S16x1x2048x32_S16x1x2048x16_0_0_0_16

def rotB1 (t : FVec Ideal S16x1x2048x128 .f32) (c s : FVec Ideal S2048x16 .f32) : FVec Ideal S16x1x2048x32 .f32 :=
  concatenate S16x1x2048x32 3 [⟨S16x1x2048x16, subf (mulf (lowerB1 t) (tabB1 c)) (mulf (upperB1 t) (tabB1 s))⟩,
    ⟨S16x1x2048x16, addf (mulf (upperB1 t) (tabB1 c)) (mulf (lowerB1 t) (tabB1 s))⟩] concatenates_S16x1x2048x16_S16x1x2048x16_S16x1x2048x32_d3

def ropeB1 (t : FVec Ideal S16x1x2048x128 .f32) (c s : FVec Ideal S2048x16 .f32) : FVec Ideal S16x1x2048x128 .f32 :=
  concatenate S16x1x2048x128 3 [⟨S16x1x2048x64, extractStridedSlice S16x1x2048x64 ![0, 0, 0, 0] t slices_S16x1x2048x128_S16x1x2048x64_0_0_0_0⟩,
    ⟨S16x1x2048x32, rotB1 t c s⟩,
    ⟨S16x1x2048x32, extractStridedSlice S16x1x2048x32 ![0, 0, 0, 96] t slices_S16x1x2048x128_S16x1x2048x32_0_0_0_96⟩]
    concatenates_S16x1x2048x64_S16x1x2048x32_S16x1x2048x32_S16x1x2048x128_d3

theorem ropeB1_at (t : FVec Ideal S16x1x2048x128 .f32) (c s : FVec Ideal S2048x16 .f32) (b : Fin 16) (r : Fin 2048) (j : Fin 1) (l : Fin 128) :
    ropeB1 t c s (ix4 b j r l) = rotBH (fun l => t (ix4 b j r l)) (fun l => c (ix2 r l)) (fun l => s (ix2 r l)) l := by
  obtain rfl : j = 0 := Subsingleton.elim _ _
  unfold ropeB1 rotB1 lowerB1 upperB1 midB1 tabB1 rotBH
  pointwise
  by_cases h0 : l.val < 64
  · rw [dif_pos h0, dif_pos h0]
  · by_cases h : l.val < 80
    · have g : l.val - 64 < 32 := by omega
      have g' : l.val - 64 < 16 := by omega
      simp only [h0, h, g, g', dif_pos, dif_neg, not_false_eq_true]
      refine subm ?_ ?_ ?_ ?_
      · exact at4 t b 0 r (by simp; omega)
      · exact at2 c r (by simp)
      · exact at4 t b 0 r (by simp; omega)
      · exact at2 s r (by simp)
    · by_cases h' : l.val < 96
      · have g : l.val - 64 < 32 := by omega
        have g' : ¬l.val - 64 < 16 := by omega
        simp only [h0, h, h', g, g', dif_pos, dif_neg, not_false_eq_true]
        refine addm ?_ ?_ ?_ ?_
        · exact at4 t b 0 r (by simp; omega)
        · exact at2 c r (by simp; omega)
        · exact at4 t b 0 r (by simp; omega)
        · exact at2 s r (by simp; omega)
      · have g : ¬l.val - 64 < 32 := by omega
        simp only [h0, h, h', g, dif_neg, not_false_eq_true]
        exact at4 t b 0 r (by simp; omega)

/-! ## The other stages at an index -/

theorem refX_at (x : Vec Ideal S32768x1024 .f32) (b : Fin 16) (s : Fin 2048) (d : Fin 1024) :
    refX x (ix3 b s d) = x (ix2 ⟨b.val * 2048 + s.val, by omega⟩ d) := by
  unfold refX
  pointwise

theorem refH_at (x : FVec Ideal S16x2048x1024 .f32) (g : Vec Ideal S1x1024 .f32) (sc sh : Vec Ideal S24x1x1024 .f32)
    (b : Fin 16) (s : Fin 2048) (d : Fin 1024) :
    refH x g sc sh (ix3 b s d) = Proj.hm (fun d => x (ix3 b s d)) (fun d => g (ix2 0 d)) (fun d => sc (ix3 ⟨b.val, by omega⟩ 0 d))
      (fun d => sh (ix3 ⟨b.val, by omega⟩ 0 d)) d := by
  unfold refH Proj.hm
  pointwise

theorem refP_at (h : FVec Ideal S16x2048x1024 .f32) (w : Vec Ideal S1024x2304 .bf16) (b : Fin 16) (s : Fin 2048) (e : Fin 2304) :
    refP h w (ix3 b s e) = lin (fun d => h (ix3 b s d)) (fun d e => w (ix2 d e)) e := by
  unfold refP lin
  pointwise [dot_S16x2048x1024_S1024x2304_S16x2048x2304_2_0_01_1_n_n]

theorem refQ_at (h : FVec Ideal S16x2048x384 .f32) (w : Vec Ideal S384x1024 .bf16) (b : Fin 16) (s : Fin 2048) (e : Fin 1024) :
    refQ h w (ix3 b s e) = lin (fun d => h (ix3 b s d)) (fun d e => w (ix2 d e)) e := by
  unfold refQ lin
  pointwise [dot_S16x2048x384_S384x1024_S16x2048x1024_2_0_01_1_n_n]

theorem refL_at (h : FVec Ideal S16x2048x256 .f32) (w : Vec Ideal S256x1024 .bf16) (b : Fin 16) (s : Fin 2048) (e : Fin 1024) :
    refL h w (ix3 b s e) = lin (fun d => h (ix3 b s d)) (fun d e => w (ix2 d e)) e := by
  unfold refL lin
  pointwise [dot_S16x2048x256_S256x1024_S16x2048x1024_2_0_01_1_n_n]

theorem cutCq_at (p : FVec Ideal S16x2048x2304 .f32) (b : Fin 16) (s : Fin 2048) (d : Fin 384) :
    cutCq p (ix3 b s d) = p (ix3 b s ⟨1536 + d.val, by omega⟩) := by
  unfold cutCq
  pointwise

theorem cutKv_at (p : FVec Ideal S16x2048x2304 .f32) (b : Fin 16) (s : Fin 2048) (d : Fin 256) :
    cutKv p (ix3 b s d) = p (ix3 b s ⟨1920 + d.val, by omega⟩) := by
  unfold cutKv
  pointwise

theorem heads8_at (t : FVec Ideal S16x2048x1024 .f32) (b : Fin 16) (s : Fin 2048) (j : Fin 8) (l : Fin 128) :
    heads8 t (ix4 b j s l) = t (ix3 b s ⟨j.val * 128 + l.val, by omega⟩) := by
  unfold heads8
  pointwise

theorem headsQa_at (p : FVec Ideal S16x2048x2304 .f32) (b : Fin 16) (s : Fin 2048) (j : Fin 8) (l : Fin 128) :
    headsQa p (ix4 b j s l) = p (ix3 b s ⟨j.val * 128 + l.val, by omega⟩) := by
  unfold headsQa heads8
  pointwise

theorem headsKa_at (p : FVec Ideal S16x2048x2304 .f32) (b : Fin 16) (s : Fin 2048) (j : Fin 2) (l : Fin 128) :
    headsKa p (ix4 b j s l) = p (ix3 b s ⟨1024 + (j.val * 128 + l.val), by omega⟩) := by
  unfold headsKa heads2
  pointwise

theorem headsKr_at (p : FVec Ideal S16x2048x2304 .f32) (b : Fin 16) (s : Fin 2048) (l : Fin 128) :
    headsKr p (ix4 b 0 s l) = p (ix3 b s ⟨2176 + l.val, by omega⟩) := by
  unfold headsKr heads1
  pointwise

/-! ## The results -/

def out8 (t : FVec Ideal S16x8x2048x128 .f32) : FVec Ideal S32768x1024 .bf16 :=
  truncf .bf16 (shapeCast _ (transpose S16x2048x8x128 [0, 2, 1, 3] t transposes_S16x8x2048x128_S16x2048x8x128_0_2_1_3) shapeCasts_S16x2048x8x128_S32768x1024) bitsLt_bf16_f32

def out2 (t : FVec Ideal S16x2x2048x128 .f32) : FVec Ideal S32768x256 .bf16 :=
  truncf .bf16 (shapeCast _ (transpose S16x2048x2x128 [0, 2, 1, 3] t transposes_S16x2x2048x128_S16x2048x2x128_0_2_1_3) shapeCasts_S16x2048x2x128_S32768x256) bitsLt_bf16_f32

def scaled (t : FVec Ideal S16x8x2048x128 .f32) (b : BitVec 32) : FVec Ideal S16x8x2048x128 .f32 :=
  mulf t (broadcastInDim S16x8x2048x128 ![] bcast_S_S16x8x2048x128 (constant S_ .f32 b))

def outVa (p : FVec Ideal S16x2048x2304 .f32) : FVec Ideal S32768x256 .bf16 :=
  truncf .bf16 (shapeCast _ (extractStridedSlice S16x2048x256 ![0, 0, 1280] p slices_S16x2048x2304_S16x2048x256_0_0_1280) shapeCasts_S16x2048x256_S32768x256) bitsLt_bf16_f32

def outVb (t : FVec Ideal S16x2048x1024 .f32) : FVec Ideal S32768x1024 .bf16 :=
  truncf .bf16 (shapeCast _ t shapeCasts_S16x2048x1024_S32768x1024) bitsLt_bf16_f32

/-- A key head with the rotated part added. -/
def summed (k : FVec Ideal S16x8x2048x128 .f32) (z : FVec Ideal S16x1x2048x128 .f32) : FVec Ideal S16x8x2048x128 .f32 :=
  addf k (broadcastInDim S16x8x2048x128 ![0, 1, 2, 3] bcast_S16x1x2048x128_S16x8x2048x128_0_1_2_3 z)

theorem out8_at (t : FVec Ideal S16x8x2048x128 .f32) (R : Fin 32768) (L : Fin 1024) :
    out8 t (ix2 R L) = t (ix4 ⟨R.val / 2048, by omega⟩ ⟨L.val / 128, by omega⟩ ⟨R.val % 2048, by omega⟩ ⟨L.val % 128, by omega⟩) := by
  unfold out8
  pointwise

theorem out2_at (t : FVec Ideal S16x2x2048x128 .f32) (R : Fin 32768) (L : Fin 256) :
    out2 t (ix2 R L) = t (ix4 ⟨R.val / 2048, by omega⟩ ⟨L.val / 128, by omega⟩ ⟨R.val % 2048, by omega⟩ ⟨L.val % 128, by omega⟩) := by
  unfold out2
  pointwise

theorem scaled_at (t : FVec Ideal S16x8x2048x128 .f32) (w : BitVec 32) (b : Fin 16) (j : Fin 8) (s : Fin 2048) (l : Fin 128) :
    scaled t w (ix4 b j s l) = t (ix4 b j s l) * Ideal.ofBits FTy.f32 w := by
  unfold scaled
  pointwise

theorem summed_at (k : FVec Ideal S16x8x2048x128 .f32) (z : FVec Ideal S16x1x2048x128 .f32) (b : Fin 16) (j : Fin 8) (s : Fin 2048) (l : Fin 128) :
    summed k z (ix4 b j s l) = k (ix4 b j s l) + z (ix4 b 0 s l) := by
  unfold summed
  pointwise

theorem outVa_at (p : FVec Ideal S16x2048x2304 .f32) (R : Fin 32768) (L : Fin 256) :
    outVa p (ix2 R L) = p (ix3 ⟨R.val / 2048, by omega⟩ ⟨R.val % 2048, by omega⟩ ⟨1280 + L.val, by omega⟩) := by
  unfold outVa
  pointwise

theorem outVb_at (t : FVec Ideal S16x2048x1024 .f32) (R : Fin 32768) (L : Fin 1024) :
    outVb t (ix2 R L) = t (ix3 ⟨R.val / 2048, by omega⟩ ⟨R.val % 2048, by omega⟩ L) := by
  unfold outVb
  pointwise

section Values

variable (m : (ℓ : Loc nD τ sig) → Buf (Elt Ideal) ℓ) (c : Dev nD)

/-- The product, the query latent's product and the normalised key-value latent, from the arguments. -/
def prod : FVec Ideal S16x2048x2304 .f32 :=
  refP (refH (refX (m ((c.tc : Thread nD τ).loc main_arg0))) (m ((c.tc : Thread nD τ).loc main_arg1)) (m ((c.tc : Thread nD τ).loc main_arg2))
    (m ((c.tc : Thread nD τ).loc main_arg3))) (m ((c.tc : Thread nD τ).loc main_arg4))

def latQ : FVec Ideal S16x2048x1024 .f32 := refQ (refCq (cutCq (prod m c)) (m ((c.tc : Thread nD τ).loc main_arg5))) (m ((c.tc : Thread nD τ).loc main_arg6))

def latK : FVec Ideal S16x2048x256 .f32 := refKv (cutKv (prod m c)) (m ((c.tc : Thread nD τ).loc main_arg7))

/-- The six results, from the arguments. -/
def resQa : FVec Ideal S32768x1024 .bf16 := out8 (scaled (ropeA8 (headsQa (prod m c)) (Host.cos angsA) (Host.sin angsA)) 0x3E38AA3B#32)
def resKa : FVec Ideal S32768x256 .bf16 := out2 (ropeA2 (headsKa (prod m c)) (Host.cos angsA) (Host.sin angsA))
def resVa : FVec Ideal S32768x256 .bf16 := outVa (prod m c)
def resQb : FVec Ideal S32768x1024 .bf16 := out8 (scaled (ropeB8 (heads8 (latQ m c)) (Host.cos angsB) (Host.sin angsB)) 0x3E16C740#32)
def resKb : FVec Ideal S32768x1024 .bf16 :=
  out8 (summed (heads8 (refL (latK m c) (m ((c.tc : Thread nD τ).loc main_arg8)))) (ropeB1 (headsKr (prod m c)) (Host.cos angsB) (Host.sin angsB)))
def resVb : FVec Ideal S32768x1024 .bf16 := outVb (refL (latK m c) (m ((c.tc : Thread nD τ).loc main_arg9)))

/-- Row `R` of the product, and of the weights' rows. -/
def prow (R : Fin 32768) : Fin 2304 → EReal :=
  lin (Proj.hm (fun d => (m ((c.tc : Thread nD τ).loc main_arg0) : Vec Ideal S32768x1024 .f32) (ix2 R d))
      (fun d => (m ((c.tc : Thread nD τ).loc main_arg1) : Vec Ideal S1x1024 .f32) (ix2 0 d))
      (fun d => (m ((c.tc : Thread nD τ).loc main_arg2) : Vec Ideal S24x1x1024 .f32) (ix3 ⟨R.val / 2048, by omega⟩ 0 d))
      (fun d => (m ((c.tc : Thread nD τ).loc main_arg3) : Vec Ideal S24x1x1024 .f32) (ix3 ⟨R.val / 2048, by omega⟩ 0 d)))
    (fun d e => (m ((c.tc : Thread nD τ).loc main_arg4) : Vec Ideal S1024x2304 .bf16) (ix2 d e))

def qrow (R : Fin 32768) : Fin 1024 → EReal :=
  lq (prow m c R) (fun d => (m ((c.tc : Thread nD τ).loc main_arg5) : Vec Ideal S1x384 .f32) (ix2 0 d))
    (fun d e => (m ((c.tc : Thread nD τ).loc main_arg6) : Vec Ideal S384x1024 .bf16) (ix2 d e))

def krow (R : Fin 32768) : Fin 1024 → EReal :=
  lin (lk (prow m c R) (fun d => (m ((c.tc : Thread nD τ).loc main_arg7) : Vec Ideal S1x256 .f32) (ix2 0 d)))
    (fun d e => (m ((c.tc : Thread nD τ).loc main_arg8) : Vec Ideal S256x1024 .bf16) (ix2 d e))

def vrow (R : Fin 32768) : Fin 1024 → EReal :=
  lin (lk (prow m c R) (fun d => (m ((c.tc : Thread nD τ).loc main_arg7) : Vec Ideal S1x256 .f32) (ix2 0 d)))
    (fun d e => (m ((c.tc : Thread nD τ).loc main_arg9) : Vec Ideal S256x1024 .bf16) (ix2 d e))

theorem prod_at (R : Fin 32768) (e : Fin 2304) : prod m c (ix3 ⟨R.val / 2048, by omega⟩ ⟨R.val % 2048, by omega⟩ e) = prow m c R e := by
  have hR : (⟨R.val / 2048 * 2048 + R.val % 2048, by omega⟩ : Fin 32768) = R := Fin.ext (show R.val / 2048 * 2048 + R.val % 2048 = R.val by omega)
  unfold prod prow
  simp only [refP_at, refH_at, refX_at, hR]

theorem latQ_at (R : Fin 32768) (e : Fin 1024) : latQ m c (ix3 ⟨R.val / 2048, by omega⟩ ⟨R.val % 2048, by omega⟩ e) = qrow m c R e := by
  unfold latQ qrow lq
  simp only [refQ_at, refCq_at, cutCq_at, prod_at]

theorem latK_at (R : Fin 32768) (d : Fin 256) : latK m c (ix3 ⟨R.val / 2048, by omega⟩ ⟨R.val % 2048, by omega⟩ d)
    = lk (prow m c R) (fun d => (m ((c.tc : Thread nD τ).loc main_arg7) : Vec Ideal S1x256 .f32) (ix2 0 d)) d := by
  unfold latK lk
  simp only [refKv_at, cutKv_at, prod_at]

theorem resQa_at (R : Fin 32768) (L : Fin 1024) : resQa m c (ix2 R L) = rqa (prow m c R) ⟨R.val % 2048, by omega⟩ L := by
  unfold resQa rqa turnA
  rw [out8_at, scaled_at, ropeA8_at]
  simp only [headsQa_at, prod_at, ← angsA_at]
  rfl

theorem resKa_at (R : Fin 32768) (L : Fin 256) : resKa m c (ix2 R L) = rka (prow m c R) ⟨R.val % 2048, by omega⟩ L := by
  unfold resKa rka turnA
  rw [out2_at, ropeA2_at]
  simp only [headsKa_at, prod_at, ← angsA_at]
  rfl

theorem resVa_at (R : Fin 32768) (L : Fin 256) : resVa m c (ix2 R L) = rva (prow m c R) L := by
  unfold resVa rva
  rw [outVa_at, prod_at]

theorem resQb_at (R : Fin 32768) (L : Fin 1024) : resQb m c (ix2 R L) = rqb (qrow m c R) ⟨R.val % 2048, by omega⟩ L := by
  unfold resQb rqb turnB
  rw [out8_at, scaled_at, ropeB8_at]
  simp only [heads8_at, latQ_at, ← angsB_at]
  rfl

theorem resKb_at (R : Fin 32768) (L : Fin 1024) : resKb m c (ix2 R L) = rkb (prow m c R) (krow m c R) ⟨R.val % 2048, by omega⟩ L := by
  have e : (⟨L.val / 128 * 128 + L.val % 128, by omega⟩ : Fin 1024) = L := Fin.ext (show L.val / 128 * 128 + L.val % 128 = L.val by omega)
  unfold resKb rkb turnB krow
  rw [out8_at, summed_at, ropeB1_at, heads8_at, refL_at]
  simp only [headsKr_at, latK_at, prod_at, e, ← angsB_at]
  rfl

theorem resVb_at (R : Fin 32768) (L : Fin 1024) : resVb m c (ix2 R L) = vrow m c R L := by
  unfold resVb vrow
  rw [outVb_at, refL_at]
  simp only [latK_at]

end Values

end Cert.AbRef

end
-- ==== Proof.AbEq.lean ====
/-
  The kernel of the even layer's latents against its reference: the six results, and the reference's frame.
-/
module

public import proofs.«01_k».proof.Defs
public import proofs.«01_k».proof.Proof.AbArr
public import proofs.«01_k».proof.Proof.AbRef
public import proofs.«01_k».proof.Proof.Gen.ProjectABIdeal.Frame

@[expose] public section

set_option maxRecDepth 16384

noncomputable section

namespace Cert.AbEq

open Idealize.ShloMosaic Idealize.SL.Sem

theorem frame_reference : Cert.quiescent_ProjectABReferenceIdeal (hProjectABReferenceIdeal := Cert.ProjectABReferenceIdeal.Gen.facts) := fun m ρ _ =>
  (θ_run Cert.ProjectABReferenceIdeal.defs _ _).mono (fun _ h => ⟨fun c => (h c).2.2.2.2.2.2, sem_eq_zero_of_no_sems rfl _⟩)
    (Cert.ProjectABReferenceIdeal.Value.run m ρ)

theorem project : Cert.algebraic_ProjectABIdeal_ProjectABReferenceIdeal (hProjectABIdeal := Cert.ProjectABIdeal.Gen.facts)
    (hProjectABReferenceIdeal := Cert.ProjectABReferenceIdeal.Gen.facts) := by
  intro m g m' g' _ hagree
  refine ⟨fun c => AbRef.resQa m' c, fun c => AbRef.resKa m' c, fun c => AbRef.resVa m' c, fun c => AbRef.resQb m' c, fun c => AbRef.resKb m' c,
    fun c => AbRef.resVb m' c, ?_, ?_⟩
  · refine (θ_run _ _ _).mono (fun r h c => ?_) (Cert.ProjectABIdeal.Value.run_blocks m g)
    obtain ⟨h14, h15, h16, h17, h18, h19, hk⟩ := h c
    obtain ⟨a0, a1, a2, a3, a4, a5, a6, a7, a8, a9⟩ := hagree c
    have ix (n : ℕ) (k : ℕ) (i : (⟨2, ![n, k]⟩ : Shape).Idx) : ix2 (i 0 : Fin n) (i 1 : Fin k) = i := by
      funext a; fin_cases a <;> rfl
    have p (R : Fin 32768) : AbKer.prow m c R = AbRef.prow m' c R := by
      unfold AbKer.prow AbRef.prow
      rw [a0, a1, a2, a3, a4]
    have q (R : Fin 32768) : AbKer.qrow m c R = AbRef.qrow m' c R := by
      unfold AbKer.qrow AbRef.qrow
      rw [p, a5, a6]
    have k (R : Fin 32768) : AbKer.krow m c R = AbRef.krow m' c R := by
      unfold AbKer.krow AbRef.krow
      rw [p, a7, a8]
    have v (R : Fin 32768) : AbKer.vrow m c R = AbRef.vrow m' c R := by
      unfold AbKer.vrow AbRef.vrow
      rw [p, a7, a9]
    have eQa (R : Fin 32768) (L : Fin 1024) : AbKer.qaarr m c R L = AbRef.resQa m' c (ix2 R L) := by
      unfold AbKer.qaarr
      rw [AbRef.resQa_at, p]
    have eKa (R : Fin 32768) (L : Fin 256) : AbKer.kaarr m c R L = AbRef.resKa m' c (ix2 R L) := by
      unfold AbKer.kaarr
      rw [AbRef.resKa_at, p]
    have eVa (R : Fin 32768) (L : Fin 256) : AbKer.vaarr m c R L = AbRef.resVa m' c (ix2 R L) := by
      unfold AbKer.vaarr
      rw [AbRef.resVa_at, p]
    have eQb (R : Fin 32768) (L : Fin 1024) : AbKer.qbarr m c R L = AbRef.resQb m' c (ix2 R L) := by
      unfold AbKer.qbarr
      rw [AbRef.resQb_at, q]
    have eKb (R : Fin 32768) (L : Fin 1024) : AbKer.kbarr m c R L = AbRef.resKb m' c (ix2 R L) := by
      unfold AbKer.kbarr
      rw [AbRef.resKb_at, p, k]
    have eVb (R : Fin 32768) (L : Fin 1024) : AbKer.vbarr m c R L = AbRef.resVb m' c (ix2 R L) := by
      unfold AbKer.vbarr
      rw [AbRef.resVb_at, v]
    refine ⟨h14.trans ((AbKer.arrqa m c).trans (funext fun i => (eQa (i 0) (i 1)).trans (congrArg _ (ix 32768 1024 i)))),
      h15.trans ((AbKer.arrka m c).trans (funext fun i => (eKa (i 0) (i 1)).trans (congrArg _ (ix 32768 256 i)))),
      h16.trans ((AbKer.arrva m c).trans (funext fun i => (eVa (i 0) (i 1)).trans (congrArg _ (ix 32768 256 i)))),
      h17.trans ((AbKer.arrqb m c).trans (funext fun i => (eQb (i 0) (i 1)).trans (congrArg _ (ix 32768 1024 i)))),
      h18.trans ((AbKer.arrkb m c).trans (funext fun i => (eKb (i 0) (i 1)).trans (congrArg _ (ix 32768 1024 i)))),
      h19.trans ((AbKer.arrvb m c).trans (funext fun i => (eVb (i 0) (i 1)).trans (congrArg _ (ix 32768 1024 i)))), hk⟩
  · refine (θ_run _ _ _).mono (fun r h c => ?_) (Cert.ProjectABReferenceIdeal.Value.run m' g')
    obtain ⟨h1, h2, h3, h4, h5, h6, hk⟩ := h c
    exact ⟨h1, h2, h3, h4, h5, h6, hk⟩

end Cert.AbEq

end
-- ==== Proof.OutcRun.lean ====
/-
  One grid point of the output projection: what it stores, and that it stores it.
-/
module

public import proofs.«01_k».proof.Proof.Gen.OutCIdeal.Launch
public import proofs.«01_k».proof.Proof.Gen.OutCIdeal.Skeleton
public import Idealize.ShloMosaic.Lib.Pipeline.FrameBody
public import Idealize.ShloMosaic.Lib.Claim
public import Idealize.ShloMosaic.Lib.Ring
public import Idealize.ShloMosaic.Lib.Tactic
public import Idealize.ShloMosaic.Lib.Pipeline.Value
public import Idealize.ShloMosaic.Lib.Pipeline.ValueKit
public import Idealize.ShloMosaic.Lib.Pointwise
public import Idealize.ShloMosaic.Lib.Pipeline.Kit

@[expose] public section

set_option maxRecDepth 16384

noncomputable section

namespace Cert.OutCIdeal.Hand

open Cert.OutCIdeal Cert.OutCIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

abbrev w512x1024 : Rect S512x1024 := Rect.unit (s := S512x1024) ![0, 0] S512x1024.size inb_S512x1024_S512x1024_0_0
abbrev w1024x1024 : Rect S1024x1024 := Rect.unit (s := S1024x1024) ![0, 0] S1024x1024.size inb_S1024x1024_S1024x1024_0_0
abbrev w1x1x1024 : Rect S1x1x1024 := Rect.unit (s := S1x1x1024) ![0, 0, 0] S1x1x1024.size inb_S1x1x1024_S1x1x1024_0_0_0
abbrev w1x1024 : Rect S1x1024 := Rect.unit (s := S1x1024) ![0, 0] S1x1024.size inb_S1x1024_S1x1024_0_0
abbrev w1024x256 : Rect S1024x256 := Rect.unit (s := S1024x256) ![0, 0] S1024x256.size inb_S1024x256_S1024x256_0_0
abbrev w1x128 : Rect S1x128 := Rect.unit (s := S1x128) ![0, 0] S1x128.size inb_S1x128_S1x128_0_0
abbrev w512x8 : Rect S512x8 := Rect.unit (s := S512x8) ![0, 0] S512x8.size inb_S512x8_S512x8_0_0
/-- The first half of the router's columns. -/
abbrev wHalf : Rect S1024x256 := Rect.unit (s := S1024x256) ![0, 0] S1024x128.size inb_S1024x256_S1024x128_0_0
abbrev s0 : Rect S4096x128 := ⟨⟨![0, 0], S512x128.size, ![8, 1], inb_S4096x128_S512x128_0_0_s_8_1⟩, spos_8_1⟩
abbrev s1 : Rect S4096x128 := ⟨⟨![1, 0], S512x128.size, ![8, 1], inb_S4096x128_S512x128_1_0_s_8_1⟩, spos_8_1⟩
abbrev s2 : Rect S4096x128 := ⟨⟨![2, 0], S512x128.size, ![8, 1], inb_S4096x128_S512x128_2_0_s_8_1⟩, spos_8_1⟩
abbrev s3 : Rect S4096x128 := ⟨⟨![3, 0], S512x128.size, ![8, 1], inb_S4096x128_S512x128_3_0_s_8_1⟩, spos_8_1⟩
abbrev s4 : Rect S4096x128 := ⟨⟨![4, 0], S512x128.size, ![8, 1], inb_S4096x128_S512x128_4_0_s_8_1⟩, spos_8_1⟩
abbrev s5 : Rect S4096x128 := ⟨⟨![5, 0], S512x128.size, ![8, 1], inb_S4096x128_S512x128_5_0_s_8_1⟩, spos_8_1⟩
abbrev s6 : Rect S4096x128 := ⟨⟨![6, 0], S512x128.size, ![8, 1], inb_S4096x128_S512x128_6_0_s_8_1⟩, spos_8_1⟩
abbrev s7 : Rect S4096x128 := ⟨⟨![7, 0], S512x128.size, ![8, 1], inb_S4096x128_S512x128_7_0_s_8_1⟩, spos_8_1⟩

/-- The block's rows: the residual plus the gated product. -/
def mixW (x0 : Vec F S512x1024 .bf16) (x1 : Vec F S1024x1024 .bf16) (x2 : Vec F S512x1024 .f32) (x3 : Vec F S1x1x1024 .f32) (x4 : Vec F S1x1024 .f32) (x5 x6 : Vec F S1x1x1024 .f32) (x7 : Vec F S1024x256 .bf16) (x8 : Vec F S1x128 .f32) : FVec F S512x1024 .f32 := k0_pay3 (View.ld x0 w512x1024) (View.ld x1 w1024x1024) (View.ld x2 w512x1024) (View.ld x3 w1x1x1024)
/-- The block's tokens, a row each. -/
def tokW (x0 : Vec F S512x1024 .bf16) (x1 : Vec F S1024x1024 .bf16) (x2 : Vec F S512x1024 .f32) (x3 : Vec F S1x1x1024 .f32) (x4 : Vec F S1x1024 .f32) (x5 x6 : Vec F S1x1x1024 .f32) (x7 : Vec F S1024x256 .bf16) (x8 : Vec F S1x128 .f32) : FVec F S512x1024 .f32 := k0_pay4 (View.ld x0 w512x1024) (View.ld x1 w1024x1024) (View.ld x2 w512x1024) (View.ld x3 w1x1x1024) (View.ld x4 w1x1024) (View.ld x5 w1x1x1024) (View.ld x6 w1x1x1024)
/-- The router's scores of the block's tokens. -/
def lgW (x0 : Vec F S512x1024 .bf16) (x1 : Vec F S1024x1024 .bf16) (x2 : Vec F S512x1024 .f32) (x3 : Vec F S1x1x1024 .f32) (x4 : Vec F S1x1024 .f32) (x5 x6 : Vec F S1x1x1024 .f32) (x7 : Vec F S1024x256 .bf16) (x8 : Vec F S1x128 .f32) : FVec F S512x128 .f32 := k0_pay13 (tokW x0 x1 x2 x3 x4 x5 x6 x7 x8) (View.ld x7 w1024x256) (View.ld x7 wHalf)
/-- The block's chosen experts and their weights. -/
def idxW (x0 : Vec F S512x1024 .bf16) (x1 : Vec F S1024x1024 .bf16) (x2 : Vec F S512x1024 .f32) (x3 : Vec F S1x1x1024 .f32) (x4 : Vec F S1x1024 .f32) (x5 x6 : Vec F S1x1x1024 .f32) (x7 : Vec F S1024x256 .bf16) (x8 : Vec F S1x128 .f32) : IVec S512x8 32 := k0_pay1 (k0_pay27 (k0_pay26 (lgW x0 x1 x2 x3 x4 x5 x6 x7 x8) (View.ld x8 w1x128))) (iota .tc S512x8 32 [1] iota_S512x8_d1_w32) (k0_pay34 (k0_pay17 (lgW x0 x1 x2 x3 x4 x5 x6 x7 x8) (View.ld x8 w1x128)) (k0_pay20 (lgW x0 x1 x2 x3 x4 x5 x6 x7 x8) (View.ld x8 w1x128)) (k0_pay23 (lgW x0 x1 x2 x3 x4 x5 x6 x7 x8) (View.ld x8 w1x128)))
def gateW (x0 : Vec F S512x1024 .bf16) (x1 : Vec F S1024x1024 .bf16) (x2 : Vec F S512x1024 .f32) (x3 : Vec F S1x1x1024 .f32) (x4 : Vec F S1x1024 .f32) (x5 x6 : Vec F S1x1x1024 .f32) (x7 : Vec F S1024x256 .bf16) (x8 : Vec F S1x128 .f32) : FVec F S512x8 .f32 := k0_pay2 (k0_pay31 (k0_pay16 (lgW x0 x1 x2 x3 x4 x5 x6 x7 x8) (View.ld x8 w1x128)) (k0_pay25 (lgW x0 x1 x2 x3 x4 x5 x6 x7 x8) (View.ld x8 w1x128))) (k0_pay32 (k0_pay16 (lgW x0 x1 x2 x3 x4 x5 x6 x7 x8) (View.ld x8 w1x128)) (k0_pay19 (lgW x0 x1 x2 x3 x4 x5 x6 x7 x8) (View.ld x8 w1x128)) (k0_pay22 (lgW x0 x1 x2 x3 x4 x5 x6 x7 x8) (View.ld x8 w1x128)) (k0_pay25 (lgW x0 x1 x2 x3 x4 x5 x6 x7 x8) (View.ld x8 w1x128))) (iota .tc S512x8 32 [1] iota_S512x8_d1_w32) (k0_pay33 (k0_pay16 (lgW x0 x1 x2 x3 x4 x5 x6 x7 x8) (View.ld x8 w1x128)) (k0_pay19 (lgW x0 x1 x2 x3 x4 x5 x6 x7 x8) (View.ld x8 w1x128)) (k0_pay22 (lgW x0 x1 x2 x3 x4 x5 x6 x7 x8) (View.ld x8 w1x128)) (k0_pay25 (lgW x0 x1 x2 x3 x4 x5 x6 x7 x8) (View.ld x8 w1x128))) k0_pay35 (k0_pay36 (k0_pay16 (lgW x0 x1 x2 x3 x4 x5 x6 x7 x8) (View.ld x8 w1x128)) (k0_pay19 (lgW x0 x1 x2 x3 x4 x5 x6 x7 x8) (View.ld x8 w1x128)) (k0_pay22 (lgW x0 x1 x2 x3 x4 x5 x6 x7 x8) (View.ld x8 w1x128)) (k0_pay25 (lgW x0 x1 x2 x3 x4 x5 x6 x7 x8) (View.ld x8 w1x128)))
/-- The tokens as stored: row `8 r + j` holds columns `128 j …` of token `r`. -/
def lay (G : FVec F S512x1024 .f32) : FVec F S4096x128 .f32 := fun y => G (ix2 ⟨(y 0).val / 8, by have : (y 0).val < 4096 := (y 0).isLt; omega⟩
  ⟨(y 0).val % 8 * 128 + (y 1).val, by have : (y 1).val < 128 := (y 1).isLt; omega⟩)
def tokB (x0 : Vec F S512x1024 .bf16) (x1 : Vec F S1024x1024 .bf16) (x2 : Vec F S512x1024 .f32) (x3 : Vec F S1x1x1024 .f32) (x4 : Vec F S1x1024 .f32) (x5 x6 : Vec F S1x1x1024 .f32) (x7 : Vec F S1024x256 .bf16) (x8 : Vec F S1x128 .f32) : FVec F S4096x128 .f32 := lay (tokW x0 x1 x2 x3 x4 x5 x6 x7 x8)

/-- Eight stores with stride eight, read back as one block. -/
theorem stores_eq (v : View sig .tc .vmem S4096x128 .f32) (f : v.ty.Contents (Elt F)) (G : FVec F S512x1024 .f32) (p0 p1 p2 p3 p4 p5 p6 p7 : FVec F S512x128 .f32)
    (h0 : ∀ r l, p0 (ix2 r l) = G (ix2 r ⟨0 * 128 + l.val, by omega⟩))
    (h1 : ∀ r l, p1 (ix2 r l) = G (ix2 r ⟨1 * 128 + l.val, by omega⟩))
    (h2 : ∀ r l, p2 (ix2 r l) = G (ix2 r ⟨2 * 128 + l.val, by omega⟩))
    (h3 : ∀ r l, p3 (ix2 r l) = G (ix2 r ⟨3 * 128 + l.val, by omega⟩))
    (h4 : ∀ r l, p4 (ix2 r l) = G (ix2 r ⟨4 * 128 + l.val, by omega⟩))
    (h5 : ∀ r l, p5 (ix2 r l) = G (ix2 r ⟨5 * 128 + l.val, by omega⟩))
    (h6 : ∀ r l, p6 (ix2 r l) = G (ix2 r ⟨6 * 128 + l.val, by omega⟩))
    (h7 : ∀ r l, p7 (ix2 r l) = G (ix2 r ⟨7 * 128 + l.val, by omega⟩)) :
    v.read (Elt F) (v.writes (Elt F) f [⟨s7, p7⟩, ⟨s6, p6⟩, ⟨s5, p5⟩, ⟨s4, p4⟩, ⟨s3, p3⟩, ⟨s2, p2⟩, ⟨s1, p1⟩, ⟨s0, p0⟩]) = lay G := by
  have hm : ∀ (y : S4096x128.Idx) (j : ℕ) (hi) (hj : (y 0).val % 8 = j), y ∈ (⟨⟨![j, 0], S512x128.size, ![8, 1], hi⟩, spos_8_1⟩ : Rect S4096x128).set := by
    intro y j hi hj
    have hy : (y 0).val < 4096 := (y 0).isLt
    refine (LoadRect.mem_set _).2 fun a => ?_
    fin_cases a
    · exact ⟨(y 0).val / 8, by show (y 0).val / 8 < 512; omega, by show (y 0).val = j + 8 * ((y 0).val / 8); omega⟩
    · exact ⟨(y 1).val, (y 1).isLt, by show (y 1).val = 0 + 1 * (y 1).val; omega⟩
  have hc : ∀ y : S4096x128.Idx, ∃ p ∈ ([⟨s7, p7⟩, ⟨s6, p6⟩, ⟨s5, p5⟩, ⟨s4, p4⟩, ⟨s3, p3⟩, ⟨s2, p2⟩, ⟨s1, p1⟩, ⟨s0, p0⟩] : List (View.Piece (Elt F) S4096x128 .f32)), y ∈ p.1.set := by
    intro y
    obtain h | h | h | h | h | h | h | h : (y 0).val % 8 = 0 ∨ (y 0).val % 8 = 1 ∨ (y 0).val % 8 = 2 ∨ (y 0).val % 8 = 3 ∨ (y 0).val % 8 = 4 ∨ (y 0).val % 8 = 5 ∨ (y 0).val % 8 = 6 ∨ (y 0).val % 8 = 7 := by omega
    · exact ⟨⟨s0, p0⟩, by simp, hm y 0 _ h⟩
    · exact ⟨⟨s1, p1⟩, by simp, hm y 1 _ h⟩
    · exact ⟨⟨s2, p2⟩, by simp, hm y 2 _ h⟩
    · exact ⟨⟨s3, p3⟩, by simp, hm y 3 _ h⟩
    · exact ⟨⟨s4, p4⟩, by simp, hm y 4 _ h⟩
    · exact ⟨⟨s5, p5⟩, by simp, hm y 5 _ h⟩
    · exact ⟨⟨s6, p6⟩, by simp, hm y 6 _ h⟩
    · exact ⟨⟨s7, p7⟩, by simp, hm y 7 _ h⟩
  rw [View.read_writes_eq_canon _ _ _ hc]
  funext y
  refine View.canon_apply_of_pieces (lay G) _ ?_ y (hc y)
  have key : ∀ (j : ℕ) (hj : j < 8) (hi) (p : FVec F S512x128 .f32) (hp : ∀ r l, p (ix2 r l) = G (ix2 r ⟨j * 128 + l.val, by omega⟩)) (x : S512x128.Idx),
      p x = lay G ((⟨⟨![j, 0], S512x128.size, ![8, 1], hi⟩, spos_8_1⟩ : Rect S4096x128).emb x) := by
    intro j hj hi p hp x
    obtain ⟨r, l, rfl⟩ : ∃ (r : Fin 512) (l : Fin 128), x = ix2 r l := ⟨x 0, x 1, by funext a; fin_cases a <;> rfl⟩
    rw [hp]
    have e0 : ((⟨⟨![j, 0], S512x128.size, ![8, 1], hi⟩, spos_8_1⟩ : Rect S4096x128).emb (ix2 r l) 0 : ℕ) = j + 8 * r.val := rfl
    have e1 : ((⟨⟨![j, 0], S512x128.size, ![8, 1], hi⟩, spos_8_1⟩ : Rect S4096x128).emb (ix2 r l) 1 : ℕ) = 0 + 1 * l.val := rfl
    have k0 : r.val = (j + 8 * r.val) / 8 := by omega
    have k1 : j * 128 + l.val = (j + 8 * r.val) % 8 * 128 + (0 + 1 * l.val) := by omega
    unfold lay
    congr 1
    funext a
    fin_cases a
    · exact Fin.ext k0
    · exact Fin.ext k1
  intro p hp
  simp only [List.mem_cons, List.not_mem_nil, or_false] at hp
  rcases hp with rfl | rfl | rfl | rfl | rfl | rfl | rfl | rfl
  · exact key 7 (by omega) _ p7 h7
  · exact key 6 (by omega) _ p6 h6
  · exact key 5 (by omega) _ p5 h5
  · exact key 4 (by omega) _ p4 h4
  · exact key 3 (by omega) _ p3 h3
  · exact key 2 (by omega) _ p2 h2
  · exact key 1 (by omega) _ p1 h1
  · exact key 0 (by omega) _ p0 h0

/-- 128 columns of a block at a row and a lane. -/
theorem slice_at (G : FVec F S512x1024 .f32) (o : ℕ) (h : S512x1024.Slices ![0, o] S512x128) (h' : ∀ l : Fin 128, o + l.val < 1024)
    (r : Fin 512) (l : Fin 128) : extractStridedSlice S512x128 ![0, o] G h (ix2 r l) = G (ix2 r ⟨o + l.val, h' l⟩) :=
  extractStridedSlice_apply _ _ _ _ _ fun a => by fin_cases a <;> simp [ix2]

theorem hz2 : (![0, 0] : Fin 2 → ℕ) = fun _ => 0 := by decide

/-- One store of a whole buffer, read back. -/
theorem whole_store {s : Shape} {e : EltTy} (v : View sig .tc .vmem s e) (f : v.ty.Contents (Elt F)) (r : Rect s) (p : r.shape.Idx → Elt F e)
    (h : ∀ y, y ∈ r.set) : v.read (Elt F) (v.writes (Elt F) f [⟨r, p⟩]) = View.canon [⟨r, p⟩] :=
  View.read_writes_eq_canon _ _ _ fun y => ⟨_, List.mem_cons_self, h y⟩

set_option maxHeartbeats 2000000 in
/-- The body on whole buffers: the inputs kept, the four results as stated. -/
theorem body_run (c : Dev nD) (E : Set ℕ) (i : grid0.Coords) (arg1 : Memref sig .tc .vmem S512x1024 .bf16) (harg1 : arg1.IsWhole) (arg2 : Memref sig .tc .vmem S1024x1024 .bf16) (harg2 : arg2.IsWhole) (arg3 : Memref sig .tc .vmem S512x1024 .f32) (harg3 : arg3.IsWhole) (arg4 : Memref sig .tc .vmem S1x1x1024 .f32) (harg4 : arg4.IsWhole) (arg5 : Memref sig .tc .vmem S1x1024 .f32) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1024x256 .bf16) (harg8 : arg8.IsWhole) (arg9 : Memref sig .tc .vmem S1x128 .f32) (harg9 : arg9.IsWhole) (arg10 : Memref sig .tc .vmem S512x1024 .f32) (harg10 : arg10.IsWhole) (arg11 : Memref sig .tc .vmem S4096x128 .f32) (harg11 : arg11.IsWhole) (arg12 : Memref sig .tc .vmem S512x8 .i32) (harg12 : arg12.IsWhole) (arg13 : Memref sig .tc .vmem S512x8 .f32) (harg13 : arg13.IsWhole)
    (x0 : Vec F S512x1024 .bf16) (x1 : Vec F S1024x1024 .bf16) (x2 : Vec F S512x1024 .f32) (x3 : Vec F S1x1x1024 .f32) (x4 : Vec F S1x1024 .f32) (x5 x6 : Vec F S1x1x1024 .f32) (x7 : Vec F S1024x256 .bf16) (x8 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (mixW x0 x1 x2 x3 x4 x5 x6 x7 x8) ∗ owns (c : Thread nD τ) arg11 fullShare (tokB x0 x1 x2 x3 x4 x5 x6 x7 x8) ∗ owns (c : Thread nD τ) arg12 fullShare (idxW x0 x1 x2 x3 x4 x5 x6 x7 x8) ∗ owns (c : Thread nD τ) arg13 fullShare (gateW x0 x1 x2 x3 x4 x5 x6 x7 x8)) -∗ K ⟨⟩))
      ⊢ wp frame (wpE (defs₀ (F := F)) Variants.none c none) E (cc0_out_proj i arg1 harg1 arg2 harg2 arg3 harg3 arg4 harg4 arg5 harg5 arg6 harg6 arg7 harg7 arg8 harg8 arg9 harg9 arg10 harg10 arg11 harg11 arg12 harg12 arg13 harg13) K := by
  simp only [cc0_out_proj_eq_skeleton]; unfold cc0_out_proj_skel
  simp only [k0_part1_eq_skeleton, k0_part2_eq_skeleton, k0_part3_eq_skeleton, k0_part4_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%d12, %f12, -, H12⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists _; isplitr
    swap; · iexact H9
    ipureintro
    refine (whole_store arg10.view _ _ _ fun y => (LoadRect.mem_set _).2 fun a => ⟨(y a).val, (y a).isLt, by fin_cases a <;> simp [Rect.unit]⟩).trans ?_
    refine (View.canon_cons_unit_zero hz2 _ _ _).trans ?_
    rfl
  isplitl [H10]
  · iexists _; isplitr
    swap; · iexact H10
    ipureintro
    let G := tokW (View.read (Elt F) arg1.view f0) (View.read (Elt F) arg2.view f1) (View.read (Elt F) arg3.view f2) (View.read (Elt F) arg4.view f3) (View.read (Elt F) arg5.view f4) (View.read (Elt F) arg6.view f5) (View.read (Elt F) arg7.view f6) (View.read (Elt F) arg8.view f7) (View.read (Elt F) arg9.view f8)
    refine stores_eq arg11.view _ G _ _ _ _ _ _ _ _ ?_ ?_ ?_ ?_ ?_ ?_ ?_ ?_
    · exact fun r l => slice_at G 0 slices_S512x1024_o0_0_S512x128 (fun l => by omega) r l
    · exact fun r l => slice_at G 128 slices_S512x1024_o0_128_S512x128 (fun l => by omega) r l
    · exact fun r l => slice_at G 256 slices_S512x1024_o0_256_S512x128 (fun l => by omega) r l
    · exact fun r l => slice_at G 384 slices_S512x1024_o0_384_S512x128 (fun l => by omega) r l
    · exact fun r l => slice_at G 512 slices_S512x1024_o0_512_S512x128 (fun l => by omega) r l
    · exact fun r l => slice_at G 640 slices_S512x1024_o0_640_S512x128 (fun l => by omega) r l
    · exact fun r l => slice_at G 768 slices_S512x1024_o0_768_S512x128 (fun l => by omega) r l
    · exact fun r l => slice_at G 896 slices_S512x1024_o0_896_S512x128 (fun l => by omega) r l
  isplitl [H11]
  · iexists _; isplitr
    swap; · iexact H11
    ipureintro
    refine (whole_store arg12.view _ _ _ fun y => (LoadRect.mem_set _).2 fun a => ⟨(y a).val, (y a).isLt, by fin_cases a <;> simp [Rect.unit]⟩).trans ?_
    refine (View.canon_cons_unit_zero hz2 _ _ _).trans ?_
    rfl
  · iexists _; isplitr
    swap; · iexact H12
    ipureintro
    refine (whole_store arg13.view _ _ _ fun y => (LoadRect.mem_set _).2 fun a => ⟨(y a).val, (y a).isLt, by fin_cases a <;> simp [Rect.unit]⟩).trans ?_
    refine (View.canon_cons_unit_zero hz2 _ _ _).trans ?_
    rfl

end Cert.OutCIdeal.Hand

end
-- ==== Proof.OutcFrame.lean ====
/-
  The output projection runs, keeps its arguments, and leaves in its results what its grid points store.
-/
module

public import proofs.«01_k».proof.Proof.OutcRun

@[expose] public section

set_option maxRecDepth 16384

noncomputable section

namespace Cert.OutCIdeal.Hand

open Cert.OutCIdeal Cert.OutCIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev st0_0 (t : Fin cfg0.N) := (cfg0.win 0).stage (cfg0.slots t 0)
abbrev st0_1 (t : Fin cfg0.N) := (cfg0.win 1).stage (cfg0.slots t 1)
abbrev st0_2 (t : Fin cfg0.N) := (cfg0.win 2).stage (cfg0.slots t 2)
abbrev st0_3 (t : Fin cfg0.N) := (cfg0.win 3).stage (cfg0.slots t 3)
abbrev st0_4 (t : Fin cfg0.N) := (cfg0.win 4).stage (cfg0.slots t 4)
abbrev st0_5 (t : Fin cfg0.N) := (cfg0.win 5).stage (cfg0.slots t 5)
abbrev st0_6 (t : Fin cfg0.N) := (cfg0.win 6).stage (cfg0.slots t 6)
abbrev st0_7 (t : Fin cfg0.N) := (cfg0.win 7).stage (cfg0.slots t 7)
abbrev st0_8 (t : Fin cfg0.N) := (cfg0.win 8).stage (cfg0.slots t 8)
abbrev st0_9 (t : Fin cfg0.N) := (cfg0.win 9).stage (cfg0.slots t 9)
abbrev st0_10 (t : Fin cfg0.N) := (cfg0.win 10).stage (cfg0.slots t 10)
abbrev st0_11 (t : Fin cfg0.N) := (cfg0.win 11).stage (cfg0.slots t 11)
abbrev st0_12 (t : Fin cfg0.N) := (cfg0.win 12).stage (cfg0.slots t 12)
/-- The body at point `t`, on the buffers it is called with. -/
abbrev bodyAt0 (t : Fin cfg0.N) : Prog (TpuEff nD τ sig (Elt F) Λ₀ .tc) PUnit :=
  cc0_out_proj (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12))

/-- What the region finds: the memory as launched. -/
abbrev V (c : Dev nD) (b : Ref sig .tc) : Buf (Elt F) ((c : Thread nD τ).loc b) := m ((c : Thread nD τ).loc b)

set_option maxHeartbeats 800000 in
theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

/-- Window `w`'s block at point `t`. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The proof data: the arrays as launched; after a point each input at its block, each result at what the body stored. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => mixW (iblk m c 0 t) (iblk m c 1 t) (iblk m c 2 t) (iblk m c 3 t) (iblk m c 4 t) (iblk m c 5 t) (iblk m c 6 t) (iblk m c 7 t) (iblk m c 8 t)
    | ⟨10, _⟩ => tokB (iblk m c 0 t) (iblk m c 1 t) (iblk m c 2 t) (iblk m c 3 t) (iblk m c 4 t) (iblk m c 5 t) (iblk m c 6 t) (iblk m c 7 t) (iblk m c 8 t)
    | ⟨11, _⟩ => idxW (iblk m c 0 t) (iblk m c 1 t) (iblk m c 2 t) (iblk m c 3 t) (iblk m c 4 t) (iblk m c 5 t) (iblk m c 6 t) (iblk m c 7 t) (iblk m c 8 t)
    | ⟨12, _⟩ => gateW (iblk m c 0 t) (iblk m c 1 t) (iblk m c 2 t) (iblk m c 3 t) (iblk m c 4 t) (iblk m c 5 t) (iblk m c 6 t) (iblk m c 7 t) (iblk m c 8 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = mixW (iblk m c 0 t) (iblk m c 1 t) (iblk m c 2 t) (iblk m c 3 t) (iblk m c 4 t) (iblk m c 5 t) (iblk m c 6 t) (iblk m c 7 t) (iblk m c 8 t) := by dsimp only [dats]
theorem after0_10 (c : Dev nD) (t : Fin cfg0.N) : (dats m 0 c).after 10 t = tokB (iblk m c 0 t) (iblk m c 1 t) (iblk m c 2 t) (iblk m c 3 t) (iblk m c 4 t) (iblk m c 5 t) (iblk m c 6 t) (iblk m c 7 t) (iblk m c 8 t) := by dsimp only [dats]
theorem after0_11 (c : Dev nD) (t : Fin cfg0.N) : (dats m 0 c).after 11 t = idxW (iblk m c 0 t) (iblk m c 1 t) (iblk m c 2 t) (iblk m c 3 t) (iblk m c 4 t) (iblk m c 5 t) (iblk m c 6 t) (iblk m c 7 t) (iblk m c 8 t) := by dsimp only [dats]
theorem after0_12 (c : Dev nD) (t : Fin cfg0.N) : (dats m 0 c).after 12 t = gateW (iblk m c 0 t) (iblk m c 1 t) (iblk m c 2 t) (iblk m c 3 t) (iblk m c 4 t) (iblk m c 5 t) (iblk m c 6 t) (iblk m c 7 t) (iblk m c 8 t) := by dsimp only [dats]

/-! Each input's buffer holds its block at every point. -/

theorem before0_0 (c : Dev nD) (t : Fin cfg0.N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)
theorem before0_3 (c : Dev nD) (t : Fin cfg0.N) (d) : (dats m 0 c).before 3 t d = iblk m c 3 t :=
  ((dats m 0 c).before_in_eq_fetched 3 rfl (fun _ => rfl) (fun _ _ _ => rfl) (fun t => by rw [after0_3]; unfold Dat.blockOf iblk; rw [A_eq]; try rfl) t d).trans
    (by unfold Dat.fetched Dat.blockOf iblk; rw [A_eq]; try rfl)
theorem before0_4 (c : Dev nD) (t : Fin cfg0.N) (d) : (dats m 0 c).before 4 t d = iblk m c 4 t :=
  ((dats m 0 c).before_in_eq_fetched 4 rfl (fun _ => rfl) (fun _ _ _ => rfl) (fun t => by rw [after0_4]; unfold Dat.blockOf iblk; rw [A_eq]; try rfl) t d).trans
    (by unfold Dat.fetched Dat.blockOf iblk; rw [A_eq]; try rfl)
theorem before0_5 (c : Dev nD) (t : Fin cfg0.N) (d) : (dats m 0 c).before 5 t d = iblk m c 5 t :=
  ((dats m 0 c).before_in_eq_fetched 5 rfl (fun _ => rfl) (fun _ _ _ => rfl) (fun t => by rw [after0_5]; unfold Dat.blockOf iblk; rw [A_eq]; try rfl) t d).trans
    (by unfold Dat.fetched Dat.blockOf iblk; rw [A_eq]; try rfl)
theorem before0_6 (c : Dev nD) (t : Fin cfg0.N) (d) : (dats m 0 c).before 6 t d = iblk m c 6 t :=
  ((dats m 0 c).before_in_eq_fetched 6 rfl (fun _ => rfl) (fun _ _ _ => rfl) (fun t => by rw [after0_6]; unfold Dat.blockOf iblk; rw [A_eq]; try rfl) t d).trans
    (by unfold Dat.fetched Dat.blockOf iblk; rw [A_eq]; try rfl)
theorem before0_7 (c : Dev nD) (t : Fin cfg0.N) (d) : (dats m 0 c).before 7 t d = iblk m c 7 t :=
  ((dats m 0 c).before_in_eq_fetched 7 rfl (fun _ => rfl) (fun _ _ _ => rfl) (fun t => by rw [after0_7]; unfold Dat.blockOf iblk; rw [A_eq]; try rfl) t d).trans
    (by unfold Dat.fetched Dat.blockOf iblk; rw [A_eq]; try rfl)
theorem before0_8 (c : Dev nD) (t : Fin cfg0.N) (d) : (dats m 0 c).before 8 t d = iblk m c 8 t :=
  ((dats m 0 c).before_in_eq_fetched 8 rfl (fun _ => rfl) (fun _ _ _ => rfl) (fun t => by rw [after0_8]; unfold Dat.blockOf iblk; rw [A_eq]; try rfl) t d).trans
    (by unfold Dat.fetched Dat.blockOf iblk; rw [A_eq]; try rfl)

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t))

/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (body_run c Set.univ (grid0.coords t) _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  isplitl [H12]; · iexists _; iexact H12
  iintro ⟨H0, H1, H2, H3, H4, H5, H6, H7, H8, H9, H10, H11, H12⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
set_option maxHeartbeats 800000 in
/-- Every execution ends, with every array at what the pipeline computes and no semaphore pending. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The launch with the two results named, the arguments as they were. -/
theorem run_value : θ_run defs (onTc (τ := τ) (main (F := F))) ⟨m, fun _ => 0, ρ⟩ (fun r => (∀ c : Dev nD,
      r.2.mem ((c.tc : Thread nD τ).loc main_v0_0) = (dats m 0 c).arrAt 9 cfg0.N
      ∧ r.2.mem ((c.tc : Thread nD τ).loc main_v0_1) = (dats m 0 c).arrAt 10 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  (θ_run defs _ _).mono (fun r h => ⟨fun c => ⟨(h.1 c).1 9, (h.1 c).1 10,
      ((h.1 c).1 0).trans (((dats m 0 c).arrAt_in 0 rfl _).trans (A_eq m c 0)),
      ((h.1 c).1 1).trans (((dats m 0 c).arrAt_in 1 rfl _).trans (A_eq m c 1)),
      ((h.1 c).1 2).trans (((dats m 0 c).arrAt_in 2 rfl _).trans (A_eq m c 2)),
      ((h.1 c).1 3).trans (((dats m 0 c).arrAt_in 3 rfl _).trans (A_eq m c 3)),
      ((h.1 c).1 4).trans (((dats m 0 c).arrAt_in 4 rfl _).trans (A_eq m c 4)),
      ((h.1 c).1 5).trans (((dats m 0 c).arrAt_in 5 rfl _).trans (A_eq m c 5)),
      ((h.1 c).1 6).trans (((dats m 0 c).arrAt_in 6 rfl _).trans (A_eq m c 6)),
      ((h.1 c).1 7).trans (((dats m 0 c).arrAt_in 7 rfl _).trans (A_eq m c 7)),
      ((h.1 c).1 8).trans (((dats m 0 c).arrAt_in 8 rfl _).trans (A_eq m c 8))⟩, h.2⟩)
    (run_main_quiescent m ρ)

/-- The arguments are kept, and no semaphore is pending at the end. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  (θ_run defs _ _).mono (fun _ h => ⟨fun c => (h.1 c).2.2, h.2⟩) (run_value m ρ)

end Cert.OutCIdeal.Hand

end
-- ==== Proof.OutcBits.lean ====
/-
  The program at bit patterns is the program at extended reals with the other carrier, so the frame proved once for every carrier is the frame of both.
-/
module

public import proofs.«01_k».proof.Defs
public import proofs.«01_k».proof.Proof.OutcFrame
public import proofs.«01_k».proof.Proof.Gen.OutC.Launch

@[expose] public section

set_option maxRecDepth 16384

namespace Cert.OutcBits

open Idealize.ShloMosaic Idealize.SL.Sem

local instance : Cert.OutC.Facts := Cert.OutC.Gen.facts
local instance : Cert.OutCIdeal.Facts := Cert.OutCIdeal.Gen.facts

variable {F : FTy → Type} [FloatOps F]

theorem calls_eq : OutC.defs₀ (F := F) = OutCIdeal.defs₀ := by
  unfold OutC.defs₀ OutCIdeal.defs₀
  refine congrArg Defs.onTc (funext fun l => funext fun x => ?_)
  match l, x with
  | 0, (t, s) => rfl
  | ⟨_ + 1, h⟩, _ => exact absurd h (Nat.not_lt.2 (Nat.le_add_left _ _))

theorem defs_eq : OutC.defs (F := F) = OutCIdeal.defs := by
  unfold OutC.defs OutCIdeal.defs
  exact congrArg (Pipeline.defs OutCIdeal.pcfgs) calls_eq

theorem frame : Cert.quiescent_OutC (hOutC := Cert.OutC.Gen.facts) := fun m ρ _ => by
  have h := Cert.OutCIdeal.Hand.frame (F := Bits) m ρ
  rw [← defs_eq] at h
  exact h

end Cert.OutcBits

end
-- ==== Proof.OutSpec.lean ====
/-
  The output projection at one row, written plainly.
-/
module

public import proofs.«01_k».proof.Proof.ProjSpec

@[expose] public section

set_option maxRecDepth 16384

noncomputable section

namespace Cert.Out

/-- A row of the residual stream plus the gated product. -/
def mixed (x g o : Fin 1024 → EReal) (w : Fin 1024 → Fin 1024 → EReal) (e : Fin 1024) : EReal := x e + g e * ∑ d, o d * w d e

/-- Two halves side by side. -/
def joined (a b : Fin 512 → EReal) (d : Fin 1024) : EReal := if h : d.val < 512 then a ⟨d.val, h⟩ else b ⟨d.val - 512, by omega⟩

theorem joined_sum (a b p q : Fin 512 → EReal) : ∑ d, a d * p d + ∑ d, b d * q d = ∑ d, joined a b d * joined p q d := by
  refine Eq.trans ?_ (Fin.sum_univ_add (a := 512) (b := 512) (fun d => joined a b d * joined p q d)).symm
  congr 1

end Cert.Out

end
-- ==== Proof.OutcKer.lean ====
/-
  What one grid point of the output projection writes, and what its two compared arrays hold at the end.
-/
module

public import proofs.«01_k».proof.Proof.OutSpec
public import proofs.«01_k».proof.Proof.OutcFrame

@[expose] public section

set_option maxRecDepth 16384

noncomputable section

namespace Cert.OutcKer

open Cert.OutCIdeal Cert.OutCIdeal.Gen Cert.OutCIdeal.Hand Cert.Out Cert.Proj Idealize.ShloMosaic Idealize.ShloMosaic.Pipeline Idealize.SL.Sem

section Block

variable (x0 : Vec Ideal S512x1024 .bf16) (x1 : Vec Ideal S1024x1024 .bf16) (x2 : Vec Ideal S512x1024 .f32) (x3 : Vec Ideal S1x1x1024 .f32) (x4 : Vec Ideal S1x1024 .f32) (x5 x6 : Vec Ideal S1x1x1024 .f32) (x7 : Vec Ideal S1024x256 .bf16) (x8 : Vec Ideal S1x128 .f32)

theorem z2 : (![0, 0] : Fin 2 → ℕ) = fun _ => 0 := by decide
theorem z3 : (![0, 0, 0] : Fin 3 → ℕ) = fun _ => 0 := by decide
theorem l0 (X : Vec Ideal S512x1024 .bf16) : View.ld X w512x1024 = X := View.ld_unit_zero z2 _ X
theorem l1 (X : Vec Ideal S1024x1024 .bf16) : View.ld X w1024x1024 = X := View.ld_unit_zero z2 _ X
theorem l2 (X : Vec Ideal S512x1024 .f32) : View.ld X w512x1024 = X := View.ld_unit_zero z2 _ X
theorem l3 (X : Vec Ideal S1x1x1024 .f32) : View.ld X w1x1x1024 = X := View.ld_unit_zero z3 _ X
theorem l4 (X : Vec Ideal S1x1024 .f32) : View.ld X w1x1024 = X := View.ld_unit_zero z2 _ X

/-- Row `R` of a block's residual rows, and of its tokens. -/
def bmix (R : Fin 512) : Fin 1024 → EReal :=
  mixed (fun d => x2 (ix2 R d)) (fun d => x3 (ix3 0 0 d)) (fun d => x0 (ix2 R d)) (fun d e => x1 (ix2 d e))

def btok (R : Fin 512) : Fin 1024 → EReal :=
  hm (bmix x0 x1 x2 x3 R) (fun d => x4 (ix2 0 d)) (fun d => x5 (ix3 0 0 d)) (fun d => x6 (ix3 0 0 d))

theorem mix_at (R : Fin 512) (L : Fin 1024) : mixW x0 x1 x2 x3 x4 x5 x6 x7 x8 (ix2 R L) = bmix x0 x1 x2 x3 R L := by
  unfold mixW bmix mixed
  simp only [l0, l1, l2, l3, l4]
  unfold k0_pay3
  pointwise [dot_S512x1024_S1024x1024_S512x1024_1_0_0_1_n_n]

theorem tok_at (R : Fin 512) (L : Fin 1024) : tokW x0 x1 x2 x3 x4 x5 x6 x7 x8 (ix2 R L) = btok x0 x1 x2 x3 x4 x5 x6 R L := by
  unfold tokW btok hm
  have e : ∀ d, bmix x0 x1 x2 x3 R d = mixW x0 x1 x2 x3 x4 x5 x6 x7 x8 (ix2 R d) := fun d => (mix_at x0 x1 x2 x3 x4 x5 x6 x7 x8 R d).symm
  simp only [e]
  unfold mixW
  simp only [l0, l1, l2, l3, l4]
  unfold k0_pay4
  generalize k0_pay3 x0 x1 x2 x3 = M
  pointwise

end Block

section Arrays

variable (m : (ℓ : Loc nD τ sig) → Buf (Elt Ideal) ℓ) (c : Dev nD)

theorem idx : ∀ t : Fin grid0.N, win0_0.index t = ![t.val, 0] ∧ win0_1.index t = ![0, 0] ∧ win0_2.index t = ![t.val, 0] ∧ win0_3.index t = ![t.val / 4, 0, 0] ∧ win0_4.index t = ![0, 0] ∧ win0_5.index t = ![t.val / 4, 0, 0] ∧ win0_6.index t = ![t.val / 4, 0, 0] ∧ win0_9.index t = ![t.val, 0] ∧ win0_10.index t = ![t.val, 0] := by
  decide +kernel

/-- Row `R` of the residual rows, and of the tokens, from the arguments. -/
def xrow (R : Fin 32768) : Fin 1024 → EReal :=
  mixed (fun d => (m ((c.tc : Thread nD τ).loc main_arg2) : Vec Ideal S32768x1024 .f32) (ix2 R d)) (fun d => (m ((c.tc : Thread nD τ).loc main_arg3) : Vec Ideal S24x1x1024 .f32) (ix3 ⟨R.val / 2048, by omega⟩ 0 d))
    (fun d => (m ((c.tc : Thread nD τ).loc main_arg0) : Vec Ideal S32768x1024 .bf16) (ix2 R d))
    (fun d e => (m ((c.tc : Thread nD τ).loc main_arg1) : Vec Ideal S1024x1024 .bf16) (ix2 d e))

def trow (R : Fin 32768) : Fin 1024 → EReal :=
  hm (xrow m c R) (fun d => (m ((c.tc : Thread nD τ).loc main_arg4) : Vec Ideal S1x1024 .f32) (ix2 0 d)) (fun d => (m ((c.tc : Thread nD τ).loc main_arg5) : Vec Ideal S24x1x1024 .f32) (ix3 ⟨R.val / 2048, by omega⟩ 0 d))
    (fun d => (m ((c.tc : Thread nD τ).loc main_arg6) : Vec Ideal S24x1x1024 .f32) (ix3 ⟨R.val / 2048, by omega⟩ 0 d))

/-! Each block read at an index is an argument read at an index. -/

set_option maxHeartbeats 2000000 in
theorem b0 (t : Fin grid0.N) (r : Fin 512) (A : Fin 32768) (hA : A.val = t.val * 512 + r.val) (d : Fin 1024) :
    iblk m c 0 t (ix2 r d) = (m ((c.tc : Thread nD τ).loc main_arg0) : Vec Ideal S32768x1024 .bf16) (ix2 A d) := by
  obtain ⟨i0, -⟩ := idx t
  blk_ext [iblk, i0]

set_option maxHeartbeats 2000000 in
theorem b1 (t : Fin grid0.N) (d : Fin 1024) (e : Fin 1024) : iblk m c 1 t (ix2 d e) = (m ((c.tc : Thread nD τ).loc main_arg1) : Vec Ideal S1024x1024 .bf16) (ix2 d e) := by
  obtain ⟨-, i1, -⟩ := idx t
  blk_ext [iblk, i1]

set_option maxHeartbeats 2000000 in
theorem b2 (t : Fin grid0.N) (r : Fin 512) (A : Fin 32768) (hA : A.val = t.val * 512 + r.val) (d : Fin 1024) :
    iblk m c 2 t (ix2 r d) = (m ((c.tc : Thread nD τ).loc main_arg2) : Vec Ideal S32768x1024 .f32) (ix2 A d) := by
  obtain ⟨-, -, i2, -⟩ := idx t
  blk_ext [iblk, i2]

set_option maxHeartbeats 2000000 in
theorem b3 (t : Fin grid0.N) (r : Fin 512) (A : Fin 32768) (hA : A.val = t.val * 512 + r.val) (d : Fin 1024) :
    iblk m c 3 t (ix3 0 0 d) = (m ((c.tc : Thread nD τ).loc main_arg3) : Vec Ideal S24x1x1024 .f32) (ix3 ⟨A.val / 2048, by omega⟩ 0 d) := by
  obtain ⟨-, -, -, i3, -⟩ := idx t
  have : t.val / 4 = A.val / 2048 := by omega
  blk_ext [iblk, i3]

set_option maxHeartbeats 2000000 in
theorem b4 (t : Fin grid0.N) (d : Fin 1024) : iblk m c 4 t (ix2 0 d) = (m ((c.tc : Thread nD τ).loc main_arg4) : Vec Ideal S1x1024 .f32) (ix2 0 d) := by
  obtain ⟨-, -, -, -, i4, -⟩ := idx t
  blk_ext [iblk, i4]

set_option maxHeartbeats 2000000 in
theorem b5 (t : Fin grid0.N) (r : Fin 512) (A : Fin 32768) (hA : A.val = t.val * 512 + r.val) (d : Fin 1024) :
    iblk m c 5 t (ix3 0 0 d) = (m ((c.tc : Thread nD τ).loc main_arg5) : Vec Ideal S24x1x1024 .f32) (ix3 ⟨A.val / 2048, by omega⟩ 0 d) := by
  obtain ⟨-, -, -, -, -, i5, -⟩ := idx t
  have : t.val / 4 = A.val / 2048 := by omega
  blk_ext [iblk, i5]

set_option maxHeartbeats 2000000 in
theorem b6 (t : Fin grid0.N) (r : Fin 512) (A : Fin 32768) (hA : A.val = t.val * 512 + r.val) (d : Fin 1024) :
    iblk m c 6 t (ix3 0 0 d) = (m ((c.tc : Thread nD τ).loc main_arg6) : Vec Ideal S24x1x1024 .f32) (ix3 ⟨A.val / 2048, by omega⟩ 0 d) := by
  obtain ⟨-, -, -, -, -, -, i6, -⟩ := idx t
  have : t.val / 4 = A.val / 2048 := by omega
  blk_ext [iblk, i6]

theorem bmix_eq (t : Fin grid0.N) (r : Fin 512) (A : Fin 32768) (hA : A.val = t.val * 512 + r.val) :
    bmix (iblk m c 0 t) (iblk m c 1 t) (iblk m c 2 t) (iblk m c 3 t) r = xrow m c A := by
  unfold bmix xrow
  simp only [b0 m c t r A hA, b1 m c t, b2 m c t r A hA, b3 m c t r A hA]

theorem btok_eq (t : Fin grid0.N) (r : Fin 512) (A : Fin 32768) (hA : A.val = t.val * 512 + r.val) :
    btok (iblk m c 0 t) (iblk m c 1 t) (iblk m c 2 t) (iblk m c 3 t) (iblk m c 4 t) (iblk m c 5 t) (iblk m c 6 t) r = trow m c A := by
  unfold btok trow
  rw [bmix_eq m c t r A hA]
  simp only [b4 m c t, b5 m c t r A hA, b6 m c t r A hA]

theorem arrx : (dats m 0 c).arrAt 9 (cfgs 0).N = fun i => xrow m c (i 0) (i 1) := by
  refine (dats m 0 c).arrAt_eq_of_covers 9 _ (by decide +kernel) fun t hf y => ?_
  blk_simp
  rw [after0_9]
  obtain ⟨r, l, rfl⟩ : ∃ (r : Fin 512) (l : Fin 1024), y = ix2 r l := ⟨y 0, y 1, by funext a; fin_cases a <;> rfl⟩
  obtain ⟨-, -, -, -, -, -, -, i9, -⟩ := idx t
  have he0 : (((win0_9.blk t).view.emb (ix2 r l) 0 : Fin 32768) : ℕ) = t.val * 512 + r.val := by
    blk_simp [i9]
  have he1 : (((win0_9.blk t).view.emb (ix2 r l) 1 : Fin 1024) : ℕ) = l.val := by
    blk_simp [i9]
  generalize ((win0_9.blk t).view.emb (ix2 r l) 0 : Fin 32768) = A at he0
  generalize ((win0_9.blk t).view.emb (ix2 r l) 1 : Fin 1024) = B at he1
  obtain rfl : l = B := (Fin.ext he1).symm
  rw [mix_at, bmix_eq m c t r A he0]

/-- The tokens at row `A` and column `B` of the array they are stored in. -/
def tarr (A : Fin 262144) (B : Fin 128) : EReal := trow m c ⟨A.val / 8, by omega⟩ ⟨A.val % 8 * 128 + B.val, by omega⟩

theorem arrt : (dats m 0 c).arrAt 10 (cfgs 0).N = fun i => tarr m c (i 0) (i 1) := by
  refine (dats m 0 c).arrAt_eq_of_covers 10 _ (by decide +kernel) fun t hf y => ?_
  blk_simp
  rw [after0_10]
  obtain ⟨r, l, rfl⟩ : ∃ (r : Fin 4096) (l : Fin 128), y = ix2 r l := ⟨y 0, y 1, by funext a; fin_cases a <;> rfl⟩
  obtain ⟨-, -, -, -, -, -, -, -, i10⟩ := idx t
  have he0 : (((win0_10.blk t).view.emb (ix2 r l) 0 : Fin 262144) : ℕ) = t.val * 4096 + r.val := by
    blk_simp [i10]
  have he1 : (((win0_10.blk t).view.emb (ix2 r l) 1 : Fin 128) : ℕ) = l.val := by
    blk_simp [i10]
  generalize ((win0_10.blk t).view.emb (ix2 r l) 0 : Fin 262144) = A at he0
  generalize ((win0_10.blk t).view.emb (ix2 r l) 1 : Fin 128) = B at he1
  obtain rfl : l = B := (Fin.ext he1).symm
  have hl : l.val < 128 := l.isLt
  have hA : A.val < 262144 := A.isLt
  have e : tokB (iblk m c 0 t) (iblk m c 1 t) (iblk m c 2 t) (iblk m c 3 t) (iblk m c 4 t) (iblk m c 5 t) (iblk m c 6 t) (iblk m c 7 t) (iblk m c 8 t) (ix2 r l) = tokW (iblk m c 0 t) (iblk m c 1 t) (iblk m c 2 t) (iblk m c 3 t) (iblk m c 4 t) (iblk m c 5 t) (iblk m c 6 t) (iblk m c 7 t) (iblk m c 8 t) (ix2 ⟨r.val / 8, by omega⟩ ⟨r.val % 8 * 128 + l.val, by omega⟩) := rfl
  unfold tarr
  rw [e, tok_at, btok_eq m c t ⟨r.val / 8, by omega⟩ ⟨A.val / 8, by omega⟩ (by dsimp only; omega)]
  exact congrArg _ (Fin.ext (by dsimp only; omega))

end Arrays

end Cert.OutcKer

end
-- ==== Proof.OutcRef.lean ====
/-
  The reference of the output projection: its two results cut into stages, and each stage at an index.
-/
module

public import proofs.«01_k».proof.Proof.OutSpec
public import proofs.«01_k».proof.Proof.Gen.OutCReferenceIdeal.Run

@[expose] public section

set_option maxRecDepth 16384

noncomputable section

namespace Cert.OutcRef

open Cert.OutCReferenceIdeal Cert.OutCReferenceIdeal.Gen Cert.Out Cert.Proj Idealize.ShloMosaic Idealize.SL.Sem

/-- The residual plus the gated product. -/
def refMix (o : FVec Ideal S32768x1024 .bf16) (w : FVec Ideal S1024x1024 .bf16) (x : FVec Ideal S32768x1024 .f32) (g : FVec Ideal S24x1x1024 .f32) :
    FVec Ideal S16x2048x1024 .f32 :=
  addf (shapeCast _ x shapeCasts_S32768x1024_S16x2048x1024)
    (mulf (broadcastInDim S16x2048x1024 ![0, 1, 2] bcast_S16x1x1024_S16x2048x1024_0_1_2
        (extractStridedSlice S16x1x1024 ![0, 0, 0] g slices_S24x1x1024_S16x1x1024_0_0_0))
      (Host.dotGeneral dot_S16x2048x1024_S1024x1024_S16x2048x1024_2_0_01_1_n_n none
        (shapeCast _ (extf .f32 o bitsLt_bf16_f32) shapeCasts_S32768x1024_S16x2048x1024) (extf .f32 w bitsLt_bf16_f32)))

/-- The normalised, scaled and shifted rows. -/
def refH (x : FVec Ideal S16x2048x1024 .f32) (g : Vec Ideal S1x1024 .f32) (sc sh : Vec Ideal S24x1x1024 .f32) : FVec Ideal S16x2048x1024 .f32 :=
  addf (mulf (mulf (mulf x (broadcastInDim S16x2048x1024 ![0, 1, 2] bcast_S16x2048x1_S16x2048x1024_0_1_2
      (Host.rsqrt (addf (Host.divf (broadcastInDim S16x2048x1 ![0, 1] bcast_S16x2048_S16x2048x1_0_1
          (Host.reduceAdd (mulf x x) (constant S_ .f32 0x00000000#32) reducesTo_S16x2048x1024_S16x2048_d2 h_S_))
          (broadcastInDim S16x2048x1 ![] bcast_S_S16x2048x1 (constant S_ .f32 0x44800000#32)))
        (broadcastInDim S16x2048x1 ![] bcast_S_S16x2048x1 (constant S_ .f32 0x358637BD#32))))))
      (broadcastInDim S16x2048x1024 ![0, 1, 2] bcast_S1x1x1024_S16x2048x1024_0_1_2 (broadcastInDim S1x1x1024 ![2] bcast_S1024_S1x1x1024_2
        (shapeCast _ g shapeCasts_S1x1024_S1024))))
    (broadcastInDim S16x2048x1024 ![0, 1, 2] bcast_S16x1x1024_S16x2048x1024_0_1_2
      (addf (broadcastInDim S16x1x1024 ![] bcast_S_S16x1x1024 (constant S_ .f32 0x3F800000#32))
        (extractStridedSlice S16x1x1024 ![0, 0, 0] sc slices_S24x1x1024_S16x1x1024_0_0_0))))
    (broadcastInDim S16x2048x1024 ![0, 1, 2] bcast_S16x1x1024_S16x2048x1024_0_1_2
      (extractStridedSlice S16x1x1024 ![0, 0, 0] sh slices_S24x1x1024_S16x1x1024_0_0_0))

def back (x : FVec Ideal S16x2048x1024 .f32) : FVec Ideal S32768x1024 .f32 := shapeCast _ x shapeCasts_S16x2048x1024_S32768x1024

def toks (x : FVec Ideal S16x2048x1024 .f32) : FVec Ideal S262144x128 .f32 := shapeCast _ (back x) shapeCasts_S32768x1024_S262144x128

theorem refMix_at (o : FVec Ideal S32768x1024 .bf16) (w : FVec Ideal S1024x1024 .bf16) (x : FVec Ideal S32768x1024 .f32) (g : FVec Ideal S24x1x1024 .f32)
    (b : Fin 16) (s : Fin 2048) (d : Fin 1024) : refMix o w x g (ix3 b s d)
      = mixed (fun d => x (ix2 ⟨b.val * 2048 + s.val, by omega⟩ d)) (fun d => g (ix3 ⟨b.val, by omega⟩ 0 d))
          (fun d => o (ix2 ⟨b.val * 2048 + s.val, by omega⟩ d)) (fun d e => w (ix2 d e)) d := by
  unfold refMix mixed
  pointwise [dot_S16x2048x1024_S1024x1024_S16x2048x1024_2_0_01_1_n_n]

theorem refH_at (x : FVec Ideal S16x2048x1024 .f32) (g : Vec Ideal S1x1024 .f32) (sc sh : Vec Ideal S24x1x1024 .f32)
    (b : Fin 16) (s : Fin 2048) (d : Fin 1024) :
    refH x g sc sh (ix3 b s d) = hm (fun d => x (ix3 b s d)) (fun d => g (ix2 0 d)) (fun d => sc (ix3 ⟨b.val, by omega⟩ 0 d))
      (fun d => sh (ix3 ⟨b.val, by omega⟩ 0 d)) d := by
  unfold refH hm
  pointwise

theorem back_at (x : FVec Ideal S16x2048x1024 .f32) (R : Fin 32768) (d : Fin 1024) :
    back x (ix2 R d) = x (ix3 ⟨R.val / 2048, by omega⟩ ⟨R.val % 2048, by omega⟩ d) := by
  unfold back
  pointwise

theorem toks_at (x : FVec Ideal S16x2048x1024 .f32) (A : Fin 262144) (B : Fin 128) :
    toks x (ix2 A B) = back x (ix2 ⟨A.val / 8, by omega⟩ ⟨A.val % 8 * 128 + B.val, by omega⟩) := by
  unfold toks
  generalize back x = X
  pointwise

section Results

variable (m : (ℓ : Loc nD τ sig) → Buf (Elt Ideal) ℓ) (c : Dev nD)

def sums : FVec Ideal S16x2048x1024 .f32 :=
  refMix (m ((c.tc : Thread nD τ).loc main_arg0)) (m ((c.tc : Thread nD τ).loc main_arg1)) (m ((c.tc : Thread nD τ).loc main_arg2)) (m ((c.tc : Thread nD τ).loc main_arg3))

def resX : FVec Ideal S32768x1024 .f32 := back (sums m c)

def resT : FVec Ideal S262144x128 .f32 :=
  toks (refH (sums m c) (m ((c.tc : Thread nD τ).loc main_arg4)) (m ((c.tc : Thread nD τ).loc main_arg5)) (m ((c.tc : Thread nD τ).loc main_arg6)))

/-- Row `R` of the residual rows, and of the tokens, from the arguments. -/
def xrow (R : Fin 32768) : Fin 1024 → EReal :=
  mixed (fun d => (m ((c.tc : Thread nD τ).loc main_arg2) : Vec Ideal S32768x1024 .f32) (ix2 R d)) (fun d => (m ((c.tc : Thread nD τ).loc main_arg3) : Vec Ideal S24x1x1024 .f32) (ix3 ⟨R.val / 2048, by omega⟩ 0 d))
    (fun d => (m ((c.tc : Thread nD τ).loc main_arg0) : Vec Ideal S32768x1024 .bf16) (ix2 R d))
    (fun d e => (m ((c.tc : Thread nD τ).loc main_arg1) : Vec Ideal S1024x1024 .bf16) (ix2 d e))

def trow (R : Fin 32768) : Fin 1024 → EReal :=
  hm (xrow m c R) (fun d => (m ((c.tc : Thread nD τ).loc main_arg4) : Vec Ideal S1x1024 .f32) (ix2 0 d)) (fun d => (m ((c.tc : Thread nD τ).loc main_arg5) : Vec Ideal S24x1x1024 .f32) (ix3 ⟨R.val / 2048, by omega⟩ 0 d))
    (fun d => (m ((c.tc : Thread nD τ).loc main_arg6) : Vec Ideal S24x1x1024 .f32) (ix3 ⟨R.val / 2048, by omega⟩ 0 d))

theorem sums_at (R : Fin 32768) (d : Fin 1024) : sums m c (ix3 ⟨R.val / 2048, by omega⟩ ⟨R.val % 2048, by omega⟩ d) = xrow m c R d := by
  have hR : (⟨R.val / 2048 * 2048 + R.val % 2048, by omega⟩ : Fin 32768) = R := Fin.ext (by dsimp only; omega)
  unfold sums xrow
  simp only [refMix_at, hR]

theorem resX_at (R : Fin 32768) (L : Fin 1024) : resX m c (ix2 R L) = xrow m c R L := by
  unfold resX
  rw [back_at, sums_at]

theorem resT_at (A : Fin 262144) (B : Fin 128) : resT m c (ix2 A B) = trow m c ⟨A.val / 8, by omega⟩ ⟨A.val % 8 * 128 + B.val, by omega⟩ := by
  unfold resT trow
  rw [toks_at, back_at, refH_at]
  exact congrArg (fun f => hm f _ _ _ _) (funext fun d => sums_at m c ⟨A.val / 8, by omega⟩ d)

end Results

end Cert.OutcRef

end
-- ==== Proof.OutcEq.lean ====
/-
  The output projection against its reference: the residual rows and the tokens, and the reference's frame.
-/
module

public import proofs.«01_k».proof.Defs
public import proofs.«01_k».proof.Proof.OutcKer
public import proofs.«01_k».proof.Proof.OutcRef

@[expose] public section

set_option maxRecDepth 16384

noncomputable section

namespace Cert.OutcEq

open Idealize.ShloMosaic Idealize.SL.Sem

theorem frame_reference : Cert.quiescent_OutCReferenceIdeal (hOutCReferenceIdeal := Cert.OutCReferenceIdeal.Gen.facts) := fun m ρ _ =>
  (θ_run Cert.OutCReferenceIdeal.defs _ _).mono (fun _ h => ⟨fun c => (h c).2.2, sem_eq_zero_of_no_sems rfl _⟩) (Cert.OutCReferenceIdeal.Value.run m ρ)

theorem project : Cert.algebraic_OutCIdeal_OutCReferenceIdeal (hOutCIdeal := Cert.OutCIdeal.Gen.facts) (hOutCReferenceIdeal := Cert.OutCReferenceIdeal.Gen.facts) := by
  intro m g m' g' _ hagree
  refine ⟨fun c => OutcRef.resX m' c, fun c => OutcRef.resT m' c, ?_, ?_⟩
  · refine (θ_run _ _ _).mono (fun r h c => ?_) (Cert.OutCIdeal.Hand.run_value m g)
    obtain ⟨hx, ht, hk⟩ := h.1 c
    obtain ⟨a0, a1, a2, a3, a4, a5, a6, a7, a8⟩ := hagree c
    have ix (n : ℕ) (k : ℕ) (i : (⟨2, ![n, k]⟩ : Shape).Idx) : ix2 (i 0 : Fin n) (i 1 : Fin k) = i := by
      funext a; fin_cases a <;> rfl
    have p (R : Fin 32768) : OutcKer.xrow m c R = OutcRef.xrow m' c R := by
      unfold OutcKer.xrow OutcRef.xrow
      rw [a0, a1, a2, a3]
    have q (R : Fin 32768) : OutcKer.trow m c R = OutcRef.trow m' c R := by
      unfold OutcKer.trow OutcRef.trow
      rw [p, a4, a5, a6]
    have eX (R : Fin 32768) (L : Fin 1024) : OutcKer.xrow m c R L = OutcRef.resX m' c (ix2 R L) := by
      rw [OutcRef.resX_at, p]
    have eT (A : Fin 262144) (B : Fin 128) : OutcKer.tarr m c A B = OutcRef.resT m' c (ix2 A B) := by
      unfold OutcKer.tarr
      rw [OutcRef.resT_at, q]
    exact ⟨hx.trans ((OutcKer.arrx m c).trans (funext fun i => (eX (i 0) (i 1)).trans (congrArg _ (ix 32768 1024 i)))),
      ht.trans ((OutcKer.arrt m c).trans (funext fun i => (eT (i 0) (i 1)).trans (congrArg _ (ix 262144 128 i)))), hk⟩
  · refine (θ_run _ _ _).mono (fun r h c => ?_) (Cert.OutCReferenceIdeal.Value.run m' g')
    obtain ⟨h1, h2, hk⟩ := h c
    exact ⟨h1, h2, hk⟩

end Cert.OutcEq

end
-- ==== Proof.OutaRun.lean ====
/-
  One grid point of the output projection: what it stores, and that it stores it.
-/
module

public import proofs.«01_k».proof.Proof.Gen.OutABIdeal.Launch
public import proofs.«01_k».proof.Proof.Gen.OutABIdeal.Skeleton
public import Idealize.ShloMosaic.Lib.Pipeline.FrameBody
public import Idealize.ShloMosaic.Lib.Claim
public import Idealize.ShloMosaic.Lib.Ring
public import Idealize.ShloMosaic.Lib.Tactic
public import Idealize.ShloMosaic.Lib.Pipeline.Value
public import Idealize.ShloMosaic.Lib.Pipeline.ValueKit
public import Idealize.ShloMosaic.Lib.Pointwise
public import Idealize.ShloMosaic.Lib.Pipeline.Kit

@[expose] public section

set_option maxRecDepth 16384

noncomputable section

namespace Cert.OutABIdeal.Hand

open Cert.OutABIdeal Cert.OutABIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

abbrev w512x512 : Rect S512x512 := Rect.unit (s := S512x512) ![0, 0] S512x512.size inb_S512x512_S512x512_0_0
abbrev w512x1024 : Rect S512x1024 := Rect.unit (s := S512x1024) ![0, 0] S512x1024.size inb_S512x1024_S512x1024_0_0
abbrev w1x1x1024 : Rect S1x1x1024 := Rect.unit (s := S1x1x1024) ![0, 0, 0] S1x1x1024.size inb_S1x1x1024_S1x1x1024_0_0_0
abbrev w1x1024 : Rect S1x1024 := Rect.unit (s := S1x1024) ![0, 0] S1x1024.size inb_S1x1024_S1x1024_0_0
abbrev w1024x256 : Rect S1024x256 := Rect.unit (s := S1024x256) ![0, 0] S1024x256.size inb_S1024x256_S1024x256_0_0
abbrev w1x128 : Rect S1x128 := Rect.unit (s := S1x128) ![0, 0] S1x128.size inb_S1x128_S1x128_0_0
abbrev w512x8 : Rect S512x8 := Rect.unit (s := S512x8) ![0, 0] S512x8.size inb_S512x8_S512x8_0_0
/-- The first half of the router's columns. -/
abbrev wHalf : Rect S1024x256 := Rect.unit (s := S1024x256) ![0, 0] S1024x128.size inb_S1024x256_S1024x128_0_0
abbrev s0 : Rect S4096x128 := ⟨⟨![0, 0], S512x128.size, ![8, 1], inb_S4096x128_S512x128_0_0_s_8_1⟩, spos_8_1⟩
abbrev s1 : Rect S4096x128 := ⟨⟨![1, 0], S512x128.size, ![8, 1], inb_S4096x128_S512x128_1_0_s_8_1⟩, spos_8_1⟩
abbrev s2 : Rect S4096x128 := ⟨⟨![2, 0], S512x128.size, ![8, 1], inb_S4096x128_S512x128_2_0_s_8_1⟩, spos_8_1⟩
abbrev s3 : Rect S4096x128 := ⟨⟨![3, 0], S512x128.size, ![8, 1], inb_S4096x128_S512x128_3_0_s_8_1⟩, spos_8_1⟩
abbrev s4 : Rect S4096x128 := ⟨⟨![4, 0], S512x128.size, ![8, 1], inb_S4096x128_S512x128_4_0_s_8_1⟩, spos_8_1⟩
abbrev s5 : Rect S4096x128 := ⟨⟨![5, 0], S512x128.size, ![8, 1], inb_S4096x128_S512x128_5_0_s_8_1⟩, spos_8_1⟩
abbrev s6 : Rect S4096x128 := ⟨⟨![6, 0], S512x128.size, ![8, 1], inb_S4096x128_S512x128_6_0_s_8_1⟩, spos_8_1⟩
abbrev s7 : Rect S4096x128 := ⟨⟨![7, 0], S512x128.size, ![8, 1], inb_S4096x128_S512x128_7_0_s_8_1⟩, spos_8_1⟩

/-- The block's rows: the residual plus the gated product. -/
def mixW (x0 x1 : Vec F S512x512 .bf16) (x2 x3 : Vec F S512x1024 .bf16) (x4 : Vec F S512x1024 .f32) (x5 : Vec F S1x1x1024 .f32) (x6 : Vec F S1x1024 .f32) (x7 x8 : Vec F S1x1x1024 .f32) (x9 : Vec F S1024x256 .bf16) (x10 : Vec F S1x128 .f32) : FVec F S512x1024 .f32 := k0_pay3 (View.ld x0 w512x512) (View.ld x2 w512x1024) (View.ld x1 w512x512) (View.ld x3 w512x1024) (View.ld x4 w512x1024) (View.ld x5 w1x1x1024)
/-- The block's tokens, a row each. -/
def tokW (x0 x1 : Vec F S512x512 .bf16) (x2 x3 : Vec F S512x1024 .bf16) (x4 : Vec F S512x1024 .f32) (x5 : Vec F S1x1x1024 .f32) (x6 : Vec F S1x1024 .f32) (x7 x8 : Vec F S1x1x1024 .f32) (x9 : Vec F S1024x256 .bf16) (x10 : Vec F S1x128 .f32) : FVec F S512x1024 .f32 := k0_pay8 (k0_pay4 (View.ld x7 w1x1x1024)) (k0_pay5 (View.ld x8 w1x1x1024)) (k0_pay6 (View.ld x0 w512x512) (View.ld x2 w512x1024) (View.ld x1 w512x512) (View.ld x3 w512x1024) (View.ld x4 w512x1024) (View.ld x5 w1x1x1024)) (k0_pay7 (View.ld x6 w1x1024))
def hiW (x0 x1 : Vec F S512x512 .bf16) (x2 x3 : Vec F S512x1024 .bf16) (x4 : Vec F S512x1024 .f32) (x5 : Vec F S1x1x1024 .f32) (x6 : Vec F S1x1024 .f32) (x7 x8 : Vec F S1x1x1024 .f32) (x9 : Vec F S1024x256 .bf16) (x10 : Vec F S1x128 .f32) : FVec F S512x1024 .bf16 := k0_pay18 (k0_pay4 (View.ld x7 w1x1x1024)) (k0_pay5 (View.ld x8 w1x1x1024)) (k0_pay6 (View.ld x0 w512x512) (View.ld x2 w512x1024) (View.ld x1 w512x512) (View.ld x3 w512x1024) (View.ld x4 w512x1024) (View.ld x5 w1x1x1024)) (k0_pay7 (View.ld x6 w1x1024))
def lgW (x0 x1 : Vec F S512x512 .bf16) (x2 x3 : Vec F S512x1024 .bf16) (x4 : Vec F S512x1024 .f32) (x5 : Vec F S1x1x1024 .f32) (x6 : Vec F S1x1024 .f32) (x7 x8 : Vec F S1x1x1024 .f32) (x9 : Vec F S1024x256 .bf16) (x10 : Vec F S1x128 .f32) : FVec F S512x128 .f32 := k0_pay19 (k0_pay4 (View.ld x7 w1x1x1024)) (k0_pay5 (View.ld x8 w1x1x1024)) (k0_pay6 (View.ld x0 w512x512) (View.ld x2 w512x1024) (View.ld x1 w512x512) (View.ld x3 w512x1024) (View.ld x4 w512x1024) (View.ld x5 w1x1x1024)) (k0_pay7 (View.ld x6 w1x1024)) (View.ld x9 w1024x256)
/-- The block's chosen experts and their weights. -/
def idxW (x0 x1 : Vec F S512x512 .bf16) (x2 x3 : Vec F S512x1024 .bf16) (x4 : Vec F S512x1024 .f32) (x5 : Vec F S1x1x1024 .f32) (x6 : Vec F S1x1024 .f32) (x7 x8 : Vec F S1x1x1024 .f32) (x9 : Vec F S1024x256 .bf16) (x10 : Vec F S1x128 .f32) : IVec S512x8 32 := k0_pay1 (k0_pay34 (k0_pay21 (F := F)) (k0_pay27 (hiW x0 x1 x2 x3 x4 x5 x6 x7 x8 x9 x10) (lgW x0 x1 x2 x3 x4 x5 x6 x7 x8 x9 x10) (View.ld x9 wHalf) (View.ld x10 w1x128)) (k0_pay30 (hiW x0 x1 x2 x3 x4 x5 x6 x7 x8 x9 x10) (lgW x0 x1 x2 x3 x4 x5 x6 x7 x8 x9 x10) (View.ld x9 wHalf) (View.ld x10 w1x128)) (k0_pay31 (F := F))) (iota .tc S512x8 32 [1] iota_S512x8_d1_w32) (k0_pay40 (k0_pay23 (hiW x0 x1 x2 x3 x4 x5 x6 x7 x8 x9 x10) (lgW x0 x1 x2 x3 x4 x5 x6 x7 x8 x9 x10) (View.ld x9 wHalf) (View.ld x10 w1x128)) (k0_pay26 (hiW x0 x1 x2 x3 x4 x5 x6 x7 x8 x9 x10) (lgW x0 x1 x2 x3 x4 x5 x6 x7 x8 x9 x10) (View.ld x9 wHalf) (View.ld x10 w1x128))) (k0_pay42) (k0_pay43 (k0_pay29 (hiW x0 x1 x2 x3 x4 x5 x6 x7 x8 x9 x10) (lgW x0 x1 x2 x3 x4 x5 x6 x7 x8 x9 x10) (View.ld x9 wHalf) (View.ld x10 w1x128)))
def gateW (x0 x1 : Vec F S512x512 .bf16) (x2 x3 : Vec F S512x1024 .bf16) (x4 : Vec F S512x1024 .f32) (x5 : Vec F S1x1x1024 .f32) (x6 : Vec F S1x1024 .f32) (x7 x8 : Vec F S1x1x1024 .f32) (x9 : Vec F S1024x256 .bf16) (x10 : Vec F S1x128 .f32) : FVec F S512x8 .f32 := k0_pay2 (k0_pay37 (k0_pay22 (hiW x0 x1 x2 x3 x4 x5 x6 x7 x8 x9 x10) (lgW x0 x1 x2 x3 x4 x5 x6 x7 x8 x9 x10) (View.ld x9 wHalf) (View.ld x10 w1x128)) (k0_pay28 (hiW x0 x1 x2 x3 x4 x5 x6 x7 x8 x9 x10) (lgW x0 x1 x2 x3 x4 x5 x6 x7 x8 x9 x10) (View.ld x9 wHalf) (View.ld x10 w1x128))) (k0_pay38 (k0_pay22 (hiW x0 x1 x2 x3 x4 x5 x6 x7 x8 x9 x10) (lgW x0 x1 x2 x3 x4 x5 x6 x7 x8 x9 x10) (View.ld x9 wHalf) (View.ld x10 w1x128)) (k0_pay27 (hiW x0 x1 x2 x3 x4 x5 x6 x7 x8 x9 x10) (lgW x0 x1 x2 x3 x4 x5 x6 x7 x8 x9 x10) (View.ld x9 wHalf) (View.ld x10 w1x128)) (k0_pay30 (hiW x0 x1 x2 x3 x4 x5 x6 x7 x8 x9 x10) (lgW x0 x1 x2 x3 x4 x5 x6 x7 x8 x9 x10) (View.ld x9 wHalf) (View.ld x10 w1x128)) (k0_pay31 (F := F))) (k0_pay39 (k0_pay22 (hiW x0 x1 x2 x3 x4 x5 x6 x7 x8 x9 x10) (lgW x0 x1 x2 x3 x4 x5 x6 x7 x8 x9 x10) (View.ld x9 wHalf) (View.ld x10 w1x128)) (k0_pay25 (hiW x0 x1 x2 x3 x4 x5 x6 x7 x8 x9 x10) (lgW x0 x1 x2 x3 x4 x5 x6 x7 x8 x9 x10) (View.ld x9 wHalf) (View.ld x10 w1x128)) (k0_pay27 (hiW x0 x1 x2 x3 x4 x5 x6 x7 x8 x9 x10) (lgW x0 x1 x2 x3 x4 x5 x6 x7 x8 x9 x10) (View.ld x9 wHalf) (View.ld x10 w1x128)) (k0_pay28 (hiW x0 x1 x2 x3 x4 x5 x6 x7 x8 x9 x10) (lgW x0 x1 x2 x3 x4 x5 x6 x7 x8 x9 x10) (View.ld x9 wHalf) (View.ld x10 w1x128)) (k0_pay30 (hiW x0 x1 x2 x3 x4 x5 x6 x7 x8 x9 x10) (lgW x0 x1 x2 x3 x4 x5 x6 x7 x8 x9 x10) (View.ld x9 wHalf) (View.ld x10 w1x128)) (k0_pay31 (F := F))) (iota .tc S512x8 32 [1] iota_S512x8_d1_w32) (k0_pay41 (k0_pay22 (hiW x0 x1 x2 x3 x4 x5 x6 x7 x8 x9 x10) (lgW x0 x1 x2 x3 x4 x5 x6 x7 x8 x9 x10) (View.ld x9 wHalf) (View.ld x10 w1x128)) (k0_pay25 (hiW x0 x1 x2 x3 x4 x5 x6 x7 x8 x9 x10) (lgW x0 x1 x2 x3 x4 x5 x6 x7 x8 x9 x10) (View.ld x9 wHalf) (View.ld x10 w1x128)) (k0_pay27 (hiW x0 x1 x2 x3 x4 x5 x6 x7 x8 x9 x10) (lgW x0 x1 x2 x3 x4 x5 x6 x7 x8 x9 x10) (View.ld x9 wHalf) (View.ld x10 w1x128)) (k0_pay28 (hiW x0 x1 x2 x3 x4 x5 x6 x7 x8 x9 x10) (lgW x0 x1 x2 x3 x4 x5 x6 x7 x8 x9 x10) (View.ld x9 wHalf) (View.ld x10 w1x128)) (k0_pay30 (hiW x0 x1 x2 x3 x4 x5 x6 x7 x8 x9 x10) (lgW x0 x1 x2 x3 x4 x5 x6 x7 x8 x9 x10) (View.ld x9 wHalf) (View.ld x10 w1x128)) (k0_pay31 (F := F)))
/-- The tokens as stored: row `8 r + j` holds columns `128 j …` of token `r`. -/
def lay (G : FVec F S512x1024 .f32) : FVec F S4096x128 .f32 := fun y => G (ix2 ⟨(y 0).val / 8, by have : (y 0).val < 4096 := (y 0).isLt; omega⟩
  ⟨(y 0).val % 8 * 128 + (y 1).val, by have : (y 1).val < 128 := (y 1).isLt; omega⟩)
def tokB (x0 x1 : Vec F S512x512 .bf16) (x2 x3 : Vec F S512x1024 .bf16) (x4 : Vec F S512x1024 .f32) (x5 : Vec F S1x1x1024 .f32) (x6 : Vec F S1x1024 .f32) (x7 x8 : Vec F S1x1x1024 .f32) (x9 : Vec F S1024x256 .bf16) (x10 : Vec F S1x128 .f32) : FVec F S4096x128 .f32 := lay (tokW x0 x1 x2 x3 x4 x5 x6 x7 x8 x9 x10)

/-- Eight stores with stride eight, read back as one block. -/
theorem stores_eq (v : View sig .tc .vmem S4096x128 .f32) (f : v.ty.Contents (Elt F)) (G : FVec F S512x1024 .f32) (p0 p1 p2 p3 p4 p5 p6 p7 : FVec F S512x128 .f32)
    (h0 : ∀ r l, p0 (ix2 r l) = G (ix2 r ⟨0 * 128 + l.val, by omega⟩))
    (h1 : ∀ r l, p1 (ix2 r l) = G (ix2 r ⟨1 * 128 + l.val, by omega⟩))
    (h2 : ∀ r l, p2 (ix2 r l) = G (ix2 r ⟨2 * 128 + l.val, by omega⟩))
    (h3 : ∀ r l, p3 (ix2 r l) = G (ix2 r ⟨3 * 128 + l.val, by omega⟩))
    (h4 : ∀ r l, p4 (ix2 r l) = G (ix2 r ⟨4 * 128 + l.val, by omega⟩))
    (h5 : ∀ r l, p5 (ix2 r l) = G (ix2 r ⟨5 * 128 + l.val, by omega⟩))
    (h6 : ∀ r l, p6 (ix2 r l) = G (ix2 r ⟨6 * 128 + l.val, by omega⟩))
    (h7 : ∀ r l, p7 (ix2 r l) = G (ix2 r ⟨7 * 128 + l.val, by omega⟩)) :
    v.read (Elt F) (v.writes (Elt F) f [⟨s7, p7⟩, ⟨s6, p6⟩, ⟨s5, p5⟩, ⟨s4, p4⟩, ⟨s3, p3⟩, ⟨s2, p2⟩, ⟨s1, p1⟩, ⟨s0, p0⟩]) = lay G := by
  have hm : ∀ (y : S4096x128.Idx) (j : ℕ) (hi) (hj : (y 0).val % 8 = j), y ∈ (⟨⟨![j, 0], S512x128.size, ![8, 1], hi⟩, spos_8_1⟩ : Rect S4096x128).set := by
    intro y j hi hj
    have hy : (y 0).val < 4096 := (y 0).isLt
    refine (LoadRect.mem_set _).2 fun a => ?_
    fin_cases a
    · exact ⟨(y 0).val / 8, by show (y 0).val / 8 < 512; omega, by show (y 0).val = j + 8 * ((y 0).val / 8); omega⟩
    · exact ⟨(y 1).val, (y 1).isLt, by show (y 1).val = 0 + 1 * (y 1).val; omega⟩
  have hc : ∀ y : S4096x128.Idx, ∃ p ∈ ([⟨s7, p7⟩, ⟨s6, p6⟩, ⟨s5, p5⟩, ⟨s4, p4⟩, ⟨s3, p3⟩, ⟨s2, p2⟩, ⟨s1, p1⟩, ⟨s0, p0⟩] : List (View.Piece (Elt F) S4096x128 .f32)), y ∈ p.1.set := by
    intro y
    obtain h | h | h | h | h | h | h | h : (y 0).val % 8 = 0 ∨ (y 0).val % 8 = 1 ∨ (y 0).val % 8 = 2 ∨ (y 0).val % 8 = 3 ∨ (y 0).val % 8 = 4 ∨ (y 0).val % 8 = 5 ∨ (y 0).val % 8 = 6 ∨ (y 0).val % 8 = 7 := by omega
    · exact ⟨⟨s0, p0⟩, by simp, hm y 0 _ h⟩
    · exact ⟨⟨s1, p1⟩, by simp, hm y 1 _ h⟩
    · exact ⟨⟨s2, p2⟩, by simp, hm y 2 _ h⟩
    · exact ⟨⟨s3, p3⟩, by simp, hm y 3 _ h⟩
    · exact ⟨⟨s4, p4⟩, by simp, hm y 4 _ h⟩
    · exact ⟨⟨s5, p5⟩, by simp, hm y 5 _ h⟩
    · exact ⟨⟨s6, p6⟩, by simp, hm y 6 _ h⟩
    · exact ⟨⟨s7, p7⟩, by simp, hm y 7 _ h⟩
  rw [View.read_writes_eq_canon _ _ _ hc]
  funext y
  refine View.canon_apply_of_pieces (lay G) _ ?_ y (hc y)
  have key : ∀ (j : ℕ) (hj : j < 8) (hi) (p : FVec F S512x128 .f32) (hp : ∀ r l, p (ix2 r l) = G (ix2 r ⟨j * 128 + l.val, by omega⟩)) (x : S512x128.Idx),
      p x = lay G ((⟨⟨![j, 0], S512x128.size, ![8, 1], hi⟩, spos_8_1⟩ : Rect S4096x128).emb x) := by
    intro j hj hi p hp x
    obtain ⟨r, l, rfl⟩ : ∃ (r : Fin 512) (l : Fin 128), x = ix2 r l := ⟨x 0, x 1, by funext a; fin_cases a <;> rfl⟩
    rw [hp]
    have e0 : ((⟨⟨![j, 0], S512x128.size, ![8, 1], hi⟩, spos_8_1⟩ : Rect S4096x128).emb (ix2 r l) 0 : ℕ) = j + 8 * r.val := rfl
    have e1 : ((⟨⟨![j, 0], S512x128.size, ![8, 1], hi⟩, spos_8_1⟩ : Rect S4096x128).emb (ix2 r l) 1 : ℕ) = 0 + 1 * l.val := rfl
    have k0 : r.val = (j + 8 * r.val) / 8 := by omega
    have k1 : j * 128 + l.val = (j + 8 * r.val) % 8 * 128 + (0 + 1 * l.val) := by omega
    unfold lay
    congr 1
    funext a
    fin_cases a
    · exact Fin.ext k0
    · exact Fin.ext k1
  intro p hp
  simp only [List.mem_cons, List.not_mem_nil, or_false] at hp
  rcases hp with rfl | rfl | rfl | rfl | rfl | rfl | rfl | rfl
  · exact key 7 (by omega) _ p7 h7
  · exact key 6 (by omega) _ p6 h6
  · exact key 5 (by omega) _ p5 h5
  · exact key 4 (by omega) _ p4 h4
  · exact key 3 (by omega) _ p3 h3
  · exact key 2 (by omega) _ p2 h2
  · exact key 1 (by omega) _ p1 h1
  · exact key 0 (by omega) _ p0 h0

/-- 128 columns of a block at a row and a lane. -/
theorem slice_at (G : FVec F S512x1024 .f32) (o : ℕ) (h : S512x1024.Slices ![0, o] S512x128) (h' : ∀ l : Fin 128, o + l.val < 1024)
    (r : Fin 512) (l : Fin 128) : extractStridedSlice S512x128 ![0, o] G h (ix2 r l) = G (ix2 r ⟨o + l.val, h' l⟩) :=
  extractStridedSlice_apply _ _ _ _ _ fun a => by fin_cases a <;> simp [ix2]

theorem hz2 : (![0, 0] : Fin 2 → ℕ) = fun _ => 0 := by decide

/-- One store of a whole buffer, read back. -/
theorem whole_store {s : Shape} {e : EltTy} (v : View sig .tc .vmem s e) (f : v.ty.Contents (Elt F)) (r : Rect s) (p : r.shape.Idx → Elt F e)
    (h : ∀ y, y ∈ r.set) : v.read (Elt F) (v.writes (Elt F) f [⟨r, p⟩]) = View.canon [⟨r, p⟩] :=
  View.read_writes_eq_canon _ _ _ fun y => ⟨_, List.mem_cons_self, h y⟩

set_option maxHeartbeats 2000000 in
/-- The body on whole buffers: the inputs kept, the four results as stated. -/
theorem body_run (c : Dev nD) (E : Set ℕ) (i : grid0.Coords) (arg1 : Memref sig .tc .vmem S512x512 .bf16) (harg1 : arg1.IsWhole) (arg2 : Memref sig .tc .vmem S512x512 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x1024 .f32) (harg5 : arg5.IsWhole) (arg6 : Memref sig .tc .vmem S1x1x1024 .f32) (harg6 : arg6.IsWhole) (arg7 : Memref sig .tc .vmem S1x1024 .f32) (harg7 : arg7.IsWhole) (arg8 : Memref sig .tc .vmem S1x1x1024 .f32) (harg8 : arg8.IsWhole) (arg9 : Memref sig .tc .vmem S1x1x1024 .f32) (harg9 : arg9.IsWhole) (arg10 : Memref sig .tc .vmem S1024x256 .bf16) (harg10 : arg10.IsWhole) (arg11 : Memref sig .tc .vmem S1x128 .f32) (harg11 : arg11.IsWhole) (arg12 : Memref sig .tc .vmem S512x1024 .f32) (harg12 : arg12.IsWhole) (arg13 : Memref sig .tc .vmem S4096x128 .f32) (harg13 : arg13.IsWhole) (arg14 : Memref sig .tc .vmem S512x8 .i32) (harg14 : arg14.IsWhole) (arg15 : Memref sig .tc .vmem S512x8 .f32) (harg15 : arg15.IsWhole)
    (x0 x1 : Vec F S512x512 .bf16) (x2 x3 : Vec F S512x1024 .bf16) (x4 : Vec F S512x1024 .f32) (x5 : Vec F S1x1x1024 .f32) (x6 : Vec F S1x1024 .f32) (x7 x8 : Vec F S1x1x1024 .f32) (x9 : Vec F S1024x256 .bf16) (x10 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare (mixW x0 x1 x2 x3 x4 x5 x6 x7 x8 x9 x10) ∗ owns (c : Thread nD τ) arg13 fullShare (tokB x0 x1 x2 x3 x4 x5 x6 x7 x8 x9 x10) ∗ owns (c : Thread nD τ) arg14 fullShare (idxW x0 x1 x2 x3 x4 x5 x6 x7 x8 x9 x10) ∗ owns (c : Thread nD τ) arg15 fullShare (gateW x0 x1 x2 x3 x4 x5 x6 x7 x8 x9 x10)) -∗ K ⟨⟩))
      ⊢ wp frame (wpE (defs₀ (F := F)) Variants.none c none) E (cc0_out_proj i arg1 harg1 arg2 harg2 arg3 harg3 arg4 harg4 arg5 harg5 arg6 harg6 arg7 harg7 arg8 harg8 arg9 harg9 arg10 harg10 arg11 harg11 arg12 harg12 arg13 harg13 arg14 harg14 arg15 harg15) K := by
  simp only [cc0_out_proj_eq_skeleton]; unfold cc0_out_proj_skel
  simp only [k0_part1_eq_skeleton, k0_part2_eq_skeleton, k0_part3_eq_skeleton, k0_part4_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%d13, %f13, -, H13⟩, ⟨%d14, %f14, -, H14⟩, Hk⟩
  subst hf0 hf1 hf2 hf3 hf4 hf5 hf6 hf7 hf8 hf9 hf10
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists _; isplitr
    swap; · iexact H11
    ipureintro
    refine (whole_store arg12.view _ _ _ fun y => (LoadRect.mem_set _).2 fun a => ⟨(y a).val, (y a).isLt, by fin_cases a <;> simp [Rect.unit]⟩).trans ?_
    refine (View.canon_cons_unit_zero hz2 _ _ _).trans ?_
    rfl
  isplitl [H12]
  · iexists _; isplitr
    swap; · iexact H12
    ipureintro
    let G := tokW (View.read (Elt F) arg1.view f0) (View.read (Elt F) arg2.view f1) (View.read (Elt F) arg3.view f2) (View.read (Elt F) arg4.view f3) (View.read (Elt F) arg5.view f4) (View.read (Elt F) arg6.view f5) (View.read (Elt F) arg7.view f6) (View.read (Elt F) arg8.view f7) (View.read (Elt F) arg9.view f8) (View.read (Elt F) arg10.view f9) (View.read (Elt F) arg11.view f10)
    refine stores_eq arg13.view _ G _ _ _ _ _ _ _ _ ?_ ?_ ?_ ?_ ?_ ?_ ?_ ?_
    · exact fun r l => slice_at G 0 slices_S512x1024_o0_0_S512x128 (fun l => by omega) r l
    · exact fun r l => slice_at G 128 slices_S512x1024_o0_128_S512x128 (fun l => by omega) r l
    · exact fun r l => slice_at G 256 slices_S512x1024_o0_256_S512x128 (fun l => by omega) r l
    · exact fun r l => slice_at G 384 slices_S512x1024_o0_384_S512x128 (fun l => by omega) r l
    · exact fun r l => slice_at G 512 slices_S512x1024_o0_512_S512x128 (fun l => by omega) r l
    · exact fun r l => slice_at G 640 slices_S512x1024_o0_640_S512x128 (fun l => by omega) r l
    · exact fun r l => slice_at G 768 slices_S512x1024_o0_768_S512x128 (fun l => by omega) r l
    · exact fun r l => slice_at G 896 slices_S512x1024_o0_896_S512x128 (fun l => by omega) r l
  isplitl [H13]
  · iexists _; isplitr
    swap; · iexact H13
    ipureintro
    refine (whole_store arg14.view _ _ _ fun y => (LoadRect.mem_set _).2 fun a => ⟨(y a).val, (y a).isLt, by fin_cases a <;> simp [Rect.unit]⟩).trans ?_
    refine (View.canon_cons_unit_zero hz2 _ _ _).trans ?_
    rfl
  · iexists _; isplitr
    swap; · iexact H14
    ipureintro
    refine (whole_store arg15.view _ _ _ fun y => (LoadRect.mem_set _).2 fun a => ⟨(y a).val, (y a).isLt, by fin_cases a <;> simp [Rect.unit]⟩).trans ?_
    refine (View.canon_cons_unit_zero hz2 _ _ _).trans ?_
    rfl

end Cert.OutABIdeal.Hand

end
-- ==== Proof.OutaFrame.lean ====
/-
  The output projection runs, keeps its arguments, and leaves in its results what its grid points store.
-/
module

public import proofs.«01_k».proof.Proof.OutaRun

@[expose] public section

set_option maxRecDepth 16384

noncomputable section

namespace Cert.OutABIdeal.Hand

open Cert.OutABIdeal Cert.OutABIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev st0_0 (t : Fin cfg0.N) := (cfg0.win 0).stage (cfg0.slots t 0)
abbrev st0_1 (t : Fin cfg0.N) := (cfg0.win 1).stage (cfg0.slots t 1)
abbrev st0_2 (t : Fin cfg0.N) := (cfg0.win 2).stage (cfg0.slots t 2)
abbrev st0_3 (t : Fin cfg0.N) := (cfg0.win 3).stage (cfg0.slots t 3)
abbrev st0_4 (t : Fin cfg0.N) := (cfg0.win 4).stage (cfg0.slots t 4)
abbrev st0_5 (t : Fin cfg0.N) := (cfg0.win 5).stage (cfg0.slots t 5)
abbrev st0_6 (t : Fin cfg0.N) := (cfg0.win 6).stage (cfg0.slots t 6)
abbrev st0_7 (t : Fin cfg0.N) := (cfg0.win 7).stage (cfg0.slots t 7)
abbrev st0_8 (t : Fin cfg0.N) := (cfg0.win 8).stage (cfg0.slots t 8)
abbrev st0_9 (t : Fin cfg0.N) := (cfg0.win 9).stage (cfg0.slots t 9)
abbrev st0_10 (t : Fin cfg0.N) := (cfg0.win 10).stage (cfg0.slots t 10)
abbrev st0_11 (t : Fin cfg0.N) := (cfg0.win 11).stage (cfg0.slots t 11)
abbrev st0_12 (t : Fin cfg0.N) := (cfg0.win 12).stage (cfg0.slots t 12)
abbrev st0_13 (t : Fin cfg0.N) := (cfg0.win 13).stage (cfg0.slots t 13)
abbrev st0_14 (t : Fin cfg0.N) := (cfg0.win 14).stage (cfg0.slots t 14)
/-- The body at point `t`, on the buffers it is called with. -/
abbrev bodyAt0 (t : Fin cfg0.N) : Prog (TpuEff nD τ sig (Elt F) Λ₀ .tc) PUnit :=
  cc0_out_proj (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (win0_14.stage (cfg0.slots t 14)) (hstage0_14 ((cfg0.slots t 14).cast nbuf0_14))

/-- What the region finds: the memory as launched. -/
abbrev V (c : Dev nD) (b : Ref sig .tc) : Buf (Elt F) ((c : Thread nD τ).loc b) := m ((c : Thread nD τ).loc b)

set_option maxHeartbeats 800000 in
theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

/-- Window `w`'s block at point `t`. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The proof data: the arrays as launched; after a point each input at its block, each result at what the body stored. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => mixW (iblk m c 0 t) (iblk m c 1 t) (iblk m c 2 t) (iblk m c 3 t) (iblk m c 4 t) (iblk m c 5 t) (iblk m c 6 t) (iblk m c 7 t) (iblk m c 8 t) (iblk m c 9 t) (iblk m c 10 t)
    | ⟨12, _⟩ => tokB (iblk m c 0 t) (iblk m c 1 t) (iblk m c 2 t) (iblk m c 3 t) (iblk m c 4 t) (iblk m c 5 t) (iblk m c 6 t) (iblk m c 7 t) (iblk m c 8 t) (iblk m c 9 t) (iblk m c 10 t)
    | ⟨13, _⟩ => idxW (iblk m c 0 t) (iblk m c 1 t) (iblk m c 2 t) (iblk m c 3 t) (iblk m c 4 t) (iblk m c 5 t) (iblk m c 6 t) (iblk m c 7 t) (iblk m c 8 t) (iblk m c 9 t) (iblk m c 10 t)
    | ⟨14, _⟩ => gateW (iblk m c 0 t) (iblk m c 1 t) (iblk m c 2 t) (iblk m c 3 t) (iblk m c 4 t) (iblk m c 5 t) (iblk m c 6 t) (iblk m c 7 t) (iblk m c 8 t) (iblk m c 9 t) (iblk m c 10 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = mixW (iblk m c 0 t) (iblk m c 1 t) (iblk m c 2 t) (iblk m c 3 t) (iblk m c 4 t) (iblk m c 5 t) (iblk m c 6 t) (iblk m c 7 t) (iblk m c 8 t) (iblk m c 9 t) (iblk m c 10 t) := by dsimp only [dats]
theorem after0_12 (c : Dev nD) (t : Fin cfg0.N) : (dats m 0 c).after 12 t = tokB (iblk m c 0 t) (iblk m c 1 t) (iblk m c 2 t) (iblk m c 3 t) (iblk m c 4 t) (iblk m c 5 t) (iblk m c 6 t) (iblk m c 7 t) (iblk m c 8 t) (iblk m c 9 t) (iblk m c 10 t) := by dsimp only [dats]
theorem after0_13 (c : Dev nD) (t : Fin cfg0.N) : (dats m 0 c).after 13 t = idxW (iblk m c 0 t) (iblk m c 1 t) (iblk m c 2 t) (iblk m c 3 t) (iblk m c 4 t) (iblk m c 5 t) (iblk m c 6 t) (iblk m c 7 t) (iblk m c 8 t) (iblk m c 9 t) (iblk m c 10 t) := by dsimp only [dats]
theorem after0_14 (c : Dev nD) (t : Fin cfg0.N) : (dats m 0 c).after 14 t = gateW (iblk m c 0 t) (iblk m c 1 t) (iblk m c 2 t) (iblk m c 3 t) (iblk m c 4 t) (iblk m c 5 t) (iblk m c 6 t) (iblk m c 7 t) (iblk m c 8 t) (iblk m c 9 t) (iblk m c 10 t) := by dsimp only [dats]

/-! Each input's buffer holds its block at every point. -/

theorem before0_0 (c : Dev nD) (t : Fin cfg0.N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)
theorem before0_3 (c : Dev nD) (t : Fin cfg0.N) (d) : (dats m 0 c).before 3 t d = iblk m c 3 t :=
  ((dats m 0 c).before_in_eq_fetched 3 rfl (fun _ => rfl) (fun _ _ _ => rfl) (fun t => by rw [after0_3]; unfold Dat.blockOf iblk; rw [A_eq]; try rfl) t d).trans
    (by unfold Dat.fetched Dat.blockOf iblk; rw [A_eq]; try rfl)
theorem before0_4 (c : Dev nD) (t : Fin cfg0.N) (d) : (dats m 0 c).before 4 t d = iblk m c 4 t :=
  ((dats m 0 c).before_in_eq_fetched 4 rfl (fun _ => rfl) (fun _ _ _ => rfl) (fun t => by rw [after0_4]; unfold Dat.blockOf iblk; rw [A_eq]; try rfl) t d).trans
    (by unfold Dat.fetched Dat.blockOf iblk; rw [A_eq]; try rfl)
theorem before0_5 (c : Dev nD) (t : Fin cfg0.N) (d) : (dats m 0 c).before 5 t d = iblk m c 5 t :=
  ((dats m 0 c).before_in_eq_fetched 5 rfl (fun _ => rfl) (fun _ _ _ => rfl) (fun t => by rw [after0_5]; unfold Dat.blockOf iblk; rw [A_eq]; try rfl) t d).trans
    (by unfold Dat.fetched Dat.blockOf iblk; rw [A_eq]; try rfl)
theorem before0_6 (c : Dev nD) (t : Fin cfg0.N) (d) : (dats m 0 c).before 6 t d = iblk m c 6 t :=
  ((dats m 0 c).before_in_eq_fetched 6 rfl (fun _ => rfl) (fun _ _ _ => rfl) (fun t => by rw [after0_6]; unfold Dat.blockOf iblk; rw [A_eq]; try rfl) t d).trans
    (by unfold Dat.fetched Dat.blockOf iblk; rw [A_eq]; try rfl)
theorem before0_7 (c : Dev nD) (t : Fin cfg0.N) (d) : (dats m 0 c).before 7 t d = iblk m c 7 t :=
  ((dats m 0 c).before_in_eq_fetched 7 rfl (fun _ => rfl) (fun _ _ _ => rfl) (fun t => by rw [after0_7]; unfold Dat.blockOf iblk; rw [A_eq]; try rfl) t d).trans
    (by unfold Dat.fetched Dat.blockOf iblk; rw [A_eq]; try rfl)
theorem before0_8 (c : Dev nD) (t : Fin cfg0.N) (d) : (dats m 0 c).before 8 t d = iblk m c 8 t :=
  ((dats m 0 c).before_in_eq_fetched 8 rfl (fun _ => rfl) (fun _ _ _ => rfl) (fun t => by rw [after0_8]; unfold Dat.blockOf iblk; rw [A_eq]; try rfl) t d).trans
    (by unfold Dat.fetched Dat.blockOf iblk; rw [A_eq]; try rfl)
theorem before0_9 (c : Dev nD) (t : Fin cfg0.N) (d) : (dats m 0 c).before 9 t d = iblk m c 9 t :=
  ((dats m 0 c).before_in_eq_fetched 9 rfl (fun _ => rfl) (fun _ _ _ => rfl) (fun t => by rw [after0_9]; unfold Dat.blockOf iblk; rw [A_eq]; try rfl) t d).trans
    (by unfold Dat.fetched Dat.blockOf iblk; rw [A_eq]; try rfl)
theorem before0_10 (c : Dev nD) (t : Fin cfg0.N) (d) : (dats m 0 c).before 10 t d = iblk m c 10 t :=
  ((dats m 0 c).before_in_eq_fetched 10 rfl (fun _ => rfl) (fun _ _ _ => rfl) (fun t => by rw [after0_10]; unfold Dat.blockOf iblk; rw [A_eq]; try rfl) t d).trans
    (by unfold Dat.fetched Dat.blockOf iblk; rw [A_eq]; try rfl)

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t))

/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  iapply (body_run c Set.univ (grid0.coords t) _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  isplitl [H12]; · iexists _; iexact H12
  isplitl [H13]; · iexists _; iexact H13
  isplitl [H14]; · iexists _; iexact H14
  iintro ⟨H0, H1, H2, H3, H4, H5, H6, H7, H8, H9, H10, H11, H12, H13, H14⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexact H14

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
set_option maxHeartbeats 800000 in
/-- Every execution ends, with every array at what the pipeline computes and no semaphore pending. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The launch with the two results named, the arguments as they were. -/
theorem run_value : θ_run defs (onTc (τ := τ) (main (F := F))) ⟨m, fun _ => 0, ρ⟩ (fun r => (∀ c : Dev nD,
      r.2.mem ((c.tc : Thread nD τ).loc main_v0_0) = (dats m 0 c).arrAt 11 cfg0.N
      ∧ r.2.mem ((c.tc : Thread nD τ).loc main_v0_1) = (dats m 0 c).arrAt 12 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  (θ_run defs _ _).mono (fun r h => ⟨fun c => ⟨(h.1 c).1 11, (h.1 c).1 12,
      ((h.1 c).1 0).trans (((dats m 0 c).arrAt_in 0 rfl _).trans (A_eq m c 0)),
      ((h.1 c).1 1).trans (((dats m 0 c).arrAt_in 1 rfl _).trans (A_eq m c 1)),
      ((h.1 c).1 2).trans (((dats m 0 c).arrAt_in 2 rfl _).trans (A_eq m c 2)),
      ((h.1 c).1 3).trans (((dats m 0 c).arrAt_in 3 rfl _).trans (A_eq m c 3)),
      ((h.1 c).1 4).trans (((dats m 0 c).arrAt_in 4 rfl _).trans (A_eq m c 4)),
      ((h.1 c).1 5).trans (((dats m 0 c).arrAt_in 5 rfl _).trans (A_eq m c 5)),
      ((h.1 c).1 6).trans (((dats m 0 c).arrAt_in 6 rfl _).trans (A_eq m c 6)),
      ((h.1 c).1 7).trans (((dats m 0 c).arrAt_in 7 rfl _).trans (A_eq m c 7)),
      ((h.1 c).1 8).trans (((dats m 0 c).arrAt_in 8 rfl _).trans (A_eq m c 8)),
      ((h.1 c).1 9).trans (((dats m 0 c).arrAt_in 9 rfl _).trans (A_eq m c 9)),
      ((h.1 c).1 10).trans (((dats m 0 c).arrAt_in 10 rfl _).trans (A_eq m c 10))⟩, h.2⟩)
    (run_main_quiescent m ρ)

/-- The arguments are kept, and no semaphore is pending at the end. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  (θ_run defs _ _).mono (fun _ h => ⟨fun c => (h.1 c).2.2, h.2⟩) (run_value m ρ)

end Cert.OutABIdeal.Hand

end
-- ==== Proof.OutaBits.lean ====
/-
  The program at bit patterns is the program at extended reals with the other carrier, so the frame proved once for every carrier is the frame of both.
-/
module

public import proofs.«01_k».proof.Defs
public import proofs.«01_k».proof.Proof.OutaFrame
public import proofs.«01_k».proof.Proof.Gen.OutAB.Launch

@[expose] public section

set_option maxRecDepth 16384

namespace Cert.OutaBits

open Idealize.ShloMosaic Idealize.SL.Sem

local instance : Cert.OutAB.Facts := Cert.OutAB.Gen.facts
local instance : Cert.OutABIdeal.Facts := Cert.OutABIdeal.Gen.facts

variable {F : FTy → Type} [FloatOps F]

theorem calls_eq : OutAB.defs₀ (F := F) = OutABIdeal.defs₀ := by
  unfold OutAB.defs₀ OutABIdeal.defs₀
  refine congrArg Defs.onTc (funext fun l => funext fun x => ?_)
  match l, x with
  | 0, (t, s) => rfl
  | ⟨_ + 1, h⟩, _ => exact absurd h (Nat.not_lt.2 (Nat.le_add_left _ _))

theorem defs_eq : OutAB.defs (F := F) = OutABIdeal.defs := by
  unfold OutAB.defs OutABIdeal.defs
  exact congrArg (Pipeline.defs OutABIdeal.pcfgs) calls_eq

theorem frame : Cert.quiescent_OutAB (hOutAB := Cert.OutAB.Gen.facts) := fun m ρ _ => by
  have h := Cert.OutABIdeal.Hand.frame (F := Bits) m ρ
  rw [← defs_eq] at h
  exact h

end Cert.OutaBits

end
-- ==== Proof.OutaKer.lean ====
/-
  What one grid point of the output projection writes, and what its two compared arrays hold at the end.
-/
module

public import proofs.«01_k».proof.Proof.OutSpec
public import proofs.«01_k».proof.Proof.OutaFrame

@[expose] public section

set_option maxRecDepth 16384

noncomputable section

namespace Cert.OutaKer

open Cert.OutABIdeal Cert.OutABIdeal.Gen Cert.OutABIdeal.Hand Cert.Out Cert.Proj Idealize.ShloMosaic Idealize.ShloMosaic.Pipeline Idealize.SL.Sem

section Block

variable (x0 x1 : Vec Ideal S512x512 .bf16) (x2 x3 : Vec Ideal S512x1024 .bf16) (x4 : Vec Ideal S512x1024 .f32) (x5 : Vec Ideal S1x1x1024 .f32) (x6 : Vec Ideal S1x1024 .f32) (x7 x8 : Vec Ideal S1x1x1024 .f32) (x9 : Vec Ideal S1024x256 .bf16) (x10 : Vec Ideal S1x128 .f32)

theorem z2 : (![0, 0] : Fin 2 → ℕ) = fun _ => 0 := by decide
theorem z3 : (![0, 0, 0] : Fin 3 → ℕ) = fun _ => 0 := by decide
theorem l0 (X : Vec Ideal S512x512 .bf16) : View.ld X w512x512 = X := View.ld_unit_zero z2 _ X
theorem l1 (X : Vec Ideal S512x1024 .bf16) : View.ld X w512x1024 = X := View.ld_unit_zero z2 _ X
theorem l2 (X : Vec Ideal S512x1024 .f32) : View.ld X w512x1024 = X := View.ld_unit_zero z2 _ X
theorem l3 (X : Vec Ideal S1x1x1024 .f32) : View.ld X w1x1x1024 = X := View.ld_unit_zero z3 _ X
theorem l4 (X : Vec Ideal S1x1024 .f32) : View.ld X w1x1024 = X := View.ld_unit_zero z2 _ X

/-- Row `R` of a block's residual rows, and of its tokens. -/
def bmix (R : Fin 512) : Fin 1024 → EReal :=
  mixed (fun d => x4 (ix2 R d)) (fun d => x5 (ix3 0 0 d)) (joined (fun d => x0 (ix2 R d)) (fun d => x1 (ix2 R d))) (fun d e => joined (fun d => x2 (ix2 d e)) (fun d => x3 (ix2 d e)) d)

def btok (R : Fin 512) : Fin 1024 → EReal :=
  hm (bmix x0 x1 x2 x3 x4 x5 R) (fun d => x6 (ix2 0 d)) (fun d => x7 (ix3 0 0 d)) (fun d => x8 (ix3 0 0 d))

theorem mix_at (R : Fin 512) (L : Fin 1024) : mixW x0 x1 x2 x3 x4 x5 x6 x7 x8 x9 x10 (ix2 R L) = bmix x0 x1 x2 x3 x4 x5 R L := by
  unfold mixW bmix mixed
  simp only [l0, l1, l2, l3, l4]
  simp only [← joined_sum]
  unfold k0_pay3
  pointwise [dot_S512x512_S512x1024_S512x1024_1_0_0_1_n_n]

theorem tok_at (R : Fin 512) (L : Fin 1024) : tokW x0 x1 x2 x3 x4 x5 x6 x7 x8 x9 x10 (ix2 R L) = btok x0 x1 x2 x3 x4 x5 x6 x7 x8 R L := by
  unfold tokW btok hm
  have e : ∀ d, bmix x0 x1 x2 x3 x4 x5 R d = mixW x0 x1 x2 x3 x4 x5 x6 x7 x8 x9 x10 (ix2 R d) := fun d => (mix_at x0 x1 x2 x3 x4 x5 x6 x7 x8 x9 x10 R d).symm
  simp only [e]
  unfold mixW
  simp only [l0, l1, l2, l3, l4]
  unfold k0_pay8 k0_pay4 k0_pay5 k0_pay6 k0_pay7
  generalize k0_pay3 x0 x2 x1 x3 x4 x5 = M
  pointwise

end Block

section Arrays

variable (m : (ℓ : Loc nD τ sig) → Buf (Elt Ideal) ℓ) (c : Dev nD)

theorem idx : ∀ t : Fin grid0.N, win0_0.index t = ![t.val, 0] ∧ win0_1.index t = ![t.val, 0] ∧ win0_2.index t = ![0, 0] ∧ win0_3.index t = ![0, 0] ∧ win0_4.index t = ![t.val, 0] ∧ win0_5.index t = ![t.val / 4, 0, 0] ∧ win0_6.index t = ![0, 0] ∧ win0_7.index t = ![t.val / 4, 0, 0] ∧ win0_8.index t = ![t.val / 4, 0, 0] ∧ win0_11.index t = ![t.val, 0] ∧ win0_12.index t = ![t.val, 0] := by
  decide +kernel

/-- Row `R` of the residual rows, and of the tokens, from the arguments. -/
def xrow (R : Fin 32768) : Fin 1024 → EReal :=
  mixed (fun d => (m ((c.tc : Thread nD τ).loc main_arg4) : Vec Ideal S32768x1024 .f32) (ix2 R d)) (fun d => (m ((c.tc : Thread nD τ).loc main_arg5) : Vec Ideal S24x1x1024 .f32) (ix3 ⟨R.val / 2048, by omega⟩ 0 d))
    (joined (fun d => (m ((c.tc : Thread nD τ).loc main_arg0) : Vec Ideal S32768x512 .bf16) (ix2 R d)) (fun d => (m ((c.tc : Thread nD τ).loc main_arg1) : Vec Ideal S32768x512 .bf16) (ix2 R d)))
    (fun d e => joined (fun d => (m ((c.tc : Thread nD τ).loc main_arg2) : Vec Ideal S512x1024 .bf16) (ix2 d e)) (fun d => (m ((c.tc : Thread nD τ).loc main_arg3) : Vec Ideal S512x1024 .bf16) (ix2 d e)) d)

def trow (R : Fin 32768) : Fin 1024 → EReal :=
  hm (xrow m c R) (fun d => (m ((c.tc : Thread nD τ).loc main_arg6) : Vec Ideal S1x1024 .f32) (ix2 0 d)) (fun d => (m ((c.tc : Thread nD τ).loc main_arg7) : Vec Ideal S24x1x1024 .f32) (ix3 ⟨R.val / 2048, by omega⟩ 0 d))
    (fun d => (m ((c.tc : Thread nD τ).loc main_arg8) : Vec Ideal S24x1x1024 .f32) (ix3 ⟨R.val / 2048, by omega⟩ 0 d))

/-! Each block read at an index is an argument read at an index. -/

set_option maxHeartbeats 2000000 in
theorem b0 (t : Fin grid0.N) (r : Fin 512) (A : Fin 32768) (hA : A.val = t.val * 512 + r.val) (d : Fin 512) :
    iblk m c 0 t (ix2 r d) = (m ((c.tc : Thread nD τ).loc main_arg0) : Vec Ideal S32768x512 .bf16) (ix2 A d) := by
  obtain ⟨i0, -⟩ := idx t
  blk_ext [iblk, i0]

set_option maxHeartbeats 2000000 in
theorem b1 (t : Fin grid0.N) (r : Fin 512) (A : Fin 32768) (hA : A.val = t.val * 512 + r.val) (d : Fin 512) :
    iblk m c 1 t (ix2 r d) = (m ((c.tc : Thread nD τ).loc main_arg1) : Vec Ideal S32768x512 .bf16) (ix2 A d) := by
  obtain ⟨-, i1, -⟩ := idx t
  blk_ext [iblk, i1]

set_option maxHeartbeats 2000000 in
theorem b2 (t : Fin grid0.N) (d : Fin 512) (e : Fin 1024) : iblk m c 2 t (ix2 d e) = (m ((c.tc : Thread nD τ).loc main_arg2) : Vec Ideal S512x1024 .bf16) (ix2 d e) := by
  obtain ⟨-, -, i2, -⟩ := idx t
  blk_ext [iblk, i2]

set_option maxHeartbeats 2000000 in
theorem b3 (t : Fin grid0.N) (d : Fin 512) (e : Fin 1024) : iblk m c 3 t (ix2 d e) = (m ((c.tc : Thread nD τ).loc main_arg3) : Vec Ideal S512x1024 .bf16) (ix2 d e) := by
  obtain ⟨-, -, -, i3, -⟩ := idx t
  blk_ext [iblk, i3]

set_option maxHeartbeats 2000000 in
theorem b4 (t : Fin grid0.N) (r : Fin 512) (A : Fin 32768) (hA : A.val = t.val * 512 + r.val) (d : Fin 1024) :
    iblk m c 4 t (ix2 r d) = (m ((c.tc : Thread nD τ).loc main_arg4) : Vec Ideal S32768x1024 .f32) (ix2 A d) := by
  obtain ⟨-, -, -, -, i4, -⟩ := idx t
  blk_ext [iblk, i4]

set_option maxHeartbeats 2000000 in
theorem b5 (t : Fin grid0.N) (r : Fin 512) (A : Fin 32768) (hA : A.val = t.val * 512 + r.val) (d : Fin 1024) :
    iblk m c 5 t (ix3 0 0 d) = (m ((c.tc : Thread nD τ).loc main_arg5) : Vec Ideal S24x1x1024 .f32) (ix3 ⟨A.val / 2048, by omega⟩ 0 d) := by
  obtain ⟨-, -, -, -, -, i5, -⟩ := idx t
  have : t.val / 4 = A.val / 2048 := by omega
  blk_ext [iblk, i5]

set_option maxHeartbeats 2000000 in
theorem b6 (t : Fin grid0.N) (d : Fin 1024) : iblk m c 6 t (ix2 0 d) = (m ((c.tc : Thread nD τ).loc main_arg6) : Vec Ideal S1x1024 .f32) (ix2 0 d) := by
  obtain ⟨-, -, -, -, -, -, i6, -⟩ := idx t
  blk_ext [iblk, i6]

set_option maxHeartbeats 2000000 in
theorem b7 (t : Fin grid0.N) (r : Fin 512) (A : Fin 32768) (hA : A.val = t.val * 512 + r.val) (d : Fin 1024) :
    iblk m c 7 t (ix3 0 0 d) = (m ((c.tc : Thread nD τ).loc main_arg7) : Vec Ideal S24x1x1024 .f32) (ix3 ⟨A.val / 2048, by omega⟩ 0 d) := by
  obtain ⟨-, -, -, -, -, -, -, i7, -⟩ := idx t
  have : t.val / 4 = A.val / 2048 := by omega
  blk_ext [iblk, i7]

set_option maxHeartbeats 2000000 in
theorem b8 (t : Fin grid0.N) (r : Fin 512) (A : Fin 32768) (hA : A.val = t.val * 512 + r.val) (d : Fin 1024) :
    iblk m c 8 t (ix3 0 0 d) = (m ((c.tc : Thread nD τ).loc main_arg8) : Vec Ideal S24x1x1024 .f32) (ix3 ⟨A.val / 2048, by omega⟩ 0 d) := by
  obtain ⟨-, -, -, -, -, -, -, -, i8, -⟩ := idx t
  have : t.val / 4 = A.val / 2048 := by omega
  blk_ext [iblk, i8]

theorem bmix_eq (t : Fin grid0.N) (r : Fin 512) (A : Fin 32768) (hA : A.val = t.val * 512 + r.val) :
    bmix (iblk m c 0 t) (iblk m c 1 t) (iblk m c 2 t) (iblk m c 3 t) (iblk m c 4 t) (iblk m c 5 t) r = xrow m c A := by
  unfold bmix xrow
  simp only [b0 m c t r A hA, b1 m c t r A hA, b2 m c t, b3 m c t, b4 m c t r A hA, b5 m c t r A hA]

theorem btok_eq (t : Fin grid0.N) (r : Fin 512) (A : Fin 32768) (hA : A.val = t.val * 512 + r.val) :
    btok (iblk m c 0 t) (iblk m c 1 t) (iblk m c 2 t) (iblk m c 3 t) (iblk m c 4 t) (iblk m c 5 t) (iblk m c 6 t) (iblk m c 7 t) (iblk m c 8 t) r = trow m c A := by
  unfold btok trow
  rw [bmix_eq m c t r A hA]
  simp only [b6 m c t, b7 m c t r A hA, b8 m c t r A hA]

theorem arrx : (dats m 0 c).arrAt 11 (cfgs 0).N = fun i => xrow m c (i 0) (i 1) := by
  refine (dats m 0 c).arrAt_eq_of_covers 11 _ (by decide +kernel) fun t hf y => ?_
  blk_simp
  rw [after0_11]
  obtain ⟨r, l, rfl⟩ : ∃ (r : Fin 512) (l : Fin 1024), y = ix2 r l := ⟨y 0, y 1, by funext a; fin_cases a <;> rfl⟩
  obtain ⟨-, -, -, -, -, -, -, -, -, i11, -⟩ := idx t
  have he0 : (((win0_11.blk t).view.emb (ix2 r l) 0 : Fin 32768) : ℕ) = t.val * 512 + r.val := by
    blk_simp [i11]
  have he1 : (((win0_11.blk t).view.emb (ix2 r l) 1 : Fin 1024) : ℕ) = l.val := by
    blk_simp [i11]
  generalize ((win0_11.blk t).view.emb (ix2 r l) 0 : Fin 32768) = A at he0
  generalize ((win0_11.blk t).view.emb (ix2 r l) 1 : Fin 1024) = B at he1
  obtain rfl : l = B := (Fin.ext he1).symm
  rw [mix_at, bmix_eq m c t r A he0]

/-- The tokens at row `A` and column `B` of the array they are stored in. -/
def tarr (A : Fin 262144) (B : Fin 128) : EReal := trow m c ⟨A.val / 8, by omega⟩ ⟨A.val % 8 * 128 + B.val, by omega⟩

theorem arrt : (dats m 0 c).arrAt 12 (cfgs 0).N = fun i => tarr m c (i 0) (i 1) := by
  refine (dats m 0 c).arrAt_eq_of_covers 12 _ (by decide +kernel) fun t hf y => ?_
  blk_simp
  rw [after0_12]
  obtain ⟨r, l, rfl⟩ : ∃ (r : Fin 4096) (l : Fin 128), y = ix2 r l := ⟨y 0, y 1, by funext a; fin_cases a <;> rfl⟩
  obtain ⟨-, -, -, -, -, -, -, -, -, -, i12⟩ := idx t
  have he0 : (((win0_12.blk t).view.emb (ix2 r l) 0 : Fin 262144) : ℕ) = t.val * 4096 + r.val := by
    blk_simp [i12]
  have he1 : (((win0_12.blk t).view.emb (ix2 r l) 1 : Fin 128) : ℕ) = l.val := by
    blk_simp [i12]
  generalize ((win0_12.blk t).view.emb (ix2 r l) 0 : Fin 262144) = A at he0
  generalize ((win0_12.blk t).view.emb (ix2 r l) 1 : Fin 128) = B at he1
  obtain rfl : l = B := (Fin.ext he1).symm
  have hl : l.val < 128 := l.isLt
  have hA : A.val < 262144 := A.isLt
  have e : tokB (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 r l) = tokW (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 ⟨r.val / 8, by omega⟩ ⟨r.val % 8 * 128 + l.val, by omega⟩) := rfl
  unfold tarr
  rw [e, tok_at, btok_eq m c t ⟨r.val / 8, by omega⟩ ⟨A.val / 8, by omega⟩ (by dsimp only; omega)]
  exact congrArg _ (Fin.ext (by dsimp only; omega))

end Arrays

end Cert.OutaKer

end
-- ==== Proof.OutaRef.lean ====
/-
  The reference of the output projection: its two results cut into stages, and each stage at an index.
-/
module

public import proofs.«01_k».proof.Proof.OutSpec
public import proofs.«01_k».proof.Proof.Gen.OutABReferenceIdeal.Run

@[expose] public section

set_option maxRecDepth 16384

noncomputable section

namespace Cert.OutaRef

open Cert.OutABReferenceIdeal Cert.OutABReferenceIdeal.Gen Cert.Out Cert.Proj Idealize.ShloMosaic Idealize.SL.Sem

/-- Two halves joined. -/
def refO (oa ob : FVec Ideal S32768x512 .bf16) : FVec Ideal S32768x1024 .bf16 := concatenate S32768x1024 1 [⟨S32768x512, oa⟩, ⟨S32768x512, ob⟩] concatenates_S32768x512_S32768x512_S32768x1024_d1

def refW (wa wb : FVec Ideal S512x1024 .bf16) : FVec Ideal S1024x1024 .bf16 := concatenate S1024x1024 0 [⟨S512x1024, wa⟩, ⟨S512x1024, wb⟩] concatenates_S512x1024_S512x1024_S1024x1024_d0

theorem refO_at (oa ob : FVec Ideal S32768x512 .bf16) (R : Fin 32768) (d : Fin 1024) :
    refO oa ob (ix2 R d) = joined (fun d => oa (ix2 R d)) (fun d => ob (ix2 R d)) d := by
  unfold refO joined
  pointwise

theorem refW_at (wa wb : FVec Ideal S512x1024 .bf16) (d e : Fin 1024) :
    refW wa wb (ix2 d e) = joined (fun d => wa (ix2 d e)) (fun d => wb (ix2 d e)) d := by
  unfold refW joined
  pointwise

/-- The residual plus the gated product. -/
def refMix (o : FVec Ideal S32768x1024 .bf16) (w : FVec Ideal S1024x1024 .bf16) (x : FVec Ideal S32768x1024 .f32) (g : FVec Ideal S24x1x1024 .f32) :
    FVec Ideal S16x2048x1024 .f32 :=
  addf (shapeCast _ x shapeCasts_S32768x1024_S16x2048x1024)
    (mulf (broadcastInDim S16x2048x1024 ![0, 1, 2] bcast_S16x1x1024_S16x2048x1024_0_1_2
        (extractStridedSlice S16x1x1024 ![0, 0, 0] g slices_S24x1x1024_S16x1x1024_0_0_0))
      (Host.dotGeneral dot_S16x2048x1024_S1024x1024_S16x2048x1024_2_0_01_1_n_n none
        (shapeCast _ (extf .f32 o bitsLt_bf16_f32) shapeCasts_S32768x1024_S16x2048x1024) (extf .f32 w bitsLt_bf16_f32)))

/-- The normalised, scaled and shifted rows. -/
def refH (x : FVec Ideal S16x2048x1024 .f32) (g : Vec Ideal S1x1024 .f32) (sc sh : Vec Ideal S24x1x1024 .f32) : FVec Ideal S16x2048x1024 .f32 :=
  addf (mulf (mulf (mulf x (broadcastInDim S16x2048x1024 ![0, 1, 2] bcast_S16x2048x1_S16x2048x1024_0_1_2
      (Host.rsqrt (addf (Host.divf (broadcastInDim S16x2048x1 ![0, 1] bcast_S16x2048_S16x2048x1_0_1
          (Host.reduceAdd (mulf x x) (constant S_ .f32 0x00000000#32) reducesTo_S16x2048x1024_S16x2048_d2 h_S_))
          (broadcastInDim S16x2048x1 ![] bcast_S_S16x2048x1 (constant S_ .f32 0x44800000#32)))
        (broadcastInDim S16x2048x1 ![] bcast_S_S16x2048x1 (constant S_ .f32 0x358637BD#32))))))
      (broadcastInDim S16x2048x1024 ![0, 1, 2] bcast_S1x1x1024_S16x2048x1024_0_1_2 (broadcastInDim S1x1x1024 ![2] bcast_S1024_S1x1x1024_2
        (shapeCast _ g shapeCasts_S1x1024_S1024))))
    (broadcastInDim S16x2048x1024 ![0, 1, 2] bcast_S16x1x1024_S16x2048x1024_0_1_2
      (addf (broadcastInDim S16x1x1024 ![] bcast_S_S16x1x1024 (constant S_ .f32 0x3F800000#32))
        (extractStridedSlice S16x1x1024 ![0, 0, 0] sc slices_S24x1x1024_S16x1x1024_0_0_0))))
    (broadcastInDim S16x2048x1024 ![0, 1, 2] bcast_S16x1x1024_S16x2048x1024_0_1_2
      (extractStridedSlice S16x1x1024 ![0, 0, 0] sh slices_S24x1x1024_S16x1x1024_0_0_0))

def back (x : FVec Ideal S16x2048x1024 .f32) : FVec Ideal S32768x1024 .f32 := shapeCast _ x shapeCasts_S16x2048x1024_S32768x1024

def toks (x : FVec Ideal S16x2048x1024 .f32) : FVec Ideal S262144x128 .f32 := shapeCast _ (back x) shapeCasts_S32768x1024_S262144x128

theorem refMix_at (o : FVec Ideal S32768x1024 .bf16) (w : FVec Ideal S1024x1024 .bf16) (x : FVec Ideal S32768x1024 .f32) (g : FVec Ideal S24x1x1024 .f32)
    (b : Fin 16) (s : Fin 2048) (d : Fin 1024) : refMix o w x g (ix3 b s d)
      = mixed (fun d => x (ix2 ⟨b.val * 2048 + s.val, by omega⟩ d)) (fun d => g (ix3 ⟨b.val, by omega⟩ 0 d))
          (fun d => o (ix2 ⟨b.val * 2048 + s.val, by omega⟩ d)) (fun d e => w (ix2 d e)) d := by
  unfold refMix mixed
  pointwise [dot_S16x2048x1024_S1024x1024_S16x2048x1024_2_0_01_1_n_n]

theorem refH_at (x : FVec Ideal S16x2048x1024 .f32) (g : Vec Ideal S1x1024 .f32) (sc sh : Vec Ideal S24x1x1024 .f32)
    (b : Fin 16) (s : Fin 2048) (d : Fin 1024) :
    refH x g sc sh (ix3 b s d) = hm (fun d => x (ix3 b s d)) (fun d => g (ix2 0 d)) (fun d => sc (ix3 ⟨b.val, by omega⟩ 0 d))
      (fun d => sh (ix3 ⟨b.val, by omega⟩ 0 d)) d := by
  unfold refH hm
  pointwise

theorem back_at (x : FVec Ideal S16x2048x1024 .f32) (R : Fin 32768) (d : Fin 1024) :
    back x (ix2 R d) = x (ix3 ⟨R.val / 2048, by omega⟩ ⟨R.val % 2048, by omega⟩ d) := by
  unfold back
  pointwise

theorem toks_at (x : FVec Ideal S16x2048x1024 .f32) (A : Fin 262144) (B : Fin 128) :
    toks x (ix2 A B) = back x (ix2 ⟨A.val / 8, by omega⟩ ⟨A.val % 8 * 128 + B.val, by omega⟩) := by
  unfold toks
  generalize back x = X
  pointwise

section Results

variable (m : (ℓ : Loc nD τ sig) → Buf (Elt Ideal) ℓ) (c : Dev nD)

def sums : FVec Ideal S16x2048x1024 .f32 :=
  refMix (refO (m ((c.tc : Thread nD τ).loc main_arg0)) (m ((c.tc : Thread nD τ).loc main_arg1))) (refW (m ((c.tc : Thread nD τ).loc main_arg2)) (m ((c.tc : Thread nD τ).loc main_arg3))) (m ((c.tc : Thread nD τ).loc main_arg4)) (m ((c.tc : Thread nD τ).loc main_arg5))

def resX : FVec Ideal S32768x1024 .f32 := back (sums m c)

def resT : FVec Ideal S262144x128 .f32 :=
  toks (refH (sums m c) (m ((c.tc : Thread nD τ).loc main_arg6)) (m ((c.tc : Thread nD τ).loc main_arg7)) (m ((c.tc : Thread nD τ).loc main_arg8)))

/-- Row `R` of the residual rows, and of the tokens, from the arguments. -/
def xrow (R : Fin 32768) : Fin 1024 → EReal :=
  mixed (fun d => (m ((c.tc : Thread nD τ).loc main_arg4) : Vec Ideal S32768x1024 .f32) (ix2 R d)) (fun d => (m ((c.tc : Thread nD τ).loc main_arg5) : Vec Ideal S24x1x1024 .f32) (ix3 ⟨R.val / 2048, by omega⟩ 0 d))
    (joined (fun d => (m ((c.tc : Thread nD τ).loc main_arg0) : Vec Ideal S32768x512 .bf16) (ix2 R d)) (fun d => (m ((c.tc : Thread nD τ).loc main_arg1) : Vec Ideal S32768x512 .bf16) (ix2 R d)))
    (fun d e => joined (fun d => (m ((c.tc : Thread nD τ).loc main_arg2) : Vec Ideal S512x1024 .bf16) (ix2 d e)) (fun d => (m ((c.tc : Thread nD τ).loc main_arg3) : Vec Ideal S512x1024 .bf16) (ix2 d e)) d)

def trow (R : Fin 32768) : Fin 1024 → EReal :=
  hm (xrow m c R) (fun d => (m ((c.tc : Thread nD τ).loc main_arg6) : Vec Ideal S1x1024 .f32) (ix2 0 d)) (fun d => (m ((c.tc : Thread nD τ).loc main_arg7) : Vec Ideal S24x1x1024 .f32) (ix3 ⟨R.val / 2048, by omega⟩ 0 d))
    (fun d => (m ((c.tc : Thread nD τ).loc main_arg8) : Vec Ideal S24x1x1024 .f32) (ix3 ⟨R.val / 2048, by omega⟩ 0 d))

theorem sums_at (R : Fin 32768) (d : Fin 1024) : sums m c (ix3 ⟨R.val / 2048, by omega⟩ ⟨R.val % 2048, by omega⟩ d) = xrow m c R d := by
  have hR : (⟨R.val / 2048 * 2048 + R.val % 2048, by omega⟩ : Fin 32768) = R := Fin.ext (by dsimp only; omega)
  unfold sums xrow
  simp only [refMix_at, refO_at, refW_at, hR]

theorem resX_at (R : Fin 32768) (L : Fin 1024) : resX m c (ix2 R L) = xrow m c R L := by
  unfold resX
  rw [back_at, sums_at]

theorem resT_at (A : Fin 262144) (B : Fin 128) : resT m c (ix2 A B) = trow m c ⟨A.val / 8, by omega⟩ ⟨A.val % 8 * 128 + B.val, by omega⟩ := by
  unfold resT trow
  rw [toks_at, back_at, refH_at]
  exact congrArg (fun f => hm f _ _ _ _) (funext fun d => sums_at m c ⟨A.val / 8, by omega⟩ d)

end Results

end Cert.OutaRef

end
-- ==== Proof.OutaEq.lean ====
/-
  The output projection against its reference: the residual rows and the tokens, and the reference's frame.
-/
module

public import proofs.«01_k».proof.Defs
public import proofs.«01_k».proof.Proof.OutaKer
public import proofs.«01_k».proof.Proof.OutaRef

@[expose] public section

set_option maxRecDepth 16384

noncomputable section

namespace Cert.OutaEq

open Idealize.ShloMosaic Idealize.SL.Sem

theorem frame_reference : Cert.quiescent_OutABReferenceIdeal (hOutABReferenceIdeal := Cert.OutABReferenceIdeal.Gen.facts) := fun m ρ _ =>
  (θ_run Cert.OutABReferenceIdeal.defs _ _).mono (fun _ h => ⟨fun c => (h c).2.2, sem_eq_zero_of_no_sems rfl _⟩) (Cert.OutABReferenceIdeal.Value.run m ρ)

theorem project : Cert.algebraic_OutABIdeal_OutABReferenceIdeal (hOutABIdeal := Cert.OutABIdeal.Gen.facts) (hOutABReferenceIdeal := Cert.OutABReferenceIdeal.Gen.facts) := by
  intro m g m' g' _ hagree
  refine ⟨fun c => OutaRef.resX m' c, fun c => OutaRef.resT m' c, ?_, ?_⟩
  · refine (θ_run _ _ _).mono (fun r h c => ?_) (Cert.OutABIdeal.Hand.run_value m g)
    obtain ⟨hx, ht, hk⟩ := h.1 c
    obtain ⟨a0, a1, a2, a3, a4, a5, a6, a7, a8, a9, a10⟩ := hagree c
    have ix (n : ℕ) (k : ℕ) (i : (⟨2, ![n, k]⟩ : Shape).Idx) : ix2 (i 0 : Fin n) (i 1 : Fin k) = i := by
      funext a; fin_cases a <;> rfl
    have p (R : Fin 32768) : OutaKer.xrow m c R = OutaRef.xrow m' c R := by
      unfold OutaKer.xrow OutaRef.xrow
      rw [a0, a1, a2, a3, a4, a5]
    have q (R : Fin 32768) : OutaKer.trow m c R = OutaRef.trow m' c R := by
      unfold OutaKer.trow OutaRef.trow
      rw [p, a6, a7, a8]
    have eX (R : Fin 32768) (L : Fin 1024) : OutaKer.xrow m c R L = OutaRef.resX m' c (ix2 R L) := by
      rw [OutaRef.resX_at, p]
    have eT (A : Fin 262144) (B : Fin 128) : OutaKer.tarr m c A B = OutaRef.resT m' c (ix2 A B) := by
      unfold OutaKer.tarr
      rw [OutaRef.resT_at, q]
    exact ⟨hx.trans ((OutaKer.arrx m c).trans (funext fun i => (eX (i 0) (i 1)).trans (congrArg _ (ix 32768 1024 i)))),
      ht.trans ((OutaKer.arrt m c).trans (funext fun i => (eT (i 0) (i 1)).trans (congrArg _ (ix 262144 128 i)))), hk⟩
  · refine (θ_run _ _ _).mono (fun r h c => ?_) (Cert.OutABReferenceIdeal.Value.run m' g')
    obtain ⟨h1, h2, hk⟩ := h c
    exact ⟨h1, h2, hk⟩

end Cert.OutaEq

end
-- ==== Proof.CtxHead.lean ====
/-
  The steps of one grid point of the context's projection: the modulated rows times the weights, the ten heads' norms,
  and the heads side by side in a stored block.
-/
module

public import proofs.«01_k».proof.Proof.Gen.ContextCIdeal.Value
public import proofs.«01_k».proof.Proof.ProjSpec
public import Idealize.ShloMosaic.Lib.Pipeline.ValueKit

@[expose] public section

set_option maxRecDepth 16384

noncomputable section

namespace Cert.CtxKer

open Cert.ContextCIdeal Cert.ContextCIdeal.Gen Cert.Proj Idealize.ShloMosaic Idealize.SL.Sem

theorem prod_at (x : Vec Ideal S512x1024 .f32) (g : Vec Ideal S1x1024 .f32) (sc sh : Vec Ideal S1x1x1024 .f32)
    (w : Vec Ideal S1024x1536 .bf16) (r : Fin 512) (e : Fin 1536) :
    k0_pay4 x g sc sh w (ix2 r e) = pr (hm (fun d => x (ix2 r d)) (fun d => g (ix2 0 d)) (fun d => sc (ix3 0 0 d)) (fun d => sh (ix3 0 0 d)))
      (fun d e => w (ix2 d e)) e := by
  unfold pr hm
  unfold_payloads
  pointwise [dot_S512x1024_S1024x1536_S512x1536_1_0_0_1_n_n]

theorem nrm_at (t : FVec Ideal S512x128 .f32) (q : Vec Ideal S1x128 .f32) (r : Fin 512) (l : Fin 128) :
    k0_pay16 t q (ix2 r l) = nrm (fun l => t (ix2 r l)) (fun l => q (ix2 0 l)) l := by
  unfold nrm
  unfold_payloads
  pointwise

section Same

variable (t : FVec Ideal S512x128 .f32) (q : Vec Ideal S1x128 .f32)

theorem nrm21 : k0_pay21 t q = k0_pay16 t q := rfl
theorem nrm22 : k0_pay22 t q = k0_pay16 t q := rfl
theorem nrm23 : k0_pay23 t q = k0_pay16 t q := rfl
theorem nrm24 : k0_pay24 t q = k0_pay16 t q := rfl
theorem nrm17 : k0_pay17 t q = k0_pay16 t q := rfl
theorem nrm20 : k0_pay20 t q (k0_pay18 t) k0_pay19 = k0_pay16 t q := rfl

end Same

theorem nrm15 (x : Vec Ideal S512x1024 .f32) (g : Vec Ideal S1x1024 .f32) (sc sh : Vec Ideal S1x1x1024 .f32)
    (w : Vec Ideal S1024x1536 .bf16) (q : Vec Ideal S1x128 .f32) :
    k0_pay15 (k0_pay6 x g sc sh w) q (k0_pay14 x g sc sh w) = k0_pay16 (k0_pay6 x g sc sh w) q := rfl

section Cuts

variable (x : Vec Ideal S512x1024 .f32) (g : Vec Ideal S1x1024 .f32) (sc sh : Vec Ideal S1x1x1024 .f32) (w : Vec Ideal S1024x1536 .bf16)

/-- The eight query heads' lanes of the product. -/
def qcut : Fin 8 → FVec Ideal S512x128 .f32 :=
  ![k0_pay6 x g sc sh w, k0_pay7 x g sc sh w, k0_pay8 x g sc sh w, k0_pay9 x g sc sh w,
    k0_pay10 x g sc sh w, k0_pay11 x g sc sh w, k0_pay12 x g sc sh w, k0_pay13 x g sc sh w]

theorem qcut_at (j : Fin 8) (r : Fin 512) (l : Fin 128) :
    qcut x g sc sh w j (ix2 r l) = k0_pay4 x g sc sh w (ix2 r ⟨j.val * 128 + l.val, by omega⟩) := by
  unfold qcut k0_pay6 k0_pay7 k0_pay8 k0_pay9 k0_pay10 k0_pay11 k0_pay12 k0_pay13 k0_pay5
  generalize k0_pay4 x g sc sh w = p
  fin_cases j
  all_goals
    simp only [Fin.zero_eta, Matrix.cons_val]
    pointwise

end Cuts

/-- The two key heads' lanes of the product. -/
def kcut (p : FVec Ideal S512x1536 .f32) : Fin 2 → FVec Ideal S512x128 .f32 :=
  ![extractStridedSlice S512x128 ![0, 0] (k0_pay25 p) slices_S512x256_o0_0_S512x128,
    extractStridedSlice S512x128 ![0, 128] (k0_pay25 p) slices_S512x256_o0_128_S512x128]

theorem kcut_at (p : FVec Ideal S512x1536 .f32) (j : Fin 2) (r : Fin 512) (l : Fin 128) :
    kcut p j (ix2 r l) = p (ix2 r ⟨1024 + j.val * 128 + l.val, by omega⟩) := by
  unfold kcut k0_pay25
  fin_cases j
  · simp only [Fin.zero_eta, Matrix.cons_val]
    pointwise
  · simp only [Fin.mk_one, Matrix.cons_val]
    pointwise
    exact congrArg (fun k => p (ix2 r k)) (Fin.ext (by dsimp only; omega))

theorem nrm26 (p : FVec Ideal S512x1536 .f32) (q : Vec Ideal S1x128 .f32) : k0_pay26 p q = k0_pay16 (kcut p 0) q := rfl
theorem nrm27 (p : FVec Ideal S512x1536 .f32) (q : Vec Ideal S1x128 .f32) : k0_pay27 p q = k0_pay16 (kcut p 1) q := rfl

theorem same {n : ℕ} (a : Fin n → FVec Ideal S512x128 .f32) (r : Fin 512) {j j' : Fin n} {k k' : Fin 128}
    (hj : j.val = j'.val) (hk : k.val = k'.val) : a j (ix2 r k) = a j' (ix2 r k') := by
  rw [Fin.ext hj, Fin.ext hk]

theorem heads8_at (a : Fin 8 → FVec Ideal S512x128 .f32) (r : Fin 512) (l : Fin 1024) :
    k0_pay1 (a 1) (a 2) (a 3) (a 4) (a 5) (a 6) (a 7) (k0_pay28 (a 0)) (ix2 r l)
      = a ⟨l.val / 128, by omega⟩ (ix2 r ⟨l.val % 128, by omega⟩) * Ideal.ofBits FTy.f32 0x3E0293EE#32 := by
  unfold_payloads
  pointwise
  split_ifs <;> refine congrArg (· * Ideal.ofBits FTy.f32 0x3E0293EE#32) (same a r ?_ ?_) <;> simp <;> omega

theorem heads2_at (a : Fin 2 → FVec Ideal S512x128 .f32) (r : Fin 512) (l : Fin 256) :
    k0_pay2 (a 0) (a 1) (ix2 r l) = a ⟨l.val / 128, by omega⟩ (ix2 r ⟨l.val % 128, by omega⟩) := by
  unfold_payloads
  pointwise
  split_ifs <;> refine same a r ?_ ?_ <;> simp <;> omega

theorem third_at (p : FVec Ideal S512x1536 .f32) (r : Fin 512) (l : Fin 256) :
    k0_pay3 p (ix2 r l) = p (ix2 r ⟨1280 + l.val, by omega⟩) := by
  unfold_payloads
  pointwise

end Cert.CtxKer

end
-- ==== Proof.CtxKer.lean ====
/-
  What one grid point of the context's projection writes, and what its three output arrays hold at the end.
-/
module

public import proofs.«01_k».proof.Proof.CtxHead

@[expose] public section

set_option maxRecDepth 16384

noncomputable section

namespace Cert.CtxKer

open Cert.ContextCIdeal Cert.ContextCIdeal.Gen Cert.Proj Idealize.ShloMosaic Idealize.ShloMosaic.Pipeline Idealize.SL.Sem

section Block

variable (x0 : Vec Ideal S512x1024 .f32) (x1 : Vec Ideal S1x1024 .f32) (x2 x3 : Vec Ideal S1x1x1024 .f32) (x4 : Vec Ideal S1024x1536 .bf16)
  (x5 x6 : Vec Ideal S1x128 .f32)

/-- Row `R` of a block's product. -/
def brow (R : Fin 512) : Fin 1536 → EReal :=
  pr (hm (fun d => x0 (ix2 R d)) (fun d => x1 (ix2 0 d)) (fun d => x2 (ix3 0 0 d)) (fun d => x3 (ix3 0 0 d))) (fun d e => x4 (ix2 d e))

/-- The normed query heads of a block, and its normed key heads. -/
def qhead (j : Fin 8) : FVec Ideal S512x128 .f32 := k0_pay16 (qcut x0 x1 x2 x3 x4 j) x5

def khead (j : Fin 2) : FVec Ideal S512x128 .f32 := k0_pay16 (kcut (k0_pay4 x0 x1 x2 x3 x4) j) x6

theorem qhead_at (j : Fin 8) (R : Fin 512) (l : Fin 128) : qhead x0 x1 x2 x3 x4 x5 j (ix2 R l)
    = nrm (fun l => brow x0 x1 x2 x3 x4 R ⟨j.val * 128 + l.val, by omega⟩) (fun l => x5 (ix2 0 l)) l := by
  unfold qhead brow
  simp only [nrm_at, qcut_at, prod_at]

theorem khead_at (j : Fin 2) (R : Fin 512) (l : Fin 128) : khead x0 x1 x2 x3 x4 x6 j (ix2 R l)
    = nrm (fun l => brow x0 x1 x2 x3 x4 R ⟨1024 + j.val * 128 + l.val, by omega⟩) (fun l => x6 (ix2 0 l)) l := by
  unfold khead brow
  simp only [nrm_at, kcut_at, prod_at]

theorem z2 : (![0, 0] : Fin 2 → ℕ) = fun _ => 0 := by decide
theorem z3 : (![0, 0, 0] : Fin 3 → ℕ) = fun _ => 0 := by decide
theorem l0 (X : Vec Ideal S512x1024 .f32) : View.ld X r0_0 = X := View.ld_unit_zero z2 _ X
theorem l1 (X : Vec Ideal S1x1024 .f32) : View.ld X r0_1 = X := View.ld_unit_zero z2 _ X
theorem l2 (X : Vec Ideal S1x1x1024 .f32) : View.ld X r0_2 = X := View.ld_unit_zero z3 _ X
theorem l3 (X : Vec Ideal S1024x1536 .bf16) : View.ld X r0_3 = X := View.ld_unit_zero z2 _ X
theorem l4 (X : Vec Ideal S1x128 .f32) : View.ld X r0_4 = X := View.ld_unit_zero z2 _ X

theorem outq_at (R : Fin 512) (L : Fin 1024) : out0_7 x0 x1 x2 x3 x4 x5 x6 (ix2 R L)
    = qhead x0 x1 x2 x3 x4 x5 ⟨L.val / 128, by omega⟩ (ix2 R ⟨L.val % 128, by omega⟩) * Ideal.ofBits FTy.f32 0x3E0293EE#32 := by
  canon_tiles x h
  obtain ⟨r, l, rfl⟩ : ∃ r l, x = ix2 r l := ⟨x 0, x 1, by funext a; fin_cases a <;> rfl⟩
  change R.val = r.val at h0
  change L.val = l.val at h1
  obtain rfl := Fin.ext h0
  obtain rfl := Fin.ext h1
  simp only [k0_pay30]
  rw [l0, l1, l2, l2, l3, l4, nrm15, nrm17, nrm20, nrm21, nrm22, nrm23, nrm24]
  exact heads8_at (qhead x0 x1 x2 x3 x4 x5) R L

theorem outk_at (R : Fin 512) (L : Fin 256) : out0_8 x0 x1 x2 x3 x4 x5 x6 (ix2 R L)
    = khead x0 x1 x2 x3 x4 x6 ⟨L.val / 128, by omega⟩ (ix2 R ⟨L.val % 128, by omega⟩) := by
  canon_tiles x h
  obtain ⟨r, l, rfl⟩ : ∃ r l, x = ix2 r l := ⟨x 0, x 1, by funext a; fin_cases a <;> rfl⟩
  change R.val = r.val at h0
  change L.val = l.val at h1
  obtain rfl := Fin.ext h0
  obtain rfl := Fin.ext h1
  unfold k0_pay29
  rw [l0, l1, l2, l2, l3, l4, nrm26, nrm27]
  exact heads2_at (khead x0 x1 x2 x3 x4 x6) R L

theorem outv_at (R : Fin 512) (L : Fin 256) : out0_9 x0 x1 x2 x3 x4 x5 x6 (ix2 R L) = brow x0 x1 x2 x3 x4 R ⟨1280 + L.val, by omega⟩ := by
  canon_tiles x h
  obtain ⟨r, l, rfl⟩ : ∃ r l, x = ix2 r l := ⟨x 0, x 1, by funext a; fin_cases a <;> rfl⟩
  change R.val = r.val at h0
  change L.val = l.val at h1
  obtain rfl := Fin.ext h0
  obtain rfl := Fin.ext h1
  unfold k0_pay29
  rw [l0, l1, l2, l2, l3, third_at, prod_at]
  rfl

end Block

/-- Where the windows stand at each grid point. -/
theorem idx : ∀ t : Fin grid0.N, win0_0.index t = ![t.val, 0] ∧ win0_1.index t = ![0, 0]
    ∧ win0_2.index t = ![16, 0, 0] ∧ win0_3.index t = ![16, 0, 0] ∧ win0_4.index t = ![0, 0]
    ∧ win0_5.index t = ![0, 0] ∧ win0_6.index t = ![0, 0]
    ∧ win0_7.index t = ![t.val, 0] ∧ win0_8.index t = ![t.val, 0] ∧ win0_9.index t = ![t.val, 0] := by decide +kernel

variable (m : (ℓ : Loc nD τ sig) → Buf (Elt Ideal) ℓ) (c : Dev nD)

/-- Row `R` of the product, from the arguments. -/
def prow (R : Fin 4096) : Fin 1536 → EReal :=
  pr (hm (fun d => (m ((c.tc : Thread nD τ).loc main_arg0) : Vec Ideal S4096x1024 .f32) (ix2 R d))
      (fun d => (m ((c.tc : Thread nD τ).loc main_arg1) : Vec Ideal S1x1024 .f32) (ix2 0 d))
      (fun d => (m ((c.tc : Thread nD τ).loc main_arg2) : Vec Ideal S24x1x1024 .f32) (ix3 16 0 d))
      (fun d => (m ((c.tc : Thread nD τ).loc main_arg3) : Vec Ideal S24x1x1024 .f32) (ix3 16 0 d)))
    (fun d e => (m ((c.tc : Thread nD τ).loc main_arg4) : Vec Ideal S1024x1536 .bf16) (ix2 d e))

/-- The three results at a row and a lane, from the arguments. -/
def qarr (R : Fin 4096) (L : Fin 1024) : EReal :=
  nrm (fun l => prow m c R ⟨L.val / 128 * 128 + l.val, by omega⟩) (fun l => (m ((c.tc : Thread nD τ).loc main_arg5) : Vec Ideal S1x128 .f32) (ix2 0 l))
    ⟨L.val % 128, by omega⟩ * Ideal.ofBits FTy.f32 0x3E0293EE#32

def karr (R : Fin 4096) (L : Fin 256) : EReal :=
  nrm (fun l => prow m c R ⟨1024 + L.val / 128 * 128 + l.val, by omega⟩) (fun l => (m ((c.tc : Thread nD τ).loc main_arg6) : Vec Ideal S1x128 .f32) (ix2 0 l))
    ⟨L.val % 128, by omega⟩

def varr (R : Fin 4096) (L : Fin 256) : EReal := prow m c R ⟨1280 + L.val, by omega⟩

set_option maxHeartbeats 2000000 in
/-- A block's rows of the product are the arrays'. -/
theorem brow_eq (t : Fin grid0.N) (r : Fin 512) (A : Fin 4096) (hA : A.val = t.val * 512 + r.val) :
    brow (iblk m c 0 t) (iblk m c 1 t) (iblk m c 2 t) (iblk m c 3 t) (iblk m c 4 t) r = prow m c A := by
  obtain ⟨i0, i1, i2, i3, i4, -⟩ := idx t
  have h0 : ∀ d : Fin 1024, iblk m c 0 t (ix2 r d) = m ((c.tc : Thread nD τ).loc main_arg0) (ix2 A d) := fun d =>
    Eq.trans (b := V m c main_arg0 (ix2 A d)) (by blk_ext [iblk, i0]) (congrFun (V_main_arg0 m c) _)
  have h1 : ∀ d : Fin 1024, iblk m c 1 t (ix2 0 d) = m ((c.tc : Thread nD τ).loc main_arg1) (ix2 0 d) := fun d =>
    Eq.trans (b := V m c main_arg1 (ix2 0 d)) (by blk_ext [iblk, i1]) (congrFun (V_main_arg1 m c) _)
  have h2 : ∀ d : Fin 1024, iblk m c 2 t (ix3 0 0 d) = m ((c.tc : Thread nD τ).loc main_arg2) (ix3 16 0 d) := fun d =>
    Eq.trans (b := V m c main_arg2 (ix3 16 0 d)) (by blk_ext [iblk, i2]) (congrFun (V_main_arg2 m c) _)
  have h3 : ∀ d : Fin 1024, iblk m c 3 t (ix3 0 0 d) = m ((c.tc : Thread nD τ).loc main_arg3) (ix3 16 0 d) := fun d =>
    Eq.trans (b := V m c main_arg3 (ix3 16 0 d)) (by blk_ext [iblk, i3]) (congrFun (V_main_arg3 m c) _)
  have h4 : ∀ (d : Fin 1024) (e : Fin 1536), iblk m c 4 t (ix2 d e) = m ((c.tc : Thread nD τ).loc main_arg4) (ix2 d e) := fun d e =>
    Eq.trans (b := V m c main_arg4 (ix2 d e)) (by blk_ext [iblk, i4]) (congrFun (V_main_arg4 m c) _)
  unfold brow prow
  simp only [h0, h1, h2, h3, h4]

/-- The three output arrays after the run, at each row and lane. -/
theorem arrq : (dats m 0 c).arrAt 7 (cfgs 0).N = fun i => qarr m c (i 0) (i 1) := by
  refine (dats m 0 c).arrAt_eq_of_covers 7 _ (by decide +kernel) fun t hf y => ?_
  blk_simp
  rw [after0_7]
  obtain ⟨r, l, rfl⟩ : ∃ (r : Fin 512) (l : Fin 1024), y = ix2 r l := ⟨y 0, y 1, by funext a; fin_cases a <;> rfl⟩
  obtain ⟨-, -, -, -, -, i5, -, i7, -⟩ := idx t
  have he0 : (((win0_7.blk t).view.emb (ix2 r l) 0 : Fin 4096) : ℕ) = t.val * 512 + r.val := by
    blk_simp [i7]
  have he1 : (((win0_7.blk t).view.emb (ix2 r l) 1 : Fin 1024) : ℕ) = l.val := by
    blk_simp [i7]
  generalize ((win0_7.blk t).view.emb (ix2 r l) 0 : Fin 4096) = A at he0
  generalize ((win0_7.blk t).view.emb (ix2 r l) 1 : Fin 1024) = B at he1
  obtain rfl : l = B := (Fin.ext he1).symm
  have h5 : ∀ l : Fin 128, iblk m c 5 t (ix2 0 l) = m ((c.tc : Thread nD τ).loc main_arg5) (ix2 0 l) := fun l =>
    Eq.trans (b := V m c main_arg5 (ix2 0 l)) (by blk_ext [iblk, i5]) (congrFun (V_main_arg5 m c) _)
  unfold qarr
  rw [outq_at, qhead_at, brow_eq m c t r A he0]
  simp only [h5]

theorem arrk : (dats m 0 c).arrAt 8 (cfgs 0).N = fun i => karr m c (i 0) (i 1) := by
  refine (dats m 0 c).arrAt_eq_of_covers 8 _ (by decide +kernel) fun t hf y => ?_
  blk_simp
  rw [after0_8]
  obtain ⟨r, l, rfl⟩ : ∃ (r : Fin 512) (l : Fin 256), y = ix2 r l := ⟨y 0, y 1, by funext a; fin_cases a <;> rfl⟩
  obtain ⟨-, -, -, -, -, -, i6, -, i8, -⟩ := idx t
  have he0 : (((win0_8.blk t).view.emb (ix2 r l) 0 : Fin 4096) : ℕ) = t.val * 512 + r.val := by
    blk_simp [i8]
  have he1 : (((win0_8.blk t).view.emb (ix2 r l) 1 : Fin 256) : ℕ) = l.val := by
    blk_simp [i8]
  generalize ((win0_8.blk t).view.emb (ix2 r l) 0 : Fin 4096) = A at he0
  generalize ((win0_8.blk t).view.emb (ix2 r l) 1 : Fin 256) = B at he1
  obtain rfl : l = B := (Fin.ext he1).symm
  have h6 : ∀ l : Fin 128, iblk m c 6 t (ix2 0 l) = m ((c.tc : Thread nD τ).loc main_arg6) (ix2 0 l) := fun l =>
    Eq.trans (b := V m c main_arg6 (ix2 0 l)) (by blk_ext [iblk, i6]) (congrFun (V_main_arg6 m c) _)
  unfold karr
  rw [outk_at, khead_at, brow_eq m c t r A he0]
  simp only [h6]

theorem arrv : (dats m 0 c).arrAt 9 (cfgs 0).N = fun i => varr m c (i 0) (i 1) := by
  refine (dats m 0 c).arrAt_eq_of_covers 9 _ (by decide +kernel) fun t hf y => ?_
  blk_simp
  rw [after0_9]
  obtain ⟨r, l, rfl⟩ : ∃ (r : Fin 512) (l : Fin 256), y = ix2 r l := ⟨y 0, y 1, by funext a; fin_cases a <;> rfl⟩
  obtain ⟨-, -, -, -, -, -, -, -, -, i9⟩ := idx t
  have he0 : (((win0_9.blk t).view.emb (ix2 r l) 0 : Fin 4096) : ℕ) = t.val * 512 + r.val := by
    blk_simp [i9]
  have he1 : (((win0_9.blk t).view.emb (ix2 r l) 1 : Fin 256) : ℕ) = l.val := by
    blk_simp [i9]
  generalize ((win0_9.blk t).view.emb (ix2 r l) 0 : Fin 4096) = A at he0
  generalize ((win0_9.blk t).view.emb (ix2 r l) 1 : Fin 256) = B at he1
  obtain rfl : l = B := (Fin.ext he1).symm
  unfold varr
  rw [outv_at, brow_eq m c t r A he0]

end Cert.CtxKer

end
-- ==== Proof.CtxRef.lean ====
/-
  What the reference of the context's projection computes, read at one index: the printed composed terms cut into their stages (modulated
  norm, product, heads' norms, results), each stage at an index.
-/
module

public import proofs.«01_k».proof.Proof.Gen.ContextCReferenceIdeal.Run
public import proofs.«01_k».proof.Proof.ProjSpec

@[expose] public section

noncomputable section

namespace Cert.CtxRef

open Cert.ContextCReferenceIdeal Cert.ContextCReferenceIdeal.Gen Cert.ContextCReferenceIdeal.Value Cert.Proj Idealize.ShloMosaic Idealize.SL.Sem

/-- The rows by batch entry. -/
def refX (x : Vec Ideal S4096x1024 .f32) : FVec Ideal S16x256x1024 .f32 :=
  shapeCast _ x shapeCasts_S4096x1024_S16x256x1024

/-- The modulated norm. -/
def refH (x : FVec Ideal S16x256x1024 .f32) (g : Vec Ideal S1x1024 .f32) (sc sh : Vec Ideal S24x1x1024 .f32) : FVec Ideal S16x256x1024 .f32 :=
  addf (mulf (mulf (mulf x (broadcastInDim S16x256x1024 ![0, 1, 2] bcast_S16x256x1_S16x256x1024_0_1_2
      (Host.rsqrt (addf (Host.divf (broadcastInDim S16x256x1 ![0, 1] bcast_S16x256_S16x256x1_0_1
          (Host.reduceAdd (mulf x x) (constant S_ .f32 0x00000000#32) reducesTo_S16x256x1024_S16x256_d2 h_S_))
          (broadcastInDim S16x256x1 ![] bcast_S_S16x256x1 (constant S_ .f32 0x44800000#32)))
        (broadcastInDim S16x256x1 ![] bcast_S_S16x256x1 (constant S_ .f32 0x358637BD#32))))))
      (broadcastInDim S16x256x1024 ![0, 1, 2] bcast_S1x1x1024_S16x256x1024_0_1_2 (broadcastInDim S1x1x1024 ![2] bcast_S1024_S1x1x1024_2
        (shapeCast _ g shapeCasts_S1x1024_S1024))))
    (broadcastInDim S16x256x1024 ![0, 1, 2] bcast_S1x1x1024_S16x256x1024_0_1_2 (broadcastInDim S1x1x1024 ![1, 2] bcast_S1x1024_S1x1x1024_1_2
      (addf (broadcastInDim S1x1024 ![] bcast_S_S1x1024 (constant S_ .f32 0x3F800000#32))
        (shapeCast _ (extractStridedSlice S1x1x1024 ![16, 0, 0] sc slices_S24x1x1024_S1x1x1024_16_0_0) shapeCasts_S1x1x1024_S1x1024)))))
    (broadcastInDim S16x256x1024 ![0, 1, 2] bcast_S1x1x1024_S16x256x1024_0_1_2 (broadcastInDim S1x1x1024 ![1, 2] bcast_S1x1024_S1x1x1024_1_2
      (shapeCast _ (extractStridedSlice S1x1x1024 ![16, 0, 0] sh slices_S24x1x1024_S1x1x1024_16_0_0) shapeCasts_S1x1x1024_S1x1024)))

/-- The product with the weights. -/
def refP (h : FVec Ideal S16x256x1024 .f32) (w : Vec Ideal S1024x1536 .bf16) : FVec Ideal S16x256x1536 .f32 :=
  Host.dotGeneral dot_S16x256x1024_S1024x1536_S16x256x1536_2_0_01_1_n_n none h (extf .f32 w bitsLt_bf16_f32)

/-- The query heads and the key heads, then their norms. -/
def refQ (p : FVec Ideal S16x256x1536 .f32) : FVec Ideal S16x256x2x4x128 .f32 :=
  shapeCast _ (extractStridedSlice S16x256x1024 ![0, 0, 0] p slices_S16x256x1536_S16x256x1024_0_0_0) shapeCasts_S16x256x1024_S16x256x2x4x128

def refK (p : FVec Ideal S16x256x1536 .f32) : FVec Ideal S16x256x2x128 .f32 :=
  shapeCast _ (extractStridedSlice S16x256x256 ![0, 0, 1024] p slices_S16x256x1536_S16x256x256_0_0_1024) shapeCasts_S16x256x256_S16x256x2x128

def refQn (t : FVec Ideal S16x256x2x4x128 .f32) (q : Vec Ideal S1x128 .f32) : FVec Ideal S16x256x2x4x128 .f32 :=
  mulf (mulf t (broadcastInDim S16x256x2x4x128 ![0, 1, 2, 3, 4] bcast_S16x256x2x4x1_S16x256x2x4x128_0_1_2_3_4
      (Host.rsqrt (addf (Host.divf (broadcastInDim S16x256x2x4x1 ![0, 1, 2, 3] bcast_S16x256x2x4_S16x256x2x4x1_0_1_2_3
          (Host.reduceAdd (mulf t t) (constant S_ .f32 0x00000000#32) reducesTo_S16x256x2x4x128_S16x256x2x4_d4 h_S_))
          (broadcastInDim S16x256x2x4x1 ![] bcast_S_S16x256x2x4x1 (constant S_ .f32 0x43000000#32)))
        (broadcastInDim S16x256x2x4x1 ![] bcast_S_S16x256x2x4x1 (constant S_ .f32 0x358637BD#32))))))
      (broadcastInDim S16x256x2x4x128 ![0, 1, 2, 3, 4] bcast_S1x1x1x1x128_S16x256x2x4x128_0_1_2_3_4
        (broadcastInDim S1x1x1x1x128 ![4] bcast_S128_S1x1x1x1x128_4 (shapeCast _ q shapeCasts_S1x128_S128)))

def refKn (t : FVec Ideal S16x256x2x128 .f32) (q : Vec Ideal S1x128 .f32) : FVec Ideal S16x256x2x128 .f32 :=
  mulf (mulf t (broadcastInDim S16x256x2x128 ![0, 1, 2, 3] bcast_S16x256x2x1_S16x256x2x128_0_1_2_3
      (Host.rsqrt (addf (Host.divf (broadcastInDim S16x256x2x1 ![0, 1, 2] bcast_S16x256x2_S16x256x2x1_0_1_2
          (Host.reduceAdd (mulf t t) (constant S_ .f32 0x00000000#32) reducesTo_S16x256x2x128_S16x256x2_d3 h_S_))
          (broadcastInDim S16x256x2x1 ![] bcast_S_S16x256x2x1 (constant S_ .f32 0x43000000#32)))
        (broadcastInDim S16x256x2x1 ![] bcast_S_S16x256x2x1 (constant S_ .f32 0x358637BD#32))))))
      (broadcastInDim S16x256x2x128 ![0, 1, 2, 3] bcast_S1x1x1x128_S16x256x2x128_0_1_2_3
        (broadcastInDim S1x1x1x128 ![3] bcast_S128_S1x1x1x128_3 (shapeCast _ q shapeCasts_S1x128_S128)))

/-- The results. -/
def refQo (t : FVec Ideal S16x256x2x4x128 .f32) : FVec Ideal S4096x1024 .bf16 :=
  truncf .bf16 (shapeCast _ (mulf t (broadcastInDim S16x256x2x4x128 ![] bcast_S_S16x256x2x4x128 (constant S_ .f32 0x3E0293EE#32)))
    shapeCasts_S16x256x2x4x128_S4096x1024) bitsLt_bf16_f32

def refKo (t : FVec Ideal S16x256x2x128 .f32) : FVec Ideal S4096x256 .bf16 :=
  truncf .bf16 (shapeCast _ t shapeCasts_S16x256x2x128_S4096x256) bitsLt_bf16_f32

def refVo (p : FVec Ideal S16x256x1536 .f32) : FVec Ideal S4096x256 .bf16 :=
  truncf .bf16 (shapeCast _ (extractStridedSlice S16x256x256 ![0, 0, 1280] p slices_S16x256x1536_S16x256x256_0_0_1280) shapeCasts_S16x256x256_S4096x256) bitsLt_bf16_f32

section Results

variable (m : (ℓ : Loc nD τ sig) → Buf (Elt Ideal) ℓ) (c : Dev nD)

/-- The product, from the arguments. -/
def prod : FVec Ideal S16x256x1536 .f32 :=
  refP (refH (refX (m ((c.tc : Thread nD τ).loc main_arg0))) (m ((c.tc : Thread nD τ).loc main_arg1)) (m ((c.tc : Thread nD τ).loc main_arg2))
    (m ((c.tc : Thread nD τ).loc main_arg3))) (m ((c.tc : Thread nD τ).loc main_arg4))

set_option maxRecDepth 8192 in
theorem resq_eq : res_main_v66 m c = refQo (refQn (refQ (prod m c)) (m ((c.tc : Thread nD τ).loc main_arg5))) := by
  unfold res_main_v66 refQo refQn refQ prod refP refH refX
  rfl

set_option maxRecDepth 8192 in
theorem resk_eq : res_main_v67 m c = refKo (refKn (refK (prod m c)) (m ((c.tc : Thread nD τ).loc main_arg6))) := by
  unfold res_main_v67 refKo refKn refK prod refP refH refX
  rfl

end Results

/-! ## Each stage at an index -/

theorem refX_at (x : Vec Ideal S4096x1024 .f32) (b : Fin 16) (s : Fin 256) (d : Fin 1024) :
    refX x (ix3 b s d) = x (ix2 ⟨b.val * 256 + s.val, by omega⟩ d) := by
  unfold refX
  pointwise

theorem refH_at (x : FVec Ideal S16x256x1024 .f32) (g : Vec Ideal S1x1024 .f32) (sc sh : Vec Ideal S24x1x1024 .f32)
    (b : Fin 16) (s : Fin 256) (d : Fin 1024) :
    refH x g sc sh (ix3 b s d) = hm (fun d => x (ix3 b s d)) (fun d => g (ix2 0 d)) (fun d => sc (ix3 16 0 d))
      (fun d => sh (ix3 16 0 d)) d := by
  unfold refH hm
  pointwise

theorem refP_at (h : FVec Ideal S16x256x1024 .f32) (w : Vec Ideal S1024x1536 .bf16) (b : Fin 16) (s : Fin 256) (e : Fin 1536) :
    refP h w (ix3 b s e) = pr (fun d => h (ix3 b s d)) (fun d e => w (ix2 d e)) e := by
  unfold refP pr
  pointwise [dot_S16x256x1024_S1024x1536_S16x256x1536_2_0_01_1_n_n]

theorem refQ_at (p : FVec Ideal S16x256x1536 .f32) (b : Fin 16) (s : Fin 256) (h : Fin 2) (g : Fin 4) (l : Fin 128) :
    refQ p (ix5 b s h g l) = p (ix3 b s ⟨h.val * 512 + g.val * 128 + l.val, by omega⟩) := by
  unfold refQ
  pointwise

theorem refK_at (p : FVec Ideal S16x256x1536 .f32) (b : Fin 16) (s : Fin 256) (h : Fin 2) (l : Fin 128) :
    refK p (ix4 b s h l) = p (ix3 b s ⟨1024 + (h.val * 128 + l.val), by omega⟩) := by
  unfold refK
  pointwise

theorem refQn_at (t : FVec Ideal S16x256x2x4x128 .f32) (q : Vec Ideal S1x128 .f32)
    (b : Fin 16) (s : Fin 256) (h : Fin 2) (g : Fin 4) (l : Fin 128) :
    refQn t q (ix5 b s h g l) = nrm (fun l => t (ix5 b s h g l)) (fun l => q (ix2 0 l)) l := by
  unfold refQn nrm
  pointwise

theorem refKn_at (t : FVec Ideal S16x256x2x128 .f32) (q : Vec Ideal S1x128 .f32) (b : Fin 16) (s : Fin 256) (h : Fin 2) (l : Fin 128) :
    refKn t q (ix4 b s h l) = nrm (fun l => t (ix4 b s h l)) (fun l => q (ix2 0 l)) l := by
  unfold refKn nrm
  pointwise

theorem refQo_at (t : FVec Ideal S16x256x2x4x128 .f32) (R : Fin 4096) (L : Fin 1024) :
    refQo t (ix2 R L) = t (ix5 ⟨R.val / 256, by omega⟩ ⟨R.val % 256, by omega⟩ ⟨L.val / 512, by omega⟩ ⟨L.val / 128 % 4, by omega⟩ ⟨L.val % 128, by omega⟩)
      * Ideal.ofBits FTy.f32 0x3E0293EE#32 := by
  unfold refQo
  pointwise

theorem refKo_at (t : FVec Ideal S16x256x2x128 .f32) (R : Fin 4096) (L : Fin 256) :
    refKo t (ix2 R L) = t (ix4 ⟨R.val / 256, by omega⟩ ⟨R.val % 256, by omega⟩ ⟨L.val / 128, by omega⟩ ⟨L.val % 128, by omega⟩) := by
  unfold refKo
  pointwise

theorem refVo_at (p : FVec Ideal S16x256x1536 .f32) (R : Fin 4096) (L : Fin 256) :
    refVo p (ix2 R L) = p (ix3 ⟨R.val / 256, by omega⟩ ⟨R.val % 256, by omega⟩ ⟨1280 + L.val, by omega⟩) := by
  unfold refVo
  pointwise

/-! ## The results at an index -/

section Values

variable (m : (ℓ : Loc nD τ sig) → Buf (Elt Ideal) ℓ) (c : Dev nD)

/-- Row `R` of the product, from the arguments. -/
def prow (R : Fin 4096) : Fin 1536 → EReal :=
  pr (hm (fun d => (m ((c.tc : Thread nD τ).loc main_arg0) : Vec Ideal S4096x1024 .f32) (ix2 R d))
      (fun d => (m ((c.tc : Thread nD τ).loc main_arg1) : Vec Ideal S1x1024 .f32) (ix2 0 d))
      (fun d => (m ((c.tc : Thread nD τ).loc main_arg2) : Vec Ideal S24x1x1024 .f32) (ix3 16 0 d))
      (fun d => (m ((c.tc : Thread nD τ).loc main_arg3) : Vec Ideal S24x1x1024 .f32) (ix3 16 0 d)))
    (fun d e => (m ((c.tc : Thread nD τ).loc main_arg4) : Vec Ideal S1024x1536 .bf16) (ix2 d e))

theorem prod_at (R : Fin 4096) (e : Fin 1536) :
    prod m c (ix3 ⟨R.val / 256, by omega⟩ ⟨R.val % 256, by omega⟩ e) = prow m c R e := by
  have hR : (⟨R.val / 256 * 256 + R.val % 256, by omega⟩ : Fin 4096) = R := Fin.ext (by dsimp only; omega)
  unfold prod prow
  simp only [refP_at, refH_at, refX_at, hR]

theorem resq_at (R : Fin 4096) (L : Fin 1024) : (res_main_v66 m c : FVec Ideal S4096x1024 .bf16) (ix2 R L)
    = nrm (fun l => prow m c R ⟨L.val / 128 * 128 + l.val, by omega⟩) (fun l => (m ((c.tc : Thread nD τ).loc main_arg5) : Vec Ideal S1x128 .f32) (ix2 0 l))
      ⟨L.val % 128, by omega⟩ * Ideal.ofBits FTy.f32 0x3E0293EE#32 := by
  have e : ∀ l : Fin 128, (⟨L.val / 512 * 512 + L.val / 128 % 4 * 128 + l.val, by omega⟩ : Fin 1536) = ⟨L.val / 128 * 128 + l.val, by omega⟩ :=
    fun l => Fin.ext (by dsimp only; omega)
  rw [resq_eq, refQo_at]
  simp only [refQn_at, refQ_at, e, prod_at]

theorem resk_at (R : Fin 4096) (L : Fin 256) : (res_main_v67 m c : FVec Ideal S4096x256 .bf16) (ix2 R L)
    = nrm (fun l => prow m c R ⟨1024 + L.val / 128 * 128 + l.val, by omega⟩) (fun l => (m ((c.tc : Thread nD τ).loc main_arg6) : Vec Ideal S1x128 .f32) (ix2 0 l))
      ⟨L.val % 128, by omega⟩ := by
  rw [resk_eq, refKo_at]
  simp only [refKn_at, refK_at, ← Nat.add_assoc, prod_at]

theorem resv_at (R : Fin 4096) (L : Fin 256) : refVo (prod m c) (ix2 R L) = prow m c R ⟨1280 + L.val, by omega⟩ := by
  rw [refVo_at, prod_at]

end Values

end Cert.CtxRef

end
-- ==== Proof.CtxEq.lean ====
/-
  The context's projection against its reference: the queries, the keys and the values, and the reference's frame.
-/
module

public import proofs.«01_k».proof.Defs
public import proofs.«01_k».proof.Proof.CtxKer
public import proofs.«01_k».proof.Proof.CtxRef

@[expose] public section

set_option maxRecDepth 16384

noncomputable section

namespace Cert.CtxEq

open Idealize.ShloMosaic Idealize.SL.Sem

theorem frame_reference : Cert.quiescent_ContextCReferenceIdeal (hContextCReferenceIdeal := Cert.ContextCReferenceIdeal.Gen.facts) := fun m ρ _ =>
  (θ_run Cert.ContextCReferenceIdeal.defs _ _).mono (fun _ h => ⟨fun c => (h c).2.2.2, sem_eq_zero_of_no_sems rfl _⟩) (Cert.ContextCReferenceIdeal.Value.run m ρ)

theorem project : Cert.algebraic_ContextCIdeal_ContextCReferenceIdeal (hContextCIdeal := Cert.ContextCIdeal.Gen.facts)
    (hContextCReferenceIdeal := Cert.ContextCReferenceIdeal.Gen.facts) := by
  intro m g m' g' _ hagree
  refine ⟨fun c => Cert.ContextCReferenceIdeal.Value.res_main_v66 m' c, fun c => Cert.ContextCReferenceIdeal.Value.res_main_v67 m' c,
    fun c => CtxRef.refVo (CtxRef.prod m' c), ?_, ?_⟩
  · refine (θ_run _ _ _).mono (fun r h c => ?_) (Cert.ContextCIdeal.Value.run_blocks m g)
    obtain ⟨h7, h8, h9, hk⟩ := h c
    obtain ⟨a0, a1, a2, a3, a4, a5, a6⟩ := hagree c
    have ix (n : ℕ) (k : ℕ) (i : (⟨2, ![n, k]⟩ : Shape).Idx) : ix2 (i 0 : Fin n) (i 1 : Fin k) = i := by
      funext a; fin_cases a <;> rfl
    have p (R : Fin 4096) : CtxKer.prow m c R = CtxRef.prow m' c R := by
      unfold CtxKer.prow CtxRef.prow
      rw [a0, a1, a2, a3, a4]
    have q (R : Fin 4096) (L : Fin 1024) : CtxKer.qarr m c R L = (Cert.ContextCReferenceIdeal.Value.res_main_v66 m' c : FVec Ideal ⟨2, ![4096, 1024]⟩ .bf16) (ix2 R L) := by
      refine Eq.trans ?_ (CtxRef.resq_at m' c R L).symm
      unfold CtxKer.qarr
      rw [p, a5]
    have k (R : Fin 4096) (L : Fin 256) : CtxKer.karr m c R L = (Cert.ContextCReferenceIdeal.Value.res_main_v67 m' c : FVec Ideal ⟨2, ![4096, 256]⟩ .bf16) (ix2 R L) := by
      refine Eq.trans ?_ (CtxRef.resk_at m' c R L).symm
      unfold CtxKer.karr
      rw [p, a6]
    have v (R : Fin 4096) (L : Fin 256) : CtxKer.varr m c R L = CtxRef.refVo (CtxRef.prod m' c) (ix2 R L) := by
      rw [CtxRef.resv_at]
      unfold CtxKer.varr
      rw [p]
    exact ⟨h7.trans ((CtxKer.arrq m c).trans (funext fun i => (q (i 0) (i 1)).trans (congrArg _ (ix 4096 1024 i)))),
      h8.trans ((CtxKer.arrk m c).trans (funext fun i => (k (i 0) (i 1)).trans (congrArg _ (ix 4096 256 i)))),
      h9.trans ((CtxKer.arrv m c).trans (funext fun i => (v (i 0) (i 1)).trans (congrArg _ (ix 4096 256 i)))), hk⟩
  · refine (θ_run _ _ _).mono (fun r h c => ?_) (Cert.ContextCReferenceIdeal.Value.run m' g')
    obtain ⟨h1, h2, h3, hk⟩ := h c
    exact ⟨h1, h2, h3.trans (by unfold CtxRef.refVo CtxRef.prod CtxRef.refP CtxRef.refH CtxRef.refX; rfl), hk⟩

end Cert.CtxEq

end
-- ==== Proof.CtabSpec.lean ====
/-
  The six results of a context row of the even layer, from its product with the first weights.
-/
module

public import proofs.«01_k».proof.Proof.AbSpec

@[expose] public section

noncomputable section

namespace Cert.Ctab

open Cert.Ab Idealize.ShloMosaic

/-- A context row, modulated with the seventeenth scale and shift, times the first weights. -/
def prow (x : Vec Ideal ⟨2, ![4096, 1024]⟩ .f32) (g : Vec Ideal ⟨2, ![1, 1024]⟩ .f32) (sc sh : Vec Ideal ⟨3, ![24, 1, 1024]⟩ .f32)
    (w : Vec Ideal ⟨2, ![1024, 2304]⟩ .bf16) (R : Fin 4096) : Fin 2304 → EReal :=
  lin (Proj.hm (fun d => x (ix2 R d)) (fun d => g (ix2 0 d)) (fun d => sc (ix3 16 0 d)) (fun d => sh (ix3 16 0 d))) (fun d e => w (ix2 d e))

def qa (p : Fin 2304 → EReal) (L : Fin 1024) : EReal := p ⟨L.val, by omega⟩ * Ideal.ofBits FTy.f32 0x3E38AA3B#32

def ka (p : Fin 2304 → EReal) (L : Fin 256) : EReal := p ⟨1024 + L.val, by omega⟩

def va (p : Fin 2304 → EReal) (L : Fin 256) : EReal := p ⟨1280 + L.val, by omega⟩

def qb (p : Fin 2304 → EReal) (q : Vec Ideal ⟨2, ![1, 384]⟩ .f32) (u : Vec Ideal ⟨2, ![384, 1024]⟩ .bf16) (L : Fin 1024) : EReal :=
  lq p (fun d => q (ix2 0 d)) (fun d e => u (ix2 d e)) L * Ideal.ofBits FTy.f32 0x3E16C740#32

def vb (p : Fin 2304 → EReal) (q : Vec Ideal ⟨2, ![1, 256]⟩ .f32) (u : Vec Ideal ⟨2, ![256, 1024]⟩ .bf16) (L : Fin 1024) : EReal :=
  lin (lk p (fun d => q (ix2 0 d))) (fun d e => u (ix2 d e)) L

def kb (p : Fin 2304 → EReal) (q : Vec Ideal ⟨2, ![1, 256]⟩ .f32) (u : Vec Ideal ⟨2, ![256, 1024]⟩ .bf16) (L : Fin 1024) : EReal :=
  vb p q u L + p ⟨2176 + L.val % 128, by omega⟩

end Cert.Ctab

end
-- ==== Proof.CtabHead.lean ====
/-
  The steps of one grid point of the context's projection in the even layer: the rows times the weights, the latents' norms and
  their products, and the heads side by side in a stored block.
-/
module

public import proofs.«01_k».proof.Proof.Gen.ContextABIdeal.Value
public import proofs.«01_k».proof.Proof.CtabSpec
public import Idealize.ShloMosaic.Lib.Pipeline.ValueKit

@[expose] public section

set_option maxRecDepth 16384

noncomputable section

namespace Cert.CtabKer

open Cert.ContextABIdeal Cert.ContextABIdeal.Gen Cert.Ab Idealize.ShloMosaic Idealize.SL.Sem

section Rows

variable (x : Vec Ideal S512x1024 .f32) (g : Vec Ideal S1x1024 .f32) (sc sh : Vec Ideal S1x1x1024 .f32) (w : Vec Ideal S1024x2304 .bf16)

/-- Row `r` of a block's product. -/
def brow (r : Fin 512) : Fin 2304 → EReal :=
  lin (Proj.hm (fun d => x (ix2 r d)) (fun d => g (ix2 0 d)) (fun d => sc (ix3 0 0 d)) (fun d => sh (ix3 0 0 d))) (fun d e => w (ix2 d e))

theorem prod_at (r : Fin 512) (e : Fin 2304) : k0_pay7 x g sc sh w (ix2 r e) = brow x g sc sh w r e := by
  unfold brow lin Proj.hm
  unfold_payloads
  pointwise [dot_S512x1024_S1024x2304_S512x2304_1_0_0_1_n_n]

theorem qa_at (r : Fin 512) (l : Fin 1024) : k0_pay8 x g sc sh w (ix2 r l) = brow x g sc sh w r ⟨l.val, by omega⟩ := by
  rw [← prod_at]
  unfold k0_pay8
  generalize k0_pay7 x g sc sh w = p
  pointwise

theorem ka_at (r : Fin 512) (l : Fin 256) : k0_pay9 x g sc sh w (ix2 r l) = brow x g sc sh w r ⟨1024 + l.val, by omega⟩ := by
  rw [← prod_at]
  unfold k0_pay9
  generalize k0_pay7 x g sc sh w = p
  pointwise

theorem va_at (r : Fin 512) (l : Fin 256) : k0_pay10 x g sc sh w (ix2 r l) = brow x g sc sh w r ⟨1280 + l.val, by omega⟩ := by
  rw [← prod_at]
  unfold k0_pay10
  generalize k0_pay7 x g sc sh w = p
  pointwise

theorem cq_at (r : Fin 512) (l : Fin 384) : k0_pay11 x g sc sh w (ix2 r l) = brow x g sc sh w r ⟨1536 + l.val, by omega⟩ := by
  rw [← prod_at]
  unfold k0_pay11
  generalize k0_pay7 x g sc sh w = p
  pointwise

theorem kv_at (r : Fin 512) (l : Fin 256) : k0_pay12 x g sc sh w (ix2 r l) = brow x g sc sh w r ⟨1920 + l.val, by omega⟩ := by
  rw [← prod_at]
  unfold k0_pay12
  generalize k0_pay7 x g sc sh w = p
  pointwise

theorem kr_at (r : Fin 512) (l : Fin 128) : k0_pay13 x g sc sh w (ix2 r l) = brow x g sc sh w r ⟨2176 + l.val, by omega⟩ := by
  rw [← prod_at]
  unfold k0_pay13
  generalize k0_pay7 x g sc sh w = p
  pointwise

theorem cq_prod (q : Vec Ideal S1x384 .f32) (u : Vec Ideal S384x1024 .bf16) (r : Fin 512) (e : Fin 1024) :
    k0_pay16 (k0_pay11 x g sc sh w) q (k0_pay14 x g sc sh w) k0_pay15 u (ix2 r e)
      = lq (brow x g sc sh w r) (fun d => q (ix2 0 d)) (fun d e => u (ix2 d e)) e := by
  unfold lq lin rn
  simp only [← cq_at]
  unfold k0_pay16 k0_pay14 k0_pay15
  generalize k0_pay11 x g sc sh w = p
  pointwise [dot_S512x384_S384x1024_S512x1024_1_0_0_1_n_n]

theorem kv_prod (q : Vec Ideal S1x256 .f32) (u : Vec Ideal S256x1024 .bf16) (r : Fin 512) (e : Fin 1024) :
    k0_pay18 (k0_pay12 x g sc sh w) q u (ix2 r e)
      = lin (lk (brow x g sc sh w r) (fun d => q (ix2 0 d))) (fun d e => u (ix2 d e)) e := by
  unfold lk lin rn
  simp only [← kv_at]
  unfold k0_pay18 k0_pay17
  generalize k0_pay12 x g sc sh w = p
  pointwise [dot_S512x256_S256x1024_S512x1024_1_0_0_1_n_n]

theorem kv_same (k : FVec Ideal S512x256 .f32) (q : Vec Ideal S1x256 .f32) (u : Vec Ideal S256x1024 .bf16) : k0_pay19 k q u = k0_pay18 k q u := rfl

end Rows

/-- The lanes of eight heads. -/
def cut (v : FVec Ideal S512x1024 .f32) : Fin 8 → FVec Ideal S512x128 .f32 :=
  ![extractStridedSlice S512x128 ![0, 0] v slices_S512x1024_o0_0_S512x128, extractStridedSlice S512x128 ![0, 128] v slices_S512x1024_o0_128_S512x128,
    k0_pay20 v, k0_pay21 v, k0_pay22 v, k0_pay23 v, k0_pay24 v, k0_pay25 v]

theorem cut_at (v : FVec Ideal S512x1024 .f32) (j : Fin 8) (r : Fin 512) (l : Fin 128) :
    cut v j (ix2 r l) = v (ix2 r ⟨j.val * 128 + l.val, by omega⟩) := by
  unfold cut k0_pay20 k0_pay21 k0_pay22 k0_pay23 k0_pay24 k0_pay25
  fin_cases j
  all_goals
    simp only [Fin.zero_eta, Fin.mk_one, Matrix.cons_val]
    pointwise

/-- A scaled query head. -/
def headC (b : BitVec 32) (v : FVec Ideal S512x1024 .f32) (j : Fin 8) : FVec Ideal S512x128 .f32 :=
  mulf (cut v j) (broadcast S512x128 (Scalar.ofBits .f32 b))

theorem headC_at (b : BitVec 32) (v : FVec Ideal S512x1024 .f32) (j : Fin 8) (r : Fin 512) (l : Fin 128) :
    headC b v j (ix2 r l) = v (ix2 r ⟨j.val * 128 + l.val, by omega⟩) * Ideal.ofBits FTy.f32 b :=
  congrArg (· * Ideal.ofBits FTy.f32 b) (cut_at v j r l)

theorem same {n : ℕ} (a : Fin n → FVec Ideal S512x128 .f32) (r : Fin 512) {j j' : Fin n} {k k' : Fin 128}
    (hj : j.val = j'.val) (hk : k.val = k'.val) : a j (ix2 r k) = a j' (ix2 r k') := by
  rw [Fin.ext hj, Fin.ext hk]

theorem heads8_at (a : Fin 8 → FVec Ideal S512x128 .f32) (r : Fin 512) (l : Fin 1024) :
    k0_pay1 (a 0) (a 1) (a 2) (a 3) (a 4) (a 5) (a 6) (a 7) (ix2 r l) = a ⟨l.val / 128, by omega⟩ (ix2 r ⟨l.val % 128, by omega⟩) := by
  unfold k0_pay1
  pointwise
  split_ifs <;> refine same a r ?_ ?_ <;> simp <;> omega

/-- A key head with the shared part added. -/
def headS (v : FVec Ideal S512x1024 .f32) (z : FVec Ideal S512x128 .f32) (j : Fin 8) : FVec Ideal S512x128 .f32 := addf (cut v j) z

theorem headS_at (v : FVec Ideal S512x1024 .f32) (z : FVec Ideal S512x128 .f32) (j : Fin 8) (r : Fin 512) (l : Fin 128) :
    headS v z j (ix2 r l) = v (ix2 r ⟨j.val * 128 + l.val, by omega⟩) + z (ix2 r l) := by
  exact congrArg (· + z (ix2 r l)) (cut_at v j r l)

theorem back (v : FVec Ideal S512x1024 .f32) (r : Fin 512) (l : Fin 1024) :
    v (ix2 r ⟨l.val / 128 * 128 + l.val % 128, by omega⟩) = v (ix2 r l) :=
  congrArg (fun k => v (ix2 r k)) (Fin.ext (show l.val / 128 * 128 + l.val % 128 = l.val by omega))

theorem queriesA (v : FVec Ideal S512x1024 .f32) (r : Fin 512) (l : Fin 1024) :
    k0_pay1 (k0_pay26 v) (k0_pay27 v) (k0_pay29 (k0_pay20 v) k0_pay28) (k0_pay30 (k0_pay21 v)) (k0_pay31 (k0_pay22 v)) (k0_pay32 (k0_pay23 v)) (k0_pay33 (k0_pay24 v)) (k0_pay34 (k0_pay25 v)) (ix2 r l)
      = v (ix2 r l) * Ideal.ofBits FTy.f32 0x3E38AA3B#32 :=
  (heads8_at (headC 0x3E38AA3B#32 v) r l).trans ((headC_at _ v _ r _).trans (congrArg (· * Ideal.ofBits FTy.f32 0x3E38AA3B#32) (back v r l)))

theorem queriesB (v : FVec Ideal S512x1024 .f32) (r : Fin 512) (l : Fin 1024) :
    k0_pay4 (k0_pay37 v) (k0_pay38 v) (k0_pay39 v) (k0_pay40 v) (k0_pay41 v) (k0_pay42 v) (k0_pay43 v) (k0_pay44 v) (ix2 r l)
      = v (ix2 r l) * Ideal.ofBits FTy.f32 0x3E16C740#32 :=
  (heads8_at (headC 0x3E16C740#32 v) r l).trans ((headC_at _ v _ r _).trans (congrArg (· * Ideal.ofBits FTy.f32 0x3E16C740#32) (back v r l)))

theorem keysB (z : FVec Ideal S512x128 .f32) (v : FVec Ideal S512x1024 .f32) (r : Fin 512) (l : Fin 1024) :
    k0_pay5 z (k0_pay45 v) (k0_pay46 v) (k0_pay47 v) (k0_pay48 v) (k0_pay49 v) (k0_pay50 v) (k0_pay51 z v) (k0_pay52 z v) (ix2 r l)
      = v (ix2 r l) + z (ix2 r ⟨l.val % 128, by omega⟩) :=
  (heads8_at (headS v z) r l).trans ((headS_at v z _ r _).trans (congrArg (· + z (ix2 r ⟨l.val % 128, by omega⟩)) (back v r l)))

theorem keysA (v : FVec Ideal S512x256 .f32) (r : Fin 512) (l : Fin 256) : k0_pay2 (k0_pay35 v) (k0_pay36 v) (ix2 r l) = v (ix2 r l) := by
  unfold k0_pay2 k0_pay35 k0_pay36
  pointwise
  split_ifs <;> refine congrArg (fun k => v (ix2 r k)) (Fin.ext ?_) <;> simp <;> omega

theorem valuesA (v : FVec Ideal S512x256 .f32) (r : Fin 512) (l : Fin 256) : k0_pay3 v (ix2 r l) = v (ix2 r l) := by
  unfold k0_pay3
  pointwise

theorem valuesB (v : FVec Ideal S512x1024 .f32) (r : Fin 512) (l : Fin 1024) : k0_pay6 v (ix2 r l) = v (ix2 r l) := by
  unfold k0_pay6
  pointwise

end Cert.CtabKer

end
-- ==== Proof.CtabKer.lean ====
/-
  What the six output arrays of the context's projection in the even layer hold at the end, from its arguments.
-/
module

public import proofs.«01_k».proof.Proof.CtabHead

@[expose] public section

set_option maxRecDepth 16384

noncomputable section

namespace Cert.CtabKer

open Cert.ContextABIdeal Cert.ContextABIdeal.Gen Cert.Ab Idealize.ShloMosaic Idealize.ShloMosaic.Pipeline Idealize.SL.Sem

section Block

variable (x0 : Vec Ideal S512x1024 .f32) (x1 : Vec Ideal S1x1024 .f32) (x2 x3 : Vec Ideal S1x1x1024 .f32) (x4 : Vec Ideal S1024x2304 .bf16)
  (x5 : Vec Ideal S1x384 .f32) (x6 : Vec Ideal S384x1024 .bf16) (x7 : Vec Ideal S1x256 .f32) (x8 x9 : Vec Ideal S256x1024 .bf16)

theorem z2 : (![0, 0] : Fin 2 → ℕ) = fun _ => 0 := by decide
theorem z3 : (![0, 0, 0] : Fin 3 → ℕ) = fun _ => 0 := by decide
theorem l0 (X : Vec Ideal S512x1024 .f32) : View.ld X r0_0 = X := View.ld_unit_zero z2 _ X
theorem l1 (X : Vec Ideal S1x1024 .f32) : View.ld X r0_1 = X := View.ld_unit_zero z2 _ X
theorem l2 (X : Vec Ideal S1x1x1024 .f32) : View.ld X r0_2 = X := View.ld_unit_zero z3 _ X
theorem l3 (X : Vec Ideal S1024x2304 .bf16) : View.ld X r0_3 = X := View.ld_unit_zero z2 _ X
theorem l4 (X : Vec Ideal S1x384 .f32) : View.ld X r0_4 = X := View.ld_unit_zero z2 _ X
theorem l5 (X : Vec Ideal S384x1024 .bf16) : View.ld X r0_5 = X := View.ld_unit_zero z2 _ X
theorem l6 (X : Vec Ideal S1x256 .f32) : View.ld X r0_6 = X := View.ld_unit_zero z2 _ X
theorem l7 (X : Vec Ideal S256x1024 .bf16) : View.ld X r0_7 = X := View.ld_unit_zero z2 _ X
theorem l8 (X : Vec Ideal S512x256 .f32) : View.ld X r0_8 = X := View.ld_unit_zero z2 _ X

theorem outqa_at (R : Fin 512) (L : Fin 1024) : out0_10 x0 x1 x2 x3 x4 x5 x6 x7 x8 x9 (ix2 R L) = Ctab.qa (brow x0 x1 x2 x3 x4 R) L := by
  canon_tiles x h
  obtain ⟨r, l, rfl⟩ : ∃ r l, x = ix2 r l := ⟨x 0, x 1, by funext a; fin_cases a <;> rfl⟩
  change R.val = r.val at h0
  change L.val = l.val at h1
  obtain rfl := Fin.ext h0
  obtain rfl := Fin.ext h1
  unfold k0_pay53
  rw [l0, l1, l2, l2, l3, queriesA, qa_at]
  rfl

theorem outka_at (R : Fin 512) (L : Fin 256) : out0_11 x0 x1 x2 x3 x4 x5 x6 x7 x8 x9 (ix2 R L) = Ctab.ka (brow x0 x1 x2 x3 x4 R) L := by
  canon_tiles x h
  obtain ⟨r, l, rfl⟩ : ∃ r l, x = ix2 r l := ⟨x 0, x 1, by funext a; fin_cases a <;> rfl⟩
  change R.val = r.val at h0
  change L.val = l.val at h1
  obtain rfl := Fin.ext h0
  obtain rfl := Fin.ext h1
  unfold k0_pay54
  rw [l0, l1, l2, l2, l3, keysA, ka_at]
  rfl

theorem outva_at (R : Fin 512) (L : Fin 256) : out0_12 x0 x1 x2 x3 x4 x5 x6 x7 x8 x9 (ix2 R L) = Ctab.va (brow x0 x1 x2 x3 x4 R) L := by
  canon_tiles x h
  obtain ⟨r, l, rfl⟩ : ∃ r l, x = ix2 r l := ⟨x 0, x 1, by funext a; fin_cases a <;> rfl⟩
  change R.val = r.val at h0
  change L.val = l.val at h1
  obtain rfl := Fin.ext h0
  obtain rfl := Fin.ext h1
  rw [l0, l1, l2, l2, l3, valuesA, va_at]
  rfl

theorem outqb_at (R : Fin 512) (L : Fin 1024) : out0_13 x0 x1 x2 x3 x4 x5 x6 x7 x8 x9 (ix2 R L) = Ctab.qb (brow x0 x1 x2 x3 x4 R) x5 x6 L := by
  canon_tiles x h
  obtain ⟨r, l, rfl⟩ : ∃ r l, x = ix2 r l := ⟨x 0, x 1, by funext a; fin_cases a <;> rfl⟩
  change R.val = r.val at h0
  change L.val = l.val at h1
  obtain rfl := Fin.ext h0
  obtain rfl := Fin.ext h1
  unfold k0_pay57
  rw [l0, l1, l2, l2, l3, l4, l5, queriesB, cq_prod]
  rfl

theorem outkb_at (R : Fin 512) (L : Fin 1024) : out0_14 x0 x1 x2 x3 x4 x5 x6 x7 x8 x9 (ix2 R L) = Ctab.kb (brow x0 x1 x2 x3 x4 R) x7 x8 L := by
  canon_tiles x h
  obtain ⟨r, l, rfl⟩ : ∃ r l, x = ix2 r l := ⟨x 0, x 1, by funext a; fin_cases a <;> rfl⟩
  change R.val = r.val at h0
  change L.val = l.val at h1
  obtain rfl := Fin.ext h0
  obtain rfl := Fin.ext h1
  unfold k0_pay58 k0_pay56 k0_pay55
  rw [l0, l1, l2, l2, l3, l6, l7, keysB, kv_prod, kr_at]
  rfl

theorem outvb_at (R : Fin 512) (L : Fin 1024) : out0_15 x0 x1 x2 x3 x4 x5 x6 x7 x8 x9 (ix2 R L) = Ctab.vb (brow x0 x1 x2 x3 x4 R) x7 x9 L := by
  canon_tiles x h
  obtain ⟨r, l, rfl⟩ : ∃ r l, x = ix2 r l := ⟨x 0, x 1, by funext a; fin_cases a <;> rfl⟩
  change R.val = r.val at h0
  change L.val = l.val at h1
  obtain rfl := Fin.ext h0
  obtain rfl := Fin.ext h1
  unfold k0_pay55
  rw [l0, l1, l2, l2, l3, l6, l7, valuesB, kv_same, kv_prod]
  rfl

end Block

/-- Where the windows stand at each grid point. -/
theorem idx : ∀ t : Fin grid0.N, win0_0.index t = ![t.val, 0] ∧ win0_1.index t = ![0, 0] ∧ win0_2.index t = ![16, 0, 0] ∧ win0_3.index t = ![16, 0, 0]
    ∧ win0_4.index t = ![0, 0] ∧ win0_5.index t = ![0, 0] ∧ win0_6.index t = ![0, 0] ∧ win0_7.index t = ![0, 0] ∧ win0_8.index t = ![0, 0] ∧ win0_9.index t = ![0, 0]
    ∧ win0_10.index t = ![t.val, 0] ∧ win0_11.index t = ![t.val, 0] ∧ win0_12.index t = ![t.val, 0] ∧ win0_13.index t = ![t.val, 0] ∧ win0_14.index t = ![t.val, 0] ∧ win0_15.index t = ![t.val, 0] := by decide +kernel

variable (m : (ℓ : Loc nD τ sig) → Buf (Elt Ideal) ℓ) (c : Dev nD)

/-- Row `R` of the product, from the arguments. -/
def prow (R : Fin 4096) : Fin 2304 → EReal :=
  Ctab.prow (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) R

set_option maxHeartbeats 2000000 in
/-- A block's rows of the product are the arrays'. -/
theorem brow_eq (t : Fin grid0.N) (r : Fin 512) (A : Fin 4096) (hA : A.val = t.val * 512 + r.val) :
    brow (iblk m c 0 t) (iblk m c 1 t) (iblk m c 2 t) (iblk m c 3 t) (iblk m c 4 t) r = prow m c A := by
  obtain ⟨i0, i1, i2, i3, i4, -⟩ := idx t
  have h0 : ∀ d : Fin 1024, iblk m c 0 t (ix2 r d) = m ((c.tc : Thread nD τ).loc main_arg0) (ix2 A d) := fun d =>
    Eq.trans (b := V m c main_arg0 (ix2 A d)) (by blk_ext [iblk, i0]) (congrFun (V_main_arg0 m c) _)
  have h1 : ∀ d : Fin 1024, iblk m c 1 t (ix2 0 d) = m ((c.tc : Thread nD τ).loc main_arg1) (ix2 0 d) := fun d =>
    Eq.trans (b := V m c main_arg1 (ix2 0 d)) (by blk_ext [iblk, i1]) (congrFun (V_main_arg1 m c) _)
  have h2 : ∀ d : Fin 1024, iblk m c 2 t (ix3 0 0 d) = m ((c.tc : Thread nD τ).loc main_arg2) (ix3 16 0 d) := fun d =>
    Eq.trans (b := V m c main_arg2 (ix3 16 0 d)) (by blk_ext [iblk, i2]) (congrFun (V_main_arg2 m c) _)
  have h3 : ∀ d : Fin 1024, iblk m c 3 t (ix3 0 0 d) = m ((c.tc : Thread nD τ).loc main_arg3) (ix3 16 0 d) := fun d =>
    Eq.trans (b := V m c main_arg3 (ix3 16 0 d)) (by blk_ext [iblk, i3]) (congrFun (V_main_arg3 m c) _)
  have h4 : ∀ (d : Fin 1024) (e : Fin 2304), iblk m c 4 t (ix2 d e) = m ((c.tc : Thread nD τ).loc main_arg4) (ix2 d e) := fun d e =>
    Eq.trans (b := V m c main_arg4 (ix2 d e)) (by blk_ext [iblk, i4]) (congrFun (V_main_arg4 m c) _)
  unfold brow prow Ctab.prow
  simp only [h0, h1, h2, h3, h4]

set_option maxHeartbeats 2000000 in
/-- The latents' gains and weights are read whole at each grid point. -/
theorem whole (t : Fin grid0.N) : (∀ d : Fin 384, iblk m c 5 t (ix2 0 d) = m ((c.tc : Thread nD τ).loc main_arg5) (ix2 0 d))
    ∧ (∀ (d : Fin 384) (e : Fin 1024), iblk m c 6 t (ix2 d e) = m ((c.tc : Thread nD τ).loc main_arg6) (ix2 d e))
    ∧ (∀ d : Fin 256, iblk m c 7 t (ix2 0 d) = m ((c.tc : Thread nD τ).loc main_arg7) (ix2 0 d))
    ∧ (∀ (d : Fin 256) (e : Fin 1024), iblk m c 8 t (ix2 d e) = m ((c.tc : Thread nD τ).loc main_arg8) (ix2 d e))
    ∧ (∀ (d : Fin 256) (e : Fin 1024), iblk m c 9 t (ix2 d e) = m ((c.tc : Thread nD τ).loc main_arg9) (ix2 d e)) := by
  obtain ⟨-, -, -, -, -, i5, i6, i7, i8, i9, -⟩ := idx t
  exact ⟨fun d => Eq.trans (b := V m c main_arg5 (ix2 0 d)) (by blk_ext [iblk, i5]) (congrFun (V_main_arg5 m c) _),
    fun d e => Eq.trans (b := V m c main_arg6 (ix2 d e)) (by blk_ext [iblk, i6]) (congrFun (V_main_arg6 m c) _),
    fun d => Eq.trans (b := V m c main_arg7 (ix2 0 d)) (by blk_ext [iblk, i7]) (congrFun (V_main_arg7 m c) _),
    fun d e => Eq.trans (b := V m c main_arg8 (ix2 d e)) (by blk_ext [iblk, i8]) (congrFun (V_main_arg8 m c) _),
    fun d e => Eq.trans (b := V m c main_arg9 (ix2 d e)) (by blk_ext [iblk, i9]) (congrFun (V_main_arg9 m c) _)⟩

theorem arrqa : (dats m 0 c).arrAt 10 (cfgs 0).N = fun i => Ctab.qa (prow m c (i 0)) (i 1) := by
  refine (dats m 0 c).arrAt_eq_of_covers 10 _ (by decide +kernel) fun t hf y => ?_
  blk_simp
  rw [after0_10]
  obtain ⟨r, l, rfl⟩ : ∃ (r : Fin 512) (l : Fin 1024), y = ix2 r l := ⟨y 0, y 1, by funext a; fin_cases a <;> rfl⟩
  obtain ⟨-, -, -, -, -, -, -, -, -, -, i10, -⟩ := idx t
  have he0 : (((win0_10.blk t).view.emb (ix2 r l) 0 : Fin 4096) : ℕ) = t.val * 512 + r.val := by
    blk_simp [i10]
  have he1 : (((win0_10.blk t).view.emb (ix2 r l) 1 : Fin 1024) : ℕ) = l.val := by
    blk_simp [i10]
  generalize ((win0_10.blk t).view.emb (ix2 r l) 0 : Fin 4096) = A at he0
  generalize ((win0_10.blk t).view.emb (ix2 r l) 1 : Fin 1024) = B at he1
  obtain rfl : l = B := (Fin.ext he1).symm
  rw [outqa_at, brow_eq m c t r A he0]

theorem arrka : (dats m 0 c).arrAt 11 (cfgs 0).N = fun i => Ctab.ka (prow m c (i 0)) (i 1) := by
  refine (dats m 0 c).arrAt_eq_of_covers 11 _ (by decide +kernel) fun t hf y => ?_
  blk_simp
  rw [after0_11]
  obtain ⟨r, l, rfl⟩ : ∃ (r : Fin 512) (l : Fin 256), y = ix2 r l := ⟨y 0, y 1, by funext a; fin_cases a <;> rfl⟩
  obtain ⟨-, -, -, -, -, -, -, -, -, -, -, i11, -⟩ := idx t
  have he0 : (((win0_11.blk t).view.emb (ix2 r l) 0 : Fin 4096) : ℕ) = t.val * 512 + r.val := by
    blk_simp [i11]
  have he1 : (((win0_11.blk t).view.emb (ix2 r l) 1 : Fin 256) : ℕ) = l.val := by
    blk_simp [i11]
  generalize ((win0_11.blk t).view.emb (ix2 r l) 0 : Fin 4096) = A at he0
  generalize ((win0_11.blk t).view.emb (ix2 r l) 1 : Fin 256) = B at he1
  obtain rfl : l = B := (Fin.ext he1).symm
  rw [outka_at, brow_eq m c t r A he0]

theorem arrva : (dats m 0 c).arrAt 12 (cfgs 0).N = fun i => Ctab.va (prow m c (i 0)) (i 1) := by
  refine (dats m 0 c).arrAt_eq_of_covers 12 _ (by decide +kernel) fun t hf y => ?_
  blk_simp
  rw [after0_12]
  obtain ⟨r, l, rfl⟩ : ∃ (r : Fin 512) (l : Fin 256), y = ix2 r l := ⟨y 0, y 1, by funext a; fin_cases a <;> rfl⟩
  obtain ⟨-, -, -, -, -, -, -, -, -, -, -, -, i12, -⟩ := idx t
  have he0 : (((win0_12.blk t).view.emb (ix2 r l) 0 : Fin 4096) : ℕ) = t.val * 512 + r.val := by
    blk_simp [i12]
  have he1 : (((win0_12.blk t).view.emb (ix2 r l) 1 : Fin 256) : ℕ) = l.val := by
    blk_simp [i12]
  generalize ((win0_12.blk t).view.emb (ix2 r l) 0 : Fin 4096) = A at he0
  generalize ((win0_12.blk t).view.emb (ix2 r l) 1 : Fin 256) = B at he1
  obtain rfl : l = B := (Fin.ext he1).symm
  rw [outva_at, brow_eq m c t r A he0]

theorem arrqb : (dats m 0 c).arrAt 13 (cfgs 0).N = fun i => Ctab.qb (prow m c (i 0)) (m ((c.tc : Thread nD τ).loc main_arg5)) (m ((c.tc : Thread nD τ).loc main_arg6)) (i 1) := by
  refine (dats m 0 c).arrAt_eq_of_covers 13 _ (by decide +kernel) fun t hf y => ?_
  blk_simp
  rw [after0_13]
  obtain ⟨r, l, rfl⟩ : ∃ (r : Fin 512) (l : Fin 1024), y = ix2 r l := ⟨y 0, y 1, by funext a; fin_cases a <;> rfl⟩
  obtain ⟨-, -, -, -, -, -, -, -, -, -, -, -, -, i13, -⟩ := idx t
  have he0 : (((win0_13.blk t).view.emb (ix2 r l) 0 : Fin 4096) : ℕ) = t.val * 512 + r.val := by
    blk_simp [i13]
  have he1 : (((win0_13.blk t).view.emb (ix2 r l) 1 : Fin 1024) : ℕ) = l.val := by
    blk_simp [i13]
  generalize ((win0_13.blk t).view.emb (ix2 r l) 0 : Fin 4096) = A at he0
  generalize ((win0_13.blk t).view.emb (ix2 r l) 1 : Fin 1024) = B at he1
  obtain rfl : l = B := (Fin.ext he1).symm
  rw [outqb_at, brow_eq m c t r A he0]
  obtain ⟨h5, h6, h7, h8, h9⟩ := whole m c t
  simp only [Ctab.qb, h5, h6]

theorem arrkb : (dats m 0 c).arrAt 14 (cfgs 0).N = fun i => Ctab.kb (prow m c (i 0)) (m ((c.tc : Thread nD τ).loc main_arg7)) (m ((c.tc : Thread nD τ).loc main_arg8)) (i 1) := by
  refine (dats m 0 c).arrAt_eq_of_covers 14 _ (by decide +kernel) fun t hf y => ?_
  blk_simp
  rw [after0_14]
  obtain ⟨r, l, rfl⟩ : ∃ (r : Fin 512) (l : Fin 1024), y = ix2 r l := ⟨y 0, y 1, by funext a; fin_cases a <;> rfl⟩
  obtain ⟨-, -, -, -, -, -, -, -, -, -, -, -, -, -, i14, -⟩ := idx t
  have he0 : (((win0_14.blk t).view.emb (ix2 r l) 0 : Fin 4096) : ℕ) = t.val * 512 + r.val := by
    blk_simp [i14]
  have he1 : (((win0_14.blk t).view.emb (ix2 r l) 1 : Fin 1024) : ℕ) = l.val := by
    blk_simp [i14]
  generalize ((win0_14.blk t).view.emb (ix2 r l) 0 : Fin 4096) = A at he0
  generalize ((win0_14.blk t).view.emb (ix2 r l) 1 : Fin 1024) = B at he1
  obtain rfl : l = B := (Fin.ext he1).symm
  rw [outkb_at, brow_eq m c t r A he0]
  obtain ⟨h5, h6, h7, h8, h9⟩ := whole m c t
  simp only [Ctab.kb, Ctab.vb, h7, h8]

theorem arrvb : (dats m 0 c).arrAt 15 (cfgs 0).N = fun i => Ctab.vb (prow m c (i 0)) (m ((c.tc : Thread nD τ).loc main_arg7)) (m ((c.tc : Thread nD τ).loc main_arg9)) (i 1) := by
  refine (dats m 0 c).arrAt_eq_of_covers 15 _ (by decide +kernel) fun t hf y => ?_
  blk_simp
  rw [after0_15]
  obtain ⟨r, l, rfl⟩ : ∃ (r : Fin 512) (l : Fin 1024), y = ix2 r l := ⟨y 0, y 1, by funext a; fin_cases a <;> rfl⟩
  obtain ⟨-, -, -, -, -, -, -, -, -, -, -, -, -, -, -, i15⟩ := idx t
  have he0 : (((win0_15.blk t).view.emb (ix2 r l) 0 : Fin 4096) : ℕ) = t.val * 512 + r.val := by
    blk_simp [i15]
  have he1 : (((win0_15.blk t).view.emb (ix2 r l) 1 : Fin 1024) : ℕ) = l.val := by
    blk_simp [i15]
  generalize ((win0_15.blk t).view.emb (ix2 r l) 0 : Fin 4096) = A at he0
  generalize ((win0_15.blk t).view.emb (ix2 r l) 1 : Fin 1024) = B at he1
  obtain rfl : l = B := (Fin.ext he1).symm
  rw [outvb_at, brow_eq m c t r A he0]
  obtain ⟨h5, h6, h7, h8, h9⟩ := whole m c t
  simp only [Ctab.vb, h7, h9]

end Cert.CtabKer

end
-- ==== Proof.CtabRef.lean ====
/-
  What the reference of the context's projection in the even layer computes, read at one index: the printed composed terms cut into
  their stages, each stage at an index.
-/
module

public import proofs.«01_k».proof.Proof.Gen.ContextABReferenceIdeal.Run
public import proofs.«01_k».proof.Proof.CtabSpec

@[expose] public section

noncomputable section

namespace Cert.CtabRef

open Cert.ContextABReferenceIdeal Cert.ContextABReferenceIdeal.Gen Cert.ContextABReferenceIdeal.Value Cert.Ab Idealize.ShloMosaic Idealize.SL.Sem

/-- The rows by batch entry. -/
def refX (x : Vec Ideal S4096x1024 .f32) : FVec Ideal S16x256x1024 .f32 :=
  shapeCast _ x shapeCasts_S4096x1024_S16x256x1024

/-- The modulated norm. -/
def refH (x : FVec Ideal S16x256x1024 .f32) (g : Vec Ideal S1x1024 .f32) (sc sh : Vec Ideal S24x1x1024 .f32) : FVec Ideal S16x256x1024 .f32 :=
  addf (mulf (mulf (mulf x (broadcastInDim S16x256x1024 ![0, 1, 2] bcast_S16x256x1_S16x256x1024_0_1_2
      (Host.rsqrt (addf (Host.divf (broadcastInDim S16x256x1 ![0, 1] bcast_S16x256_S16x256x1_0_1
          (Host.reduceAdd (mulf x x) (constant S_ .f32 0x00000000#32) reducesTo_S16x256x1024_S16x256_d2 h_S_))
          (broadcastInDim S16x256x1 ![] bcast_S_S16x256x1 (constant S_ .f32 0x44800000#32)))
        (broadcastInDim S16x256x1 ![] bcast_S_S16x256x1 (constant S_ .f32 0x358637BD#32))))))
      (broadcastInDim S16x256x1024 ![0, 1, 2] bcast_S1x1x1024_S16x256x1024_0_1_2 (broadcastInDim S1x1x1024 ![2] bcast_S1024_S1x1x1024_2
        (shapeCast _ g shapeCasts_S1x1024_S1024))))
    (broadcastInDim S16x256x1024 ![0, 1, 2] bcast_S1x1x1024_S16x256x1024_0_1_2 (broadcastInDim S1x1x1024 ![1, 2] bcast_S1x1024_S1x1x1024_1_2
      (addf (broadcastInDim S1x1024 ![] bcast_S_S1x1024 (constant S_ .f32 0x3F800000#32))
        (shapeCast _ (extractStridedSlice S1x1x1024 ![16, 0, 0] sc slices_S24x1x1024_S1x1x1024_16_0_0) shapeCasts_S1x1x1024_S1x1024)))))
    (broadcastInDim S16x256x1024 ![0, 1, 2] bcast_S1x1x1024_S16x256x1024_0_1_2 (broadcastInDim S1x1x1024 ![1, 2] bcast_S1x1024_S1x1x1024_1_2
      (shapeCast _ (extractStridedSlice S1x1x1024 ![16, 0, 0] sh slices_S24x1x1024_S1x1x1024_16_0_0) shapeCasts_S1x1x1024_S1x1024)))

/-- The product with the weights. -/
def refP (h : FVec Ideal S16x256x1024 .f32) (w : Vec Ideal S1024x2304 .bf16) : FVec Ideal S16x256x2304 .f32 :=
  Host.dotGeneral dot_S16x256x1024_S1024x2304_S16x256x2304_2_0_01_1_n_n none h (extf .f32 w bitsLt_bf16_f32)

def refCq (t : FVec Ideal S16x256x384 .f32) (g : Vec Ideal S1x384 .f32) : FVec Ideal S16x256x384 .f32 :=
  mulf (mulf t (broadcastInDim S16x256x384 ![0, 1, 2] bcast_S16x256x1_S16x256x384_0_1_2
      (Host.rsqrt (addf (Host.divf (broadcastInDim S16x256x1 ![0, 1] bcast_S16x256_S16x256x1_0_1
          (Host.reduceAdd (mulf t t) (constant S_ .f32 0x00000000#32) reducesTo_S16x256x384_S16x256_d2 h_S_))
          (broadcastInDim S16x256x1 ![] bcast_S_S16x256x1 (constant S_ .f32 0x43C00000#32)))
        (broadcastInDim S16x256x1 ![] bcast_S_S16x256x1 (constant S_ .f32 0x358637BD#32))))))
    (broadcastInDim S16x256x384 ![0, 1, 2] bcast_S1x1x384_S16x256x384_0_1_2 (broadcastInDim S1x1x384 ![2] bcast_S384_S1x1x384_2
      (shapeCast _ g shapeCasts_S1x384_S384)))

theorem refCq_at (t : FVec Ideal S16x256x384 .f32) (g : Vec Ideal S1x384 .f32) (b : Fin 16) (s : Fin 256) (d : Fin 384) :
    refCq t g (ix3 b s d) = rn 0x43C00000#32 (fun d => t (ix3 b s d)) (fun d => g (ix2 0 d)) d := by
  unfold refCq rn
  pointwise

def refKv (t : FVec Ideal S16x256x256 .f32) (g : Vec Ideal S1x256 .f32) : FVec Ideal S16x256x256 .f32 :=
  mulf (mulf t (broadcastInDim S16x256x256 ![0, 1, 2] bcast_S16x256x1_S16x256x256_0_1_2
      (Host.rsqrt (addf (Host.divf (broadcastInDim S16x256x1 ![0, 1] bcast_S16x256_S16x256x1_0_1
          (Host.reduceAdd (mulf t t) (constant S_ .f32 0x00000000#32) reducesTo_S16x256x256_S16x256_d2 h_S_))
          (broadcastInDim S16x256x1 ![] bcast_S_S16x256x1 (constant S_ .f32 0x43800000#32)))
        (broadcastInDim S16x256x1 ![] bcast_S_S16x256x1 (constant S_ .f32 0x358637BD#32))))))
    (broadcastInDim S16x256x256 ![0, 1, 2] bcast_S1x1x256_S16x256x256_0_1_2 (broadcastInDim S1x1x256 ![2] bcast_S256_S1x1x256_2
      (shapeCast _ g shapeCasts_S1x256_S256)))

theorem refKv_at (t : FVec Ideal S16x256x256 .f32) (g : Vec Ideal S1x256 .f32) (b : Fin 16) (s : Fin 256) (d : Fin 256) :
    refKv t g (ix3 b s d) = rn 0x43800000#32 (fun d => t (ix3 b s d)) (fun d => g (ix2 0 d)) d := by
  unfold refKv rn
  pointwise

/-- The pieces of the product, and the latents' products. -/
def cutCq (p : FVec Ideal S16x256x2304 .f32) : FVec Ideal S16x256x384 .f32 :=
  extractStridedSlice S16x256x384 ![0, 0, 1536] p slices_S16x256x2304_S16x256x384_0_0_1536

def cutKv (p : FVec Ideal S16x256x2304 .f32) : FVec Ideal S16x256x256 .f32 :=
  extractStridedSlice S16x256x256 ![0, 0, 1920] p slices_S16x256x2304_S16x256x256_0_0_1920

def refQ (h : FVec Ideal S16x256x384 .f32) (w : Vec Ideal S384x1024 .bf16) : FVec Ideal S16x256x1024 .f32 :=
  Host.dotGeneral dot_S16x256x384_S384x1024_S16x256x1024_2_0_01_1_n_n none h (extf .f32 w bitsLt_bf16_f32)

def refL (h : FVec Ideal S16x256x256 .f32) (w : Vec Ideal S256x1024 .bf16) : FVec Ideal S16x256x1024 .f32 :=
  Host.dotGeneral dot_S16x256x256_S256x1024_S16x256x1024_2_0_01_1_n_n none h (extf .f32 w bitsLt_bf16_f32)

/-- The results. -/
def outW (t : FVec Ideal S16x256x1024 .f32) : FVec Ideal S4096x1024 .bf16 :=
  truncf .bf16 (shapeCast _ t shapeCasts_S16x256x1024_S4096x1024) bitsLt_bf16_f32

def outQ (b : BitVec 32) (t : FVec Ideal S16x256x1024 .f32) : FVec Ideal S4096x1024 .bf16 :=
  outW (mulf t (broadcastInDim S16x256x1024 ![] bcast_S_S16x256x1024 (constant S_ .f32 b)))

def cutQa (p : FVec Ideal S16x256x2304 .f32) : FVec Ideal S16x256x1024 .f32 :=
  extractStridedSlice S16x256x1024 ![0, 0, 0] p slices_S16x256x2304_S16x256x1024_0_0_0

def outKa (p : FVec Ideal S16x256x2304 .f32) : FVec Ideal S4096x256 .bf16 :=
  truncf .bf16 (shapeCast _ (extractStridedSlice S16x256x256 ![0, 0, 1024] p slices_S16x256x2304_S16x256x256_0_0_1024)
    shapeCasts_S16x256x256_S4096x256) bitsLt_bf16_f32

def outVa (p : FVec Ideal S16x256x2304 .f32) : FVec Ideal S4096x256 .bf16 :=
  truncf .bf16 (shapeCast _ (extractStridedSlice S16x256x256 ![0, 0, 1280] p slices_S16x256x2304_S16x256x256_0_0_1280)
    shapeCasts_S16x256x256_S4096x256) bitsLt_bf16_f32

def outKb (k : FVec Ideal S16x256x1024 .f32) (p : FVec Ideal S16x256x2304 .f32) : FVec Ideal S4096x1024 .bf16 :=
  truncf .bf16 (shapeCast _ (addf (shapeCast _ k shapeCasts_S16x256x1024_S16x256x8x128)
    (broadcastInDim S16x256x8x128 ![0, 1, 2, 3] bcast_S16x256x1x128_S16x256x8x128_0_1_2_3
      (broadcastInDim S16x256x1x128 ![0, 1, 3] bcast_S16x256x128_S16x256x1x128_0_1_3
        (extractStridedSlice S16x256x128 ![0, 0, 2176] p slices_S16x256x2304_S16x256x128_0_0_2176))))
    shapeCasts_S16x256x8x128_S4096x1024) bitsLt_bf16_f32

/-! ## Each stage at an index -/

theorem refX_at (x : Vec Ideal S4096x1024 .f32) (b : Fin 16) (s : Fin 256) (d : Fin 1024) :
    refX x (ix3 b s d) = x (ix2 ⟨b.val * 256 + s.val, by omega⟩ d) := by
  unfold refX
  pointwise

theorem refH_at (x : FVec Ideal S16x256x1024 .f32) (g : Vec Ideal S1x1024 .f32) (sc sh : Vec Ideal S24x1x1024 .f32)
    (b : Fin 16) (s : Fin 256) (d : Fin 1024) :
    refH x g sc sh (ix3 b s d) = Proj.hm (fun d => x (ix3 b s d)) (fun d => g (ix2 0 d)) (fun d => sc (ix3 16 0 d))
      (fun d => sh (ix3 16 0 d)) d := by
  unfold refH Proj.hm
  pointwise

theorem refP_at (h : FVec Ideal S16x256x1024 .f32) (w : Vec Ideal S1024x2304 .bf16) (b : Fin 16) (s : Fin 256) (e : Fin 2304) :
    refP h w (ix3 b s e) = lin (fun d => h (ix3 b s d)) (fun d e => w (ix2 d e)) e := by
  unfold refP lin
  pointwise [dot_S16x256x1024_S1024x2304_S16x256x2304_2_0_01_1_n_n]

theorem refQ_at (h : FVec Ideal S16x256x384 .f32) (w : Vec Ideal S384x1024 .bf16) (b : Fin 16) (s : Fin 256) (e : Fin 1024) :
    refQ h w (ix3 b s e) = lin (fun d => h (ix3 b s d)) (fun d e => w (ix2 d e)) e := by
  unfold refQ lin
  pointwise [dot_S16x256x384_S384x1024_S16x256x1024_2_0_01_1_n_n]

theorem refL_at (h : FVec Ideal S16x256x256 .f32) (w : Vec Ideal S256x1024 .bf16) (b : Fin 16) (s : Fin 256) (e : Fin 1024) :
    refL h w (ix3 b s e) = lin (fun d => h (ix3 b s d)) (fun d e => w (ix2 d e)) e := by
  unfold refL lin
  pointwise [dot_S16x256x256_S256x1024_S16x256x1024_2_0_01_1_n_n]

theorem cutCq_at (p : FVec Ideal S16x256x2304 .f32) (b : Fin 16) (s : Fin 256) (d : Fin 384) :
    cutCq p (ix3 b s d) = p (ix3 b s ⟨1536 + d.val, by omega⟩) := by
  unfold cutCq
  pointwise

theorem cutKv_at (p : FVec Ideal S16x256x2304 .f32) (b : Fin 16) (s : Fin 256) (d : Fin 256) :
    cutKv p (ix3 b s d) = p (ix3 b s ⟨1920 + d.val, by omega⟩) := by
  unfold cutKv
  pointwise

theorem outW_at (t : FVec Ideal S16x256x1024 .f32) (R : Fin 4096) (L : Fin 1024) : outW t (ix2 R L) = t (ix3 ⟨R.val / 256, by omega⟩ ⟨R.val % 256, by omega⟩ L) := by
  unfold outW
  pointwise

theorem outQ_at (b : BitVec 32) (t : FVec Ideal S16x256x1024 .f32) (R : Fin 4096) (L : Fin 1024) :
    outQ b t (ix2 R L) = t (ix3 ⟨R.val / 256, by omega⟩ ⟨R.val % 256, by omega⟩ L) * Ideal.ofBits FTy.f32 b := by
  unfold outQ outW
  pointwise

theorem cutQa_at (p : FVec Ideal S16x256x2304 .f32) (b : Fin 16) (s : Fin 256) (d : Fin 1024) :
    cutQa p (ix3 b s d) = p (ix3 b s ⟨d.val, by omega⟩) := by
  unfold cutQa
  pointwise

theorem outKa_at (p : FVec Ideal S16x256x2304 .f32) (R : Fin 4096) (L : Fin 256) :
    outKa p (ix2 R L) = p (ix3 ⟨R.val / 256, by omega⟩ ⟨R.val % 256, by omega⟩ ⟨1024 + L.val, by omega⟩) := by
  unfold outKa
  pointwise

theorem outVa_at (p : FVec Ideal S16x256x2304 .f32) (R : Fin 4096) (L : Fin 256) :
    outVa p (ix2 R L) = p (ix3 ⟨R.val / 256, by omega⟩ ⟨R.val % 256, by omega⟩ ⟨1280 + L.val, by omega⟩) := by
  unfold outVa
  pointwise

theorem outKb_at (k : FVec Ideal S16x256x1024 .f32) (p : FVec Ideal S16x256x2304 .f32) (R : Fin 4096) (L : Fin 1024) :
    outKb k p (ix2 R L) = k (ix3 ⟨R.val / 256, by omega⟩ ⟨R.val % 256, by omega⟩ L)
      + p (ix3 ⟨R.val / 256, by omega⟩ ⟨R.val % 256, by omega⟩ ⟨2176 + L.val % 128, by omega⟩) := by
  unfold outKb
  pointwise

section Values

variable (m : (ℓ : Loc nD τ sig) → Buf (Elt Ideal) ℓ) (c : Dev nD)

/-- The product, the query latent's product and the normalised key-value latent, from the arguments. -/
def prod : FVec Ideal S16x256x2304 .f32 :=
  refP (refH (refX (m ((c.tc : Thread nD τ).loc main_arg0))) (m ((c.tc : Thread nD τ).loc main_arg1)) (m ((c.tc : Thread nD τ).loc main_arg2))
    (m ((c.tc : Thread nD τ).loc main_arg3))) (m ((c.tc : Thread nD τ).loc main_arg4))

def latQ : FVec Ideal S16x256x1024 .f32 := refQ (refCq (cutCq (prod m c)) (m ((c.tc : Thread nD τ).loc main_arg5))) (m ((c.tc : Thread nD τ).loc main_arg6))

def latK : FVec Ideal S16x256x256 .f32 := refKv (cutKv (prod m c)) (m ((c.tc : Thread nD τ).loc main_arg7))

/-- Row `R` of the product, from the arguments. -/
def prow (R : Fin 4096) : Fin 2304 → EReal :=
  Ctab.prow (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) R

theorem prod_at (R : Fin 4096) (e : Fin 2304) : prod m c (ix3 ⟨R.val / 256, by omega⟩ ⟨R.val % 256, by omega⟩ e) = prow m c R e := by
  have hR : (⟨R.val / 256 * 256 + R.val % 256, by omega⟩ : Fin 4096) = R := Fin.ext (show R.val / 256 * 256 + R.val % 256 = R.val by omega)
  unfold prod prow Ctab.prow
  simp only [refP_at, refH_at, refX_at, hR]

theorem latK_at (R : Fin 4096) (d : Fin 256) : latK m c (ix3 ⟨R.val / 256, by omega⟩ ⟨R.val % 256, by omega⟩ d)
    = lk (prow m c R) (fun d => (m ((c.tc : Thread nD τ).loc main_arg7) : Vec Ideal S1x256 .f32) (ix2 0 d)) d := by
  unfold latK lk
  simp only [refKv_at, cutKv_at, prod_at]

theorem resQa_at (R : Fin 4096) (L : Fin 1024) : outQ 0x3E38AA3B#32 (cutQa (prod m c)) (ix2 R L) = Ctab.qa (prow m c R) L := by
  rw [outQ_at, cutQa_at, prod_at]
  rfl

theorem resKa_at (R : Fin 4096) (L : Fin 256) : outKa (prod m c) (ix2 R L) = Ctab.ka (prow m c R) L := by
  rw [outKa_at, prod_at]
  rfl

theorem resVa_at (R : Fin 4096) (L : Fin 256) : outVa (prod m c) (ix2 R L) = Ctab.va (prow m c R) L := by
  rw [outVa_at, prod_at]
  rfl

theorem resQb_at (R : Fin 4096) (L : Fin 1024) : outQ 0x3E16C740#32 (latQ m c) (ix2 R L) = Ctab.qb (prow m c R) (m ((c.tc : Thread nD τ).loc main_arg5)) (m ((c.tc : Thread nD τ).loc main_arg6)) L := by
  unfold latQ Ctab.qb lq
  rw [outQ_at]
  simp only [refQ_at, refCq_at, cutCq_at, prod_at]

theorem resVb_at (w : Vec Ideal S256x1024 .bf16) (R : Fin 4096) (L : Fin 1024) :
    refL (latK m c) w (ix3 ⟨R.val / 256, by omega⟩ ⟨R.val % 256, by omega⟩ L) = Ctab.vb (prow m c R) (m ((c.tc : Thread nD τ).loc main_arg7)) w L := by
  unfold Ctab.vb
  rw [refL_at]
  simp only [latK_at]

theorem resKb_at (w : Vec Ideal S256x1024 .bf16) (R : Fin 4096) (L : Fin 1024) :
    outKb (refL (latK m c) w) (prod m c) (ix2 R L) = Ctab.kb (prow m c R) (m ((c.tc : Thread nD τ).loc main_arg7)) w L := by
  rw [outKb_at, resVb_at, prod_at]
  rfl

set_option maxRecDepth 8192 in
theorem printQb : res_main_v84 m c = outQ 0x3E16C740#32 (latQ m c) := by
  unfold res_main_v84 outQ outW latQ refQ refCq cutCq prod refP refH refX
  rfl

set_option maxRecDepth 8192 in
theorem printKb : res_main_v86 m c = outKb (refL (latK m c) (m ((c.tc : Thread nD τ).loc main_arg8))) (prod m c) := by
  unfold res_main_v86 outKb refL latK refKv cutKv prod refP refH refX
  rfl

set_option maxRecDepth 8192 in
theorem printVb : res_main_v88 m c = outW (refL (latK m c) (m ((c.tc : Thread nD τ).loc main_arg9))) := by
  unfold res_main_v88 outW refL latK refKv cutKv prod refP refH refX
  rfl

end Values

end Cert.CtabRef

end
-- ==== Proof.CtabEq.lean ====
/-
  The context's projection in the even layer against its reference: its six results, and the reference's frame.
-/
module

public import proofs.«01_k».proof.Defs
public import proofs.«01_k».proof.Proof.CtabKer
public import proofs.«01_k».proof.Proof.CtabRef

@[expose] public section

set_option maxRecDepth 16384

noncomputable section

namespace Cert.CtabEq

open Idealize.ShloMosaic Idealize.SL.Sem

theorem frame_reference : Cert.quiescent_ContextABReferenceIdeal (hContextABReferenceIdeal := Cert.ContextABReferenceIdeal.Gen.facts) := fun m ρ _ =>
  (θ_run Cert.ContextABReferenceIdeal.defs _ _).mono (fun _ h => ⟨fun c => (h c).2.2.2.2.2.2, sem_eq_zero_of_no_sems rfl _⟩)
    (Cert.ContextABReferenceIdeal.Value.run m ρ)

theorem project : Cert.algebraic_ContextABIdeal_ContextABReferenceIdeal (hContextABIdeal := Cert.ContextABIdeal.Gen.facts)
    (hContextABReferenceIdeal := Cert.ContextABReferenceIdeal.Gen.facts) := by
  intro m g m' g' _ hagree
  refine ⟨fun c => CtabRef.outQ 0x3E38AA3B#32 (CtabRef.cutQa (CtabRef.prod m' c)),
    fun c => CtabRef.outKa (CtabRef.prod m' c),
    fun c => CtabRef.outVa (CtabRef.prod m' c),
    fun c => CtabRef.outQ 0x3E16C740#32 (CtabRef.latQ m' c),
    fun c => CtabRef.outKb (CtabRef.refL (CtabRef.latK m' c) (m' ((c.tc : Thread _ _).loc Cert.ContextABReferenceIdeal.main_arg8))) (CtabRef.prod m' c),
    fun c => CtabRef.outW (CtabRef.refL (CtabRef.latK m' c) (m' ((c.tc : Thread _ _).loc Cert.ContextABReferenceIdeal.main_arg9))), ?_, ?_⟩
  · refine (θ_run _ _ _).mono (fun r h c => ?_) (Cert.ContextABIdeal.Value.run_blocks m g)
    obtain ⟨h10, h11, h12, h13, h14, h15, hk⟩ := h c
    obtain ⟨a0, a1, a2, a3, a4, a5, a6, a7, a8, a9⟩ := hagree c
    have ix (n : ℕ) (k : ℕ) (i : (⟨2, ![n, k]⟩ : Shape).Idx) : ix2 (i 0 : Fin n) (i 1 : Fin k) = i := by
      funext a; fin_cases a <;> rfl
    have p (R : Fin 4096) : CtabKer.prow m c R = CtabRef.prow m' c R := by
      unfold CtabKer.prow CtabRef.prow
      rw [a0, a1, a2, a3, a4]
    have eqa (R : Fin 4096) (L : Fin 1024) : Ctab.qa (CtabKer.prow m c R) L = CtabRef.outQ 0x3E38AA3B#32 (CtabRef.cutQa (CtabRef.prod m' c)) (ix2 R L) := by
      rw [CtabRef.resQa_at, p]
    have eka (R : Fin 4096) (L : Fin 256) : Ctab.ka (CtabKer.prow m c R) L = CtabRef.outKa (CtabRef.prod m' c) (ix2 R L) := by
      rw [CtabRef.resKa_at, p]
    have eva (R : Fin 4096) (L : Fin 256) : Ctab.va (CtabKer.prow m c R) L = CtabRef.outVa (CtabRef.prod m' c) (ix2 R L) := by
      rw [CtabRef.resVa_at, p]
    have eqb (R : Fin 4096) (L : Fin 1024) : Ctab.qb (CtabKer.prow m c R) (m ((c.tc : Thread _ _).loc Cert.ContextABIdeal.main_arg5)) (m ((c.tc : Thread _ _).loc Cert.ContextABIdeal.main_arg6)) L = CtabRef.outQ 0x3E16C740#32 (CtabRef.latQ m' c) (ix2 R L) := by
      rw [CtabRef.resQb_at, p, a5, a6]
    have ekb (R : Fin 4096) (L : Fin 1024) : Ctab.kb (CtabKer.prow m c R) (m ((c.tc : Thread _ _).loc Cert.ContextABIdeal.main_arg7)) (m ((c.tc : Thread _ _).loc Cert.ContextABIdeal.main_arg8)) L = CtabRef.outKb (CtabRef.refL (CtabRef.latK m' c) (m' ((c.tc : Thread _ _).loc Cert.ContextABReferenceIdeal.main_arg8))) (CtabRef.prod m' c) (ix2 R L) := by
      rw [CtabRef.resKb_at, p, a7, a8]
    have evb (R : Fin 4096) (L : Fin 1024) : Ctab.vb (CtabKer.prow m c R) (m ((c.tc : Thread _ _).loc Cert.ContextABIdeal.main_arg7)) (m ((c.tc : Thread _ _).loc Cert.ContextABIdeal.main_arg9)) L = CtabRef.outW (CtabRef.refL (CtabRef.latK m' c) (m' ((c.tc : Thread _ _).loc Cert.ContextABReferenceIdeal.main_arg9))) (ix2 R L) := by
      rw [CtabRef.outW_at, CtabRef.resVb_at, p, a7, a9]
    refine ⟨h10.trans ((CtabKer.arrqa m c).trans (funext fun i => (eqa (i 0) (i 1)).trans (congrArg _ (ix 4096 1024 i)))),
      h11.trans ((CtabKer.arrka m c).trans (funext fun i => (eka (i 0) (i 1)).trans (congrArg _ (ix 4096 256 i)))),
      h12.trans ((CtabKer.arrva m c).trans (funext fun i => (eva (i 0) (i 1)).trans (congrArg _ (ix 4096 256 i)))),
      h13.trans ((CtabKer.arrqb m c).trans (funext fun i => (eqb (i 0) (i 1)).trans (congrArg _ (ix 4096 1024 i)))),
      h14.trans ((CtabKer.arrkb m c).trans (funext fun i => (ekb (i 0) (i 1)).trans (congrArg _ (ix 4096 1024 i)))),
      h15.trans ((CtabKer.arrvb m c).trans (funext fun i => (evb (i 0) (i 1)).trans (congrArg _ (ix 4096 1024 i)))), hk⟩
  · refine (θ_run _ _ _).mono (fun r h c => ?_) (Cert.ContextABReferenceIdeal.Value.run m' g')
    obtain ⟨h1, h2, h3, h4, h5, h6, hk⟩ := h c
    exact ⟨h1.trans (by unfold CtabRef.outQ CtabRef.outW CtabRef.cutQa CtabRef.prod CtabRef.refP CtabRef.refH CtabRef.refX; rfl),
      h2.trans (by unfold CtabRef.outKa CtabRef.prod CtabRef.refP CtabRef.refH CtabRef.refX; rfl),
      h3.trans (by unfold CtabRef.outVa CtabRef.prod CtabRef.refP CtabRef.refH CtabRef.refX; rfl),
      h4.trans (CtabRef.printQb m' c), h5.trans (CtabRef.printKb m' c), h6.trans (CtabRef.printVb m' c), hk⟩

end Cert.CtabEq

end
-- ==== Proof.ModKer.lean ====
/-
  What one grid point of the modulation kernel writes, and what its output array holds at the end.
-/
module

public import proofs.«01_k».proof.Proof.Gen.ModulationIdeal.Value
public import Idealize.ShloMosaic.Lib.Pointwise
public import Idealize.ShloMosaic.Lib.Pipeline.ValueKit

@[expose] public section

set_option maxRecDepth 16384

noncomputable section

namespace Cert.Mod

open Idealize.ShloMosaic

/-- One lane of a row's modulation: the row through silu against a column of the weights, and the bias. -/
def md (c w : Fin 1024 → EReal) (b : EReal) : EReal := (∑ d, c d * Ideal.logistic (c d) * w d) + b

end Cert.Mod

namespace Cert.ModKer

open Cert.ModulationIdeal Cert.ModulationIdeal.Gen Cert.Mod Idealize.ShloMosaic Idealize.ShloMosaic.Pipeline Idealize.SL.Sem

section Block

variable (x0 : Vec Ideal S24x1024 .f32) (x1 : Vec Ideal S1x1024x1536 .f32) (x2 : Vec Ideal S1x1x1536 .f32)

theorem pay_at (r : Fin 24) (l : Fin 1536) :
    k0_pay1 x0 x1 x2 (ix3 0 r l) = md (fun d => x0 (ix2 r d)) (fun d => x1 (ix3 0 d l)) (x2 (ix3 0 0 l)) := by
  unfold md
  unfold_payloads
  pointwise [dot_S24x1024_S1024x1536_S24x1536_1_0_0_1_n_n]

theorem z2 : (![0, 0] : Fin 2 → ℕ) = fun _ => 0 := by decide
theorem z3 : (![0, 0, 0] : Fin 3 → ℕ) = fun _ => 0 := by decide
theorem l0 (X : Vec Ideal S24x1024 .f32) : View.ld X r0_0 = X := View.ld_unit_zero z2 _ X
theorem l1 (X : Vec Ideal S1x1024x1536 .f32) : View.ld X r0_1 = X := View.ld_unit_zero z3 _ X
theorem l2 (X : Vec Ideal S1x1x1536 .f32) : View.ld X r0_2 = X := View.ld_unit_zero z3 _ X

theorem out_at (R : Fin 24) (L : Fin 1536) : out0_3 x0 x1 x2 (ix3 0 R L)
    = md (fun d => x0 (ix2 R d)) (fun d => x1 (ix3 0 d L)) (x2 (ix3 0 0 L)) := by
  canon_tiles x h
  obtain ⟨z, r, l, rfl⟩ : ∃ (z : Fin 1) (r : Fin 24) (l : Fin 1536), x = ix3 z r l := ⟨x 0, x 1, x 2, by funext a; fin_cases a <;> rfl⟩
  obtain rfl : z = 0 := Subsingleton.elim _ _
  change R.val = r.val at h1
  change L.val = l.val at h2
  obtain rfl := Fin.ext h1
  obtain rfl := Fin.ext h2
  rw [l0, l1, l2]
  exact pay_at x0 x1 x2 R L

end Block

/-- Where the windows stand at each grid point. -/
theorem idx : ∀ t : Fin grid0.N, win0_0.index t = ![0, 0] ∧ win0_1.index t = ![t.val / 4, 0, t.val % 4]
    ∧ win0_2.index t = ![t.val / 4, 0, t.val % 4] ∧ win0_3.index t = ![t.val / 4, 0, t.val % 4] := by decide +kernel

variable (m : (ℓ : Loc nD τ sig) → Buf (Elt Ideal) ℓ) (c : Dev nD)

theorem cast_at (b : Vec Ideal S2x6144 .f32) (i : Fin 2) (l : Fin 6144) :
    shapeCast S2x1x6144 b shapeCasts_S2x6144_S2x1x6144 (ix3 i 0 l) = b (ix2 i l) := by
  pointwise

/-- The bias with a unit axis is the bias. -/
theorem bias_at (i : Fin 2) (l : Fin 6144) : V m c main_v0 (ix3 i 0 l) = (m ((c.tc : Thread nD τ).loc main_arg2) : Vec Ideal S2x6144 .f32) (ix2 i l) := by
  have e : (V m c main_v0 : Vec Ideal S2x1x6144 .f32) = shapeCast S2x1x6144 (m ((c.tc : Thread nD τ).loc main_arg2) : Vec Ideal S2x6144 .f32) shapeCasts_S2x6144_S2x1x6144 := by
    with_unfolding_all rfl
  rw [e]
  exact cast_at _ i l

/-- The result at a layer, a row and a lane, from the arguments. -/
def arr (i : Fin 2) (R : Fin 24) (L : Fin 6144) : EReal :=
  md (fun d => (m ((c.tc : Thread nD τ).loc main_arg0) : Vec Ideal S24x1024 .f32) (ix2 R d))
    (fun d => (m ((c.tc : Thread nD τ).loc main_arg1) : Vec Ideal S2x1024x6144 .f32) (ix3 i d L))
    ((m ((c.tc : Thread nD τ).loc main_arg2) : Vec Ideal S2x6144 .f32) (ix2 i L))

set_option maxHeartbeats 2000000 in
/-- The output array after the run. -/
theorem arr_eq : (dats m 0 c).arrAt 3 (cfgs 0).N = fun i => arr m c (i 0) (i 1) (i 2) := by
  refine (dats m 0 c).arrAt_eq_of_covers 3 _ (by decide +kernel) fun t hf y => ?_
  blk_simp
  rw [after0_3]
  obtain ⟨z, r, l, rfl⟩ : ∃ (z : Fin 1) (r : Fin 24) (l : Fin 1536), y = ix3 z r l := ⟨y 0, y 1, y 2, by funext a; fin_cases a <;> rfl⟩
  obtain rfl : z = 0 := Subsingleton.elim _ _
  obtain ⟨i0, i1, i2, i3⟩ := idx t
  have he0 : (((win0_3.blk t).view.emb (ix3 0 r l) 0 : Fin 2) : ℕ) = t.val / 4 := by
    blk_simp [i3]
    rfl
  have he1 : (((win0_3.blk t).view.emb (ix3 0 r l) 1 : Fin 24) : ℕ) = r.val := by
    blk_simp [i3]
  have he2 : (((win0_3.blk t).view.emb (ix3 0 r l) 2 : Fin 6144) : ℕ) = t.val % 4 * 1536 + l.val := by
    blk_simp [i3]
  generalize ((win0_3.blk t).view.emb (ix3 0 r l) 0 : Fin 2) = I at he0
  generalize ((win0_3.blk t).view.emb (ix3 0 r l) 1 : Fin 24) = A at he1
  generalize ((win0_3.blk t).view.emb (ix3 0 r l) 2 : Fin 6144) = B at he2
  obtain rfl : r = A := (Fin.ext he1).symm
  have h0 : ∀ d : Fin 1024, iblk m c 0 t (ix2 r d) = m ((c.tc : Thread nD τ).loc main_arg0) (ix2 r d) := fun d =>
    Eq.trans (b := V m c main_arg0 (ix2 r d)) (by blk_ext [iblk, i0]) (congrFun (V_main_arg0 m c) _)
  have h1 : ∀ d : Fin 1024, iblk m c 1 t (ix3 0 d l) = m ((c.tc : Thread nD τ).loc main_arg1) (ix3 I d B) := fun d =>
    Eq.trans (b := V m c main_arg1 (ix3 I d B)) (by blk_ext [iblk, i1]) (congrFun (V_main_arg1 m c) _)
  have h2 : iblk m c 2 t (ix3 0 0 l) = (m ((c.tc : Thread nD τ).loc main_arg2) : Vec Ideal S2x6144 .f32) (ix2 I B) :=
    Eq.trans (b := V m c main_v0 (ix3 I 0 B)) (by blk_ext [iblk, i2]) (bias_at m c I B)
  unfold arr
  rw [out_at]
  simp only [h0, h1, h2]

end Cert.ModKer

end
-- ==== Proof.ModRef.lean ====
/-
  What the modulation reference computes, read at one index.
-/
module

public import proofs.«01_k».proof.Proof.Gen.ModulationReferenceIdeal.Run
public import proofs.«01_k».proof.Proof.ModKer

@[expose] public section

noncomputable section

namespace Cert.ModRef

open Cert.ModulationReferenceIdeal Cert.ModulationReferenceIdeal.Gen Cert.Mod Idealize.ShloMosaic Idealize.SL.Sem

/-- The rows through silu. -/
def refS (x : FVec Ideal S24x1024 .f32) : FVec Ideal S24x1024 .f32 :=
  mulf x (Host.divf (broadcastInDim S24x1024 ![] bcast_S_S24x1024 (constant S_ .f32 0x3F800000#32))
    (addf (broadcastInDim S24x1024 ![] bcast_S_S24x1024 (constant S_ .f32 0x3F800000#32)) (Host.exp (Host.negf x))))

/-- One layer's modulation. -/
def refL (s : FVec Ideal S24x1024 .f32) (w : FVec Ideal S1x1024x6144 .f32) (b : FVec Ideal S1x6144 .f32) : FVec Ideal S1x24x6144 .f32 :=
  broadcastInDim S1x24x6144 ![1, 2] bcast_S24x6144_S1x24x6144_1_2
    (addf (Host.dotGeneral dot_S24x1024_S1024x6144_S24x6144_1_0_0_1_n_n none s (shapeCast _ w shapeCasts_S1x1024x6144_S1024x6144))
      (broadcastInDim S24x6144 ![0, 1] bcast_S1x6144_S24x6144_0_1 (broadcastInDim S1x6144 ![1] bcast_S6144_S1x6144_1 (shapeCast _ b shapeCasts_S1x6144_S6144))))

/-- The two layers' modulations, one after the other. -/
def refM (x : FVec Ideal S24x1024 .f32) (w : FVec Ideal S2x1024x6144 .f32) (b : FVec Ideal S2x6144 .f32) : FVec Ideal S2x24x6144 .f32 :=
  concatenate S2x24x6144 0 [
    ⟨S1x24x6144, refL (refS x) (extractStridedSlice S1x1024x6144 ![0, 0, 0] w slices_S2x1024x6144_S1x1024x6144_0_0_0)
      (extractStridedSlice S1x6144 ![0, 0] b slices_S2x6144_S1x6144_0_0)⟩,
    ⟨S1x24x6144, refL (refS x) (extractStridedSlice S1x1024x6144 ![1, 0, 0] w slices_S2x1024x6144_S1x1024x6144_1_0_0)
      (extractStridedSlice S1x6144 ![1, 0] b slices_S2x6144_S1x6144_1_0)⟩] concatenates_S1x24x6144_S1x24x6144_S2x24x6144_d0

theorem refS_at (x : FVec Ideal S24x1024 .f32) (r : Fin 24) (d : Fin 1024) : refS x (ix2 r d) = x (ix2 r d) * Ideal.logistic (x (ix2 r d)) := by
  unfold refS Ideal.logistic
  pointwise

theorem refL_at (s : FVec Ideal S24x1024 .f32) (w : FVec Ideal S1x1024x6144 .f32) (b : FVec Ideal S1x6144 .f32) (r : Fin 24) (l : Fin 6144) :
    refL s w b (ix3 0 r l) = (∑ d : Fin 1024, s (ix2 r d) * w (ix3 0 d l)) + b (ix2 0 l) := by
  unfold refL
  pointwise [dot_S24x1024_S1024x6144_S24x6144_1_0_0_1_n_n]

theorem refM_at (x : FVec Ideal S24x1024 .f32) (w : FVec Ideal S2x1024x6144 .f32) (b : FVec Ideal S2x6144 .f32) (i : Fin 2) (r : Fin 24) (l : Fin 6144) :
    refM x w b (ix3 i r l) = md (fun d => x (ix2 r d)) (fun d => w (ix3 i d l)) (b (ix2 i l)) := by
  unfold refM md
  fin_cases i
  · pointwise
    simp only [refL_at, refS_at]
    pointwise
  · pointwise
    simp only [refL_at, refS_at]
    pointwise

end Cert.ModRef

end
-- ==== Proof.ModEq.lean ====
/-
  The modulation against its reference, and the reference's frame.
-/
module

public import proofs.«01_k».proof.Defs
public import proofs.«01_k».proof.Proof.ModRef

@[expose] public section

set_option maxRecDepth 16384

noncomputable section

namespace Cert.ModEq

open Idealize.ShloMosaic Idealize.SL.Sem

theorem frame_reference : Cert.quiescent_ModulationReferenceIdeal (hModulationReferenceIdeal := Cert.ModulationReferenceIdeal.Gen.facts) := fun m ρ _ =>
  (θ_run Cert.ModulationReferenceIdeal.defs _ _).mono (fun _ h => ⟨fun c => (h c).2, sem_eq_zero_of_no_sems rfl _⟩) (Cert.ModulationReferenceIdeal.Value.run m ρ)

theorem modulation : Cert.algebraic_ModulationIdeal_ModulationReferenceIdeal (hModulationIdeal := Cert.ModulationIdeal.Gen.facts)
    (hModulationReferenceIdeal := Cert.ModulationReferenceIdeal.Gen.facts) := by
  intro m g m' g' _ hagree
  refine ⟨fun c => ModRef.refM (m' ((c.tc : Thread _ _).loc Cert.ModulationReferenceIdeal.main_arg0)) (m' ((c.tc : Thread _ _).loc Cert.ModulationReferenceIdeal.main_arg1))
    (m' ((c.tc : Thread _ _).loc Cert.ModulationReferenceIdeal.main_arg2)), ?_, ?_⟩
  · refine (θ_run _ _ _).mono (fun r h c => ?_) (Cert.ModulationIdeal.Value.run_blocks m g)
    obtain ⟨h3, hk⟩ := h c
    obtain ⟨a0, a1, a2⟩ := hagree c
    have ix (i : (⟨3, ![2, 24, 6144]⟩ : Shape).Idx) : ix3 (i 0 : Fin 2) (i 1 : Fin 24) (i 2 : Fin 6144) = i := by
      funext a; fin_cases a <;> rfl
    refine ⟨h3.trans ((ModKer.arr_eq m c).trans (funext fun i => ?_)), hk⟩
    refine Eq.trans ?_ (congrArg _ (ix i))
    refine Eq.trans ?_ (ModRef.refM_at _ _ _ (i 0) (i 1) (i 2)).symm
    unfold ModKer.arr
    rw [a0, a1, a2]
  · refine (θ_run _ _ _).mono (fun r h c => ?_) (Cert.ModulationReferenceIdeal.Value.run m' g')
    obtain ⟨h1, hk⟩ := h c
    exact ⟨h1.trans (by unfold ModRef.refM ModRef.refL ModRef.refS; rfl), hk⟩

end Cert.ModEq

end
-- ==== Proof.ClatKer.lean ====
/-
  The latent attention kernel of the context: each of a grid point's four heads is the attention of its query row over
  the context keys of the row's batch entry; the output array at each row and lane.
-/
module

public import proofs.«01_k».proof.Proof.Gen.ContextLatentIdeal.Value
public import proofs.«01_k».proof.Proof.LatHead

@[expose] public section

set_option maxRecDepth 16384

noncomputable section

namespace Cert.ClatKer

open Cert.ContextLatentIdeal Cert.ContextLatentIdeal.Gen Idealize.ShloMosaic Idealize.ShloMosaic.Pipeline Idealize.SL.Sem

/-- Attention of the query row `r` of a block over the keys of one block, value lane `l`. -/
def head (k v q : Vec Ideal S256x128 .bf16) (r : Fin 256) (l : Fin 128) : EReal :=
  Soft.softC (fun x : Fin 256 => ∑ d : Fin 128, q (ix2 r d) * k (ix2 x d)) (fun x => v (ix2 x l))

theorem head_at (k v q : Vec Ideal S256x128 .bf16) (r : Fin 256) (l : Fin 128) : k0_pay2 k v q (ix2 r l) = head k v q r l := by
  unfold head Soft.softC
  unfold_payloads
  pointwise [dot_S256x128_S256x128_S256x256_1_1_0_0_n_n, dot_S256x256_S256x128_S256x128_1_0_0_1_n_n]
  simp only [Soft.ninf]
  rfl

/-- Two heads in one block: the first in the lower lanes, the second rotated into the upper ones. -/
theorem pair_at (a b : FVec Ideal S256x128 .f32) (r : Fin 256) (l : Fin 128) :
    k0_pay5 a b (ix2 r l) = if l.val < 64 then a (ix2 r l) else b (ix2 r ⟨l.val - 64, by omega⟩) := by
  unfold_payloads
  pointwise
  rw [show IntOp.cmpi CmpIPredicate.slt (BitVec.ofNat 32 l.val) 64#32 = if l.val < 64 then 1#1 else 0#1 from LatKer.lower l]
  by_cases hl : l.val < 64
  · simp only [if_pos hl]; rfl
  · simp only [if_neg hl]
    have e : (⟨(l.val + 128 - 64) % 128, by omega⟩ : Fin 128) = ⟨l.val - 64, by omega⟩ := Fin.ext (by dsimp only; omega)
    exact congrArg (fun k => b (ix2 r k)) e

/-- One query row of a block against the keys of one, output lane `L`: 64 lanes per head. -/
def row (x0 x1 x2 : Vec Ideal S256x512 .bf16) (R L : Fin 256) : EReal :=
  Soft.softC
    (fun x : Fin 256 => ∑ d : Fin 128, x0 (ix2 R ⟨L.val / 64 * 128 + d.val, by omega⟩) * x1 (ix2 x ⟨L.val / 64 * 128 + d.val, by omega⟩))
    (fun x => x2 (ix2 x ⟨L.val / 64 * 128 + L.val % 64, by omega⟩))

theorem head_of (x0 x1 x2 : Vec Ideal S256x512 .bf16) (k v q : Vec Ideal S256x128 .bf16) (r : Fin 256) (l : Fin 128) (L : Fin 256)
    (hq : ∀ d : Fin 128, q (ix2 r d) = x0 (ix2 r ⟨L.val / 64 * 128 + d.val, by omega⟩))
    (hk : ∀ (x : Fin 256) (d : Fin 128), k (ix2 x d) = x1 (ix2 x ⟨L.val / 64 * 128 + d.val, by omega⟩))
    (hv : ∀ x : Fin 256, v (ix2 x l) = x2 (ix2 x ⟨L.val / 64 * 128 + L.val % 64, by omega⟩)) :
    head k v q r l = row x0 x1 x2 r L := by
  unfold head row
  simp only [hq, hk, hv]

/-- A head's value from its slices of the blocks: `n` its first lane there. -/
theorem head_eq (x0 x1 x2 : Vec Ideal S256x512 .bf16) (n : ℕ) (h : ∀ a, (![0, n] : Fin 2 → ℕ) a + S256x128.size a ≤ S256x512.size a)
    (r : Fin 256) (l : Fin 128) (L : Fin 256) (hn : L.val / 64 * 128 = n) (hl : l.val = L.val % 64) :
    head (View.ld x1 (Rect.unit (s := S256x512) ![0, n] S256x128.size h)) (View.ld x2 (Rect.unit (s := S256x512) ![0, n] S256x128.size h))
      (View.ld x0 (Rect.unit (s := S256x512) ![0, n] S256x128.size h)) r l = row x0 x1 x2 r L := by
  subst hn
  have q : ∀ (X : Vec Ideal S256x512 .bf16) (x : Fin 256) (d : Fin 128),
      View.ld X (Rect.unit (s := S256x512) ![0, L.val / 64 * 128] S256x128.size h) (ix2 x d)
      = X (ix2 x ⟨L.val / 64 * 128 + d.val, by omega⟩) := fun X x d =>
    View.ld_unit_apply_of X _ _ _ _ _ fun a => by
      fin_cases a
      · show x.val = 0 + x.val; omega
      · rfl
  exact head_of x0 x1 x2 _ _ _ r l L (q x0 r) (q x1) fun x => (q x2 x l).trans (congrArg (fun k => x2 (ix2 x k)) (Fin.ext (by dsimp only; omega)))

/-- One grid point's output block at a row and a lane. -/
theorem out_at (x0 x1 x2 : Vec Ideal S256x512 .bf16) (R L : Fin 256) : out0_3 x0 x1 x2 (ix2 R L) = row x0 x1 x2 R L := by
  canon_tiles x h
  all_goals
    obtain ⟨r, l, rfl⟩ : ∃ r l, x = ix2 r l := ⟨x 0, x 1, by funext a; fin_cases a <;> rfl⟩
    change R.val = r.val at h0
    obtain rfl := Fin.ext h0
  · change L.val = 128 + l.val at h1
    refine (pair_at (k0_pay2 _ _ _) (k0_pay2 _ _ _) R l).trans ?_
    split_ifs with hl
    · rw [head_at]; exact head_eq x0 x1 x2 256 _ R l L (by omega) (by omega)
    · rw [head_at]; exact head_eq x0 x1 x2 384 _ R _ L (by omega) (by dsimp only; omega)
  · change L.val = l.val at h1
    refine (pair_at (k0_pay2 _ _ _) (k0_pay2 _ _ _) R l).trans ?_
    split_ifs with hl
    · rw [head_at]; exact head_eq x0 x1 x2 0 _ R l L (by omega) (by omega)
    · rw [head_at]; exact head_eq x0 x1 x2 128 _ R _ L (by omega) (by dsimp only; omega)

/-- Attention at a row and a lane of the whole arrays. -/
def attn (Q K V : Vec Ideal S4096x1024 .bf16) (R : Fin 4096) (L : Fin 512) : EReal :=
  Soft.softC
    (fun x : Fin 256 => ∑ d : Fin 128, Q (ix2 R ⟨L.val / 64 * 128 + d.val, by omega⟩)
      * K (ix2 ⟨R.val / 256 * 256 + x.val, by omega⟩ ⟨L.val / 64 * 128 + d.val, by omega⟩))
    (fun x => V (ix2 ⟨R.val / 256 * 256 + x.val, by omega⟩ ⟨L.val / 64 * 128 + L.val % 64, by omega⟩))

/-- Where the windows stand at each grid point. -/
theorem idx : ∀ t : Fin grid0.N, win0_0.index t = ![t.val / 2, t.val % 2] ∧ win0_1.index t = ![t.val / 2, t.val % 2]
    ∧ win0_2.index t = ![t.val / 2, t.val % 2] ∧ win0_3.index t = ![t.val / 2, t.val % 2] := by decide +kernel

variable (m : (ℓ : Loc nD τ sig) → Buf (Elt Ideal) ℓ) (c : Dev nD)

/-- The output array after the run, at each row and lane. -/
theorem arr : (dats m 0 c).arrAt 3 (cfgs 0).N = fun i => attn (m ((c.tc : Thread nD τ).loc main_arg0))
    (m ((c.tc : Thread nD τ).loc main_arg1)) (m ((c.tc : Thread nD τ).loc main_arg2)) (i 0) (i 1) := by
  refine (dats m 0 c).arrAt_eq_of_covers 3 _ (by decide +kernel) fun t hf y => ?_
  blk_simp
  rw [after0_3]
  obtain ⟨r, l, rfl⟩ : ∃ (r : Fin 256) (l : Fin 256), y = ix2 r l := ⟨y 0, y 1, by funext a; fin_cases a <;> rfl⟩
  have ht : t.val < 32 := t.isLt
  obtain ⟨i0, i1, i2, i3⟩ := idx t
  have he0 : (((win0_3.blk t).view.emb (ix2 r l) 0 : Fin 4096) : ℕ) = t.val / 2 * 256 + r.val := by
    blk_simp [i3]
  have he1 : (((win0_3.blk t).view.emb (ix2 r l) 1 : Fin 512) : ℕ) = t.val % 2 * 256 + l.val := by
    blk_simp [i3]
  generalize ((win0_3.blk t).view.emb (ix2 r l) 0 : Fin 4096) = A at he0
  generalize ((win0_3.blk t).view.emb (ix2 r l) 1 : Fin 512) = B at he1
  rw [out_at]
  unfold row attn
  have h0 : ∀ d : Fin 128, iblk m c 0 t (ix2 r ⟨l.val / 64 * 128 + d.val, by omega⟩)
      = m ((c.tc : Thread nD τ).loc main_arg0) (ix2 A ⟨B.val / 64 * 128 + d.val, by omega⟩) := fun d => by
    blk_ext [iblk, V, i0]
  have h1 : ∀ (x : Fin 256) (d : Fin 128), iblk m c 1 t (ix2 x ⟨l.val / 64 * 128 + d.val, by omega⟩)
      = m ((c.tc : Thread nD τ).loc main_arg1) (ix2 ⟨A.val / 256 * 256 + x.val, by omega⟩ ⟨B.val / 64 * 128 + d.val, by omega⟩) := fun x d => by
    blk_ext [iblk, V, i1]
  have h2 : ∀ (x : Fin 256), iblk m c 2 t (ix2 x ⟨l.val / 64 * 128 + l.val % 64, by omega⟩)
      = m ((c.tc : Thread nD τ).loc main_arg2) (ix2 ⟨A.val / 256 * 256 + x.val, by omega⟩ ⟨B.val / 64 * 128 + B.val % 64, by omega⟩) := fun x => by
    blk_ext [iblk, V, i2]
  simp only [h0, h1, h2]

end Cert.ClatKer

end
-- ==== Proof.ClatRef.lean ====
/-
  What the context's latent attention reference computes, read at one index: the printed composed term cut into its
  stages, the softmax over the list of scores first.
-/
module

public import proofs.«01_k».proof.Proof.Gen.ContextLatentReferenceIdeal.Run
public import proofs.«01_k».proof.Proof.Soft
public import Idealize.ShloMosaic.Lib.Pointwise

@[expose] public section

noncomputable section

namespace Cert.ClatRef

open Cert.ContextLatentReferenceIdeal Cert.ContextLatentReferenceIdeal.Gen Cert.ContextLatentReferenceIdeal.Value Idealize.ShloMosaic Idealize.SL.Sem

/-- The queries by head, scaled back. -/
def refQ (x : Vec Ideal S4096x1024 .bf16) : FVec Ideal S16x8x1x256x128 .f32 :=
  mulf (extf .f32 (transpose S16x8x1x256x128 [0, 2, 3, 1, 4] (shapeCast _ x shapeCasts_S4096x1024_S16x256x8x1x128) transposes_S16x256x8x1x128_S16x8x1x256x128_0_2_3_1_4) bitsLt_bf16_f32)
    (broadcastInDim S16x8x1x256x128 ![] bcast_S_S16x8x1x256x128 (Host.log (constant S_ .f32 0x40000000#32)))

/-- Keys or values by head. -/
def refKV (b : Vec Ideal S4096x1024 .bf16) : FVec Ideal S16x8x256x128 .f32 :=
  extf .f32 (transpose S16x8x256x128 [0, 2, 1, 3] (shapeCast _ b shapeCasts_S4096x1024_S16x256x8x128) transposes_S16x256x8x128_S16x8x256x128_0_2_1_3) bitsLt_bf16_f32

/-- The scores. -/
def refS (q : FVec Ideal S16x8x1x256x128 .f32) (k : FVec Ideal S16x8x256x128 .f32) : FVec Ideal S16x8x1x256x256 .f32 :=
  Host.dotGeneral dot_S16x8x1x256x128_S16x8x256x128_S16x8x1x256x256_4_3_23_2_01_01 none q k

/-- The largest score of a row, the row's largest against the least value, and the weights. -/
def refMx (s : FVec Ideal S16x8x1x256x256 .f32) : FVec Ideal S16x8x1x256 .f32 :=
  Host.reduce FloatOps.maximumf s (constant S_ .f32 0xFF800000#32) reducesTo_S16x8x1x256x256_S16x8x1x256_d4 h_S_

def refM (s : FVec Ideal S16x8x1x256 .f32) : FVec Ideal S16x8x1x256 .f32 :=
  maximumf (broadcastInDim S16x8x1x256 ![] bcast_S_S16x8x1x256 (constant S_ .f32 0xFF800000#32)) s

def refE (s : FVec Ideal S16x8x1x256x256 .f32) (M : FVec Ideal S16x8x1x256 .f32) : FVec Ideal S16x8x1x256x256 .f32 :=
  Host.exp (subf s (broadcastInDim S16x8x1x256x256 ![0, 1, 2, 3, 4] bcast_S16x8x1x256x1_S16x8x1x256x256_0_1_2_3_4 (broadcastInDim S16x8x1x256x1 ![0, 1, 2, 3] bcast_S16x8x1x256_S16x8x1x256x1_0_1_2_3 M)))

def refP (e : FVec Ideal S16x8x1x256x256 .f32) : FVec Ideal S16x8x1x256x256 .f32 :=
  Host.divf e (broadcastInDim S16x8x1x256x256 ![0, 1, 2, 3, 4] bcast_S16x8x1x256x1_S16x8x1x256x256_0_1_2_3_4 (broadcastInDim S16x8x1x256x1 ![0, 1, 2, 3] bcast_S16x8x1x256_S16x8x1x256x1_0_1_2_3 (Host.reduceAdd e (constant S_ .f32 0x00000000#32) reducesTo_S16x8x1x256x256_S16x8x1x256_d4 h_S_)))

def refO (p : FVec Ideal S16x8x1x256x256 .f32) (v : FVec Ideal S16x8x256x128 .f32) : FVec Ideal S4096x512 .bf16 :=
  truncf .bf16 (shapeCast _ (transpose S16x256x8x1x64 [0, 3, 1, 2, 4] (Host.dotGeneral dot_S16x8x1x256x256_S16x8x256x64_S16x8x1x256x64_4_2_23_3_01_01 none p
    (extractStridedSlice S16x8x256x64 ![0, 0, 0, 0] v slices_S16x8x256x128_S16x8x256x64_0_0_0_0)) transposes_S16x8x1x256x64_S16x256x8x1x64_0_3_1_2_4) shapeCasts_S16x256x8x1x64_S4096x512) bitsLt_bf16_f32

/-- The stages in order, from the scores and the values. -/
def refAttn (s : FVec Ideal S16x8x1x256x256 .f32) (v : FVec Ideal S16x8x256x128 .f32) : FVec Ideal S4096x512 .bf16 :=
  refO (refP (refE s (refM (refMx s)))) v

set_option maxRecDepth 8192 in
theorem res_eq (m : (ℓ : Loc nD τ sig) → Buf (Elt Ideal) ℓ) (c : Dev nD) :
    res_out0 m c = refAttn (refS (refQ (m ((c.tc : Thread nD τ).loc main_arg0))) (refKV (m ((c.tc : Thread nD τ).loc main_arg1))))
      (refKV (m ((c.tc : Thread nD τ).loc main_arg2))) := by
  unfold res_out0 res_main_v28 refAttn refO refP refE refM refMx refS refQ refKV
  rfl

theorem refQ_at (x : Vec Ideal S4096x1024 .bf16) (b : Fin 16) (h : Fin 8) (g : Fin 1) (s : Fin 256) (d : Fin 128) :
    refQ x (ix5 b h g s d) = x (ix2 ⟨b.val * 256 + s.val, by omega⟩ ⟨h.val * 128 + d.val, by omega⟩)
      * Ideal.log (Ideal.ofBits FTy.f32 1073741824#32) := by
  unfold refQ
  pointwise

theorem refKV_at (y : Vec Ideal S4096x1024 .bf16) (b : Fin 16) (h : Fin 8) (s : Fin 256) (d : Fin 128) :
    refKV y (ix4 b h s d) = y (ix2 ⟨b.val * 256 + s.val, by omega⟩ ⟨h.val * 128 + d.val, by omega⟩) := by
  unfold refKV
  pointwise

theorem refS_at (q : FVec Ideal S16x8x1x256x128 .f32) (k : FVec Ideal S16x8x256x128 .f32) (b : Fin 16) (h : Fin 8) (g : Fin 1) (s t : Fin 256) :
    refS q k (ix5 b h g s t) = ∑ x : Fin 128, q (ix5 b h g s x) * k (ix4 b h t x) := by
  unfold refS
  pointwise [dot_S16x8x1x256x128_S16x8x256x128_S16x8x1x256x256_4_3_23_2_01_01]

theorem refMx_at (s : FVec Ideal S16x8x1x256x256 .f32) (b : Fin 16) (h : Fin 8) (g : Fin 1) (r : Fin 256) :
    refMx s (ix4 b h g r) = Finset.fold max (Ideal.ofBits FTy.f32 4286578688#32) (fun x => s (ix5 b h g r x)) Finset.univ := by
  obtain rfl : g = 0 := Subsingleton.elim _ _
  unfold refMx
  pointwise

theorem refM_at (s : FVec Ideal S16x8x1x256 .f32) (b : Fin 16) (h : Fin 8) (g : Fin 1) (r : Fin 256) :
    refM s (ix4 b h g r) = max (Ideal.ofBits FTy.f32 4286578688#32) (s (ix4 b h g r)) := by
  obtain rfl : g = 0 := Subsingleton.elim _ _
  unfold refM
  pointwise

theorem refE_at (s : FVec Ideal S16x8x1x256x256 .f32) (M : FVec Ideal S16x8x1x256 .f32) (b : Fin 16) (h : Fin 8) (g : Fin 1) (r t : Fin 256) :
    refE s M (ix5 b h g r t) = Ideal.exp (s (ix5 b h g r t) - M (ix4 b h g r)) := by
  obtain rfl : g = 0 := Subsingleton.elim _ _
  unfold refE
  pointwise

theorem refP_at (e : FVec Ideal S16x8x1x256x256 .f32) (b : Fin 16) (h : Fin 8) (g : Fin 1) (r t : Fin 256) :
    refP e (ix5 b h g r t) = Ideal.div (e (ix5 b h g r t)) (∑ x, e (ix5 b h g r x)) := by
  obtain rfl : g = 0 := Subsingleton.elim _ _
  unfold refP
  pointwise

theorem refO_at (p : FVec Ideal S16x8x1x256x256 .f32) (v : Vec Ideal S4096x1024 .bf16) (r : Fin 4096) (l : Fin 512) :
    refO p (refKV v) (ix2 r l) = ∑ x : Fin 256,
      p (ix5 ⟨r.val / 256, by omega⟩ ⟨l.val / 64, by omega⟩ 0 ⟨r.val % 256, by omega⟩ x)
        * v (ix2 ⟨r.val / 256 * 256 + x.val, by omega⟩ ⟨l.val / 64 * 128 + l.val % 64, by omega⟩) := by
  unfold refO refKV
  pointwise [dot_S16x8x1x256x256_S16x8x256x64_S16x8x1x256x64_4_2_23_3_01_01]

/-- The output at row `r`, lane `l`: the softmax over that row's list of scores. -/
theorem refAttn_at (s : FVec Ideal S16x8x1x256x256 .f32) (v : Vec Ideal S4096x1024 .bf16) (r : Fin 4096) (l : Fin 512) :
    refAttn s (refKV v) (ix2 r l) = Soft.softR
      (fun t : Fin 256 => s (ix5 ⟨r.val / 256, by omega⟩ ⟨l.val / 64, by omega⟩ 0 ⟨r.val % 256, by omega⟩ t))
      (fun x => v (ix2 ⟨r.val / 256 * 256 + x.val, by omega⟩ ⟨l.val / 64 * 128 + l.val % 64, by omega⟩)) := by
  unfold refAttn Soft.softR
  rw [refO_at]
  simp only [refP_at, refE_at, refM_at, refMx_at, Soft.ninf]

end Cert.ClatRef

end
-- ==== Proof.ClatEq.lean ====
/-
  The context's latent attention kernel computes its reference when queries and keys are finite.
-/
module

public import proofs.«01_k».proof.Proof.Gen.ContextLatentIdeal.Frame
public import proofs.«01_k».proof.Proof.ClatKer
public import proofs.«01_k».proof.Proof.ClatRef
public import proofs.«01_k».proof.Proof.Finite
public import proofs.«01_k».proof.Proof.AttnEq
public import proofs.«01_k».proof.Proof.Gen.Pre_context_finite
public import proofs.«01_k».proof.Defs
public import Idealize.ShloMosaic.Lib.Claim

@[expose] public section

noncomputable section

namespace Cert.ClatEq

open Idealize.ShloMosaic Idealize.SL.Sem

section

open Cert.ContextLatentIdeal

/-- The precondition read at every query and every key. -/
theorem reals [Cert.Pre_context_finite.Facts] (Q K V : Vec Ideal S4096x1024 .bf16)
    (h : Cert.Pre_context_finite.fn (F := Ideal) Q K V = fun _ => 1#1) :
    (∀ i, ∃ r : ℝ, Q i = (r : EReal)) ∧ (∀ i, ∃ r : ℝ, K i = (r : EReal)) := by
  have : Subsingleton (Cert.Pre_context_finite.S_ : Shape).Idx := ⟨fun a b => funext fun x => x.elim0⟩
  obtain ⟨e1, e2⟩ := Finite.andi_one _ _ (congrFun h fun a => a.elim0)
  exact ⟨fun i => Finite.real_of_lt _ (Host.reduce_andi_all _ _ _ _ _ e1 i),
    fun i => Finite.real_of_lt _ (Host.reduce_andi_all _ _ _ _ _ e2 i)⟩

theorem attn_eq (Q K V : Vec Ideal S4096x1024 .bf16) (hQ : ∀ i, ∃ r : ℝ, Q i = (r : EReal)) (hK : ∀ i, ∃ r : ℝ, K i = (r : EReal))
    (R : Fin 4096) (L : Fin 512) : ClatKer.attn Q K V R L
      = ClatRef.refAttn (ClatRef.refS (ClatRef.refQ Q) (ClatRef.refKV K)) (ClatRef.refKV V) (ix2 R L) := by
  choose q hq using hQ
  choose k hk using hK
  rw [ClatRef.refAttn_at]
  unfold ClatKer.attn
  simp only [hq, hk, Soft.dot_real]
  refine Soft.soft_eq_one _ _ _ fun a => ?_
  rw [ClatRef.refS_at, ← Soft.dot_scaled]
  refine Finset.sum_congr rfl fun d _ => ?_
  rw [ClatRef.refQ_at, ClatRef.refKV_at, Soft.log_two, hq, hk]
  exact congrArg (fun x => (q x : EReal) * ((Real.log 2 : ℝ) : EReal) * _) (AttnEq.ix2_eq (by dsimp only; omega) rfl)

end

theorem frame_reference : Cert.quiescent_ContextLatentReferenceIdeal (hContextLatentReferenceIdeal := Cert.ContextLatentReferenceIdeal.Gen.facts) := fun m ρ _ =>
  (θ_run Cert.ContextLatentReferenceIdeal.defs _ _).mono (fun _ h => ⟨fun c => (h c).2, sem_eq_zero_of_no_sems rfl _⟩)
    (Cert.ContextLatentReferenceIdeal.Value.run m ρ)

theorem attention : Cert.algebraic_ContextLatentIdeal_ContextLatentReferenceIdeal_pre_context_finite (hContextLatentIdeal := Cert.ContextLatentIdeal.Gen.facts)
    (hContextLatentReferenceIdeal := Cert.ContextLatentReferenceIdeal.Gen.facts) (hPre_context_finite := Cert.Pre_context_finite.Gen.facts) := by
  pair_intro
  rotate_right
  · exact fun c => Cert.ContextLatentReferenceIdeal.Value.res_main_v28 m' c
  · refine (θ_run _ _ _).mono (fun r h c => ?_) (Cert.ContextLatentIdeal.Value.run_blocks m g)
    refine ⟨(h c).1.trans ?_, (h c).2⟩
    refine (ClatKer.arr m c).trans ?_
    obtain ⟨a0, a1, a2⟩ := hagree c
    obtain ⟨hQ, hK⟩ := @reals Cert.Pre_context_finite.Gen.facts _ _ _ (hpre c)
    have e := ClatRef.res_eq m' c
    rw [a0, a1, a2] at e
    refine funext fun i => (attn_eq _ _ _ hQ hK (i 0) (i 1)).trans ?_
    refine Eq.trans ?_ (congrFun e i).symm
    congr 1
    funext a; fin_cases a <;> rfl
  · exact Cert.ContextLatentReferenceIdeal.Value.run m' g'

end Cert.ClatEq

end
-- ==== Proof.lean ====
/-
  The attention over all latent and context keys, and both layers' experts, the projections of latents and context, the output projections and the modulation: their frames, and their values against the references.
-/
module

public import proofs.«01_k».proof.Defs
public import proofs.«01_k».proof.Proof.Gen.Kernel.Frame
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.Pre_finite
public import proofs.«01_k».proof.Proof.AttnEq
public import proofs.«01_k».proof.Proof.ExpBits
public import proofs.«01_k».proof.Proof.ExpPre
public import proofs.«01_k».proof.Proof.ExpEq
public import proofs.«01_k».proof.Proof.Gen.Experts.Launch
public import proofs.«01_k».proof.Proof.Gen.Experts.Skeleton
public import proofs.«01_k».proof.Proof.Gen.ExpertsIdeal.Launch
public import proofs.«01_k».proof.Proof.Gen.ExpertsIdeal.Skeleton
public import proofs.«01_k».proof.Proof.Gen.ExpertsReferenceIdeal.Run
public import proofs.«01_k».proof.Proof.Gen.Pre_expert_of_block
public import proofs.«01_k».proof.Proof.Gen.EvenExperts.Launch
public import proofs.«01_k».proof.Proof.Gen.EvenExperts.Skeleton
public import proofs.«01_k».proof.Proof.Gen.EvenExpertsIdeal.Launch
public import proofs.«01_k».proof.Proof.Gen.EvenExpertsIdeal.Skeleton
public import proofs.«01_k».proof.Proof.Gen.EvenExpertsReferenceIdeal.Run
public import proofs.«01_k».proof.Proof.Gen.Pre_expert_of_even_block
public import proofs.«01_k».proof.Proof.EvenBits
public import proofs.«01_k».proof.Proof.EvenPre
public import proofs.«01_k».proof.Proof.EvenEq
public import proofs.«01_k».proof.Proof.Gen.Latent.Frame
public import proofs.«01_k».proof.Proof.Gen.LatentIdeal.Frame
public import proofs.«01_k».proof.Proof.Gen.LatentIdeal.Value
public import proofs.«01_k».proof.Proof.Gen.LatentReferenceIdeal.Run
public import proofs.«01_k».proof.Proof.Gen.Pre_latent_finite
public import proofs.«01_k».proof.Proof.LatEq
public import proofs.«01_k».proof.Proof.Gen.ProjectC.Frame
public import proofs.«01_k».proof.Proof.Gen.ProjectCIdeal.Frame
public import proofs.«01_k».proof.Proof.Gen.ProjectCIdeal.Value
public import proofs.«01_k».proof.Proof.Gen.ProjectCReferenceIdeal.Run
public import proofs.«01_k».proof.Proof.ProjEq
public import proofs.«01_k».proof.Proof.Gen.ProjectAB.Frame
public import proofs.«01_k».proof.Proof.Gen.ProjectABIdeal.Frame
public import proofs.«01_k».proof.Proof.Gen.ProjectABIdeal.Value
public import proofs.«01_k».proof.Proof.Gen.ProjectABReferenceIdeal.Run
public import proofs.«01_k».proof.Proof.AbEq
public import proofs.«01_k».proof.Proof.Gen.OutC.Launch
public import proofs.«01_k».proof.Proof.Gen.OutC.Skeleton
public import proofs.«01_k».proof.Proof.Gen.OutCIdeal.Launch
public import proofs.«01_k».proof.Proof.Gen.OutCIdeal.Skeleton
public import proofs.«01_k».proof.Proof.Gen.OutCReferenceIdeal.Run
public import proofs.«01_k».proof.Proof.Gen.OutAB.Launch
public import proofs.«01_k».proof.Proof.Gen.OutAB.Skeleton
public import proofs.«01_k».proof.Proof.Gen.OutABIdeal.Launch
public import proofs.«01_k».proof.Proof.Gen.OutABIdeal.Skeleton
public import proofs.«01_k».proof.Proof.Gen.OutABReferenceIdeal.Run
public import proofs.«01_k».proof.Proof.OutcBits
public import proofs.«01_k».proof.Proof.OutcEq
public import proofs.«01_k».proof.Proof.OutaBits
public import proofs.«01_k».proof.Proof.OutaEq
public import proofs.«01_k».proof.Proof.Gen.ContextC.Frame
public import proofs.«01_k».proof.Proof.Gen.ContextCIdeal.Frame
public import proofs.«01_k».proof.Proof.Gen.ContextCIdeal.Value
public import proofs.«01_k».proof.Proof.Gen.ContextCReferenceIdeal.Run
public import proofs.«01_k».proof.Proof.CtxEq
public import proofs.«01_k».proof.Proof.Gen.ContextAB.Frame
public import proofs.«01_k».proof.Proof.Gen.ContextABIdeal.Frame
public import proofs.«01_k».proof.Proof.Gen.ContextABIdeal.Value
public import proofs.«01_k».proof.Proof.Gen.ContextABReferenceIdeal.Run
public import proofs.«01_k».proof.Proof.CtabEq
public import proofs.«01_k».proof.Proof.Gen.Modulation.Frame
public import proofs.«01_k».proof.Proof.Gen.ModulationIdeal.Frame
public import proofs.«01_k».proof.Proof.Gen.ModulationIdeal.Value
public import proofs.«01_k».proof.Proof.Gen.ModulationReferenceIdeal.Run
public import proofs.«01_k».proof.Proof.ModEq
public import proofs.«01_k».proof.Proof.Gen.ContextLatent.Frame
public import proofs.«01_k».proof.Proof.Gen.ContextLatentIdeal.Frame
public import proofs.«01_k».proof.Proof.Gen.ContextLatentIdeal.Value
public import proofs.«01_k».proof.Proof.Gen.ContextLatentReferenceIdeal.Run
public import proofs.«01_k».proof.Proof.Gen.Pre_context_finite
public import proofs.«01_k».proof.Proof.ClatEq
public import Idealize.ShloMosaic.Lib.Claim

@[expose] public section

noncomputable section

namespace Cert.Proof

open Idealize.ShloMosaic Idealize.SL.Sem

/-- The reference runs and keeps its arguments; it declares no semaphore. -/
theorem frame_reference : Cert.quiescent_ReferenceIdeal (hReferenceIdeal := Cert.ReferenceIdeal.Gen.facts) := fun m ρ _ =>
  (θ_run Cert.ReferenceIdeal.defs _ _).mono (fun _ h => ⟨fun c => (h c).2, sem_eq_zero_of_no_sems rfl _⟩)
    (Cert.ReferenceIdeal.Value.run m ρ)

theorem attention : Cert.algebraic_KernelIdeal_ReferenceIdeal_pre_finite (hKernelIdeal := Cert.KernelIdeal.Gen.facts)
    (hReferenceIdeal := Cert.ReferenceIdeal.Gen.facts) (hPre_finite := Cert.Pre_finite.Gen.facts) := by
  pair_intro
  rotate_right
  · exact fun c => Cert.ReferenceIdeal.Value.res_main_v35 m' c
  · refine (θ_run _ _ _).mono (fun r h c => ?_) (Cert.KernelIdeal.Value.run_blocks m g)
    refine ⟨(h c).1.trans ?_, (h c).2⟩
    refine (AttnKer.arr m c).trans ?_
    obtain ⟨a0, a1, a2, a3, a4⟩ := hagree c
    obtain ⟨hQ, hK, hKc⟩ := @AttnEq.reals Cert.Pre_finite.Gen.facts _ _ _ _ _ (hpre c)
    have e := AttnRef.res_eq m' c
    rw [a0, a1, a2, a3, a4] at e
    refine funext fun i => (AttnEq.attn_eq _ _ _ _ _ hQ hK hKc (i 0) (i 1)).trans ?_
    refine Eq.trans ?_ (congrFun e i).symm
    congr 1
    funext a; fin_cases a <;> rfl
  · exact Cert.ReferenceIdeal.Value.run m' g'

section Experts

local instance : Cert.Pre_expert_of_block.Facts := Cert.Pre_expert_of_block.Gen.facts

theorem in_range (m : (ℓ : Loc Cert.ExpertsIdeal.nD Cert.ExpertsIdeal.τ Cert.ExpertsIdeal.sig) → Buf (Elt Ideal) ℓ) (h : Cert.Pre_ExpertsIdeal m) (b : Fin 288) :
    Cert.ExpertsIdeal.Hand.eOf m b < 32 := ExpPre.range _ _ _ _ _ _ _ (h 0) b

theorem frame_experts : Cert.quiescent_Experts (hExperts := Cert.Experts.Gen.facts) := fun m ρ h => ExpBits.frame m ρ h

theorem frame_experts_ideal : Cert.quiescent_ExpertsIdeal (hExpertsIdeal := Cert.ExpertsIdeal.Gen.facts) := fun m ρ h =>
  Cert.ExpertsIdeal.Hand.frame m ρ (Cert.ExpertsIdeal.Hand.ok_of m (in_range m h))

theorem frame_experts_reference : Cert.quiescent_ExpertsReferenceIdeal (hExpertsReferenceIdeal := Cert.ExpertsReferenceIdeal.Gen.facts) := fun m ρ _ =>
  (θ_run Cert.ExpertsReferenceIdeal.defs _ _).mono (fun _ h => ⟨fun c => (h c).2, sem_eq_zero_of_no_sems rfl _⟩)
    (Cert.ExpertsReferenceIdeal.Value.run m ρ)

theorem experts : Cert.algebraic_ExpertsIdeal_ExpertsReferenceIdeal (hExpertsIdeal := Cert.ExpertsIdeal.Gen.facts)
    (hExpertsReferenceIdeal := Cert.ExpertsReferenceIdeal.Gen.facts) := by
  pair_intro
  rotate_right
  · exact fun c => Cert.ExpertsReferenceIdeal.Value.res_main_v63 m' c
  · have hr := in_range m hpre
    have hO := Cert.ExpertsIdeal.Hand.ok_of m hr
    refine (θ_run _ _ _).mono (fun r h c => ?_) (Cert.ExpertsIdeal.Hand.run_value m g hO)
    refine ⟨(h.1 c).1.trans ?_, (h.1 c).2⟩
    refine (ExpKer.arr m c hO (fun b => ⟨Cert.ExpertsIdeal.Hand.eOf m b, hr b⟩) (fun _ => rfl)).trans ?_
    obtain ⟨a0, a1, a2, a3, a4, a5, a6⟩ := hagree c
    have e := ExpRef.res_eq m' c
    rw [a0, a1, a2, a3, a4, a5, a6] at e
    obtain rfl : c = 0 := Subsingleton.elim _ _
    refine funext fun i => ?_
    refine Eq.trans ?_ (congrFun e i).symm
    refine (ExpEq.ref_eq _ _ _ _ _ _ _ (fun b => ⟨Cert.ExpertsIdeal.Hand.eOf m b, hr b⟩) (fun _ => rfl) (i 0) (i 1)).symm.trans ?_
    congr 1
    funext a; fin_cases a <;> rfl
  · exact Cert.ExpertsReferenceIdeal.Value.run m' g'

end Experts

section EvenExperts

local instance : Cert.Pre_expert_of_even_block.Facts := Cert.Pre_expert_of_even_block.Gen.facts

theorem even_in_range (m : (ℓ : Loc Cert.EvenExpertsIdeal.nD Cert.EvenExpertsIdeal.τ Cert.EvenExpertsIdeal.sig) → Buf (Elt Ideal) ℓ) (h : Cert.Pre_EvenExpertsIdeal m) (b : Fin 320) :
    Cert.EvenExpertsIdeal.Hand.eOf m b < 32 := EvenPre.range _ _ _ _ _ _ _ (h 0) b

theorem even_frame_experts : Cert.quiescent_EvenExperts (hEvenExperts := Cert.EvenExperts.Gen.facts) := fun m ρ h => EvenBits.frame m ρ h

theorem even_frame_experts_ideal : Cert.quiescent_EvenExpertsIdeal (hEvenExpertsIdeal := Cert.EvenExpertsIdeal.Gen.facts) := fun m ρ h =>
  Cert.EvenExpertsIdeal.Hand.frame m ρ (Cert.EvenExpertsIdeal.Hand.ok_of m (even_in_range m h))

theorem even_frame_experts_reference : Cert.quiescent_EvenExpertsReferenceIdeal (hEvenExpertsReferenceIdeal := Cert.EvenExpertsReferenceIdeal.Gen.facts) := fun m ρ _ =>
  (θ_run Cert.EvenExpertsReferenceIdeal.defs _ _).mono (fun _ h => ⟨fun c => (h c).2, sem_eq_zero_of_no_sems rfl _⟩)
    (Cert.EvenExpertsReferenceIdeal.Value.run m ρ)

theorem even_experts : Cert.algebraic_EvenExpertsIdeal_EvenExpertsReferenceIdeal (hEvenExpertsIdeal := Cert.EvenExpertsIdeal.Gen.facts)
    (hEvenExpertsReferenceIdeal := Cert.EvenExpertsReferenceIdeal.Gen.facts) := by
  pair_intro
  rotate_right
  · exact fun c => Cert.EvenExpertsReferenceIdeal.Value.res_main_v63 m' c
  · have hr := even_in_range m hpre
    have hO := Cert.EvenExpertsIdeal.Hand.ok_of m hr
    refine (θ_run _ _ _).mono (fun r h c => ?_) (Cert.EvenExpertsIdeal.Hand.run_value m g hO)
    refine ⟨(h.1 c).1.trans ?_, (h.1 c).2⟩
    refine (EvenKer.arr m c hO (fun b => ⟨Cert.EvenExpertsIdeal.Hand.eOf m b, hr b⟩) (fun _ => rfl)).trans ?_
    obtain ⟨a0, a1, a2, a3, a4, a5, a6⟩ := hagree c
    have e := EvenRef.res_eq m' c
    rw [a0, a1, a2, a3, a4, a5, a6] at e
    obtain rfl : c = 0 := Subsingleton.elim _ _
    refine funext fun i => ?_
    refine Eq.trans ?_ (congrFun e i).symm
    refine (EvenEq.ref_eq _ _ _ _ _ _ _ (fun b => ⟨Cert.EvenExpertsIdeal.Hand.eOf m b, hr b⟩) (fun _ => rfl) (i 0) (i 1)).symm.trans ?_
    congr 1
    funext a; fin_cases a <;> rfl
  · exact Cert.EvenExpertsReferenceIdeal.Value.run m' g'

end EvenExperts

section Latent

theorem frame_latent_reference : Cert.quiescent_LatentReferenceIdeal (hLatentReferenceIdeal := Cert.LatentReferenceIdeal.Gen.facts) := fun m ρ _ =>
  (θ_run Cert.LatentReferenceIdeal.defs _ _).mono (fun _ h => ⟨fun c => (h c).2, sem_eq_zero_of_no_sems rfl _⟩)
    (Cert.LatentReferenceIdeal.Value.run m ρ)

theorem latent : Cert.algebraic_LatentIdeal_LatentReferenceIdeal_pre_latent_finite (hLatentIdeal := Cert.LatentIdeal.Gen.facts)
    (hLatentReferenceIdeal := Cert.LatentReferenceIdeal.Gen.facts) (hPre_latent_finite := Cert.Pre_latent_finite.Gen.facts) := by
  pair_intro
  rotate_right
  · exact fun c => Cert.LatentReferenceIdeal.Value.res_main_v36 m' c
  · refine (θ_run _ _ _).mono (fun r h c => ?_) (Cert.LatentIdeal.Value.run_blocks m g)
    refine ⟨(h c).1.trans ?_, (h c).2⟩
    refine (LatKer.arr m c).trans ?_
    obtain ⟨a0, a1, a2, a3, a4⟩ := hagree c
    obtain ⟨hQ, hK, hKc⟩ := @LatEq.reals Cert.Pre_latent_finite.Gen.facts _ _ _ _ _ (hpre c)
    have e := LatRef.res_eq m' c
    rw [a0, a1, a2, a3, a4] at e
    refine funext fun i => (LatEq.attn_eq _ _ _ _ _ hQ hK hKc (i 0) (i 1)).trans ?_
    refine Eq.trans ?_ (congrFun e i).symm
    congr 1
    funext a; fin_cases a <;> rfl
  · exact Cert.LatentReferenceIdeal.Value.run m' g'

end Latent

section Projections

theorem frame_project_reference : Cert.quiescent_ProjectCReferenceIdeal (hProjectCReferenceIdeal := Cert.ProjectCReferenceIdeal.Gen.facts) := fun m ρ _ =>
  (θ_run Cert.ProjectCReferenceIdeal.defs _ _).mono (fun _ h => ⟨fun c => (h c).2.2.2, sem_eq_zero_of_no_sems rfl _⟩)
    (Cert.ProjectCReferenceIdeal.Value.run m ρ)

theorem project : Cert.algebraic_ProjectCIdeal_ProjectCReferenceIdeal (hProjectCIdeal := Cert.ProjectCIdeal.Gen.facts)
    (hProjectCReferenceIdeal := Cert.ProjectCReferenceIdeal.Gen.facts) := by
  intro m g m' g' _ hagree
  refine ⟨fun c => Cert.ProjectCReferenceIdeal.Value.res_main_v129 m' c, fun c => Cert.ProjectCReferenceIdeal.Value.res_main_v130 m' c,
    fun c => ProjRef.refVo (ProjRef.prod m' c), ?_, ?_⟩
  · refine (θ_run _ _ _).mono (fun r h c => ?_) (Cert.ProjectCIdeal.Value.run_blocks m g)
    obtain ⟨h9, h10, h11, hk⟩ := h c
    obtain ⟨a0, a1, a2, a3, a4, a5, a6⟩ := hagree c
    have ix (n : ℕ) (k : ℕ) (i : (⟨2, ![n, k]⟩ : Shape).Idx) : ix2 (i 0 : Fin n) (i 1 : Fin k) = i := by
      funext a; fin_cases a <;> rfl
    have p := ProjEq.prow_eq m m' c a0 a1 a2 a3 a4
    have q (R : Fin 32768) (L : Fin 1024) : ProjKer.qarr m c R L = Proj.qrow (ProjRef.prow m' c R)
        (fun l => (m' ((c.tc : Thread _ _).loc Cert.ProjectCReferenceIdeal.main_arg5) : Vec Ideal ⟨2, ![1, 128]⟩ .f32) (ix2 0 l)) ⟨R.val % 2048, by omega⟩ L := by
      unfold ProjKer.qarr
      rw [p, a5]
    have k (R : Fin 32768) (L : Fin 256) : ProjKer.karr m c R L = Proj.krow (ProjRef.prow m' c R)
        (fun l => (m' ((c.tc : Thread _ _).loc Cert.ProjectCReferenceIdeal.main_arg6) : Vec Ideal ⟨2, ![1, 128]⟩ .f32) (ix2 0 l)) ⟨R.val % 2048, by omega⟩ L := by
      unfold ProjKer.karr
      rw [p, a6]
    have v (R : Fin 32768) (L : Fin 256) : ProjKer.varr m c R L = ProjRef.prow m' c R ⟨1280 + L.val, by omega⟩ := by
      unfold ProjKer.varr
      rw [p]
    refine ⟨h9.trans ((ProjKer.arrq m c).trans (funext fun i => ?_)), h10.trans ((ProjKer.arrk m c).trans (funext fun i => ?_)),
      h11.trans ((ProjKer.arrv m c).trans (funext fun i => ?_)), hk⟩
    · exact (q (i 0) (i 1)).trans ((ProjRef.resq_at m' c (i 0) (i 1)).symm.trans (congrArg _ (ix 32768 1024 i)))
    · exact (k (i 0) (i 1)).trans ((ProjRef.resk_at m' c (i 0) (i 1)).symm.trans (congrArg _ (ix 32768 256 i)))
    · exact (v (i 0) (i 1)).trans ((ProjRef.resv_at m' c (i 0) (i 1)).symm.trans (congrArg _ (ix 32768 256 i)))
  · refine (θ_run _ _ _).mono (fun r h c => ?_) (Cert.ProjectCReferenceIdeal.Value.run m' g')
    obtain ⟨h1, h2, h3, hk⟩ := h c
    exact ⟨h1, h2, h3.trans (by unfold ProjRef.refVo ProjRef.prod ProjRef.refP ProjRef.refH ProjRef.refX; rfl), hk⟩

end Projections

theorem claim : Cert.Claim :=
  ⟨Cert.Kernel.Gen.facts, Cert.KernelIdeal.Gen.facts, Cert.ReferenceIdeal.Gen.facts, Cert.Experts.Gen.facts, Cert.ExpertsIdeal.Gen.facts,
    Cert.ExpertsReferenceIdeal.Gen.facts, Cert.EvenExperts.Gen.facts, Cert.EvenExpertsIdeal.Gen.facts, Cert.EvenExpertsReferenceIdeal.Gen.facts,
    Cert.Latent.Gen.facts, Cert.LatentIdeal.Gen.facts, Cert.LatentReferenceIdeal.Gen.facts,
    Cert.ProjectC.Gen.facts, Cert.ProjectCIdeal.Gen.facts, Cert.ProjectCReferenceIdeal.Gen.facts,
    Cert.ProjectAB.Gen.facts, Cert.ProjectABIdeal.Gen.facts, Cert.ProjectABReferenceIdeal.Gen.facts,
    Cert.OutC.Gen.facts, Cert.OutCIdeal.Gen.facts, Cert.OutCReferenceIdeal.Gen.facts,
    Cert.OutAB.Gen.facts, Cert.OutABIdeal.Gen.facts, Cert.OutABReferenceIdeal.Gen.facts,
    Cert.ContextC.Gen.facts, Cert.ContextCIdeal.Gen.facts, Cert.ContextCReferenceIdeal.Gen.facts,
    Cert.ContextAB.Gen.facts, Cert.ContextABIdeal.Gen.facts, Cert.ContextABReferenceIdeal.Gen.facts,
    Cert.Modulation.Gen.facts, Cert.ModulationIdeal.Gen.facts, Cert.ModulationReferenceIdeal.Gen.facts,
    Cert.ContextLatent.Gen.facts, Cert.ContextLatentIdeal.Gen.facts, Cert.ContextLatentReferenceIdeal.Gen.facts,
    Cert.Pre_finite.Gen.facts, Cert.Pre_expert_of_block.Gen.facts, Cert.Pre_expert_of_even_block.Gen.facts, Cert.Pre_latent_finite.Gen.facts, Cert.Pre_context_finite.Gen.facts,
    fun m ρ _ => Cert.Kernel.Gen.frame m ρ, fun m ρ _ => Cert.KernelIdeal.Gen.frame m ρ, fun m ρ _ => Cert.KernelIdeal.Gen.frame m ρ,
    frame_reference, fun m ρ _ => frame_reference m ρ trivial, frame_experts, frame_experts_ideal, frame_experts_reference,
    fun m ρ _ => frame_experts_reference m ρ trivial, even_frame_experts, even_frame_experts_ideal, even_frame_experts_reference,
    fun m ρ _ => even_frame_experts_reference m ρ trivial,
    fun m ρ _ => Cert.Latent.Gen.frame m ρ, fun m ρ _ => Cert.LatentIdeal.Gen.frame m ρ, fun m ρ _ => Cert.LatentIdeal.Gen.frame m ρ,
    frame_latent_reference, fun m ρ _ => frame_latent_reference m ρ trivial,
    fun m ρ _ => Cert.ProjectC.Gen.frame m ρ, fun m ρ _ => Cert.ProjectCIdeal.Gen.frame m ρ, frame_project_reference,
    fun m ρ _ => Cert.ProjectAB.Gen.frame m ρ, fun m ρ _ => Cert.ProjectABIdeal.Gen.frame m ρ, AbEq.frame_reference,
    OutcBits.frame, fun m ρ _ => Cert.OutCIdeal.Hand.frame m ρ, OutcEq.frame_reference,
    OutaBits.frame, fun m ρ _ => Cert.OutABIdeal.Hand.frame m ρ, OutaEq.frame_reference,
    fun m ρ _ => Cert.ContextC.Gen.frame m ρ, fun m ρ _ => Cert.ContextCIdeal.Gen.frame m ρ, CtxEq.frame_reference,
    fun m ρ _ => Cert.ContextAB.Gen.frame m ρ, fun m ρ _ => Cert.ContextABIdeal.Gen.frame m ρ, CtabEq.frame_reference,
    fun m ρ _ => Cert.Modulation.Gen.frame m ρ, fun m ρ _ => Cert.ModulationIdeal.Gen.frame m ρ, ModEq.frame_reference,
    fun m ρ _ => Cert.ContextLatent.Gen.frame m ρ, fun m ρ _ => Cert.ContextLatentIdeal.Gen.frame m ρ, fun m ρ _ => Cert.ContextLatentIdeal.Gen.frame m ρ,
    ClatEq.frame_reference, fun m ρ _ => ClatEq.frame_reference m ρ trivial,
    trivial, attention, trivial, experts, trivial, even_experts, trivial, latent, trivial, project, trivial, AbEq.project, trivial, OutcEq.project, trivial, OutaEq.project,
    trivial, CtxEq.project, trivial, CtabEq.project, trivial, ModEq.modulation, trivial, ClatEq.attention⟩

end Cert.Proof

end
